-- ==== Defs.lean ====
def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_gate_args_finite [hPre_gate_args_finite : Cert.Pre_gate_args_finite.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_gate_args_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_args_finite [hPre_gate_args_finite : Cert.Pre_gate_args_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_args_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))) = (fun _ => 1#1)

def Pre_SplitKernel (m : (ℓ : Loc Cert.SplitKernel.nD Cert.SplitKernel.τ Cert.SplitKernel.sig) → Buf (Elt Bits) ℓ) : Prop :=
  True

def Pre_SplitKernelIdeal (m : (ℓ : Loc Cert.SplitKernelIdeal.nD Cert.SplitKernelIdeal.τ Cert.SplitKernelIdeal.sig) → Buf (Elt Ideal) ℓ) : Prop :=
  True

def Pre_SplitKernelIdeal_gate_args_finite [hPre_gate_args_finite : Cert.Pre_gate_args_finite.Facts] (m : (ℓ : Loc Cert.SplitKernelIdeal.nD Cert.SplitKernelIdeal.τ Cert.SplitKernelIdeal.sig) → Buf (Elt Ideal) ℓ) : Prop :=
  ∀ c : Dev Cert.SplitKernelIdeal.nD,
    (Cert.Pre_gate_args_finite.fn (F := Ideal) (m ((c.tc : Thread Cert.SplitKernelIdeal.nD Cert.SplitKernelIdeal.τ).loc Cert.SplitKernelIdeal.main_arg0)) (m ((c.tc : Thread Cert.SplitKernelIdeal.nD Cert.SplitKernelIdeal.τ).loc Cert.SplitKernelIdeal.main_arg1)) (m ((c.tc : Thread Cert.SplitKernelIdeal.nD Cert.SplitKernelIdeal.τ).loc Cert.SplitKernelIdeal.main_arg2)) (m ((c.tc : Thread Cert.SplitKernelIdeal.nD Cert.SplitKernelIdeal.τ).loc Cert.SplitKernelIdeal.main_arg3)) (m ((c.tc : Thread Cert.SplitKernelIdeal.nD Cert.SplitKernelIdeal.τ).loc Cert.SplitKernelIdeal.main_arg4))) = (fun _ => 1#1)

def Pre_DhKernel (m : (ℓ : Loc Cert.DhKernel.nD Cert.DhKernel.τ Cert.DhKernel.sig) → Buf (Elt Bits) ℓ) : Prop :=
  True

def Pre_DhKernelIdeal (m : (ℓ : Loc Cert.DhKernelIdeal.nD Cert.DhKernelIdeal.τ Cert.DhKernelIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_DwinKernel (m : (ℓ : Loc Cert.DwinKernel.nD Cert.DwinKernel.τ Cert.DwinKernel.sig) → Buf (Elt Bits) ℓ) : Prop :=
  True

def Pre_DwinKernelIdeal (m : (ℓ : Loc Cert.DwinKernelIdeal.nD Cert.DwinKernelIdeal.τ Cert.DwinKernelIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_SmallKernel (m : (ℓ : Loc Cert.SmallKernel.nD Cert.SmallKernel.τ Cert.SmallKernel.sig) → Buf (Elt Bits) ℓ) : Prop :=
  True

def Pre_SmallKernelIdeal (m : (ℓ : Loc Cert.SmallKernelIdeal.nD Cert.SmallKernelIdeal.τ Cert.SmallKernelIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_OwnerKernel [hPre_owner_in_range : Cert.Pre_owner_in_range.Facts] (m : (ℓ : Loc Cert.OwnerKernel.nD Cert.OwnerKernel.τ Cert.OwnerKernel.sig) → Buf (Elt Bits) ℓ) : Prop :=
  ∀ c : Dev Cert.OwnerKernel.nD,
    (Cert.Pre_owner_in_range.fn (F := Bits) (m ((c.tc : Thread Cert.OwnerKernel.nD Cert.OwnerKernel.τ).loc Cert.OwnerKernel.main_arg0)) (m ((c.tc : Thread Cert.OwnerKernel.nD Cert.OwnerKernel.τ).loc Cert.OwnerKernel.main_arg1)) (m ((c.tc : Thread Cert.OwnerKernel.nD Cert.OwnerKernel.τ).loc Cert.OwnerKernel.main_arg2)) (m ((c.tc : Thread Cert.OwnerKernel.nD Cert.OwnerKernel.τ).loc Cert.OwnerKernel.main_arg3)) (m ((c.tc : Thread Cert.OwnerKernel.nD Cert.OwnerKernel.τ).loc Cert.OwnerKernel.main_arg4)) (m ((c.tc : Thread Cert.OwnerKernel.nD Cert.OwnerKernel.τ).loc Cert.OwnerKernel.main_arg5)) (m ((c.tc : Thread Cert.OwnerKernel.nD Cert.OwnerKernel.τ).loc Cert.OwnerKernel.main_arg6))) = (fun _ => 1#1)

def Pre_OwnerKernelIdeal [hPre_owner_in_range : Cert.Pre_owner_in_range.Facts] (m : (ℓ : Loc Cert.OwnerKernelIdeal.nD Cert.OwnerKernelIdeal.τ Cert.OwnerKernelIdeal.sig) → Buf (Elt Ideal) ℓ) : Prop :=
  ∀ c : Dev Cert.OwnerKernelIdeal.nD,
    (Cert.Pre_owner_in_range.fn (F := Ideal) (m ((c.tc : Thread Cert.OwnerKernelIdeal.nD Cert.OwnerKernelIdeal.τ).loc Cert.OwnerKernelIdeal.main_arg0)) (m ((c.tc : Thread Cert.OwnerKernelIdeal.nD Cert.OwnerKernelIdeal.τ).loc Cert.OwnerKernelIdeal.main_arg1)) (m ((c.tc : Thread Cert.OwnerKernelIdeal.nD Cert.OwnerKernelIdeal.τ).loc Cert.OwnerKernelIdeal.main_arg2)) (m ((c.tc : Thread Cert.OwnerKernelIdeal.nD Cert.OwnerKernelIdeal.τ).loc Cert.OwnerKernelIdeal.main_arg3)) (m ((c.tc : Thread Cert.OwnerKernelIdeal.nD Cert.OwnerKernelIdeal.τ).loc Cert.OwnerKernelIdeal.main_arg4)) (m ((c.tc : Thread Cert.OwnerKernelIdeal.nD Cert.OwnerKernelIdeal.τ).loc Cert.OwnerKernelIdeal.main_arg5)) (m ((c.tc : Thread Cert.OwnerKernelIdeal.nD Cert.OwnerKernelIdeal.τ).loc Cert.OwnerKernelIdeal.main_arg6))) = (fun _ => 1#1)

def Pre_OwnerRefIdeal (m : (ℓ : Loc Cert.OwnerRefIdeal.nD Cert.OwnerRefIdeal.τ Cert.OwnerRefIdeal.sig) → Buf (Elt Ideal) ℓ) : Prop :=
  True

def Pre_OwnerRefIdeal_owner_in_range [hPre_owner_in_range : Cert.Pre_owner_in_range.Facts] (m : (ℓ : Loc Cert.OwnerRefIdeal.nD Cert.OwnerRefIdeal.τ Cert.OwnerRefIdeal.sig) → Buf (Elt Ideal) ℓ) : Prop :=
  ∀ c : Dev Cert.OwnerRefIdeal.nD,
    (Cert.Pre_owner_in_range.fn (F := Ideal) (m ((c.tc : Thread Cert.OwnerRefIdeal.nD Cert.OwnerRefIdeal.τ).loc Cert.OwnerRefIdeal.main_arg0)) (m ((c.tc : Thread Cert.OwnerRefIdeal.nD Cert.OwnerRefIdeal.τ).loc Cert.OwnerRefIdeal.main_arg1)) (m ((c.tc : Thread Cert.OwnerRefIdeal.nD Cert.OwnerRefIdeal.τ).loc Cert.OwnerRefIdeal.main_arg2)) (m ((c.tc : Thread Cert.OwnerRefIdeal.nD Cert.OwnerRefIdeal.τ).loc Cert.OwnerRefIdeal.main_arg3)) (m ((c.tc : Thread Cert.OwnerRefIdeal.nD Cert.OwnerRefIdeal.τ).loc Cert.OwnerRefIdeal.main_arg4)) (m ((c.tc : Thread Cert.OwnerRefIdeal.nD Cert.OwnerRefIdeal.τ).loc Cert.OwnerRefIdeal.main_arg5)) (m ((c.tc : Thread Cert.OwnerRefIdeal.nD Cert.OwnerRefIdeal.τ).loc Cert.OwnerRefIdeal.main_arg6))) = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_args_finite [hPre_attn_args_finite : Cert.Pre_attn_args_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_args_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_args_finite [hPre_attn_args_finite : Cert.Pre_attn_args_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_args_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))) = (fun _ => 1#1)

def Pre_BwdKernel (m : (ℓ : Loc Cert.BwdKernel.nD Cert.BwdKernel.τ Cert.BwdKernel.sig) → Buf (Elt Bits) ℓ) : Prop :=
  True

def Pre_BwdKernelIdeal (m : (ℓ : Loc Cert.BwdKernelIdeal.nD Cert.BwdKernelIdeal.τ Cert.BwdKernelIdeal.sig) → Buf (Elt Ideal) ℓ) : Prop :=
  True

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3)
      ∧ r.2.mem ((c.tc : Thread Cert.GateKernel.nD Cert.GateKernel.τ).loc Cert.GateKernel.main_arg4) = m ((c.tc : Thread Cert.GateKernel.nD Cert.GateKernel.τ).loc Cert.GateKernel.main_arg4))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ r.2.sem = fun _ => 0)

def quiescent_GateKernelIdeal_pre_gate_args_finite [hGateKernelIdeal : Cert.GateKernelIdeal.Facts] [hPre_gate_args_finite : Cert.Pre_gate_args_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_gate_args_finite m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_GateRefIdeal_pre_gate_args_finite [hGateRefIdeal : Cert.GateRefIdeal.Facts] [hPre_gate_args_finite : Cert.Pre_gate_args_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_args_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_SplitKernel [hSplitKernel : Cert.SplitKernel.Facts] : Prop :=
  ∀ (m : (ℓ : Loc Cert.SplitKernel.nD Cert.SplitKernel.τ Cert.SplitKernel.sig) → Buf (Elt Bits) ℓ) (g : Dev Cert.SplitKernel.nD → PrngReg), Pre_SplitKernel m →
    θ_run (Cert.SplitKernel.defs (F := Bits)) (onTc (τ := Cert.SplitKernel.τ) (Cert.SplitKernel.main (F := Bits))) ⟨m, fun _ => 0, g⟩ (fun r => (∀ c : Dev Cert.SplitKernel.nD,
      r.2.mem ((c.tc : Thread Cert.SplitKernel.nD Cert.SplitKernel.τ).loc Cert.SplitKernel.main_arg0) = m ((c.tc : Thread Cert.SplitKernel.nD Cert.SplitKernel.τ).loc Cert.SplitKernel.main_arg0)
      ∧ r.2.mem ((c.tc : Thread Cert.SplitKernel.nD Cert.SplitKernel.τ).loc Cert.SplitKernel.main_arg1) = m ((c.tc : Thread Cert.SplitKernel.nD Cert.SplitKernel.τ).loc Cert.SplitKernel.main_arg1)
      ∧ r.2.mem ((c.tc : Thread Cert.SplitKernel.nD Cert.SplitKernel.τ).loc Cert.SplitKernel.main_arg2) = m ((c.tc : Thread Cert.SplitKernel.nD Cert.SplitKernel.τ).loc Cert.SplitKernel.main_arg2)
      ∧ r.2.mem ((c.tc : Thread Cert.SplitKernel.nD Cert.SplitKernel.τ).loc Cert.SplitKernel.main_arg3) = m ((c.tc : Thread Cert.SplitKernel.nD Cert.SplitKernel.τ).loc Cert.SplitKernel.main_arg3)
      ∧ r.2.mem ((c.tc : Thread Cert.SplitKernel.nD Cert.SplitKernel.τ).loc Cert.SplitKernel.main_arg4) = m ((c.tc : Thread Cert.SplitKernel.nD Cert.SplitKernel.τ).loc Cert.SplitKernel.main_arg4))
      ∧ r.2.sem = fun _ => 0)

def quiescent_SplitKernelIdeal [hSplitKernelIdeal : Cert.SplitKernelIdeal.Facts] : Prop :=
  ∀ (m : (ℓ : Loc Cert.SplitKernelIdeal.nD Cert.SplitKernelIdeal.τ Cert.SplitKernelIdeal.sig) → Buf (Elt Ideal) ℓ) (g : Dev Cert.SplitKernelIdeal.nD → PrngReg), Pre_SplitKernelIdeal m →
    θ_run (Cert.SplitKernelIdeal.defs (F := Ideal)) (onTc (τ := Cert.SplitKernelIdeal.τ) (Cert.SplitKernelIdeal.main (F := Ideal))) ⟨m, fun _ => 0, g⟩ (fun r => (∀ c : Dev Cert.SplitKernelIdeal.nD,
      r.2.mem ((c.tc : Thread Cert.SplitKernelIdeal.nD Cert.SplitKernelIdeal.τ).loc Cert.SplitKernelIdeal.main_arg0) = m ((c.tc : Thread Cert.SplitKernelIdeal.nD Cert.SplitKernelIdeal.τ).loc Cert.SplitKernelIdeal.main_arg0)
      ∧ r.2.mem ((c.tc : Thread Cert.SplitKernelIdeal.nD Cert.SplitKernelIdeal.τ).loc Cert.SplitKernelIdeal.main_arg1) = m ((c.tc : Thread Cert.SplitKernelIdeal.nD Cert.SplitKernelIdeal.τ).loc Cert.SplitKernelIdeal.main_arg1)
      ∧ r.2.mem ((c.tc : Thread Cert.SplitKernelIdeal.nD Cert.SplitKernelIdeal.τ).loc Cert.SplitKernelIdeal.main_arg2) = m ((c.tc : Thread Cert.SplitKernelIdeal.nD Cert.SplitKernelIdeal.τ).loc Cert.SplitKernelIdeal.main_arg2)
      ∧ r.2.mem ((c.tc : Thread Cert.SplitKernelIdeal.nD Cert.SplitKernelIdeal.τ).loc Cert.SplitKernelIdeal.main_arg3) = m ((c.tc : Thread Cert.SplitKernelIdeal.nD Cert.SplitKernelIdeal.τ).loc Cert.SplitKernelIdeal.main_arg3)
      ∧ r.2.mem ((c.tc : Thread Cert.SplitKernelIdeal.nD Cert.SplitKernelIdeal.τ).loc Cert.SplitKernelIdeal.main_arg4) = m ((c.tc : Thread Cert.SplitKernelIdeal.nD Cert.SplitKernelIdeal.τ).loc Cert.SplitKernelIdeal.main_arg4))
      ∧ r.2.sem = fun _ => 0)

def quiescent_SplitKernelIdeal_pre_gate_args_finite [hSplitKernelIdeal : Cert.SplitKernelIdeal.Facts] [hPre_gate_args_finite : Cert.Pre_gate_args_finite.Facts] : Prop :=
  ∀ (m : (ℓ : Loc Cert.SplitKernelIdeal.nD Cert.SplitKernelIdeal.τ Cert.SplitKernelIdeal.sig) → Buf (Elt Ideal) ℓ) (g : Dev Cert.SplitKernelIdeal.nD → PrngReg), Pre_SplitKernelIdeal_gate_args_finite m →
    θ_run (Cert.SplitKernelIdeal.defs (F := Ideal)) (onTc (τ := Cert.SplitKernelIdeal.τ) (Cert.SplitKernelIdeal.main (F := Ideal))) ⟨m, fun _ => 0, g⟩ (fun r => (∀ c : Dev Cert.SplitKernelIdeal.nD,
      r.2.mem ((c.tc : Thread Cert.SplitKernelIdeal.nD Cert.SplitKernelIdeal.τ).loc Cert.SplitKernelIdeal.main_arg0) = m ((c.tc : Thread Cert.SplitKernelIdeal.nD Cert.SplitKernelIdeal.τ).loc Cert.SplitKernelIdeal.main_arg0)
      ∧ r.2.mem ((c.tc : Thread Cert.SplitKernelIdeal.nD Cert.SplitKernelIdeal.τ).loc Cert.SplitKernelIdeal.main_arg1) = m ((c.tc : Thread Cert.SplitKernelIdeal.nD Cert.SplitKernelIdeal.τ).loc Cert.SplitKernelIdeal.main_arg1)
      ∧ r.2.mem ((c.tc : Thread Cert.SplitKernelIdeal.nD Cert.SplitKernelIdeal.τ).loc Cert.SplitKernelIdeal.main_arg2) = m ((c.tc : Thread Cert.SplitKernelIdeal.nD Cert.SplitKernelIdeal.τ).loc Cert.SplitKernelIdeal.main_arg2)
      ∧ r.2.mem ((c.tc : Thread Cert.SplitKernelIdeal.nD Cert.SplitKernelIdeal.τ).loc Cert.SplitKernelIdeal.main_arg3) = m ((c.tc : Thread Cert.SplitKernelIdeal.nD Cert.SplitKernelIdeal.τ).loc Cert.SplitKernelIdeal.main_arg3)
      ∧ r.2.mem ((c.tc : Thread Cert.SplitKernelIdeal.nD Cert.SplitKernelIdeal.τ).loc Cert.SplitKernelIdeal.main_arg4) = m ((c.tc : Thread Cert.SplitKernelIdeal.nD Cert.SplitKernelIdeal.τ).loc Cert.SplitKernelIdeal.main_arg4))
      ∧ r.2.sem = fun _ => 0)

def quiescent_DhKernel [hDhKernel : Cert.DhKernel.Facts] : Prop :=
  ∀ (m : (ℓ : Loc Cert.DhKernel.nD Cert.DhKernel.τ Cert.DhKernel.sig) → Buf (Elt Bits) ℓ) (g : Dev Cert.DhKernel.nD → PrngReg), Pre_DhKernel m →
    θ_run (Cert.DhKernel.defs (F := Bits)) (onTc (τ := Cert.DhKernel.τ) (Cert.DhKernel.main (F := Bits))) ⟨m, fun _ => 0, g⟩ (fun r => (∀ c : Dev Cert.DhKernel.nD,
      r.2.mem ((c.tc : Thread Cert.DhKernel.nD Cert.DhKernel.τ).loc Cert.DhKernel.main_arg0) = m ((c.tc : Thread Cert.DhKernel.nD Cert.DhKernel.τ).loc Cert.DhKernel.main_arg0)
      ∧ r.2.mem ((c.tc : Thread Cert.DhKernel.nD Cert.DhKernel.τ).loc Cert.DhKernel.main_arg1) = m ((c.tc : Thread Cert.DhKernel.nD Cert.DhKernel.τ).loc Cert.DhKernel.main_arg1)
      ∧ r.2.mem ((c.tc : Thread Cert.DhKernel.nD Cert.DhKernel.τ).loc Cert.DhKernel.main_arg2) = m ((c.tc : Thread Cert.DhKernel.nD Cert.DhKernel.τ).loc Cert.DhKernel.main_arg2)
      ∧ r.2.mem ((c.tc : Thread Cert.DhKernel.nD Cert.DhKernel.τ).loc Cert.DhKernel.main_arg3) = m ((c.tc : Thread Cert.DhKernel.nD Cert.DhKernel.τ).loc Cert.DhKernel.main_arg3)
      ∧ r.2.mem ((c.tc : Thread Cert.DhKernel.nD Cert.DhKernel.τ).loc Cert.DhKernel.main_arg4) = m ((c.tc : Thread Cert.DhKernel.nD Cert.DhKernel.τ).loc Cert.DhKernel.main_arg4)
      ∧ r.2.mem ((c.tc : Thread Cert.DhKernel.nD Cert.DhKernel.τ).loc Cert.DhKernel.main_arg5) = m ((c.tc : Thread Cert.DhKernel.nD Cert.DhKernel.τ).loc Cert.DhKernel.main_arg5)
      ∧ r.2.mem ((c.tc : Thread Cert.DhKernel.nD Cert.DhKernel.τ).loc Cert.DhKernel.main_arg6) = m ((c.tc : Thread Cert.DhKernel.nD Cert.DhKernel.τ).loc Cert.DhKernel.main_arg6))
      ∧ r.2.sem = fun _ => 0)

def quiescent_DhKernelIdeal [hDhKernelIdeal : Cert.DhKernelIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg), Pre_DhKernelIdeal m →
    θ_run (Cert.DhKernelIdeal.defs (F := Ideal)) (onTc (τ := Cert.DhKernelIdeal.τ) (Cert.DhKernelIdeal.main (F := Ideal))) ⟨m, fun _ => 0, g⟩ (fun r => (∀ c : Dev Cert.DhKernelIdeal.nD,
      r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
      ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
      ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
      ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
      ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4)
      ∧ r.2.mem ((c.tc : Thread Cert.DhKernelIdeal.nD Cert.DhKernelIdeal.τ).loc Cert.DhKernelIdeal.main_arg5) = m ((c.tc : Thread Cert.DhKernelIdeal.nD Cert.DhKernelIdeal.τ).loc Cert.DhKernelIdeal.main_arg5)
      ∧ r.2.mem ((c.tc : Thread Cert.DhKernelIdeal.nD Cert.DhKernelIdeal.τ).loc Cert.DhKernelIdeal.main_arg6) = m ((c.tc : Thread Cert.DhKernelIdeal.nD Cert.DhKernelIdeal.τ).loc Cert.DhKernelIdeal.main_arg6))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5)
      ∧ r.2.mem ((c.tc : Thread Cert.DhRefIdeal.nD Cert.DhRefIdeal.τ).loc Cert.DhRefIdeal.main_arg6) = m ((c.tc : Thread Cert.DhRefIdeal.nD Cert.DhRefIdeal.τ).loc Cert.DhRefIdeal.main_arg6))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_DwinKernel [hDwinKernel : Cert.DwinKernel.Facts] : Prop :=
  ∀ (m : (ℓ : Loc Cert.DwinKernel.nD Cert.DwinKernel.τ Cert.DwinKernel.sig) → Buf (Elt Bits) ℓ) (g : Dev Cert.DwinKernel.nD → PrngReg), Pre_DwinKernel m →
    θ_run (Cert.DwinKernel.defs (F := Bits)) (onTc (τ := Cert.DwinKernel.τ) (Cert.DwinKernel.main (F := Bits))) ⟨m, fun _ => 0, g⟩ (fun r => (∀ c : Dev Cert.DwinKernel.nD,
      r.2.mem ((c.tc : Thread Cert.DwinKernel.nD Cert.DwinKernel.τ).loc Cert.DwinKernel.main_arg0) = m ((c.tc : Thread Cert.DwinKernel.nD Cert.DwinKernel.τ).loc Cert.DwinKernel.main_arg0)
      ∧ r.2.mem ((c.tc : Thread Cert.DwinKernel.nD Cert.DwinKernel.τ).loc Cert.DwinKernel.main_arg1) = m ((c.tc : Thread Cert.DwinKernel.nD Cert.DwinKernel.τ).loc Cert.DwinKernel.main_arg1))
      ∧ r.2.sem = fun _ => 0)

def quiescent_DwinKernelIdeal [hDwinKernelIdeal : Cert.DwinKernelIdeal.Facts] : Prop :=
  ∀ (m : (ℓ : Loc Cert.DwinKernelIdeal.nD Cert.DwinKernelIdeal.τ Cert.DwinKernelIdeal.sig) → Buf (Elt Ideal) ℓ) (g : Dev Cert.DwinKernelIdeal.nD → PrngReg), Pre_DwinKernelIdeal m →
    θ_run (Cert.DwinKernelIdeal.defs (F := Ideal)) (onTc (τ := Cert.DwinKernelIdeal.τ) (Cert.DwinKernelIdeal.main (F := Ideal))) ⟨m, fun _ => 0, g⟩ (fun r => (∀ c : Dev Cert.DwinKernelIdeal.nD,
      r.2.mem ((c.tc : Thread Cert.DwinKernelIdeal.nD Cert.DwinKernelIdeal.τ).loc Cert.DwinKernelIdeal.main_arg0) = m ((c.tc : Thread Cert.DwinKernelIdeal.nD Cert.DwinKernelIdeal.τ).loc Cert.DwinKernelIdeal.main_arg0)
      ∧ r.2.mem ((c.tc : Thread Cert.DwinKernelIdeal.nD Cert.DwinKernelIdeal.τ).loc Cert.DwinKernelIdeal.main_arg1) = m ((c.tc : Thread Cert.DwinKernelIdeal.nD Cert.DwinKernelIdeal.τ).loc Cert.DwinKernelIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_SmallKernel [hSmallKernel : Cert.SmallKernel.Facts] : Prop :=
  ∀ (m : (ℓ : Loc Cert.SmallKernel.nD Cert.SmallKernel.τ Cert.SmallKernel.sig) → Buf (Elt Bits) ℓ) (g : Dev Cert.SmallKernel.nD → PrngReg), Pre_SmallKernel m →
    θ_run (Cert.SmallKernel.defs (F := Bits)) (onTc (τ := Cert.SmallKernel.τ) (Cert.SmallKernel.main (F := Bits))) ⟨m, fun _ => 0, g⟩ (fun r => (∀ c : Dev Cert.SmallKernel.nD,
      r.2.mem ((c.tc : Thread Cert.SmallKernel.nD Cert.SmallKernel.τ).loc Cert.SmallKernel.main_arg0) = m ((c.tc : Thread Cert.SmallKernel.nD Cert.SmallKernel.τ).loc Cert.SmallKernel.main_arg0))
      ∧ r.2.sem = fun _ => 0)

def quiescent_SmallKernelIdeal [hSmallKernelIdeal : Cert.SmallKernelIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg), Pre_SmallKernelIdeal m →
    θ_run (Cert.SmallKernelIdeal.defs (F := Ideal)) (onTc (τ := Cert.SmallKernelIdeal.τ) (Cert.SmallKernelIdeal.main (F := Ideal))) ⟨m, fun _ => 0, g⟩ (fun r => (∀ c : Dev Cert.SmallKernelIdeal.nD,
      r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0))
      ∧ r.2.sem = fun _ => 0)

def quiescent_OwnerKernel [hOwnerKernel : Cert.OwnerKernel.Facts] [hPre_owner_in_range : Cert.Pre_owner_in_range.Facts] : Prop :=
  ∀ (m : (ℓ : Loc Cert.OwnerKernel.nD Cert.OwnerKernel.τ Cert.OwnerKernel.sig) → Buf (Elt Bits) ℓ) (g : Dev Cert.OwnerKernel.nD → PrngReg), Pre_OwnerKernel m →
    θ_run (Cert.OwnerKernel.defs (F := Bits)) (onTc (τ := Cert.OwnerKernel.τ) (Cert.OwnerKernel.main (F := Bits))) ⟨m, fun _ => 0, g⟩ (fun r => (∀ c : Dev Cert.OwnerKernel.nD,
      r.2.mem ((c.tc : Thread Cert.OwnerKernel.nD Cert.OwnerKernel.τ).loc Cert.OwnerKernel.main_arg0) = m ((c.tc : Thread Cert.OwnerKernel.nD Cert.OwnerKernel.τ).loc Cert.OwnerKernel.main_arg0)
      ∧ r.2.mem ((c.tc : Thread Cert.OwnerKernel.nD Cert.OwnerKernel.τ).loc Cert.OwnerKernel.main_arg1) = m ((c.tc : Thread Cert.OwnerKernel.nD Cert.OwnerKernel.τ).loc Cert.OwnerKernel.main_arg1)
      ∧ r.2.mem ((c.tc : Thread Cert.OwnerKernel.nD Cert.OwnerKernel.τ).loc Cert.OwnerKernel.main_arg2) = m ((c.tc : Thread Cert.OwnerKernel.nD Cert.OwnerKernel.τ).loc Cert.OwnerKernel.main_arg2)
      ∧ r.2.mem ((c.tc : Thread Cert.OwnerKernel.nD Cert.OwnerKernel.τ).loc Cert.OwnerKernel.main_arg3) = m ((c.tc : Thread Cert.OwnerKernel.nD Cert.OwnerKernel.τ).loc Cert.OwnerKernel.main_arg3)
      ∧ r.2.mem ((c.tc : Thread Cert.OwnerKernel.nD Cert.OwnerKernel.τ).loc Cert.OwnerKernel.main_arg4) = m ((c.tc : Thread Cert.OwnerKernel.nD Cert.OwnerKernel.τ).loc Cert.OwnerKernel.main_arg4)
      ∧ r.2.mem ((c.tc : Thread Cert.OwnerKernel.nD Cert.OwnerKernel.τ).loc Cert.OwnerKernel.main_arg5) = m ((c.tc : Thread Cert.OwnerKernel.nD Cert.OwnerKernel.τ).loc Cert.OwnerKernel.main_arg5)
      ∧ r.2.mem ((c.tc : Thread Cert.OwnerKernel.nD Cert.OwnerKernel.τ).loc Cert.OwnerKernel.main_arg6) = m ((c.tc : Thread Cert.OwnerKernel.nD Cert.OwnerKernel.τ).loc Cert.OwnerKernel.main_arg6))
      ∧ r.2.sem = fun _ => 0)

def quiescent_OwnerKernelIdeal [hOwnerKernelIdeal : Cert.OwnerKernelIdeal.Facts] [hPre_owner_in_range : Cert.Pre_owner_in_range.Facts] : Prop :=
  ∀ (m : (ℓ : Loc Cert.OwnerKernelIdeal.nD Cert.OwnerKernelIdeal.τ Cert.OwnerKernelIdeal.sig) → Buf (Elt Ideal) ℓ) (g : Dev Cert.OwnerKernelIdeal.nD → PrngReg), Pre_OwnerKernelIdeal m →
    θ_run (Cert.OwnerKernelIdeal.defs (F := Ideal)) (onTc (τ := Cert.OwnerKernelIdeal.τ) (Cert.OwnerKernelIdeal.main (F := Ideal))) ⟨m, fun _ => 0, g⟩ (fun r => (∀ c : Dev Cert.OwnerKernelIdeal.nD,
      r.2.mem ((c.tc : Thread Cert.OwnerKernelIdeal.nD Cert.OwnerKernelIdeal.τ).loc Cert.OwnerKernelIdeal.main_arg0) = m ((c.tc : Thread Cert.OwnerKernelIdeal.nD Cert.OwnerKernelIdeal.τ).loc Cert.OwnerKernelIdeal.main_arg0)
      ∧ r.2.mem ((c.tc : Thread Cert.OwnerKernelIdeal.nD Cert.OwnerKernelIdeal.τ).loc Cert.OwnerKernelIdeal.main_arg1) = m ((c.tc : Thread Cert.OwnerKernelIdeal.nD Cert.OwnerKernelIdeal.τ).loc Cert.OwnerKernelIdeal.main_arg1)
      ∧ r.2.mem ((c.tc : Thread Cert.OwnerKernelIdeal.nD Cert.OwnerKernelIdeal.τ).loc Cert.OwnerKernelIdeal.main_arg2) = m ((c.tc : Thread Cert.OwnerKernelIdeal.nD Cert.OwnerKernelIdeal.τ).loc Cert.OwnerKernelIdeal.main_arg2)
      ∧ r.2.mem ((c.tc : Thread Cert.OwnerKernelIdeal.nD Cert.OwnerKernelIdeal.τ).loc Cert.OwnerKernelIdeal.main_arg3) = m ((c.tc : Thread Cert.OwnerKernelIdeal.nD Cert.OwnerKernelIdeal.τ).loc Cert.OwnerKernelIdeal.main_arg3)
      ∧ r.2.mem ((c.tc : Thread Cert.OwnerKernelIdeal.nD Cert.OwnerKernelIdeal.τ).loc Cert.OwnerKernelIdeal.main_arg4) = m ((c.tc : Thread Cert.OwnerKernelIdeal.nD Cert.OwnerKernelIdeal.τ).loc Cert.OwnerKernelIdeal.main_arg4)
      ∧ r.2.mem ((c.tc : Thread Cert.OwnerKernelIdeal.nD Cert.OwnerKernelIdeal.τ).loc Cert.OwnerKernelIdeal.main_arg5) = m ((c.tc : Thread Cert.OwnerKernelIdeal.nD Cert.OwnerKernelIdeal.τ).loc Cert.OwnerKernelIdeal.main_arg5)
      ∧ r.2.mem ((c.tc : Thread Cert.OwnerKernelIdeal.nD Cert.OwnerKernelIdeal.τ).loc Cert.OwnerKernelIdeal.main_arg6) = m ((c.tc : Thread Cert.OwnerKernelIdeal.nD Cert.OwnerKernelIdeal.τ).loc Cert.OwnerKernelIdeal.main_arg6))
      ∧ r.2.sem = fun _ => 0)

def quiescent_OwnerRefIdeal [hOwnerRefIdeal : Cert.OwnerRefIdeal.Facts] : Prop :=
  ∀ (m : (ℓ : Loc Cert.OwnerRefIdeal.nD Cert.OwnerRefIdeal.τ Cert.OwnerRefIdeal.sig) → Buf (Elt Ideal) ℓ) (g : Dev Cert.OwnerRefIdeal.nD → PrngReg), Pre_OwnerRefIdeal m →
    θ_run (Cert.OwnerRefIdeal.defs (F := Ideal)) (onTc (τ := Cert.OwnerRefIdeal.τ) (Cert.OwnerRefIdeal.main (F := Ideal))) ⟨m, fun _ => 0, g⟩ (fun r => (∀ c : Dev Cert.OwnerRefIdeal.nD,
      r.2.mem ((c.tc : Thread Cert.OwnerRefIdeal.nD Cert.OwnerRefIdeal.τ).loc Cert.OwnerRefIdeal.main_arg0) = m ((c.tc : Thread Cert.OwnerRefIdeal.nD Cert.OwnerRefIdeal.τ).loc Cert.OwnerRefIdeal.main_arg0)
      ∧ r.2.mem ((c.tc : Thread Cert.OwnerRefIdeal.nD Cert.OwnerRefIdeal.τ).loc Cert.OwnerRefIdeal.main_arg1) = m ((c.tc : Thread Cert.OwnerRefIdeal.nD Cert.OwnerRefIdeal.τ).loc Cert.OwnerRefIdeal.main_arg1)
      ∧ r.2.mem ((c.tc : Thread Cert.OwnerRefIdeal.nD Cert.OwnerRefIdeal.τ).loc Cert.OwnerRefIdeal.main_arg2) = m ((c.tc : Thread Cert.OwnerRefIdeal.nD Cert.OwnerRefIdeal.τ).loc Cert.OwnerRefIdeal.main_arg2)
      ∧ r.2.mem ((c.tc : Thread Cert.OwnerRefIdeal.nD Cert.OwnerRefIdeal.τ).loc Cert.OwnerRefIdeal.main_arg3) = m ((c.tc : Thread Cert.OwnerRefIdeal.nD Cert.OwnerRefIdeal.τ).loc Cert.OwnerRefIdeal.main_arg3)
      ∧ r.2.mem ((c.tc : Thread Cert.OwnerRefIdeal.nD Cert.OwnerRefIdeal.τ).loc Cert.OwnerRefIdeal.main_arg4) = m ((c.tc : Thread Cert.OwnerRefIdeal.nD Cert.OwnerRefIdeal.τ).loc Cert.OwnerRefIdeal.main_arg4)
      ∧ r.2.mem ((c.tc : Thread Cert.OwnerRefIdeal.nD Cert.OwnerRefIdeal.τ).loc Cert.OwnerRefIdeal.main_arg5) = m ((c.tc : Thread Cert.OwnerRefIdeal.nD Cert.OwnerRefIdeal.τ).loc Cert.OwnerRefIdeal.main_arg5)
      ∧ r.2.mem ((c.tc : Thread Cert.OwnerRefIdeal.nD Cert.OwnerRefIdeal.τ).loc Cert.OwnerRefIdeal.main_arg6) = m ((c.tc : Thread Cert.OwnerRefIdeal.nD Cert.OwnerRefIdeal.τ).loc Cert.OwnerRefIdeal.main_arg6))
      ∧ r.2.sem = fun _ => 0)

def quiescent_OwnerRefIdeal_pre_owner_in_range [hOwnerRefIdeal : Cert.OwnerRefIdeal.Facts] [hPre_owner_in_range : Cert.Pre_owner_in_range.Facts] : Prop :=
  ∀ (m : (ℓ : Loc Cert.OwnerRefIdeal.nD Cert.OwnerRefIdeal.τ Cert.OwnerRefIdeal.sig) → Buf (Elt Ideal) ℓ) (g : Dev Cert.OwnerRefIdeal.nD → PrngReg), Pre_OwnerRefIdeal_owner_in_range m →
    θ_run (Cert.OwnerRefIdeal.defs (F := Ideal)) (onTc (τ := Cert.OwnerRefIdeal.τ) (Cert.OwnerRefIdeal.main (F := Ideal))) ⟨m, fun _ => 0, g⟩ (fun r => (∀ c : Dev Cert.OwnerRefIdeal.nD,
      r.2.mem ((c.tc : Thread Cert.OwnerRefIdeal.nD Cert.OwnerRefIdeal.τ).loc Cert.OwnerRefIdeal.main_arg0) = m ((c.tc : Thread Cert.OwnerRefIdeal.nD Cert.OwnerRefIdeal.τ).loc Cert.OwnerRefIdeal.main_arg0)
      ∧ r.2.mem ((c.tc : Thread Cert.OwnerRefIdeal.nD Cert.OwnerRefIdeal.τ).loc Cert.OwnerRefIdeal.main_arg1) = m ((c.tc : Thread Cert.OwnerRefIdeal.nD Cert.OwnerRefIdeal.τ).loc Cert.OwnerRefIdeal.main_arg1)
      ∧ r.2.mem ((c.tc : Thread Cert.OwnerRefIdeal.nD Cert.OwnerRefIdeal.τ).loc Cert.OwnerRefIdeal.main_arg2) = m ((c.tc : Thread Cert.OwnerRefIdeal.nD Cert.OwnerRefIdeal.τ).loc Cert.OwnerRefIdeal.main_arg2)
      ∧ r.2.mem ((c.tc : Thread Cert.OwnerRefIdeal.nD Cert.OwnerRefIdeal.τ).loc Cert.OwnerRefIdeal.main_arg3) = m ((c.tc : Thread Cert.OwnerRefIdeal.nD Cert.OwnerRefIdeal.τ).loc Cert.OwnerRefIdeal.main_arg3)
      ∧ r.2.mem ((c.tc : Thread Cert.OwnerRefIdeal.nD Cert.OwnerRefIdeal.τ).loc Cert.OwnerRefIdeal.main_arg4) = m ((c.tc : Thread Cert.OwnerRefIdeal.nD Cert.OwnerRefIdeal.τ).loc Cert.OwnerRefIdeal.main_arg4)
      ∧ r.2.mem ((c.tc : Thread Cert.OwnerRefIdeal.nD Cert.OwnerRefIdeal.τ).loc Cert.OwnerRefIdeal.main_arg5) = m ((c.tc : Thread Cert.OwnerRefIdeal.nD Cert.OwnerRefIdeal.τ).loc Cert.OwnerRefIdeal.main_arg5)
      ∧ r.2.mem ((c.tc : Thread Cert.OwnerRefIdeal.nD Cert.OwnerRefIdeal.τ).loc Cert.OwnerRefIdeal.main_arg6) = m ((c.tc : Thread Cert.OwnerRefIdeal.nD Cert.OwnerRefIdeal.τ).loc Cert.OwnerRefIdeal.main_arg6))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4)
      ∧ r.2.mem ((c.tc : Thread Cert.AttnKernel.nD Cert.AttnKernel.τ).loc Cert.AttnKernel.main_arg5) = m ((c.tc : Thread Cert.AttnKernel.nD Cert.AttnKernel.τ).loc Cert.AttnKernel.main_arg5)
      ∧ r.2.mem ((c.tc : Thread Cert.AttnKernel.nD Cert.AttnKernel.τ).loc Cert.AttnKernel.main_arg6) = m ((c.tc : Thread Cert.AttnKernel.nD Cert.AttnKernel.τ).loc Cert.AttnKernel.main_arg6)
      ∧ r.2.mem ((c.tc : Thread Cert.AttnKernel.nD Cert.AttnKernel.τ).loc Cert.AttnKernel.main_arg7) = m ((c.tc : Thread Cert.AttnKernel.nD Cert.AttnKernel.τ).loc Cert.AttnKernel.main_arg7))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
      ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5)
      ∧ r.2.mem ((c.tc : Thread Cert.AttnKernelIdeal.nD Cert.AttnKernelIdeal.τ).loc Cert.AttnKernelIdeal.main_arg6) = m ((c.tc : Thread Cert.AttnKernelIdeal.nD Cert.AttnKernelIdeal.τ).loc Cert.AttnKernelIdeal.main_arg6)
      ∧ r.2.mem ((c.tc : Thread Cert.AttnKernelIdeal.nD Cert.AttnKernelIdeal.τ).loc Cert.AttnKernelIdeal.main_arg7) = m ((c.tc : Thread Cert.AttnKernelIdeal.nD Cert.AttnKernelIdeal.τ).loc Cert.AttnKernelIdeal.main_arg7))
      ∧ r.2.sem = fun _ => 0)

def quiescent_AttnKernelIdeal_pre_attn_args_finite [hAttnKernelIdeal : Cert.AttnKernelIdeal.Facts] [hPre_attn_args_finite : Cert.Pre_attn_args_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_args_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
      ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5)
      ∧ r.2.mem ((c.tc : Thread Cert.AttnKernelIdeal.nD Cert.AttnKernelIdeal.τ).loc Cert.AttnKernelIdeal.main_arg6) = m ((c.tc : Thread Cert.AttnKernelIdeal.nD Cert.AttnKernelIdeal.τ).loc Cert.AttnKernelIdeal.main_arg6)
      ∧ r.2.mem ((c.tc : Thread Cert.AttnKernelIdeal.nD Cert.AttnKernelIdeal.τ).loc Cert.AttnKernelIdeal.main_arg7) = m ((c.tc : Thread Cert.AttnKernelIdeal.nD Cert.AttnKernelIdeal.τ).loc Cert.AttnKernelIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_attn_args_finite [hAttnRefIdeal : Cert.AttnRefIdeal.Facts] [hPre_attn_args_finite : Cert.Pre_attn_args_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_args_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_BwdKernel [hBwdKernel : Cert.BwdKernel.Facts] : Prop :=
  ∀ (m : (ℓ : Loc Cert.BwdKernel.nD Cert.BwdKernel.τ Cert.BwdKernel.sig) → Buf (Elt Bits) ℓ) (g : Dev Cert.BwdKernel.nD → PrngReg), Pre_BwdKernel m →
    θ_run (Cert.BwdKernel.defs (F := Bits)) (onTc (τ := Cert.BwdKernel.τ) (Cert.BwdKernel.main (F := Bits))) ⟨m, fun _ => 0, g⟩ (fun r => (∀ c : Dev Cert.BwdKernel.nD,
      r.2.mem ((c.tc : Thread Cert.BwdKernel.nD Cert.BwdKernel.τ).loc Cert.BwdKernel.main_arg0) = m ((c.tc : Thread Cert.BwdKernel.nD Cert.BwdKernel.τ).loc Cert.BwdKernel.main_arg0)
      ∧ r.2.mem ((c.tc : Thread Cert.BwdKernel.nD Cert.BwdKernel.τ).loc Cert.BwdKernel.main_arg1) = m ((c.tc : Thread Cert.BwdKernel.nD Cert.BwdKernel.τ).loc Cert.BwdKernel.main_arg1)
      ∧ r.2.mem ((c.tc : Thread Cert.BwdKernel.nD Cert.BwdKernel.τ).loc Cert.BwdKernel.main_arg2) = m ((c.tc : Thread Cert.BwdKernel.nD Cert.BwdKernel.τ).loc Cert.BwdKernel.main_arg2)
      ∧ r.2.mem ((c.tc : Thread Cert.BwdKernel.nD Cert.BwdKernel.τ).loc Cert.BwdKernel.main_arg3) = m ((c.tc : Thread Cert.BwdKernel.nD Cert.BwdKernel.τ).loc Cert.BwdKernel.main_arg3)
      ∧ r.2.mem ((c.tc : Thread Cert.BwdKernel.nD Cert.BwdKernel.τ).loc Cert.BwdKernel.main_arg4) = m ((c.tc : Thread Cert.BwdKernel.nD Cert.BwdKernel.τ).loc Cert.BwdKernel.main_arg4)
      ∧ r.2.mem ((c.tc : Thread Cert.BwdKernel.nD Cert.BwdKernel.τ).loc Cert.BwdKernel.main_arg5) = m ((c.tc : Thread Cert.BwdKernel.nD Cert.BwdKernel.τ).loc Cert.BwdKernel.main_arg5)
      ∧ r.2.mem ((c.tc : Thread Cert.BwdKernel.nD Cert.BwdKernel.τ).loc Cert.BwdKernel.main_arg6) = m ((c.tc : Thread Cert.BwdKernel.nD Cert.BwdKernel.τ).loc Cert.BwdKernel.main_arg6)
      ∧ r.2.mem ((c.tc : Thread Cert.BwdKernel.nD Cert.BwdKernel.τ).loc Cert.BwdKernel.main_arg7) = m ((c.tc : Thread Cert.BwdKernel.nD Cert.BwdKernel.τ).loc Cert.BwdKernel.main_arg7)
      ∧ r.2.mem ((c.tc : Thread Cert.BwdKernel.nD Cert.BwdKernel.τ).loc Cert.BwdKernel.main_arg8) = m ((c.tc : Thread Cert.BwdKernel.nD Cert.BwdKernel.τ).loc Cert.BwdKernel.main_arg8))
      ∧ r.2.sem = fun _ => 0)

def quiescent_BwdKernelIdeal [hBwdKernelIdeal : Cert.BwdKernelIdeal.Facts] : Prop :=
  ∀ (m : (ℓ : Loc Cert.BwdKernelIdeal.nD Cert.BwdKernelIdeal.τ Cert.BwdKernelIdeal.sig) → Buf (Elt Ideal) ℓ) (g : Dev Cert.BwdKernelIdeal.nD → PrngReg), Pre_BwdKernelIdeal m →
    θ_run (Cert.BwdKernelIdeal.defs (F := Ideal)) (onTc (τ := Cert.BwdKernelIdeal.τ) (Cert.BwdKernelIdeal.main (F := Ideal))) ⟨m, fun _ => 0, g⟩ (fun r => (∀ c : Dev Cert.BwdKernelIdeal.nD,
      r.2.mem ((c.tc : Thread Cert.BwdKernelIdeal.nD Cert.BwdKernelIdeal.τ).loc Cert.BwdKernelIdeal.main_arg0) = m ((c.tc : Thread Cert.BwdKernelIdeal.nD Cert.BwdKernelIdeal.τ).loc Cert.BwdKernelIdeal.main_arg0)
      ∧ r.2.mem ((c.tc : Thread Cert.BwdKernelIdeal.nD Cert.BwdKernelIdeal.τ).loc Cert.BwdKernelIdeal.main_arg1) = m ((c.tc : Thread Cert.BwdKernelIdeal.nD Cert.BwdKernelIdeal.τ).loc Cert.BwdKernelIdeal.main_arg1)
      ∧ r.2.mem ((c.tc : Thread Cert.BwdKernelIdeal.nD Cert.BwdKernelIdeal.τ).loc Cert.BwdKernelIdeal.main_arg2) = m ((c.tc : Thread Cert.BwdKernelIdeal.nD Cert.BwdKernelIdeal.τ).loc Cert.BwdKernelIdeal.main_arg2)
      ∧ r.2.mem ((c.tc : Thread Cert.BwdKernelIdeal.nD Cert.BwdKernelIdeal.τ).loc Cert.BwdKernelIdeal.main_arg3) = m ((c.tc : Thread Cert.BwdKernelIdeal.nD Cert.BwdKernelIdeal.τ).loc Cert.BwdKernelIdeal.main_arg3)
      ∧ r.2.mem ((c.tc : Thread Cert.BwdKernelIdeal.nD Cert.BwdKernelIdeal.τ).loc Cert.BwdKernelIdeal.main_arg4) = m ((c.tc : Thread Cert.BwdKernelIdeal.nD Cert.BwdKernelIdeal.τ).loc Cert.BwdKernelIdeal.main_arg4)
      ∧ r.2.mem ((c.tc : Thread Cert.BwdKernelIdeal.nD Cert.BwdKernelIdeal.τ).loc Cert.BwdKernelIdeal.main_arg5) = m ((c.tc : Thread Cert.BwdKernelIdeal.nD Cert.BwdKernelIdeal.τ).loc Cert.BwdKernelIdeal.main_arg5)
      ∧ r.2.mem ((c.tc : Thread Cert.BwdKernelIdeal.nD Cert.BwdKernelIdeal.τ).loc Cert.BwdKernelIdeal.main_arg6) = m ((c.tc : Thread Cert.BwdKernelIdeal.nD Cert.BwdKernelIdeal.τ).loc Cert.BwdKernelIdeal.main_arg6)
      ∧ r.2.mem ((c.tc : Thread Cert.BwdKernelIdeal.nD Cert.BwdKernelIdeal.τ).loc Cert.BwdKernelIdeal.main_arg7) = m ((c.tc : Thread Cert.BwdKernelIdeal.nD Cert.BwdKernelIdeal.τ).loc Cert.BwdKernelIdeal.main_arg7)
      ∧ r.2.mem ((c.tc : Thread Cert.BwdKernelIdeal.nD Cert.BwdKernelIdeal.τ).loc Cert.BwdKernelIdeal.main_arg8) = m ((c.tc : Thread Cert.BwdKernelIdeal.nD Cert.BwdKernelIdeal.τ).loc Cert.BwdKernelIdeal.main_arg8))
      ∧ r.2.sem = fun _ => 0)

def preserves_GateKernel_GateKernelIdeal : Prop :=
  True

def algebraic_GateKernelIdeal_GateRefIdeal_pre_gate_args_finite [hGateKernelIdeal : Cert.GateKernelIdeal.Facts] [hGateRefIdeal : Cert.GateRefIdeal.Facts] [hPre_gate_args_finite : Cert.Pre_gate_args_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateKernelIdeal_gate_args_finite m →
    (∀ c : Dev Cert.GateKernelIdeal.nD,
      m' ((c.tc : Thread Cert.GateRefIdeal.nD Cert.GateRefIdeal.τ).loc Cert.GateRefIdeal.main_arg0) = m ((c.tc : Thread Cert.GateKernelIdeal.nD Cert.GateKernelIdeal.τ).loc Cert.GateKernelIdeal.main_arg0)
      ∧ m' ((c.tc : Thread Cert.GateRefIdeal.nD Cert.GateRefIdeal.τ).loc Cert.GateRefIdeal.main_arg1) = m ((c.tc : Thread Cert.GateKernelIdeal.nD Cert.GateKernelIdeal.τ).loc Cert.GateKernelIdeal.main_arg1)
      ∧ m' ((c.tc : Thread Cert.GateRefIdeal.nD Cert.GateRefIdeal.τ).loc Cert.GateRefIdeal.main_arg2) = m ((c.tc : Thread Cert.GateKernelIdeal.nD Cert.GateKernelIdeal.τ).loc Cert.GateKernelIdeal.main_arg2)
      ∧ m' ((c.tc : Thread Cert.GateRefIdeal.nD Cert.GateRefIdeal.τ).loc Cert.GateRefIdeal.main_arg3) = m ((c.tc : Thread Cert.GateKernelIdeal.nD Cert.GateKernelIdeal.τ).loc Cert.GateKernelIdeal.main_arg3)
      ∧ m' ((c.tc : Thread Cert.GateRefIdeal.nD Cert.GateRefIdeal.τ).loc Cert.GateRefIdeal.main_arg4) = m ((c.tc : Thread Cert.GateKernelIdeal.nD Cert.GateKernelIdeal.τ).loc Cert.GateKernelIdeal.main_arg4)) →
    ∃ (v0 : (c : Dev Cert.GateKernelIdeal.nD) → Buf (Elt Ideal) ((c.tc : Thread Cert.GateKernelIdeal.nD Cert.GateKernelIdeal.τ).loc Cert.GateKernelIdeal.main_v12_0)) (v1 : (c : Dev Cert.GateKernelIdeal.nD) → Buf (Elt Ideal) ((c.tc : Thread Cert.GateKernelIdeal.nD Cert.GateKernelIdeal.τ).loc Cert.GateKernelIdeal.main_v12_1)) (v2 : (c : Dev Cert.GateKernelIdeal.nD) → Buf (Elt Ideal) ((c.tc : Thread Cert.GateKernelIdeal.nD Cert.GateKernelIdeal.τ).loc Cert.GateKernelIdeal.main_v11_2)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v12_0) = v0 c
          ∧ r.2.mem ((c.tc : Thread Cert.GateKernelIdeal.nD Cert.GateKernelIdeal.τ).loc Cert.GateKernelIdeal.main_v12_1) = v1 c
          ∧ r.2.mem ((c.tc : Thread Cert.GateKernelIdeal.nD Cert.GateKernelIdeal.τ).loc Cert.GateKernelIdeal.main_v11_2) = v2 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
          ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v12) = v0 c
          ∧ r.2.mem ((c.tc : Thread Cert.GateRefIdeal.nD Cert.GateRefIdeal.τ).loc Cert.GateRefIdeal.main_v13) = v1 c
          ∧ r.2.mem ((c.tc : Thread Cert.GateRefIdeal.nD Cert.GateRefIdeal.τ).loc Cert.GateRefIdeal.main_v16) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_SplitKernel_SplitKernelIdeal : Prop :=
  True

def algebraic_SplitKernelIdeal_GateRefIdeal_pre_gate_args_finite [hSplitKernelIdeal : Cert.SplitKernelIdeal.Facts] [hGateRefIdeal : Cert.GateRefIdeal.Facts] [hPre_gate_args_finite : Cert.Pre_gate_args_finite.Facts] : Prop :=
  ∀ (m : (ℓ : Loc Cert.SplitKernelIdeal.nD Cert.SplitKernelIdeal.τ Cert.SplitKernelIdeal.sig) → Buf (Elt Ideal) ℓ) (g : Dev Cert.SplitKernelIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_SplitKernelIdeal_gate_args_finite m →
    (∀ c : Dev Cert.SplitKernelIdeal.nD,
      m' ((c.tc : Thread Cert.GateRefIdeal.nD Cert.GateRefIdeal.τ).loc Cert.GateRefIdeal.main_arg0) = m ((c.tc : Thread Cert.SplitKernelIdeal.nD Cert.SplitKernelIdeal.τ).loc Cert.SplitKernelIdeal.main_arg0)
      ∧ m' ((c.tc : Thread Cert.GateRefIdeal.nD Cert.GateRefIdeal.τ).loc Cert.GateRefIdeal.main_arg1) = m ((c.tc : Thread Cert.SplitKernelIdeal.nD Cert.SplitKernelIdeal.τ).loc Cert.SplitKernelIdeal.main_arg1)
      ∧ m' ((c.tc : Thread Cert.GateRefIdeal.nD Cert.GateRefIdeal.τ).loc Cert.GateRefIdeal.main_arg2) = m ((c.tc : Thread Cert.SplitKernelIdeal.nD Cert.SplitKernelIdeal.τ).loc Cert.SplitKernelIdeal.main_arg2)
      ∧ m' ((c.tc : Thread Cert.GateRefIdeal.nD Cert.GateRefIdeal.τ).loc Cert.GateRefIdeal.main_arg3) = m ((c.tc : Thread Cert.SplitKernelIdeal.nD Cert.SplitKernelIdeal.τ).loc Cert.SplitKernelIdeal.main_arg3)
      ∧ m' ((c.tc : Thread Cert.GateRefIdeal.nD Cert.GateRefIdeal.τ).loc Cert.GateRefIdeal.main_arg4) = m ((c.tc : Thread Cert.SplitKernelIdeal.nD Cert.SplitKernelIdeal.τ).loc Cert.SplitKernelIdeal.main_arg4)) →
    ∃ (v0 : (c : Dev Cert.SplitKernelIdeal.nD) → Buf (Elt Ideal) ((c.tc : Thread Cert.SplitKernelIdeal.nD Cert.SplitKernelIdeal.τ).loc Cert.SplitKernelIdeal.main_v13_0)) (v1 : (c : Dev Cert.SplitKernelIdeal.nD) → Buf (Elt Ideal) ((c.tc : Thread Cert.SplitKernelIdeal.nD Cert.SplitKernelIdeal.τ).loc Cert.SplitKernelIdeal.main_v13_1)) (v2 : (c : Dev Cert.SplitKernelIdeal.nD) → Buf (Elt Ideal) ((c.tc : Thread Cert.SplitKernelIdeal.nD Cert.SplitKernelIdeal.τ).loc Cert.SplitKernelIdeal.main_v12_1)),
      θ_run (Cert.SplitKernelIdeal.defs (F := Ideal)) (onTc (τ := Cert.SplitKernelIdeal.τ) (Cert.SplitKernelIdeal.main (F := Ideal))) ⟨m, fun _ => 0, g⟩ (fun r => ∀ c : Dev Cert.SplitKernelIdeal.nD,
          r.2.mem ((c.tc : Thread Cert.SplitKernelIdeal.nD Cert.SplitKernelIdeal.τ).loc Cert.SplitKernelIdeal.main_v13_0) = v0 c
          ∧ r.2.mem ((c.tc : Thread Cert.SplitKernelIdeal.nD Cert.SplitKernelIdeal.τ).loc Cert.SplitKernelIdeal.main_v13_1) = v1 c
          ∧ r.2.mem ((c.tc : Thread Cert.SplitKernelIdeal.nD Cert.SplitKernelIdeal.τ).loc Cert.SplitKernelIdeal.main_v12_1) = v2 c
          ∧ r.2.mem ((c.tc : Thread Cert.SplitKernelIdeal.nD Cert.SplitKernelIdeal.τ).loc Cert.SplitKernelIdeal.main_arg0) = m ((c.tc : Thread Cert.SplitKernelIdeal.nD Cert.SplitKernelIdeal.τ).loc Cert.SplitKernelIdeal.main_arg0)
          ∧ r.2.mem ((c.tc : Thread Cert.SplitKernelIdeal.nD Cert.SplitKernelIdeal.τ).loc Cert.SplitKernelIdeal.main_arg1) = m ((c.tc : Thread Cert.SplitKernelIdeal.nD Cert.SplitKernelIdeal.τ).loc Cert.SplitKernelIdeal.main_arg1)
          ∧ r.2.mem ((c.tc : Thread Cert.SplitKernelIdeal.nD Cert.SplitKernelIdeal.τ).loc Cert.SplitKernelIdeal.main_arg2) = m ((c.tc : Thread Cert.SplitKernelIdeal.nD Cert.SplitKernelIdeal.τ).loc Cert.SplitKernelIdeal.main_arg2)
          ∧ r.2.mem ((c.tc : Thread Cert.SplitKernelIdeal.nD Cert.SplitKernelIdeal.τ).loc Cert.SplitKernelIdeal.main_arg3) = m ((c.tc : Thread Cert.SplitKernelIdeal.nD Cert.SplitKernelIdeal.τ).loc Cert.SplitKernelIdeal.main_arg3)
          ∧ r.2.mem ((c.tc : Thread Cert.SplitKernelIdeal.nD Cert.SplitKernelIdeal.τ).loc Cert.SplitKernelIdeal.main_arg4) = m ((c.tc : Thread Cert.SplitKernelIdeal.nD Cert.SplitKernelIdeal.τ).loc Cert.SplitKernelIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v12) = v0 c
          ∧ r.2.mem ((c.tc : Thread Cert.GateRefIdeal.nD Cert.GateRefIdeal.τ).loc Cert.GateRefIdeal.main_v13) = v1 c
          ∧ r.2.mem ((c.tc : Thread Cert.GateRefIdeal.nD Cert.GateRefIdeal.τ).loc Cert.GateRefIdeal.main_v16) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_DhKernel_DhKernelIdeal : Prop :=
  True

def algebraic_DhKernelIdeal_DhRefIdeal [hDhKernelIdeal : Cert.DhKernelIdeal.Facts] [hDhRefIdeal : Cert.DhRefIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhKernelIdeal m →
    (∀ c : Dev Cert.DhKernelIdeal.nD,
      m' ((c.tc : Thread Cert.DhRefIdeal.nD Cert.DhRefIdeal.τ).loc Cert.DhRefIdeal.main_arg0) = m ((c.tc : Thread Cert.DhKernelIdeal.nD Cert.DhKernelIdeal.τ).loc Cert.DhKernelIdeal.main_arg0)
      ∧ m' ((c.tc : Thread Cert.DhRefIdeal.nD Cert.DhRefIdeal.τ).loc Cert.DhRefIdeal.main_arg1) = m ((c.tc : Thread Cert.DhKernelIdeal.nD Cert.DhKernelIdeal.τ).loc Cert.DhKernelIdeal.main_arg1)
      ∧ m' ((c.tc : Thread Cert.DhRefIdeal.nD Cert.DhRefIdeal.τ).loc Cert.DhRefIdeal.main_arg2) = m ((c.tc : Thread Cert.DhKernelIdeal.nD Cert.DhKernelIdeal.τ).loc Cert.DhKernelIdeal.main_arg2)
      ∧ m' ((c.tc : Thread Cert.DhRefIdeal.nD Cert.DhRefIdeal.τ).loc Cert.DhRefIdeal.main_arg3) = m ((c.tc : Thread Cert.DhKernelIdeal.nD Cert.DhKernelIdeal.τ).loc Cert.DhKernelIdeal.main_arg3)
      ∧ m' ((c.tc : Thread Cert.DhRefIdeal.nD Cert.DhRefIdeal.τ).loc Cert.DhRefIdeal.main_arg4) = m ((c.tc : Thread Cert.DhKernelIdeal.nD Cert.DhKernelIdeal.τ).loc Cert.DhKernelIdeal.main_arg4)
      ∧ m' ((c.tc : Thread Cert.DhRefIdeal.nD Cert.DhRefIdeal.τ).loc Cert.DhRefIdeal.main_arg5) = m ((c.tc : Thread Cert.DhKernelIdeal.nD Cert.DhKernelIdeal.τ).loc Cert.DhKernelIdeal.main_arg5)
      ∧ m' ((c.tc : Thread Cert.DhRefIdeal.nD Cert.DhRefIdeal.τ).loc Cert.DhRefIdeal.main_arg6) = m ((c.tc : Thread Cert.DhKernelIdeal.nD Cert.DhKernelIdeal.τ).loc Cert.DhKernelIdeal.main_arg6)) →
    ∃ (v0 : (c : Dev Cert.DhKernelIdeal.nD) → Buf (Elt Ideal) ((c.tc : Thread Cert.DhKernelIdeal.nD Cert.DhKernelIdeal.τ).loc Cert.DhKernelIdeal.main_v11_0)) (v1 : (c : Dev Cert.DhKernelIdeal.nD) → Buf (Elt Ideal) ((c.tc : Thread Cert.DhKernelIdeal.nD Cert.DhKernelIdeal.τ).loc Cert.DhKernelIdeal.main_v11_1)) (v2 : (c : Dev Cert.DhKernelIdeal.nD) → Buf (Elt Ideal) ((c.tc : Thread Cert.DhKernelIdeal.nD Cert.DhKernelIdeal.τ).loc Cert.DhKernelIdeal.main_v11_2)),
      θ_run (Cert.DhKernelIdeal.defs (F := Ideal)) (onTc (τ := Cert.DhKernelIdeal.τ) (Cert.DhKernelIdeal.main (F := Ideal))) ⟨m, fun _ => 0, g⟩ (fun r => ∀ c : Dev Cert.DhKernelIdeal.nD,
          r.2.mem ((c.tc : Thread Cert.DhKernelIdeal.nD Cert.DhKernelIdeal.τ).loc Cert.DhKernelIdeal.main_v11_0) = v0 c
          ∧ r.2.mem ((c.tc : Thread Cert.DhKernelIdeal.nD Cert.DhKernelIdeal.τ).loc Cert.DhKernelIdeal.main_v11_1) = v1 c
          ∧ r.2.mem ((c.tc : Thread Cert.DhKernelIdeal.nD Cert.DhKernelIdeal.τ).loc Cert.DhKernelIdeal.main_v11_2) = v2 c
          ∧ r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
          ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
          ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
          ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
          ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4)
          ∧ r.2.mem ((c.tc : Thread Cert.DhKernelIdeal.nD Cert.DhKernelIdeal.τ).loc Cert.DhKernelIdeal.main_arg5) = m ((c.tc : Thread Cert.DhKernelIdeal.nD Cert.DhKernelIdeal.τ).loc Cert.DhKernelIdeal.main_arg5)
          ∧ r.2.mem ((c.tc : Thread Cert.DhKernelIdeal.nD Cert.DhKernelIdeal.τ).loc Cert.DhKernelIdeal.main_arg6) = m ((c.tc : Thread Cert.DhKernelIdeal.nD Cert.DhKernelIdeal.τ).loc Cert.DhKernelIdeal.main_arg6))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v44) = v0 c
          ∧ r.2.mem ((c.tc : Thread Cert.DhRefIdeal.nD Cert.DhRefIdeal.τ).loc Cert.DhRefIdeal.main_v46) = v1 c
          ∧ r.2.mem ((c.tc : Thread Cert.DhRefIdeal.nD Cert.DhRefIdeal.τ).loc Cert.DhRefIdeal.main_v45) = v2 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4)
          ∧ r.2.mem ((c.tc : Thread Cert.DhRefIdeal.nD Cert.DhRefIdeal.τ).loc Cert.DhRefIdeal.main_arg5) = m' ((c.tc : Thread Cert.DhRefIdeal.nD Cert.DhRefIdeal.τ).loc Cert.DhRefIdeal.main_arg5)
          ∧ r.2.mem ((c.tc : Thread Cert.DhRefIdeal.nD Cert.DhRefIdeal.τ).loc Cert.DhRefIdeal.main_arg6) = m' ((c.tc : Thread Cert.DhRefIdeal.nD Cert.DhRefIdeal.τ).loc Cert.DhRefIdeal.main_arg6))

def preserves_MixKernel_MixKernelIdeal : Prop :=
  True

def algebraic_MixKernelIdeal_MixRefIdeal [hMixKernelIdeal : Cert.MixKernelIdeal.Facts] [hMixRefIdeal : Cert.MixRefIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixKernelIdeal m →
    (∀ c : Dev Cert.MixKernelIdeal.nD,
      m' ((c.tc : Thread Cert.MixRefIdeal.nD Cert.MixRefIdeal.τ).loc Cert.MixRefIdeal.main_arg0) = m ((c.tc : Thread Cert.MixKernelIdeal.nD Cert.MixKernelIdeal.τ).loc Cert.MixKernelIdeal.main_arg0)
      ∧ m' ((c.tc : Thread Cert.MixRefIdeal.nD Cert.MixRefIdeal.τ).loc Cert.MixRefIdeal.main_arg1) = m ((c.tc : Thread Cert.MixKernelIdeal.nD Cert.MixKernelIdeal.τ).loc Cert.MixKernelIdeal.main_arg1)
      ∧ m' ((c.tc : Thread Cert.MixRefIdeal.nD Cert.MixRefIdeal.τ).loc Cert.MixRefIdeal.main_arg2) = m ((c.tc : Thread Cert.MixKernelIdeal.nD Cert.MixKernelIdeal.τ).loc Cert.MixKernelIdeal.main_arg2)
      ∧ m' ((c.tc : Thread Cert.MixRefIdeal.nD Cert.MixRefIdeal.τ).loc Cert.MixRefIdeal.main_arg3) = m ((c.tc : Thread Cert.MixKernelIdeal.nD Cert.MixKernelIdeal.τ).loc Cert.MixKernelIdeal.main_arg3)
      ∧ m' ((c.tc : Thread Cert.MixRefIdeal.nD Cert.MixRefIdeal.τ).loc Cert.MixRefIdeal.main_arg4) = m ((c.tc : Thread Cert.MixKernelIdeal.nD Cert.MixKernelIdeal.τ).loc Cert.MixKernelIdeal.main_arg4)) →
    ∃ (v0 : (c : Dev Cert.MixKernelIdeal.nD) → Buf (Elt Ideal) ((c.tc : Thread Cert.MixKernelIdeal.nD Cert.MixKernelIdeal.τ).loc Cert.MixKernelIdeal.main_v8_0)) (v1 : (c : Dev Cert.MixKernelIdeal.nD) → Buf (Elt Ideal) ((c.tc : Thread Cert.MixKernelIdeal.nD Cert.MixKernelIdeal.τ).loc Cert.MixKernelIdeal.main_v8_1)) (v2 : (c : Dev Cert.MixKernelIdeal.nD) → Buf (Elt Ideal) ((c.tc : Thread Cert.MixKernelIdeal.nD Cert.MixKernelIdeal.τ).loc Cert.MixKernelIdeal.main_v8_2)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v8_0) = v0 c
          ∧ r.2.mem ((c.tc : Thread Cert.MixKernelIdeal.nD Cert.MixKernelIdeal.τ).loc Cert.MixKernelIdeal.main_v8_1) = v1 c
          ∧ r.2.mem ((c.tc : Thread Cert.MixKernelIdeal.nD Cert.MixKernelIdeal.τ).loc Cert.MixKernelIdeal.main_v8_2) = v2 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v44) = v0 c
          ∧ r.2.mem ((c.tc : Thread Cert.MixRefIdeal.nD Cert.MixRefIdeal.τ).loc Cert.MixRefIdeal.main_v49) = v1 c
          ∧ r.2.mem ((c.tc : Thread Cert.MixRefIdeal.nD Cert.MixRefIdeal.τ).loc Cert.MixRefIdeal.main_v45) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_LossKernel_LossKernelIdeal : Prop :=
  True

def algebraic_LossKernelIdeal_LossRefIdeal [hLossKernelIdeal : Cert.LossKernelIdeal.Facts] [hLossRefIdeal : Cert.LossRefIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossKernelIdeal m →
    (∀ c : Dev Cert.LossKernelIdeal.nD,
      m' ((c.tc : Thread Cert.LossRefIdeal.nD Cert.LossRefIdeal.τ).loc Cert.LossRefIdeal.main_arg0) = m ((c.tc : Thread Cert.LossKernelIdeal.nD Cert.LossKernelIdeal.τ).loc Cert.LossKernelIdeal.main_arg0)
      ∧ m' ((c.tc : Thread Cert.LossRefIdeal.nD Cert.LossRefIdeal.τ).loc Cert.LossRefIdeal.main_arg1) = m ((c.tc : Thread Cert.LossKernelIdeal.nD Cert.LossKernelIdeal.τ).loc Cert.LossKernelIdeal.main_arg1)
      ∧ m' ((c.tc : Thread Cert.LossRefIdeal.nD Cert.LossRefIdeal.τ).loc Cert.LossRefIdeal.main_arg2) = m ((c.tc : Thread Cert.LossKernelIdeal.nD Cert.LossKernelIdeal.τ).loc Cert.LossKernelIdeal.main_arg2)
      ∧ m' ((c.tc : Thread Cert.LossRefIdeal.nD Cert.LossRefIdeal.τ).loc Cert.LossRefIdeal.main_arg3) = m ((c.tc : Thread Cert.LossKernelIdeal.nD Cert.LossKernelIdeal.τ).loc Cert.LossKernelIdeal.main_arg3)
      ∧ m' ((c.tc : Thread Cert.LossRefIdeal.nD Cert.LossRefIdeal.τ).loc Cert.LossRefIdeal.main_arg4) = m ((c.tc : Thread Cert.LossKernelIdeal.nD Cert.LossKernelIdeal.τ).loc Cert.LossKernelIdeal.main_arg4)) →
    ∃ (v0 : (c : Dev Cert.LossKernelIdeal.nD) → Buf (Elt Ideal) ((c.tc : Thread Cert.LossKernelIdeal.nD Cert.LossKernelIdeal.τ).loc Cert.LossKernelIdeal.main_v3_0)) (v1 : (c : Dev Cert.LossKernelIdeal.nD) → Buf (Elt Ideal) ((c.tc : Thread Cert.LossKernelIdeal.nD Cert.LossKernelIdeal.τ).loc Cert.LossKernelIdeal.main_v3_1)) (v2 : (c : Dev Cert.LossKernelIdeal.nD) → Buf (Elt Ideal) ((c.tc : Thread Cert.LossKernelIdeal.nD Cert.LossKernelIdeal.τ).loc Cert.LossKernelIdeal.main_v3_2)) (v3 : (c : Dev Cert.LossKernelIdeal.nD) → Buf (Elt Ideal) ((c.tc : Thread Cert.LossKernelIdeal.nD Cert.LossKernelIdeal.τ).loc Cert.LossKernelIdeal.main_v3_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v3_0) = v0 c
          ∧ r.2.mem ((c.tc : Thread Cert.LossKernelIdeal.nD Cert.LossKernelIdeal.τ).loc Cert.LossKernelIdeal.main_v3_1) = v1 c
          ∧ r.2.mem ((c.tc : Thread Cert.LossKernelIdeal.nD Cert.LossKernelIdeal.τ).loc Cert.LossKernelIdeal.main_v3_2) = v2 c
          ∧ r.2.mem ((c.tc : Thread Cert.LossKernelIdeal.nD Cert.LossKernelIdeal.τ).loc Cert.LossKernelIdeal.main_v3_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v55) = v0 c
          ∧ r.2.mem ((c.tc : Thread Cert.LossRefIdeal.nD Cert.LossRefIdeal.τ).loc Cert.LossRefIdeal.main_v58) = v1 c
          ∧ r.2.mem ((c.tc : Thread Cert.LossRefIdeal.nD Cert.LossRefIdeal.τ).loc Cert.LossRefIdeal.main_v59) = v2 c
          ∧ r.2.mem ((c.tc : Thread Cert.LossRefIdeal.nD Cert.LossRefIdeal.τ).loc Cert.LossRefIdeal.main_v60) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_NormKernel_NormKernelIdeal : Prop :=
  True

def algebraic_NormKernelIdeal_NormRefIdeal [hNormKernelIdeal : Cert.NormKernelIdeal.Facts] [hNormRefIdeal : Cert.NormRefIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormKernelIdeal m →
    (∀ c : Dev Cert.NormKernelIdeal.nD,
      m' ((c.tc : Thread Cert.NormRefIdeal.nD Cert.NormRefIdeal.τ).loc Cert.NormRefIdeal.main_arg0) = m ((c.tc : Thread Cert.NormKernelIdeal.nD Cert.NormKernelIdeal.τ).loc Cert.NormKernelIdeal.main_arg0)
      ∧ m' ((c.tc : Thread Cert.NormRefIdeal.nD Cert.NormRefIdeal.τ).loc Cert.NormRefIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v0)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v0) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_DownKernel_DownKernelIdeal : Prop :=
  True

def algebraic_DownKernelIdeal_DownRefIdeal [hDownKernelIdeal : Cert.DownKernelIdeal.Facts] [hDownRefIdeal : Cert.DownRefIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownKernelIdeal m →
    (∀ c : Dev Cert.DownKernelIdeal.nD,
      m' ((c.tc : Thread Cert.DownRefIdeal.nD Cert.DownRefIdeal.τ).loc Cert.DownRefIdeal.main_arg0) = m ((c.tc : Thread Cert.DownKernelIdeal.nD Cert.DownKernelIdeal.τ).loc Cert.DownKernelIdeal.main_arg0)
      ∧ m' ((c.tc : Thread Cert.DownRefIdeal.nD Cert.DownRefIdeal.τ).loc Cert.DownRefIdeal.main_arg1) = m ((c.tc : Thread Cert.DownKernelIdeal.nD Cert.DownKernelIdeal.τ).loc Cert.DownKernelIdeal.main_arg1)
      ∧ m' ((c.tc : Thread Cert.DownRefIdeal.nD Cert.DownRefIdeal.τ).loc Cert.DownRefIdeal.main_arg2) = m ((c.tc : Thread Cert.DownKernelIdeal.nD Cert.DownKernelIdeal.τ).loc Cert.DownKernelIdeal.main_arg2)
      ∧ m' ((c.tc : Thread Cert.DownRefIdeal.nD Cert.DownRefIdeal.τ).loc Cert.DownRefIdeal.main_arg3) = m ((c.tc : Thread Cert.DownKernelIdeal.nD Cert.DownKernelIdeal.τ).loc Cert.DownKernelIdeal.main_arg3)) →
    ∃ (v0 : (c : Dev Cert.DownKernelIdeal.nD) → Buf (Elt Ideal) ((c.tc : Thread Cert.DownKernelIdeal.nD Cert.DownKernelIdeal.τ).loc Cert.DownKernelIdeal.main_v2_0)) (v1 : (c : Dev Cert.DownKernelIdeal.nD) → Buf (Elt Ideal) ((c.tc : Thread Cert.DownKernelIdeal.nD Cert.DownKernelIdeal.τ).loc Cert.DownKernelIdeal.main_v2_1)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v2_0) = v0 c
          ∧ r.2.mem ((c.tc : Thread Cert.DownKernelIdeal.nD Cert.DownKernelIdeal.τ).loc Cert.DownKernelIdeal.main_v2_1) = v1 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_v19) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_ProjKernel_ProjKernelIdeal : Prop :=
  True

def algebraic_ProjKernelIdeal_ProjRefIdeal [hProjKernelIdeal : Cert.ProjKernelIdeal.Facts] [hProjRefIdeal : Cert.ProjRefIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjKernelIdeal m →
    (∀ c : Dev Cert.ProjKernelIdeal.nD,
      m' ((c.tc : Thread Cert.ProjRefIdeal.nD Cert.ProjRefIdeal.τ).loc Cert.ProjRefIdeal.main_arg0) = m ((c.tc : Thread Cert.ProjKernelIdeal.nD Cert.ProjKernelIdeal.τ).loc Cert.ProjKernelIdeal.main_arg0)
      ∧ m' ((c.tc : Thread Cert.ProjRefIdeal.nD Cert.ProjRefIdeal.τ).loc Cert.ProjRefIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v5)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v5) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_DwinKernel_DwinKernelIdeal : Prop :=
  True

def algebraic_DwinKernelIdeal_DwinRefIdeal [hDwinKernelIdeal : Cert.DwinKernelIdeal.Facts] [hDwinRefIdeal : Cert.DwinRefIdeal.Facts] : Prop :=
  ∀ (m : (ℓ : Loc Cert.DwinKernelIdeal.nD Cert.DwinKernelIdeal.τ Cert.DwinKernelIdeal.sig) → Buf (Elt Ideal) ℓ) (g : Dev Cert.DwinKernelIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinKernelIdeal m →
    (∀ c : Dev Cert.DwinKernelIdeal.nD,
      m' ((c.tc : Thread Cert.DwinRefIdeal.nD Cert.DwinRefIdeal.τ).loc Cert.DwinRefIdeal.main_arg0) = m ((c.tc : Thread Cert.DwinKernelIdeal.nD Cert.DwinKernelIdeal.τ).loc Cert.DwinKernelIdeal.main_arg0)
      ∧ m' ((c.tc : Thread Cert.DwinRefIdeal.nD Cert.DwinRefIdeal.τ).loc Cert.DwinRefIdeal.main_arg1) = m ((c.tc : Thread Cert.DwinKernelIdeal.nD Cert.DwinKernelIdeal.τ).loc Cert.DwinKernelIdeal.main_arg1)) →
    ∃ (v0 : (c : Dev Cert.DwinKernelIdeal.nD) → Buf (Elt Ideal) ((c.tc : Thread Cert.DwinKernelIdeal.nD Cert.DwinKernelIdeal.τ).loc Cert.DwinKernelIdeal.main_v2)),
      θ_run (Cert.DwinKernelIdeal.defs (F := Ideal)) (onTc (τ := Cert.DwinKernelIdeal.τ) (Cert.DwinKernelIdeal.main (F := Ideal))) ⟨m, fun _ => 0, g⟩ (fun r => ∀ c : Dev Cert.DwinKernelIdeal.nD,
          r.2.mem ((c.tc : Thread Cert.DwinKernelIdeal.nD Cert.DwinKernelIdeal.τ).loc Cert.DwinKernelIdeal.main_v2) = v0 c
          ∧ r.2.mem ((c.tc : Thread Cert.DwinKernelIdeal.nD Cert.DwinKernelIdeal.τ).loc Cert.DwinKernelIdeal.main_arg0) = m ((c.tc : Thread Cert.DwinKernelIdeal.nD Cert.DwinKernelIdeal.τ).loc Cert.DwinKernelIdeal.main_arg0)
          ∧ r.2.mem ((c.tc : Thread Cert.DwinKernelIdeal.nD Cert.DwinKernelIdeal.τ).loc Cert.DwinKernelIdeal.main_arg1) = m ((c.tc : Thread Cert.DwinKernelIdeal.nD Cert.DwinKernelIdeal.τ).loc Cert.DwinKernelIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v5) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_AdamKernel_AdamKernelIdeal : Prop :=
  True

def algebraic_AdamKernelIdeal_AdamRefIdeal [hAdamKernelIdeal : Cert.AdamKernelIdeal.Facts] [hAdamRefIdeal : Cert.AdamRefIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamKernelIdeal m →
    (∀ c : Dev Cert.AdamKernelIdeal.nD,
      m' ((c.tc : Thread Cert.AdamRefIdeal.nD Cert.AdamRefIdeal.τ).loc Cert.AdamRefIdeal.main_arg0) = m ((c.tc : Thread Cert.AdamKernelIdeal.nD Cert.AdamKernelIdeal.τ).loc Cert.AdamKernelIdeal.main_arg0)
      ∧ m' ((c.tc : Thread Cert.AdamRefIdeal.nD Cert.AdamRefIdeal.τ).loc Cert.AdamRefIdeal.main_arg1) = m ((c.tc : Thread Cert.AdamKernelIdeal.nD Cert.AdamKernelIdeal.τ).loc Cert.AdamKernelIdeal.main_arg1)
      ∧ m' ((c.tc : Thread Cert.AdamRefIdeal.nD Cert.AdamRefIdeal.τ).loc Cert.AdamRefIdeal.main_arg2) = m ((c.tc : Thread Cert.AdamKernelIdeal.nD Cert.AdamKernelIdeal.τ).loc Cert.AdamKernelIdeal.main_arg2)
      ∧ m' ((c.tc : Thread Cert.AdamRefIdeal.nD Cert.AdamRefIdeal.τ).loc Cert.AdamRefIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v4_0)) (v1 : (c : Dev Cert.AdamKernelIdeal.nD) → Buf (Elt Ideal) ((c.tc : Thread Cert.AdamKernelIdeal.nD Cert.AdamKernelIdeal.τ).loc Cert.AdamKernelIdeal.main_v4_1)) (v2 : (c : Dev Cert.AdamKernelIdeal.nD) → Buf (Elt Ideal) ((c.tc : Thread Cert.AdamKernelIdeal.nD Cert.AdamKernelIdeal.τ).loc Cert.AdamKernelIdeal.main_v4_2)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v4_0) = v0 c
          ∧ r.2.mem ((c.tc : Thread Cert.AdamKernelIdeal.nD Cert.AdamKernelIdeal.τ).loc Cert.AdamKernelIdeal.main_v4_1) = v1 c
          ∧ r.2.mem ((c.tc : Thread Cert.AdamKernelIdeal.nD Cert.AdamKernelIdeal.τ).loc Cert.AdamKernelIdeal.main_v4_2) = v2 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v24) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v26) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_SmallKernel_SmallKernelIdeal : Prop :=
  True

def algebraic_SmallKernelIdeal_SmallRefIdeal [hSmallKernelIdeal : Cert.SmallKernelIdeal.Facts] [hSmallRefIdeal : Cert.SmallRefIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallKernelIdeal m →
    (∀ c : Dev Cert.SmallKernelIdeal.nD,
      m' ((c.tc : Thread Cert.SmallRefIdeal.nD Cert.SmallRefIdeal.τ).loc Cert.SmallRefIdeal.main_arg0) = m ((c.tc : Thread Cert.SmallKernelIdeal.nD Cert.SmallKernelIdeal.τ).loc Cert.SmallKernelIdeal.main_arg0)) →
    ∃ (v0 : (c : Dev Cert.SmallKernelIdeal.nD) → Buf (Elt Ideal) ((c.tc : Thread Cert.SmallKernelIdeal.nD Cert.SmallKernelIdeal.τ).loc Cert.SmallKernelIdeal.main_v1)),
      θ_run (Cert.SmallKernelIdeal.defs (F := Ideal)) (onTc (τ := Cert.SmallKernelIdeal.τ) (Cert.SmallKernelIdeal.main (F := Ideal))) ⟨m, fun _ => 0, g⟩ (fun r => ∀ c : Dev Cert.SmallKernelIdeal.nD,
          r.2.mem ((c.tc : Thread Cert.SmallKernelIdeal.nD Cert.SmallKernelIdeal.τ).loc Cert.SmallKernelIdeal.main_v1) = v0 c
          ∧ r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v0) = v0 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0))

def preserves_OwnerKernel_OwnerKernelIdeal : Prop :=
  True

def algebraic_OwnerKernelIdeal_OwnerRefIdeal [hOwnerKernelIdeal : Cert.OwnerKernelIdeal.Facts] [hOwnerRefIdeal : Cert.OwnerRefIdeal.Facts] [hPre_owner_in_range : Cert.Pre_owner_in_range.Facts] : Prop :=
  ∀ (m : (ℓ : Loc Cert.OwnerKernelIdeal.nD Cert.OwnerKernelIdeal.τ Cert.OwnerKernelIdeal.sig) → Buf (Elt Ideal) ℓ) (g : Dev Cert.OwnerKernelIdeal.nD → PrngReg)
    (m' : (ℓ : Loc Cert.OwnerRefIdeal.nD Cert.OwnerRefIdeal.τ Cert.OwnerRefIdeal.sig) → Buf (Elt Ideal) ℓ) (g' : Dev Cert.OwnerRefIdeal.nD → PrngReg), Pre_OwnerKernelIdeal m →
    (∀ c : Dev Cert.OwnerKernelIdeal.nD,
      m' ((c.tc : Thread Cert.OwnerRefIdeal.nD Cert.OwnerRefIdeal.τ).loc Cert.OwnerRefIdeal.main_arg0) = m ((c.tc : Thread Cert.OwnerKernelIdeal.nD Cert.OwnerKernelIdeal.τ).loc Cert.OwnerKernelIdeal.main_arg0)
      ∧ m' ((c.tc : Thread Cert.OwnerRefIdeal.nD Cert.OwnerRefIdeal.τ).loc Cert.OwnerRefIdeal.main_arg1) = m ((c.tc : Thread Cert.OwnerKernelIdeal.nD Cert.OwnerKernelIdeal.τ).loc Cert.OwnerKernelIdeal.main_arg1)
      ∧ m' ((c.tc : Thread Cert.OwnerRefIdeal.nD Cert.OwnerRefIdeal.τ).loc Cert.OwnerRefIdeal.main_arg2) = m ((c.tc : Thread Cert.OwnerKernelIdeal.nD Cert.OwnerKernelIdeal.τ).loc Cert.OwnerKernelIdeal.main_arg2)
      ∧ m' ((c.tc : Thread Cert.OwnerRefIdeal.nD Cert.OwnerRefIdeal.τ).loc Cert.OwnerRefIdeal.main_arg3) = m ((c.tc : Thread Cert.OwnerKernelIdeal.nD Cert.OwnerKernelIdeal.τ).loc Cert.OwnerKernelIdeal.main_arg3)
      ∧ m' ((c.tc : Thread Cert.OwnerRefIdeal.nD Cert.OwnerRefIdeal.τ).loc Cert.OwnerRefIdeal.main_arg4) = m ((c.tc : Thread Cert.OwnerKernelIdeal.nD Cert.OwnerKernelIdeal.τ).loc Cert.OwnerKernelIdeal.main_arg4)
      ∧ m' ((c.tc : Thread Cert.OwnerRefIdeal.nD Cert.OwnerRefIdeal.τ).loc Cert.OwnerRefIdeal.main_arg5) = m ((c.tc : Thread Cert.OwnerKernelIdeal.nD Cert.OwnerKernelIdeal.τ).loc Cert.OwnerKernelIdeal.main_arg5)
      ∧ m' ((c.tc : Thread Cert.OwnerRefIdeal.nD Cert.OwnerRefIdeal.τ).loc Cert.OwnerRefIdeal.main_arg6) = m ((c.tc : Thread Cert.OwnerKernelIdeal.nD Cert.OwnerKernelIdeal.τ).loc Cert.OwnerKernelIdeal.main_arg6)) →
    ∃ (v0 : (c : Dev Cert.OwnerKernelIdeal.nD) → Buf (Elt Ideal) ((c.tc : Thread Cert.OwnerKernelIdeal.nD Cert.OwnerKernelIdeal.τ).loc Cert.OwnerKernelIdeal.main_v0_0)) (v1 : (c : Dev Cert.OwnerKernelIdeal.nD) → Buf (Elt Ideal) ((c.tc : Thread Cert.OwnerKernelIdeal.nD Cert.OwnerKernelIdeal.τ).loc Cert.OwnerKernelIdeal.main_v0_1)) (v2 : (c : Dev Cert.OwnerKernelIdeal.nD) → Buf (Elt Ideal) ((c.tc : Thread Cert.OwnerKernelIdeal.nD Cert.OwnerKernelIdeal.τ).loc Cert.OwnerKernelIdeal.main_v0_2)),
      θ_run (Cert.OwnerKernelIdeal.defs (F := Ideal)) (onTc (τ := Cert.OwnerKernelIdeal.τ) (Cert.OwnerKernelIdeal.main (F := Ideal))) ⟨m, fun _ => 0, g⟩ (fun r => ∀ c : Dev Cert.OwnerKernelIdeal.nD,
          r.2.mem ((c.tc : Thread Cert.OwnerKernelIdeal.nD Cert.OwnerKernelIdeal.τ).loc Cert.OwnerKernelIdeal.main_v0_0) = v0 c
          ∧ r.2.mem ((c.tc : Thread Cert.OwnerKernelIdeal.nD Cert.OwnerKernelIdeal.τ).loc Cert.OwnerKernelIdeal.main_v0_1) = v1 c
          ∧ r.2.mem ((c.tc : Thread Cert.OwnerKernelIdeal.nD Cert.OwnerKernelIdeal.τ).loc Cert.OwnerKernelIdeal.main_v0_2) = v2 c
          ∧ r.2.mem ((c.tc : Thread Cert.OwnerKernelIdeal.nD Cert.OwnerKernelIdeal.τ).loc Cert.OwnerKernelIdeal.main_arg0) = m ((c.tc : Thread Cert.OwnerKernelIdeal.nD Cert.OwnerKernelIdeal.τ).loc Cert.OwnerKernelIdeal.main_arg0)
          ∧ r.2.mem ((c.tc : Thread Cert.OwnerKernelIdeal.nD Cert.OwnerKernelIdeal.τ).loc Cert.OwnerKernelIdeal.main_arg1) = m ((c.tc : Thread Cert.OwnerKernelIdeal.nD Cert.OwnerKernelIdeal.τ).loc Cert.OwnerKernelIdeal.main_arg1)
          ∧ r.2.mem ((c.tc : Thread Cert.OwnerKernelIdeal.nD Cert.OwnerKernelIdeal.τ).loc Cert.OwnerKernelIdeal.main_arg2) = m ((c.tc : Thread Cert.OwnerKernelIdeal.nD Cert.OwnerKernelIdeal.τ).loc Cert.OwnerKernelIdeal.main_arg2)
          ∧ r.2.mem ((c.tc : Thread Cert.OwnerKernelIdeal.nD Cert.OwnerKernelIdeal.τ).loc Cert.OwnerKernelIdeal.main_arg3) = m ((c.tc : Thread Cert.OwnerKernelIdeal.nD Cert.OwnerKernelIdeal.τ).loc Cert.OwnerKernelIdeal.main_arg3)
          ∧ r.2.mem ((c.tc : Thread Cert.OwnerKernelIdeal.nD Cert.OwnerKernelIdeal.τ).loc Cert.OwnerKernelIdeal.main_arg4) = m ((c.tc : Thread Cert.OwnerKernelIdeal.nD Cert.OwnerKernelIdeal.τ).loc Cert.OwnerKernelIdeal.main_arg4)
          ∧ r.2.mem ((c.tc : Thread Cert.OwnerKernelIdeal.nD Cert.OwnerKernelIdeal.τ).loc Cert.OwnerKernelIdeal.main_arg5) = m ((c.tc : Thread Cert.OwnerKernelIdeal.nD Cert.OwnerKernelIdeal.τ).loc Cert.OwnerKernelIdeal.main_arg5)
          ∧ r.2.mem ((c.tc : Thread Cert.OwnerKernelIdeal.nD Cert.OwnerKernelIdeal.τ).loc Cert.OwnerKernelIdeal.main_arg6) = m ((c.tc : Thread Cert.OwnerKernelIdeal.nD Cert.OwnerKernelIdeal.τ).loc Cert.OwnerKernelIdeal.main_arg6))
      ∧ θ_run (Cert.OwnerRefIdeal.defs (F := Ideal)) (onTc (τ := Cert.OwnerRefIdeal.τ) (Cert.OwnerRefIdeal.main (F := Ideal))) ⟨m', fun _ => 0, g'⟩ (fun r => ∀ c : Dev Cert.OwnerRefIdeal.nD,
          r.2.mem ((c.tc : Thread Cert.OwnerRefIdeal.nD Cert.OwnerRefIdeal.τ).loc Cert.OwnerRefIdeal.main_v22) = v0 c
          ∧ r.2.mem ((c.tc : Thread Cert.OwnerRefIdeal.nD Cert.OwnerRefIdeal.τ).loc Cert.OwnerRefIdeal.main_v29) = v1 c
          ∧ r.2.mem ((c.tc : Thread Cert.OwnerRefIdeal.nD Cert.OwnerRefIdeal.τ).loc Cert.OwnerRefIdeal.main_v36) = v2 c
          ∧ r.2.mem ((c.tc : Thread Cert.OwnerRefIdeal.nD Cert.OwnerRefIdeal.τ).loc Cert.OwnerRefIdeal.main_arg0) = m' ((c.tc : Thread Cert.OwnerRefIdeal.nD Cert.OwnerRefIdeal.τ).loc Cert.OwnerRefIdeal.main_arg0)
          ∧ r.2.mem ((c.tc : Thread Cert.OwnerRefIdeal.nD Cert.OwnerRefIdeal.τ).loc Cert.OwnerRefIdeal.main_arg1) = m' ((c.tc : Thread Cert.OwnerRefIdeal.nD Cert.OwnerRefIdeal.τ).loc Cert.OwnerRefIdeal.main_arg1)
          ∧ r.2.mem ((c.tc : Thread Cert.OwnerRefIdeal.nD Cert.OwnerRefIdeal.τ).loc Cert.OwnerRefIdeal.main_arg2) = m' ((c.tc : Thread Cert.OwnerRefIdeal.nD Cert.OwnerRefIdeal.τ).loc Cert.OwnerRefIdeal.main_arg2)
          ∧ r.2.mem ((c.tc : Thread Cert.OwnerRefIdeal.nD Cert.OwnerRefIdeal.τ).loc Cert.OwnerRefIdeal.main_arg3) = m' ((c.tc : Thread Cert.OwnerRefIdeal.nD Cert.OwnerRefIdeal.τ).loc Cert.OwnerRefIdeal.main_arg3)
          ∧ r.2.mem ((c.tc : Thread Cert.OwnerRefIdeal.nD Cert.OwnerRefIdeal.τ).loc Cert.OwnerRefIdeal.main_arg4) = m' ((c.tc : Thread Cert.OwnerRefIdeal.nD Cert.OwnerRefIdeal.τ).loc Cert.OwnerRefIdeal.main_arg4)
          ∧ r.2.mem ((c.tc : Thread Cert.OwnerRefIdeal.nD Cert.OwnerRefIdeal.τ).loc Cert.OwnerRefIdeal.main_arg5) = m' ((c.tc : Thread Cert.OwnerRefIdeal.nD Cert.OwnerRefIdeal.τ).loc Cert.OwnerRefIdeal.main_arg5)
          ∧ r.2.mem ((c.tc : Thread Cert.OwnerRefIdeal.nD Cert.OwnerRefIdeal.τ).loc Cert.OwnerRefIdeal.main_arg6) = m' ((c.tc : Thread Cert.OwnerRefIdeal.nD Cert.OwnerRefIdeal.τ).loc Cert.OwnerRefIdeal.main_arg6))

def preserves_AttnKernel_AttnKernelIdeal : Prop :=
  True

def algebraic_AttnKernelIdeal_AttnRefIdeal_pre_attn_args_finite [hAttnKernelIdeal : Cert.AttnKernelIdeal.Facts] [hAttnRefIdeal : Cert.AttnRefIdeal.Facts] [hPre_attn_args_finite : Cert.Pre_attn_args_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnKernelIdeal_attn_args_finite m →
    (∀ c : Dev Cert.AttnKernelIdeal.nD,
      m' ((c.tc : Thread Cert.AttnRefIdeal.nD Cert.AttnRefIdeal.τ).loc Cert.AttnRefIdeal.main_arg0) = m ((c.tc : Thread Cert.AttnKernelIdeal.nD Cert.AttnKernelIdeal.τ).loc Cert.AttnKernelIdeal.main_arg0)
      ∧ m' ((c.tc : Thread Cert.AttnRefIdeal.nD Cert.AttnRefIdeal.τ).loc Cert.AttnRefIdeal.main_arg1) = m ((c.tc : Thread Cert.AttnKernelIdeal.nD Cert.AttnKernelIdeal.τ).loc Cert.AttnKernelIdeal.main_arg1)
      ∧ m' ((c.tc : Thread Cert.AttnRefIdeal.nD Cert.AttnRefIdeal.τ).loc Cert.AttnRefIdeal.main_arg2) = m ((c.tc : Thread Cert.AttnKernelIdeal.nD Cert.AttnKernelIdeal.τ).loc Cert.AttnKernelIdeal.main_arg2)
      ∧ m' ((c.tc : Thread Cert.AttnRefIdeal.nD Cert.AttnRefIdeal.τ).loc Cert.AttnRefIdeal.main_arg3) = m ((c.tc : Thread Cert.AttnKernelIdeal.nD Cert.AttnKernelIdeal.τ).loc Cert.AttnKernelIdeal.main_arg3)
      ∧ m' ((c.tc : Thread Cert.AttnRefIdeal.nD Cert.AttnRefIdeal.τ).loc Cert.AttnRefIdeal.main_arg4) = m ((c.tc : Thread Cert.AttnKernelIdeal.nD Cert.AttnKernelIdeal.τ).loc Cert.AttnKernelIdeal.main_arg4)
      ∧ m' ((c.tc : Thread Cert.AttnRefIdeal.nD Cert.AttnRefIdeal.τ).loc Cert.AttnRefIdeal.main_arg5) = m ((c.tc : Thread Cert.AttnKernelIdeal.nD Cert.AttnKernelIdeal.τ).loc Cert.AttnKernelIdeal.main_arg5)
      ∧ m' ((c.tc : Thread Cert.AttnRefIdeal.nD Cert.AttnRefIdeal.τ).loc Cert.AttnRefIdeal.main_arg6) = m ((c.tc : Thread Cert.AttnKernelIdeal.nD Cert.AttnKernelIdeal.τ).loc Cert.AttnKernelIdeal.main_arg6)
      ∧ m' ((c.tc : Thread Cert.AttnRefIdeal.nD Cert.AttnRefIdeal.τ).loc Cert.AttnRefIdeal.main_arg7) = m ((c.tc : Thread Cert.AttnKernelIdeal.nD Cert.AttnKernelIdeal.τ).loc Cert.AttnKernelIdeal.main_arg7)) →
    ∃ (v0 : (c : Dev Cert.AttnKernelIdeal.nD) → Buf (Elt Ideal) ((c.tc : Thread Cert.AttnKernelIdeal.nD Cert.AttnKernelIdeal.τ).loc Cert.AttnKernelIdeal.main_v43_0)) (v1 : (c : Dev Cert.AttnKernelIdeal.nD) → Buf (Elt Ideal) ((c.tc : Thread Cert.AttnKernelIdeal.nD Cert.AttnKernelIdeal.τ).loc Cert.AttnKernelIdeal.main_v43_1)) (v2 : (c : Dev Cert.AttnKernelIdeal.nD) → Buf (Elt Ideal) ((c.tc : Thread Cert.AttnKernelIdeal.nD Cert.AttnKernelIdeal.τ).loc Cert.AttnKernelIdeal.main_v43_2)) (v3 : (c : Dev Cert.AttnKernelIdeal.nD) → Buf (Elt Ideal) ((c.tc : Thread Cert.AttnKernelIdeal.nD Cert.AttnKernelIdeal.τ).loc Cert.AttnKernelIdeal.main_v43_3)) (v4 : (c : Dev Cert.AttnKernelIdeal.nD) → Buf (Elt Ideal) ((c.tc : Thread Cert.AttnKernelIdeal.nD Cert.AttnKernelIdeal.τ).loc Cert.AttnKernelIdeal.main_v43_4)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v43_0) = v0 c
          ∧ r.2.mem ((c.tc : Thread Cert.AttnKernelIdeal.nD Cert.AttnKernelIdeal.τ).loc Cert.AttnKernelIdeal.main_v43_1) = v1 c
          ∧ r.2.mem ((c.tc : Thread Cert.AttnKernelIdeal.nD Cert.AttnKernelIdeal.τ).loc Cert.AttnKernelIdeal.main_v43_2) = v2 c
          ∧ r.2.mem ((c.tc : Thread Cert.AttnKernelIdeal.nD Cert.AttnKernelIdeal.τ).loc Cert.AttnKernelIdeal.main_v43_3) = v3 c
          ∧ r.2.mem ((c.tc : Thread Cert.AttnKernelIdeal.nD Cert.AttnKernelIdeal.τ).loc Cert.AttnKernelIdeal.main_v43_4) = v4 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
          ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
          ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5)
          ∧ r.2.mem ((c.tc : Thread Cert.AttnKernelIdeal.nD Cert.AttnKernelIdeal.τ).loc Cert.AttnKernelIdeal.main_arg6) = m ((c.tc : Thread Cert.AttnKernelIdeal.nD Cert.AttnKernelIdeal.τ).loc Cert.AttnKernelIdeal.main_arg6)
          ∧ r.2.mem ((c.tc : Thread Cert.AttnKernelIdeal.nD Cert.AttnKernelIdeal.τ).loc Cert.AttnKernelIdeal.main_arg7) = m ((c.tc : Thread Cert.AttnKernelIdeal.nD Cert.AttnKernelIdeal.τ).loc Cert.AttnKernelIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v246) = v0 c
          ∧ r.2.mem ((c.tc : Thread Cert.AttnRefIdeal.nD Cert.AttnRefIdeal.τ).loc Cert.AttnRefIdeal.main_v248) = v1 c
          ∧ r.2.mem ((c.tc : Thread Cert.AttnRefIdeal.nD Cert.AttnRefIdeal.τ).loc Cert.AttnRefIdeal.main_v245) = v2 c
          ∧ r.2.mem ((c.tc : Thread Cert.AttnRefIdeal.nD Cert.AttnRefIdeal.τ).loc Cert.AttnRefIdeal.main_v195) = v3 c
          ∧ r.2.mem ((c.tc : Thread Cert.AttnRefIdeal.nD Cert.AttnRefIdeal.τ).loc Cert.AttnRefIdeal.main_v249) = v4 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_BwdKernel_BwdKernelIdeal : Prop :=
  True

def Claim : Prop :=
  ∃ (hGateKernel : Cert.GateKernel.Facts) (hGateKernelIdeal : Cert.GateKernelIdeal.Facts) (hGateRefIdeal : Cert.GateRefIdeal.Facts) (hSplitKernel : Cert.SplitKernel.Facts) (hSplitKernelIdeal : Cert.SplitKernelIdeal.Facts) (hDhKernel : Cert.DhKernel.Facts) (hDhKernelIdeal : Cert.DhKernelIdeal.Facts) (hDhRefIdeal : Cert.DhRefIdeal.Facts) (hMixKernel : Cert.MixKernel.Facts) (hMixKernelIdeal : Cert.MixKernelIdeal.Facts) (hMixRefIdeal : Cert.MixRefIdeal.Facts) (hLossKernel : Cert.LossKernel.Facts) (hLossKernelIdeal : Cert.LossKernelIdeal.Facts) (hLossRefIdeal : Cert.LossRefIdeal.Facts) (hNormKernel : Cert.NormKernel.Facts) (hNormKernelIdeal : Cert.NormKernelIdeal.Facts) (hNormRefIdeal : Cert.NormRefIdeal.Facts) (hDownKernel : Cert.DownKernel.Facts) (hDownKernelIdeal : Cert.DownKernelIdeal.Facts) (hDownRefIdeal : Cert.DownRefIdeal.Facts) (hProjKernel : Cert.ProjKernel.Facts) (hProjKernelIdeal : Cert.ProjKernelIdeal.Facts) (hProjRefIdeal : Cert.ProjRefIdeal.Facts) (hDwinKernel : Cert.DwinKernel.Facts) (hDwinKernelIdeal : Cert.DwinKernelIdeal.Facts) (hDwinRefIdeal : Cert.DwinRefIdeal.Facts) (hAdamKernel : Cert.AdamKernel.Facts) (hAdamKernelIdeal : Cert.AdamKernelIdeal.Facts) (hAdamRefIdeal : Cert.AdamRefIdeal.Facts) (hSmallKernel : Cert.SmallKernel.Facts) (hSmallKernelIdeal : Cert.SmallKernelIdeal.Facts) (hSmallRefIdeal : Cert.SmallRefIdeal.Facts) (hOwnerKernel : Cert.OwnerKernel.Facts) (hOwnerKernelIdeal : Cert.OwnerKernelIdeal.Facts) (hOwnerRefIdeal : Cert.OwnerRefIdeal.Facts) (hAttnKernel : Cert.AttnKernel.Facts) (hAttnKernelIdeal : Cert.AttnKernelIdeal.Facts) (hAttnRefIdeal : Cert.AttnRefIdeal.Facts) (hBwdKernel : Cert.BwdKernel.Facts) (hBwdKernelIdeal : Cert.BwdKernelIdeal.Facts) (hPre_gate_args_finite : Cert.Pre_gate_args_finite.Facts) (hPre_owner_in_range : Cert.Pre_owner_in_range.Facts) (hPre_attn_args_finite : Cert.Pre_attn_args_finite.Facts),
    quiescent_GateKernel (hGateKernel := hGateKernel)
    ∧ quiescent_GateKernelIdeal (hGateKernelIdeal := hGateKernelIdeal)
    ∧ quiescent_GateKernelIdeal_pre_gate_args_finite (hGateKernelIdeal := hGateKernelIdeal) (hPre_gate_args_finite := hPre_gate_args_finite)
    ∧ quiescent_GateRefIdeal (hGateRefIdeal := hGateRefIdeal)
    ∧ quiescent_GateRefIdeal_pre_gate_args_finite (hGateRefIdeal := hGateRefIdeal) (hPre_gate_args_finite := hPre_gate_args_finite)
    ∧ quiescent_SplitKernel (hSplitKernel := hSplitKernel)
    ∧ quiescent_SplitKernelIdeal (hSplitKernelIdeal := hSplitKernelIdeal)
    ∧ quiescent_SplitKernelIdeal_pre_gate_args_finite (hSplitKernelIdeal := hSplitKernelIdeal) (hPre_gate_args_finite := hPre_gate_args_finite)
    ∧ quiescent_DhKernel (hDhKernel := hDhKernel)
    ∧ quiescent_DhKernelIdeal (hDhKernelIdeal := hDhKernelIdeal)
    ∧ quiescent_DhRefIdeal (hDhRefIdeal := hDhRefIdeal)
    ∧ quiescent_MixKernel (hMixKernel := hMixKernel)
    ∧ quiescent_MixKernelIdeal (hMixKernelIdeal := hMixKernelIdeal)
    ∧ quiescent_MixRefIdeal (hMixRefIdeal := hMixRefIdeal)
    ∧ quiescent_LossKernel (hLossKernel := hLossKernel)
    ∧ quiescent_LossKernelIdeal (hLossKernelIdeal := hLossKernelIdeal)
    ∧ quiescent_LossRefIdeal (hLossRefIdeal := hLossRefIdeal)
    ∧ quiescent_NormKernel (hNormKernel := hNormKernel)
    ∧ quiescent_NormKernelIdeal (hNormKernelIdeal := hNormKernelIdeal)
    ∧ quiescent_NormRefIdeal (hNormRefIdeal := hNormRefIdeal)
    ∧ quiescent_DownKernel (hDownKernel := hDownKernel)
    ∧ quiescent_DownKernelIdeal (hDownKernelIdeal := hDownKernelIdeal)
    ∧ quiescent_DownRefIdeal (hDownRefIdeal := hDownRefIdeal)
    ∧ quiescent_ProjKernel (hProjKernel := hProjKernel)
    ∧ quiescent_ProjKernelIdeal (hProjKernelIdeal := hProjKernelIdeal)
    ∧ quiescent_ProjRefIdeal (hProjRefIdeal := hProjRefIdeal)
    ∧ quiescent_DwinKernel (hDwinKernel := hDwinKernel)
    ∧ quiescent_DwinKernelIdeal (hDwinKernelIdeal := hDwinKernelIdeal)
    ∧ quiescent_DwinRefIdeal (hDwinRefIdeal := hDwinRefIdeal)
    ∧ quiescent_AdamKernel (hAdamKernel := hAdamKernel)
    ∧ quiescent_AdamKernelIdeal (hAdamKernelIdeal := hAdamKernelIdeal)
    ∧ quiescent_AdamRefIdeal (hAdamRefIdeal := hAdamRefIdeal)
    ∧ quiescent_SmallKernel (hSmallKernel := hSmallKernel)
    ∧ quiescent_SmallKernelIdeal (hSmallKernelIdeal := hSmallKernelIdeal)
    ∧ quiescent_SmallRefIdeal (hSmallRefIdeal := hSmallRefIdeal)
    ∧ quiescent_OwnerKernel (hOwnerKernel := hOwnerKernel) (hPre_owner_in_range := hPre_owner_in_range)
    ∧ quiescent_OwnerKernelIdeal (hOwnerKernelIdeal := hOwnerKernelIdeal) (hPre_owner_in_range := hPre_owner_in_range)
    ∧ quiescent_OwnerRefIdeal (hOwnerRefIdeal := hOwnerRefIdeal)
    ∧ quiescent_OwnerRefIdeal_pre_owner_in_range (hOwnerRefIdeal := hOwnerRefIdeal) (hPre_owner_in_range := hPre_owner_in_range)
    ∧ quiescent_AttnKernel (hAttnKernel := hAttnKernel)
    ∧ quiescent_AttnKernelIdeal (hAttnKernelIdeal := hAttnKernelIdeal)
    ∧ quiescent_AttnKernelIdeal_pre_attn_args_finite (hAttnKernelIdeal := hAttnKernelIdeal) (hPre_attn_args_finite := hPre_attn_args_finite)
    ∧ quiescent_AttnRefIdeal (hAttnRefIdeal := hAttnRefIdeal)
    ∧ quiescent_AttnRefIdeal_pre_attn_args_finite (hAttnRefIdeal := hAttnRefIdeal) (hPre_attn_args_finite := hPre_attn_args_finite)
    ∧ quiescent_BwdKernel (hBwdKernel := hBwdKernel)
    ∧ quiescent_BwdKernelIdeal (hBwdKernelIdeal := hBwdKernelIdeal)
    ∧ preserves_GateKernel_GateKernelIdeal
    ∧ algebraic_GateKernelIdeal_GateRefIdeal_pre_gate_args_finite (hGateKernelIdeal := hGateKernelIdeal) (hGateRefIdeal := hGateRefIdeal) (hPre_gate_args_finite := hPre_gate_args_finite)
    ∧ preserves_SplitKernel_SplitKernelIdeal
    ∧ algebraic_SplitKernelIdeal_GateRefIdeal_pre_gate_args_finite (hSplitKernelIdeal := hSplitKernelIdeal) (hGateRefIdeal := hGateRefIdeal) (hPre_gate_args_finite := hPre_gate_args_finite)
    ∧ preserves_DhKernel_DhKernelIdeal
    ∧ algebraic_DhKernelIdeal_DhRefIdeal (hDhKernelIdeal := hDhKernelIdeal) (hDhRefIdeal := hDhRefIdeal)
    ∧ preserves_MixKernel_MixKernelIdeal
    ∧ algebraic_MixKernelIdeal_MixRefIdeal (hMixKernelIdeal := hMixKernelIdeal) (hMixRefIdeal := hMixRefIdeal)
    ∧ preserves_LossKernel_LossKernelIdeal
    ∧ algebraic_LossKernelIdeal_LossRefIdeal (hLossKernelIdeal := hLossKernelIdeal) (hLossRefIdeal := hLossRefIdeal)
    ∧ preserves_NormKernel_NormKernelIdeal
    ∧ algebraic_NormKernelIdeal_NormRefIdeal (hNormKernelIdeal := hNormKernelIdeal) (hNormRefIdeal := hNormRefIdeal)
    ∧ preserves_DownKernel_DownKernelIdeal
    ∧ algebraic_DownKernelIdeal_DownRefIdeal (hDownKernelIdeal := hDownKernelIdeal) (hDownRefIdeal := hDownRefIdeal)
    ∧ preserves_ProjKernel_ProjKernelIdeal
    ∧ algebraic_ProjKernelIdeal_ProjRefIdeal (hProjKernelIdeal := hProjKernelIdeal) (hProjRefIdeal := hProjRefIdeal)
    ∧ preserves_DwinKernel_DwinKernelIdeal
    ∧ algebraic_DwinKernelIdeal_DwinRefIdeal (hDwinKernelIdeal := hDwinKernelIdeal) (hDwinRefIdeal := hDwinRefIdeal)
    ∧ preserves_AdamKernel_AdamKernelIdeal
    ∧ algebraic_AdamKernelIdeal_AdamRefIdeal (hAdamKernelIdeal := hAdamKernelIdeal) (hAdamRefIdeal := hAdamRefIdeal)
    ∧ preserves_SmallKernel_SmallKernelIdeal
    ∧ algebraic_SmallKernelIdeal_SmallRefIdeal (hSmallKernelIdeal := hSmallKernelIdeal) (hSmallRefIdeal := hSmallRefIdeal)
    ∧ preserves_OwnerKernel_OwnerKernelIdeal
    ∧ algebraic_OwnerKernelIdeal_OwnerRefIdeal (hOwnerKernelIdeal := hOwnerKernelIdeal) (hOwnerRefIdeal := hOwnerRefIdeal) (hPre_owner_in_range := hPre_owner_in_range)
    ∧ preserves_AttnKernel_AttnKernelIdeal
    ∧ algebraic_AttnKernelIdeal_AttnRefIdeal_pre_attn_args_finite (hAttnKernelIdeal := hAttnKernelIdeal) (hAttnRefIdeal := hAttnRefIdeal) (hPre_attn_args_finite := hPre_attn_args_finite)
    ∧ preserves_BwdKernel_BwdKernelIdeal
-- ==== Pre_attn_args_finite.lean ====
abbrev S1x4096x3088 : Shape := ⟨3, ![1, 4096, 3088]⟩
abbrev S1x512 : Shape := ⟨2, ![1, 512]⟩
abbrev S1x16x256 : Shape := ⟨3, ![1, 16, 256]⟩
abbrev S1x256 : Shape := ⟨2, ![1, 256]⟩
abbrev S1x1024x1024 : Shape := ⟨3, ![1, 1024, 1024]⟩
abbrev S4096x1024 : Shape := ⟨2, ![4096, 1024]⟩
abbrev S1x1024 : Shape := ⟨2, ![1, 1024]⟩
abbrev S_ : Shape := ⟨0, ![]⟩

class Facts : Prop where
  bcast_S_S1x4096x3088 : S_.BroadcastsInDim S1x4096x3088 (![] : Fin 0 → Fin S1x4096x3088.rank)
  reducesTo_S1x4096x3088_S_d0_1_2 : S1x4096x3088.ReducesTo [0, 1, 2] S_
  h_S_ : 0 < S_.numel
  bcast_S_S1x16x256 : S_.BroadcastsInDim S1x16x256 (![] : Fin 0 → Fin S1x16x256.rank)
  reducesTo_S1x16x256_S_d0_1_2 : S1x16x256.ReducesTo [0, 1, 2] S_

variable [Facts]

def fn {F : FTy → Type} [FloatOps F] (main_arg0 : FVec F S1x4096x3088 .f32) (main_arg1 : FVec F S1x512 .f32) (main_arg2 : FVec F S1x16x256 .f32) (main_arg3 : FVec F S1x256 .f32) (main_arg4 : FVec F S1x512 .f32) (main_arg5 : FVec F S1x1024x1024 .f32) (main_arg6 : FVec F S4096x1024 .f32) (main_arg7 : FVec F S1x1024 .f32) : IVec S_ 1 :=
  let main_v0 : FVec F S1x4096x3088 .f32 := Host.absf main_arg0
  let main_cst : FVec F S_ .f32 := constant S_ .f32 0x7F800000#32
  let main_v1 : FVec F S1x4096x3088 .f32 := broadcastInDim S1x4096x3088 ![] bcast_S_S1x4096x3088 main_cst
  let main_v2 : IVec S1x4096x3088 1 := cmpf .olt main_v0 main_v1
  let main_c : IVec S_ 1 := constantI S_ 1 1#1
  let main_v3 : IVec S_ 1 := (fun x v => Host.reduce IntOp.andi x v reducesTo_S1x4096x3088_S_d0_1_2 h_S_) main_v2 main_c
  let main_v4 : FVec F S1x16x256 .f32 := Host.absf main_arg2
  let main_cst_0 : FVec F S_ .f32 := constant S_ .f32 0x7F800000#32
  let main_v5 : FVec F S1x16x256 .f32 := broadcastInDim S1x16x256 ![] bcast_S_S1x16x256 main_cst_0
  let main_v6 : IVec S1x16x256 1 := cmpf .olt main_v4 main_v5
  let main_c_1 : IVec S_ 1 := constantI S_ 1 1#1
  let main_v7 : IVec S_ 1 := (fun x v => Host.reduce IntOp.andi x v reducesTo_S1x16x256_S_d0_1_2 h_S_) main_v6 main_c_1
  let main_v8 : IVec S_ 1 := andi main_v3 main_v7
  main_v8
-- ==== Pre_gate_args_finite.lean ====
abbrev S4096x1024 : Shape := ⟨2, ![4096, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S1x1024x2816 .f32) (main_arg2 : FVec F S1x1024x2816 .f32) (main_arg3 : FVec F S1x2816x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024x2816 .f32 := Host.absf main_arg2
  let main_cst_0 : FVec F S_ .f32 := constant S_ .f32 0x7F800000#32
  let main_v5 : FVec F S1x1024x2816 .f32 := broadcastInDim S1x1024x2816 ![] bcast_S_S1x1024x2816 main_cst_0
  let main_v6 : IVec S1x1024x2816 1 := cmpf .olt main_v4 main_v5
  let main_c_1 : IVec S_ 1 := constantI S_ 1 1#1
  let main_v7 : IVec S_ 1 := (fun x v => Host.reduce IntOp.andi x v reducesTo_S1x1024x2816_S_d0_1_2 h_S_) main_v6 main_c_1
  let main_v8 : IVec S_ 1 := andi main_v3 main_v7
  let main_v9 : FVec F S1x2816x1024 .f32 := Host.absf main_arg3
  let main_cst_2 : FVec F S_ .f32 := constant S_ .f32 0x7F800000#32
  let main_v10 : FVec F S1x2816x1024 .f32 := broadcastInDim S1x2816x1024 ![] bcast_S_S1x2816x1024 main_cst_2
  let main_v11 : IVec S1x2816x1024 1 := cmpf .olt main_v9 main_v10
  let main_c_3 : IVec S_ 1 := constantI S_ 1 1#1
  let main_v12 : IVec S_ 1 := (fun x v => Host.reduce IntOp.andi x v reducesTo_S1x2816x1024_S_d0_1_2 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_owner_in_range.lean ====
abbrev S2 : Shape := ⟨1, ![2]⟩
abbrev S4x2x352x1024 : Shape := ⟨4, ![4, 2, 352, 1024]⟩
abbrev S7x352x1024 : Shape := ⟨3, ![7, 352, 1024]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S4x2x352x1024 .bf16) (main_arg2 : FVec F S7x352x1024 .bf16) (main_arg3 : FVec F S4x2x352x1024 .bf16) (main_arg4 : FVec F S7x352x1024 .bf16) (main_arg5 : FVec F S4x2x352x1024 .bf16) (main_arg6 : FVec F S7x352x1024 .bf16) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![1] · slices_S2_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg0
  let main_v12 : IVec S_ 32 := shapeCast S_ main_v11 shapeCasts_S1_S_
  let main_c_2 : IVec S_ 32 := constantI S_ 32 2#32
  let main_v13 : IVec S_ 1 := cmpi .slt main_v12 main_c_2
  let main_v14 : IVec S_ 1 := andi main_v10 main_v13
  main_v14
-- ==== GateKernel.lean ====
abbrev S4096x1024 : Shape := ⟨2, ![4096, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S4096x2816 : Shape := ⟨2, ![4096, 2816]⟩
abbrev S1x256x1024 : Shape := ⟨3, ![1, 256, 1024]⟩
abbrev S4096x256 : Shape := ⟨2, ![4096, 256]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 21
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S4096x1024, .f32⟩
  | .hbm, ⟨5, _⟩ => ⟨S4096x1024, .bf16⟩
  | .hbm, ⟨6, _⟩ => ⟨S4096x1024, .bf16⟩
  | .hbm, ⟨7, _⟩ => ⟨S1024x2816, .f32⟩
  | .hbm, ⟨8, _⟩ => ⟨S2816x1024, .f32⟩
  | .hbm, ⟨9, _⟩ => ⟨S1x2816x1024, .f32⟩
  | .hbm, ⟨10, _⟩ => ⟨S1x2816x1024, .bf16⟩
  | .hbm, ⟨11, _⟩ => ⟨S1024x2816, .f32⟩
  | .hbm, ⟨12, _⟩ => ⟨S2816x1024, .f32⟩
  | .hbm, ⟨13, _⟩ => ⟨S1x2816x1024, .f32⟩
  | .hbm, ⟨14, _⟩ => ⟨S1x2816x1024, .bf16⟩
  | .hbm, ⟨15, _⟩ => ⟨S1x2816x1024, .bf16⟩
  | .hbm, ⟨16, _⟩ => ⟨S4096x2816, .bf16⟩
  | .hbm, ⟨17, _⟩ => ⟨S4096x2816, .bf16⟩
  | .hbm, ⟨18, _⟩ => ⟨S4096x2816, .bf16⟩
  | .hbm, ⟨19, _⟩ => ⟨S4096x2816, .bf16⟩
  | .hbm, ⟨20, _⟩ => ⟨S4096x2816, .bf16⟩
  | .local _ .vmem, ⟨0, _⟩ => ⟨S4096x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S4096x256, .bf16⟩
  | .local _ .vmem, ⟨15, _⟩ => ⟨S4096x256, .bf16⟩
  | .local _ .vmem, ⟨16, _⟩ => ⟨S4096x256, .bf16⟩
  | .local _ .vmem, ⟨17, _⟩ => ⟨S4096x256, .bf16⟩
  | .local _ .vmem, ⟨18, _⟩ => ⟨S4096x256, .bf16⟩
  | .local _ .vmem, ⟨19, _⟩ => ⟨S4096x256, .bf16⟩
  | .local _ .vmem, ⟨20, _⟩ => ⟨S4096x256, .bf16⟩
  | .local _ .vmem, ⟨21, _⟩ => ⟨S4096x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4096x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== GateRefIdeal.lean ====
abbrev S4096x1024 : Shape := ⟨2, ![4096, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S4096x2816 : Shape := ⟨2, ![4096, 2816]⟩
abbrev S_ : Shape := ⟨0, ![]⟩
abbrev S2816x1024 : Shape := ⟨2, ![2816, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S4096x1024, .f32⟩
  | .hbm, ⟨5, _⟩ => ⟨S1024x2816, .f32⟩
  | .hbm, ⟨6, _⟩ => ⟨S4096x2816, .f32⟩
  | .hbm, ⟨7, _⟩ => ⟨S1024x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S2816x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .bf16⟩
  | .hbm, ⟨33, _⟩ => ⟨S4096x2816, .bf16⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_call2_v0 : Ref sig .tc := ⟨.hbm, 34, rfl⟩
abbrev main_call2_v1 : Ref sig .tc := ⟨.hbm, 35, rfl⟩
abbrev main_call2_cst : Ref sig .tc := ⟨.hbm, 36, rfl⟩
abbrev main_call2_v2 : Ref sig .tc := ⟨.hbm, 37, rfl⟩
abbrev main_call2_v3 : Ref sig .tc := ⟨.hbm, 38, rfl⟩
abbrev main_call2_cst_0 : Ref sig .tc := ⟨.hbm, 39, rfl⟩
abbrev main_call2_v4 : Ref sig .tc := ⟨.hbm, 40, rfl⟩
abbrev main_call2_v5 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩

abbrev nD : Nat := 1
abbrev τ : Topo := Topo.v7x

variable {F : FTy → Type} [FloatOps F]
-- ==== SplitKernel.lean ====
abbrev S4096x1024 : Shape := ⟨2, ![4096, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S4096x2816 : Shape := ⟨2, ![4096, 2816]⟩
abbrev S1x256x1024 : Shape := ⟨3, ![1, 256, 1024]⟩
abbrev S4096x256 : Shape := ⟨2, ![4096, 256]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 22
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S4096x1024, .f32⟩
  | .hbm, ⟨5, _⟩ => ⟨S4096x1024, .bf16⟩
  | .hbm, ⟨6, _⟩ => ⟨S4096x1024, .bf16⟩
  | .hbm, ⟨7, _⟩ => ⟨S1024x2816, .f32⟩
  | .hbm, ⟨8, _⟩ => ⟨S2816x1024, .f32⟩
  | .hbm, ⟨9, _⟩ => ⟨S1x2816x1024, .f32⟩
  | .hbm, ⟨10, _⟩ => ⟨S1x2816x1024, .bf16⟩
  | .hbm, ⟨11, _⟩ => ⟨S1024x2816, .f32⟩
  | .hbm, ⟨12, _⟩ => ⟨S2816x1024, .f32⟩
  | .hbm, ⟨13, _⟩ => ⟨S1x2816x1024, .f32⟩
  | .hbm, ⟨14, _⟩ => ⟨S1x2816x1024, .bf16⟩
  | .hbm, ⟨15, _⟩ => ⟨S1x2816x1024, .bf16⟩
  | .hbm, ⟨16, _⟩ => ⟨S4096x2816, .bf16⟩
  | .hbm, ⟨17, _⟩ => ⟨S4096x2816, .bf16⟩
  | .hbm, ⟨18, _⟩ => ⟨S4096x2816, .bf16⟩
  | .hbm, ⟨19, _⟩ => ⟨S4096x2816, .bf16⟩
  | .hbm, ⟨20, _⟩ => ⟨S4096x2816, .bf16⟩
  | .hbm, ⟨21, _⟩ => ⟨S4096x2816, .bf16⟩
  | .local _ .vmem, ⟨0, _⟩ => ⟨S4096x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S4096x256, .bf16⟩
  | .local _ .vmem, ⟨17, _⟩ => ⟨S4096x256, .bf16⟩
  | .local _ .vmem, ⟨18, _⟩ => ⟨S4096x1024, .bf16⟩
  | .local _ .vmem, ⟨19, _⟩ => ⟨S1x256x1024, .bf16⟩
  | .local _ .vmem, ⟨20, _⟩ => ⟨S1x256x1024, .bf16⟩
  | .local _ .vmem, ⟨21, _⟩ => ⟨S4096x256, .bf16⟩
  | .local _ .vmem, ⟨22, _⟩ => ⟨S4096x256, .bf16⟩
  | .local _ .vmem, ⟨23, _⟩ => ⟨S4096x256, .bf16⟩
  | .local _ .vmem, ⟨24, _⟩ => ⟨S4096x256, .bf16⟩
  | .local _ .vmem, ⟨25, _⟩ => ⟨S4096x256, .bf16⟩
  | .local _ .vmem, ⟨26, _⟩ => ⟨S4096x256, .bf16⟩
  | .local _ .vmem, ⟨27, _⟩ => ⟨S4096x256, .bf16⟩
  | .local _ .vmem, ⟨28, _⟩ => ⟨S4096x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v12_0 : Ref sig .tc := ⟨.hbm, 18, rfl⟩
abbrev main_v12_1 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc2_sem5_0 : DmaSem sig := 27
abbrev cc2_sem5_1 : DmaSem sig := 28

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4096x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![11], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1x256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4096x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4096x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== DhKernel.lean ====
abbrev S4096x1024 : Shape := ⟨2, ![4096, 1024]⟩
abbrev S1x1024 : Shape := ⟨2, ![1, 1024]⟩
abbrev S1x1024x2816 : Shape := ⟨3, ![1, 1024, 2816]⟩
abbrev S4096x2816 : Shape := ⟨2, ![4096, 2816]⟩
abbrev S1024x2816 : Shape := ⟨2, ![1024, 2816]⟩
abbrev S2816x1024 : Shape := ⟨2, ![2816, 1024]⟩
abbrev S1x2816x1024 : Shape := ⟨3, ![1, 2816, 1024]⟩
abbrev S_ : Shape := ⟨0, ![]⟩
abbrev S8x128 : Shape := ⟨2, ![8, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 22
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S4096x2816, .bf16⟩
  | .hbm, ⟨8, _⟩ => ⟨S4096x2816, .bf16⟩
  | .hbm, ⟨9, _⟩ => ⟨S1024x2816, .f32⟩
  | .hbm, ⟨10, _⟩ => ⟨S2816x1024, .f32⟩
  | .hbm, ⟨11, _⟩ => ⟨S1x2816x1024, .f32⟩
  | .hbm, ⟨12, _⟩ => ⟨S1x2816x1024, .bf16⟩
  | .hbm, ⟨13, _⟩ => ⟨S1024x2816, .f32⟩
  | .hbm, ⟨14, _⟩ => ⟨S2816x1024, .f32⟩
  | .hbm, ⟨15, _⟩ => ⟨S1x2816x1024, .f32⟩
  | .hbm, ⟨16, _⟩ => ⟨S1x2816x1024, .bf16⟩
  | .hbm, ⟨17, _⟩ => ⟨S_, .f32⟩
  | .hbm, ⟨18, _⟩ => ⟨S8x128, .f32⟩
  | .hbm, ⟨19, _⟩ => ⟨S4096x1024, .f32⟩
  | .hbm, ⟨20, _⟩ => ⟨S4096x1024, .bf16⟩
  | .hbm, ⟨21, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1x2816x1024, .bf16⟩
  | .local _ .vmem, ⟨5, _⟩ => ⟨S1x2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x128, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== DhRefIdeal.lean ====
abbrev S4096x1024 : Shape := ⟨2, ![4096, 1024]⟩
abbrev S1x1024 : Shape := ⟨2, ![1, 1024]⟩
abbrev S1x1024x2816 : Shape := ⟨3, ![1, 1024, 2816]⟩
abbrev S4096x2816 : Shape := ⟨2, ![4096, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1024x2816, .f32⟩
  | .hbm, ⟨29, _⟩ => ⟨S4096x2816, .f32⟩
  | .hbm, ⟨30, _⟩ => ⟨S1024x2816, .f32⟩
  | .hbm, ⟨31, _⟩ => ⟨S4096x2816, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | .hbm, ⟨62, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== MixKernel.lean ====
abbrev S4096x1024 : Shape := ⟨2, ![4096, 1024]⟩
abbrev S1x1024 : Shape := ⟨2, ![1, 1024]⟩
abbrev S1x1024x3088 : Shape := ⟨3, ![1, 1024, 3088]⟩
abbrev S4096x3088 : Shape := ⟨2, ![4096, 3088]⟩
abbrev S_ : Shape := ⟨0, ![]⟩
abbrev S4096x3200 : Shape := ⟨2, ![4096, 3200]⟩
abbrev S1024x3088 : Shape := ⟨2, ![1024, 3088]⟩
abbrev S3088x1024 : Shape := ⟨2, ![3088, 1024]⟩
abbrev S3200x1024 : Shape := ⟨2, ![3200, 1024]⟩
abbrev S1x3200x1024 : Shape := ⟨3, ![1, 3200, 1024]⟩
abbrev S8x128 : Shape := ⟨2, ![8, 128]⟩
abbrev S512x3200 : Shape := ⟨2, ![512, 3200]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 21
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x3088, .f32⟩
  | .hbm, ⟨3, _⟩ => ⟨S4096x3088, .f32⟩
  | .hbm, ⟨4, _⟩ => ⟨S4096x1024, .f32⟩
  | .hbm, ⟨5, _⟩ => ⟨S_, .i32⟩
  | .hbm, ⟨6, _⟩ => ⟨S_, .f32⟩
  | .hbm, ⟨7, _⟩ => ⟨S4096x3200, .f32⟩
  | .hbm, ⟨8, _⟩ => ⟨S4096x3200, .bf16⟩
  | .hbm, ⟨9, _⟩ => ⟨S1024x3088, .f32⟩
  | .hbm, ⟨10, _⟩ => ⟨S3088x1024, .f32⟩
  | .hbm, ⟨11, _⟩ => ⟨S_, .i32⟩
  | .hbm, ⟨12, _⟩ => ⟨S_, .f32⟩
  | .hbm, ⟨13, _⟩ => ⟨S3200x1024, .f32⟩
  | .hbm, ⟨14, _⟩ => ⟨S3200x1024, .bf16⟩
  | .hbm, ⟨15, _⟩ => ⟨S1x3200x1024, .bf16⟩
  | .hbm, ⟨16, _⟩ => ⟨S_, .f32⟩
  | .hbm, ⟨17, _⟩ => ⟨S8x128, .f32⟩
  | .hbm, ⟨18, _⟩ => ⟨S4096x1024, .f32⟩
  | .hbm, ⟨19, _⟩ => ⟨S4096x1024, .bf16⟩
  | .hbm, ⟨20, _⟩ => ⟨S1x1024, .f32⟩
  | .local _ .vmem, ⟨0, _⟩ => ⟨S512x3200, .bf16⟩
  | .local _ .vmem, ⟨1, _⟩ => ⟨S512x3200, .bf16⟩
  | .local _ .vmem, ⟨2, _⟩ => ⟨S1x3200x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S8x128, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MixRefIdeal.lean ====
abbrev S4096x1024 : Shape := ⟨2, ![4096, 1024]⟩
abbrev S1x1024 : Shape := ⟨2, ![1, 1024]⟩
abbrev S1x1024x3088 : Shape := ⟨3, ![1, 1024, 3088]⟩
abbrev S4096x3088 : Shape := ⟨2, ![4096, 3088]⟩
abbrev S_ : Shape := ⟨0, ![]⟩
abbrev S1024 : Shape := ⟨1, ![1024]⟩
abbrev S4096 : Shape := ⟨1, ![4096]⟩
abbrev S4096x1 : Shape := ⟨2, ![4096, 1]⟩
abbrev S1024x3088 : Shape := ⟨2, ![1024, 3088]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x3088, .f32⟩
  | .hbm, ⟨3, _⟩ => ⟨S4096x3088, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1024x3088, .f32⟩
  | .hbm, ⟨33, _⟩ => ⟨S4096x3088, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | .hbm, ⟨62, _⟩ => ⟨S4096x1024, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== LossKernel.lean ====
abbrev S4096x1024 : Shape := ⟨2, ![4096, 1024]⟩
abbrev S4096x2816 : Shape := ⟨2, ![4096, 2816]⟩
abbrev S1x2816x1024 : Shape := ⟨3, ![1, 2816, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S2816x1024 : Shape := ⟨2, ![2816, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 12
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S1x2816x1024, .f32⟩
  | .hbm, ⟨3, _⟩ => ⟨S1024, .f32⟩
  | .hbm, ⟨4, _⟩ => ⟨S4096x1024, .f32⟩
  | .hbm, ⟨5, _⟩ => ⟨S4096x2816, .bf16⟩
  | .hbm, ⟨6, _⟩ => ⟨S1x2816x1024, .bf16⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S1x1024, .f32⟩
  | .hbm, ⟨11, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S4096x1024 : Shape := ⟨2, ![4096, 1024]⟩
abbrev S4096x2816 : Shape := ⟨2, ![4096, 2816]⟩
abbrev S1x2816x1024 : Shape := ⟨3, ![1, 2816, 1024]⟩
abbrev S1024 : Shape := ⟨1, ![1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S1x2816x1024, .f32⟩
  | .hbm, ⟨3, _⟩ => ⟨S1024, .f32⟩
  | .hbm, ⟨4, _⟩ => ⟨S4096x1024, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096x1024, .f32⟩
  | .hbm, ⟨81, _⟩ => ⟨S4096x1024, .f32⟩
  | .hbm, ⟨82, _⟩ => ⟨S4096x1024, .bf16⟩
  | .hbm, ⟨83, _⟩ => ⟨S1x1024, .f32⟩
  | .hbm, ⟨84, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_cst_9 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_cst_11 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_cst_16 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_17 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== NormKernel.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== DownKernel.lean ====
abbrev S4096x1024 : Shape := ⟨2, ![4096, 1024]⟩
abbrev S4096x2816 : Shape := ⟨2, ![4096, 2816]⟩
abbrev S1x2816x1024 : Shape := ⟨3, ![1, 2816, 1024]⟩
abbrev S1x1024 : Shape := ⟨2, ![1, 1024]⟩
abbrev S512x2816 : Shape := ⟨2, ![512, 2816]⟩
abbrev S512x1024 : Shape := ⟨2, ![512, 1024]⟩
abbrev S2816x1024 : Shape := ⟨2, ![2816, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S1x2816x1024, .f32⟩
  | .hbm, ⟨3, _⟩ => ⟨S1x1024, .f32⟩
  | .hbm, ⟨4, _⟩ => ⟨S4096x2816, .bf16⟩
  | .hbm, ⟨5, _⟩ => ⟨S1x2816x1024, .bf16⟩
  | .hbm, ⟨6, _⟩ => ⟨S4096x1024, .f32⟩
  | .hbm, ⟨7, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S4096x1024 : Shape := ⟨2, ![4096, 1024]⟩
abbrev S4096x2816 : Shape := ⟨2, ![4096, 2816]⟩
abbrev S1x2816x1024 : Shape := ⟨3, ![1, 2816, 1024]⟩
abbrev S1x1024 : Shape := ⟨2, ![1, 1024]⟩
abbrev S2816x1024 : Shape := ⟨2, ![2816, 1024]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S1x2816x1024, .f32⟩
  | .hbm, ⟨3, _⟩ => ⟨S1x1024, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== ProjKernel.lean ====
abbrev S4096x1024 : Shape := ⟨2, ![4096, 1024]⟩
abbrev S1x1024x3200 : Shape := ⟨3, ![1, 1024, 3200]⟩
abbrev S1024x3200 : Shape := ⟨2, ![1024, 3200]⟩
abbrev S3200x1024 : Shape := ⟨2, ![3200, 1024]⟩
abbrev S1x3200x1024 : Shape := ⟨3, ![1, 3200, 1024]⟩
abbrev S4096x3200 : Shape := ⟨2, ![4096, 3200]⟩
abbrev S1x640x1024 : Shape := ⟨3, ![1, 640, 1024]⟩
abbrev S4096x640 : Shape := ⟨2, ![4096, 640]⟩
abbrev S1024x1024 : Shape := ⟨2, ![1024, 1024]⟩
abbrev S640x1024 : Shape := ⟨2, ![640, 1024]⟩
abbrev S1024x640 : Shape := ⟨2, ![1024, 640]⟩

abbrev nBuf : Space → Nat
  | .hbm => 8
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024x3200, .f32⟩
  | .hbm, ⟨2, _⟩ => ⟨S1024x3200, .f32⟩
  | .hbm, ⟨3, _⟩ => ⟨S3200x1024, .f32⟩
  | .hbm, ⟨4, _⟩ => ⟨S3200x1024, .bf16⟩
  | .hbm, ⟨5, _⟩ => ⟨S1x3200x1024, .bf16⟩
  | .hbm, ⟨6, _⟩ => ⟨S4096x1024, .bf16⟩
  | .hbm, ⟨7, _⟩ => ⟨S4096x3200, .bf16⟩
  | .local _ .vmem, ⟨0, _⟩ => ⟨S4096x1024, .bf16⟩
  | .local _ .vmem, ⟨1, _⟩ => ⟨S1x640x1024, .bf16⟩
  | .local _ .vmem, ⟨2, _⟩ => ⟨S1x640x1024, .bf16⟩
  | .local _ .vmem, ⟨3, _⟩ => ⟨S4096x640, .bf16⟩
  | .local _ .vmem, ⟨4, _⟩ => ⟨S4096x640, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjRefIdeal.lean ====
abbrev S4096x1024 : Shape := ⟨2, ![4096, 1024]⟩
abbrev S1x1024x3200 : Shape := ⟨3, ![1, 1024, 3200]⟩
abbrev S1024x3200 : Shape := ⟨2, ![1024, 3200]⟩
abbrev S4096x3200 : Shape := ⟨2, ![4096, 3200]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x3200, .f32⟩
  | .hbm, ⟨2, _⟩ => ⟨S1024x3200, .f32⟩
  | .hbm, ⟨3, _⟩ => ⟨S4096x3200, .f32⟩
  | .hbm, ⟨4, _⟩ => ⟨S4096x3200, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwinKernel.lean ====
abbrev S4096x1024 : Shape := ⟨2, ![4096, 1024]⟩
abbrev S4096x3200 : Shape := ⟨2, ![4096, 3200]⟩
abbrev S3200x1024 : Shape := ⟨2, ![3200, 1024]⟩
abbrev S2048x640 : Shape := ⟨2, ![2048, 640]⟩
abbrev S2048x1024 : Shape := ⟨2, ![2048, 1024]⟩
abbrev S640x1024 : Shape := ⟨2, ![640, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3200, .f32⟩
  | .hbm, ⟨2, _⟩ => ⟨S4096x3200, .bf16⟩
  | .hbm, ⟨3, _⟩ => ⟨S4096x1024, .bf16⟩
  | .hbm, ⟨4, _⟩ => ⟨S3200x1024, .bf16⟩
  | .local _ .vmem, ⟨0, _⟩ => ⟨S2048x640, .bf16⟩
  | .local _ .vmem, ⟨1, _⟩ => ⟨S2048x640, .bf16⟩
  | .local _ .vmem, ⟨2, _⟩ => ⟨S2048x1024, .bf16⟩
  | .local _ .vmem, ⟨3, _⟩ => ⟨S2048x1024, .bf16⟩
  | .local _ .vmem, ⟨4, _⟩ => ⟨S640x1024, .bf16⟩
  | .local _ .vmem, ⟨5, _⟩ => ⟨S640x1024, .bf16⟩
  | .local _ .vmem, ⟨6, _⟩ => ⟨S640x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinRefIdeal.lean ====
abbrev S4096x1024 : Shape := ⟨2, ![4096, 1024]⟩
abbrev S4096x3200 : Shape := ⟨2, ![4096, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3200, .f32⟩
  | .hbm, ⟨2, _⟩ => ⟨S_, .f32⟩
  | .hbm, ⟨3, _⟩ => ⟨S1024x3200, .f32⟩
  | .hbm, ⟨4, _⟩ => ⟨S4096x3200, .f32⟩
  | .hbm, ⟨5, _⟩ => ⟨S3200x1024, .f32⟩
  | .hbm, ⟨6, _⟩ => ⟨S1024x3200, .f32⟩
  | .hbm, ⟨7, _⟩ => ⟨S3200x1024, .f32⟩
  | .hbm, ⟨8, _⟩ => ⟨S3200x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdamKernel.lean ====
abbrev S1x1024x386 : Shape := ⟨3, ![1, 1024, 386]⟩
abbrev S386x1x1024 : Shape := ⟨3, ![386, 1, 1024]⟩
abbrev S193x1x1024 : Shape := ⟨3, ![193, 1, 1024]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x386, .f32⟩
  | .hbm, ⟨1, _⟩ => ⟨S1x1024x386, .f32⟩
  | .hbm, ⟨2, _⟩ => ⟨S1x1024x386, .f32⟩
  | .hbm, ⟨3, _⟩ => ⟨S1x1024x386, .f32⟩
  | .hbm, ⟨4, _⟩ => ⟨S386x1x1024, .f32⟩
  | .hbm, ⟨5, _⟩ => ⟨S386x1x1024, .f32⟩
  | .hbm, ⟨6, _⟩ => ⟨S386x1x1024, .f32⟩
  | .hbm, ⟨7, _⟩ => ⟨S386x1x1024, .f32⟩
  | .hbm, ⟨8, _⟩ => ⟨S386x1x1024, .f32⟩
  | .hbm, ⟨9, _⟩ => ⟨S386x1x1024, .f32⟩
  | .hbm, ⟨10, _⟩ => ⟨S386x1x1024, .f32⟩
  | .local _ .vmem, ⟨0, _⟩ => ⟨S193x1x1024, .f32⟩
  | .local _ .vmem, ⟨1, _⟩ => ⟨S193x1x1024, .f32⟩
  | .local _ .vmem, ⟨2, _⟩ => ⟨S193x1x1024, .f32⟩
  | .local _ .vmem, ⟨3, _⟩ => ⟨S193x1x1024, .f32⟩
  | .local _ .vmem, ⟨4, _⟩ => ⟨S193x1x1024, .f32⟩
  | .local _ .vmem, ⟨5, _⟩ => ⟨S193x1x1024, .f32⟩
  | .local _ .vmem, ⟨6, _⟩ => ⟨S193x1x1024, .f32⟩
  | .local _ .vmem, ⟨7, _⟩ => ⟨S193x1x1024, .f32⟩
  | .local _ .vmem, ⟨8, _⟩ => ⟨S193x1x1024, .f32⟩
  | .local _ .vmem, ⟨9, _⟩ => ⟨S193x1x1024, .f32⟩
  | .local _ .vmem, ⟨10, _⟩ => ⟨S193x1x1024, .f32⟩
  | .local _ .vmem, ⟨11, _⟩ => ⟨S193x1x1024, .f32⟩
  | .local _ .vmem, ⟨12, _⟩ => ⟨S193x1x1024, .f32⟩
  | .local _ .vmem, ⟨13, _⟩ => ⟨S193x1x1024, .f32⟩
  | _, _ => ⟨S1x1024x386, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S193x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S193x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S193x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S193x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S193x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S193x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S193x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S1x1024x386 : Shape := ⟨3, ![1, 1024, 386]⟩
abbrev S_ : Shape := ⟨0, ![]⟩
abbrev S386x1x1024 : Shape := ⟨3, ![386, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x386, .f32⟩
  | .hbm, ⟨1, _⟩ => ⟨S1x1024x386, .f32⟩
  | .hbm, ⟨2, _⟩ => ⟨S1x1024x386, .f32⟩
  | .hbm, ⟨3, _⟩ => ⟨S1x1024x386, .f32⟩
  | .hbm, ⟨4, _⟩ => ⟨S_, .f32⟩
  | .hbm, ⟨5, _⟩ => ⟨S1x1024x386, .f32⟩
  | .hbm, ⟨6, _⟩ => ⟨S1x1024x386, .f32⟩
  | .hbm, ⟨7, _⟩ => ⟨S_, .f32⟩
  | .hbm, ⟨8, _⟩ => ⟨S1x1024x386, .f32⟩
  | .hbm, ⟨9, _⟩ => ⟨S1x1024x386, .f32⟩
  | .hbm, ⟨10, _⟩ => ⟨S1x1024x386, .f32⟩
  | .hbm, ⟨11, _⟩ => ⟨S_, .f32⟩
  | .hbm, ⟨12, _⟩ => ⟨S1x1024x386, .f32⟩
  | .hbm, ⟨13, _⟩ => ⟨S1x1024x386, .f32⟩
  | .hbm, ⟨14, _⟩ => ⟨S1x1024x386, .f32⟩
  | .hbm, ⟨15, _⟩ => ⟨S_, .f32⟩
  | .hbm, ⟨16, _⟩ => ⟨S1x1024x386, .f32⟩
  | .hbm, ⟨17, _⟩ => ⟨S1x1024x386, .f32⟩
  | .hbm, ⟨18, _⟩ => ⟨S1x1024x386, .f32⟩
  | .hbm, ⟨19, _⟩ => ⟨S_, .f32⟩
  | .hbm, ⟨20, _⟩ => ⟨S1x1024x386, .f32⟩
  | .hbm, ⟨21, _⟩ => ⟨S1x1024x386, .f32⟩
  | .hbm, ⟨22, _⟩ => ⟨S_, .f32⟩
  | .hbm, ⟨23, _⟩ => ⟨S1x1024x386, .f32⟩
  | .hbm, ⟨24, _⟩ => ⟨S1x1024x386, .f32⟩
  | .hbm, ⟨25, _⟩ => ⟨S1x1024x386, .f32⟩
  | .hbm, ⟨26, _⟩ => ⟨S_, .f32⟩
  | .hbm, ⟨27, _⟩ => ⟨S1x1024x386, .f32⟩
  | .hbm, ⟨28, _⟩ => ⟨S1x1024x386, .f32⟩
  | .hbm, ⟨29, _⟩ => ⟨S1x1024x386, .f32⟩
  | .hbm, ⟨30, _⟩ => ⟨S_, .f32⟩
  | .hbm, ⟨31, _⟩ => ⟨S1x1024x386, .f32⟩
  | .hbm, ⟨32, _⟩ => ⟨S1x1024x386, .f32⟩
  | .hbm, ⟨33, _⟩ => ⟨S1x1024x386, .f32⟩
  | .hbm, ⟨34, _⟩ => ⟨S_, .f32⟩
  | .hbm, ⟨35, _⟩ => ⟨S1x1024x386, .f32⟩
  | .hbm, ⟨36, _⟩ => ⟨S1x1024x386, .f32⟩
  | .hbm, ⟨37, _⟩ => ⟨S386x1x1024, .f32⟩
  | .hbm, ⟨38, _⟩ => ⟨S386x1x1024, .f32⟩
  | .hbm, ⟨39, _⟩ => ⟨S386x1x1024, .f32⟩
  | _, _ => ⟨S1x1024x386, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== SmallKernel.lean ====
abbrev S8x80x128 : Shape := ⟨3, ![8, 80, 128]⟩
abbrev S640x128 : Shape := ⟨2, ![640, 128]⟩
abbrev S80x128 : Shape := ⟨2, ![80, 128]⟩

abbrev nBuf : Space → Nat
  | .hbm => 3
  | .vmem => 2
  | .smem => 0
  | _ => 0

abbrev bufTy : (tb : Table) → Fin (tcTables nBuf tb) → BufTy
  | .hbm, ⟨0, _⟩ => ⟨S8x80x128, .f32⟩
  | .hbm, ⟨1, _⟩ => ⟨S640x128, .f32⟩
  | .hbm, ⟨2, _⟩ => ⟨S80x128, .f32⟩
  | .local _ .vmem, ⟨0, _⟩ => ⟨S640x128, .f32⟩
  | .local _ .vmem, ⟨1, _⟩ => ⟨S80x128, .f32⟩
  | _, _ => ⟨S8x80x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S640x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S80x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SmallRefIdeal.lean ====
abbrev S8x80x128 : Shape := ⟨3, ![8, 80, 128]⟩
abbrev S_ : Shape := ⟨0, ![]⟩
abbrev S80x128 : Shape := ⟨2, ![80, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x80x128, .f32⟩
  | .hbm, ⟨1, _⟩ => ⟨S_, .f32⟩
  | .hbm, ⟨2, _⟩ => ⟨S80x128, .f32⟩
  | _, _ => ⟨S8x80x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OwnerKernel.lean ====
abbrev S2 : Shape := ⟨1, ![2]⟩
abbrev S4x2x352x1024 : Shape := ⟨4, ![4, 2, 352, 1024]⟩
abbrev S7x352x1024 : Shape := ⟨3, ![7, 352, 1024]⟩
abbrev S352x1024 : Shape := ⟨2, ![352, 1024]⟩
abbrev S1x1x352x1024 : Shape := ⟨4, ![1, 1, 352, 1024]⟩
abbrev S1 : Shape := ⟨1, ![1]⟩
abbrev S3 : Shape := ⟨1, ![3]⟩
abbrev S_ : Shape := ⟨0, ![]⟩
abbrev S1x352x1024 : Shape := ⟨3, ![1, 352, 1024]⟩

abbrev nBuf : Space → Nat
  | .hbm => 9
  | .vmem => 9
  | .smem => 1
  | _ => 0

abbrev bufTy : (tb : Table) → Fin (tcTables nBuf tb) → BufTy
  | .hbm, ⟨0, _⟩ => ⟨S4x2x352x1024, .bf16⟩
  | .hbm, ⟨1, _⟩ => ⟨S7x352x1024, .bf16⟩
  | .hbm, ⟨2, _⟩ => ⟨S4x2x352x1024, .bf16⟩
  | .hbm, ⟨3, _⟩ => ⟨S7x352x1024, .bf16⟩
  | .hbm, ⟨4, _⟩ => ⟨S4x2x352x1024, .bf16⟩
  | .hbm, ⟨5, _⟩ => ⟨S7x352x1024, .bf16⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S1x1x352x1024, .bf16⟩
  | .local _ .vmem, ⟨1, _⟩ => ⟨S1x1x352x1024, .bf16⟩
  | .local _ .vmem, ⟨2, _⟩ => ⟨S1x1x352x1024, .bf16⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S7x352x1024, .bf16⟩
  | .local _ .vmem, ⟨7, _⟩ => ⟨S7x352x1024, .bf16⟩
  | .local _ .vmem, ⟨8, _⟩ => ⟨S7x352x1024, .bf16⟩
  | .local _ .smem, ⟨0, _⟩ => ⟨S2, .i32⟩
  | _, _ => ⟨S4x2x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  let c0_i32_0 : BitVec 32 := 0#32
  let c0_i32_1 : BitVec 32 := 0#32
  ![v0.toNat, v1.toNat, c0_i32.toNat, c0_i32_0.toNat]

def cc0_transform_2 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  let c0_i32_0 : BitVec 32 := 0#32
  let c0_i32_1 : BitVec 32 := 0#32
  ![v0.toNat, v1.toNat, c0_i32.toNat, c0_i32_0.toNat]

def cc0_transform_4 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  let c0_i32_0 : BitVec 32 := 0#32
  let c0_i32_1 : BitVec 32 := 0#32
  ![v0.toNat, v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== OwnerRefIdeal.lean ====
abbrev S2 : Shape := ⟨1, ![2]⟩
abbrev S4x2x352x1024 : Shape := ⟨4, ![4, 2, 352, 1024]⟩
abbrev S7x352x1024 : Shape := ⟨3, ![7, 352, 1024]⟩
abbrev S4 : Shape := ⟨1, ![4]⟩
abbrev S4x1 : Shape := ⟨2, ![4, 1]⟩
abbrev S1 : Shape := ⟨1, ![1]⟩
abbrev S_ : Shape := ⟨0, ![]⟩
abbrev S1x2 : Shape := ⟨2, ![1, 2]⟩
abbrev S4x2 : Shape := ⟨2, ![4, 2]⟩
abbrev S4x2x1x1 : Shape := ⟨4, ![4, 2, 1, 1]⟩
abbrev S2x352x1024 : Shape := ⟨3, ![2, 352, 1024]⟩
abbrev S352x1024 : Shape := ⟨2, ![352, 1024]⟩

abbrev nBuf : Space → Nat
  | .hbm => 65
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x2x352x1024, .bf16⟩
  | .hbm, ⟨2, _⟩ => ⟨S7x352x1024, .bf16⟩
  | .hbm, ⟨3, _⟩ => ⟨S4x2x352x1024, .bf16⟩
  | .hbm, ⟨4, _⟩ => ⟨S7x352x1024, .bf16⟩
  | .hbm, ⟨5, _⟩ => ⟨S4x2x352x1024, .bf16⟩
  | .hbm, ⟨6, _⟩ => ⟨S7x352x1024, .bf16⟩
  | .hbm, ⟨7, _⟩ => ⟨S4, .i32⟩
  | .hbm, ⟨8, _⟩ => ⟨S4x1, .i32⟩
  | .hbm, ⟨9, _⟩ => ⟨S1, .i32⟩
  | .hbm, ⟨10, _⟩ => ⟨S_, .i32⟩
  | .hbm, ⟨11, _⟩ => ⟨S4x1, .i32⟩
  | .hbm, ⟨12, _⟩ => ⟨S4x1, .i1⟩
  | .hbm, ⟨13, _⟩ => ⟨S2, .i32⟩
  | .hbm, ⟨14, _⟩ => ⟨S1x2, .i32⟩
  | .hbm, ⟨15, _⟩ => ⟨S1, .i32⟩
  | .hbm, ⟨16, _⟩ => ⟨S_, .i32⟩
  | .hbm, ⟨17, _⟩ => ⟨S1x2, .i32⟩
  | .hbm, ⟨18, _⟩ => ⟨S1x2, .i1⟩
  | .hbm, ⟨19, _⟩ => ⟨S4x2, .i1⟩
  | .hbm, ⟨20, _⟩ => ⟨S4x2, .i1⟩
  | .hbm, ⟨21, _⟩ => ⟨S4x2, .i1⟩
  | .hbm, ⟨22, _⟩ => ⟨S4x2x1x1, .i1⟩
  | .hbm, ⟨23, _⟩ => ⟨S4x2x352x1024, .f32⟩
  | .hbm, ⟨24, _⟩ => ⟨S_, .f32⟩
  | .hbm, ⟨25, _⟩ => ⟨S_, .f32⟩
  | .hbm, ⟨26, _⟩ => ⟨S4x2x352x1024, .i1⟩
  | .hbm, ⟨27, _⟩ => ⟨S4x2x352x1024, .f32⟩
  | .hbm, ⟨28, _⟩ => ⟨S4x2x352x1024, .f32⟩
  | .hbm, ⟨29, _⟩ => ⟨S_, .f32⟩
  | .hbm, ⟨30, _⟩ => ⟨S2x352x1024, .f32⟩
  | .hbm, ⟨31, _⟩ => ⟨S_, .f32⟩
  | .hbm, ⟨32, _⟩ => ⟨S352x1024, .f32⟩
  | .hbm, ⟨33, _⟩ => ⟨S7x352x1024, .f32⟩
  | .hbm, ⟨34, _⟩ => ⟨S_, .f32⟩
  | .hbm, ⟨35, _⟩ => ⟨S352x1024, .f32⟩
  | .hbm, ⟨36, _⟩ => ⟨S352x1024, .f32⟩
  | .hbm, ⟨37, _⟩ => ⟨S4x2x352x1024, .f32⟩
  | .hbm, ⟨38, _⟩ => ⟨S_, .f32⟩
  | .hbm, ⟨39, _⟩ => ⟨S_, .f32⟩
  | .hbm, ⟨40, _⟩ => ⟨S4x2x352x1024, .i1⟩
  | .hbm, ⟨41, _⟩ => ⟨S4x2x352x1024, .f32⟩
  | .hbm, ⟨42, _⟩ => ⟨S4x2x352x1024, .f32⟩
  | .hbm, ⟨43, _⟩ => ⟨S_, .f32⟩
  | .hbm, ⟨44, _⟩ => ⟨S2x352x1024, .f32⟩
  | .hbm, ⟨45, _⟩ => ⟨S_, .f32⟩
  | .hbm, ⟨46, _⟩ => ⟨S352x1024, .f32⟩
  | .hbm, ⟨47, _⟩ => ⟨S7x352x1024, .f32⟩
  | .hbm, ⟨48, _⟩ => ⟨S_, .f32⟩
  | .hbm, ⟨49, _⟩ => ⟨S352x1024, .f32⟩
  | .hbm, ⟨50, _⟩ => ⟨S352x1024, .f32⟩
  | .hbm, ⟨51, _⟩ => ⟨S4x2x352x1024, .f32⟩
  | .hbm, ⟨52, _⟩ => ⟨S_, .f32⟩
  | .hbm, ⟨53, _⟩ => ⟨S_, .f32⟩
  | .hbm, ⟨54, _⟩ => ⟨S4x2x352x1024, .i1⟩
  | .hbm, ⟨55, _⟩ => ⟨S4x2x352x1024, .f32⟩
  | .hbm, ⟨56, _⟩ => ⟨S4x2x352x1024, .f32⟩
  | .hbm, ⟨57, _⟩ => ⟨S_, .f32⟩
  | .hbm, ⟨58, _⟩ => ⟨S2x352x1024, .f32⟩
  | .hbm, ⟨59, _⟩ => ⟨S_, .f32⟩
  | .hbm, ⟨60, _⟩ => ⟨S352x1024, .f32⟩
  | .hbm, ⟨61, _⟩ => ⟨S7x352x1024, .f32⟩
  | .hbm, ⟨62, _⟩ => ⟨S_, .f32⟩
  | .hbm, ⟨63, _⟩ => ⟨S352x1024, .f32⟩
  | .hbm, ⟨64, _⟩ => ⟨S352x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v31 : Ref sig .tc := ⟨.hbm, 56, rfl⟩
abbrev main_cst_8 : Ref sig .tc := ⟨.hbm, 57, rfl⟩
abbrev main_v32 : Ref sig .tc := ⟨.hbm, 58, rfl⟩
abbrev main_cst_9 : Ref sig .tc := ⟨.hbm, 59, rfl⟩
abbrev main_v33 : Ref sig .tc := ⟨.hbm, 60, rfl⟩
abbrev main_v34 : Ref sig .tc := ⟨.hbm, 61, rfl⟩
abbrev main_cst_10 : Ref sig .tc := ⟨.hbm, 62, rfl⟩
abbrev main_v35 : Ref sig .tc := ⟨.hbm, 63, rfl⟩
abbrev main_v36 : Ref sig .tc := ⟨.hbm, 64, rfl⟩

abbrev nD : Nat := 1
abbrev τ : Topo := Topo.v7x

variable {F : FTy → Type} [FloatOps F]
-- ==== AttnKernel.lean ====
abbrev S1x4096x3088 : Shape := ⟨3, ![1, 4096, 3088]⟩
abbrev S1x512 : Shape := ⟨2, ![1, 512]⟩
abbrev S1x16x256 : Shape := ⟨3, ![1, 16, 256]⟩
abbrev S1x256 : Shape := ⟨2, ![1, 256]⟩
abbrev S1x1024x1024 : Shape := ⟨3, ![1, 1024, 1024]⟩
abbrev S4096x1024 : Shape := ⟨2, ![4096, 1024]⟩
abbrev S1x1024 : Shape := ⟨2, ![1, 1024]⟩
abbrev S4096x3088 : Shape := ⟨2, ![4096, 3088]⟩
abbrev S_ : Shape := ⟨0, ![]⟩
abbrev S4096x3200 : Shape := ⟨2, ![4096, 3200]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S4 : Shape := ⟨1, ![4]⟩
abbrev S4x64 : Shape := ⟨2, ![4, 64]⟩
abbrev S256 : Shape := ⟨1, ![256]⟩
abbrev S16x256 : Shape := ⟨2, ![16, 256]⟩
abbrev S128x256 : Shape := ⟨2, ![128, 256]⟩
abbrev S1024x1024 : Shape := ⟨2, ![1024, 1024]⟩
abbrev S16x2x512x256 : Shape := ⟨4, ![16, 2, 512, 256]⟩
abbrev S256x3200 : Shape := ⟨2, ![256, 3200]⟩
abbrev S256x128 : Shape := ⟨2, ![256, 128]⟩
abbrev S256x1024 : Shape := ⟨2, ![256, 1024]⟩
abbrev S1x2x512x256 : Shape := ⟨4, ![1, 2, 512, 256]⟩
abbrev S2x512x256 : Shape := ⟨3, ![2, 512, 256]⟩
abbrev S256x256 : Shape := ⟨2, ![256, 256]⟩
abbrev S512x256 : Shape := ⟨2, ![512, 256]⟩
abbrev S256x512 : Shape := ⟨2, ![256, 512]⟩
abbrev S1x512x256 : Shape := ⟨3, ![1, 512, 256]⟩
abbrev S1x1x512x256 : Shape := ⟨4, ![1, 1, 512, 256]⟩
abbrev S1024x256 : Shape := ⟨2, ![1024, 256]⟩
abbrev S256x1 : Shape := ⟨2, ![256, 1]⟩
abbrev S1x128 : Shape := ⟨2, ![1, 128]⟩

abbrev nBuf : Space → Nat
  | .hbm => 66
  | .vmem => 26
  | .smem => 0
  | _ => 0

abbrev bufTy : (tb : Table) → Fin (tcTables nBuf tb) → BufTy
  | .hbm, ⟨0, _⟩ => ⟨S1x4096x3088, .f32⟩
  | .hbm, ⟨1, _⟩ => ⟨S1x512, .f32⟩
  | .hbm, ⟨2, _⟩ => ⟨S1x16x256, .f32⟩
  | .hbm, ⟨3, _⟩ => ⟨S1x256, .f32⟩
  | .hbm, ⟨4, _⟩ => ⟨S1x512, .f32⟩
  | .hbm, ⟨5, _⟩ => ⟨S1x1024x1024, .f32⟩
  | .hbm, ⟨6, _⟩ => ⟨S4096x1024, .f32⟩
  | .hbm, ⟨7, _⟩ => ⟨S1x1024, .f32⟩
  | .hbm, ⟨8, _⟩ => ⟨S4096x3088, .f32⟩
  | .hbm, ⟨9, _⟩ => ⟨S_, .i32⟩
  | .hbm, ⟨10, _⟩ => ⟨S_, .f32⟩
  | .hbm, ⟨11, _⟩ => ⟨S4096x3200, .f32⟩
  | .hbm, ⟨12, _⟩ => ⟨S4096x3200, .bf16⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S4096, .f32⟩
  | .hbm, ⟨25, _⟩ => ⟨S4096x1, .f32⟩
  | .hbm, ⟨26, _⟩ => ⟨S1x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x64, .f32⟩
  | .hbm, ⟨33, _⟩ => ⟨S4096x32, .f32⟩
  | .hbm, ⟨34, _⟩ => ⟨S4096x64, .f32⟩
  | .hbm, ⟨35, _⟩ => ⟨S1x4096x1x64, .f32⟩
  | .hbm, ⟨36, _⟩ => ⟨S1x4096x2x64, .f32⟩
  | .hbm, ⟨37, _⟩ => ⟨S4096x128, .f32⟩
  | .hbm, ⟨38, _⟩ => ⟨S1x4096x1x64, .f32⟩
  | .hbm, ⟨39, _⟩ => ⟨S1x4096x2x64, .f32⟩
  | .hbm, ⟨40, _⟩ => ⟨S4096x128, .f32⟩
  | .hbm, ⟨41, _⟩ => ⟨S4, .f32⟩
  | .hbm, ⟨42, _⟩ => ⟨S_, .f32⟩
  | .hbm, ⟨43, _⟩ => ⟨S4, .f32⟩
  | .hbm, ⟨44, _⟩ => ⟨S4, .f32⟩
  | .hbm, ⟨45, _⟩ => ⟨S_, .f32⟩
  | .hbm, ⟨46, _⟩ => ⟨S4, .f32⟩
  | .hbm, ⟨47, _⟩ => ⟨S4, .f32⟩
  | .hbm, ⟨48, _⟩ => ⟨S_, .f32⟩
  | .hbm, ⟨49, _⟩ => ⟨S4, .f32⟩
  | .hbm, ⟨50, _⟩ => ⟨S4, .f32⟩
  | .hbm, ⟨51, _⟩ => ⟨S4, .f32⟩
  | .hbm, ⟨52, _⟩ => ⟨S4x64, .f32⟩
  | .hbm, ⟨53, _⟩ => ⟨S256, .f32⟩
  | .hbm, ⟨54, _⟩ => ⟨S1x256, .f32⟩
  | .hbm, ⟨55, _⟩ => ⟨S16x256, .f32⟩
  | .hbm, ⟨56, _⟩ => ⟨S_, .i32⟩
  | .hbm, ⟨57, _⟩ => ⟨S_, .f32⟩
  | .hbm, ⟨58, _⟩ => ⟨S128x256, .f32⟩
  | .hbm, ⟨59, _⟩ => ⟨S1024x1024, .f32⟩
  | .hbm, ⟨60, _⟩ => ⟨S1024x1024, .bf16⟩
  | .hbm, ⟨61, _⟩ => ⟨S4096x1024, .f32⟩
  | .hbm, ⟨62, _⟩ => ⟨S4096x1024, .bf16⟩
  | .hbm, ⟨63, _⟩ => ⟨S16x2x512x256, .f32⟩
  | .hbm, ⟨64, _⟩ => ⟨S4096x1024, .f32⟩
  | .hbm, ⟨65, _⟩ => ⟨S4096x1024, .bf16⟩
  | .local _ .vmem, ⟨0, _⟩ => ⟨S256x3200, .bf16⟩
  | .local _ .vmem, ⟨1, _⟩ => ⟨S256x3200, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x256, .f32⟩
  | .local _ .vmem, ⟨7, _⟩ => ⟨S128x256, .f32⟩
  | .local _ .vmem, ⟨8, _⟩ => ⟨S1x256, .f32⟩
  | .local _ .vmem, ⟨9, _⟩ => ⟨S1x512, .f32⟩
  | .local _ .vmem, ⟨10, _⟩ => ⟨S1x512, .f32⟩
  | .local _ .vmem, ⟨11, _⟩ => ⟨S256x1024, .f32⟩
  | .local _ .vmem, ⟨12, _⟩ => ⟨S256x1024, .f32⟩
  | .local _ .vmem, ⟨13, _⟩ => ⟨S1024x1024, .bf16⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S1x2x512x256, .f32⟩
  | .local _ .vmem, ⟨20, _⟩ => ⟨S1x2x512x256, .f32⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | .local _ .vmem, ⟨25, _⟩ => ⟨S2x512x256, .f32⟩
  | _, _ => ⟨S1x4096x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_5 : Ref sig .tc := ⟨.hbm, 56, rfl⟩
abbrev main_call1_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43_0 : Ref sig .tc := ⟨.hbm, 61, rfl⟩
abbrev main_v43_1 : Ref sig .tc := ⟨.hbm, 62, rfl⟩
abbrev main_v43_2 : Ref sig .tc := ⟨.hbm, 63, rfl⟩
abbrev main_v43_3 : Ref sig .tc := ⟨.hbm, 64, rfl⟩
abbrev main_v43_4 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== AttnRefIdeal.lean ====
abbrev S1x4096x3088 : Shape := ⟨3, ![1, 4096, 3088]⟩
abbrev S1x512 : Shape := ⟨2, ![1, 512]⟩
abbrev S1x16x256 : Shape := ⟨3, ![1, 16, 256]⟩
abbrev S1x256 : Shape := ⟨2, ![1, 256]⟩
abbrev S1x1024x1024 : Shape := ⟨3, ![1, 1024, 1024]⟩
abbrev S4096x1024 : Shape := ⟨2, ![4096, 1024]⟩
abbrev S1x1024 : Shape := ⟨2, ![1, 1024]⟩
abbrev S4096 : Shape := ⟨1, ![4096]⟩
abbrev S1x4096x256 : Shape := ⟨3, ![1, 4096, 256]⟩
abbrev S1x4096x512 : Shape := ⟨3, ![1, 4096, 512]⟩
abbrev S1x4096x16 : Shape := ⟨3, ![1, 4096, 16]⟩
abbrev S1x4096x4x64 : Shape := ⟨4, ![1, 4096, 4, 64]⟩
abbrev S1x4x4096x64 : Shape := ⟨4, ![1, 4, 4096, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4x4096x32 : Shape := ⟨4, ![1, 4, 4096, 32]⟩
abbrev S1x1x4096x32 : Shape := ⟨4, ![1, 1, 4096, 32]⟩
abbrev S1x4096x4x128 : Shape := ⟨4, ![1, 4096, 4, 128]⟩
abbrev S1x4x4096x128 : Shape := ⟨4, ![1, 4, 4096, 128]⟩
abbrev S4 : Shape := ⟨1, ![4]⟩
abbrev S1x4x1x1 : Shape := ⟨4, ![1, 4, 1, 1]⟩
abbrev S1x4x4096x1 : Shape := ⟨4, ![1, 4, 4096, 1]⟩
abbrev S16x256 : Shape := ⟨2, ![16, 256]⟩
abbrev S256 : Shape := ⟨1, ![256]⟩
abbrev S1x1x256 : Shape := ⟨3, ![1, 1, 256]⟩
abbrev S1x4x64x128 : Shape := ⟨4, ![1, 4, 64, 128]⟩
abbrev S1x4x64x64x64 : Shape := ⟨5, ![1, 4, 64, 64, 64]⟩
abbrev S64x1x4x64x64 : Shape := ⟨5, ![64, 1, 4, 64, 64]⟩
abbrev S1x4x64x64x128 : Shape := ⟨5, ![1, 4, 64, 64, 128]⟩
abbrev S64x1x4x64x128 : Shape := ⟨5, ![64, 1, 4, 64, 128]⟩
abbrev S1x4x64x64x1 : Shape := ⟨5, ![1, 4, 64, 64, 1]⟩
abbrev S64x1x4x64x1 : Shape := ⟨5, ![64, 1, 4, 64, 1]⟩
abbrev S1x1x4x64x64 : Shape := ⟨5, ![1, 1, 4, 64, 64]⟩
abbrev S1x4x64x64 : Shape := ⟨4, ![1, 4, 64, 64]⟩
abbrev S1x1x4x64x128 : Shape := ⟨5, ![1, 1, 4, 64, 128]⟩
abbrev S1x1x4x64x1 : Shape := ⟨5, ![1, 1, 4, 64, 1]⟩
abbrev S1x4x64x1 : Shape := ⟨4, ![1, 4, 64, 1]⟩
abbrev S1x4x64x1x1 : Shape := ⟨5, ![1, 4, 64, 1, 1]⟩
abbrev S1x4x1x64x1 : Shape := ⟨5, ![1, 4, 1, 64, 1]⟩
abbrev S1x4x1 : Shape := ⟨3, ![1, 4, 1]⟩
abbrev S1x4x64x1x64 : Shape := ⟨5, ![1, 4, 64, 1, 64]⟩
abbrev S1x4x1x64x64 : Shape := ⟨5, ![1, 4, 1, 64, 64]⟩
abbrev S1x4x1x64 : Shape := ⟨4, ![1, 4, 1, 64]⟩
abbrev S1x4x64 : Shape := ⟨3, ![1, 4, 64]⟩
abbrev S1x4x4096 : Shape := ⟨3, ![1, 4, 4096]⟩
abbrev S512 : Shape := ⟨1, ![512]⟩
abbrev S1x1x512 : Shape := ⟨3, ![1, 1, 512]⟩
abbrev S1x4096x1024 : Shape := ⟨3, ![1, 4096, 1024]⟩
abbrev S1024x1024 : Shape := ⟨2, ![1024, 1024]⟩
abbrev S1024 : Shape := ⟨1, ![1024]⟩
abbrev S16x1x4x64x128 : Shape := ⟨5, ![16, 1, 4, 64, 128]⟩
abbrev S16x4x64x128 : Shape := ⟨4, ![16, 4, 64, 128]⟩
abbrev S16x4x128x64 : Shape := ⟨4, ![16, 4, 128, 64]⟩
abbrev S4x1 : Shape := ⟨2, ![4, 1]⟩
abbrev S1x4 : Shape := ⟨2, ![1, 4]⟩
abbrev S4x4 : Shape := ⟨2, ![4, 4]⟩
abbrev S1x4x1x4x1 : Shape := ⟨5, ![1, 4, 1, 4, 1]⟩
abbrev S16x4x128x1x64 : Shape := ⟨5, ![16, 4, 128, 1, 64]⟩
abbrev S16x4x128x4x64 : Shape := ⟨5, ![16, 4, 128, 4, 64]⟩
abbrev S16x512x256 : Shape := ⟨3, ![16, 512, 256]⟩
abbrev S16x1x512x256 : Shape := ⟨4, ![16, 1, 512, 256]⟩
abbrev S16x2x512x256 : Shape := ⟨4, ![16, 2, 512, 256]⟩

abbrev nBuf : Space → Nat
  | .hbm => 469
  | .vmem => 0
  | .smem => 0
  | _ => 0

abbrev hbmTy0_0 (i : Nat) : BufTy := match i % 128 with
  | 0 => ⟨S1x4096x3088, .f32⟩
  | 1 => ⟨S1x512, .f32⟩
  | 2 => ⟨S1x16x256, .f32⟩
  | 3 => ⟨S1x256, .f32⟩
  | 4 => ⟨S1x512, .f32⟩
  | 5 => ⟨S1x1024x1024, .f32⟩
  | 6 => ⟨S4096x1024, .f32⟩
  | 7 => ⟨S1x1024, .f32⟩
  | 8 => ⟨S4096, .f32⟩
  | 9 => ⟨S1x4096x256, .f32⟩
  | 10 => ⟨S1x4096x256, .f32⟩
  | 11 => ⟨S1x4096x512, .f32⟩
  | 12 => ⟨S1x4096x512, .f32⟩
  | 13 => ⟨S1x4096x256, .f32⟩
  | 14 => ⟨S1x4096x256, .f32⟩
  | 15 => ⟨S1x4096x512, .f32⟩
  | 16 => ⟨S1x4096x512, .f32⟩
  | 17 => ⟨S1x4096x16, .f32⟩
  | 18 => ⟨S1x4096x4x64, .f32⟩
  | 19 => ⟨S1x4x4096x64, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S_, .f32⟩
  | 29 => ⟨S32, .f32⟩
  | 30 => ⟨S32, .f32⟩
  | 31 => ⟨S4096x1, .f32⟩
  | 32 => ⟨S1x32, .f32⟩
  | 33 => ⟨S4096x32, .f32⟩
  | 34 => ⟨S4096x32, .f32⟩
  | 35 => ⟨S4096x32, .f32⟩
  | 36 => ⟨S4096x32, .f32⟩
  | 37 => ⟨S4096x32, .f32⟩
  | 38 => ⟨S1x4x4096x32, .f32⟩
  | 39 => ⟨S1x4x4096x32, .f32⟩
  | 40 => ⟨S1x1x4096x32, .f32⟩
  | 41 => ⟨S1x4x4096x32, .f32⟩
  | 42 => ⟨S1x4x4096x32, .f32⟩
  | 43 => ⟨S1x1x4096x32, .f32⟩
  | 44 => ⟨S1x4x4096x32, .f32⟩
  | 45 => ⟨S1x4x4096x32, .f32⟩
  | 46 => ⟨S1x4x4096x32, .f32⟩
  | 47 => ⟨S1x1x4096x32, .f32⟩
  | 48 => ⟨S1x4x4096x32, .f32⟩
  | 49 => ⟨S1x4x4096x32, .f32⟩
  | 50 => ⟨S1x1x4096x32, .f32⟩
  | 51 => ⟨S1x4x4096x32, .f32⟩
  | 52 => ⟨S1x4x4096x32, .f32⟩
  | 53 => ⟨S1x4x4096x32, .f32⟩
  | 54 => ⟨S1x4x4096x64, .f32⟩
  | 55 => ⟨S1x4096x4x64, .f32⟩
  | 56 => ⟨S1x4x4096x64, .f32⟩
  | 57 => ⟨S32, .f32⟩
  | 58 => ⟨S32, .f32⟩
  | 59 => ⟨S_, .f32⟩
  | 60 => ⟨S32, .f32⟩
  | 61 => ⟨S32, .f32⟩
  | 62 => ⟨S_, .f32⟩
  | 63 => ⟨S32, .f32⟩
  | 64 => ⟨S32, .f32⟩
  | 65 => ⟨S_, .f32⟩
  | 66 => ⟨S32, .f32⟩
  | 67 => ⟨S32, .f32⟩
  | 68 => ⟨S4096x1, .f32⟩
  | 69 => ⟨S1x32, .f32⟩
  | 70 => ⟨S4096x32, .f32⟩
  | 71 => ⟨S4096x32, .f32⟩
  | 72 => ⟨S4096x32, .f32⟩
  | 73 => ⟨S4096x32, .f32⟩
  | 74 => ⟨S4096x32, .f32⟩
  | 75 => ⟨S1x4x4096x32, .f32⟩
  | 76 => ⟨S1x4x4096x32, .f32⟩
  | 77 => ⟨S1x1x4096x32, .f32⟩
  | 78 => ⟨S1x4x4096x32, .f32⟩
  | 79 => ⟨S1x4x4096x32, .f32⟩
  | 80 => ⟨S1x1x4096x32, .f32⟩
  | 81 => ⟨S1x4x4096x32, .f32⟩
  | 82 => ⟨S1x4x4096x32, .f32⟩
  | 83 => ⟨S1x4x4096x32, .f32⟩
  | 84 => ⟨S1x1x4096x32, .f32⟩
  | 85 => ⟨S1x4x4096x32, .f32⟩
  | 86 => ⟨S1x4x4096x32, .f32⟩
  | 87 => ⟨S1x1x4096x32, .f32⟩
  | 88 => ⟨S1x4x4096x32, .f32⟩
  | 89 => ⟨S1x4x4096x32, .f32⟩
  | 90 => ⟨S1x4x4096x32, .f32⟩
  | 91 => ⟨S1x4x4096x64, .f32⟩
  | 92 => ⟨S_, .f32⟩
  | 93 => ⟨S1x4x4096x64, .f32⟩
  | 94 => ⟨S1x4x4096x64, .f32⟩
  | 95 => ⟨S1x4096x4x128, .f32⟩
  | 96 => ⟨S1x4x4096x128, .f32⟩
  | 97 => ⟨S4, .f32⟩
  | 98 => ⟨S_, .f32⟩
  | 99 => ⟨S4, .f32⟩
  | 100 => ⟨S4, .f32⟩
  | 101 => ⟨S_, .f32⟩
  | 102 => ⟨S4, .f32⟩
  | 103 => ⟨S4, .f32⟩
  | 104 => ⟨S_, .f32⟩
  | 105 => ⟨S4, .f32⟩
  | 106 => ⟨S4, .f32⟩
  | 107 => ⟨S4, .f32⟩
  | 108 => ⟨S1x4x1x1, .f32⟩
  | 109 => ⟨S1x4x4096x1, .f32⟩
  | 110 => ⟨S1x4096x4x64, .f32⟩
  | 111 => ⟨S1x4x4096x64, .f32⟩
  | 112 => ⟨S_, .f32⟩
  | 113 => ⟨S1x4x4096x64, .f32⟩
  | 114 => ⟨S1x4x4096x64, .f32⟩
  | 115 => ⟨S1x4096x4x64, .f32⟩
  | 116 => ⟨S1x4x4096x64, .f32⟩
  | 117 => ⟨S1x4096x4x128, .f32⟩
  | 118 => ⟨S1x4x4096x128, .f32⟩
  | 119 => ⟨S16x256, .f32⟩
  | 120 => ⟨S1x4096x256, .f32⟩
  | 121 => ⟨S256, .f32⟩
  | 122 => ⟨S1x1x256, .f32⟩
  | 123 => ⟨S1x4096x256, .f32⟩
  | 124 => ⟨S1x4096x256, .f32⟩
  | 125 => ⟨S1x4096x256, .f32⟩
  | 126 => ⟨S_, .f32⟩
  | 127 => ⟨S1x4096x256, .f32⟩
  | _ => ⟨S1x4096x3088, .f32⟩

abbrev hbmTy0_1 (i : Nat) : BufTy := match i % 128 with
  | 0 => ⟨S1x4096x256, .f32⟩
  | 1 => ⟨S1x4096x256, .f32⟩
  | 2 => ⟨S1x4096x256, .f32⟩
  | 3 => ⟨S1x4096x256, .i1⟩
  | 4 => ⟨S1x4096x256, .f32⟩
  | 5 => ⟨S1x4096x256, .f32⟩
  | 6 => ⟨S1x4096x256, .f32⟩
  | 7 => ⟨S1x4096x256, .f32⟩
  | 8 => ⟨S1x4096x256, .f32⟩
  | 9 => ⟨S1x4096x256, .f32⟩
  | 10 => ⟨S1x4096x256, .f32⟩
  | 11 => ⟨S1x4096x256, .f32⟩
  | 12 => ⟨S1x4096x256, .f32⟩
  | 13 => ⟨S_, .f32⟩
  | 14 => ⟨S1x4096x256, .f32⟩
  | 15 => ⟨S1x4096x256, .f32⟩
  | 16 => ⟨S1x4096x4x64, .f32⟩
  | 17 => ⟨S1x4x4096x64, .f32⟩
  | 18 => ⟨S_, .f32⟩
  | 19 => ⟨S1x4x64x128, .f32⟩
  | 20 => ⟨S1x4x64x64x64, .f32⟩
  | 21 => ⟨S64x1x4x64x64, .f32⟩
  | 22 => ⟨S1x4x64x64x64, .f32⟩
  | 23 => ⟨S64x1x4x64x64, .f32⟩
  | 24 => ⟨S1x4x64x64x128, .f32⟩
  | 25 => ⟨S64x1x4x64x128, .f32⟩
  | 26 => ⟨S1x4x64x64x1, .f32⟩
  | 27 => ⟨S64x1x4x64x1, .f32⟩
  | 28 => ⟨S_, .f32⟩
  | 29 => ⟨S_, .f32⟩
  | 30 => ⟨S64x1x4x64x1, .f32⟩
  | 31 => ⟨S1x4x64x64x64, .f32⟩
  | 32 => ⟨S64x1x4x64x64, .f32⟩
  | 33 => ⟨S1x4x64x64x64, .f32⟩
  | 34 => ⟨S64x1x4x64x64, .f32⟩
  | 35 => ⟨S1x4x64x64x128, .f32⟩
  | 36 => ⟨S64x1x4x64x128, .f32⟩
  | 37 => ⟨S1x4x64x64x64, .f32⟩
  | 38 => ⟨S64x1x4x64x64, .f32⟩
  | 39 => ⟨S_, .f32⟩
  | 40 => ⟨S_, .f32⟩
  | 41 => ⟨S64x1x4x64x64, .f32⟩
  | 42 => ⟨S_, .f32⟩
  | 43 => ⟨S64x1x4x64x128, .f32⟩
  | 44 => ⟨S_, .f32⟩
  | 45 => ⟨S64x1x4x64x128, .f32⟩
  | 46 => ⟨S_, .f32⟩
  | 47 => ⟨S64x1x4x64x128, .f32⟩
  | 48 => ⟨S_, .f32⟩
  | 49 => ⟨S64x1x4x64x128, .f32⟩
  | 50 => ⟨S_, .i32⟩
  | 51 => ⟨S64x1x4x64x64, .f32⟩
  | 52 => ⟨S64x1x4x64x64, .f32⟩
  | 53 => ⟨S64x1x4x64x128, .f32⟩
  | 54 => ⟨S64x1x4x64x1, .f32⟩
  | 55 => ⟨S64x1x4x64x64, .f32⟩
  | 56 => ⟨S64x1x4x64x64, .f32⟩
  | 57 => ⟨S64x1x4x64x128, .f32⟩
  | 58 => ⟨S64x1x4x64x64, .f32⟩
  | 59 => ⟨S_, .i32⟩
  | 60 => ⟨S1x4x64x128, .f32⟩
  | 61 => ⟨S1x4x64x128, .f32⟩
  | 62 => ⟨S64x1x4x64x128, .f32⟩
  | 63 => ⟨S64x1x4x64x128, .f32⟩
  | 64 => ⟨S64x1x4x64x128, .f32⟩
  | 65 => ⟨S64x1x4x64x128, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S1x1x4x64x64, .f32⟩
  | 73 => ⟨S1x4x64x64, .f32⟩
  | 74 => ⟨S_, .i32⟩
  | 75 => ⟨S_, .i32⟩
  | 76 => ⟨S_, .i32⟩
  | 77 => ⟨S_, .i32⟩
  | 78 => ⟨S1x1x4x64x64, .f32⟩
  | 79 => ⟨S1x4x64x64, .f32⟩
  | 80 => ⟨S_, .i32⟩
  | 81 => ⟨S_, .i32⟩
  | 82 => ⟨S_, .i32⟩
  | 83 => ⟨S_, .i32⟩
  | 84 => ⟨S1x1x4x64x128, .f32⟩
  | 85 => ⟨S1x4x64x128, .f32⟩
  | 86 => ⟨S_, .i32⟩
  | 87 => ⟨S_, .i32⟩
  | 88 => ⟨S_, .i32⟩
  | 89 => ⟨S_, .i32⟩
  | 90 => ⟨S1x1x4x64x1, .f32⟩
  | 91 => ⟨S1x4x64x1, .f32⟩
  | 92 => ⟨S_, .i32⟩
  | 93 => ⟨S_, .i32⟩
  | 94 => ⟨S_, .i32⟩
  | 95 => ⟨S_, .i32⟩
  | 96 => ⟨S1x1x4x64x64, .f32⟩
  | 97 => ⟨S1x4x64x64, .f32⟩
  | 98 => ⟨S_, .i32⟩
  | 99 => ⟨S_, .i32⟩
  | 100 => ⟨S_, .i32⟩
  | 101 => ⟨S_, .i32⟩
  | 102 => ⟨S1x1x4x64x64, .f32⟩
  | 103 => ⟨S1x4x64x64, .f32⟩
  | 104 => ⟨S_, .i32⟩
  | 105 => ⟨S_, .i32⟩
  | 106 => ⟨S_, .i32⟩
  | 107 => ⟨S_, .i32⟩
  | 108 => ⟨S1x1x4x64x128, .f32⟩
  | 109 => ⟨S1x4x64x128, .f32⟩
  | 110 => ⟨S_, .i32⟩
  | 111 => ⟨S_, .i32⟩
  | 112 => ⟨S_, .i32⟩
  | 113 => ⟨S_, .i32⟩
  | 114 => ⟨S1x1x4x64x64, .f32⟩
  | 115 => ⟨S1x4x64x64, .f32⟩
  | 116 => ⟨S1x4x64x1x1, .f32⟩
  | 117 => ⟨S1x4x1x64x1, .f32⟩
  | 118 => ⟨S1x4x64x64x1, .f32⟩
  | 119 => ⟨S1x4x64x64x1, .f32⟩
  | 120 => ⟨S1x4x64x64x1, .f32⟩
  | 121 => ⟨S1x4x64x64x1, .f32⟩
  | 122 => ⟨S1x4x64x64x1, .f32⟩
  | 123 => ⟨S1x4x64x64x1, .f32⟩
  | 124 => ⟨S1x4x64x64, .f32⟩
  | 125 => ⟨S1x4x64x64, .f32⟩
  | 126 => ⟨S1x4x64x64, .f32⟩
  | 127 => ⟨S1x4x64x128, .f32⟩
  | _ => ⟨S1x4096x3088, .f32⟩

abbrev hbmTy0_2 (i : Nat) : BufTy := match i % 128 with
  | 0 => ⟨S1x4x64x1, .f32⟩
  | 1 => ⟨S1x4x64x64, .f32⟩
  | 2 => ⟨S1x4x64x64, .f32⟩
  | 3 => ⟨S1x4x64x128, .f32⟩
  | 4 => ⟨S1x4x64x128, .f32⟩
  | 5 => ⟨S1x4x1x1, .f32⟩
  | 6 => ⟨S1x4x1, .f32⟩
  | 7 => ⟨S1x4x1, .f32⟩
  | 8 => ⟨S1x4x1x1, .f32⟩
  | 9 => ⟨S1x4x64x128, .f32⟩
  | 10 => ⟨S1x4x64x128, .f32⟩
  | 11 => ⟨S1x4x64x1, .f32⟩
  | 12 => ⟨S1x4x64x1, .f32⟩
  | 13 => ⟨S1x4x64x1, .f32⟩
  | 14 => ⟨S1x4x64x64, .f32⟩
  | 15 => ⟨S1x4x64x64, .f32⟩
  | 16 => ⟨S1x4x64x128, .f32⟩
  | 17 => ⟨S1x4x64x128, .f32⟩
  | 18 => ⟨S1x4x64x1x64, .f32⟩
  | 19 => ⟨S1x4x1x64x64, .f32⟩
  | 20 => ⟨S1x4x64x64x64, .f32⟩
  | 21 => ⟨S1x4x64x64x64, .f32⟩
  | 22 => ⟨S1x4x64x64x64, .f32⟩
  | 23 => ⟨S1x4x64x64x64, .f32⟩
  | 24 => ⟨S1x4x64x64x64, .f32⟩
  | 25 => ⟨S1x4x64x64x64, .f32⟩
  | 26 => ⟨S1x4x64x1x64, .f32⟩
  | 27 => ⟨S1x4x1x64x64, .f32⟩
  | 28 => ⟨S1x4x64x64x64, .f32⟩
  | 29 => ⟨S1x4x64x64x64, .f32⟩
  | 30 => ⟨S1x4x64x64x64, .f32⟩
  | 31 => ⟨S1x4x64x64x64, .f32⟩
  | 32 => ⟨S_, .f32⟩
  | 33 => ⟨S1x4x64x64, .f32⟩
  | 34 => ⟨S1x4x64x128, .f32⟩
  | 35 => ⟨S1x4x64x64, .f32⟩
  | 36 => ⟨S1x4x64x64, .f32⟩
  | 37 => ⟨S1x4x64x128, .f32⟩
  | 38 => ⟨S1x4x64x128, .f32⟩
  | 39 => ⟨S1x4x1x64, .f32⟩
  | 40 => ⟨S1x4x64, .f32⟩
  | 41 => ⟨S1x4x64, .f32⟩
  | 42 => ⟨S1x4x64x1, .f32⟩
  | 43 => ⟨S1x4x64x128, .f32⟩
  | 44 => ⟨S1x4x64x128, .f32⟩
  | 45 => ⟨S1x4x64x64, .f32⟩
  | 46 => ⟨S1x4x64x64, .f32⟩
  | 47 => ⟨S1x4x64x64, .f32⟩
  | 48 => ⟨S1x4x64x64, .f32⟩
  | 49 => ⟨S1x4x64x128, .f32⟩
  | 50 => ⟨S1x4x64x128, .f32⟩
  | 51 => ⟨S1x1x4x64x128, .f32⟩
  | 52 => ⟨S_, .i32⟩
  | 53 => ⟨S_, .i32⟩
  | 54 => ⟨S_, .i32⟩
  | 55 => ⟨S_, .i32⟩
  | 56 => ⟨S64x1x4x64x128, .f32⟩
  | 57 => ⟨S1x1x4x64x128, .f32⟩
  | 58 => ⟨S_, .i32⟩
  | 59 => ⟨S_, .i32⟩
  | 60 => ⟨S_, .i32⟩
  | 61 => ⟨S_, .i32⟩
  | 62 => ⟨S64x1x4x64x128, .f32⟩
  | 63 => ⟨S1x1x4x64x128, .f32⟩
  | 64 => ⟨S_, .i32⟩
  | 65 => ⟨S_, .i32⟩
  | 66 => ⟨S_, .i32⟩
  | 67 => ⟨S_, .i32⟩
  | 68 => ⟨S64x1x4x64x128, .f32⟩
  | 69 => ⟨S1x1x4x64x128, .f32⟩
  | 70 => ⟨S_, .i32⟩
  | 71 => ⟨S_, .i32⟩
  | 72 => ⟨S_, .i32⟩
  | 73 => ⟨S_, .i32⟩
  | 74 => ⟨S64x1x4x64x128, .f32⟩
  | 75 => ⟨S_, .i32⟩
  | 76 => ⟨S_, .i32⟩
  | 77 => ⟨S1x4x64x64x128, .f32⟩
  | 78 => ⟨S1x4x4096x128, .f32⟩
  | 79 => ⟨S1x4x64x64x128, .f32⟩
  | 80 => ⟨S1x4x4096x128, .f32⟩
  | 81 => ⟨S1x4096x512, .f32⟩
  | 82 => ⟨S1x4096x512, .f32⟩
  | 83 => ⟨S1x4x4096x128, .f32⟩
  | 84 => ⟨S_, .f32⟩
  | 85 => ⟨S1x4x4096, .f32⟩
  | 86 => ⟨S1x4x4096x1, .f32⟩
  | 87 => ⟨S_, .f32⟩
  | 88 => ⟨S1x4x4096x1, .f32⟩
  | 89 => ⟨S1x4x4096x1, .f32⟩
  | 90 => ⟨S_, .f32⟩
  | 91 => ⟨S1x4x4096x1, .f32⟩
  | 92 => ⟨S1x4x4096x1, .f32⟩
  | 93 => ⟨S1x4x4096x1, .f32⟩
  | 94 => ⟨S1x4x4096x128, .f32⟩
  | 95 => ⟨S1x4x4096x128, .f32⟩
  | 96 => ⟨S1x4096x4x128, .f32⟩
  | 97 => ⟨S1x4096x512, .f32⟩
  | 98 => ⟨S512, .f32⟩
  | 99 => ⟨S1x1x512, .f32⟩
  | 100 => ⟨S1x4096x512, .f32⟩
  | 101 => ⟨S1x4096x512, .f32⟩
  | 102 => ⟨S1x4096x512, .f32⟩
  | 103 => ⟨S1x4096x512, .f32⟩
  | 104 => ⟨S_, .f32⟩
  | 105 => ⟨S1x4096x512, .f32⟩
  | 106 => ⟨S1x4096x512, .f32⟩
  | 107 => ⟨S_, .f32⟩
  | 108 => ⟨S1x4096x512, .f32⟩
  | 109 => ⟨S1x4096x512, .f32⟩
  | 110 => ⟨S1x4096x512, .f32⟩
  | 111 => ⟨S1x4096x512, .f32⟩
  | 112 => ⟨S1x4x4096x128, .f32⟩
  | 113 => ⟨S_, .f32⟩
  | 114 => ⟨S1x4x4096, .f32⟩
  | 115 => ⟨S1x4x4096x1, .f32⟩
  | 116 => ⟨S_, .f32⟩
  | 117 => ⟨S1x4x4096x1, .f32⟩
  | 118 => ⟨S1x4x4096x1, .f32⟩
  | 119 => ⟨S_, .f32⟩
  | 120 => ⟨S1x4x4096x1, .f32⟩
  | 121 => ⟨S1x4x4096x1, .f32⟩
  | 122 => ⟨S1x4x4096x1, .f32⟩
  | 123 => ⟨S1x4x4096x128, .f32⟩
  | 124 => ⟨S1x4x4096x128, .f32⟩
  | 125 => ⟨S1x4096x4x128, .f32⟩
  | 126 => ⟨S1x4096x512, .f32⟩
  | 127 => ⟨S512, .f32⟩
  | _ => ⟨S1x4096x3088, .f32⟩

abbrev hbmTy0_3 (i : Nat) : BufTy := match i % 128 with
  | 0 => ⟨S1x1x512, .f32⟩
  | 1 => ⟨S1x4096x512, .f32⟩
  | 2 => ⟨S1x4096x512, .f32⟩
  | 3 => ⟨S1x4096x512, .f32⟩
  | 4 => ⟨S1x4096x512, .f32⟩
  | 5 => ⟨S_, .f32⟩
  | 6 => ⟨S1x4096x512, .f32⟩
  | 7 => ⟨S1x4096x512, .f32⟩
  | 8 => ⟨S_, .f32⟩
  | 9 => ⟨S1x4096x512, .f32⟩
  | 10 => ⟨S1x4096x512, .f32⟩
  | 11 => ⟨S1x4096x512, .f32⟩
  | 12 => ⟨S1x4096x512, .f32⟩
  | 13 => ⟨S1x4096x1024, .f32⟩
  | 14 => ⟨S1024x1024, .f32⟩
  | 15 => ⟨S1x4096x1024, .f32⟩
  | 16 => ⟨S4096x1024, .f32⟩
  | 17 => ⟨S4096x1024, .f32⟩
  | 18 => ⟨S1024, .f32⟩
  | 19 => ⟨S4096x1024, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S_, .f32⟩
  | 27 => ⟨S4096x1, .f32⟩
  | 28 => ⟨S4096x1, .f32⟩
  | 29 => ⟨S4096x1, .f32⟩
  | 30 => ⟨S4096x1024, .f32⟩
  | 31 => ⟨S4096x1024, .f32⟩
  | 32 => ⟨S1x1024, .f32⟩
  | 33 => ⟨S4096x1024, .f32⟩
  | 34 => ⟨S4096x1024, .f32⟩
  | 35 => ⟨S1x4096x4x128, .f32⟩
  | 36 => ⟨S1x4096x512, .f32⟩
  | 37 => ⟨S1x4096x4x128, .f32⟩
  | 38 => ⟨S1x4096x512, .f32⟩
  | 39 => ⟨S1x4096x1024, .f32⟩
  | 40 => ⟨S16x1x4x64x128, .f32⟩
  | 41 => ⟨S16x4x64x128, .f32⟩
  | 42 => ⟨S16x4x128x64, .f32⟩
  | 43 => ⟨S4, .i32⟩
  | 44 => ⟨S4x1, .i32⟩
  | 45 => ⟨S4, .i32⟩
  | 46 => ⟨S1x4, .i32⟩
  | 47 => ⟨S4x4, .i32⟩
  | 48 => ⟨S4x4, .i32⟩
  | 49 => ⟨S4x4, .i1⟩
  | 50 => ⟨S1x4x1x4x1, .i1⟩
  | 51 => ⟨S16x4x128x1x64, .f32⟩
  | 52 => ⟨S_, .f32⟩
  | 53 => ⟨S_, .f32⟩
  | 54 => ⟨S16x4x128x4x64, .i1⟩
  | 55 => ⟨S16x4x128x4x64, .f32⟩
  | 56 => ⟨S16x4x128x4x64, .f32⟩
  | 57 => ⟨S16x4x128x4x64, .f32⟩
  | 58 => ⟨S16x512x256, .f32⟩
  | 59 => ⟨S16x1x4x64x128, .f32⟩
  | 60 => ⟨S16x4x64x128, .f32⟩
  | 61 => ⟨S16x4x128x64, .f32⟩
  | 62 => ⟨S4, .i32⟩
  | 63 => ⟨S4x1, .i32⟩
  | 64 => ⟨S4, .i32⟩
  | 65 => ⟨S1x4, .i32⟩
  | 66 => ⟨S4x4, .i32⟩
  | 67 => ⟨S4x4, .i32⟩
  | 68 => ⟨S4x4, .i1⟩
  | 69 => ⟨S1x4x1x4x1, .i1⟩
  | 70 => ⟨S16x4x128x1x64, .f32⟩
  | 71 => ⟨S_, .f32⟩
  | 72 => ⟨S_, .f32⟩
  | 73 => ⟨S16x4x128x4x64, .i1⟩
  | 74 => ⟨S16x4x128x4x64, .f32⟩
  | 75 => ⟨S16x4x128x4x64, .f32⟩
  | 76 => ⟨S16x4x128x4x64, .f32⟩
  | 77 => ⟨S16x512x256, .f32⟩
  | 78 => ⟨S16x1x512x256, .f32⟩
  | 79 => ⟨S16x1x512x256, .f32⟩
  | 80 => ⟨S16x2x512x256, .f32⟩
  | 81 => ⟨S4096x1024, .f32⟩
  | 82 => ⟨S4096x1024, .f32⟩
  | 83 => ⟨S4096x1024, .bf16⟩
  | 84 => ⟨S4096x1024, .bf16⟩
  | _ => ⟨S1x4096x3088, .f32⟩

abbrev hbmTy (i : Nat) : BufTy := match i / 128 with
  | 0 => hbmTy0_0 i
  | 1 => hbmTy0_1 i
  | 2 => hbmTy0_2 i
  | 3 => hbmTy0_3 i
  | _ => ⟨S1x4096x3088, .f32⟩

abbrev bufTy : (tb : Table) → Fin (tcTables nBuf tb) → BufTy
  | .hbm, ⟨i, _⟩ => hbmTy i
  | _, _ => ⟨S1x4096x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_2 : Ref sig .tc := ⟨.hbm, 59, rfl⟩
abbrev main_v48 : Ref sig .tc := ⟨.hbm, 60, rfl⟩
abbrev main_v49 : Ref sig .tc := ⟨.hbm, 61, rfl⟩
abbrev main_cst_3 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_5 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_cst_6 : Ref sig .tc := ⟨.hbm, 98, rfl⟩
abbrev main_v83 : Ref sig .tc := ⟨.hbm, 99, rfl⟩
abbrev main_v84 : Ref sig .tc := ⟨.hbm, 100, rfl⟩
abbrev main_cst_7 : Ref sig .tc := ⟨.hbm, 101, rfl⟩
abbrev main_v85 : Ref sig .tc := ⟨.hbm, 102, rfl⟩
abbrev main_v86 : Ref sig .tc := ⟨.hbm, 103, rfl⟩
abbrev main_cst_8 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_9 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_cst_10 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_cst_11 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_cst_12 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_call0_call0_cst : Ref sig .tc := ⟨.hbm, 156, rfl⟩
abbrev main_call0_call0_v0 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_call1_call0_cst : Ref sig .tc := ⟨.hbm, 167, rfl⟩
abbrev main_call1_call0_v0 : Ref sig .tc := ⟨.hbm, 168, rfl⟩
abbrev main_v143 : Ref sig .tc := ⟨.hbm, 169, rfl⟩
abbrev main_cst_13 : Ref sig .tc := ⟨.hbm, 170, rfl⟩
abbrev main_v144 : Ref sig .tc := ⟨.hbm, 171, rfl⟩
abbrev main_cst_14 : Ref sig .tc := ⟨.hbm, 172, rfl⟩
abbrev main_v145 : Ref sig .tc := ⟨.hbm, 173, rfl⟩
abbrev main_cst_15 : Ref sig .tc := ⟨.hbm, 174, rfl⟩
abbrev main_v146 : Ref sig .tc := ⟨.hbm, 175, rfl⟩
abbrev main_cst_16 : Ref sig .tc := ⟨.hbm, 176, rfl⟩
abbrev main_v147 : Ref sig .tc := ⟨.hbm, 177, rfl⟩
abbrev main_c : Ref sig .tc := ⟨.hbm, 178, rfl⟩
abbrev main_v148_0 : Ref sig .tc := ⟨.hbm, 179, rfl⟩
abbrev main_v148_1 : Ref sig .tc := ⟨.hbm, 180, rfl⟩
abbrev main_v148_2 : Ref sig .tc := ⟨.hbm, 181, rfl⟩
abbrev main_v148_3 : Ref sig .tc := ⟨.hbm, 182, rfl⟩
abbrev main_v148_4 : Ref sig .tc := ⟨.hbm, 183, rfl⟩
abbrev main_v148_5 : Ref sig .tc := ⟨.hbm, 184, rfl⟩
abbrev main_v148_6 : Ref sig .tc := ⟨.hbm, 185, rfl⟩
abbrev main_v148_7 : Ref sig .tc := ⟨.hbm, 186, rfl⟩
abbrev main_v148_8 : Ref sig .tc := ⟨.hbm, 187, rfl⟩
abbrev main_v148_9 : Ref sig .tc := ⟨.hbm, 188, rfl⟩
abbrev main_v148_10 : Ref sig .tc := ⟨.hbm, 189, rfl⟩
abbrev main_v148_11 : Ref sig .tc := ⟨.hbm, 190, rfl⟩
abbrev main_v148_12 : Ref sig .tc := ⟨.hbm, 191, rfl⟩
abbrev main_v148_13 : Ref sig .tc := ⟨.hbm, 192, rfl⟩
abbrev main_v148_14 : Ref sig .tc := ⟨.hbm, 193, rfl⟩
abbrev main_while0c_c_42 : Ref sig .tc := ⟨.hbm, 194, rfl⟩
abbrev main_while0c_v250 : Ref sig .tc := ⟨.hbm, 195, rfl⟩
abbrev main_while0b_call2_c : Ref sig .tc := ⟨.hbm, 196, rfl⟩
abbrev main_while0b_call2_c_0 : Ref sig .tc := ⟨.hbm, 197, rfl⟩
abbrev main_while0b_call2_c_1 : Ref sig .tc := ⟨.hbm, 198, rfl⟩
abbrev main_while0b_call2_c_2 : Ref sig .tc := ⟨.hbm, 199, rfl⟩
abbrev main_while0b_call2_v0 : Ref sig .tc := ⟨.hbm, 200, rfl⟩
abbrev main_while0b_v250 : Ref sig .tc := ⟨.hbm, 201, rfl⟩
abbrev main_while0b_call3_c : Ref sig .tc := ⟨.hbm, 202, rfl⟩
abbrev main_while0b_call3_c_0 : Ref sig .tc := ⟨.hbm, 203, rfl⟩
abbrev main_while0b_call3_c_1 : Ref sig .tc := ⟨.hbm, 204, rfl⟩
abbrev main_while0b_call3_c_2 : Ref sig .tc := ⟨.hbm, 205, rfl⟩
abbrev main_while0b_call3_v0 : Ref sig .tc := ⟨.hbm, 206, rfl⟩
abbrev main_while0b_v251 : Ref sig .tc := ⟨.hbm, 207, rfl⟩
abbrev main_while0b_call4_c : Ref sig .tc := ⟨.hbm, 208, rfl⟩
abbrev main_while0b_call4_c_0 : Ref sig .tc := ⟨.hbm, 209, rfl⟩
abbrev main_while0b_call4_c_1 : Ref sig .tc := ⟨.hbm, 210, rfl⟩
abbrev main_while0b_call4_c_2 : Ref sig .tc := ⟨.hbm, 211, rfl⟩
abbrev main_while0b_call4_v0 : Ref sig .tc := ⟨.hbm, 212, rfl⟩
abbrev main_while0b_v252 : Ref sig .tc := ⟨.hbm, 213, rfl⟩
abbrev main_while0b_call5_c : Ref sig .tc := ⟨.hbm, 214, rfl⟩
abbrev main_while0b_call5_c_0 : Ref sig .tc := ⟨.hbm, 215, rfl⟩
abbrev main_while0b_call5_c_1 : Ref sig .tc := ⟨.hbm, 216, rfl⟩
abbrev main_while0b_call5_c_2 : Ref sig .tc := ⟨.hbm, 217, rfl⟩
abbrev main_while0b_call5_v0 : Ref sig .tc := ⟨.hbm, 218, rfl⟩
abbrev main_while0b_v253 : Ref sig .tc := ⟨.hbm, 219, rfl⟩
abbrev main_while0b_call6_c : Ref sig .tc := ⟨.hbm, 220, rfl⟩
abbrev main_while0b_call6_c_0 : Ref sig .tc := ⟨.hbm, 221, rfl⟩
abbrev main_while0b_call6_c_1 : Ref sig .tc := ⟨.hbm, 222, rfl⟩
abbrev main_while0b_call6_c_2 : Ref sig .tc := ⟨.hbm, 223, rfl⟩
abbrev main_while0b_call6_v0 : Ref sig .tc := ⟨.hbm, 224, rfl⟩
abbrev main_while0b_v254 : Ref sig .tc := ⟨.hbm, 225, rfl⟩
abbrev main_while0b_call7_c : Ref sig .tc := ⟨.hbm, 226, rfl⟩
abbrev main_while0b_call7_c_0 : Ref sig .tc := ⟨.hbm, 227, rfl⟩
abbrev main_while0b_call7_c_1 : Ref sig .tc := ⟨.hbm, 228, rfl⟩
abbrev main_while0b_call7_c_2 : Ref sig .tc := ⟨.hbm, 229, rfl⟩
abbrev main_while0b_call7_v0 : Ref sig .tc := ⟨.hbm, 230, rfl⟩
abbrev main_while0b_v255 : Ref sig .tc := ⟨.hbm, 231, rfl⟩
abbrev main_while0b_call8_c : Ref sig .tc := ⟨.hbm, 232, rfl⟩
abbrev main_while0b_call8_c_0 : Ref sig .tc := ⟨.hbm, 233, rfl⟩
abbrev main_while0b_call8_c_1 : Ref sig .tc := ⟨.hbm, 234, rfl⟩
abbrev main_while0b_call8_c_2 : Ref sig .tc := ⟨.hbm, 235, rfl⟩
abbrev main_while0b_call8_v0 : Ref sig .tc := ⟨.hbm, 236, rfl⟩
abbrev main_while0b_v256 : Ref sig .tc := ⟨.hbm, 237, rfl⟩
abbrev main_while0b_call9_c : Ref sig .tc := ⟨.hbm, 238, rfl⟩
abbrev main_while0b_call9_c_0 : Ref sig .tc := ⟨.hbm, 239, rfl⟩
abbrev main_while0b_call9_c_1 : Ref sig .tc := ⟨.hbm, 240, rfl⟩
abbrev main_while0b_call9_c_2 : Ref sig .tc := ⟨.hbm, 241, rfl⟩
abbrev main_while0b_call9_v0 : Ref sig .tc := ⟨.hbm, 242, rfl⟩
abbrev main_while0b_v257 : Ref sig .tc := ⟨.hbm, 243, rfl⟩
abbrev main_while0b_v258 : Ref sig .tc := ⟨.hbm, 244, rfl⟩
abbrev main_while0b_v259 : Ref sig .tc := ⟨.hbm, 245, rfl⟩
abbrev main_while0b_v260 : Ref sig .tc := ⟨.hbm, 246, rfl⟩
abbrev main_while0b_v261 : Ref sig .tc := ⟨.hbm, 247, rfl⟩
abbrev main_while0b_v262 : Ref sig .tc := ⟨.hbm, 248, rfl⟩
abbrev main_while0b_v263 : Ref sig .tc := ⟨.hbm, 249, rfl⟩
abbrev main_while0b_v264 : Ref sig .tc := ⟨.hbm, 250, rfl⟩
abbrev main_while0b_v265 : Ref sig .tc := ⟨.hbm, 251, rfl⟩
abbrev main_while0b_v266 : Ref sig .tc := ⟨.hbm, 252, rfl⟩
abbrev main_while0b_v267 : Ref sig .tc := ⟨.hbm, 253, rfl⟩
abbrev main_while0b_v268 : Ref sig .tc := ⟨.hbm, 254, rfl⟩
abbrev main_while0b_v269 : Ref sig .tc := ⟨.hbm, 255, rfl⟩
abbrev main_while0b_v270 : Ref sig .tc := ⟨.hbm, 256, rfl⟩
abbrev main_while0b_v271 : Ref sig .tc := ⟨.hbm, 257, rfl⟩
abbrev main_while0b_v272 : Ref sig .tc := ⟨.hbm, 258, rfl⟩
abbrev main_while0b_v273 : Ref sig .tc := ⟨.hbm, 259, rfl⟩
abbrev main_while0b_v274 : Ref sig .tc := ⟨.hbm, 260, rfl⟩
abbrev main_while0b_v275 : Ref sig .tc := ⟨.hbm, 261, rfl⟩
abbrev main_while0b_v276 : Ref sig .tc := ⟨.hbm, 262, rfl⟩
abbrev main_while0b_v277 : Ref sig .tc := ⟨.hbm, 263, rfl⟩
abbrev main_while0b_v278 : Ref sig .tc := ⟨.hbm, 264, rfl⟩
abbrev main_while0b_v279 : Ref sig .tc := ⟨.hbm, 265, rfl⟩
abbrev main_while0b_v280 : Ref sig .tc := ⟨.hbm, 266, rfl⟩
abbrev main_while0b_v281 : Ref sig .tc := ⟨.hbm, 267, rfl⟩
abbrev main_while0b_v282 : Ref sig .tc := ⟨.hbm, 268, rfl⟩
abbrev main_while0b_v283 : Ref sig .tc := ⟨.hbm, 269, rfl⟩
abbrev main_while0b_v284 : Ref sig .tc := ⟨.hbm, 270, rfl⟩
abbrev main_while0b_v285 : Ref sig .tc := ⟨.hbm, 271, rfl⟩
abbrev main_while0b_v286 : Ref sig .tc := ⟨.hbm, 272, rfl⟩
abbrev main_while0b_v287 : Ref sig .tc := ⟨.hbm, 273, rfl⟩
abbrev main_while0b_v288 : Ref sig .tc := ⟨.hbm, 274, rfl⟩
abbrev main_while0b_v289 : Ref sig .tc := ⟨.hbm, 275, rfl⟩
abbrev main_while0b_v290 : Ref sig .tc := ⟨.hbm, 276, rfl⟩
abbrev main_while0b_v291 : Ref sig .tc := ⟨.hbm, 277, rfl⟩
abbrev main_while0b_v292 : Ref sig .tc := ⟨.hbm, 278, rfl⟩
abbrev main_while0b_v293 : Ref sig .tc := ⟨.hbm, 279, rfl⟩
abbrev main_while0b_v294 : Ref sig .tc := ⟨.hbm, 280, rfl⟩
abbrev main_while0b_v295 : Ref sig .tc := ⟨.hbm, 281, rfl⟩
abbrev main_while0b_v296 : Ref sig .tc := ⟨.hbm, 282, rfl⟩
abbrev main_while0b_v297 : Ref sig .tc := ⟨.hbm, 283, rfl⟩
abbrev main_while0b_v298 : Ref sig .tc := ⟨.hbm, 284, rfl⟩
abbrev main_while0b_v299 : Ref sig .tc := ⟨.hbm, 285, rfl⟩
abbrev main_while0b_v300 : Ref sig .tc := ⟨.hbm, 286, rfl⟩
abbrev main_while0b_v301 : Ref sig .tc := ⟨.hbm, 287, rfl⟩
abbrev main_while0b_cst_42 : Ref sig .tc := ⟨.hbm, 288, rfl⟩
abbrev main_while0b_v302 : Ref sig .tc := ⟨.hbm, 289, rfl⟩
abbrev main_while0b_v303 : Ref sig .tc := ⟨.hbm, 290, rfl⟩
abbrev main_while0b_v304 : Ref sig .tc := ⟨.hbm, 291, rfl⟩
abbrev main_while0b_v305 : Ref sig .tc := ⟨.hbm, 292, rfl⟩
abbrev main_while0b_v306 : Ref sig .tc := ⟨.hbm, 293, rfl⟩
abbrev main_while0b_v307 : Ref sig .tc := ⟨.hbm, 294, rfl⟩
abbrev main_while0b_v308 : Ref sig .tc := ⟨.hbm, 295, rfl⟩
abbrev main_while0b_v309 : Ref sig .tc := ⟨.hbm, 296, rfl⟩
abbrev main_while0b_v310 : Ref sig .tc := ⟨.hbm, 297, rfl⟩
abbrev main_while0b_v311 : Ref sig .tc := ⟨.hbm, 298, rfl⟩
abbrev main_while0b_v312 : Ref sig .tc := ⟨.hbm, 299, rfl⟩
abbrev main_while0b_v313 : Ref sig .tc := ⟨.hbm, 300, rfl⟩
abbrev main_while0b_v314 : Ref sig .tc := ⟨.hbm, 301, rfl⟩
abbrev main_while0b_v315 : Ref sig .tc := ⟨.hbm, 302, rfl⟩
abbrev main_while0b_v316 : Ref sig .tc := ⟨.hbm, 303, rfl⟩
abbrev main_while0b_v317 : Ref sig .tc := ⟨.hbm, 304, rfl⟩
abbrev main_while0b_v318 : Ref sig .tc := ⟨.hbm, 305, rfl⟩
abbrev main_while0b_v319 : Ref sig .tc := ⟨.hbm, 306, rfl⟩
abbrev main_while0b_call10_v0 : Ref sig .tc := ⟨.hbm, 307, rfl⟩
abbrev main_while0b_call10_c : Ref sig .tc := ⟨.hbm, 308, rfl⟩
abbrev main_while0b_call10_c_0 : Ref sig .tc := ⟨.hbm, 309, rfl⟩
abbrev main_while0b_call10_c_1 : Ref sig .tc := ⟨.hbm, 310, rfl⟩
abbrev main_while0b_call10_c_2 : Ref sig .tc := ⟨.hbm, 311, rfl⟩
abbrev main_while0b_v320 : Ref sig .tc := ⟨.hbm, 312, rfl⟩
abbrev main_while0b_call11_v0 : Ref sig .tc := ⟨.hbm, 313, rfl⟩
abbrev main_while0b_call11_c : Ref sig .tc := ⟨.hbm, 314, rfl⟩
abbrev main_while0b_call11_c_0 : Ref sig .tc := ⟨.hbm, 315, rfl⟩
abbrev main_while0b_call11_c_1 : Ref sig .tc := ⟨.hbm, 316, rfl⟩
abbrev main_while0b_call11_c_2 : Ref sig .tc := ⟨.hbm, 317, rfl⟩
abbrev main_while0b_v321 : Ref sig .tc := ⟨.hbm, 318, rfl⟩
abbrev main_while0b_call12_v0 : Ref sig .tc := ⟨.hbm, 319, rfl⟩
abbrev main_while0b_call12_c : Ref sig .tc := ⟨.hbm, 320, rfl⟩
abbrev main_while0b_call12_c_0 : Ref sig .tc := ⟨.hbm, 321, rfl⟩
abbrev main_while0b_call12_c_1 : Ref sig .tc := ⟨.hbm, 322, rfl⟩
abbrev main_while0b_call12_c_2 : Ref sig .tc := ⟨.hbm, 323, rfl⟩
abbrev main_while0b_v322 : Ref sig .tc := ⟨.hbm, 324, rfl⟩
abbrev main_while0b_call13_v0 : Ref sig .tc := ⟨.hbm, 325, rfl⟩
abbrev main_while0b_call13_c : Ref sig .tc := ⟨.hbm, 326, rfl⟩
abbrev main_while0b_call13_c_0 : Ref sig .tc := ⟨.hbm, 327, rfl⟩
abbrev main_while0b_call13_c_1 : Ref sig .tc := ⟨.hbm, 328, rfl⟩
abbrev main_while0b_call13_c_2 : Ref sig .tc := ⟨.hbm, 329, rfl⟩
abbrev main_while0b_v323 : Ref sig .tc := ⟨.hbm, 330, rfl⟩
abbrev main_while0b_c_43 : Ref sig .tc := ⟨.hbm, 331, rfl⟩
abbrev main_while0b_v324 : Ref sig .tc := ⟨.hbm, 332, rfl⟩
abbrev main_v149 : Ref sig .tc := ⟨.hbm, 333, rfl⟩
abbrev main_v150 : Ref sig .tc := ⟨.hbm, 334, rfl⟩
abbrev main_v151 : Ref sig .tc := ⟨.hbm, 335, rfl⟩
abbrev main_v152 : Ref sig .tc := ⟨.hbm, 336, rfl⟩
abbrev main_v153 : Ref sig .tc := ⟨.hbm, 337, rfl⟩
abbrev main_v154 : Ref sig .tc := ⟨.hbm, 338, rfl⟩
abbrev main_v155 : Ref sig .tc := ⟨.hbm, 339, rfl⟩
abbrev main_cst_17 : Ref sig .tc := ⟨.hbm, 340, rfl⟩
abbrev main_v156 : Ref sig .tc := ⟨.hbm, 341, rfl⟩
abbrev main_v157 : Ref sig .tc := ⟨.hbm, 342, rfl⟩
abbrev main_cst_18 : Ref sig .tc := ⟨.hbm, 343, rfl⟩
abbrev main_v158 : Ref sig .tc := ⟨.hbm, 344, rfl⟩
abbrev main_v159 : Ref sig .tc := ⟨.hbm, 345, rfl⟩
abbrev main_cst_19 : Ref sig .tc := ⟨.hbm, 346, rfl⟩
abbrev main_v160 : Ref sig .tc := ⟨.hbm, 347, rfl⟩
abbrev main_v161 : Ref sig .tc := ⟨.hbm, 348, rfl⟩
abbrev main_v162 : Ref sig .tc := ⟨.hbm, 349, rfl⟩
abbrev main_v163 : Ref sig .tc := ⟨.hbm, 350, rfl⟩
abbrev main_v164 : Ref sig .tc := ⟨.hbm, 351, rfl⟩
abbrev main_v165 : Ref sig .tc := ⟨.hbm, 352, rfl⟩
abbrev main_v166 : Ref sig .tc := ⟨.hbm, 353, rfl⟩
abbrev main_v167 : Ref sig .tc := ⟨.hbm, 354, rfl⟩
abbrev main_v168 : Ref sig .tc := ⟨.hbm, 355, rfl⟩
abbrev main_v169 : Ref sig .tc := ⟨.hbm, 356, rfl⟩
abbrev main_v170 : Ref sig .tc := ⟨.hbm, 357, rfl⟩
abbrev main_call14_v0 : Ref sig .tc := ⟨.hbm, 358, rfl⟩
abbrev main_call14_v1 : Ref sig .tc := ⟨.hbm, 359, rfl⟩
abbrev main_call14_cst : Ref sig .tc := ⟨.hbm, 360, rfl⟩
abbrev main_call14_v2 : Ref sig .tc := ⟨.hbm, 361, rfl⟩
abbrev main_call14_v3 : Ref sig .tc := ⟨.hbm, 362, rfl⟩
abbrev main_call14_cst_0 : Ref sig .tc := ⟨.hbm, 363, rfl⟩
abbrev main_call14_v4 : Ref sig .tc := ⟨.hbm, 364, rfl⟩
abbrev main_call14_v5 : Ref sig .tc := ⟨.hbm, 365, rfl⟩
abbrev main_v171 : Ref sig .tc := ⟨.hbm, 366, rfl⟩
abbrev main_v172 : Ref sig .tc := ⟨.hbm, 367, rfl⟩
abbrev main_v173 : Ref sig .tc := ⟨.hbm, 368, rfl⟩
abbrev main_cst_20 : Ref sig .tc := ⟨.hbm, 369, rfl⟩
abbrev main_v174 : Ref sig .tc := ⟨.hbm, 370, rfl⟩
abbrev main_v175 : Ref sig .tc := ⟨.hbm, 371, rfl⟩
abbrev main_cst_21 : Ref sig .tc := ⟨.hbm, 372, rfl⟩
abbrev main_v176 : Ref sig .tc := ⟨.hbm, 373, rfl⟩
abbrev main_v177 : Ref sig .tc := ⟨.hbm, 374, rfl⟩
abbrev main_cst_22 : Ref sig .tc := ⟨.hbm, 375, rfl⟩
abbrev main_v178 : Ref sig .tc := ⟨.hbm, 376, rfl⟩
abbrev main_v179 : Ref sig .tc := ⟨.hbm, 377, rfl⟩
abbrev main_v180 : Ref sig .tc := ⟨.hbm, 378, rfl⟩
abbrev main_v181 : Ref sig .tc := ⟨.hbm, 379, rfl⟩
abbrev main_v182 : Ref sig .tc := ⟨.hbm, 380, rfl⟩
abbrev main_v183 : Ref sig .tc := ⟨.hbm, 381, rfl⟩
abbrev main_v184 : Ref sig .tc := ⟨.hbm, 382, rfl⟩
abbrev main_v185 : Ref sig .tc := ⟨.hbm, 383, rfl⟩
abbrev main_v186 : Ref sig .tc := ⟨.hbm, 384, rfl⟩
abbrev main_v187 : Ref sig .tc := ⟨.hbm, 385, rfl⟩
abbrev main_v188 : Ref sig .tc := ⟨.hbm, 386, rfl⟩
abbrev main_call15_v0 : Ref sig .tc := ⟨.hbm, 387, rfl⟩
abbrev main_call15_v1 : Ref sig .tc := ⟨.hbm, 388, rfl⟩
abbrev main_call15_cst : Ref sig .tc := ⟨.hbm, 389, rfl⟩
abbrev main_call15_v2 : Ref sig .tc := ⟨.hbm, 390, rfl⟩
abbrev main_call15_v3 : Ref sig .tc := ⟨.hbm, 391, rfl⟩
abbrev main_call15_cst_0 : Ref sig .tc := ⟨.hbm, 392, rfl⟩
abbrev main_call15_v4 : Ref sig .tc := ⟨.hbm, 393, rfl⟩
abbrev main_call15_v5 : Ref sig .tc := ⟨.hbm, 394, rfl⟩
abbrev main_v189 : Ref sig .tc := ⟨.hbm, 395, rfl⟩
abbrev main_v190 : Ref sig .tc := ⟨.hbm, 396, rfl⟩
abbrev main_v191 : Ref sig .tc := ⟨.hbm, 397, rfl⟩
abbrev main_v192 : Ref sig .tc := ⟨.hbm, 398, rfl⟩
abbrev main_v193 : Ref sig .tc := ⟨.hbm, 399, rfl⟩
abbrev main_v194 : Ref sig .tc := ⟨.hbm, 400, rfl⟩
abbrev main_v195 : Ref sig .tc := ⟨.hbm, 401, rfl⟩
abbrev main_v196 : Ref sig .tc := ⟨.hbm, 402, rfl⟩
abbrev main_v197 : Ref sig .tc := ⟨.hbm, 403, rfl⟩
abbrev main_cst_23 : Ref sig .tc := ⟨.hbm, 404, rfl⟩
abbrev main_v198 : Ref sig .tc := ⟨.hbm, 405, rfl⟩
abbrev main_v199 : Ref sig .tc := ⟨.hbm, 406, rfl⟩
abbrev main_cst_24 : Ref sig .tc := ⟨.hbm, 407, rfl⟩
abbrev main_v200 : Ref sig .tc := ⟨.hbm, 408, rfl⟩
abbrev main_v201 : Ref sig .tc := ⟨.hbm, 409, rfl⟩
abbrev main_cst_25 : Ref sig .tc := ⟨.hbm, 410, rfl⟩
abbrev main_v202 : Ref sig .tc := ⟨.hbm, 411, rfl⟩
abbrev main_v203 : Ref sig .tc := ⟨.hbm, 412, rfl⟩
abbrev main_v204 : Ref sig .tc := ⟨.hbm, 413, rfl⟩
abbrev main_v205 : Ref sig .tc := ⟨.hbm, 414, rfl⟩
abbrev main_v206 : Ref sig .tc := ⟨.hbm, 415, rfl⟩
abbrev main_v207 : Ref sig .tc := ⟨.hbm, 416, rfl⟩
abbrev main_v208 : Ref sig .tc := ⟨.hbm, 417, rfl⟩
abbrev main_v209 : Ref sig .tc := ⟨.hbm, 418, rfl⟩
abbrev main_v210 : Ref sig .tc := ⟨.hbm, 419, rfl⟩
abbrev main_v211 : Ref sig .tc := ⟨.hbm, 420, rfl⟩
abbrev main_v212 : Ref sig .tc := ⟨.hbm, 421, rfl⟩
abbrev main_v213 : Ref sig .tc := ⟨.hbm, 422, rfl⟩
abbrev main_v214 : Ref sig .tc := ⟨.hbm, 423, rfl⟩
abbrev main_v215 : Ref sig .tc := ⟨.hbm, 424, rfl⟩
abbrev main_v216 : Ref sig .tc := ⟨.hbm, 425, rfl⟩
abbrev main_v217 : Ref sig .tc := ⟨.hbm, 426, rfl⟩
abbrev main_v218 : Ref sig .tc := ⟨.hbm, 427, rfl⟩
abbrev main_v219 : Ref sig .tc := ⟨.hbm, 428, rfl⟩
abbrev main_v220 : Ref sig .tc := ⟨.hbm, 429, rfl⟩
abbrev main_v221 : Ref sig .tc := ⟨.hbm, 430, rfl⟩
abbrev main_v222 : Ref sig .tc := ⟨.hbm, 431, rfl⟩
abbrev main_v223 : Ref sig .tc := ⟨.hbm, 432, rfl⟩
abbrev main_v224 : Ref sig .tc := ⟨.hbm, 433, rfl⟩
abbrev main_v225 : Ref sig .tc := ⟨.hbm, 434, rfl⟩
abbrev main_v226 : Ref sig .tc := ⟨.hbm, 435, rfl⟩
abbrev main_cst_26 : Ref sig .tc := ⟨.hbm, 436, rfl⟩
abbrev main_call16_v0 : Ref sig .tc := ⟨.hbm, 437, rfl⟩
abbrev main_call16_v1 : Ref sig .tc := ⟨.hbm, 438, rfl⟩
abbrev main_call16_v2 : Ref sig .tc := ⟨.hbm, 439, rfl⟩
abbrev main_call16_v3 : Ref sig .tc := ⟨.hbm, 440, rfl⟩
abbrev main_v227 : Ref sig .tc := ⟨.hbm, 441, rfl⟩
abbrev main_v228 : Ref sig .tc := ⟨.hbm, 442, rfl⟩
abbrev main_v229 : Ref sig .tc := ⟨.hbm, 443, rfl⟩
abbrev main_v230 : Ref sig .tc := ⟨.hbm, 444, rfl⟩
abbrev main_v231 : Ref sig .tc := ⟨.hbm, 445, rfl⟩
abbrev main_v232 : Ref sig .tc := ⟨.hbm, 446, rfl⟩
abbrev main_v233 : Ref sig .tc := ⟨.hbm, 447, rfl⟩
abbrev main_v234 : Ref sig .tc := ⟨.hbm, 448, rfl⟩
abbrev main_v235 : Ref sig .tc := ⟨.hbm, 449, rfl⟩
abbrev main_v236 : Ref sig .tc := ⟨.hbm, 450, rfl⟩
abbrev main_v237 : Ref sig .tc := ⟨.hbm, 451, rfl⟩
abbrev main_v238 : Ref sig .tc := ⟨.hbm, 452, rfl⟩
abbrev main_v239 : Ref sig .tc := ⟨.hbm, 453, rfl⟩
abbrev main_v240 : Ref sig .tc := ⟨.hbm, 454, rfl⟩
abbrev main_cst_27 : Ref sig .tc := ⟨.hbm, 455, rfl⟩
abbrev main_call17_v0 : Ref sig .tc := ⟨.hbm, 456, rfl⟩
abbrev main_call17_v1 : Ref sig .tc := ⟨.hbm, 457, rfl⟩
abbrev main_call17_v2 : Ref sig .tc := ⟨.hbm, 458, rfl⟩
abbrev main_call17_v3 : Ref sig .tc := ⟨.hbm, 459, rfl⟩
abbrev main_v241 : Ref sig .tc := ⟨.hbm, 460, rfl⟩
abbrev main_v242 : Ref sig .tc := ⟨.hbm, 461, rfl⟩
abbrev main_v243 : Ref sig .tc := ⟨.hbm, 462, rfl⟩
abbrev main_v244 : Ref sig .tc := ⟨.hbm, 463, rfl⟩
abbrev main_v245 : Ref sig .tc := ⟨.hbm, 464, rfl⟩
abbrev main_v246 : Ref sig .tc := ⟨.hbm, 465, rfl⟩
abbrev main_v247 : Ref sig .tc := ⟨.hbm, 466, rfl⟩
abbrev main_v248 : Ref sig .tc := ⟨.hbm, 467, rfl⟩
abbrev main_v249 : Ref sig .tc := ⟨.hbm, 468, rfl⟩

abbrev nD : Nat := 1
abbrev τ : Topo := Topo.v7x

variable {F : FTy → Type} [FloatOps F]

abbrev main_while0_count : Scf.Loop 32 := ⟨0#32, 64#32, 1#32⟩
-- ==== BwdKernel.lean ====
abbrev S1x4096x3088 : Shape := ⟨3, ![1, 4096, 3088]⟩
abbrev S1x512 : Shape := ⟨2, ![1, 512]⟩
abbrev S1x16x256 : Shape := ⟨3, ![1, 16, 256]⟩
abbrev S1x256 : Shape := ⟨2, ![1, 256]⟩
abbrev S1x1024x1024 : Shape := ⟨3, ![1, 1024, 1024]⟩
abbrev S4096x1024 : Shape := ⟨2, ![4096, 1024]⟩
abbrev S16x2x512x256 : Shape := ⟨4, ![16, 2, 512, 256]⟩
abbrev S4096x3088 : Shape := ⟨2, ![4096, 3088]⟩
abbrev S_ : Shape := ⟨0, ![]⟩
abbrev S4096x3200 : Shape := ⟨2, ![4096, 3200]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S4 : Shape := ⟨1, ![4]⟩
abbrev S4x64 : Shape := ⟨2, ![4, 64]⟩
abbrev S256 : Shape := ⟨1, ![256]⟩
abbrev S16x256 : Shape := ⟨2, ![16, 256]⟩
abbrev S128x256 : Shape := ⟨2, ![128, 256]⟩
abbrev S1024x1024 : Shape := ⟨2, ![1024, 1024]⟩
abbrev S256x3200 : Shape := ⟨2, ![256, 3200]⟩
abbrev S256x128 : Shape := ⟨2, ![256, 128]⟩
abbrev S256x1024 : Shape := ⟨2, ![256, 1024]⟩
abbrev S1x2x512x256 : Shape := ⟨4, ![1, 2, 512, 256]⟩
abbrev S2x512x256 : Shape := ⟨3, ![2, 512, 256]⟩
abbrev S256x256 : Shape := ⟨2, ![256, 256]⟩
abbrev S512x256 : Shape := ⟨2, ![512, 256]⟩
abbrev S256x512 : Shape := ⟨2, ![256, 512]⟩
abbrev S256x1 : Shape := ⟨2, ![256, 1]⟩
abbrev S1x128 : Shape := ⟨2, ![1, 128]⟩
abbrev S128 : Shape := ⟨1, ![128]⟩
abbrev S1x1x512x256 : Shape := ⟨4, ![1, 1, 512, 256]⟩
abbrev S1x512x256 : Shape := ⟨3, ![1, 512, 256]⟩
abbrev S1024x256 : Shape := ⟨2, ![1024, 256]⟩

abbrev nBuf : Space → Nat
  | .hbm => 68
  | .vmem => 26
  | .smem => 0
  | _ => 0

abbrev bufTy : (tb : Table) → Fin (tcTables nBuf tb) → BufTy
  | .hbm, ⟨0, _⟩ => ⟨S1x4096x3088, .f32⟩
  | .hbm, ⟨1, _⟩ => ⟨S1x512, .f32⟩
  | .hbm, ⟨2, _⟩ => ⟨S1x16x256, .f32⟩
  | .hbm, ⟨3, _⟩ => ⟨S1x256, .f32⟩
  | .hbm, ⟨4, _⟩ => ⟨S1x512, .f32⟩
  | .hbm, ⟨5, _⟩ => ⟨S1x1024x1024, .f32⟩
  | .hbm, ⟨6, _⟩ => ⟨S4096x1024, .f32⟩
  | .hbm, ⟨7, _⟩ => ⟨S16x2x512x256, .f32⟩
  | .hbm, ⟨8, _⟩ => ⟨S4096x1024, .f32⟩
  | .hbm, ⟨9, _⟩ => ⟨S4096x3088, .f32⟩
  | .hbm, ⟨10, _⟩ => ⟨S_, .i32⟩
  | .hbm, ⟨11, _⟩ => ⟨S_, .f32⟩
  | .hbm, ⟨12, _⟩ => ⟨S4096x3200, .f32⟩
  | .hbm, ⟨13, _⟩ => ⟨S4096x3200, .bf16⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S4096, .f32⟩
  | .hbm, ⟨26, _⟩ => ⟨S4096x1, .f32⟩
  | .hbm, ⟨27, _⟩ => ⟨S1x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x64, .f32⟩
  | .hbm, ⟨34, _⟩ => ⟨S4096x32, .f32⟩
  | .hbm, ⟨35, _⟩ => ⟨S4096x64, .f32⟩
  | .hbm, ⟨36, _⟩ => ⟨S1x4096x1x64, .f32⟩
  | .hbm, ⟨37, _⟩ => ⟨S1x4096x2x64, .f32⟩
  | .hbm, ⟨38, _⟩ => ⟨S4096x128, .f32⟩
  | .hbm, ⟨39, _⟩ => ⟨S1x4096x1x64, .f32⟩
  | .hbm, ⟨40, _⟩ => ⟨S1x4096x2x64, .f32⟩
  | .hbm, ⟨41, _⟩ => ⟨S4096x128, .f32⟩
  | .hbm, ⟨42, _⟩ => ⟨S4, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S_, .f32⟩
  | .hbm, ⟨47, _⟩ => ⟨S4, .f32⟩
  | .hbm, ⟨48, _⟩ => ⟨S4, .f32⟩
  | .hbm, ⟨49, _⟩ => ⟨S_, .f32⟩
  | .hbm, ⟨50, _⟩ => ⟨S4, .f32⟩
  | .hbm, ⟨51, _⟩ => ⟨S4, .f32⟩
  | .hbm, ⟨52, _⟩ => ⟨S4, .f32⟩
  | .hbm, ⟨53, _⟩ => ⟨S4x64, .f32⟩
  | .hbm, ⟨54, _⟩ => ⟨S256, .f32⟩
  | .hbm, ⟨55, _⟩ => ⟨S1x256, .f32⟩
  | .hbm, ⟨56, _⟩ => ⟨S16x256, .f32⟩
  | .hbm, ⟨57, _⟩ => ⟨S_, .i32⟩
  | .hbm, ⟨58, _⟩ => ⟨S_, .f32⟩
  | .hbm, ⟨59, _⟩ => ⟨S128x256, .f32⟩
  | .hbm, ⟨60, _⟩ => ⟨S1024x1024, .f32⟩
  | .hbm, ⟨61, _⟩ => ⟨S1024x1024, .bf16⟩
  | .hbm, ⟨62, _⟩ => ⟨S4096x1024, .bf16⟩
  | .hbm, ⟨63, _⟩ => ⟨S4096x3200, .bf16⟩
  | .hbm, ⟨64, _⟩ => ⟨S1x512, .f32⟩
  | .hbm, ⟨65, _⟩ => ⟨S1x512, .f32⟩
  | .hbm, ⟨66, _⟩ => ⟨S1x256, .f32⟩
  | .hbm, ⟨67, _⟩ => ⟨S128x256, .f32⟩
  | .local _ .vmem, ⟨0, _⟩ => ⟨S256x3200, .bf16⟩
  | .local _ .vmem, ⟨1, _⟩ => ⟨S256x3200, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x256, .f32⟩
  | .local _ .vmem, ⟨7, _⟩ => ⟨S128x256, .f32⟩
  | .local _ .vmem, ⟨8, _⟩ => ⟨S1x256, .f32⟩
  | .local _ .vmem, ⟨9, _⟩ => ⟨S1x512, .f32⟩
  | .local _ .vmem, ⟨10, _⟩ => ⟨S1x512, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1024x1024, .bf16⟩
  | .local _ .vmem, ⟨16, _⟩ => ⟨S1x2x512x256, .f32⟩
  | .local _ .vmem, ⟨17, _⟩ => ⟨S1x2x512x256, .f32⟩
  | .local _ .vmem, ⟨18, _⟩ => ⟨S256x3200, .bf16⟩
  | .local _ .vmem, ⟨19, _⟩ => ⟨S256x3200, .bf16⟩
  | .local _ .vmem, ⟨20, _⟩ => ⟨S1x512, .f32⟩
  | .local _ .vmem, ⟨21, _⟩ => ⟨S1x512, .f32⟩
  | .local _ .vmem, ⟨22, _⟩ => ⟨S1x256, .f32⟩
  | .local _ .vmem, ⟨23, _⟩ => ⟨S128x256, .f32⟩
  | .local _ .vmem, ⟨24, _⟩ => ⟨S2x512x256, .f32⟩
  | .local _ .vmem, ⟨25, _⟩ => ⟨S256x1024, .f32⟩
  | _, _ => ⟨S1x4096x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_5 : Ref sig .tc := ⟨.hbm, 57, rfl⟩
abbrev main_call1_v0 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44_0 : Ref sig .tc := ⟨.hbm, 63, rfl⟩
abbrev main_v44_1 : Ref sig .tc := ⟨.hbm, 64, rfl⟩
abbrev main_v44_2 : Ref sig .tc := ⟨.hbm, 65, rfl⟩
abbrev main_v44_3 : Ref sig .tc := ⟨.hbm, 66, rfl⟩
abbrev main_v44_4 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x2x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x3200 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Proof.Rms.lean ====
/-
  The gradient of the root-mean-square norm of one row, over the extended reals: the form the kernels compute
  (the normalised row times the mean of the products) and the form the derivative of the norm gives (through the
  derivative of the reciprocal root) are one value, for every row and every cotangent, finite or not.
-/
module

public import Idealize.ShloMosaic.PureOps.Ideal
public import Idealize.ShloMosaic.PureOps.Ideal.Laws
public import Idealize.ShloMosaic.Lib.Pointwise

@[expose] public section

noncomputable section

open Idealize.ShloMosaic

namespace Cert.Rms

/-- The row length, 1024, as the programs hold it. -/
theorem ofBits_1024 : Ideal.ofBits .f32 0x44800000#32 = ((1024 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- The norm's small constant is a positive real. -/
theorem eps_pos : ∃ e : ℝ, 0 < e ∧ Ideal.ofBits .f32 0x358637BD#32 = (e : EReal) := by
  refine ⟨8796093 / 2 ^ 43, by positivity, ?_⟩
  simp [Ideal.ofBits, Ideal.ieee, -EReal.coe_mul]; norm_num

/-- A product with a nonnegative real goes into a sum, whatever the terms. -/
theorem sum_mul_coe {ι : Type} (s : Finset ι) (f : ι → EReal) {r : ℝ} (hr : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

theorem mul_self_nonneg (x : EReal) : 0 ≤ x * x := by
  induction x with
  | bot => simp
  | top => simp
  | coe r => exact_mod_cast _root_.mul_self_nonneg r

/-- The mean of the squares of a row plus the small constant. -/
def var (x : Fin 1024 → EReal) : EReal :=
  Ideal.div (∑ k, x k * x k) (Ideal.ofBits .f32 0x44800000#32) + Ideal.ofBits .f32 0x358637BD#32

/-- Its reciprocal square root: the norm's factor for the row. -/
def rinv (x : Fin 1024 → EReal) : EReal := Ideal.rsqrt (var x)

/-- The mean of squares plus the small constant is a positive real or `⊤`. -/
theorem var_cases (x : Fin 1024 → EReal) : var x = ⊤ ∨ ∃ v : ℝ, 0 < v ∧ var x = (v : EReal) := by
  obtain ⟨e, he, hE⟩ := eps_pos
  have hs : 0 ≤ ∑ k, x k * x k := Finset.sum_nonneg fun k _ => mul_self_nonneg (x k)
  unfold var
  rw [hE, ofBits_1024, Ideal.div_coe (by norm_num)]
  generalize (∑ k, x k * x k) = s at hs
  induction s with
  | bot => simp at hs
  | top =>
    left
    rw [EReal.top_mul_coe_of_pos (by norm_num)]
    exact EReal.top_add_coe e
  | coe s =>
    right
    have hs' : 0 ≤ s := by exact_mod_cast hs
    refine ⟨s * (1 / 1024) + e, by positivity, ?_⟩
    rw [EReal.coe_add, EReal.coe_mul]

/-- The row's gradient as the kernels compute it. -/
def grad (x w : Fin 1024 → EReal) (j : Fin 1024) : EReal :=
  rinv x * (w j - x j * rinv x * Ideal.div (∑ k, w k * (x k * rinv x)) (Ideal.ofBits .f32 0x44800000#32))

/-- Half the derivative of the mean of squares, as the derivative of the reciprocal root gives it. -/
def slope (x w : Fin 1024 → EReal) : EReal :=
  Ideal.div ((∑ k, x k * w k) * (Ideal.ofBits .f32 0xBF000000#32 * Ideal.div (rinv x) (var x)))
    (Ideal.ofBits .f32 0x44800000#32)

theorem add_self_eq (y : EReal) : y + y = y * ((2 : ℝ) : EReal) := by
  induction y with
  | bot => rw [EReal.bot_mul_coe_of_pos (by norm_num)]; rfl
  | top => rw [EReal.top_mul_coe_of_pos (by norm_num)]; rfl
  | coe r => norm_cast; ring

/-- The two forms of the row's gradient are one value. -/
theorem grad_eq (x w : Fin 1024 → EReal) (j : Fin 1024) :
    grad x w j = w j * rinv x + (x j * slope x w + slope x w * x j) := by
  unfold grad slope
  rcases var_cases x with hv | ⟨v, hv0, hv⟩
  · have hi : rinv x = 0 := by unfold rinv; rw [hv]; rfl
    rw [hi, hv]
    simp [Ideal.div, ofBits_1024]
  · have hi : rinv x = (((Real.sqrt v)⁻¹ : ℝ) : EReal) := by
      unfold rinv; rw [hv, Ideal.rsqrt_coe, if_neg (not_lt.mpr hv0.le), if_neg hv0.ne']
    set r : ℝ := (Real.sqrt v)⁻¹ with hr
    have hr0 : 0 ≤ r := by positivity
    have hr2 : r * r = 1 / v := by
      rw [hr, ← mul_inv, Real.mul_self_sqrt hv0.le, one_div]
    have hS : ∑ k, w k * (x k * (r : EReal)) = (∑ k, x k * w k) * (r : EReal) := by
      rw [← sum_mul_coe _ _ hr0]
      exact Finset.sum_congr rfl fun k _ => by rw [← mul_assoc, mul_comm (w k)]
    rw [hi, hv, hS, ofBits_1024, ofBits_neg_half]
    rw [Ideal.div_coe (by norm_num), Ideal.div_coe (by norm_num), Ideal.div_coe hv0.ne']
    generalize (∑ k, x k * w k) = T
    rw [mul_comm _ (x j), add_self_eq, mul_comm (r : EReal), sub_eq_add_neg,
      EReal.right_distrib_of_nonneg_of_ne_top (by exact_mod_cast hr0) (EReal.coe_ne_top r)]
    congr 1
    have e1 : x j * (r : EReal) * (T * (r : EReal) * ((1 / 1024 : ℝ) : EReal))
        = x j * T * ((r * r * (1 / 1024) : ℝ) : EReal) := by
      simp only [EReal.coe_mul]; ac_rfl
    have e2 : x j * (T * (((-(1 / 2) : ℝ) : EReal) * ((r : EReal) * ((1 / v : ℝ) : EReal))) * ((1 / 1024 : ℝ) : EReal))
          * ((2 : ℝ) : EReal)
        = x j * T * ((-(r * r * (1 / 1024) * r) : ℝ) : EReal) := by
      rw [← hr2, show (-(r * r * (1 / 1024) * r) : ℝ) = -(1 / 2) * (r * (r * r)) * (1 / 1024) * 2 by ring]
      simp only [EReal.coe_mul]; ac_rfl
    rw [e1, e2, EReal.neg_mul, mul_assoc, ← EReal.coe_mul, EReal.coe_neg, mul_neg]

/-- An array of `4096` rows. -/
abbrev Rows : Type := (⟨2, ![4096, 1024]⟩ : Shape).Idx → EReal

/-- The gradient of the norm's input: each row's gradient for the cotangent `w` times the gain, plus what the residual brings. -/
def dx (x : Rows) (g : (⟨2, ![1, 1024]⟩ : Shape).Idx → EReal) (d : Rows) (w : Fin 4096 → Fin 1024 → EReal) (R : Fin 4096) (l : Fin 1024) : EReal :=
  grad (fun k => x (ix2 R k)) (fun k => w R k * g (ix2 0 k)) l + d (ix2 R l)

/-- A row's part in the gradient of the gain: the cotangent times the normalised row. -/
def gainTerm (x : Rows) (w : Fin 4096 → Fin 1024 → EReal) (l : Fin 1024) (R : Fin 4096) : EReal :=
  w R l * (x (ix2 R l) * rinv fun k => x (ix2 R k))

/-- The gradient of the gain: the column sums. -/
def dgain (x : Rows) (w : Fin 4096 → Fin 1024 → EReal) (l : Fin 1024) : EReal := ∑ R : Fin 4096, gainTerm x w l R

/-- An array by its entries. -/
def ofRows (f : Fin 4096 → Fin 1024 → EReal) : Rows := fun i => f (i 0) (i 1)

/-- A row by its entries. -/
def ofRow (f : Fin 1024 → EReal) : (⟨2, ![1, 1024]⟩ : Shape).Idx → EReal := fun i => f (i 1)

/-- Two products with transposed matrices, added. -/
def mm2 (a : (⟨2, ![4096, 2816]⟩ : Shape).Idx → EReal) (b : (⟨3, ![1, 1024, 2816]⟩ : Shape).Idx → EReal)
    (a' : (⟨2, ![4096, 2816]⟩ : Shape).Idx → EReal) (b' : (⟨3, ![1, 1024, 2816]⟩ : Shape).Idx → EReal) (R : Fin 4096) (l : Fin 1024) : EReal :=
  (∑ k : Fin 2816, a (ix2 R k) * b (ix3 0 l k)) + ∑ k : Fin 2816, a' (ix2 R k) * b' (ix3 0 l k)

/-- One product with a transposed matrix. -/
def mm1 (a : (⟨2, ![4096, 3088]⟩ : Shape).Idx → EReal) (b : (⟨3, ![1, 1024, 3088]⟩ : Shape).Idx → EReal) (R : Fin 4096) (l : Fin 1024) : EReal :=
  ∑ k : Fin 3088, a (ix2 R k) * b (ix3 0 l k)

/-- A sum over padded columns is the sum over the columns when the padding adds zero. -/
theorem sum_pad {N n : Nat} (h : n ≤ N) (f : Fin N → EReal) (g : Fin n → EReal) (hin : ∀ k : Fin n, f (Fin.castLE h k) = g k)
    (hout : ∀ k : Fin N, n ≤ k.val → f k = 0) : ∑ k, f k = ∑ k, g k := by
  obtain ⟨d, rfl⟩ := Nat.exists_eq_add_of_le h
  rw [Fin.sum_univ_add, Finset.sum_eq_zero (s := (Finset.univ : Finset (Fin d))) fun k _ => hout (Fin.natAdd n k) (Nat.le_add_right n k), add_zero]
  exact Finset.sum_congr rfl fun k _ => hin k

/-- A sum kept over eight tiles of `512` rows is the sum over the rows. -/
theorem acc_rows (f : Fin 4096 → EReal) (a : ∀ n, n < 8 → EReal)
    (h0 : a 0 (by decide) = 0 + ∑ r : Fin 512, f ⟨0 * 512 + r.val, by have := r.isLt; omega⟩)
    (hs : ∀ n (h : n + 1 < 8), a (n + 1) h = a n (by omega) + ∑ r : Fin 512, f ⟨(n + 1) * 512 + r.val, by have := r.isLt; omega⟩) :
    a 7 (by decide) = ∑ R : Fin 4096, f R := by
  have key : ∀ n (h : n < 8), a n h = ∑ j : Fin (n + 1), ∑ r : Fin 512, f ⟨j.val * 512 + r.val, by have := r.isLt; have := j.isLt; omega⟩ := by
    intro n
    induction n with
    | zero => intro h; rw [h0, Fin.sum_univ_castSucc (n := 0), Fin.sum_univ_zero]; rfl
    | succ n ih => intro h; rw [hs n h, ih, Fin.sum_univ_castSucc (n := n + 1)]; rfl
  rw [key 7 (by decide)]
  exact (Fin.sum_univ_tiles 8 512 (by decide) f).symm

end Cert.Rms

end
-- ==== Proof.Finite.lean ====
/- Finite extended reals: what a finiteness test says of an array's entries, sums and products of finite ones, and the gated unit's two forms of one gradient. -/
module

public import proofs.«01_k».proof.Proof.Rms
public import Idealize.ShloMosaic.Lib.Pointwise
public import Idealize.ShloMosaic.Lib.ReduceAll
public import Idealize.ShloMosaic.Lib.IdealHost

@[expose] public section

noncomputable section

open Idealize.ShloMosaic

namespace Cert.Finite

/-- A finite value. -/
def IsReal (x : EReal) : Prop := ∃ r : ℝ, x = (r : EReal)

theorem IsReal.coe (r : ℝ) : IsReal (r : EReal) := ⟨r, rfl⟩

theorem IsReal.mul {x y : EReal} : IsReal x → IsReal y → IsReal (x * y) := by
  rintro ⟨a, rfl⟩ ⟨b, rfl⟩
  exact ⟨a * b, (EReal.coe_mul a b).symm⟩

theorem IsReal.add {x y : EReal} : IsReal x → IsReal y → IsReal (x + y) := by
  rintro ⟨a, rfl⟩ ⟨b, rfl⟩
  exact ⟨a + b, (EReal.coe_add a b).symm⟩

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A value whose absolute value is below infinity is finite. -/
theorem isReal_of_abs_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := of_decide_eq_true (by
    have h' : BitVec.ofBool (decide (max x (-x) < ⊤)) = 1#1 := h
    revert h'
    cases decide (max x (-x) < ⊤) <;> simp)
  rw [max_lt_iff] at hlt
  induction x with
  | bot => simp at hlt
  | top => simp at hlt
  | coe r => exact ⟨r, rfl⟩

/-- An array whose every entry passes the finiteness test has finite entries. -/
theorem all_real {s t : Shape} {axes : List (Fin s.rank)} [Subsingleton t.Idx] (x : FVec Ideal s .f32) (hb : (⟨0, ![]⟩ : Shape).BroadcastsInDim s (![] : Fin 0 → Fin s.rank)) (init : (⟨0, ![]⟩ : Shape).Idx → BitVec 1)
    (h : s.ReducesTo axes t) (hu : 0 < (⟨0, ![]⟩ : Shape).numel) (j : t.Idx)
    (e : Host.reduce IntOp.andi (cmpf .olt (Host.absf x) (broadcastInDim s ![] hb (constant ⟨0, ![]⟩ .f32 0x7F800000#32))) init h hu j = 1#1) (i : s.Idx) : IsReal (x i) :=
  isReal_of_abs_lt _ (Host.reduce_andi_all _ _ h hu j e i)

/-- The sigmoid of any value is finite. -/
theorem div_exp_cases (a : EReal) :
    (∃ r : ℝ, a = r) ∨ (a = ⊤ ∧ Ideal.div 1 (1 + Ideal.exp (0 - a)) = 1) ∨ (a = ⊥ ∧ Ideal.div 1 (1 + Ideal.exp (0 - a)) = 0) := by
  induction a with
  | bot => exact .inr (.inr ⟨rfl, by
      rw [zero_sub, EReal.neg_bot, show Ideal.exp ⊤ = ⊤ from rfl]
      rw [show (1 + ⊤ : EReal) = ⊤ from EReal.coe_add_top 1]
      simp [Ideal.div]⟩)
  | top => exact .inr (.inl ⟨rfl, by
      rw [zero_sub, EReal.neg_top, show Ideal.exp ⊥ = 0 from rfl]
      simp [Ideal.div]⟩)
  | coe r => exact .inl ⟨r, rfl⟩

theorem div_exp_real (r : ℝ) : IsReal (Ideal.div 1 (1 + Ideal.exp (0 - (r : EReal)))) := by
  have hp : (0 : ℝ) < 1 + Real.exp (-r) := by positivity
  refine ⟨(1 + Real.exp (-r))⁻¹, ?_⟩
  have e : (1 + Ideal.exp (0 - (r : EReal)) : EReal) = ((1 + Real.exp (-r) : ℝ) : EReal) := by
    rw [zero_sub, ← EReal.coe_neg]
    show (1 : EReal) + ((Real.exp (-r) : ℝ) : EReal) = _
    rw [EReal.coe_add]; rfl
  rw [e]
  unfold Ideal.div
  rw [if_neg (by rw [← EReal.coe_zero, EReal.coe_eq_coe_iff]; exact hp.ne'), one_mul, ← EReal.coe_inv]

/-- The gradient through the gate, in the kernel's grouping and in the reference's, for finite `d` and `b`. -/
theorem gate_grad (d b a s : EReal) (hs : s = Ideal.div 1 (1 + Ideal.exp (0 - a))) (hd : IsReal d) (hb : IsReal b) :
    d * b * s + a * (d * b) * (s * (1 - s)) = d * (b * (s + a * s * (1 - s))) := by
  obtain ⟨d, rfl⟩ := hd
  obtain ⟨b, rfl⟩ := hb
  rcases div_exp_cases a with ⟨r, rfl⟩ | ⟨rfl, h⟩ | ⟨rfl, h⟩
  · obtain ⟨q, hq⟩ := div_exp_real r
    rw [← hs] at hq
    rw [hq, ← EReal.coe_one]
    norm_cast
    ring
  · rw [h] at hs
    subst hs
    have e : (1 - 1 : EReal) = 0 := by rw [← EReal.coe_one, ← EReal.coe_sub, sub_self, EReal.coe_zero]
    simp [e]
  · rw [h] at hs
    subst hs
    simp

end Cert.Finite
end
-- ==== Proof.GateValue.lean ====
/- What the gated unit's two calls leave: the forward call's two saved arrays and its result, then the saved arrays' products with the row products. -/
module

public import proofs.«01_k».proof.Proof.Gen.GateKernelIdeal.Frame
public import proofs.«01_k».proof.Proof.Rms
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.GateKernelIdeal.Value

open Cert.GateKernelIdeal Cert.GateKernelIdeal.Gen Cert.Rms

/-- The sigmoid as the kernel writes it. -/
def sg (a : EReal) : EReal :=
  Ideal.div 1 (1 + Ideal.exp (0 - a))

/-- The first saved value: `b (s + a s (1 - s))`. -/
def dsw (a b : EReal) : EReal := b * (sg a + a * sg a * (1 - sg a))

theorem pay7_apply (x : Vec Ideal S1024x1024 .bf16) (g : Vec Ideal S1x256x1024 .bf16) (r : Fin 1024) (l : Fin 256) :
    k0_pay7 x g (ix2 r l) = (∑ k : Fin 1024, x (ix2 r k) * g (ix3 0 l k) : EReal) := by
  pointwise! [k0_pay7, k0_pay6]

theorem pay8_apply (x : Vec Ideal S1024x1024 .bf16) (g : Vec Ideal S1x256x1024 .bf16) (r : Fin 1024) (l : Fin 256) :
    k0_pay8 x g (ix2 r l) = (∑ k : Fin 1024, x (ix2 r k) * g (ix3 0 l k) : EReal) := by
  pointwise! [k0_pay8, k0_pay6]

theorem pay11_apply (x : Vec Ideal S1024x1024 .bf16) (g u : Vec Ideal S1x256x1024 .bf16) (r : Fin 1024) (l : Fin 256) :
    k0_pay11 x g u (ix2 r l) = dsw (∑ k : Fin 1024, x (ix2 r k) * g (ix3 0 l k)) (∑ k : Fin 1024, x (ix2 r k) * u (ix3 0 l k)) := by
  rw [← pay7_apply, ← pay8_apply]
  unfold k0_pay11 k0_pay10 k0_pay9
  generalize k0_pay7 x g = y
  generalize k0_pay8 x u = z
  pointwise! [dsw, sg]

theorem pay12_apply (x : Vec Ideal S1024x1024 .bf16) (g : Vec Ideal S1x256x1024 .bf16) (r : Fin 1024) (l : Fin 256) :
    k0_pay12 x g (ix2 r l) = (∑ k : Fin 1024, x (ix2 r k) * g (ix3 0 l k) : EReal) * sg (∑ k : Fin 1024, x (ix2 r k) * g (ix3 0 l k)) := by
  rw [← pay7_apply]
  unfold k0_pay12 k0_pay10 k0_pay9
  generalize k0_pay7 x g = y
  pointwise! [dsw, sg]

theorem pay13_apply (x : Vec Ideal S1024x1024 .bf16) (g u : Vec Ideal S1x256x1024 .bf16) (r : Fin 1024) (l : Fin 256) :
    k0_pay13 x g u (ix2 r l) = (∑ k : Fin 1024, x (ix2 r k) * g (ix3 0 l k) : EReal) * sg (∑ k : Fin 1024, x (ix2 r k) * g (ix3 0 l k))
      * (∑ k : Fin 1024, x (ix2 r k) * u (ix3 0 l k) : EReal) := by
  rw [← pay7_apply, ← pay8_apply]
  unfold k0_pay13 k0_pay10 k0_pay9
  generalize k0_pay7 x g = y
  generalize k0_pay8 x u = z
  pointwise! [sg]

theorem pay2_apply (x : Vec Ideal S1024x1024 .bf16) (w : Vec Ideal S1x256x1024 .bf16) (y : Vec Ideal S1024x256 .bf16) (r : Fin 1024) (l : Fin 256) :
    k1_pay2 x w y (ix2 r l) = (∑ k : Fin 1024, x (ix2 r k) * w (ix3 0 l k) : EReal) * y (ix2 r l) := by
  pointwise! [k1_pay2, k1_pay1]

/-- An array written in four row pieces. -/
theorem canon_rows (p3 p2 p1 p0 : Vec Ideal S1024x256 .bf16) (G : S4096x256.Idx → Elt Ideal .bf16)
    (h3 : ∀ r l, p3 (ix2 r l) = G (ix2 ⟨3072 + r.val, by have := r.isLt; omega⟩ l)) (h2 : ∀ r l, p2 (ix2 r l) = G (ix2 ⟨2048 + r.val, by have := r.isLt; omega⟩ l))
    (h1 : ∀ r l, p1 (ix2 r l) = G (ix2 ⟨1024 + r.val, by have := r.isLt; omega⟩ l)) (h0 : ∀ r l, p0 (ix2 r l) = G (ix2 ⟨r.val, by have := r.isLt; omega⟩ l)) :
    View.canon [⟨r0_8, p3⟩, ⟨r0_6, p2⟩, ⟨r0_4, p1⟩, ⟨r0_2, p0⟩] = G :=
  funext fun y => View.canon_apply_of_pieces G _ (fun p hp => by
    have e : ∀ (n : Nat) (h : ∀ a, (![n, 0] : Fin 2 → Nat) a + S1024x256.size a ≤ S4096x256.size a) (q : Vec Ideal S1024x256 .bf16) (hn : ∀ r : Fin 1024, n + r.val < 4096),
        (∀ r l, q (ix2 r l) = G (ix2 ⟨n + r.val, hn r⟩ l)) → ∀ x : S1024x256.Idx, q x = G ((Rect.unit (s := S4096x256) ![n, 0] S1024x256.size h).emb x) := fun n h q hn hq x => by
      idx_vars x
      refine (hq _ _).trans (congrArg G (funext fun a => Fin.ext ?_))
      match a with
      | ⟨0, _⟩ => show n + x0.val = n + 1 * x0.val; omega
      | ⟨1, _⟩ => show x1.val = 0 + 1 * x1.val; omega
    simp only [List.mem_cons, List.not_mem_nil, or_false] at hp
    rcases hp with rfl | rfl | rfl | rfl
    · exact e 3072 inb_S4096x256_S1024x256_3072_0 _ (fun r => by have := r.isLt; omega) h3
    · exact e 2048 inb_S4096x256_S1024x256_2048_0 _ (fun r => by have := r.isLt; omega) h2
    · exact e 1024 inb_S4096x256_S1024x256_1024_0 _ (fun r => by have := r.isLt; omega) h1
    · exact e 0 inb_S4096x256_S1024x256_0_0 _ (fun r => by have := r.isLt; omega) fun r l => (h0 r l).trans (congrArg (fun z => G (ix2 z l)) (Fin.ext (Nat.zero_add _).symm))) y (cover0_3 p3 p2 p1 p0 y)

theorem hz3 : (![0, 0, 0] : Fin 3 → Nat) = fun _ => 0 := funext fun a => by fin_cases a <;> rfl

/-- Four row pieces read at an entry. -/
theorem ld_rows (n : Nat) (x : Vec Ideal S4096x1024 .bf16) (h : ∀ a, (![n, 0] : Fin 2 → Nat) a + S1024x1024.size a ≤ S4096x1024.size a)
    (r : Fin 1024) (k : Fin 1024) (hn : n + r.val < 4096) :
    View.ld (Val := Elt Ideal) (e' := .bf16) x (Rect.unit (s := S4096x1024) ![n, 0] S1024x1024.size h) (ix2 r k) = x (ix2 ⟨n + r.val, hn⟩ k) :=
  congrArg x (funext fun a => Fin.ext (by
    match a with
    | ⟨0, _⟩ => show n + 1 * r.val = n + r.val; omega
    | ⟨1, _⟩ => show 0 + 1 * k.val = k.val; omega))

theorem ld_cols (n : Nat) (x : Vec Ideal S4096x256 .bf16) (h : ∀ a, (![n, 0] : Fin 2 → Nat) a + S1024x256.size a ≤ S4096x256.size a)
    (r : Fin 1024) (k : Fin 256) (hn : n + r.val < 4096) :
    View.ld (Val := Elt Ideal) (e' := .bf16) x (Rect.unit (s := S4096x256) ![n, 0] S1024x256.size h) (ix2 r k) = x (ix2 ⟨n + r.val, hn⟩ k) :=
  congrArg x (funext fun a => Fin.ext (by
    match a with
    | ⟨0, _⟩ => show n + 1 * r.val = n + r.val; omega
    | ⟨1, _⟩ => show 0 + 1 * k.val = k.val; omega))

/-- The product of a row of the rows with a row of the matrix's block. -/
abbrev dotBlk (x : FVec Ideal S4096x1024 .bf16) (w : FVec Ideal S1x256x1024 .bf16) (R : Fin 4096) (l : Fin 256) : EReal :=
  ∑ k : Fin 1024, x (ix2 R k) * w (ix3 0 l k)

theorem out3_apply (x0 : Vec Ideal S4096x1024 .bf16) (x1 x2 : Vec Ideal S1x256x1024 .bf16) (R : Fin 4096) (l : Fin 256) :
    out0_3 x0 x1 x2 (ix2 R l) = dsw (dotBlk x0 x1 R l) (dotBlk x0 x2 R l) := by
  have e : ∀ (n : Nat) (h : ∀ a, (![n, 0] : Fin 2 → Nat) a + S1024x1024.size a ≤ S4096x1024.size a) (r : Fin 1024) (l : Fin 256) (hn : n + r.val < 4096),
      k0_pay11 (View.ld x0 (Rect.unit (s := S4096x1024) ![n, 0] S1024x1024.size h)) (View.ld x1 r0_1) (View.ld x2 r0_1) (ix2 r l)
        = dsw (dotBlk x0 x1 ⟨n + r.val, hn⟩ l) (dotBlk x0 x2 ⟨n + r.val, hn⟩ l) := fun n h r l hn => by
    rw [pay11_apply, View.ld_unit_zero (S := S1x256x1024) hz3, View.ld_unit_zero (S := S1x256x1024) hz3]
    simp only [ld_rows n x0 h r _ hn]
  unfold out0_3
  refine congrFun (canon_rows _ _ _ _ (fun y => dsw (dotBlk x0 x1 (y 0) (y 1)) (dotBlk x0 x2 (y 0) (y 1))) (fun r l => ?_) (fun r l => ?_) (fun r l => ?_) fun r l => ?_) (ix2 R l)
  · exact e 3072 inb_S4096x1024_S1024x1024_3072_0 r l _
  · exact e 2048 inb_S4096x1024_S1024x1024_2048_0 r l _
  · exact e 1024 inb_S4096x1024_S1024x1024_1024_0 r l _
  · exact (e 0 inb_S4096x1024_S1024x1024_0_0 r l (by have := r.isLt; omega)).trans (by simp only [Nat.zero_add]; rfl)

theorem out4_apply (x0 : Vec Ideal S4096x1024 .bf16) (x1 x2 : Vec Ideal S1x256x1024 .bf16) (R : Fin 4096) (l : Fin 256) :
    out0_4 x0 x1 x2 (ix2 R l) = dotBlk x0 x1 R l * sg (dotBlk x0 x1 R l) := by
  have e : ∀ (n : Nat) (h : ∀ a, (![n, 0] : Fin 2 → Nat) a + S1024x1024.size a ≤ S4096x1024.size a) (r : Fin 1024) (l : Fin 256) (hn : n + r.val < 4096),
      k0_pay12 (View.ld x0 (Rect.unit (s := S4096x1024) ![n, 0] S1024x1024.size h)) (View.ld x1 r0_1) (ix2 r l)
        = dotBlk x0 x1 ⟨n + r.val, hn⟩ l * sg (dotBlk x0 x1 ⟨n + r.val, hn⟩ l) := fun n h r l hn => by
    rw [pay12_apply, View.ld_unit_zero (S := S1x256x1024) hz3]
    simp only [ld_rows n x0 h r _ hn]
  unfold out0_4
  refine congrFun (canon_rows _ _ _ _ (fun y => dotBlk x0 x1 (y 0) (y 1) * sg (dotBlk x0 x1 (y 0) (y 1))) (fun r l => ?_) (fun r l => ?_) (fun r l => ?_) fun r l => ?_) (ix2 R l)
  · exact e 3072 inb_S4096x1024_S1024x1024_3072_0 r l _
  · exact e 2048 inb_S4096x1024_S1024x1024_2048_0 r l _
  · exact e 1024 inb_S4096x1024_S1024x1024_1024_0 r l _
  · exact (e 0 inb_S4096x1024_S1024x1024_0_0 r l (by have := r.isLt; omega)).trans (by simp only [Nat.zero_add]; rfl)

theorem out5_apply (x0 : Vec Ideal S4096x1024 .bf16) (x1 x2 : Vec Ideal S1x256x1024 .bf16) (R : Fin 4096) (l : Fin 256) :
    out0_5 x0 x1 x2 (ix2 R l) = dotBlk x0 x1 R l * sg (dotBlk x0 x1 R l) * dotBlk x0 x2 R l := by
  have e : ∀ (n : Nat) (h : ∀ a, (![n, 0] : Fin 2 → Nat) a + S1024x1024.size a ≤ S4096x1024.size a) (r : Fin 1024) (l : Fin 256) (hn : n + r.val < 4096),
      k0_pay13 (View.ld x0 (Rect.unit (s := S4096x1024) ![n, 0] S1024x1024.size h)) (View.ld x1 r0_1) (View.ld x2 r0_1) (ix2 r l)
        = dotBlk x0 x1 ⟨n + r.val, hn⟩ l * sg (dotBlk x0 x1 ⟨n + r.val, hn⟩ l) * dotBlk x0 x2 ⟨n + r.val, hn⟩ l := fun n h r l hn => by
    rw [pay13_apply, View.ld_unit_zero (S := S1x256x1024) hz3, View.ld_unit_zero (S := S1x256x1024) hz3]
    simp only [ld_rows n x0 h r _ hn]
  unfold out0_5
  refine congrFun (canon_rows _ _ _ _ (fun y => dotBlk x0 x1 (y 0) (y 1) * sg (dotBlk x0 x1 (y 0) (y 1)) * dotBlk x0 x2 (y 0) (y 1)) (fun r l => ?_) (fun r l => ?_) (fun r l => ?_) fun r l => ?_) (ix2 R l)
  · exact e 3072 inb_S4096x1024_S1024x1024_3072_0 r l _
  · exact e 2048 inb_S4096x1024_S1024x1024_2048_0 r l _
  · exact e 1024 inb_S4096x1024_S1024x1024_1024_0 r l _
  · exact (e 0 inb_S4096x1024_S1024x1024_0_0 r l (by have := r.isLt; omega)).trans (by simp only [Nat.zero_add]; rfl)

theorem out14_apply (x0 : Vec Ideal S4096x1024 .bf16) (x1 : Vec Ideal S1x256x1024 .bf16) (x2 x3 : Vec Ideal S4096x256 .bf16) (R : Fin 4096) (l : Fin 256) :
    out1_4 x0 x1 x2 x3 (ix2 R l) = dotBlk x0 x1 R l * x2 (ix2 R l) := by
  have e : ∀ (n : Nat) (h : ∀ a, (![n, 0] : Fin 2 → Nat) a + S1024x1024.size a ≤ S4096x1024.size a) (h' : ∀ a, (![n, 0] : Fin 2 → Nat) a + S1024x256.size a ≤ S4096x256.size a)
      (r : Fin 1024) (l : Fin 256) (hn : n + r.val < 4096),
      k1_pay2 (View.ld x0 (Rect.unit (s := S4096x1024) ![n, 0] S1024x1024.size h)) (View.ld x1 r1_1) (View.ld x2 (Rect.unit (s := S4096x256) ![n, 0] S1024x256.size h')) (ix2 r l)
        = dotBlk x0 x1 ⟨n + r.val, hn⟩ l * x2 (ix2 ⟨n + r.val, hn⟩ l) := fun n h h' r l hn => by
    rw [pay2_apply, View.ld_unit_zero (S := S1x256x1024) hz3, ld_cols n x2 h' r l hn]
    simp only [ld_rows n x0 h r _ hn]
  unfold out1_4
  refine congrFun (canon_rows _ _ _ _ (fun y => dotBlk x0 x1 (y 0) (y 1) * x2 y) (fun r l => ?_) (fun r l => ?_) (fun r l => ?_) fun r l => ?_) (ix2 R l)
  · exact e 3072 inb_S4096x1024_S1024x1024_3072_0 inb_S4096x256_S1024x256_3072_0 r l _
  · exact e 2048 inb_S4096x1024_S1024x1024_2048_0 inb_S4096x256_S1024x256_2048_0 r l _
  · exact e 1024 inb_S4096x1024_S1024x1024_1024_0 inb_S4096x256_S1024x256_1024_0 r l _
  · exact (e 0 inb_S4096x1024_S1024x1024_0_0 inb_S4096x256_S1024x256_0_0 r l (by have := r.isLt; omega)).trans (by simp only [Nat.zero_add]; rfl)

/-- The second result's tile is the first's, of the other saved array. -/
theorem out15_eq (x0 : Vec Ideal S4096x1024 .bf16) (x1 : Vec Ideal S1x256x1024 .bf16) (x2 x3 : Vec Ideal S4096x256 .bf16) :
    out1_5 x0 x1 x2 x3 = out1_4 x0 x1 x3 x2 := rfl

section Blocks
variable {F : FTy → Type} [FloatOps F]

/-- Column `l` of the block of grid point `t` is column `256 t + l` of the array. -/
abbrev col (t : Fin grid0.N) (l : Fin 256) : Fin 2816 :=
  ⟨t.val * 256 + l.val, by have ht : t.val < 11 := N_0 ▸ t.isLt; have := l.isLt; omega⟩

theorem emb_cols (t : Fin grid0.N) (off : Fin 2 → Nat) (inb : ∀ a, off a + S4096x256.size a ≤ S4096x2816.size a) (h0 : off 0 = 0) (h1 : off 1 = t.val * 256)
    (r : Fin 4096) (l : Fin 256) : (Rect.unit (s := S4096x2816) off S4096x256.size inb).emb (ix2 r l) = ix2 r (col t l) :=
  funext fun a => Fin.ext (by
    match a with
    | ⟨0, _⟩ => show off 0 + 1 * r.val = r.val; omega
    | ⟨1, _⟩ => show off 1 + 1 * l.val = t.val * 256 + l.val; omega)

theorem emb_rows (t : Fin grid0.N) (off : Fin 3 → Nat) (inb : ∀ a, off a + S1x256x1024.size a ≤ S1x2816x1024.size a) (h0 : off 0 = 0) (h1 : off 1 = t.val * 256) (h2 : off 2 = 0)
    (l : Fin 256) (k : Fin 1024) : (Rect.unit (s := S1x2816x1024) off S1x256x1024.size inb).emb (ix3 0 l k) = ix3 0 (col t l) k :=
  funext fun a => Fin.ext (by
    match a with
    | ⟨0, _⟩ => show off 0 + 1 * 0 = 0; omega
    | ⟨1, _⟩ => show off 1 + 1 * l.val = t.val * 256 + l.val; omega
    | ⟨2, _⟩ => show off 2 + 1 * k.val = k.val; omega)

/-- Every entry lies in the block of some grid point. -/
theorem cols_cover (i : S4096x2816.Idx) (off : Fin grid0.N → Fin 2 → Nat)
    (h : ∀ t, off t 0 = 0 ∧ off t 1 = t.val * 256) : ∃ t : Fin grid0.N, ∀ a, off t a ≤ (i a : Nat) ∧ (i a : Nat) < off t a + S4096x256.size a := by
  have i0 : (i 0 : Nat) < 4096 := (i 0).isLt
  have i1 : (i 1 : Nat) < 2816 := (i 1).isLt
  refine ⟨⟨(i 1 : Nat) / 256, by rw [N_0]; omega⟩, fun a => ?_⟩
  match a with
  | ⟨0, _⟩ => show off _ 0 ≤ (i 0 : Nat) ∧ (i 0 : Nat) < off _ 0 + 4096; rw [(h _).1]; omega
  | ⟨1, _⟩ => show off _ 1 ≤ (i 1 : Nat) ∧ (i 1 : Nat) < off _ 1 + 256; rw [(h _).2]; dsimp only; omega

theorem idx03 : ∀ t : Fin grid0.N, win0_3.index t 0 * 4096 = 0 ∧ win0_3.index t 1 * 256 = t.val * 256 := by decide +kernel
theorem idx04 : ∀ t : Fin grid0.N, win0_4.index t 0 * 4096 = 0 ∧ win0_4.index t 1 * 256 = t.val * 256 := by decide +kernel
theorem idx05 : ∀ t : Fin grid0.N, win0_5.index t 0 * 4096 = 0 ∧ win0_5.index t 1 * 256 = t.val * 256 := by decide +kernel
theorem idx12 : ∀ t : Fin grid1.N, win1_2.index t 0 * 4096 = 0 ∧ win1_2.index t 1 * 256 = t.val * 256 := by decide +kernel
theorem idx13 : ∀ t : Fin grid1.N, win1_3.index t 0 * 4096 = 0 ∧ win1_3.index t 1 * 256 = t.val * 256 := by decide +kernel
theorem idx14 : ∀ t : Fin grid1.N, win1_4.index t 0 * 4096 = 0 ∧ win1_4.index t 1 * 256 = t.val * 256 := by decide +kernel
theorem idx15 : ∀ t : Fin grid1.N, win1_5.index t 0 * 4096 = 0 ∧ win1_5.index t 1 * 256 = t.val * 256 := by decide +kernel
theorem idx01 : ∀ t : Fin grid0.N, win0_1.index t 0 * 1 = 0 ∧ win0_1.index t 1 * 256 = t.val * 256 ∧ win0_1.index t 2 * 1024 = 0 := by decide +kernel
theorem idx02 : ∀ t : Fin grid0.N, win0_2.index t 0 * 1 = 0 ∧ win0_2.index t 1 * 256 = t.val * 256 ∧ win0_2.index t 2 * 1024 = 0 := by decide +kernel
theorem idx11 : ∀ t : Fin grid1.N, win1_1.index t 0 * 1 = 0 ∧ win1_1.index t 1 * 256 = t.val * 256 ∧ win1_1.index t 2 * 1024 = 0 := by decide +kernel
theorem idx00 : ∀ t : Fin grid0.N, win0_0.index t 0 = 0 ∧ win0_0.index t 1 = 0 := by decide +kernel
theorem idx10 : ∀ t : Fin grid1.N, win1_0.index t 0 = 0 ∧ win1_0.index t 1 = 0 := by decide +kernel

variable (V : (c : Dev nD) → (b : Ref sig .tc) → Buf (Elt F) ((c : Thread nD τ).loc b))

theorem iblk00 (c : Dev nD) (t : Fin cfg0.N) : (iblk0 V c 0 t : Vec F S4096x1024 .bf16) = V c main_v0 := by
  funext j
  idx_vars j
  unfold iblk0
  rw [View.read_apply]
  refine congrArg (V c main_v0) (funext fun a => Fin.ext ?_)
  match a with
  | ⟨0, _⟩ => show win0_0.index t 0 * 4096 + 1 * j0.val = j0.val; rw [(idx00 t).1]; omega
  | ⟨1, _⟩ => show win0_0.index t 1 * 1024 + 1 * j1.val = j1.val; rw [(idx00 t).2]; omega

theorem iblk10 (c : Dev nD) (t : Fin cfg1.N) : (iblk1 V c 0 t : Vec F S4096x1024 .bf16) = V c main_v1 := by
  funext j
  idx_vars j
  unfold iblk1
  rw [View.read_apply]
  refine congrArg (V c main_v1) (funext fun a => Fin.ext ?_)
  match a with
  | ⟨0, _⟩ => show win1_0.index t 0 * 4096 + 1 * j0.val = j0.val; rw [(idx10 t).1]; omega
  | ⟨1, _⟩ => show win1_0.index t 1 * 1024 + 1 * j1.val = j1.val; rw [(idx10 t).2]; omega

theorem iblk01 (c : Dev nD) (t : Fin cfg0.N) (l : Fin 256) (k : Fin 1024) : (iblk0 V c 1 t : Vec F S1x256x1024 .bf16) (ix3 0 l k) = V c main_v5 (ix3 0 (col t l) k) := by
  unfold iblk0
  rw [View.read_apply]
  exact congrArg (V c main_v5) (emb_rows t _ _ (idx01 t).1 (idx01 t).2.1 (idx01 t).2.2 l k)

theorem iblk02 (c : Dev nD) (t : Fin cfg0.N) (l : Fin 256) (k : Fin 1024) : (iblk0 V c 2 t : Vec F S1x256x1024 .bf16) (ix3 0 l k) = V c main_v9 (ix3 0 (col t l) k) := by
  unfold iblk0
  rw [View.read_apply]
  exact congrArg (V c main_v9) (emb_rows t _ _ (idx02 t).1 (idx02 t).2.1 (idx02 t).2.2 l k)

theorem iblk11 (c : Dev nD) (t : Fin cfg1.N) (l : Fin 256) (k : Fin 1024) : (iblk1 V c 1 t : Vec F S1x256x1024 .bf16) (ix3 0 l k) = V c main_v10 (ix3 0 (col t l) k) := by
  unfold iblk1
  rw [View.read_apply]
  exact congrArg (V c main_v10) (emb_rows t _ _ (idx11 t).1 (idx11 t).2.1 (idx11 t).2.2 l k)

theorem iblk12 (c : Dev nD) (t : Fin cfg1.N) (R : Fin 4096) (l : Fin 256) : (iblk1 V c 2 t : Vec F S4096x256 .bf16) (ix2 R l) = V c main_v11_0 (ix2 R (col t l)) := by
  unfold iblk1
  rw [View.read_apply]
  exact congrArg (V c main_v11_0) (emb_cols t _ _ (idx12 t).1 (idx12 t).2 R l)

theorem iblk13 (c : Dev nD) (t : Fin cfg1.N) (R : Fin 4096) (l : Fin 256) : (iblk1 V c 3 t : Vec F S4096x256 .bf16) (ix2 R l) = V c main_v11_1 (ix2 R (col t l)) := by
  unfold iblk1
  rw [View.read_apply]
  exact congrArg (V c main_v11_1) (emb_cols t _ _ (idx13 t).1 (idx13 t).2 R l)

/-- A block's tile that agrees with an array, read where the array's block is. -/
theorem cols_at (t : Fin grid0.N) (x : Vec F S4096x256 .bf16) (G : S4096x2816.Idx → Elt F .bf16) (h : ∀ R l, x (ix2 R l) = G (ix2 R (col t l)))
    (off : Fin 2 → Nat) (inb : ∀ a, off a + S4096x256.size a ≤ S4096x2816.size a) (h0 : off 0 = 0 ∧ off 1 = t.val * 256) (j : S4096x256.Idx) :
    x j = G ((Rect.unit (s := S4096x2816) off S4096x256.size inb).emb j) := by
  idx_vars j
  exact (h _ _).trans (congrArg G (emb_cols t off inb h0.1 h0.2 _ _).symm)

theorem final03 (c : Dev nD) (G : S4096x2816.Idx → Elt F .bf16)
    (h : ∀ (t : Fin cfg0.N) (R : Fin 4096) (l : Fin 256), out0_3 (iblk0 V c 0 t) (iblk0 V c 1 t) (iblk0 V c 2 t) (ix2 R l) = G (ix2 R (col t l))) :
    (dat0 V c).arrAt 3 cfg0.N = G :=
  (dat0 V c).arrAt_eq_of_cover 3 G (fun t _ => by
    show (cfg0.win 3).cut (grid0.coords t) ((dat0 V c).after 3 t) = _
    rw [after0_3]
    funext j
    rw [View.read_apply]
    exact cols_at t _ G (h t) _ _ (idx03 t) j) fun i => by
    obtain ⟨t, ht⟩ := cols_cover i (fun t a => win0_3.index t a * win0_3.size a) idx03
    exact ⟨t, flush0_3 t, (View.set_slice_whole (main_v11_0) (win0_3.rect t)).symm ▸ (Rect.mem_set_unit ..).mpr ht⟩

theorem final04 (c : Dev nD) (G : S4096x2816.Idx → Elt F .bf16)
    (h : ∀ (t : Fin cfg0.N) (R : Fin 4096) (l : Fin 256), out0_4 (iblk0 V c 0 t) (iblk0 V c 1 t) (iblk0 V c 2 t) (ix2 R l) = G (ix2 R (col t l))) :
    (dat0 V c).arrAt 4 cfg0.N = G :=
  (dat0 V c).arrAt_eq_of_cover 4 G (fun t _ => by
    show (cfg0.win 4).cut (grid0.coords t) ((dat0 V c).after 4 t) = _
    rw [after0_4]
    funext j
    rw [View.read_apply]
    exact cols_at t _ G (h t) _ _ (idx04 t) j) fun i => by
    obtain ⟨t, ht⟩ := cols_cover i (fun t a => win0_4.index t a * win0_4.size a) idx04
    exact ⟨t, flush0_4 t, (View.set_slice_whole (main_v11_1) (win0_4.rect t)).symm ▸ (Rect.mem_set_unit ..).mpr ht⟩

theorem final05 (c : Dev nD) (G : S4096x2816.Idx → Elt F .bf16)
    (h : ∀ (t : Fin cfg0.N) (R : Fin 4096) (l : Fin 256), out0_5 (iblk0 V c 0 t) (iblk0 V c 1 t) (iblk0 V c 2 t) (ix2 R l) = G (ix2 R (col t l))) :
    (dat0 V c).arrAt 5 cfg0.N = G :=
  (dat0 V c).arrAt_eq_of_cover 5 G (fun t _ => by
    show (cfg0.win 5).cut (grid0.coords t) ((dat0 V c).after 5 t) = _
    rw [after0_5]
    funext j
    rw [View.read_apply]
    exact cols_at t _ G (h t) _ _ (idx05 t) j) fun i => by
    obtain ⟨t, ht⟩ := cols_cover i (fun t a => win0_5.index t a * win0_5.size a) idx05
    exact ⟨t, flush0_5 t, (View.set_slice_whole (main_v11_2) (win0_5.rect t)).symm ▸ (Rect.mem_set_unit ..).mpr ht⟩

theorem final14 (c : Dev nD) (G : S4096x2816.Idx → Elt F .bf16)
    (h : ∀ (t : Fin cfg1.N) (R : Fin 4096) (l : Fin 256), out1_4 (iblk1 V c 0 t) (iblk1 V c 1 t) (iblk1 V c 2 t) (iblk1 V c 3 t) (ix2 R l) = G (ix2 R (col t l))) :
    (dat1 V c).arrAt 4 cfg1.N = G :=
  (dat1 V c).arrAt_eq_of_cover 4 G (fun t _ => by
    show (cfg1.win 4).cut (grid1.coords t) ((dat1 V c).after 4 t) = _
    rw [after1_4]
    funext j
    rw [View.read_apply]
    exact cols_at t _ G (h t) _ _ (idx14 t) j) fun i => by
    obtain ⟨t, ht⟩ := cols_cover i (fun t a => win1_4.index t a * win1_4.size a) idx14
    exact ⟨t, flush1_4 t, (View.set_slice_whole (main_v12_0) (win1_4.rect t)).symm ▸ (Rect.mem_set_unit ..).mpr ht⟩

theorem final15 (c : Dev nD) (G : S4096x2816.Idx → Elt F .bf16)
    (h : ∀ (t : Fin cfg1.N) (R : Fin 4096) (l : Fin 256), out1_5 (iblk1 V c 0 t) (iblk1 V c 1 t) (iblk1 V c 2 t) (iblk1 V c 3 t) (ix2 R l) = G (ix2 R (col t l))) :
    (dat1 V c).arrAt 5 cfg1.N = G :=
  (dat1 V c).arrAt_eq_of_cover 5 G (fun t _ => by
    show (cfg1.win 5).cut (grid1.coords t) ((dat1 V c).after 5 t) = _
    rw [after1_5]
    funext j
    rw [View.read_apply]
    exact cols_at t _ G (h t) _ _ (idx15 t) j) fun i => by
    obtain ⟨t, ht⟩ := cols_cover i (fun t a => win1_5.index t a * win1_5.size a) idx15
    exact ⟨t, flush1_5 t, (View.set_slice_whole (main_v12_1) (win1_5.rect t)).symm ▸ (Rect.mem_set_unit ..).mpr ht⟩

end Blocks

section Results
variable (m : (ℓ : Loc nD τ sig) → Buf (Elt Ideal) ℓ) (ρ : Dev nD → PrngReg)

/-- A product of the rows with a matrix laid out by its inner axis first. -/
abbrev mmIn (x : FVec Ideal S4096x1024 .f32) (w : FVec Ideal S1x1024x2816 .f32) (R : Fin 4096) (L : Fin 2816) : EReal :=
  ∑ k : Fin 1024, x (ix2 R k) * w (ix3 0 k L)

/-- A product of the rows with a matrix laid out by its inner axis last. -/
abbrev mmOut (x : FVec Ideal S4096x1024 .f32) (w : FVec Ideal S1x2816x1024 .f32) (R : Fin 4096) (L : Fin 2816) : EReal :=
  ∑ k : Fin 1024, x (ix2 R k) * w (ix3 0 L k)

/-- The gradient of the gate's product. -/
def resA (c : Dev nD) : FVec Ideal S4096x2816 .bf16 := fun i =>
  mmOut (m ((c : Thread nD τ).loc main_arg4)) (m ((c : Thread nD τ).loc main_arg3)) (i 0) (i 1)
    * dsw (mmIn (m ((c : Thread nD τ).loc main_arg0)) (m ((c : Thread nD τ).loc main_arg1)) (i 0) (i 1))
        (mmIn (m ((c : Thread nD τ).loc main_arg0)) (m ((c : Thread nD τ).loc main_arg2)) (i 0) (i 1))

/-- The gradient of the other factor's product. -/
def resB (c : Dev nD) : FVec Ideal S4096x2816 .bf16 := fun i =>
  mmOut (m ((c : Thread nD τ).loc main_arg4)) (m ((c : Thread nD τ).loc main_arg3)) (i 0) (i 1)
    * (mmIn (m ((c : Thread nD τ).loc main_arg0)) (m ((c : Thread nD τ).loc main_arg1)) (i 0) (i 1)
        * sg (mmIn (m ((c : Thread nD τ).loc main_arg0)) (m ((c : Thread nD τ).loc main_arg1)) (i 0) (i 1)))

/-- The gated product. -/
def resU (c : Dev nD) : FVec Ideal S4096x2816 .bf16 := fun i =>
  mmIn (m ((c : Thread nD τ).loc main_arg0)) (m ((c : Thread nD τ).loc main_arg1)) (i 0) (i 1)
    * sg (mmIn (m ((c : Thread nD τ).loc main_arg0)) (m ((c : Thread nD τ).loc main_arg1)) (i 0) (i 1))
    * mmIn (m ((c : Thread nD τ).loc main_arg0)) (m ((c : Thread nD τ).loc main_arg2)) (i 0) (i 1)

/-- A matrix turned and given a unit axis in front. -/
theorem turned_apply (x : FVec Ideal S1x1024x2816 .f32) (L : Fin 2816) (k : Fin 1024) :
    (truncf .bf16 (broadcastInDim S1x2816x1024 ![1, 2] bcast_S2816x1024_S1x2816x1024_1_2
      (transpose S2816x1024 [1, 0] (shapeCast S1024x2816 x shapeCasts_S1x1024x2816_S1024x2816) transposes_S1024x2816_S2816x1024_1_0)) bitsLt_bf16_f32 : FVec Ideal S1x2816x1024 .bf16) (ix3 0 L k)
      = x (ix3 0 k L) := by
  pointwise! []

theorem V1_v0 (c : Dev nD) : (V1 m ρ c main_v0 : FVec Ideal S4096x1024 .bf16) = m ((c : Thread nD τ).loc main_arg0) := by
  funext i
  show StableHlo.after hostOps0 _ (Proc.devRef .tc main_v0) _ = _
  after_results
  rfl

theorem V1_v1 (c : Dev nD) : (V1 m ρ c main_v1 : FVec Ideal S4096x1024 .bf16) = m ((c : Thread nD τ).loc main_arg4) := by
  funext i
  show StableHlo.after hostOps0 _ (Proc.devRef .tc main_v1) _ = _
  after_results
  rfl

theorem V1_v10 (c : Dev nD) : (V1 m ρ c main_v10 : FVec Ideal S1x2816x1024 .bf16) = m ((c : Thread nD τ).loc main_arg3) := by
  funext i
  show StableHlo.after hostOps0 _ (Proc.devRef .tc main_v10) _ = _
  after_results
  rfl

theorem V1_v5 (c : Dev nD) (L : Fin 2816) (k : Fin 1024) : (V1 m ρ c main_v5 : FVec Ideal S1x2816x1024 .bf16) (ix3 0 L k) = m ((c : Thread nD τ).loc main_arg1) (ix3 0 k L) := by
  show StableHlo.after hostOps0 _ (Proc.devRef .tc main_v5) _ = _
  after_results
  exact turned_apply _ L k

theorem V1_v9 (c : Dev nD) (L : Fin 2816) (k : Fin 1024) : (V1 m ρ c main_v9 : FVec Ideal S1x2816x1024 .bf16) (ix3 0 L k) = m ((c : Thread nD τ).loc main_arg2) (ix3 0 k L) := by
  show StableHlo.after hostOps0 _ (Proc.devRef .tc main_v9) _ = _
  after_results
  exact turned_apply _ L k

/-- The forward call's products. -/
theorem dot_a (c : Dev nD) (t : Fin cfg0.N) (R : Fin 4096) (l : Fin 256) : dotBlk (iblk0 (V1 m ρ) c 0 t) (iblk0 (V1 m ρ) c 1 t) R l
    = mmIn (m ((c : Thread nD τ).loc main_arg0)) (m ((c : Thread nD τ).loc main_arg1)) R (col t l) :=
  Finset.sum_congr rfl fun k _ => by rw [iblk00, iblk01, V1_v0, V1_v5]

theorem dot_b (c : Dev nD) (t : Fin cfg0.N) (R : Fin 4096) (l : Fin 256) : dotBlk (iblk0 (V1 m ρ) c 0 t) (iblk0 (V1 m ρ) c 2 t) R l
    = mmIn (m ((c : Thread nD τ).loc main_arg0)) (m ((c : Thread nD τ).loc main_arg2)) R (col t l) :=
  Finset.sum_congr rfl fun k _ => by rw [iblk00, iblk02, V1_v0, V1_v9]

theorem V2_of (c : Dev nD) (r : Ref sig .tc) (h : ∀ w : Fin cfg0.W, Pipeline.arrRef spec0 w = r → (cfg0.win w).isOut = false) : V2 m ρ c r = V1 m ρ c r :=
  W2_of m ρ c r h

theorem dot_d (c : Dev nD) (t : Fin cfg1.N) (R : Fin 4096) (l : Fin 256) : dotBlk (iblk1 (V2 m ρ) c 0 t) (iblk1 (V2 m ρ) c 1 t) R l
    = mmOut (m ((c : Thread nD τ).loc main_arg4)) (m ((c : Thread nD τ).loc main_arg3)) R (col t l) :=
  Finset.sum_congr rfl fun k _ => by
    rw [iblk10, iblk11, V2_of m ρ c main_v1 (by decide), V2_of m ρ c main_v10 (by decide), V1_v1, V1_v10]

/-- The two saved arrays the forward call leaves. -/
theorem saved_a (c : Dev nD) : (V2 m ρ c main_v11_0 : FVec Ideal S4096x2816 .bf16) = fun i =>
    dsw (mmIn (m ((c : Thread nD τ).loc main_arg0)) (m ((c : Thread nD τ).loc main_arg1)) (i 0) (i 1))
      (mmIn (m ((c : Thread nD τ).loc main_arg0)) (m ((c : Thread nD τ).loc main_arg2)) (i 0) (i 1)) :=
  (W2_arr m ρ c 3).trans (final03 (V1 m ρ) c _ fun t R l => by rw [out3_apply, dot_a, dot_b]; rfl)

theorem saved_b (c : Dev nD) : (V2 m ρ c main_v11_1 : FVec Ideal S4096x2816 .bf16) = fun i =>
    mmIn (m ((c : Thread nD τ).loc main_arg0)) (m ((c : Thread nD τ).loc main_arg1)) (i 0) (i 1)
      * sg (mmIn (m ((c : Thread nD τ).loc main_arg0)) (m ((c : Thread nD τ).loc main_arg1)) (i 0) (i 1)) :=
  (W2_arr m ρ c 4).trans (final04 (V1 m ρ) c _ fun t R l => by rw [out4_apply, dot_a]; rfl)

/-- The forward call's own result, which the second call leaves alone. -/
theorem res_u (c : Dev nD) : W3 m ρ c (Proc.devRef .tc main_v11_2) = resU m c :=
  (W3_of m ρ c main_v11_2 (by decide)).trans ((W2_arr m ρ c 5).trans (final05 (V1 m ρ) c (resU m c) fun t R l => by rw [out5_apply, dot_a, dot_b]; rfl))

theorem res_a (c : Dev nD) : W3 m ρ c (Proc.devRef .tc main_v12_0) = resA m c :=
  (W3_arr m ρ c 4).trans (final14 (V2 m ρ) c (resA m c) fun t R l => by rw [out14_apply, dot_d, iblk12, saved_a]; rfl)

theorem res_b (c : Dev nD) : W3 m ρ c (Proc.devRef .tc main_v12_1) = resB m c :=
  (W3_arr m ρ c 5).trans (final15 (V2 m ρ) c (resB m c) fun t R l => by rw [out15_eq, out14_apply, dot_d, iblk13, saved_b]; rfl)

open Idealize.ShloMosaic.Tactic Idealize.SL Idealize.SL.RA Idealize.SL.BI
open scoped Idealize.SL.BI
open Idealize.SL.BI.BIBase Idealize.SL.BI.Laws Idealize.SL.ProofMode Idealize.ShloMosaic.Rounds

local notation "𝕄" => MT nD τ sig Unit (Elt Ideal) ℕ (UR sig nD τ) ℕ

-- the launch theorem's implicit arguments are found by unifying its conclusion with this one
set_option backward.isDefEq.respectTransparency.types false in
/-- The kernel's run with its three results read off the arguments. -/
theorem run : θ_run defs (onTc (τ := τ) (main (F := Ideal))) ⟨m, fun _ => 0, ρ⟩ (fun r => ∀ c : Dev nD,
      r.2.mem ((c : Thread nD τ).loc main_v12_0) = resA m c
      ∧ r.2.mem ((c : Thread nD τ).loc main_v12_1) = resB m c
      ∧ r.2.mem ((c : Thread nD τ).loc main_v11_2) = resU m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c => ⟨(h c _ (mem_uc main_v12_0 (by decide))).trans (res_a m ρ c), (h c _ (mem_uc main_v12_1 (by decide))).trans (res_b m ρ c),
      (h c _ (mem_uc main_v11_2 (by decide))).trans (res_u m ρ c),
      (h c _ (mem_uc main_arg0 (by decide))).trans (W3_main_arg0 m ρ c), (h c _ (mem_uc main_arg1 (by decide))).trans (W3_main_arg1 m ρ c),
      (h c _ (mem_uc main_arg2 (by decide))).trans (W3_main_arg2 m ρ c), (h c _ (mem_uc main_arg3 (by decide))).trans (W3_main_arg3 m ρ c),
      (h c _ (mem_uc main_arg4 (by decide))).trans (W3_main_arg4 m ρ c)⟩)

end Results

end Cert.GateKernelIdeal.Value
end
-- ==== Proof.GateRead.lean ====
/- The gated unit's reference read at an entry, and the kernel's results beside it. -/
module

public import proofs.«01_k».proof.Defs
public import proofs.«01_k».proof.Proof.Finite
public import proofs.«01_k».proof.Proof.GateValue
public import proofs.«01_k».proof.Proof.Gen.Pre_gate_args_finite
public import proofs.«01_k».proof.Proof.Gen.GateRefIdeal.Run
public import proofs.«01_k».proof.Proof.Gen.GateRefIdeal.Read
public import Idealize.ShloMosaic.Adequacy

@[expose] public section

set_option maxRecDepth 16384

noncomputable section

open Idealize.ShloMosaic Idealize.ShloMosaic.TcCoe Idealize.SL.Sem

namespace Cert.GateRead

open Cert.GateRefIdeal Cert.GateRefIdeal.Gen Cert.GateRefIdeal.Read Cert.Finite
open Cert.GateKernelIdeal.Value (mmIn mmOut sg dsw)

variable (x0 x4 : FVec Ideal S4096x1024 .f32) (x1 x2 : FVec Ideal S1x1024x2816 .f32) (x3 : FVec Ideal S1x2816x1024 .f32)

theorem v1_apply (R : Fin 4096) (L : Fin 2816) : val_main_v1 (F := Ideal) x0 x1 (ix2 R L) = mmIn x0 x1 R L := by
  pointwise! [val_main_v1, val_main_v0]

theorem v3_apply (R : Fin 4096) (L : Fin 2816) : val_main_v3 (F := Ideal) x0 x2 (ix2 R L) = mmIn x0 x2 R L := by
  pointwise! [val_main_v3, val_main_v2]

theorem v8_apply (R : Fin 4096) (L : Fin 2816) : val_main_v8 (F := Ideal) x3 x4 (ix2 R L) = mmOut x4 x3 R L := by
  pointwise! [val_main_v8, val_main_v6]

theorem sig_apply (R : Fin 4096) (L : Fin 2816) : val_main_v4_2 (F := Ideal) x0 x1 (ix2 R L) = sg (mmIn x0 x1 R L) := by
  rw [← v1_apply]
  unfold val_main_v4_2 val_main_call0_v3 val_main_call0_v1 val_main_call0_v0
  generalize val_main_v1 (F := Ideal) x0 x1 = y
  pointwise! [val_main_call0_v4, val_main_call0_v2, val_main_call0_cst, val_main_call0_cst_0, sg]
  rw [zero_sub]

theorem v13_apply (R : Fin 4096) (L : Fin 2816) : val_main_v13 (F := Ideal) x0 x1 x3 x4 (ix2 R L) = mmOut x4 x3 R L * (mmIn x0 x1 R L * sg (mmIn x0 x1 R L)) := by
  rw [← v8_apply, ← sig_apply, ← v1_apply, mul_comm]
  unfold val_main_v13 val_main_v9 val_main_v4_0
  generalize val_main_v1 (F := Ideal) x0 x1 = y
  generalize val_main_v4_2 (F := Ideal) x0 x1 = s
  generalize val_main_v8 (F := Ideal) x3 x4 = d
  pointwise! []

theorem v12_apply (R : Fin 4096) (L : Fin 2816) (hd : IsReal (mmOut x4 x3 R L)) (hb : IsReal (mmIn x0 x2 R L)) :
    val_main_v12 (F := Ideal) x0 x1 x2 x3 x4 (ix2 R L) = mmOut x4 x3 R L * dsw (mmIn x0 x1 R L) (mmIn x0 x2 R L) := by
  unfold dsw
  rw [← gate_grad _ _ _ _ (show sg (mmIn x0 x1 R L) = _ from rfl) hd hb, ← v8_apply, ← sig_apply, ← v1_apply x0 x1, ← v3_apply x0 x2]
  unfold val_main_v12 val_main_v11 val_main_call1_v1 val_main_call1_v2 val_main_call1_v0 val_main_v10 val_main_v4_1 val_main_call0_v7
  generalize val_main_v1 (F := Ideal) x0 x1 = y
  generalize val_main_v3 (F := Ideal) x0 x2 = z
  generalize val_main_v4_2 (F := Ideal) x0 x1 = s
  generalize val_main_v8 (F := Ideal) x3 x4 = d
  pointwise! [val_main_call0_v6, val_main_call0_cst_1]

theorem v16_apply (R : Fin 4096) (L : Fin 2816) : val_main_v16 (F := Ideal) x0 x1 x2 (ix2 R L) = mmIn x0 x1 R L * sg (mmIn x0 x1 R L) * mmIn x0 x2 R L := by
  have hs : val_main_call2_v5 (F := Ideal) x0 x1 (ix2 R L) = sg (mmIn x0 x1 R L) := sig_apply x0 x1 R L
  rw [← hs, ← v1_apply x0 x1, ← v3_apply x0 x2]
  unfold val_main_v16 val_main_v15 val_main_v14
  generalize val_main_v1 (F := Ideal) x0 x1 = y
  generalize val_main_v3 (F := Ideal) x0 x2 = z
  generalize val_main_call2_v5 (F := Ideal) x0 x1 = s
  pointwise! []

/-- What the precondition says of the four tested arrays. -/
theorem finite_args (h : Cert.Pre_gate_args_finite.fn (F := Ideal) x0 x1 x2 x3 x4 = fun _ => 1#1) :
    (∀ i, IsReal (x0 i)) ∧ (∀ i, IsReal (x2 i)) ∧ (∀ i, IsReal (x3 i)) ∧ ∀ i, IsReal (x4 i) := by
  have : Subsingleton Cert.Pre_gate_args_finite.S_.Idx := ⟨fun a b => funext fun i => i.elim0⟩
  have h := congrFun h (fun a => a.elim0)
  unfold Cert.Pre_gate_args_finite.fn Cert.Pre_gate_args_finite.fn_part1 at h
  dsimp only at h
  obtain ⟨h, h4⟩ := IntOp.andi_eq_one.mp h
  obtain ⟨h, h3⟩ := IntOp.andi_eq_one.mp h
  obtain ⟨h0, h2⟩ := IntOp.andi_eq_one.mp h
  exact ⟨all_real _ _ _ _ _ _ h0, all_real _ _ _ _ _ _ h2, all_real _ _ _ _ _ _ h3, all_real _ _ _ _ _ _ h4⟩

/-- The reference leaves its arguments and every counter at zero. -/
theorem frame : Cert.quiescent_GateRefIdeal := fun m ρ _ =>
  (θ_run Cert.GateRefIdeal.defs _ _).mono (fun r h => ⟨fun c => (h c).2.2.2, sem_eq_zero_of_no_sems (by decide) r.2⟩)
    (Cert.GateRefIdeal.Value.run (F := Ideal) m ρ)

/-- From arguments as the precondition has them the reference ends with the three formulas. -/
theorem ends (m' : (ℓ : Loc nD τ sig) → Buf (Elt Ideal) ℓ) (ρ' : Dev nD → PrngReg) (a0 a4 : Dev nD → FVec Ideal S4096x1024 .f32)
    (a1 a2 : Dev nD → FVec Ideal S1x1024x2816 .f32) (a3 : Dev nD → FVec Ideal S1x2816x1024 .f32)
    (hpre : ∀ c, Cert.Pre_gate_args_finite.fn (F := Ideal) (a0 c) (a1 c) (a2 c) (a3 c) (a4 c) = fun _ => 1#1)
    (h : ∀ c : Dev nD, m' ((c.tc : Thread nD τ).loc main_arg0) = a0 c ∧ m' ((c.tc : Thread nD τ).loc main_arg1) = a1 c ∧ m' ((c.tc : Thread nD τ).loc main_arg2) = a2 c
      ∧ m' ((c.tc : Thread nD τ).loc main_arg3) = a3 c ∧ m' ((c.tc : Thread nD τ).loc main_arg4) = a4 c) :
    θ_run Cert.GateRefIdeal.defs (onTc (τ := τ) (main (F := Ideal))) ⟨m', fun _ => 0, ρ'⟩ fun r => ∀ c : Dev nD,
      r.2.mem ((c.tc : Thread nD τ).loc main_v12) = (fun i => mmOut (a4 c) (a3 c) (i 0) (i 1) * dsw (mmIn (a0 c) (a1 c) (i 0) (i 1)) (mmIn (a0 c) (a2 c) (i 0) (i 1)) : FVec Ideal S4096x2816 .bf16)
      ∧ r.2.mem ((c.tc : Thread nD τ).loc main_v13) = (fun i => mmOut (a4 c) (a3 c) (i 0) (i 1) * (mmIn (a0 c) (a1 c) (i 0) (i 1) * sg (mmIn (a0 c) (a1 c) (i 0) (i 1))) : FVec Ideal S4096x2816 .bf16)
      ∧ r.2.mem ((c.tc : Thread nD τ).loc main_v16) = (fun i => mmIn (a0 c) (a1 c) (i 0) (i 1) * sg (mmIn (a0 c) (a1 c) (i 0) (i 1)) * mmIn (a0 c) (a2 c) (i 0) (i 1) : FVec Ideal S4096x2816 .bf16)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) :=
  (θ_run Cert.GateRefIdeal.defs _ _).mono (fun r hr c => by
    obtain ⟨e0, e1, e2, e3, e4⟩ := h c
    obtain ⟨f0, f2, f3, f4⟩ := finite_args _ _ _ _ _ (hpre c)
    obtain ⟨r12, r13, r16, hk⟩ := hr c
    refine ⟨r12.trans ?_, r13.trans ?_, r16.trans ?_, hk⟩
    · rw [val_main_v12_eq, e0, e1, e2, e3, e4]
      funext i
      idx_vars i
      exact v12_apply _ _ _ _ _ _ _ (IsReal.sum _ _ fun k _ => (f4 _).mul (f3 _)) (IsReal.sum _ _ fun k _ => (f0 _).mul (f2 _))
    · rw [val_main_v13_eq, e0, e1, e3, e4]
      funext i
      idx_vars i
      exact v13_apply _ _ _ _ _ _
    · rw [val_main_v16_eq, e0, e1, e2]
      funext i
      idx_vars i
      exact v16_apply _ _ _ _ _) (Cert.GateRefIdeal.Value.run (F := Ideal) m' ρ')

/-- From the same arguments kernel and reference end with the same gradients and the same gated product. -/
theorem algebraic : Cert.algebraic_GateKernelIdeal_GateRefIdeal_pre_gate_args_finite := fun m ρ m' ρ' hpre h =>
  ⟨GateKernelIdeal.Value.resA m, GateKernelIdeal.Value.resB m, GateKernelIdeal.Value.resU m, GateKernelIdeal.Value.run m ρ,
    ends m' ρ' (fun c => m ((c : Thread GateKernelIdeal.nD GateKernelIdeal.τ).loc GateKernelIdeal.main_arg0)) (fun c => m ((c : Thread GateKernelIdeal.nD GateKernelIdeal.τ).loc GateKernelIdeal.main_arg4))
      (fun c => m ((c : Thread GateKernelIdeal.nD GateKernelIdeal.τ).loc GateKernelIdeal.main_arg1)) (fun c => m ((c : Thread GateKernelIdeal.nD GateKernelIdeal.τ).loc GateKernelIdeal.main_arg2))
      (fun c => m ((c : Thread GateKernelIdeal.nD GateKernelIdeal.τ).loc GateKernelIdeal.main_arg3)) hpre h⟩

end Cert.GateRead
end
-- ==== Proof.SplitValue.lean ====
/- What the gated unit's three calls leave: the gate's call with the slope and the gated value, the other factor's call
   with their products, then the products with the row products. -/
module

public import proofs.«01_k».proof.Proof.Gen.SplitKernelIdeal.Frame
public import proofs.«01_k».proof.Proof.GateValue

@[expose] public section

set_option maxRecDepth 16384

noncomputable section

open Idealize.ShloMosaic Idealize.ShloMosaic.TcCoe Idealize.SL.Sem
open Idealize.ShloMosaic.Pipeline (Dat)

namespace Cert.SplitKernelIdeal.Value

open Cert.SplitKernelIdeal Cert.SplitKernelIdeal.Gen Cert.Rms
open Cert.GateKernelIdeal.Value (sg dsw mmIn mmOut dotBlk col emb_cols emb_rows cols_cover cols_at canon_rows ld_rows hz3)

/-- The gate's slope: `s + a s (1 - s)`. -/
def slope (a : EReal) : EReal := sg a + a * sg a * (1 - sg a)

theorem pay6_apply (x : Vec Ideal S1024x1024 .bf16) (g : Vec Ideal S1x256x1024 .bf16) (r : Fin 1024) (l : Fin 256) :
    k0_pay6 x g (ix2 r l) = (∑ k : Fin 1024, x (ix2 r k) * g (ix3 0 l k) : EReal) := by
  pointwise! [k0_pay6]

theorem pay9_apply (x : Vec Ideal S1024x1024 .bf16) (g : Vec Ideal S1x256x1024 .bf16) (r : Fin 1024) (l : Fin 256) :
    k0_pay9 x g (ix2 r l) = slope (∑ k : Fin 1024, x (ix2 r k) * g (ix3 0 l k)) := by
  rw [← pay6_apply]
  unfold k0_pay9 k0_pay8 k0_pay7
  generalize k0_pay6 x g = y
  pointwise! [slope, sg]

theorem out02_apply (x0 : Vec Ideal S4096x1024 .bf16) (x1 : Vec Ideal S1x256x1024 .bf16) (R : Fin 4096) (l : Fin 256) :
    out0_2 x0 x1 (ix2 R l) = slope (dotBlk x0 x1 R l) := by
  have e : ∀ (n : Nat) (h : ∀ a, (![n, 0] : Fin 2 → Nat) a + S1024x1024.size a ≤ S4096x1024.size a) (r : Fin 1024) (l : Fin 256) (hn : n + r.val < 4096),
      k0_pay9 (View.ld x0 (Rect.unit (s := S4096x1024) ![n, 0] S1024x1024.size h)) (View.ld x1 r0_1) (ix2 r l) = slope (dotBlk x0 x1 ⟨n + r.val, hn⟩ l) := fun n h r l hn => by
    rw [pay9_apply, View.ld_unit_zero (S := S1x256x1024) hz3]
    simp only [ld_rows n x0 h r _ hn]
  unfold out0_2
  refine congrFun (canon_rows _ _ _ _ (fun y => slope (dotBlk x0 x1 (y 0) (y 1))) (fun r l => ?_) (fun r l => ?_) (fun r l => ?_) fun r l => ?_) (ix2 R l)
  · exact e 3072 inb_S4096x1024_S1024x1024_3072_0 r l _
  · exact e 2048 inb_S4096x1024_S1024x1024_2048_0 r l _
  · exact e 1024 inb_S4096x1024_S1024x1024_1024_0 r l _
  · exact (e 0 inb_S4096x1024_S1024x1024_0_0 r l (by have := r.isLt; omega)).trans (by simp only [Nat.zero_add]; rfl)

/-- The gated value is the one call's second saved array. -/
theorem out03_eq (x0 : Vec Ideal S4096x1024 .bf16) (x1 : Vec Ideal S1x256x1024 .bf16) : out0_3 x0 x1 = GateKernelIdeal.Gen.out0_4 x0 x1 x1 := rfl

/-- The later calls' tiles are the one product's, of either array. -/
theorem out14_eq (x0 : Vec Ideal S4096x1024 .bf16) (x1 : Vec Ideal S1x256x1024 .bf16) (x2 x3 : Vec Ideal S4096x256 .bf16) :
    out1_4 x0 x1 x2 x3 = GateKernelIdeal.Gen.out1_4 x0 x1 x2 x3 := rfl

theorem out15_eq (x0 : Vec Ideal S4096x1024 .bf16) (x1 : Vec Ideal S1x256x1024 .bf16) (x2 x3 : Vec Ideal S4096x256 .bf16) :
    out1_5 x0 x1 x2 x3 = GateKernelIdeal.Gen.out1_4 x0 x1 x3 x2 := rfl

theorem out24_eq (x0 : Vec Ideal S4096x1024 .bf16) (x1 : Vec Ideal S1x256x1024 .bf16) (x2 x3 : Vec Ideal S4096x256 .bf16) :
    out2_4 x0 x1 x2 x3 = GateKernelIdeal.Gen.out1_4 x0 x1 x2 x3 := rfl

theorem out25_eq (x0 : Vec Ideal S4096x1024 .bf16) (x1 : Vec Ideal S1x256x1024 .bf16) (x2 x3 : Vec Ideal S4096x256 .bf16) :
    out2_5 x0 x1 x2 x3 = GateKernelIdeal.Gen.out1_4 x0 x1 x3 x2 := rfl

section Blocks
variable {F : FTy → Type} [FloatOps F]

theorem idx02 : ∀ t : Fin grid0.N, win0_2.index t 0 * 4096 = 0 ∧ win0_2.index t 1 * 256 = t.val * 256 := by decide +kernel
theorem idx03 : ∀ t : Fin grid0.N, win0_3.index t 0 * 4096 = 0 ∧ win0_3.index t 1 * 256 = t.val * 256 := by decide +kernel
theorem idx12 : ∀ t : Fin grid1.N, win1_2.index t 0 * 4096 = 0 ∧ win1_2.index t 1 * 256 = t.val * 256 := by decide +kernel
theorem idx13 : ∀ t : Fin grid1.N, win1_3.index t 0 * 4096 = 0 ∧ win1_3.index t 1 * 256 = t.val * 256 := by decide +kernel
theorem idx14 : ∀ t : Fin grid1.N, win1_4.index t 0 * 4096 = 0 ∧ win1_4.index t 1 * 256 = t.val * 256 := by decide +kernel
theorem idx15 : ∀ t : Fin grid1.N, win1_5.index t 0 * 4096 = 0 ∧ win1_5.index t 1 * 256 = t.val * 256 := by decide +kernel
theorem idx22 : ∀ t : Fin grid2.N, win2_2.index t 0 * 4096 = 0 ∧ win2_2.index t 1 * 256 = t.val * 256 := by decide +kernel
theorem idx23 : ∀ t : Fin grid2.N, win2_3.index t 0 * 4096 = 0 ∧ win2_3.index t 1 * 256 = t.val * 256 := by decide +kernel
theorem idx24 : ∀ t : Fin grid2.N, win2_4.index t 0 * 4096 = 0 ∧ win2_4.index t 1 * 256 = t.val * 256 := by decide +kernel
theorem idx25 : ∀ t : Fin grid2.N, win2_5.index t 0 * 4096 = 0 ∧ win2_5.index t 1 * 256 = t.val * 256 := by decide +kernel
theorem idx01 : ∀ t : Fin grid0.N, win0_1.index t 0 * 1 = 0 ∧ win0_1.index t 1 * 256 = t.val * 256 ∧ win0_1.index t 2 * 1024 = 0 := by decide +kernel
theorem idx11 : ∀ t : Fin grid1.N, win1_1.index t 0 * 1 = 0 ∧ win1_1.index t 1 * 256 = t.val * 256 ∧ win1_1.index t 2 * 1024 = 0 := by decide +kernel
theorem idx21 : ∀ t : Fin grid2.N, win2_1.index t 0 * 1 = 0 ∧ win2_1.index t 1 * 256 = t.val * 256 ∧ win2_1.index t 2 * 1024 = 0 := by decide +kernel
theorem idx00 : ∀ t : Fin grid0.N, win0_0.index t 0 * 4096 = 0 ∧ win0_0.index t 1 * 1024 = 0 := by decide +kernel
theorem idx10 : ∀ t : Fin grid1.N, win1_0.index t 0 * 4096 = 0 ∧ win1_0.index t 1 * 1024 = 0 := by decide +kernel
theorem idx20 : ∀ t : Fin grid2.N, win2_0.index t 0 * 4096 = 0 ∧ win2_0.index t 1 * 1024 = 0 := by decide +kernel

/-- The block of the whole rows. -/
theorem emb_whole (off : Fin 2 → Nat) (inb : ∀ a, off a + S4096x1024.size a ≤ S4096x1024.size a) (h : off 0 = 0 ∧ off 1 = 0)
    (j : S4096x1024.Idx) : (Rect.unit (s := S4096x1024) off S4096x1024.size inb).emb j = j :=
  funext fun a => Fin.ext (by
    match a with
    | ⟨0, _⟩ => show off 0 + 1 * (j 0).val = (j 0).val; rw [h.1]; omega
    | ⟨1, _⟩ => show off 1 + 1 * (j 1).val = (j 1).val; rw [h.2]; omega)

variable (V : (c : Dev nD) → (b : Ref sig .tc) → Buf (Elt F) ((c : Thread nD τ).loc b))

theorem iblk00 (c : Dev nD) (t : Fin cfg0.N) (R : Fin 4096) (j : Fin 1024) : (iblk0 V c 0 t : Vec F S4096x1024 .bf16) (ix2 R j) = V c main_v0 (ix2 R j) := by
  unfold iblk0
  rw [View.read_apply]
  exact congrArg (V c main_v0) (emb_whole _ _ (idx00 t) _)

theorem iblk01 (c : Dev nD) (t : Fin cfg0.N) (l : Fin 256) (j : Fin 1024) : (iblk0 V c 1 t : Vec F S1x256x1024 .bf16) (ix3 0 l j) = V c main_v5 (ix3 0 (col t l) j) := by
  unfold iblk0
  rw [View.read_apply]
  exact congrArg (V c main_v5) (emb_rows t _ _ (idx01 t).1 (idx01 t).2.1 (idx01 t).2.2 l j)

theorem iblk10 (c : Dev nD) (t : Fin cfg1.N) (R : Fin 4096) (j : Fin 1024) : (iblk1 V c 0 t : Vec F S4096x1024 .bf16) (ix2 R j) = V c main_v0 (ix2 R j) := by
  unfold iblk1
  rw [View.read_apply]
  exact congrArg (V c main_v0) (emb_whole _ _ (idx10 t) _)

theorem iblk11 (c : Dev nD) (t : Fin cfg1.N) (l : Fin 256) (j : Fin 1024) : (iblk1 V c 1 t : Vec F S1x256x1024 .bf16) (ix3 0 l j) = V c main_v9 (ix3 0 (col t l) j) := by
  unfold iblk1
  rw [View.read_apply]
  exact congrArg (V c main_v9) (emb_rows t _ _ (idx11 t).1 (idx11 t).2.1 (idx11 t).2.2 l j)

theorem iblk20 (c : Dev nD) (t : Fin cfg2.N) (R : Fin 4096) (j : Fin 1024) : (iblk2 V c 0 t : Vec F S4096x1024 .bf16) (ix2 R j) = V c main_v1 (ix2 R j) := by
  unfold iblk2
  rw [View.read_apply]
  exact congrArg (V c main_v1) (emb_whole _ _ (idx20 t) _)

theorem iblk21 (c : Dev nD) (t : Fin cfg2.N) (l : Fin 256) (j : Fin 1024) : (iblk2 V c 1 t : Vec F S1x256x1024 .bf16) (ix3 0 l j) = V c main_v10 (ix3 0 (col t l) j) := by
  unfold iblk2
  rw [View.read_apply]
  exact congrArg (V c main_v10) (emb_rows t _ _ (idx21 t).1 (idx21 t).2.1 (idx21 t).2.2 l j)

theorem iblk12 (c : Dev nD) (t : Fin cfg1.N) (R : Fin 4096) (l : Fin 256) : (iblk1 V c 2 t : Vec F S4096x256 .bf16) (ix2 R l) = V c main_v11_0 (ix2 R (col t l)) := by
  unfold iblk1
  rw [View.read_apply]
  exact congrArg (V c main_v11_0) (emb_cols t _ _ (idx12 t).1 (idx12 t).2 R l)

theorem iblk13 (c : Dev nD) (t : Fin cfg1.N) (R : Fin 4096) (l : Fin 256) : (iblk1 V c 3 t : Vec F S4096x256 .bf16) (ix2 R l) = V c main_v11_1 (ix2 R (col t l)) := by
  unfold iblk1
  rw [View.read_apply]
  exact congrArg (V c main_v11_1) (emb_cols t _ _ (idx13 t).1 (idx13 t).2 R l)

theorem iblk22 (c : Dev nD) (t : Fin cfg2.N) (R : Fin 4096) (l : Fin 256) : (iblk2 V c 2 t : Vec F S4096x256 .bf16) (ix2 R l) = V c main_v12_0 (ix2 R (col t l)) := by
  unfold iblk2
  rw [View.read_apply]
  exact congrArg (V c main_v12_0) (emb_cols t _ _ (idx22 t).1 (idx22 t).2 R l)

theorem iblk23 (c : Dev nD) (t : Fin cfg2.N) (R : Fin 4096) (l : Fin 256) : (iblk2 V c 3 t : Vec F S4096x256 .bf16) (ix2 R l) = V c main_v11_1 (ix2 R (col t l)) := by
  unfold iblk2
  rw [View.read_apply]
  exact congrArg (V c main_v11_1) (emb_cols t _ _ (idx23 t).1 (idx23 t).2 R l)

theorem final02 (c : Dev nD) (G : S4096x2816.Idx → Elt F .bf16)
    (h : ∀ (t : Fin cfg0.N) (R : Fin 4096) (l : Fin 256), out0_2 (iblk0 V c 0 t) (iblk0 V c 1 t) (ix2 R l) = G (ix2 R (col t l))) :
    (dat0 V c).arrAt 2 cfg0.N = G :=
  (dat0 V c).arrAt_eq_of_cover 2 G (fun t _ => by
    show (cfg0.win 2).cut (grid0.coords t) ((dat0 V c).after 2 t) = _
    rw [after0_2]
    funext j
    rw [View.read_apply]
    exact cols_at t _ G (h t) _ _ (idx02 t) j) fun i => by
    obtain ⟨t, ht⟩ := cols_cover i (fun t a => win0_2.index t a * win0_2.size a) idx02
    exact ⟨t, flush0_2 t, (View.set_slice_whole (main_v11_0) (win0_2.rect t)).symm ▸ (Rect.mem_set_unit ..).mpr ht⟩

theorem final03 (c : Dev nD) (G : S4096x2816.Idx → Elt F .bf16)
    (h : ∀ (t : Fin cfg0.N) (R : Fin 4096) (l : Fin 256), out0_3 (iblk0 V c 0 t) (iblk0 V c 1 t) (ix2 R l) = G (ix2 R (col t l))) :
    (dat0 V c).arrAt 3 cfg0.N = G :=
  (dat0 V c).arrAt_eq_of_cover 3 G (fun t _ => by
    show (cfg0.win 3).cut (grid0.coords t) ((dat0 V c).after 3 t) = _
    rw [after0_3]
    funext j
    rw [View.read_apply]
    exact cols_at t _ G (h t) _ _ (idx03 t) j) fun i => by
    obtain ⟨t, ht⟩ := cols_cover i (fun t a => win0_3.index t a * win0_3.size a) idx03
    exact ⟨t, flush0_3 t, (View.set_slice_whole (main_v11_1) (win0_3.rect t)).symm ▸ (Rect.mem_set_unit ..).mpr ht⟩

theorem final14 (c : Dev nD) (G : S4096x2816.Idx → Elt F .bf16)
    (h : ∀ (t : Fin cfg1.N) (R : Fin 4096) (l : Fin 256), out1_4 (iblk1 V c 0 t) (iblk1 V c 1 t) (iblk1 V c 2 t) (iblk1 V c 3 t) (ix2 R l) = G (ix2 R (col t l))) :
    (dat1 V c).arrAt 4 cfg1.N = G :=
  (dat1 V c).arrAt_eq_of_cover 4 G (fun t _ => by
    show (cfg1.win 4).cut (grid1.coords t) ((dat1 V c).after 4 t) = _
    rw [after1_4]
    funext j
    rw [View.read_apply]
    exact cols_at t _ G (h t) _ _ (idx14 t) j) fun i => by
    obtain ⟨t, ht⟩ := cols_cover i (fun t a => win1_4.index t a * win1_4.size a) idx14
    exact ⟨t, flush1_4 t, (View.set_slice_whole (main_v12_0) (win1_4.rect t)).symm ▸ (Rect.mem_set_unit ..).mpr ht⟩

theorem final15 (c : Dev nD) (G : S4096x2816.Idx → Elt F .bf16)
    (h : ∀ (t : Fin cfg1.N) (R : Fin 4096) (l : Fin 256), out1_5 (iblk1 V c 0 t) (iblk1 V c 1 t) (iblk1 V c 2 t) (iblk1 V c 3 t) (ix2 R l) = G (ix2 R (col t l))) :
    (dat1 V c).arrAt 5 cfg1.N = G :=
  (dat1 V c).arrAt_eq_of_cover 5 G (fun t _ => by
    show (cfg1.win 5).cut (grid1.coords t) ((dat1 V c).after 5 t) = _
    rw [after1_5]
    funext j
    rw [View.read_apply]
    exact cols_at t _ G (h t) _ _ (idx15 t) j) fun i => by
    obtain ⟨t, ht⟩ := cols_cover i (fun t a => win1_5.index t a * win1_5.size a) idx15
    exact ⟨t, flush1_5 t, (View.set_slice_whole (main_v12_1) (win1_5.rect t)).symm ▸ (Rect.mem_set_unit ..).mpr ht⟩

theorem final24 (c : Dev nD) (G : S4096x2816.Idx → Elt F .bf16)
    (h : ∀ (t : Fin cfg2.N) (R : Fin 4096) (l : Fin 256), out2_4 (iblk2 V c 0 t) (iblk2 V c 1 t) (iblk2 V c 2 t) (iblk2 V c 3 t) (ix2 R l) = G (ix2 R (col t l))) :
    (dat2 V c).arrAt 4 cfg2.N = G :=
  (dat2 V c).arrAt_eq_of_cover 4 G (fun t _ => by
    show (cfg2.win 4).cut (grid2.coords t) ((dat2 V c).after 4 t) = _
    rw [after2_4]
    funext j
    rw [View.read_apply]
    exact cols_at t _ G (h t) _ _ (idx24 t) j) fun i => by
    obtain ⟨t, ht⟩ := cols_cover i (fun t a => win2_4.index t a * win2_4.size a) idx24
    exact ⟨t, flush2_4 t, (View.set_slice_whole (main_v13_0) (win2_4.rect t)).symm ▸ (Rect.mem_set_unit ..).mpr ht⟩

theorem final25 (c : Dev nD) (G : S4096x2816.Idx → Elt F .bf16)
    (h : ∀ (t : Fin cfg2.N) (R : Fin 4096) (l : Fin 256), out2_5 (iblk2 V c 0 t) (iblk2 V c 1 t) (iblk2 V c 2 t) (iblk2 V c 3 t) (ix2 R l) = G (ix2 R (col t l))) :
    (dat2 V c).arrAt 5 cfg2.N = G :=
  (dat2 V c).arrAt_eq_of_cover 5 G (fun t _ => by
    show (cfg2.win 5).cut (grid2.coords t) ((dat2 V c).after 5 t) = _
    rw [after2_5]
    funext j
    rw [View.read_apply]
    exact cols_at t _ G (h t) _ _ (idx25 t) j) fun i => by
    obtain ⟨t, ht⟩ := cols_cover i (fun t a => win2_5.index t a * win2_5.size a) idx25
    exact ⟨t, flush2_5 t, (View.set_slice_whole (main_v13_1) (win2_5.rect t)).symm ▸ (Rect.mem_set_unit ..).mpr ht⟩

end Blocks

section Results
variable (m : (ℓ : Loc nD τ sig) → Buf (Elt Ideal) ℓ) (ρ : Dev nD → PrngReg)

/-- The gate's product at an entry, the other factor's and the cotangent's. -/
abbrev atA (c : Dev nD) (i : S4096x2816.Idx) : EReal := mmIn (m ((c : Thread nD τ).loc main_arg0)) (m ((c : Thread nD τ).loc main_arg1)) (i 0) (i 1)
abbrev atB (c : Dev nD) (i : S4096x2816.Idx) : EReal := mmIn (m ((c : Thread nD τ).loc main_arg0)) (m ((c : Thread nD τ).loc main_arg2)) (i 0) (i 1)
abbrev atD (c : Dev nD) (i : S4096x2816.Idx) : EReal := mmOut (m ((c : Thread nD τ).loc main_arg4)) (m ((c : Thread nD τ).loc main_arg3)) (i 0) (i 1)

/-- The gradient of the gate's product, that of the other factor's, and the gated product. -/
def resA (c : Dev nD) : FVec Ideal S4096x2816 .bf16 := fun i => atD m c i * dsw (atA m c i) (atB m c i)
def resB (c : Dev nD) : FVec Ideal S4096x2816 .bf16 := fun i => atD m c i * (atA m c i * sg (atA m c i))
def resU (c : Dev nD) : FVec Ideal S4096x2816 .bf16 := fun i => atA m c i * sg (atA m c i) * atB m c i

theorem V1_v0 (c : Dev nD) : (V1 m ρ c main_v0 : FVec Ideal S4096x1024 .bf16) = m ((c : Thread nD τ).loc main_arg0) := by
  funext i
  show StableHlo.after hostOps0 _ (Proc.devRef .tc main_v0) _ = _
  after_results
  rfl

theorem V1_v1 (c : Dev nD) : (V1 m ρ c main_v1 : FVec Ideal S4096x1024 .bf16) = m ((c : Thread nD τ).loc main_arg4) := by
  funext i
  show StableHlo.after hostOps0 _ (Proc.devRef .tc main_v1) _ = _
  after_results
  rfl

theorem V1_v10 (c : Dev nD) : (V1 m ρ c main_v10 : FVec Ideal S1x2816x1024 .bf16) = m ((c : Thread nD τ).loc main_arg3) := by
  funext i
  show StableHlo.after hostOps0 _ (Proc.devRef .tc main_v10) _ = _
  after_results
  rfl

theorem V1_v5 (c : Dev nD) (L : Fin 2816) (k : Fin 1024) : (V1 m ρ c main_v5 : FVec Ideal S1x2816x1024 .bf16) (ix3 0 L k) = m ((c : Thread nD τ).loc main_arg1) (ix3 0 k L) := by
  show StableHlo.after hostOps0 _ (Proc.devRef .tc main_v5) _ = _
  after_results
  exact GateKernelIdeal.Value.turned_apply _ L k

theorem V1_v9 (c : Dev nD) (L : Fin 2816) (k : Fin 1024) : (V1 m ρ c main_v9 : FVec Ideal S1x2816x1024 .bf16) (ix3 0 L k) = m ((c : Thread nD τ).loc main_arg2) (ix3 0 k L) := by
  show StableHlo.after hostOps0 _ (Proc.devRef .tc main_v9) _ = _
  after_results
  exact GateKernelIdeal.Value.turned_apply _ L k

theorem V2_of (c : Dev nD) (r : Ref sig .tc) (h : ∀ w : Fin cfg0.W, Pipeline.arrRef spec0 w = r → (cfg0.win w).isOut = false) : V2 m ρ c r = V1 m ρ c r :=
  W2_of m ρ c r h

theorem V3_of (c : Dev nD) (r : Ref sig .tc) (h : ∀ w : Fin cfg1.W, Pipeline.arrRef spec1 w = r → (cfg1.win w).isOut = false) : V3 m ρ c r = V2 m ρ c r :=
  W3_of m ρ c r h

/-- The three calls' products. -/
theorem dot_a (c : Dev nD) (t : Fin cfg0.N) (R : Fin 4096) (l : Fin 256) : dotBlk (iblk0 (V1 m ρ) c 0 t) (iblk0 (V1 m ρ) c 1 t) R l = atA m c (ix2 R (col t l)) :=
  Finset.sum_congr rfl fun k _ => by rw [iblk00, iblk01, V1_v0, V1_v5]; rfl

theorem dot_b (c : Dev nD) (t : Fin cfg1.N) (R : Fin 4096) (l : Fin 256) : dotBlk (iblk1 (V2 m ρ) c 0 t) (iblk1 (V2 m ρ) c 1 t) R l = atB m c (ix2 R (col t l)) :=
  Finset.sum_congr rfl fun k _ => by rw [iblk10, iblk11, V2_of m ρ c main_v0 (by decide), V2_of m ρ c main_v9 (by decide), V1_v0, V1_v9]; rfl

theorem dot_d (c : Dev nD) (t : Fin cfg2.N) (R : Fin 4096) (l : Fin 256) : dotBlk (iblk2 (V3 m ρ) c 0 t) (iblk2 (V3 m ρ) c 1 t) R l = atD m c (ix2 R (col t l)) :=
  Finset.sum_congr rfl fun k _ => by
    rw [iblk20, iblk21, V3_of m ρ c main_v1 (by decide), V3_of m ρ c main_v10 (by decide), V2_of m ρ c main_v1 (by decide), V2_of m ρ c main_v10 (by decide), V1_v1, V1_v10]
    rfl

/-- The slope and the gated value the first call leaves. -/
theorem saved_s (c : Dev nD) : (V2 m ρ c main_v11_0 : FVec Ideal S4096x2816 .bf16) = fun i => slope (atA m c i) :=
  (W2_arr m ρ c 2).trans (final02 (V1 m ρ) c _ fun t R l => by rw [out02_apply, dot_a])

theorem saved_g (c : Dev nD) : (V2 m ρ c main_v11_1 : FVec Ideal S4096x2816 .bf16) = fun i => atA m c i * sg (atA m c i) :=
  (W2_arr m ρ c 3).trans (final03 (V1 m ρ) c _ fun t R l => by rw [out03_eq, GateKernelIdeal.Value.out4_apply, dot_a])

/-- The other factor times the slope, and the gated product. -/
theorem saved_a (c : Dev nD) : (V3 m ρ c main_v12_0 : FVec Ideal S4096x2816 .bf16) = fun i => dsw (atA m c i) (atB m c i) :=
  (W3_arr m ρ c 4).trans (final14 (V2 m ρ) c _ fun t R l => by
    rw [out14_eq, GateKernelIdeal.Value.out14_apply, dot_b, iblk12, saved_s]
    rfl)

theorem saved_u (c : Dev nD) : (V3 m ρ c main_v12_1 : FVec Ideal S4096x2816 .bf16) = resU m c :=
  (W3_arr m ρ c 5).trans (final15 (V2 m ρ) c (resU m c) fun t R l => by
    rw [out15_eq, GateKernelIdeal.Value.out14_apply, dot_b, iblk13, saved_g]
    exact mul_comm _ _)

theorem res_a (c : Dev nD) : W4 m ρ c (Proc.devRef .tc main_v13_0) = resA m c :=
  (W4_arr m ρ c 4).trans (final24 (V3 m ρ) c (resA m c) fun t R l => by
    rw [out24_eq, GateKernelIdeal.Value.out14_apply, dot_d, iblk22, saved_a]
    rfl)

theorem res_b (c : Dev nD) : W4 m ρ c (Proc.devRef .tc main_v13_1) = resB m c :=
  (W4_arr m ρ c 5).trans (final25 (V3 m ρ) c (resB m c) fun t R l => by
    rw [out25_eq, GateKernelIdeal.Value.out14_apply, dot_d, iblk23, V3_of m ρ c main_v11_1 (by decide), saved_g]
    rfl)

theorem res_u (c : Dev nD) : W4 m ρ c (Proc.devRef .tc main_v12_1) = resU m c :=
  (W4_of m ρ c main_v12_1 (by decide)).trans (saved_u m ρ c)

open Idealize.ShloMosaic.Tactic Idealize.SL Idealize.SL.RA Idealize.SL.BI
open scoped Idealize.SL.BI
open Idealize.SL.BI.BIBase Idealize.SL.BI.Laws Idealize.SL.ProofMode Idealize.ShloMosaic.Rounds

local notation "𝕄" => MT nD τ sig Unit (Elt Ideal) ℕ (UR sig nD τ) ℕ

-- the launch theorem's implicit arguments are found by unifying its conclusion with this one
set_option backward.isDefEq.respectTransparency.types false in
/-- The kernel's run with its three results read off the arguments. -/
theorem run : θ_run defs (onTc (τ := τ) (main (F := Ideal))) ⟨m, fun _ => 0, ρ⟩ (fun r => ∀ c : Dev nD,
      r.2.mem ((c : Thread nD τ).loc main_v13_0) = resA m c
      ∧ r.2.mem ((c : Thread nD τ).loc main_v13_1) = resB m c
      ∧ r.2.mem ((c : Thread nD τ).loc main_v12_1) = resU m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => ⟨(h c _ (mem_uc main_v13_0 (by decide))).trans (res_a m ρ c), (h c _ (mem_uc main_v13_1 (by decide))).trans (res_b m ρ c),
      (h c _ (mem_uc main_v12_1 (by decide))).trans (res_u m ρ c),
      (h c _ (mem_uc main_arg0 (by decide))).trans (W4_main_arg0 m ρ c), (h c _ (mem_uc main_arg1 (by decide))).trans (W4_main_arg1 m ρ c),
      (h c _ (mem_uc main_arg2 (by decide))).trans (W4_main_arg2 m ρ c), (h c _ (mem_uc main_arg3 (by decide))).trans (W4_main_arg3 m ρ c),
      (h c _ (mem_uc main_arg4 (by decide))).trans (W4_main_arg4 m ρ c)⟩)

end Results

end Cert.SplitKernelIdeal.Value
end
-- ==== Proof.SplitRead.lean ====
/- The three calls of the gated unit beside the unit's reference. -/
module

public import proofs.«01_k».proof.Proof.GateRead
public import proofs.«01_k».proof.Proof.SplitValue

@[expose] public section

noncomputable section

open Idealize.ShloMosaic Idealize.ShloMosaic.TcCoe Idealize.SL.Sem

namespace Cert.SplitRead

open Cert.SplitKernelIdeal Cert.SplitKernelIdeal.Value

/-- From the same arguments kernel and reference end with the same gradients and the same gated product. -/
theorem algebraic : Cert.algebraic_SplitKernelIdeal_GateRefIdeal_pre_gate_args_finite := fun m ρ m' ρ' hpre h =>
  ⟨resA m, resB m, resU m, run m ρ,
    GateRead.ends m' ρ' (fun c => m ((c : Thread nD τ).loc main_arg0)) (fun c => m ((c : Thread nD τ).loc main_arg4))
      (fun c => m ((c : Thread nD τ).loc main_arg1)) (fun c => m ((c : Thread nD τ).loc main_arg2))
      (fun c => m ((c : Thread nD τ).loc main_arg3)) hpre h⟩

end Cert.SplitRead
end
-- ==== Proof.DhValue.lean ====
module

public import proofs.«01_k».proof.Proof.Rms
public import proofs.«01_k».proof.Proof.Gen.DhKernelIdeal.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DhKernelIdeal.Value

open Cert.DhKernelIdeal Cert.DhKernelIdeal.Gen Cert.Rms

/-- The norm's factor of a tile's row. -/
theorem pay4_apply (x : Vec Ideal S512x1024 .f32) (r : Fin 512) (z : Fin 1) :
    k0_pay4 x (ix2 r z) = rinv fun k => x (ix2 r k) := by
  unfold rinv var
  pointwise! [k0_pay4]

/-- The normalised tile. -/
theorem pay5_apply (x : Vec Ideal S512x1024 .f32) (r : Fin 512) (l : Fin 1024) :
    k0_pay5 x (ix2 r l) = x (ix2 r l) * rinv fun k => x (ix2 r k) := by
  rw [← pay4_apply x r 0]
  generalize hy : k0_pay4 x = y
  unfold k0_pay5
  rw [hy]
  pointwise! []

/-- The cotangent of the normalised tile times its weight: the two products' sum. -/
theorem pay3_apply (v0 v5 : Vec Ideal S512x2816 .bf16) (v2 v7 : Vec Ideal S1x2816x1024 .bf16) (r : Fin 512) (l : Fin 1024) :
    k0_pay3 v0 v2 v5 v7 (ix2 r l)
      = ((∑ k : Fin 2816, v0 (ix2 r k) * v2 (ix3 0 k l)) + ∑ k : Fin 2816, v5 (ix2 r k) * v7 (ix3 0 k l) : EReal) := by
  pointwise! [k0_pay3]

/-- The tile the kernel writes: each row's gradient plus what comes from the residual. -/
theorem pay1_apply (w : FVec Ideal S512x1024 .f32) (x : Vec Ideal S512x1024 .f32) (g : Vec Ideal S1x1024 .f32) (d : Vec Ideal S512x1024 .f32)
    (r : Fin 512) (l : Fin 1024) :
    k0_pay1 w (k0_pay4 x) (k0_pay5 x) g d (ix2 r l)
      = grad (fun k => x (ix2 r k)) (fun k => w (ix2 r k) * g (ix2 0 k)) l + d (ix2 r l) := by
  unfold grad
  rw [← pay4_apply x r 0]
  have e5 : ∀ l, k0_pay5 x (ix2 r l) = x (ix2 r l) * k0_pay4 x (ix2 r 0) := fun l => by rw [pay5_apply, pay4_apply]
  simp only [← e5]
  generalize k0_pay4 x = y4
  generalize k0_pay5 x = y5
  pointwise! [k0_pay1]

/-- The rounded copy is the same tile. -/
theorem pay2_apply (w : FVec Ideal S512x1024 .f32) (y4 : FVec Ideal S512x1 .f32) (y5 : FVec Ideal S512x1024 .f32) (g : Vec Ideal S1x1024 .f32)
    (d : Vec Ideal S512x1024 .f32) (r : Fin 512) (l : Fin 1024) : k0_pay2 w y4 y5 g d (ix2 r l) = k0_pay1 w y4 y5 g d (ix2 r l) := by
  unfold k0_pay2
  generalize k0_pay1 w y4 y5 g d = y
  pointwise! [ofBits_one, EReal.coe_one, one_mul]

/-- The running column sums a point leaves. -/
theorem pay7_apply (v0 v5 : Vec Ideal S512x2816 .bf16) (v2 v7 : Vec Ideal S1x2816x1024 .bf16) (x : Vec Ideal S512x1024 .f32)
    (a : Vec Ideal S1x1024 .f32) (z : Fin 1) (l : Fin 1024) :
    k0_pay7 v0 v2 v5 v7 x a (ix2 z l) = a (ix2 z l) + ∑ r : Fin 512, k0_pay3 v0 v2 v5 v7 (ix2 r l) * k0_pay5 x (ix2 r l) := by
  unfold k0_pay7
  generalize k0_pay5 x = y5
  generalize k0_pay3 v0 v2 v5 v7 = y3
  pointwise! []

section Blocks
variable {F : FTy → Type} [FloatOps F]
variable (m : (ℓ : Loc nD τ sig) → Buf (Elt F) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- The product tile of grid point `t`. -/
abbrev prod (c : Dev nD) (t : Fin cfg0.N) : FVec F S512x1024 .f32 := k0_pay3 (iblk m c 0 t) (iblk m c 2 t) (iblk m c 1 t) (iblk m c 3 t)

/-- What grid point `t` leaves in the first result's staging buffer. -/
theorem outs_8 (c : Dev nD) (t : Fin cfg0.N) : (outsAt0 m c t.val t.isLt).1
    = k0_pay1 (prod m c t) (k0_pay4 (iblk m c 4 t)) (k0_pay5 (iblk m c 4 t)) (iblk m c 5 t) (iblk m c 6 t) := by
  by_cases h0 : t.val % 8 = 0
  · rw [outsAt0_A m c t h0]
    dsimp only
    unfold out0_A_8
    rw [View.read_writes_eq_canon _ _ _ (cover0_A_8 c _ _ _ _ _ _ _ _ _ _ _ _ _ _ _ _ _ _ _ _ _ _ _ _ _ _ _ _ _ _ _ _)]
    unfold kernelRun0_A
    dsimp only
    sl_unfold_words
    rw [View.canon_unit_zero hz]
    simp only [View.readAt_eq_ld, (hs0_0 t).read_unread, (hs0_1 t).read_unread, (hs0_2 t).read_unread, (hs0_3 t).read_unread,
      (hs0_4 t).read_unread, (hs0_5 t).read_unread, (hs0_6 t).read_unread, (hs0_10 t).read_unread,
      View.ld_unit_zero (S := S512x2816) hz, View.ld_unit_zero (S := S1x2816x1024) hz3, View.ld_unit_zero (S := S512x1024) hz,
      View.ld_unit_zero (S := S1x1024) hz, shapeCast_self]
  · rw [outsAt0_B m c t h0]
    dsimp only
    unfold out0_B_8
    rw [View.read_writes_eq_canon _ _ _ (cover0_B_8 c _ _ _ _ _ _ _ _ _ _ _ _ _ _ _ _ _ _ _ _ _ _ _ _ _ _ _ _ _ _ _ _ _)]
    unfold kernelRun0_B
    dsimp only
    sl_unfold_words
    rw [View.canon_unit_zero hz]
    simp only [View.readAt_eq_ld, (hs0_0 t).read_unread, (hs0_1 t).read_unread, (hs0_2 t).read_unread, (hs0_3 t).read_unread,
      (hs0_4 t).read_unread, (hs0_5 t).read_unread, (hs0_6 t).read_unread, (hs0_10 t).read_unread,
      View.ld_unit_zero (S := S512x2816) hz, View.ld_unit_zero (S := S1x2816x1024) hz3, View.ld_unit_zero (S := S512x1024) hz,
      View.ld_unit_zero (S := S1x1024) hz, shapeCast_self]

/-- What it leaves in the second's, the rounded copy. -/
theorem outs_9 (c : Dev nD) (t : Fin cfg0.N) : (outsAt0 m c t.val t.isLt).2.1
    = k0_pay2 (prod m c t) (k0_pay4 (iblk m c 4 t)) (k0_pay5 (iblk m c 4 t)) (iblk m c 5 t) (iblk m c 6 t) := by
  by_cases h0 : t.val % 8 = 0
  · rw [outsAt0_A m c t h0]
    dsimp only
    unfold out0_A_9
    rw [View.read_writes_eq_canon _ _ _ (cover0_A_9 c _ _ _ _ _ _ _ _ _ _ _ _ _ _ _ _ _ _ _ _ _ _ _ _ _ _ _ _ _ _ _ _)]
    unfold kernelRun0_A
    dsimp only
    sl_unfold_words
    rw [View.canon_unit_zero hz]
    simp only [View.readAt_eq_ld, (hs0_0 t).read_unread, (hs0_1 t).read_unread, (hs0_2 t).read_unread, (hs0_3 t).read_unread,
      (hs0_4 t).read_unread, (hs0_5 t).read_unread, (hs0_6 t).read_unread, (hs0_10 t).read_unread,
      View.ld_unit_zero (S := S512x2816) hz, View.ld_unit_zero (S := S1x2816x1024) hz3, View.ld_unit_zero (S := S512x1024) hz,
      View.ld_unit_zero (S := S1x1024) hz, shapeCast_self]
  · rw [outsAt0_B m c t h0]
    dsimp only
    unfold out0_B_9
    rw [View.read_writes_eq_canon _ _ _ (cover0_B_9 c _ _ _ _ _ _ _ _ _ _ _ _ _ _ _ _ _ _ _ _ _ _ _ _ _ _ _ _ _ _ _ _ _)]
    unfold kernelRun0_B
    dsimp only
    sl_unfold_words
    rw [View.canon_unit_zero hz]
    simp only [View.readAt_eq_ld, (hs0_0 t).read_unread, (hs0_1 t).read_unread, (hs0_2 t).read_unread, (hs0_3 t).read_unread,
      (hs0_4 t).read_unread, (hs0_5 t).read_unread, (hs0_6 t).read_unread, (hs0_10 t).read_unread,
      View.ld_unit_zero (S := S512x2816) hz, View.ld_unit_zero (S := S1x2816x1024) hz3, View.ld_unit_zero (S := S512x1024) hz,
      View.ld_unit_zero (S := S1x1024) hz, shapeCast_self]

/-- The first point starts the column sums from the zero block. -/
theorem outs_10_A (c : Dev nD) (t : Fin cfg0.N) (h0 : t.val % 8 = 0) : (outsAt0 m c t.val t.isLt).2.2 = k0_pay7 (iblk m c 0 t) (iblk m c 2 t) (iblk m c 1 t) (iblk m c 3 t) (iblk m c 4 t) k0_pay6 := by
    rw [outsAt0_A m c t h0]
    dsimp only
    unfold out0_A_10
    rw [View.read_writes_eq_canon _ _ _ (cover0_A_10 c _ _ _ _ _ _ _ _ _ _ _ _ _ _ _ _ _ _ _ _ _ _ _ _ _ _ _ _ _ _ _ _)]
    unfold kernelRun0_A
    dsimp only
    sl_unfold_words
    rw [View.canon_cons_unit_zero (S := S1x1024) hz, View.readCov_unit_zero (S := S1x1024) _ hz]
    simp only [View.readAt_eq_ld, (hs0_0 t).read_unread, (hs0_1 t).read_unread, (hs0_2 t).read_unread, (hs0_3 t).read_unread,
      (hs0_4 t).read_unread, (hs0_5 t).read_unread, (hs0_6 t).read_unread, (hs0_10 t).read_unread,
      View.ld_unit_zero (S := S512x2816) hz, View.ld_unit_zero (S := S1x2816x1024) hz3, View.ld_unit_zero (S := S512x1024) hz,
      View.ld_unit_zero (S := S1x1024) hz, shapeCast_self]

/-- Every later point adds to what the point before left. -/
theorem outs_10_B (c : Dev nD) (t : Fin cfg0.N) (h0 : ¬t.val % 8 = 0) : (outsAt0 m c t.val t.isLt).2.2
    = k0_pay7 (iblk m c 0 t) (iblk m c 2 t) (iblk m c 1 t) (iblk m c 3 t) (iblk m c 4 t) (outsAt0 m c (t.val - 1) (Nat.lt_of_le_of_lt (Nat.sub_le _ _) t.isLt)).2.2 := by
    rw [outsAt0_B m c t h0]
    dsimp only
    unfold out0_B_10
    rw [View.read_writes_eq_canon _ _ _ (cover0_B_10 c _ _ _ _ _ _ _ _ _ _ _ _ _ _ _ _ _ _ _ _ _ _ _ _ _ _ _ _ _ _ _ _ _)]
    unfold kernelRun0_B
    dsimp only
    sl_unfold_words
    rw [View.canon_unit_zero hz]
    simp only [View.readAt_eq_ld, (hs0_0 t).read_unread, (hs0_1 t).read_unread, (hs0_2 t).read_unread, (hs0_3 t).read_unread,
      (hs0_4 t).read_unread, (hs0_5 t).read_unread, (hs0_6 t).read_unread, (hs0_10 t).read_unread,
      View.ld_unit_zero (S := S512x2816) hz, View.ld_unit_zero (S := S1x2816x1024) hz3, View.ld_unit_zero (S := S512x1024) hz,
      View.ld_unit_zero (S := S1x1024) hz, shapeCast_self]

/-- Row `r` of the tile of grid point `t` is row `512 t + r` of the array. -/
abbrev row (t : Fin cfg0.N) (r : Fin 512) : Fin 4096 :=
  ⟨t.val * 512 + r.val, by have ht : t.val < 8 := N_0 ▸ t.isLt; have := r.isLt; omega⟩

theorem rows_index0 : ∀ t : Fin cfg0.N, win0_0.index t 0 = t.val ∧ win0_0.index t 1 = 0 :=
  (by decide +kernel : ∀ t : Fin grid0.N, win0_0.index t 0 = t.val ∧ win0_0.index t 1 = 0)
theorem rows_index1 : ∀ t : Fin cfg0.N, win0_1.index t 0 = t.val ∧ win0_1.index t 1 = 0 :=
  (by decide +kernel : ∀ t : Fin grid0.N, win0_1.index t 0 = t.val ∧ win0_1.index t 1 = 0)
theorem rows_index4 : ∀ t : Fin cfg0.N, win0_4.index t 0 = t.val ∧ win0_4.index t 1 = 0 :=
  (by decide +kernel : ∀ t : Fin grid0.N, win0_4.index t 0 = t.val ∧ win0_4.index t 1 = 0)
theorem rows_index6 : ∀ t : Fin cfg0.N, win0_6.index t 0 = t.val ∧ win0_6.index t 1 = 0 :=
  (by decide +kernel : ∀ t : Fin grid0.N, win0_6.index t 0 = t.val ∧ win0_6.index t 1 = 0)
theorem rows_index8 : ∀ t : Fin cfg0.N, win0_8.index t 0 = t.val ∧ win0_8.index t 1 = 0 :=
  (by decide +kernel : ∀ t : Fin grid0.N, win0_8.index t 0 = t.val ∧ win0_8.index t 1 = 0)
theorem rows_index9 : ∀ t : Fin cfg0.N, win0_9.index t 0 = t.val ∧ win0_9.index t 1 = 0 :=
  (by decide +kernel : ∀ t : Fin grid0.N, win0_9.index t 0 = t.val ∧ win0_9.index t 1 = 0)
theorem whole_index2 : ∀ t : Fin cfg0.N, ∀ a, win0_2.index t a = 0 :=
  (by decide +kernel : ∀ t : Fin grid0.N, ∀ a : Fin 3, win0_2.index t a = 0)
theorem whole_index3 : ∀ t : Fin cfg0.N, ∀ a, win0_3.index t a = 0 :=
  (by decide +kernel : ∀ t : Fin grid0.N, ∀ a : Fin 3, win0_3.index t a = 0)
theorem whole_index5 : ∀ t : Fin cfg0.N, ∀ a, win0_5.index t a = 0 :=
  (by decide +kernel : ∀ t : Fin grid0.N, ∀ a : Fin 2, win0_5.index t a = 0)
theorem whole_index10 : ∀ t : Fin cfg0.N, ∀ a, win0_10.index t a = 0 :=
  (by decide +kernel : ∀ t : Fin grid0.N, ∀ a : Fin 2, win0_10.index t a = 0)

theorem iblk0_apply (c : Dev nD) (t : Fin cfg0.N) (r : Fin 512) (k : Fin 2816) :
    (iblk m c 0 t : Vec F S512x2816 .bf16) (ix2 r k) = V m c main_v0 (ix2 (row t r) k) := by
  have hi := rows_index0 t
  unfold iblk
  rw [View.read_apply]
  refine congrArg (V m c main_v0) (funext fun a => Fin.ext ?_)
  match a with
  | ⟨0, _⟩ => show win0_0.index t 0 * 512 + 1 * r.val = t.val * 512 + r.val; rw [hi.1]; omega
  | ⟨1, _⟩ => show win0_0.index t 1 * 2816 + 1 * k.val = k.val; rw [hi.2]; omega

theorem iblk1_apply (c : Dev nD) (t : Fin cfg0.N) (r : Fin 512) (k : Fin 2816) :
    (iblk m c 1 t : Vec F S512x2816 .bf16) (ix2 r k) = V m c main_v1 (ix2 (row t r) k) := by
  have hi := rows_index1 t
  unfold iblk
  rw [View.read_apply]
  refine congrArg (V m c main_v1) (funext fun a => Fin.ext ?_)
  match a with
  | ⟨0, _⟩ => show win0_1.index t 0 * 512 + 1 * r.val = t.val * 512 + r.val; rw [hi.1]; omega
  | ⟨1, _⟩ => show win0_1.index t 1 * 2816 + 1 * k.val = k.val; rw [hi.2]; omega

theorem iblk4_apply (c : Dev nD) (t : Fin cfg0.N) (r : Fin 512) (k : Fin 1024) :
    (iblk m c 4 t : Vec F S512x1024 .f32) (ix2 r k) = V m c main_arg0 (ix2 (row t r) k) := by
  have hi := rows_index4 t
  unfold iblk
  rw [View.read_apply]
  refine congrArg (V m c main_arg0) (funext fun a => Fin.ext ?_)
  match a with
  | ⟨0, _⟩ => show win0_4.index t 0 * 512 + 1 * r.val = t.val * 512 + r.val; rw [hi.1]; omega
  | ⟨1, _⟩ => show win0_4.index t 1 * 1024 + 1 * k.val = k.val; rw [hi.2]; omega

theorem iblk6_apply (c : Dev nD) (t : Fin cfg0.N) (r : Fin 512) (k : Fin 1024) :
    (iblk m c 6 t : Vec F S512x1024 .f32) (ix2 r k) = V m c main_arg6 (ix2 (row t r) k) := by
  have hi := rows_index6 t
  unfold iblk
  rw [View.read_apply]
  refine congrArg (V m c main_arg6) (funext fun a => Fin.ext ?_)
  match a with
  | ⟨0, _⟩ => show win0_6.index t 0 * 512 + 1 * r.val = t.val * 512 + r.val; rw [hi.1]; omega
  | ⟨1, _⟩ => show win0_6.index t 1 * 1024 + 1 * k.val = k.val; rw [hi.2]; omega

theorem iblk2_eq (c : Dev nD) (t : Fin cfg0.N) : (iblk m c 2 t : Vec F S1x2816x1024 .bf16) = V m c main_v5 := by
  have hi := whole_index2 t
  funext j
  unfold iblk
  rw [View.read_apply]
  refine congrArg (V m c main_v5) (funext fun a => Fin.ext ?_)
  match a with
  | ⟨0, _⟩ => show win0_2.index t 0 * 1 + 1 * (j 0).val = (j 0).val; rw [hi 0]; omega
  | ⟨1, _⟩ => show win0_2.index t 1 * 2816 + 1 * (j 1).val = (j 1).val; rw [hi 1]; omega
  | ⟨2, _⟩ => show win0_2.index t 2 * 1024 + 1 * (j 2).val = (j 2).val; rw [hi 2]; omega

theorem iblk3_eq (c : Dev nD) (t : Fin cfg0.N) : (iblk m c 3 t : Vec F S1x2816x1024 .bf16) = V m c main_v9 := by
  have hi := whole_index3 t
  funext j
  unfold iblk
  rw [View.read_apply]
  refine congrArg (V m c main_v9) (funext fun a => Fin.ext ?_)
  match a with
  | ⟨0, _⟩ => show win0_3.index t 0 * 1 + 1 * (j 0).val = (j 0).val; rw [hi 0]; omega
  | ⟨1, _⟩ => show win0_3.index t 1 * 2816 + 1 * (j 1).val = (j 1).val; rw [hi 1]; omega
  | ⟨2, _⟩ => show win0_3.index t 2 * 1024 + 1 * (j 2).val = (j 2).val; rw [hi 2]; omega

theorem iblk5_eq (c : Dev nD) (t : Fin cfg0.N) : (iblk m c 5 t : Vec F S1x1024 .f32) = V m c main_arg1 := by
  have hi := whole_index5 t
  funext j
  unfold iblk
  rw [View.read_apply]
  refine congrArg (V m c main_arg1) (funext fun a => Fin.ext ?_)
  match a with
  | ⟨0, _⟩ => show win0_5.index t 0 * 1 + 1 * (j 0).val = (j 0).val; rw [hi 0]; omega
  | ⟨1, _⟩ => show win0_5.index t 1 * 1024 + 1 * (j 1).val = (j 1).val; rw [hi 1]; omega

/-- Which rows grid point `t` writes. -/
theorem mem_blk8 (t : Fin cfg0.N) (i : S4096x1024.Idx) :
    i ∈ ((cfg0.win 8).blk t).view.set ↔ t.val * 512 ≤ (i 0 : Nat) ∧ (i 0 : Nat) < t.val * 512 + 512 := by
  show i ∈ ((View.whole main_v11_0).slice (win0_8.rect t)).set ↔ _
  rw [View.set_slice_whole, Rect.mem_set_unit]
  have h1 : (i 1 : Nat) < 1024 := (i 1).isLt
  have hi := rows_index8 t
  have e0 : win0_8.index t 0 * win0_8.size 0 = t.val * 512 := by rw [hi.1]; rfl
  have e1 : win0_8.index t 1 * win0_8.size 1 = 0 := by rw [hi.2]; rfl
  refine ⟨fun h => ?_, fun h a => ?_⟩
  · have : win0_8.index t 0 * win0_8.size 0 ≤ (i 0 : Nat) ∧ (i 0 : Nat) < win0_8.index t 0 * win0_8.size 0 + 512 := h 0
    rw [e0] at this; exact this
  · match a with
    | ⟨0, _⟩ => show win0_8.index t 0 * win0_8.size 0 ≤ (i 0 : Nat) ∧ (i 0 : Nat) < win0_8.index t 0 * win0_8.size 0 + 512
                rw [e0]; exact h
    | ⟨1, _⟩ => show win0_8.index t 1 * win0_8.size 1 ≤ (i 1 : Nat) ∧ (i 1 : Nat) < win0_8.index t 1 * win0_8.size 1 + 1024
                rw [e1]; omega

theorem cover8 (i : S4096x1024.Idx) : ∃ t : Fin cfg0.N, (cfg0.win 8).flush t = true ∧ i ∈ ((cfg0.win 8).blk t).view.set := by
  have h0 : (i 0 : Nat) < 4096 := (i 0).isLt
  refine ⟨⟨(i 0 : Nat) / 512, by rw [show cfg0.N = 8 from N_0]; omega⟩, flush0_8 _, (mem_blk8 _ i).mpr ?_⟩
  dsimp only; omega

/-- An array whose tiles are what the points leave is the result. -/
theorem final8 (c : Dev nD) (G : S4096x1024.Idx → Elt F .f32)
    (h : ∀ (t : Fin cfg0.N) (r : Fin 512) (l : Fin 1024), (outsAt0 m c t.val t.isLt).1 (ix2 r l) = G (ix2 (row t r) l)) :
    (dats m 0 c).arrAt 8 cfg0.N = G :=
  (dats m 0 c).arrAt_eq_of_cover 8 G (fun t _ => by
    rw [flushed8]
    funext j
    idx_vars j
    rw [View.read_apply]
    refine (h t _ _).trans (congrArg G (funext fun a => Fin.ext ?_))
    have hi := rows_index8 t
    match a with
    | ⟨0, _⟩ => show t.val * 512 + j0.val = win0_8.index t 0 * 512 + 1 * j0.val; rw [hi.1]; omega
    | ⟨1, _⟩ => show j1.val = win0_8.index t 1 * 1024 + 1 * j1.val; rw [hi.2]; omega) cover8

/-- Which rows grid point `t` writes. -/
theorem mem_blk9 (t : Fin cfg0.N) (i : S4096x1024.Idx) :
    i ∈ ((cfg0.win 9).blk t).view.set ↔ t.val * 512 ≤ (i 0 : Nat) ∧ (i 0 : Nat) < t.val * 512 + 512 := by
  show i ∈ ((View.whole main_v11_1).slice (win0_9.rect t)).set ↔ _
  rw [View.set_slice_whole, Rect.mem_set_unit]
  have h1 : (i 1 : Nat) < 1024 := (i 1).isLt
  have hi := rows_index9 t
  have e0 : win0_9.index t 0 * win0_9.size 0 = t.val * 512 := by rw [hi.1]; rfl
  have e1 : win0_9.index t 1 * win0_9.size 1 = 0 := by rw [hi.2]; rfl
  refine ⟨fun h => ?_, fun h a => ?_⟩
  · have : win0_9.index t 0 * win0_9.size 0 ≤ (i 0 : Nat) ∧ (i 0 : Nat) < win0_9.index t 0 * win0_9.size 0 + 512 := h 0
    rw [e0] at this; exact this
  · match a with
    | ⟨0, _⟩ => show win0_9.index t 0 * win0_9.size 0 ≤ (i 0 : Nat) ∧ (i 0 : Nat) < win0_9.index t 0 * win0_9.size 0 + 512
                rw [e0]; exact h
    | ⟨1, _⟩ => show win0_9.index t 1 * win0_9.size 1 ≤ (i 1 : Nat) ∧ (i 1 : Nat) < win0_9.index t 1 * win0_9.size 1 + 1024
                rw [e1]; omega

theorem cover9 (i : S4096x1024.Idx) : ∃ t : Fin cfg0.N, (cfg0.win 9).flush t = true ∧ i ∈ ((cfg0.win 9).blk t).view.set := by
  have h0 : (i 0 : Nat) < 4096 := (i 0).isLt
  refine ⟨⟨(i 0 : Nat) / 512, by rw [show cfg0.N = 8 from N_0]; omega⟩, flush0_9 _, (mem_blk9 _ i).mpr ?_⟩
  dsimp only; omega

/-- An array whose tiles are what the points leave is the result. -/
theorem final9 (c : Dev nD) (G : S4096x1024.Idx → Elt F .bf16)
    (h : ∀ (t : Fin cfg0.N) (r : Fin 512) (l : Fin 1024), (outsAt0 m c t.val t.isLt).2.1 (ix2 r l) = G (ix2 (row t r) l)) :
    (dats m 0 c).arrAt 9 cfg0.N = G :=
  (dats m 0 c).arrAt_eq_of_cover 9 G (fun t _ => by
    rw [flushed9]
    funext j
    idx_vars j
    rw [View.read_apply]
    refine (h t _ _).trans (congrArg G (funext fun a => Fin.ext ?_))
    have hi := rows_index9 t
    match a with
    | ⟨0, _⟩ => show t.val * 512 + j0.val = win0_9.index t 0 * 512 + 1 * j0.val; rw [hi.1]; omega
    | ⟨1, _⟩ => show j1.val = win0_9.index t 1 * 1024 + 1 * j1.val; rw [hi.2]; omega) cover9

/-- The column sums' array is its one block, written back after the last point. -/
theorem final10 (c : Dev nD) : (dats m 0 c).arrAt 10 cfg0.N = (outsAt0 m c 7 (by rw [show cfg0.N = 8 from N_0]; decide)).2.2 := by
  have hz' : (fun a => win0_10.index t0_7 a * win0_10.size a) = fun _ => 0 :=
    funext fun a => by rw [whole_index10 t0_7 a]; exact Nat.zero_mul _
  refine (dats m 0 c).arrAt_eq_of_cover 10 _ (fun t hf => ?_) fun i => ⟨t0_7, (flush0_10 t0_7).mpr rfl, ?_⟩
  · have hlt : t.val < 8 := lt_of_lt_of_eq t.isLt N_0
    have h7 : t = t0_7 := Fin.ext (by have := (flush0_10 t).mp hf; show t.val = 7; omega)
    subst h7
    rw [flushed10]
    exact (Memref.read_access_unit_zero (Elt F) main_v11_2 hz' (fun a => by rw [congrFun hz' a]; simp) _).symm
  · show i ∈ ((View.whole main_v11_2).slice (win0_10.rect t0_7)).set
    rw [View.set_slice_whole, Rect.mem_set_unit]
    intro a
    have ha : win0_10.index t0_7 a * win0_10.size a = 0 := congrFun hz' a
    have hs : (i a : Nat) < win0_10.size a := (i a).isLt
    show win0_10.index t0_7 a * win0_10.size a ≤ (i a : Nat) ∧ (i a : Nat) < win0_10.index t0_7 a * win0_10.size a + win0_10.size a
    rw [ha]; omega

end Blocks

section Results
variable (m : (ℓ : Loc nD τ sig) → Buf (Elt Ideal) ℓ)

theorem V_v0 (c : Dev nD) (R : Fin 4096) (k : Fin 2816) :
    (V m c main_v0 : FVec Ideal S4096x2816 .bf16) (ix2 R k) = m ((c : Thread nD τ).loc main_arg4) (ix2 R k) := by
  show StableHlo.after hostOps0 _ (Proc.devRef .tc main_v0) _ = _
  after_results
  rfl

theorem V_v1 (c : Dev nD) (R : Fin 4096) (k : Fin 2816) :
    (V m c main_v1 : FVec Ideal S4096x2816 .bf16) (ix2 R k) = m ((c : Thread nD τ).loc main_arg5) (ix2 R k) := by
  show StableHlo.after hostOps0 _ (Proc.devRef .tc main_v1) _ = _
  after_results
  rfl

theorem V_v5 (c : Dev nD) (k : Fin 2816) (l : Fin 1024) :
    (V m c main_v5 : FVec Ideal S1x2816x1024 .bf16) (ix3 0 k l) = m ((c : Thread nD τ).loc main_arg2) (ix3 0 l k) := by
  show StableHlo.after hostOps0 _ (Proc.devRef .tc main_v5) _ = _
  after_results
  pointwise! []

theorem V_v9 (c : Dev nD) (k : Fin 2816) (l : Fin 1024) :
    (V m c main_v9 : FVec Ideal S1x2816x1024 .bf16) (ix3 0 k l) = m ((c : Thread nD τ).loc main_arg3) (ix3 0 l k) := by
  show StableHlo.after hostOps0 _ (Proc.devRef .tc main_v9) _ = _
  after_results
  pointwise! []

/-- The cotangent of the normalised rows times the gain, read off the arguments. -/
def cot (c : Dev nD) : Fin 4096 → Fin 1024 → EReal :=
  mm2 (m ((c : Thread nD τ).loc main_arg4)) (m ((c : Thread nD τ).loc main_arg2)) (m ((c : Thread nD τ).loc main_arg5)) (m ((c : Thread nD τ).loc main_arg3))

/-- The input's gradient, read off the arguments. -/
def resX (c : Dev nD) : Rows :=
  ofRows (dx (m ((c : Thread nD τ).loc main_arg0)) (m ((c : Thread nD τ).loc main_arg1)) (m ((c : Thread nD τ).loc main_arg6)) (cot m c))

/-- The gain's gradient, read off the arguments. -/
def resG (c : Dev nD) : S1x1024.Idx → EReal := ofRow (dgain (m ((c : Thread nD τ).loc main_arg0)) (cot m c))

/-- The tile of the two products at a grid point. -/
theorem prod_apply (c : Dev nD) (t : Fin cfg0.N) (r : Fin 512) (l : Fin 1024) : prod m c t (ix2 r l) = cot m c (row t r) l := by
  unfold prod cot mm2
  rw [pay3_apply, iblk2_eq, iblk3_eq]
  congr 1 <;> refine Finset.sum_congr rfl fun k _ => ?_
  · rw [iblk0_apply, V_v0, V_v5]
  · rw [iblk1_apply, V_v1, V_v9]

theorem tile_x (c : Dev nD) (t : Fin cfg0.N) (r : Fin 512) (l : Fin 1024) :
    (iblk m c 4 t : Vec Ideal S512x1024 .f32) (ix2 r l) = m ((c : Thread nD τ).loc main_arg0) (ix2 (row t r) l) := by
  rw [iblk4_apply, V_main_arg0]

/-- The input gradient the kernel leaves. -/
theorem outs_8_apply (c : Dev nD) (t : Fin cfg0.N) (r : Fin 512) (l : Fin 1024) : (outsAt0 m c t.val t.isLt).1 (ix2 r l) = resX m c (ix2 (row t r) l) := by
  rw [outs_8, pay1_apply, iblk6_apply, V_main_arg6, iblk5_eq, V_main_arg1]
  simp only [tile_x, prod_apply]
  rfl

theorem outs_9_apply (c : Dev nD) (t : Fin cfg0.N) (r : Fin 512) (l : Fin 1024) : (outsAt0 m c t.val t.isLt).2.1 (ix2 r l) = resX m c (ix2 (row t r) l) := by
  rw [← outs_8_apply, outs_8, outs_9, pay2_apply]

/-- What a grid point adds to the column sums. -/
theorem point_sum (c : Dev nD) (t : Fin cfg0.N) (a : Vec Ideal S1x1024 .f32) (z : Fin 1) (l : Fin 1024) :
    k0_pay7 (iblk m c 0 t) (iblk m c 2 t) (iblk m c 1 t) (iblk m c 3 t) (iblk m c 4 t) a (ix2 z l)
      = a (ix2 z l) + ∑ r : Fin 512, gainTerm (m ((c : Thread nD τ).loc main_arg0)) (cot m c) l (row t r) := by
  refine (pay7_apply _ _ _ _ _ _ z l).trans (congrArg (HAdd.hAdd _) (Finset.sum_congr rfl fun r _ => ?_))
  unfold gainTerm
  rw [pay5_apply]
  simp only [tile_x]
  exact congrArg (· * _) (prod_apply m c t r l)

theorem sums_zero (c : Dev nD) (h : 0 < cfg0.N) (z : Fin 1) (l : Fin 1024) : (outsAt0 m c 0 h).2.2 (ix2 z l)
    = 0 + ∑ r : Fin 512, gainTerm (m ((c : Thread nD τ).loc main_arg0)) (cot m c) l (row ⟨0, h⟩ r) := by
  have e := congrFun (outs_10_A m c ⟨0, h⟩ rfl) (ix2 z l)
  rw [point_sum m c ⟨0, h⟩] at e
  refine e.trans (congrArg (· + _) ?_)
  pointwise! [k0_pay6]

theorem sums_succ (c : Dev nD) (n : Nat) (h : n + 1 < cfg0.N) (z : Fin 1) (l : Fin 1024) : (outsAt0 m c (n + 1) h).2.2 (ix2 z l)
    = (outsAt0 m c n (Nat.lt_of_succ_lt h)).2.2 (ix2 z l)
      + ∑ r : Fin 512, gainTerm (m ((c : Thread nD τ).loc main_arg0)) (cot m c) l (row ⟨n + 1, h⟩ r) := by
  have h8 : n + 1 < 8 := lt_of_lt_of_eq h N_0
  have e := congrFun (outs_10_B m c ⟨n + 1, h⟩ (by show ¬(n + 1) % 8 = 0; omega)) (ix2 z l)
  rw [point_sum m c ⟨n + 1, h⟩] at e
  exact e

/-- The column sums the kernel leaves after the last point. -/
theorem outs_10_apply (c : Dev nD) (h7 : 7 < cfg0.N) (z : Fin 1) (l : Fin 1024) : (outsAt0 m c 7 h7).2.2 (ix2 z l) = resG m c (ix2 z l) := by
  have hN : ∀ n, n < 8 → n < cfg0.N := fun n h => lt_of_lt_of_eq h N_0.symm
  obtain ⟨a, ha⟩ : ∃ a : ∀ n, n < 8 → EReal, ∀ n h, a n h = (outsAt0 m c n (hN n h)).2.2 (ix2 z l) := ⟨_, fun _ _ => rfl⟩
  have e := acc_rows (gainTerm (m ((c : Thread nD τ).loc main_arg0)) (cot m c) l) a ((ha 0 _).trans (sums_zero m c _ z l))
    (fun n h => by rw [ha, ha]; exact sums_succ m c n _ z l)
  rw [ha] at e
  exact e

/-- The arguments keep their values. -/
def Kept (r : PUnit × MemSt nD τ sig (Elt Ideal)) (c : Dev nD) : Prop :=
  r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)
  ∧ r.2.mem ((c : Thread nD τ).loc main_arg5) = m ((c : Thread nD τ).loc main_arg5)
  ∧ r.2.mem ((c : Thread nD τ).loc main_arg6) = m ((c : Thread nD τ).loc main_arg6)

/-- The kernel's run with every result read off the arguments. -/
theorem run (ρ : Dev nD → PrngReg) : θ_run defs (onTc (τ := τ) (main (F := Ideal))) ⟨m, fun _ => 0, ρ⟩ fun r => ∀ c : Dev nD,
      r.2.mem ((c : Thread nD τ).loc main_v11_0) = resX m c
      ∧ r.2.mem ((c : Thread nD τ).loc main_v11_1) = resX m c
      ∧ r.2.mem ((c : Thread nD τ).loc main_v11_2) = resG m c
      ∧ Kept m r c :=
  (θ_run defs _ _).mono (fun r h c => by
    obtain ⟨h8, h9, h10, hk⟩ := h c
    refine ⟨h8.trans (final8 m c _ (outs_8_apply m c)), h9.trans (final9 m c _ (outs_9_apply m c)), h10.trans ?_, hk⟩
    rw [final10]
    funext i
    idx_vars i
    exact outs_10_apply m c _ _ _) (run_blocks m ρ)

end Results

end Cert.DhKernelIdeal.Value
end
-- ==== Proof.DhRead.lean ====
/- What the reference of the norm's and products' gradient leaves, and that it is what the kernel leaves. -/
module

public import proofs.«01_k».proof.Defs
public import proofs.«01_k».proof.Proof.DhValue
public import proofs.«01_k».proof.Proof.Gen.DhRefIdeal.Run
public import proofs.«01_k».proof.Proof.Gen.DhRefIdeal.Read
public import Idealize.ShloMosaic.Adequacy

@[expose] public section

set_option maxRecDepth 16384

noncomputable section

open Idealize.ShloMosaic Idealize.ShloMosaic.TcCoe Idealize.SL.Sem

namespace Cert.DhRead

open Cert.DhRefIdeal Cert.DhRefIdeal.Gen Cert.DhRefIdeal.Value Cert.DhRefIdeal.Read Cert.Rms

variable (x0 : (⟨S4096x1024, .f32⟩ : BufTy).Contents (Elt Ideal)) (x1 : (⟨S1x1024, .f32⟩ : BufTy).Contents (Elt Ideal))
variable (x2 x3 : (⟨S1x1024x2816, .f32⟩ : BufTy).Contents (Elt Ideal)) (x4 x5 : (⟨S4096x2816, .f32⟩ : BufTy).Contents (Elt Ideal))
variable (x6 : (⟨S4096x1024, .f32⟩ : BufTy).Contents (Elt Ideal))

theorem v7_apply (R : Fin 4096) (z : Fin 1) : val_main_v7 (F := Ideal) x0 (ix2 R z) = var fun k => x0 (ix2 R k) := by
  unfold var
  pointwise! [val_main_v7, val_main_v6, val_main_v5, val_main_v4, val_main_v3, val_main_v2, val_main_v1, val_main_cst, val_main_cst_0, val_main_cst_1]

theorem v8_apply (R : Fin 4096) (z : Fin 1) : val_main_v8 (F := Ideal) x0 (ix2 R z) = rinv fun k => x0 (ix2 R k) := by
  unfold rinv
  rw [← v7_apply x0 R z]
  rfl

theorem v23_apply (R : Fin 4096) (l : Fin 1024) : val_main_v23 (F := Ideal) x2 x3 x4 x5 (ix2 R l) = mm2 x4 x2 x5 x3 R l := by
  unfold mm2
  rw [add_comm]
  pointwise! [val_main_v23, val_main_v22, val_main_v21, val_main_v19, val_main_v17]

theorem v28_apply (R : Fin 4096) (l : Fin 1024) : val_main_v28 (F := Ideal) x1 x2 x3 x4 x5 (ix2 R l) = mm2 x4 x2 x5 x3 R l * x1 (ix2 0 l) := by
  rw [← v23_apply]
  unfold val_main_v28
  generalize val_main_v23 (F := Ideal) x2 x3 x4 x5 = y
  pointwise! [val_main_v27, val_main_v14, val_main_v0]

theorem v40_apply (R : Fin 4096) (l : Fin 1024) : val_main_v40 (F := Ideal) x0 x1 x2 x3 x4 x5 (ix2 R l)
    = Rms.slope (fun k => x0 (ix2 R k)) fun k => mm2 x4 x2 x5 x3 R k * x1 (ix2 0 k) := by
  rw [show (fun k => mm2 x4 x2 x5 x3 R k * x1 (ix2 0 k)) = fun k => val_main_v28 (F := Ideal) x1 x2 x3 x4 x5 (ix2 R k)
    from funext fun k => (v28_apply x1 x2 x3 x4 x5 R k).symm]
  unfold Rms.slope
  rw [← v8_apply x0 R 0, ← v7_apply x0 R 0]
  unfold val_main_v40 val_main_v39 val_main_v38 val_main_v36 val_main_v32 val_main_v31 val_main_v30 val_main_v11 val_main_v9
  generalize val_main_v28 (F := Ideal) x1 x2 x3 x4 x5 = y
  generalize val_main_v8 (F := Ideal) x0 = y8
  generalize val_main_v7 (F := Ideal) x0 = y7
  pointwise! [val_main_v37, val_main_cst_6, val_main_cst_7, val_main_cst_5, val_main_v10, val_main_cst_2]
  exact Fintype.sum_unique _

/-- The reference's input gradient. -/
theorem v44_apply (R : Fin 4096) (l : Fin 1024) : val_main_v44 (F := Ideal) x0 x1 x2 x3 x4 x5 x6 (ix2 R l)
    = dx x0 x1 x6 (mm2 x4 x2 x5 x3) R l := by
  unfold dx
  rw [grad_eq, ← v40_apply x0 x1 x2 x3 x4 x5 R l, ← v8_apply x0 R 0, ← v28_apply]
  unfold val_main_v44 val_main_v43 val_main_v42 val_main_v41 val_main_v35 val_main_v34 val_main_v33
  generalize val_main_v28 (F := Ideal) x1 x2 x3 x4 x5 = y
  generalize val_main_v8 (F := Ideal) x0 = y8
  generalize val_main_v40 (F := Ideal) x0 x1 x2 x3 x4 x5 = q
  pointwise! []

theorem v46_apply (R : Fin 4096) (l : Fin 1024) : val_main_v46 (F := Ideal) x0 x1 x2 x3 x4 x5 x6 (ix2 R l)
    = dx x0 x1 x6 (mm2 x4 x2 x5 x3) R l := by
  rw [← v44_apply]
  unfold val_main_v46
  generalize val_main_v44 (F := Ideal) x0 x1 x2 x3 x4 x5 x6 = y
  pointwise! []

/-- The reference's gradient of the gain. -/
theorem v45_apply (z : Fin 1) (l : Fin 1024) : val_main_v45 (F := Ideal) x0 x2 x3 x4 x5 (ix2 z l) = dgain x0 (mm2 x4 x2 x5 x3) l := by
  have e : ∀ R : Fin 4096, mm2 x4 x2 x5 x3 R l * (x0 (ix2 R l) * rinv fun k => x0 (ix2 R k))
      = (x0 (ix2 R l) * val_main_v8 (F := Ideal) x0 (ix2 R 0)) * val_main_v23 (F := Ideal) x2 x3 x4 x5 (ix2 R l) := fun R => by
    rw [v8_apply, v23_apply, mul_comm]
  unfold dgain gainTerm
  simp only [e]
  unfold val_main_v45 val_main_v29 val_main_v26 val_main_v25 val_main_v24 val_main_v13 val_main_v12
  generalize val_main_v23 (F := Ideal) x2 x3 x4 x5 = y
  generalize val_main_v8 (F := Ideal) x0 = y8
  pointwise! [val_main_cst_4, val_main_cst_3]
  exact Fintype.sum_unique _

/-- The reference leaves its arguments and every counter at zero. -/
theorem frame : Cert.quiescent_DhRefIdeal := fun m ρ _ =>
  (θ_run Cert.DhRefIdeal.defs _ _).mono (fun r h => ⟨fun c => (h c).2.2.2, sem_eq_zero_of_no_sems (by decide) r.2⟩)
    (Cert.DhRefIdeal.Value.run (F := Ideal) m ρ)

/-- From the same arguments kernel and reference end with the same gradients. -/
theorem algebraic : Cert.algebraic_DhKernelIdeal_DhRefIdeal := fun m ρ m' ρ' _ h =>
  ⟨DhKernelIdeal.Value.resX m, DhKernelIdeal.Value.resX m, DhKernelIdeal.Value.resG m, DhKernelIdeal.Value.run m ρ,
    (θ_run Cert.DhRefIdeal.defs _ _).mono (fun r hr c => by
      obtain ⟨e0, e1, e2, e3, e4, e5, e6⟩ := h c
      obtain ⟨r44, r46, r45, hk⟩ := hr c
      refine ⟨r44.trans ?_, r46.trans ?_, r45.trans ?_, hk⟩
      · rw [val_main_v44_eq, e0, e1, e2, e3, e4, e5, e6]
        funext i
        idx_vars i
        exact v44_apply _ _ _ _ _ _ _ _ _
      · rw [val_main_v46_eq, e0, e1, e2, e3, e4, e5, e6]
        funext i
        idx_vars i
        exact v46_apply _ _ _ _ _ _ _ _ _
      · rw [val_main_v45_eq, e0, e2, e3, e4, e5]
        funext i
        idx_vars i
        exact v45_apply _ _ _ _ _ _ _) (Cert.DhRefIdeal.Value.run (F := Ideal) m' ρ')⟩

end Cert.DhRead
end
-- ==== Proof.MixValue.lean ====
/- What the mixer's fused product and norm gradient leaves: the product with the padded matrix, then the norm's gradient. -/
module

public import proofs.«01_k».proof.Proof.DhValue
public import proofs.«01_k».proof.Proof.Gen.MixKernelIdeal.Value
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.MixKernelIdeal.Value

open Cert.MixKernelIdeal Cert.MixKernelIdeal.Gen Cert.Rms

/-- The product tile. -/
theorem pay3_apply (v0 : Vec Ideal S512x3200 .bf16) (v2 : Vec Ideal S1x3200x1024 .bf16) (r : Fin 512) (l : Fin 1024) :
    k0_pay3 v0 v2 (ix2 r l) = (∑ k : Fin 3200, v0 (ix2 r k) * v2 (ix3 0 k l) : EReal) := by
  pointwise! [k0_pay3]

/-- The normalised tile is the other norm gradient's. -/
theorem pay5_eq (x : Vec Ideal S512x1024 .f32) : k0_pay5 x = DhKernelIdeal.Gen.k0_pay5 x := rfl

/-- The tile the kernel writes is the other norm gradient's, of this product. -/
theorem pay1_eq (v0 : Vec Ideal S512x3200 .bf16) (v2 : Vec Ideal S1x3200x1024 .bf16) (x : Vec Ideal S512x1024 .f32) (g : Vec Ideal S1x1024 .f32)
    (d : Vec Ideal S512x1024 .f32) : k0_pay1 (k0_pay4 x) (k0_pay5 x) (k0_pay8 v0 v2 g) (k0_pay9 v0 v2 x g) d
      = DhKernelIdeal.Gen.k0_pay1 (k0_pay3 v0 v2) (DhKernelIdeal.Gen.k0_pay4 x) (DhKernelIdeal.Gen.k0_pay5 x) g d := rfl

/-- The rounded copy is half of it. -/
theorem pay2_apply (y4 : FVec Ideal S512x1 .f32) (y5 y8 y9 : FVec Ideal S512x1024 .f32) (d : Vec Ideal S512x1024 .f32) (r : Fin 512) (l : Fin 1024) :
    k0_pay2 y4 y5 y8 y9 d (ix2 r l) = Ideal.ofBits .f32 0x3F000000#32 * k0_pay1 y4 y5 y8 y9 d (ix2 r l) := by
  unfold k0_pay2
  generalize k0_pay1 y4 y5 y8 y9 d = y
  pointwise! []

/-- The running column sums a point leaves. -/
theorem pay7_apply (v0 : Vec Ideal S512x3200 .bf16) (v2 : Vec Ideal S1x3200x1024 .bf16) (x : Vec Ideal S512x1024 .f32)
    (a : Vec Ideal S1x1024 .f32) (z : Fin 1) (l : Fin 1024) :
    k0_pay7 v0 v2 x a (ix2 z l) = a (ix2 z l) + ∑ r : Fin 512, k0_pay3 v0 v2 (ix2 r l) * k0_pay5 x (ix2 r l) := by
  unfold k0_pay7
  generalize k0_pay5 x = y5
  generalize k0_pay3 v0 v2 = y3
  pointwise! []

section Blocks
variable {F : FTy → Type} [FloatOps F]
variable (m : (ℓ : Loc nD τ sig) → Buf (Elt F) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- What grid point `t` leaves in the first result's staging buffer. -/
theorem outs_6 (c : Dev nD) (t : Fin cfg0.N) : (outsAt0 m c t.val t.isLt).1
    = k0_pay1 (k0_pay4 (iblk m c 2 t)) (k0_pay5 (iblk m c 2 t)) (k0_pay8 (iblk m c 0 t) (iblk m c 1 t) (iblk m c 3 t))
      (k0_pay9 (iblk m c 0 t) (iblk m c 1 t) (iblk m c 2 t) (iblk m c 3 t)) (iblk m c 4 t) := by
  by_cases h0 : t.val % 8 = 0
  · rw [outsAt0_A m c t h0]
    dsimp only
    unfold out0_A_6
    rw [View.read_writes_eq_canon _ _ _ (cover0_A_6 c _ _ _ _ _ _ _ _ _ _ _ _ _ _ _ _ _ _ _ _ _ _ _ _ _ _)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_8 t).read_unread,
      View.ld_unit_zero (S := S512x3200) hz, View.ld_unit_zero (S := S1x3200x1024) hz3, View.ld_unit_zero (S := S512x1024) hz, View.ld_unit_zero (S := S1x1024) hz, shapeCast_self]
  · rw [outsAt0_B m c t h0]
    dsimp only
    unfold out0_B_6
    rw [View.read_writes_eq_canon _ _ _ (cover0_B_6 c _ _ _ _ _ _ _ _ _ _ _ _ _ _ _ _ _ _ _ _ _ _ _ _ _ _ _)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_8 t).read_unread,
      View.ld_unit_zero (S := S512x3200) hz, View.ld_unit_zero (S := S1x3200x1024) hz3, View.ld_unit_zero (S := S512x1024) hz, View.ld_unit_zero (S := S1x1024) hz, shapeCast_self]

/-- What it leaves in the second's, the rounded copy. -/
theorem outs_7 (c : Dev nD) (t : Fin cfg0.N) : (outsAt0 m c t.val t.isLt).2.1
    = k0_pay2 (k0_pay4 (iblk m c 2 t)) (k0_pay5 (iblk m c 2 t)) (k0_pay8 (iblk m c 0 t) (iblk m c 1 t) (iblk m c 3 t))
      (k0_pay9 (iblk m c 0 t) (iblk m c 1 t) (iblk m c 2 t) (iblk m c 3 t)) (iblk m c 4 t) := by
  by_cases h0 : t.val % 8 = 0
  · rw [outsAt0_A m c t h0]
    dsimp only
    unfold out0_A_7
    rw [View.read_writes_eq_canon _ _ _ (cover0_A_7 c _ _ _ _ _ _ _ _ _ _ _ _ _ _ _ _ _ _ _ _ _ _ _ _ _ _)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_8 t).read_unread,
      View.ld_unit_zero (S := S512x3200) hz, View.ld_unit_zero (S := S1x3200x1024) hz3, View.ld_unit_zero (S := S512x1024) hz, View.ld_unit_zero (S := S1x1024) hz, shapeCast_self]
  · rw [outsAt0_B m c t h0]
    dsimp only
    unfold out0_B_7
    rw [View.read_writes_eq_canon _ _ _ (cover0_B_7 c _ _ _ _ _ _ _ _ _ _ _ _ _ _ _ _ _ _ _ _ _ _ _ _ _ _ _)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_8 t).read_unread,
      View.ld_unit_zero (S := S512x3200) hz, View.ld_unit_zero (S := S1x3200x1024) hz3, View.ld_unit_zero (S := S512x1024) hz, View.ld_unit_zero (S := S1x1024) hz, shapeCast_self]

/-- The first point starts the column sums from the zero block. -/
theorem outs_8_A (c : Dev nD) (t : Fin cfg0.N) (h0 : t.val % 8 = 0) :
    (outsAt0 m c t.val t.isLt).2.2 = k0_pay7 (iblk m c 0 t) (iblk m c 1 t) (iblk m c 2 t) k0_pay6 := by
  rw [outsAt0_A m c t h0]
  dsimp only
  unfold out0_A_8
  rw [View.read_writes_eq_canon _ _ _ (cover0_A_8 c _ _ _ _ _ _ _ _ _ _ _ _ _ _ _ _ _ _ _ _ _ _ _ _ _ _)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread, (hs0_4 t).read_unread, (hs0_8 t).read_unread,
    View.ld_unit_zero (S := S512x3200) hz, View.ld_unit_zero (S := S1x3200x1024) hz3, View.ld_unit_zero (S := S512x1024) hz, View.ld_unit_zero (S := S1x1024) hz, shapeCast_self]

/-- Every later point adds to what the point before left. -/
theorem outs_8_B (c : Dev nD) (t : Fin cfg0.N) (h0 : ¬t.val % 8 = 0) : (outsAt0 m c t.val t.isLt).2.2
    = k0_pay7 (iblk m c 0 t) (iblk m c 1 t) (iblk m c 2 t) (outsAt0 m c (t.val - 1) (Nat.lt_of_le_of_lt (Nat.sub_le _ _) t.isLt)).2.2 := by
  rw [outsAt0_B m c t h0]
  dsimp only
  unfold out0_B_8
  rw [View.read_writes_eq_canon _ _ _ (cover0_B_8 c _ _ _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_8 t).read_unread,
    View.ld_unit_zero (S := S512x3200) hz, View.ld_unit_zero (S := S1x3200x1024) hz3, View.ld_unit_zero (S := S512x1024) hz, View.ld_unit_zero (S := S1x1024) hz, shapeCast_self]

/-- Row `r` of the tile of grid point `t` is row `512 t + r` of the array. -/
abbrev row (t : Fin cfg0.N) (r : Fin 512) : Fin 4096 :=
  ⟨t.val * 512 + r.val, by have ht : t.val < 8 := N_0 ▸ t.isLt; have := r.isLt; omega⟩

theorem rows_index0 : ∀ t : Fin cfg0.N, win0_0.index t 0 = t.val ∧ win0_0.index t 1 = 0 :=
  (by decide +kernel : ∀ t : Fin grid0.N, win0_0.index t 0 = t.val ∧ win0_0.index t 1 = 0)
theorem rows_index2 : ∀ t : Fin cfg0.N, win0_2.index t 0 = t.val ∧ win0_2.index t 1 = 0 :=
  (by decide +kernel : ∀ t : Fin grid0.N, win0_2.index t 0 = t.val ∧ win0_2.index t 1 = 0)
theorem rows_index4 : ∀ t : Fin cfg0.N, win0_4.index t 0 = t.val ∧ win0_4.index t 1 = 0 :=
  (by decide +kernel : ∀ t : Fin grid0.N, win0_4.index t 0 = t.val ∧ win0_4.index t 1 = 0)
theorem rows_index6 : ∀ t : Fin cfg0.N, win0_6.index t 0 = t.val ∧ win0_6.index t 1 = 0 :=
  (by decide +kernel : ∀ t : Fin grid0.N, win0_6.index t 0 = t.val ∧ win0_6.index t 1 = 0)
theorem rows_index7 : ∀ t : Fin cfg0.N, win0_7.index t 0 = t.val ∧ win0_7.index t 1 = 0 :=
  (by decide +kernel : ∀ t : Fin grid0.N, win0_7.index t 0 = t.val ∧ win0_7.index t 1 = 0)
theorem whole_index1 : ∀ t : Fin cfg0.N, ∀ a, win0_1.index t a = 0 :=
  (by decide +kernel : ∀ t : Fin grid0.N, ∀ a : Fin 3, win0_1.index t a = 0)
theorem whole_index3 : ∀ t : Fin cfg0.N, ∀ a, win0_3.index t a = 0 :=
  (by decide +kernel : ∀ t : Fin grid0.N, ∀ a : Fin 2, win0_3.index t a = 0)
theorem whole_index8 : ∀ t : Fin cfg0.N, ∀ a, win0_8.index t a = 0 :=
  (by decide +kernel : ∀ t : Fin grid0.N, ∀ a : Fin 2, win0_8.index t a = 0)

theorem iblk0_apply (c : Dev nD) (t : Fin cfg0.N) (r : Fin 512) (k : Fin 3200) :
    (iblk m c 0 t : Vec F S512x3200 .bf16) (ix2 r k) = V m c main_v1 (ix2 (row t r) k) := by
  have hi := rows_index0 t
  unfold iblk
  rw [View.read_apply]
  refine congrArg (V m c main_v1) (funext fun a => Fin.ext ?_)
  match a with
  | ⟨0, _⟩ => show win0_0.index t 0 * 512 + 1 * r.val = t.val * 512 + r.val; rw [hi.1]; omega
  | ⟨1, _⟩ => show win0_0.index t 1 * 3200 + 1 * k.val = k.val; rw [hi.2]; omega

theorem iblk2_apply (c : Dev nD) (t : Fin cfg0.N) (r : Fin 512) (k : Fin 1024) :
    (iblk m c 2 t : Vec F S512x1024 .f32) (ix2 r k) = V m c main_arg0 (ix2 (row t r) k) := by
  have hi := rows_index2 t
  unfold iblk
  rw [View.read_apply]
  refine congrArg (V m c main_arg0) (funext fun a => Fin.ext ?_)
  match a with
  | ⟨0, _⟩ => show win0_2.index t 0 * 512 + 1 * r.val = t.val * 512 + r.val; rw [hi.1]; omega
  | ⟨1, _⟩ => show win0_2.index t 1 * 1024 + 1 * k.val = k.val; rw [hi.2]; omega

theorem iblk4_apply (c : Dev nD) (t : Fin cfg0.N) (r : Fin 512) (k : Fin 1024) :
    (iblk m c 4 t : Vec F S512x1024 .f32) (ix2 r k) = V m c main_arg4 (ix2 (row t r) k) := by
  have hi := rows_index4 t
  unfold iblk
  rw [View.read_apply]
  refine congrArg (V m c main_arg4) (funext fun a => Fin.ext ?_)
  match a with
  | ⟨0, _⟩ => show win0_4.index t 0 * 512 + 1 * r.val = t.val * 512 + r.val; rw [hi.1]; omega
  | ⟨1, _⟩ => show win0_4.index t 1 * 1024 + 1 * k.val = k.val; rw [hi.2]; omega

theorem iblk1_eq (c : Dev nD) (t : Fin cfg0.N) : (iblk m c 1 t : Vec F S1x3200x1024 .bf16) = V m c main_v6 := by
  have hi := whole_index1 t
  funext j
  unfold iblk
  rw [View.read_apply]
  refine congrArg (V m c main_v6) (funext fun a => Fin.ext ?_)
  match a with
  | ⟨0, _⟩ => show win0_1.index t 0 * 1 + 1 * (j 0).val = (j 0).val; rw [hi 0]; omega
  | ⟨1, _⟩ => show win0_1.index t 1 * 3200 + 1 * (j 1).val = (j 1).val; rw [hi 1]; omega
  | ⟨2, _⟩ => show win0_1.index t 2 * 1024 + 1 * (j 2).val = (j 2).val; rw [hi 2]; omega

theorem iblk3_eq (c : Dev nD) (t : Fin cfg0.N) : (iblk m c 3 t : Vec F S1x1024 .f32) = V m c main_arg1 := by
  have hi := whole_index3 t
  funext j
  unfold iblk
  rw [View.read_apply]
  refine congrArg (V m c main_arg1) (funext fun a => Fin.ext ?_)
  match a with
  | ⟨0, _⟩ => show win0_3.index t 0 * 1 + 1 * (j 0).val = (j 0).val; rw [hi 0]; omega
  | ⟨1, _⟩ => show win0_3.index t 1 * 1024 + 1 * (j 1).val = (j 1).val; rw [hi 1]; omega

/-- Which rows grid point `t` writes. -/
theorem mem_blk6 (t : Fin cfg0.N) (i : S4096x1024.Idx) :
    i ∈ ((cfg0.win 6).blk t).view.set ↔ t.val * 512 ≤ (i 0 : Nat) ∧ (i 0 : Nat) < t.val * 512 + 512 := by
  show i ∈ ((View.whole main_v8_0).slice (win0_6.rect t)).set ↔ _
  rw [View.set_slice_whole, Rect.mem_set_unit]
  have h1 : (i 1 : Nat) < 1024 := (i 1).isLt
  have hi := rows_index6 t
  have e0 : win0_6.index t 0 * win0_6.size 0 = t.val * 512 := by rw [hi.1]; rfl
  have e1 : win0_6.index t 1 * win0_6.size 1 = 0 := by rw [hi.2]; rfl
  refine ⟨fun h => ?_, fun h a => ?_⟩
  · have : win0_6.index t 0 * win0_6.size 0 ≤ (i 0 : Nat) ∧ (i 0 : Nat) < win0_6.index t 0 * win0_6.size 0 + 512 := h 0
    rw [e0] at this; exact this
  · match a with
    | ⟨0, _⟩ => show win0_6.index t 0 * win0_6.size 0 ≤ (i 0 : Nat) ∧ (i 0 : Nat) < win0_6.index t 0 * win0_6.size 0 + 512
                rw [e0]; exact h
    | ⟨1, _⟩ => show win0_6.index t 1 * win0_6.size 1 ≤ (i 1 : Nat) ∧ (i 1 : Nat) < win0_6.index t 1 * win0_6.size 1 + 1024
                rw [e1]; omega

theorem cover6 (i : S4096x1024.Idx) : ∃ t : Fin cfg0.N, (cfg0.win 6).flush t = true ∧ i ∈ ((cfg0.win 6).blk t).view.set := by
  have h0 : (i 0 : Nat) < 4096 := (i 0).isLt
  refine ⟨⟨(i 0 : Nat) / 512, by rw [show cfg0.N = 8 from N_0]; omega⟩, flush0_6 _, (mem_blk6 _ i).mpr ?_⟩
  dsimp only; omega

/-- An array whose tiles are what the points leave is the result. -/
theorem final6 (c : Dev nD) (G : S4096x1024.Idx → Elt F .f32)
    (h : ∀ (t : Fin cfg0.N) (r : Fin 512) (l : Fin 1024), (outsAt0 m c t.val t.isLt).1 (ix2 r l) = G (ix2 (row t r) l)) :
    (dats m 0 c).arrAt 6 cfg0.N = G :=
  (dats m 0 c).arrAt_eq_of_cover 6 G (fun t _ => by
    rw [flushed6]
    funext j
    idx_vars j
    rw [View.read_apply]
    refine (h t _ _).trans (congrArg G (funext fun a => Fin.ext ?_))
    have hi := rows_index6 t
    match a with
    | ⟨0, _⟩ => show t.val * 512 + j0.val = win0_6.index t 0 * 512 + 1 * j0.val; rw [hi.1]; omega
    | ⟨1, _⟩ => show j1.val = win0_6.index t 1 * 1024 + 1 * j1.val; rw [hi.2]; omega) cover6

/-- Which rows grid point `t` writes. -/
theorem mem_blk7 (t : Fin cfg0.N) (i : S4096x1024.Idx) :
    i ∈ ((cfg0.win 7).blk t).view.set ↔ t.val * 512 ≤ (i 0 : Nat) ∧ (i 0 : Nat) < t.val * 512 + 512 := by
  show i ∈ ((View.whole main_v8_1).slice (win0_7.rect t)).set ↔ _
  rw [View.set_slice_whole, Rect.mem_set_unit]
  have h1 : (i 1 : Nat) < 1024 := (i 1).isLt
  have hi := rows_index7 t
  have e0 : win0_7.index t 0 * win0_7.size 0 = t.val * 512 := by rw [hi.1]; rfl
  have e1 : win0_7.index t 1 * win0_7.size 1 = 0 := by rw [hi.2]; rfl
  refine ⟨fun h => ?_, fun h a => ?_⟩
  · have : win0_7.index t 0 * win0_7.size 0 ≤ (i 0 : Nat) ∧ (i 0 : Nat) < win0_7.index t 0 * win0_7.size 0 + 512 := h 0
    rw [e0] at this; exact this
  · match a with
    | ⟨0, _⟩ => show win0_7.index t 0 * win0_7.size 0 ≤ (i 0 : Nat) ∧ (i 0 : Nat) < win0_7.index t 0 * win0_7.size 0 + 512
                rw [e0]; exact h
    | ⟨1, _⟩ => show win0_7.index t 1 * win0_7.size 1 ≤ (i 1 : Nat) ∧ (i 1 : Nat) < win0_7.index t 1 * win0_7.size 1 + 1024
                rw [e1]; omega

theorem cover7 (i : S4096x1024.Idx) : ∃ t : Fin cfg0.N, (cfg0.win 7).flush t = true ∧ i ∈ ((cfg0.win 7).blk t).view.set := by
  have h0 : (i 0 : Nat) < 4096 := (i 0).isLt
  refine ⟨⟨(i 0 : Nat) / 512, by rw [show cfg0.N = 8 from N_0]; omega⟩, flush0_7 _, (mem_blk7 _ i).mpr ?_⟩
  dsimp only; omega

/-- An array whose tiles are what the points leave is the result. -/
theorem final7 (c : Dev nD) (G : S4096x1024.Idx → Elt F .bf16)
    (h : ∀ (t : Fin cfg0.N) (r : Fin 512) (l : Fin 1024), (outsAt0 m c t.val t.isLt).2.1 (ix2 r l) = G (ix2 (row t r) l)) :
    (dats m 0 c).arrAt 7 cfg0.N = G :=
  (dats m 0 c).arrAt_eq_of_cover 7 G (fun t _ => by
    rw [flushed7]
    funext j
    idx_vars j
    rw [View.read_apply]
    refine (h t _ _).trans (congrArg G (funext fun a => Fin.ext ?_))
    have hi := rows_index7 t
    match a with
    | ⟨0, _⟩ => show t.val * 512 + j0.val = win0_7.index t 0 * 512 + 1 * j0.val; rw [hi.1]; omega
    | ⟨1, _⟩ => show j1.val = win0_7.index t 1 * 1024 + 1 * j1.val; rw [hi.2]; omega) cover7

/-- The column sums' array is its one block, written back after the last point. -/
theorem final8 (c : Dev nD) : (dats m 0 c).arrAt 8 cfg0.N = (outsAt0 m c 7 (by rw [show cfg0.N = 8 from N_0]; decide)).2.2 := by
  have hz' : (fun a => win0_8.index t0_7 a * win0_8.size a) = fun _ => 0 :=
    funext fun a => by rw [whole_index8 t0_7 a]; exact Nat.zero_mul _
  refine (dats m 0 c).arrAt_eq_of_cover 8 _ (fun t hf => ?_) fun i => ⟨t0_7, (flush0_8 t0_7).mpr rfl, ?_⟩
  · have hlt : t.val < 8 := lt_of_lt_of_eq t.isLt N_0
    have h7 : t = t0_7 := Fin.ext (by have := (flush0_8 t).mp hf; show t.val = 7; omega)
    subst h7
    rw [flushed8]
    exact (Memref.read_access_unit_zero (Elt F) main_v8_2 hz' (fun a => by rw [congrFun hz' a]; simp) _).symm
  · show i ∈ ((View.whole main_v8_2).slice (win0_8.rect t0_7)).set
    rw [View.set_slice_whole, Rect.mem_set_unit]
    intro a
    have ha : win0_8.index t0_7 a * win0_8.size a = 0 := congrFun hz' a
    have hs : (i a : Nat) < win0_8.size a := (i a).isLt
    show win0_8.index t0_7 a * win0_8.size a ≤ (i a : Nat) ∧ (i a : Nat) < win0_8.index t0_7 a * win0_8.size a + win0_8.size a
    rw [ha]; omega

end Blocks

section Results
variable (m : (ℓ : Loc nD τ sig) → Buf (Elt Ideal) ℓ)

/-- The padding value. -/
theorem padding : (sitofp (F := Ideal) .f32 (constantI S_ 32 0#32)) (Shape.Idx.first h_S_) = (0 : EReal) := by
  show ((((0#32 : BitVec 32).toInt : ℝ)) : EReal) = 0
  simp

/-- The columns padded with zeros. -/
theorem pad_cols (x : FVec Ideal S4096x3088 .f32) (R : Fin 4096) (k : Fin 3200) :
    pad S4096x3200 ![0, 0] ![0, 112] ![0, 0] x (sitofp (F := Ideal) .f32 (constantI S_ 32 0#32)) pads_S4096x3088_S4096x3200_000_01120 h_S_ (ix2 R k)
      = (if h : k.val < 3088 then x (ix2 R ⟨k.val, h⟩) else (0 : EReal) : EReal) := by
  by_cases h : k.val < 3088
  · rw [dif_pos h]
    exact pad_apply_of_inside _ _ _ _ _ _ _ _ (ix2 R ⟨k.val, h⟩) fun a => by
      match a with
      | ⟨0, _⟩ => show R.val = 0 + R.val * (0 + 1); omega
      | ⟨1, _⟩ => show k.val = 0 + k.val * (0 + 1); omega
  · rw [dif_neg h]
    exact (pad_apply_of_not_inside _ _ _ _ _ _ _ _ 1 fun ⟨_, _, hlt⟩ => h (by
      have : (k.val - 0) / (0 + 1) < 3088 := hlt
      omega)).trans padding

/-- The rows padded with zeros. -/
theorem pad_rows (x : FVec Ideal S3088x1024 .f32) (k : Fin 3200) (l : Fin 1024) :
    pad S3200x1024 ![0, 0] ![112, 0] ![0, 0] x (sitofp (F := Ideal) .f32 (constantI S_ 32 0#32)) pads_S3088x1024_S3200x1024_01120_000 h_S_ (ix2 k l)
      = (if h : k.val < 3088 then x (ix2 ⟨k.val, h⟩ l) else (0 : EReal) : EReal) := by
  by_cases h : k.val < 3088
  · rw [dif_pos h]
    exact pad_apply_of_inside _ _ _ _ _ _ _ _ (ix2 ⟨k.val, h⟩ l) fun a => by
      match a with
      | ⟨0, _⟩ => show k.val = 0 + k.val * (0 + 1); omega
      | ⟨1, _⟩ => show l.val = 0 + l.val * (0 + 1); omega
  · rw [dif_neg h]
    exact (pad_apply_of_not_inside _ _ _ _ _ _ _ _ 0 fun ⟨_, _, hlt⟩ => h (by
      have : (k.val - 0) / (0 + 1) < 3088 := hlt
      omega)).trans padding

theorem V_v1 (c : Dev nD) (R : Fin 4096) (k : Fin 3200) : (V m c main_v1 : FVec Ideal S4096x3200 .bf16) (ix2 R k)
    = (if h : k.val < 3088 then m ((c : Thread nD τ).loc main_arg3) (ix2 R ⟨k.val, h⟩) else (0 : EReal) : EReal) := by
  refine Eq.trans ?_ (pad_cols (m ((c : Thread nD τ).loc main_arg3)) R k)
  show StableHlo.after (List.flatten [hostOps0, hostOps0_1, hostOps0_2, hostOps0_3, hostOps0_4]) _ (Proc.devRef .tc main_v1) _ = _
  simp only [hostOps0, hostOps0_1, hostOps0_2, hostOps0_3, hostOps0_4, List.flatten_cons, List.flatten_nil, List.append_nil, List.cons_append, List.nil_append]
  after_results
  rfl

/-- The matrix with its axes exchanged. -/
abbrev turned (x : FVec Ideal S1x1024x3088 .f32) : FVec Ideal S3088x1024 .f32 :=
  transpose S3088x1024 [1, 0] (shapeCast S1024x3088 x shapeCasts_S1x1024x3088_S1024x3088) transposes_S1024x3088_S3088x1024_1_0

theorem turned_apply (x : FVec Ideal S1x1024x3088 .f32) (k : Fin 3088) (l : Fin 1024) : turned x (ix2 k l) = x (ix3 0 l k) := by
  pointwise! [turned]

theorem V_v6 (c : Dev nD) (k : Fin 3200) (l : Fin 1024) : (V m c main_v6 : FVec Ideal S1x3200x1024 .bf16) (ix3 0 k l)
    = (if h : k.val < 3088 then m ((c : Thread nD τ).loc main_arg2) (ix3 0 l ⟨k.val, h⟩) else (0 : EReal) : EReal) := by
  simp only [← turned_apply]
  refine Eq.trans ?_ (pad_rows _ k l)
  show StableHlo.after (List.flatten [hostOps0, hostOps0_1, hostOps0_2, hostOps0_3, hostOps0_4]) _ (Proc.devRef .tc main_v6) _ = _
  simp only [hostOps0, hostOps0_1, hostOps0_2, hostOps0_3, hostOps0_4, List.flatten_cons, List.flatten_nil, List.append_nil, List.cons_append, List.nil_append]
  after_results
  generalize hy : pad S3200x1024 ![0, 0] ![112, 0] ![0, 0] (turned (m ((c : Thread nD τ).loc main_arg2)))
    (sitofp (F := Ideal) .f32 (constantI S_ 32 0#32)) pads_S3088x1024_S3200x1024_01120_000 h_S_ = y
  have ey : y (ix2 k l) = broadcastInDim S1x3200x1024 ![1, 2] bcast_S3200x1024_S1x3200x1024_1_2 (truncf (F := Ideal) .bf16 y bitsLt_bf16_f32) (ix3 0 k l) := by
    pointwise! []
  rw [ey, ← hy]
  rfl

/-- The cotangent of the normalised rows times the gain, read off the arguments. -/
def cot (c : Dev nD) : Fin 4096 → Fin 1024 → EReal := mm1 (m ((c : Thread nD τ).loc main_arg3)) (m ((c : Thread nD τ).loc main_arg2))

/-- The gradient of the sum the norm reads, read off the arguments. -/
def resX (c : Dev nD) : Rows :=
  ofRows (dx (m ((c : Thread nD τ).loc main_arg0)) (m ((c : Thread nD τ).loc main_arg1)) (m ((c : Thread nD τ).loc main_arg4)) (cot m c))

/-- The gradient of the branch scaled by one half, read off the arguments. -/
def resY (c : Dev nD) : Rows := fun i => Ideal.ofBits .f32 0x3F000000#32 * resX m c i

/-- The gain's gradient, read off the arguments. -/
def resG (c : Dev nD) : S1x1024.Idx → EReal := ofRow (dgain (m ((c : Thread nD τ).loc main_arg0)) (cot m c))

/-- The product tile at a grid point: the padded columns add zero. -/
theorem prod_apply (c : Dev nD) (t : Fin cfg0.N) (r : Fin 512) (l : Fin 1024) :
    k0_pay3 (iblk m c 0 t) (iblk m c 1 t) (ix2 r l) = cot m c (row t r) l := by
  unfold cot mm1
  rw [pay3_apply, iblk1_eq]
  refine sum_pad (by decide) _ _ (fun k => ?_) fun k hk => ?_
  · have hk : (Fin.castLE (show 3088 ≤ 3200 by decide) k).val < 3088 := k.isLt
    rw [iblk0_apply, V_v1, V_v6, dif_pos hk, dif_pos hk]
    rfl
  · rw [iblk0_apply, V_v1, dif_neg (by omega)]
    exact zero_mul (M₀ := EReal) _

theorem tile_x (c : Dev nD) (t : Fin cfg0.N) (r : Fin 512) (l : Fin 1024) :
    (iblk m c 2 t : Vec Ideal S512x1024 .f32) (ix2 r l) = m ((c : Thread nD τ).loc main_arg0) (ix2 (row t r) l) := by
  rw [iblk2_apply, V_main_arg0]

theorem outs_6_apply (c : Dev nD) (t : Fin cfg0.N) (r : Fin 512) (l : Fin 1024) : (outsAt0 m c t.val t.isLt).1 (ix2 r l) = resX m c (ix2 (row t r) l) := by
  rw [outs_6, pay1_eq, DhKernelIdeal.Value.pay1_apply, iblk4_apply, V_main_arg4, iblk3_eq, V_main_arg1]
  simp only [tile_x, prod_apply]
  rfl

theorem outs_7_apply (c : Dev nD) (t : Fin cfg0.N) (r : Fin 512) (l : Fin 1024) : (outsAt0 m c t.val t.isLt).2.1 (ix2 r l) = resY m c (ix2 (row t r) l) := by
  unfold resY
  rw [← outs_6_apply, outs_6, outs_7, pay2_apply]

/-- What a grid point adds to the column sums. -/
theorem point_sum (c : Dev nD) (t : Fin cfg0.N) (a : Vec Ideal S1x1024 .f32) (z : Fin 1) (l : Fin 1024) :
    k0_pay7 (iblk m c 0 t) (iblk m c 1 t) (iblk m c 2 t) a (ix2 z l)
      = a (ix2 z l) + ∑ r : Fin 512, gainTerm (m ((c : Thread nD τ).loc main_arg0)) (cot m c) l (row t r) := by
  refine (pay7_apply _ _ _ _ z l).trans (congrArg (HAdd.hAdd _) (Finset.sum_congr rfl fun r _ => ?_))
  unfold gainTerm
  rw [pay5_eq, DhKernelIdeal.Value.pay5_apply]
  simp only [tile_x]
  exact congrArg (· * _) (prod_apply m c t r l)

theorem sums_zero (c : Dev nD) (h : 0 < cfg0.N) (z : Fin 1) (l : Fin 1024) : (outsAt0 m c 0 h).2.2 (ix2 z l)
    = 0 + ∑ r : Fin 512, gainTerm (m ((c : Thread nD τ).loc main_arg0)) (cot m c) l (row ⟨0, h⟩ r) := by
  have e := congrFun (outs_8_A m c ⟨0, h⟩ rfl) (ix2 z l)
  rw [point_sum m c ⟨0, h⟩] at e
  refine e.trans (congrArg (· + _) ?_)
  pointwise! [k0_pay6]

theorem sums_succ (c : Dev nD) (n : Nat) (h : n + 1 < cfg0.N) (z : Fin 1) (l : Fin 1024) : (outsAt0 m c (n + 1) h).2.2 (ix2 z l)
    = (outsAt0 m c n (Nat.lt_of_succ_lt h)).2.2 (ix2 z l)
      + ∑ r : Fin 512, gainTerm (m ((c : Thread nD τ).loc main_arg0)) (cot m c) l (row ⟨n + 1, h⟩ r) := by
  have h8 : n + 1 < 8 := lt_of_lt_of_eq h N_0
  have e := congrFun (outs_8_B m c ⟨n + 1, h⟩ (by show ¬(n + 1) % 8 = 0; omega)) (ix2 z l)
  rw [point_sum m c ⟨n + 1, h⟩] at e
  exact e

/-- The column sums the kernel leaves after the last point. -/
theorem outs_8_apply (c : Dev nD) (h7 : 7 < cfg0.N) (z : Fin 1) (l : Fin 1024) : (outsAt0 m c 7 h7).2.2 (ix2 z l) = resG m c (ix2 z l) := by
  have hN : ∀ n, n < 8 → n < cfg0.N := fun n h => lt_of_lt_of_eq h N_0.symm
  obtain ⟨a, ha⟩ : ∃ a : ∀ n, n < 8 → EReal, ∀ n h, a n h = (outsAt0 m c n (hN n h)).2.2 (ix2 z l) := ⟨_, fun _ _ => rfl⟩
  have e := acc_rows (gainTerm (m ((c : Thread nD τ).loc main_arg0)) (cot m c) l) a ((ha 0 _).trans (sums_zero m c _ z l))
    (fun n h => by rw [ha, ha]; exact sums_succ m c n _ z l)
  rw [ha] at e
  exact e

/-- The kernel's run with every result read off the arguments. -/
theorem run (ρ : Dev nD → PrngReg) : θ_run defs (onTc (τ := τ) (main (F := Ideal))) ⟨m, fun _ => 0, ρ⟩ fun r => ∀ c : Dev nD,
      r.2.mem ((c : Thread nD τ).loc main_v8_0) = resX m c
      ∧ r.2.mem ((c : Thread nD τ).loc main_v8_1) = resY m c
      ∧ r.2.mem ((c : Thread nD τ).loc main_v8_2) = resG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h6, h7, h8, hk⟩ := h c
    refine ⟨h6.trans (final6 m c _ (outs_6_apply m c)), h7.trans (final7 m c _ (outs_7_apply m c)), h8.trans ?_, hk⟩
    rw [final8]
    funext i
    idx_vars i
    exact outs_8_apply m c _ _ _) (run_blocks m ρ)

end Results

end Cert.MixKernelIdeal.Value
end
-- ==== Proof.MixRead.lean ====
/- What the reference of the mixer's norm and product gradient leaves, and that it is what the kernel leaves. -/
module

public import proofs.«01_k».proof.Defs
public import proofs.«01_k».proof.Proof.MixValue
public import proofs.«01_k».proof.Proof.Gen.MixRefIdeal.Run
public import proofs.«01_k».proof.Proof.Gen.MixRefIdeal.Read
public import Idealize.ShloMosaic.Adequacy

@[expose] public section

set_option maxRecDepth 16384

noncomputable section

open Idealize.ShloMosaic Idealize.ShloMosaic.TcCoe Idealize.SL.Sem

namespace Cert.MixRead

open Cert.MixRefIdeal Cert.MixRefIdeal.Gen Cert.MixRefIdeal.Value Cert.MixRefIdeal.Read Cert.Rms

variable (x0 : (⟨S4096x1024, .f32⟩ : BufTy).Contents (Elt Ideal)) (x1 : (⟨S1x1024, .f32⟩ : BufTy).Contents (Elt Ideal))
variable (x2 : (⟨S1x1024x3088, .f32⟩ : BufTy).Contents (Elt Ideal)) (x3 : (⟨S4096x3088, .f32⟩ : BufTy).Contents (Elt Ideal))
variable (x4 : (⟨S4096x1024, .f32⟩ : BufTy).Contents (Elt Ideal))

/-- At a zero branch the sum the norm reads is the residual. -/
theorem v3_eq : val_main_v3 (F := Ideal) x0 = x0 := by
  funext i
  idx_vars i
  pointwise! [val_main_v3, val_main_v2, val_main_v1, val_main_v0, val_main_cst, val_main_cst_0]
  exact (congrArg (HAdd.hAdd (x0 (ix2 i0 i1) : EReal)) (mul_zero _)).trans (add_zero _)

theorem v11_apply (R : Fin 4096) (z : Fin 1) : val_main_v11 (F := Ideal) x0 (ix2 R z) = var fun k => x0 (ix2 R k) := by
  unfold var val_main_v11 val_main_v9 val_main_v7 val_main_v6 val_main_v5
  rw [v3_eq]
  pointwise! [val_main_v10, val_main_v8, val_main_cst_1, val_main_cst_2, val_main_cst_3]

theorem v12_apply (R : Fin 4096) (z : Fin 1) : val_main_v12 (F := Ideal) x0 (ix2 R z) = rinv fun k => x0 (ix2 R k) := by
  unfold rinv
  rw [← v11_apply x0 R z]
  rfl

theorem v23_apply (R : Fin 4096) (l : Fin 1024) : val_main_v23 (F := Ideal) x2 x3 (ix2 R l) = mm1 x3 x2 R l := by
  unfold mm1
  pointwise! [val_main_v23, val_main_v21]

theorem v28_apply (R : Fin 4096) (l : Fin 1024) : val_main_v28 (F := Ideal) x1 x2 x3 (ix2 R l) = mm1 x3 x2 R l * x1 (ix2 0 l) := by
  rw [← v23_apply]
  unfold val_main_v28
  generalize val_main_v23 (F := Ideal) x2 x3 = y
  pointwise! [val_main_v27, val_main_v18, val_main_v4]

theorem v40_apply (R : Fin 4096) (l : Fin 1024) : val_main_v40 (F := Ideal) x0 x1 x2 x3 (ix2 R l)
    = Rms.slope (fun k => x0 (ix2 R k)) fun k => mm1 x3 x2 R k * x1 (ix2 0 k) := by
  rw [show (fun k => mm1 x3 x2 R k * x1 (ix2 0 k)) = fun k => val_main_v28 (F := Ideal) x1 x2 x3 (ix2 R k)
    from funext fun k => (v28_apply x1 x2 x3 R k).symm]
  unfold Rms.slope
  rw [← v12_apply x0 R 0, ← v11_apply x0 R 0]
  unfold val_main_v40 val_main_v39 val_main_v38 val_main_v36 val_main_v32 val_main_v31 val_main_v30 val_main_v15 val_main_v13
  rw [v3_eq]
  generalize val_main_v28 (F := Ideal) x1 x2 x3 = y
  generalize val_main_v12 (F := Ideal) x0 = y12
  generalize val_main_v11 (F := Ideal) x0 = y11
  pointwise! [val_main_v37, val_main_cst_8, val_main_cst_9, val_main_cst_7, val_main_v14, val_main_cst_4]
  exact Fintype.sum_unique _

/-- The reference's gradient of the sum the norm reads. -/
theorem v44_apply (R : Fin 4096) (l : Fin 1024) : val_main_v44 (F := Ideal) x0 x1 x2 x3 x4 (ix2 R l) = dx x0 x1 x4 (mm1 x3 x2) R l := by
  unfold dx
  rw [grad_eq, ← v40_apply x0 x1 x2 x3 R l, ← v12_apply x0 R 0, ← v28_apply]
  unfold val_main_v44 val_main_v43 val_main_v42 val_main_v41 val_main_v35 val_main_v34 val_main_v33
  rw [v3_eq]
  generalize val_main_v28 (F := Ideal) x1 x2 x3 = y
  generalize val_main_v12 (F := Ideal) x0 = y12
  generalize val_main_v40 (F := Ideal) x0 x1 x2 x3 = q
  pointwise! []

/-- The reference's gradient of the branch scaled by one half. -/
theorem v49_apply (R : Fin 4096) (l : Fin 1024) : val_main_v49 (F := Ideal) x0 x1 x2 x3 x4 (ix2 R l)
    = Ideal.ofBits .f32 0x3F000000#32 * dx x0 x1 x4 (mm1 x3 x2) R l := by
  rw [← v44_apply]
  unfold val_main_v49 val_main_v48 val_main_v46
  generalize val_main_v44 (F := Ideal) x0 x1 x2 x3 x4 = y
  pointwise! [val_main_v47, val_main_cst_10]

/-- The reference's gradient of the gain. -/
theorem v45_apply (z : Fin 1) (l : Fin 1024) : val_main_v45 (F := Ideal) x0 x2 x3 (ix2 z l) = dgain x0 (mm1 x3 x2) l := by
  have e : ∀ R : Fin 4096, mm1 x3 x2 R l * (x0 (ix2 R l) * rinv fun k => x0 (ix2 R k))
      = (x0 (ix2 R l) * val_main_v12 (F := Ideal) x0 (ix2 R 0)) * val_main_v23 (F := Ideal) x2 x3 (ix2 R l) := fun R => by
    rw [v12_apply, v23_apply, mul_comm]
  unfold dgain gainTerm
  simp only [e]
  unfold val_main_v45 val_main_v29 val_main_v26 val_main_v25 val_main_v24 val_main_v17 val_main_v16
  rw [v3_eq]
  generalize val_main_v23 (F := Ideal) x2 x3 = y
  generalize val_main_v12 (F := Ideal) x0 = y12
  pointwise! [val_main_cst_5, val_main_cst_6]
  exact Fintype.sum_unique _

/-- The reference leaves its arguments and every counter at zero. -/
theorem frame : Cert.quiescent_MixRefIdeal := fun m ρ _ =>
  (θ_run Cert.MixRefIdeal.defs _ _).mono (fun r h => ⟨fun c => (h c).2.2.2, sem_eq_zero_of_no_sems (by decide) r.2⟩)
    (Cert.MixRefIdeal.Value.run (F := Ideal) m ρ)

/-- From the same arguments kernel and reference end with the same gradients. -/
theorem algebraic : Cert.algebraic_MixKernelIdeal_MixRefIdeal := fun m ρ m' ρ' _ h =>
  ⟨MixKernelIdeal.Value.resX m, MixKernelIdeal.Value.resY m, MixKernelIdeal.Value.resG m, MixKernelIdeal.Value.run m ρ,
    (θ_run Cert.MixRefIdeal.defs _ _).mono (fun r hr c => by
      obtain ⟨e0, e1, e2, e3, e4⟩ := h c
      obtain ⟨r44, r49, r45, hk⟩ := hr c
      refine ⟨r44.trans ?_, r49.trans ?_, r45.trans ?_, hk⟩
      · rw [val_main_v44_eq, e0, e1, e2, e3, e4]
        funext i
        idx_vars i
        exact v44_apply _ _ _ _ _ _ _
      · rw [val_main_v49_eq, e0, e1, e2, e3, e4]
        funext i
        idx_vars i
        exact v49_apply _ _ _ _ _ _ _
      · rw [val_main_v45_eq, e0, e2, e3]
        funext i
        idx_vars i
        exact v45_apply _ _ _ _ _) (Cert.MixRefIdeal.Value.run (F := Ideal) m' ρ')⟩

end Cert.MixRead
end
-- ==== Proof.LossValue.lean ====
/- What the fused loss, its gradient and the final norm's gradient leave. -/
module

public import proofs.«01_k».proof.Proof.DhValue
public import proofs.«01_k».proof.Proof.Gen.LossKernelIdeal.Value

@[expose] public section

set_option maxRecDepth 16384

noncomputable section

open Idealize.ShloMosaic Idealize.ShloMosaic.TcCoe Idealize.SL.Sem
open Idealize.ShloMosaic.Pipeline (Dat)

namespace Cert.LossKernelIdeal.Value

open Cert.LossKernelIdeal Cert.LossKernelIdeal.Gen Cert.Rms

/-- The sum the norm reads. -/
theorem pay6_apply (v0 : Vec Ideal S512x2816 .bf16) (v2 : Vec Ideal S1x2816x1024 .bf16) (x : Vec Ideal S512x1024 .f32) (r : Fin 512) (l : Fin 1024) :
    k0_pay6 v0 v2 x (ix2 r l) = (x (ix2 r l) + Ideal.ofBits .f32 0x3F000000#32 * ∑ k : Fin 2816, v0 (ix2 r k) * v2 (ix3 0 k l) : EReal) := by
  pointwise! [k0_pay6]

/-- The norm's factor and the normalised tile are the other norm gradient's. -/
theorem pay7_eq (v0 : Vec Ideal S512x2816 .bf16) (v2 : Vec Ideal S1x2816x1024 .bf16) (x : Vec Ideal S512x1024 .f32) :
    k0_pay7 v0 v2 x = DhKernelIdeal.Gen.k0_pay4 (k0_pay6 v0 v2 x) := rfl

theorem pay8_eq (v0 : Vec Ideal S512x2816 .bf16) (v2 : Vec Ideal S1x2816x1024 .bf16) (x : Vec Ideal S512x1024 .f32) :
    k0_pay8 v0 v2 x = DhKernelIdeal.Gen.k0_pay5 (k0_pay6 v0 v2 x) := rfl

/-- The error tile. -/
theorem pay9_apply (v0 : Vec Ideal S512x2816 .bf16) (v2 : Vec Ideal S1x2816x1024 .bf16) (x : Vec Ideal S512x1024 .f32) (g : Vec Ideal S1x1024 .f32)
    (y : Vec Ideal S512x1024 .f32) (r : Fin 512) (l : Fin 1024) :
    k0_pay9 v0 v2 x g y (ix2 r l) = k0_pay8 v0 v2 x (ix2 r l) * g (ix2 0 l) - y (ix2 r l) := by
  unfold k0_pay9
  generalize k0_pay8 v0 v2 x = y8
  pointwise! []

/-- The loss's cotangent of the normalised rows times the gain. -/
theorem pay2_apply (e : FVec Ideal S512x1024 .f32) (r : Fin 512) (l : Fin 1024) :
    k0_pay2 e (ix2 r l) = (e (ix2 r l) * Ideal.ofBits .f32 0x3A800000#32 : EReal) := by
  pointwise! [k0_pay2]

/-- The tile of the gradient. -/
theorem pay4_apply (x : Vec Ideal S512x1024 .f32) (e : FVec Ideal S512x1024 .f32) (g : Vec Ideal S1x1024 .f32) (r : Fin 512) (l : Fin 1024) :
    k0_pay4 (DhKernelIdeal.Gen.k0_pay4 x) (DhKernelIdeal.Gen.k0_pay5 x) e g (ix2 r l)
      = grad (fun k => x (ix2 r k)) (fun k => k0_pay2 e (ix2 r k) * g (ix2 0 k)) l := by
  unfold grad
  rw [← DhKernelIdeal.Value.pay4_apply x r 0]
  have e5 : ∀ l, DhKernelIdeal.Gen.k0_pay5 x (ix2 r l) = x (ix2 r l) * DhKernelIdeal.Gen.k0_pay4 x (ix2 r 0) := fun l => by
    rw [DhKernelIdeal.Value.pay5_apply, DhKernelIdeal.Value.pay4_apply]
  simp only [← e5]
  unfold k0_pay4
  generalize DhKernelIdeal.Gen.k0_pay4 x = y4
  generalize DhKernelIdeal.Gen.k0_pay5 x = y5
  generalize k0_pay2 e = y2
  pointwise! []

/-- The rounded copy is half of it. -/
theorem pay5_apply (y4 : FVec Ideal S512x1 .f32) (y5 e : FVec Ideal S512x1024 .f32) (g : Vec Ideal S1x1024 .f32) (r : Fin 512) (l : Fin 1024) :
    k0_pay5 y4 y5 e g (ix2 r l) = Ideal.ofBits .f32 0x3F000000#32 * k0_pay4 y4 y5 e g (ix2 r l) := by
  unfold k0_pay5
  generalize k0_pay4 y4 y5 e g = y
  pointwise! []

/-- The running column sums a point leaves. -/
theorem pay3_apply (y5 e : FVec Ideal S512x1024 .f32) (a : Vec Ideal S1x1024 .f32) (z : Fin 1) (l : Fin 1024) :
    k0_pay3 y5 e a (ix2 z l) = a (ix2 z l) + ∑ r : Fin 512, k0_pay2 e (ix2 r l) * y5 (ix2 r l) := by
  unfold k0_pay3
  generalize k0_pay2 e = y2
  pointwise! []

/-- What a point adds to the loss. -/
theorem pay13_eq (v0 : Vec Ideal S512x2816 .bf16) (v2 : Vec Ideal S1x2816x1024 .bf16) (x : Vec Ideal S512x1024 .f32) (g : Vec Ideal S1x1024 .f32)
    (y : Vec Ideal S512x1024 .f32) : k0_pay13 v0 v2 x g y
      = ((∑ r : Fin 512, ∑ l : Fin 1024, k0_pay9 v0 v2 x g y (ix2 r l) * k0_pay9 v0 v2 x g y (ix2 r l)) * Ideal.ofBits .f32 0x3A000000#32 : EReal) := by
  unfold k0_pay13
  generalize k0_pay9 v0 v2 x g y = y9
  pointwise! []

/-- The running loss a point leaves, in every lane. -/
theorem pay1_apply (a : Vec Ideal S1x1024 .f32) (s : Ideal .f32) (z : Fin 1) (l : Fin 1024) :
    k0_pay1 (k0_pay12 a) s (ix2 z l) = (a (ix2 z l) + s : EReal) := by
  pointwise! [k0_pay1, k0_pay12]

section Blocks
variable {F : FTy → Type} [FloatOps F]
variable (m : (ℓ : Loc nD τ sig) → Buf (Elt F) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- The error tile of grid point `t`. -/
abbrev errT (c : Dev nD) (t : Fin cfg0.N) : FVec F S512x1024 .f32 := k0_pay9 (iblk m c 0 t) (iblk m c 1 t) (iblk m c 2 t) (iblk m c 3 t) (iblk m c 4 t)

/-- What grid point `t` leaves in the first result's staging buffer. -/
theorem outs_5 (c : Dev nD) (t : Fin cfg0.N) : (outsAt0 m c t.val t.isLt).1
    = k0_pay4 (k0_pay7 (iblk m c 0 t) (iblk m c 1 t) (iblk m c 2 t)) (k0_pay8 (iblk m c 0 t) (iblk m c 1 t) (iblk m c 2 t)) (errT m c t) (iblk m c 3 t) := by
  by_cases h0 : t.val % 8 = 0
  · rw [outsAt0_A m c t h0]
    dsimp only
    unfold out0_A_5
    rw [View.read_writes_eq_canon _ _ _ (cover0_A_5 c _ _ _ _ _ _ _ _ _ _ _ _ _ _ _ _ _ _ _ _ _ _ _ _ _)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_7 t).read_unread, (hs0_8 t).read_unread,
      View.ld_unit_zero (S := S512x2816) hz, View.ld_unit_zero (S := S1x2816x1024) hz3, View.ld_unit_zero (S := S512x1024) hz, View.ld_unit_zero (S := S1x1024) hz, shapeCast_self]
  · rw [outsAt0_B m c t h0]
    dsimp only
    unfold out0_B_5
    rw [View.read_writes_eq_canon _ _ _ (cover0_B_5 c _ _ _ _ _ _ _ _ _ _ _ _ _ _ _ _ _ _ _ _ _ _ _ _ _ _ _)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_7 t).read_unread, (hs0_8 t).read_unread,
      View.ld_unit_zero (S := S512x2816) hz, View.ld_unit_zero (S := S1x2816x1024) hz3, View.ld_unit_zero (S := S512x1024) hz, View.ld_unit_zero (S := S1x1024) hz, shapeCast_self]

/-- What it leaves in the second's, the rounded copy. -/
theorem outs_6 (c : Dev nD) (t : Fin cfg0.N) : (outsAt0 m c t.val t.isLt).2.1
    = k0_pay5 (k0_pay7 (iblk m c 0 t) (iblk m c 1 t) (iblk m c 2 t)) (k0_pay8 (iblk m c 0 t) (iblk m c 1 t) (iblk m c 2 t)) (errT m c t) (iblk m c 3 t) := by
  by_cases h0 : t.val % 8 = 0
  · rw [outsAt0_A m c t h0]
    dsimp only
    unfold out0_A_6
    rw [View.read_writes_eq_canon _ _ _ (cover0_A_6 c _ _ _ _ _ _ _ _ _ _ _ _ _ _ _ _ _ _ _ _ _ _ _ _ _)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_7 t).read_unread, (hs0_8 t).read_unread,
      View.ld_unit_zero (S := S512x2816) hz, View.ld_unit_zero (S := S1x2816x1024) hz3, View.ld_unit_zero (S := S512x1024) hz, View.ld_unit_zero (S := S1x1024) hz, shapeCast_self]
  · rw [outsAt0_B m c t h0]
    dsimp only
    unfold out0_B_6
    rw [View.read_writes_eq_canon _ _ _ (cover0_B_6 c _ _ _ _ _ _ _ _ _ _ _ _ _ _ _ _ _ _ _ _ _ _ _ _ _ _ _)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_7 t).read_unread, (hs0_8 t).read_unread,
      View.ld_unit_zero (S := S512x2816) hz, View.ld_unit_zero (S := S1x2816x1024) hz3, View.ld_unit_zero (S := S512x1024) hz, View.ld_unit_zero (S := S1x1024) hz, shapeCast_self]

/-- The first point starts the column sums from the zero block. -/
theorem outs_7_A (c : Dev nD) (t : Fin cfg0.N) (h0 : t.val % 8 = 0) :
    (outsAt0 m c t.val t.isLt).2.2.1 = k0_pay3 (k0_pay8 (iblk m c 0 t) (iblk m c 1 t) (iblk m c 2 t)) (errT m c t) k0_pay10 := by
  rw [outsAt0_A m c t h0]
  dsimp only
  unfold out0_A_7
  rw [View.read_writes_eq_canon _ _ _ (cover0_A_7 c _ _ _ _ _ _ _ _ _ _ _ _ _ _ _ _ _ _ _ _ _ _ _ _ _)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread, (hs0_4 t).read_unread, (hs0_7 t).read_unread, (hs0_8 t).read_unread,
    View.ld_unit_zero (S := S512x2816) hz, View.ld_unit_zero (S := S1x2816x1024) hz3, View.ld_unit_zero (S := S512x1024) hz, View.ld_unit_zero (S := S1x1024) hz, shapeCast_self]

/-- Every later point adds to the column sums the point before left. -/
theorem outs_7_B (c : Dev nD) (t : Fin cfg0.N) (h0 : ¬t.val % 8 = 0) : (outsAt0 m c t.val t.isLt).2.2.1
    = k0_pay3 (k0_pay8 (iblk m c 0 t) (iblk m c 1 t) (iblk m c 2 t)) (errT m c t) (outsAt0 m c (t.val - 1) (Nat.lt_of_le_of_lt (Nat.sub_le _ _) t.isLt)).2.2.1 := by
  rw [outsAt0_B m c t h0]
  dsimp only
  unfold out0_B_7
  rw [View.read_writes_eq_canon _ _ _ (cover0_B_7 c _ _ _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_7 t).read_unread, (hs0_8 t).read_unread,
    View.ld_unit_zero (S := S512x2816) hz, View.ld_unit_zero (S := S1x2816x1024) hz3, View.ld_unit_zero (S := S512x1024) hz, View.ld_unit_zero (S := S1x1024) hz, shapeCast_self]

/-- The first point starts the loss from the zero block. -/
theorem outs_8_A (c : Dev nD) (t : Fin cfg0.N) (h0 : t.val % 8 = 0) :
    (outsAt0 m c t.val t.isLt).2.2.2 = k0_pay1 (k0_pay12 k0_pay11) (k0_pay13 (iblk m c 0 t) (iblk m c 1 t) (iblk m c 2 t) (iblk m c 3 t) (iblk m c 4 t)) := by
  rw [outsAt0_A m c t h0]
  dsimp only
  unfold out0_A_8
  rw [View.read_writes_eq_canon _ _ _ (cover0_A_8 c _ _ _ _ _ _ _ _ _ _ _ _ _ _ _ _ _ _ _ _ _ _ _ _ _)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread, (hs0_4 t).read_unread, (hs0_7 t).read_unread, (hs0_8 t).read_unread,
    View.ld_unit_zero (S := S512x2816) hz, View.ld_unit_zero (S := S1x2816x1024) hz3, View.ld_unit_zero (S := S512x1024) hz, View.ld_unit_zero (S := S1x1024) hz, shapeCast_self]

/-- Every later point adds to the loss the point before left. -/
theorem outs_8_B (c : Dev nD) (t : Fin cfg0.N) (h0 : ¬t.val % 8 = 0) : (outsAt0 m c t.val t.isLt).2.2.2
    = k0_pay1 (k0_pay12 (outsAt0 m c (t.val - 1) (Nat.lt_of_le_of_lt (Nat.sub_le _ _) t.isLt)).2.2.2) (k0_pay13 (iblk m c 0 t) (iblk m c 1 t) (iblk m c 2 t) (iblk m c 3 t) (iblk m c 4 t)) := by
  rw [outsAt0_B m c t h0]
  dsimp only
  unfold out0_B_8
  rw [View.read_writes_eq_canon _ _ _ (cover0_B_8 c _ _ _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_7 t).read_unread, (hs0_8 t).read_unread,
    View.ld_unit_zero (S := S512x2816) hz, View.ld_unit_zero (S := S1x2816x1024) hz3, View.ld_unit_zero (S := S512x1024) hz, View.ld_unit_zero (S := S1x1024) hz, shapeCast_self]

/-- Row `r` of the tile of grid point `t` is row `512 t + r` of the array. -/
abbrev row (t : Fin cfg0.N) (r : Fin 512) : Fin 4096 :=
  ⟨t.val * 512 + r.val, by have ht : t.val < 8 := N_0 ▸ t.isLt; have := r.isLt; omega⟩

theorem rows_index0 : ∀ t : Fin cfg0.N, win0_0.index t 0 = t.val ∧ win0_0.index t 1 = 0 :=
  (by decide +kernel : ∀ t : Fin grid0.N, win0_0.index t 0 = t.val ∧ win0_0.index t 1 = 0)
theorem rows_index2 : ∀ t : Fin cfg0.N, win0_2.index t 0 = t.val ∧ win0_2.index t 1 = 0 :=
  (by decide +kernel : ∀ t : Fin grid0.N, win0_2.index t 0 = t.val ∧ win0_2.index t 1 = 0)
theorem rows_index4 : ∀ t : Fin cfg0.N, win0_4.index t 0 = t.val ∧ win0_4.index t 1 = 0 :=
  (by decide +kernel : ∀ t : Fin grid0.N, win0_4.index t 0 = t.val ∧ win0_4.index t 1 = 0)
theorem rows_index5 : ∀ t : Fin cfg0.N, win0_5.index t 0 = t.val ∧ win0_5.index t 1 = 0 :=
  (by decide +kernel : ∀ t : Fin grid0.N, win0_5.index t 0 = t.val ∧ win0_5.index t 1 = 0)
theorem rows_index6 : ∀ t : Fin cfg0.N, win0_6.index t 0 = t.val ∧ win0_6.index t 1 = 0 :=
  (by decide +kernel : ∀ t : Fin grid0.N, win0_6.index t 0 = t.val ∧ win0_6.index t 1 = 0)
theorem whole_index1 : ∀ t : Fin cfg0.N, ∀ a, win0_1.index t a = 0 :=
  (by decide +kernel : ∀ t : Fin grid0.N, ∀ a : Fin 3, win0_1.index t a = 0)
theorem whole_index3 : ∀ t : Fin cfg0.N, ∀ a, win0_3.index t a = 0 :=
  (by decide +kernel : ∀ t : Fin grid0.N, ∀ a : Fin 2, win0_3.index t a = 0)
theorem whole_index7 : ∀ t : Fin cfg0.N, ∀ a, win0_7.index t a = 0 :=
  (by decide +kernel : ∀ t : Fin grid0.N, ∀ a : Fin 2, win0_7.index t a = 0)
theorem whole_index8 : ∀ t : Fin cfg0.N, ∀ a, win0_8.index t a = 0 :=
  (by decide +kernel : ∀ t : Fin grid0.N, ∀ a : Fin 2, win0_8.index t a = 0)

theorem iblk0_apply (c : Dev nD) (t : Fin cfg0.N) (r : Fin 512) (k : Fin 2816) :
    (iblk m c 0 t : Vec F S512x2816 .bf16) (ix2 r k) = V m c main_v0 (ix2 (row t r) k) := by
  have hi := rows_index0 t
  unfold iblk
  rw [View.read_apply]
  refine congrArg (V m c main_v0) (funext fun a => Fin.ext ?_)
  match a with
  | ⟨0, _⟩ => show win0_0.index t 0 * 512 + 1 * r.val = t.val * 512 + r.val; rw [hi.1]; omega
  | ⟨1, _⟩ => show win0_0.index t 1 * 2816 + 1 * k.val = k.val; rw [hi.2]; omega

theorem iblk2_apply (c : Dev nD) (t : Fin cfg0.N) (r : Fin 512) (k : Fin 1024) :
    (iblk m c 2 t : Vec F S512x1024 .f32) (ix2 r k) = V m c main_arg0 (ix2 (row t r) k) := by
  have hi := rows_index2 t
  unfold iblk
  rw [View.read_apply]
  refine congrArg (V m c main_arg0) (funext fun a => Fin.ext ?_)
  match a with
  | ⟨0, _⟩ => show win0_2.index t 0 * 512 + 1 * r.val = t.val * 512 + r.val; rw [hi.1]; omega
  | ⟨1, _⟩ => show win0_2.index t 1 * 1024 + 1 * k.val = k.val; rw [hi.2]; omega

theorem iblk4_apply (c : Dev nD) (t : Fin cfg0.N) (r : Fin 512) (k : Fin 1024) :
    (iblk m c 4 t : Vec F S512x1024 .f32) (ix2 r k) = V m c main_arg4 (ix2 (row t r) k) := by
  have hi := rows_index4 t
  unfold iblk
  rw [View.read_apply]
  refine congrArg (V m c main_arg4) (funext fun a => Fin.ext ?_)
  match a with
  | ⟨0, _⟩ => show win0_4.index t 0 * 512 + 1 * r.val = t.val * 512 + r.val; rw [hi.1]; omega
  | ⟨1, _⟩ => show win0_4.index t 1 * 1024 + 1 * k.val = k.val; rw [hi.2]; omega

theorem iblk1_eq (c : Dev nD) (t : Fin cfg0.N) : (iblk m c 1 t : Vec F S1x2816x1024 .bf16) = V m c main_v1 := by
  have hi := whole_index1 t
  funext j
  unfold iblk
  rw [View.read_apply]
  refine congrArg (V m c main_v1) (funext fun a => Fin.ext ?_)
  match a with
  | ⟨0, _⟩ => show win0_1.index t 0 * 1 + 1 * (j 0).val = (j 0).val; rw [hi 0]; omega
  | ⟨1, _⟩ => show win0_1.index t 1 * 2816 + 1 * (j 1).val = (j 1).val; rw [hi 1]; omega
  | ⟨2, _⟩ => show win0_1.index t 2 * 1024 + 1 * (j 2).val = (j 2).val; rw [hi 2]; omega

theorem iblk3_eq (c : Dev nD) (t : Fin cfg0.N) : (iblk m c 3 t : Vec F S1x1024 .f32) = V m c main_v2 := by
  have hi := whole_index3 t
  funext j
  unfold iblk
  rw [View.read_apply]
  refine congrArg (V m c main_v2) (funext fun a => Fin.ext ?_)
  match a with
  | ⟨0, _⟩ => show win0_3.index t 0 * 1 + 1 * (j 0).val = (j 0).val; rw [hi 0]; omega
  | ⟨1, _⟩ => show win0_3.index t 1 * 1024 + 1 * (j 1).val = (j 1).val; rw [hi 1]; omega

/-- Which rows grid point `t` writes. -/
theorem mem_blk5 (t : Fin cfg0.N) (i : S4096x1024.Idx) :
    i ∈ ((cfg0.win 5).blk t).view.set ↔ t.val * 512 ≤ (i 0 : Nat) ∧ (i 0 : Nat) < t.val * 512 + 512 := by
  show i ∈ ((View.whole main_v3_0).slice (win0_5.rect t)).set ↔ _
  rw [View.set_slice_whole, Rect.mem_set_unit]
  have h1 : (i 1 : Nat) < 1024 := (i 1).isLt
  have hi := rows_index5 t
  have e0 : win0_5.index t 0 * win0_5.size 0 = t.val * 512 := by rw [hi.1]; rfl
  have e1 : win0_5.index t 1 * win0_5.size 1 = 0 := by rw [hi.2]; rfl
  refine ⟨fun h => ?_, fun h a => ?_⟩
  · have : win0_5.index t 0 * win0_5.size 0 ≤ (i 0 : Nat) ∧ (i 0 : Nat) < win0_5.index t 0 * win0_5.size 0 + 512 := h 0
    rw [e0] at this; exact this
  · match a with
    | ⟨0, _⟩ => show win0_5.index t 0 * win0_5.size 0 ≤ (i 0 : Nat) ∧ (i 0 : Nat) < win0_5.index t 0 * win0_5.size 0 + 512
                rw [e0]; exact h
    | ⟨1, _⟩ => show win0_5.index t 1 * win0_5.size 1 ≤ (i 1 : Nat) ∧ (i 1 : Nat) < win0_5.index t 1 * win0_5.size 1 + 1024
                rw [e1]; omega

theorem cover5 (i : S4096x1024.Idx) : ∃ t : Fin cfg0.N, (cfg0.win 5).flush t = true ∧ i ∈ ((cfg0.win 5).blk t).view.set := by
  have h0 : (i 0 : Nat) < 4096 := (i 0).isLt
  refine ⟨⟨(i 0 : Nat) / 512, by rw [show cfg0.N = 8 from N_0]; omega⟩, flush0_5 _, (mem_blk5 _ i).mpr ?_⟩
  dsimp only; omega

/-- An array whose tiles are what the points leave is the result. -/
theorem final5 (c : Dev nD) (G : S4096x1024.Idx → Elt F .f32)
    (h : ∀ (t : Fin cfg0.N) (r : Fin 512) (l : Fin 1024), (outsAt0 m c t.val t.isLt).1 (ix2 r l) = G (ix2 (row t r) l)) :
    (dats m 0 c).arrAt 5 cfg0.N = G :=
  (dats m 0 c).arrAt_eq_of_cover 5 G (fun t _ => by
    rw [flushed5]
    funext j
    idx_vars j
    rw [View.read_apply]
    refine (h t _ _).trans (congrArg G (funext fun a => Fin.ext ?_))
    have hi := rows_index5 t
    match a with
    | ⟨0, _⟩ => show t.val * 512 + j0.val = win0_5.index t 0 * 512 + 1 * j0.val; rw [hi.1]; omega
    | ⟨1, _⟩ => show j1.val = win0_5.index t 1 * 1024 + 1 * j1.val; rw [hi.2]; omega) cover5

/-- Which rows grid point `t` writes. -/
theorem mem_blk6 (t : Fin cfg0.N) (i : S4096x1024.Idx) :
    i ∈ ((cfg0.win 6).blk t).view.set ↔ t.val * 512 ≤ (i 0 : Nat) ∧ (i 0 : Nat) < t.val * 512 + 512 := by
  show i ∈ ((View.whole main_v3_1).slice (win0_6.rect t)).set ↔ _
  rw [View.set_slice_whole, Rect.mem_set_unit]
  have h1 : (i 1 : Nat) < 1024 := (i 1).isLt
  have hi := rows_index6 t
  have e0 : win0_6.index t 0 * win0_6.size 0 = t.val * 512 := by rw [hi.1]; rfl
  have e1 : win0_6.index t 1 * win0_6.size 1 = 0 := by rw [hi.2]; rfl
  refine ⟨fun h => ?_, fun h a => ?_⟩
  · have : win0_6.index t 0 * win0_6.size 0 ≤ (i 0 : Nat) ∧ (i 0 : Nat) < win0_6.index t 0 * win0_6.size 0 + 512 := h 0
    rw [e0] at this; exact this
  · match a with
    | ⟨0, _⟩ => show win0_6.index t 0 * win0_6.size 0 ≤ (i 0 : Nat) ∧ (i 0 : Nat) < win0_6.index t 0 * win0_6.size 0 + 512
                rw [e0]; exact h
    | ⟨1, _⟩ => show win0_6.index t 1 * win0_6.size 1 ≤ (i 1 : Nat) ∧ (i 1 : Nat) < win0_6.index t 1 * win0_6.size 1 + 1024
                rw [e1]; omega

theorem cover6 (i : S4096x1024.Idx) : ∃ t : Fin cfg0.N, (cfg0.win 6).flush t = true ∧ i ∈ ((cfg0.win 6).blk t).view.set := by
  have h0 : (i 0 : Nat) < 4096 := (i 0).isLt
  refine ⟨⟨(i 0 : Nat) / 512, by rw [show cfg0.N = 8 from N_0]; omega⟩, flush0_6 _, (mem_blk6 _ i).mpr ?_⟩
  dsimp only; omega

/-- An array whose tiles are what the points leave is the result. -/
theorem final6 (c : Dev nD) (G : S4096x1024.Idx → Elt F .bf16)
    (h : ∀ (t : Fin cfg0.N) (r : Fin 512) (l : Fin 1024), (outsAt0 m c t.val t.isLt).2.1 (ix2 r l) = G (ix2 (row t r) l)) :
    (dats m 0 c).arrAt 6 cfg0.N = G :=
  (dats m 0 c).arrAt_eq_of_cover 6 G (fun t _ => by
    rw [flushed6]
    funext j
    idx_vars j
    rw [View.read_apply]
    refine (h t _ _).trans (congrArg G (funext fun a => Fin.ext ?_))
    have hi := rows_index6 t
    match a with
    | ⟨0, _⟩ => show t.val * 512 + j0.val = win0_6.index t 0 * 512 + 1 * j0.val; rw [hi.1]; omega
    | ⟨1, _⟩ => show j1.val = win0_6.index t 1 * 1024 + 1 * j1.val; rw [hi.2]; omega) cover6

/-- The column sums' array is its one block, written back after the last point. -/
theorem final7 (c : Dev nD) : (dats m 0 c).arrAt 7 cfg0.N = (outsAt0 m c 7 (by rw [show cfg0.N = 8 from N_0]; decide)).2.2.1 := by
  have hz' : (fun a => win0_7.index t0_7 a * win0_7.size a) = fun _ => 0 :=
    funext fun a => by rw [whole_index7 t0_7 a]; exact Nat.zero_mul _
  refine (dats m 0 c).arrAt_eq_of_cover 7 _ (fun t hf => ?_) fun i => ⟨t0_7, (flush0_7 t0_7).mpr rfl, ?_⟩
  · have hlt : t.val < 8 := lt_of_lt_of_eq t.isLt N_0
    have h7 : t = t0_7 := Fin.ext (by have := (flush0_7 t).mp hf; show t.val = 7; omega)
    subst h7
    rw [flushed7]
    exact (Memref.read_access_unit_zero (Elt F) main_v3_2 hz' (fun a => by rw [congrFun hz' a]; simp) _).symm
  · show i ∈ ((View.whole main_v3_2).slice (win0_7.rect t0_7)).set
    rw [View.set_slice_whole, Rect.mem_set_unit]
    intro a
    have ha : win0_7.index t0_7 a * win0_7.size a = 0 := congrFun hz' a
    have hs : (i a : Nat) < win0_7.size a := (i a).isLt
    show win0_7.index t0_7 a * win0_7.size a ≤ (i a : Nat) ∧ (i a : Nat) < win0_7.index t0_7 a * win0_7.size a + win0_7.size a
    rw [ha]; omega

/-- The column sums' array is its one block, written back after the last point. -/
theorem final8 (c : Dev nD) : (dats m 0 c).arrAt 8 cfg0.N = (outsAt0 m c 7 (by rw [show cfg0.N = 8 from N_0]; decide)).2.2.2 := by
  have hz' : (fun a => win0_8.index t0_7 a * win0_8.size a) = fun _ => 0 :=
    funext fun a => by rw [whole_index8 t0_7 a]; exact Nat.zero_mul _
  refine (dats m 0 c).arrAt_eq_of_cover 8 _ (fun t hf => ?_) fun i => ⟨t0_7, (flush0_8 t0_7).mpr rfl, ?_⟩
  · have hlt : t.val < 8 := lt_of_lt_of_eq t.isLt N_0
    have h7 : t = t0_7 := Fin.ext (by have := (flush0_8 t).mp hf; show t.val = 7; omega)
    subst h7
    rw [flushed8]
    exact (Memref.read_access_unit_zero (Elt F) main_v3_3 hz' (fun a => by rw [congrFun hz' a]; simp) _).symm
  · show i ∈ ((View.whole main_v3_3).slice (win0_8.rect t0_7)).set
    rw [View.set_slice_whole, Rect.mem_set_unit]
    intro a
    have ha : win0_8.index t0_7 a * win0_8.size a = 0 := congrFun hz' a
    have hs : (i a : Nat) < win0_8.size a := (i a).isLt
    show win0_8.index t0_7 a * win0_8.size a ≤ (i a : Nat) ∧ (i a : Nat) < win0_8.index t0_7 a * win0_8.size a + win0_8.size a
    rw [ha]; omega

end Blocks

/-! ### The results, read off the arguments -/

section Maths
variable (x0 : Rows) (x1 : S4096x2816.Idx → EReal) (x2 : S1x2816x1024.Idx → EReal) (x3 : S1024.Idx → EReal) (x4 : Rows)

/-- The sum the final norm reads. -/
def sumX : Rows := ofRows fun R l => x0 (ix2 R l) + Ideal.ofBits .f32 0x3F000000#32 * ∑ k : Fin 2816, x1 (ix2 R k) * x2 (ix3 0 k l)

/-- The error of the normalised row. -/
def err (R : Fin 4096) (l : Fin 1024) : EReal :=
  (sumX x0 x1 x2 (ix2 R l) * rinv fun k => sumX x0 x1 x2 (ix2 R k)) * x3 (ix1 l) - x4 (ix2 R l)

/-- The loss's cotangent of the norm's result. -/
def cot (R : Fin 4096) (l : Fin 1024) : EReal := err x0 x1 x2 x3 x4 R l * Ideal.ofBits .f32 0x3A800000#32

/-- A row's gradient. -/
def dxl (R : Fin 4096) (l : Fin 1024) : EReal :=
  grad (fun k => sumX x0 x1 x2 (ix2 R k)) (fun k => cot x0 x1 x2 x3 x4 R k * x3 (ix1 k)) l

/-- A row's part of the loss. -/
def lossTerm (R : Fin 4096) : EReal :=
  (∑ l : Fin 1024, err x0 x1 x2 x3 x4 R l * err x0 x1 x2 x3 x4 R l) * Ideal.ofBits .f32 0x3A000000#32

end Maths

theorem ofBits_half_mean : Ideal.ofBits .f32 0x3A000000#32 = ((1 / 2048 : ℝ) : EReal) := by
  simp [Ideal.ofBits, Ideal.ieee, -EReal.coe_mul]; norm_num

section Results
variable (m : (ℓ : Loc nD τ sig) → Buf (Elt Ideal) ℓ)

theorem V_v0 (c : Dev nD) : (V m c main_v0 : FVec Ideal S4096x2816 .bf16) = m ((c : Thread nD τ).loc main_arg1) := by
  funext i
  show StableHlo.after hostOps0 _ (Proc.devRef .tc main_v0) _ = _
  after_results
  rfl

theorem V_v1 (c : Dev nD) : (V m c main_v1 : FVec Ideal S1x2816x1024 .bf16) = m ((c : Thread nD τ).loc main_arg2) := by
  funext i
  show StableHlo.after hostOps0 _ (Proc.devRef .tc main_v1) _ = _
  after_results
  rfl

theorem V_v2 (c : Dev nD) (l : Fin 1024) : (V m c main_v2 : FVec Ideal S1x1024 .f32) (ix2 0 l) = m ((c : Thread nD τ).loc main_arg3) (ix1 l) := by
  show StableHlo.after hostOps0 _ (Proc.devRef .tc main_v2) _ = _
  after_results
  pointwise! []

/-- The arguments of one device as the mathematics takes them. -/
abbrev at5 {α : Sort _} (c : Dev nD) (f : Rows → (S4096x2816.Idx → EReal) → (S1x2816x1024.Idx → EReal) → (S1024.Idx → EReal) → Rows → α) : α :=
  f (m ((c : Thread nD τ).loc main_arg0)) (m ((c : Thread nD τ).loc main_arg1)) (m ((c : Thread nD τ).loc main_arg2))
    (m ((c : Thread nD τ).loc main_arg3)) (m ((c : Thread nD τ).loc main_arg4))

/-- The sum the norm reads, of one device. -/
def xs (c : Dev nD) : Rows :=
  sumX (m ((c : Thread nD τ).loc main_arg0)) (m ((c : Thread nD τ).loc main_arg1)) (m ((c : Thread nD τ).loc main_arg2))

/-- The gradient of the sum. -/
def resX (c : Dev nD) : Rows := ofRows (at5 m c dxl)

/-- The gradient of the branch scaled by one half. -/
def resY (c : Dev nD) : Rows := fun i => Ideal.ofBits .f32 0x3F000000#32 * resX m c i

/-- The gain's gradient. -/
def resG (c : Dev nD) : S1x1024.Idx → EReal := ofRow (dgain (xs m c) (at5 m c cot))

/-- The loss, in every lane. -/
def resL (c : Dev nD) : S1x1024.Idx → EReal := fun _ => ∑ R : Fin 4096, at5 m c lossTerm R

theorem sum_apply (c : Dev nD) (t : Fin cfg0.N) (r : Fin 512) (l : Fin 1024) :
    k0_pay6 (iblk m c 0 t) (iblk m c 1 t) (iblk m c 2 t) (ix2 r l) = xs m c (ix2 (row t r) l) := by
  rw [pay6_apply, iblk1_eq, V_v1, iblk2_apply, V_main_arg0]
  simp only [iblk0_apply, V_v0]
  rfl

theorem norm_apply (c : Dev nD) (t : Fin cfg0.N) (r : Fin 512) (l : Fin 1024) :
    k0_pay8 (iblk m c 0 t) (iblk m c 1 t) (iblk m c 2 t) (ix2 r l)
      = xs m c (ix2 (row t r) l) * rinv fun k => xs m c (ix2 (row t r) k) := by
  rw [pay8_eq, DhKernelIdeal.Value.pay5_apply]
  simp only [sum_apply]

theorem gain_apply (c : Dev nD) (t : Fin cfg0.N) (l : Fin 1024) :
    (iblk m c 3 t : Vec Ideal S1x1024 .f32) (ix2 0 l) = m ((c : Thread nD τ).loc main_arg3) (ix1 l) := by
  rw [iblk3_eq, V_v2]

theorem err_apply (c : Dev nD) (t : Fin cfg0.N) (r : Fin 512) (l : Fin 1024) : errT m c t (ix2 r l) = at5 m c err (row t r) l := by
  unfold errT
  rw [pay9_apply, norm_apply, gain_apply, iblk4_apply, V_main_arg4]
  rfl

theorem cot_apply (c : Dev nD) (t : Fin cfg0.N) (r : Fin 512) (l : Fin 1024) : k0_pay2 (errT m c t) (ix2 r l) = at5 m c cot (row t r) l := by
  rw [pay2_apply, err_apply]
  rfl

theorem outs_5_apply (c : Dev nD) (t : Fin cfg0.N) (r : Fin 512) (l : Fin 1024) : (outsAt0 m c t.val t.isLt).1 (ix2 r l) = resX m c (ix2 (row t r) l) := by
  rw [outs_5, pay7_eq, pay8_eq, pay4_apply]
  simp only [sum_apply, cot_apply, gain_apply]
  rfl

theorem outs_6_apply (c : Dev nD) (t : Fin cfg0.N) (r : Fin 512) (l : Fin 1024) : (outsAt0 m c t.val t.isLt).2.1 (ix2 r l) = resY m c (ix2 (row t r) l) := by
  unfold resY
  rw [← outs_5_apply, outs_5, outs_6, pay5_apply]

/-- What a grid point adds to the column sums. -/
theorem point_sum (c : Dev nD) (t : Fin cfg0.N) (a : Vec Ideal S1x1024 .f32) (z : Fin 1) (l : Fin 1024) :
    k0_pay3 (k0_pay8 (iblk m c 0 t) (iblk m c 1 t) (iblk m c 2 t)) (errT m c t) a (ix2 z l)
      = a (ix2 z l) + ∑ r : Fin 512, gainTerm (xs m c) (at5 m c cot) l (row t r) := by
  refine (pay3_apply _ _ _ z l).trans (congrArg (HAdd.hAdd _) (Finset.sum_congr rfl fun r _ => ?_))
  unfold gainTerm
  rw [cot_apply, norm_apply]

/-- What a grid point adds to the loss. -/
theorem point_loss (c : Dev nD) (t : Fin cfg0.N) (a : Vec Ideal S1x1024 .f32) (z : Fin 1) (l : Fin 1024) :
    k0_pay1 (k0_pay12 a) (k0_pay13 (iblk m c 0 t) (iblk m c 1 t) (iblk m c 2 t) (iblk m c 3 t) (iblk m c 4 t)) (ix2 z l)
      = a (ix2 z l) + ∑ r : Fin 512, at5 m c lossTerm (row t r) := by
  refine (pay1_apply _ _ z l).trans (congrArg (HAdd.hAdd _) ?_)
  rw [pay13_eq]
  unfold lossTerm
  rw [ofBits_half_mean, sum_mul_coe _ _ (by norm_num)]
  refine congrArg (· * _) (Finset.sum_congr rfl fun r _ => Finset.sum_congr rfl fun k _ => ?_)
  rw [show k0_pay9 (iblk m c 0 t) (iblk m c 1 t) (iblk m c 2 t) (iblk m c 3 t) (iblk m c 4 t) (ix2 r k) = _ from err_apply m c t r k]

/-- What the last of eight points leaves in a lane, from what each point adds. -/
theorem last_apply (c : Dev nD) (h7 : 7 < cfg0.N) (o : ∀ n, n < cfg0.N → Vec Ideal S1x1024 .f32) (f : Fin 4096 → EReal) (z : Fin 1) (l : Fin 1024)
    (h0 : ∀ h : 0 < cfg0.N, o 0 h (ix2 z l) = 0 + ∑ r : Fin 512, f (row ⟨0, h⟩ r))
    (hs : ∀ n (h : n + 1 < cfg0.N), o (n + 1) h (ix2 z l) = o n (Nat.lt_of_succ_lt h) (ix2 z l) + ∑ r : Fin 512, f (row ⟨n + 1, h⟩ r)) :
    o 7 h7 (ix2 z l) = ∑ R : Fin 4096, f R := by
  have hN : ∀ n, n < 8 → n < cfg0.N := fun n h => lt_of_lt_of_eq h N_0.symm
  exact acc_rows f (fun n h => o n (hN n h) (ix2 z l)) (h0 _) fun n h => hs n _

theorem not_first {n : Nat} (h : n + 1 < cfg0.N) : ¬(⟨n + 1, h⟩ : Fin cfg0.N).val % 8 = 0 := by
  have h8 : n + 1 < 8 := lt_of_lt_of_eq h N_0
  show ¬(n + 1) % 8 = 0
  omega

/-- The column sums the kernel leaves after the last point. -/
theorem outs_7_apply (c : Dev nD) (h7 : 7 < cfg0.N) (z : Fin 1) (l : Fin 1024) : (outsAt0 m c 7 h7).2.2.1 (ix2 z l) = resG m c (ix2 z l) := by
  refine last_apply c h7 (fun n h => (outsAt0 m c n h).2.2.1) (gainTerm (xs m c) (at5 m c cot) l) z l (fun h => ?_) fun n h => ?_
  · have e := congrFun (outs_7_A m c ⟨0, h⟩ rfl) (ix2 z l)
    rw [point_sum m c ⟨0, h⟩] at e
    refine e.trans (congrArg (· + _) ?_)
    unfold k0_pay10
    pointwise! []
  · have e := congrFun (outs_7_B m c ⟨n + 1, h⟩ (not_first h)) (ix2 z l)
    rw [point_sum m c ⟨n + 1, h⟩] at e
    exact e

/-- The loss the kernel leaves after the last point. -/
theorem outs_8_apply (c : Dev nD) (h7 : 7 < cfg0.N) (z : Fin 1) (l : Fin 1024) : (outsAt0 m c 7 h7).2.2.2 (ix2 z l) = resL m c (ix2 z l) := by
  refine last_apply c h7 (fun n h => (outsAt0 m c n h).2.2.2) (at5 m c lossTerm) z l (fun h => ?_) fun n h => ?_
  · have e := congrFun (outs_8_A m c ⟨0, h⟩ rfl) (ix2 z l)
    rw [point_loss m c ⟨0, h⟩] at e
    refine e.trans (congrArg (· + _) ?_)
    unfold k0_pay11
    pointwise! []
  · have e := congrFun (outs_8_B m c ⟨n + 1, h⟩ (not_first h)) (ix2 z l)
    rw [point_loss m c ⟨n + 1, h⟩] at e
    exact e

/-- The kernel's run with every result read off the arguments. -/
theorem run (ρ : Dev nD → PrngReg) : θ_run defs (onTc (τ := τ) (main (F := Ideal))) ⟨m, fun _ => 0, ρ⟩ fun r => ∀ c : Dev nD,
      r.2.mem ((c : Thread nD τ).loc main_v3_0) = resX m c
      ∧ r.2.mem ((c : Thread nD τ).loc main_v3_1) = resY m c
      ∧ r.2.mem ((c : Thread nD τ).loc main_v3_2) = resG m c
      ∧ r.2.mem ((c : Thread nD τ).loc main_v3_3) = resL m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h5, h6, h7, h8, hk⟩ := h c
    refine ⟨h5.trans (final5 m c _ (outs_5_apply m c)), h6.trans (final6 m c _ (outs_6_apply m c)), h7.trans ?_, h8.trans ?_, hk⟩
    · rw [final7]
      funext i
      idx_vars i
      exact outs_7_apply m c _ _ _
    · rw [final8]
      funext i
      idx_vars i
      exact outs_8_apply m c _ _ _) (run_blocks m ρ)

end Results

end Cert.LossKernelIdeal.Value
end
-- ==== Proof.LossRead.lean ====
/- What the reference of the loss and of the final norm's gradient leaves, and that it is what the kernel leaves. -/
module

public import proofs.«01_k».proof.Defs
public import proofs.«01_k».proof.Proof.LossValue
public import proofs.«01_k».proof.Proof.Gen.LossRefIdeal.Run
public import proofs.«01_k».proof.Proof.Gen.LossRefIdeal.Read
public import Idealize.ShloMosaic.Adequacy

@[expose] public section

set_option maxRecDepth 16384

noncomputable section

open Idealize.ShloMosaic Idealize.ShloMosaic.TcCoe Idealize.SL.Sem

namespace Cert.LossRead

open Cert.LossRefIdeal Cert.LossRefIdeal.Gen Cert.LossRefIdeal.Value Cert.LossRefIdeal.Read Cert.Rms
open Cert.LossKernelIdeal.Value (sumX err cot dxl lossTerm)

variable (x0 : (⟨S4096x1024, .f32⟩ : BufTy).Contents (Elt Ideal)) (x1 : (⟨S4096x2816, .f32⟩ : BufTy).Contents (Elt Ideal))
variable (x2 : (⟨S1x2816x1024, .f32⟩ : BufTy).Contents (Elt Ideal)) (x3 : (⟨S1024, .f32⟩ : BufTy).Contents (Elt Ideal))
variable (x4 : (⟨S4096x1024, .f32⟩ : BufTy).Contents (Elt Ideal))

/-- The sum the final norm reads. -/
theorem v4_eq : val_main_v4 (F := Ideal) x0 x1 x2 = sumX x0 x1 x2 := by
  funext i
  idx_vars i
  show _ = (x0 (ix2 i0 i1) + Ideal.ofBits .f32 0x3F000000#32 * ∑ k : Fin 2816, x1 (ix2 i0 k) * x2 (ix3 0 k i1) : EReal)
  pointwise! [val_main_v4, val_main_v3, val_main_v2, val_main_v1, val_main_v0, val_main_cst]

theorem v11_apply (R : Fin 4096) (z : Fin 1) : val_main_v11 (F := Ideal) x0 x1 x2 (ix2 R z) = var fun k => sumX x0 x1 x2 (ix2 R k) := by
  unfold var val_main_v11 val_main_v9 val_main_v7 val_main_v6 val_main_v5
  rw [v4_eq]
  generalize sumX x0 x1 x2 = y
  pointwise! [val_main_v10, val_main_v8, val_main_cst_1, val_main_cst_2, val_main_cst_0]

theorem v12_apply (R : Fin 4096) (z : Fin 1) : val_main_v12 (F := Ideal) x0 x1 x2 (ix2 R z) = rinv fun k => sumX x0 x1 x2 (ix2 R k) := by
  unfold rinv
  rw [← v11_apply x0 x1 x2 R z]
  rfl

/-- The normalised row. -/
theorem v17_apply (R : Fin 4096) (l : Fin 1024) : val_main_v17 (F := Ideal) x0 x1 x2 (ix2 R l)
    = sumX x0 x1 x2 (ix2 R l) * rinv fun k => sumX x0 x1 x2 (ix2 R k) := by
  rw [← v12_apply x0 x1 x2 R 0]
  unfold val_main_v17 val_main_v16
  rw [v4_eq]
  generalize sumX x0 x1 x2 = y
  generalize val_main_v12 (F := Ideal) x0 x1 x2 = y12
  pointwise! []

/-- The error. -/
theorem v21_apply (R : Fin 4096) (l : Fin 1024) : val_main_v21 (F := Ideal) x0 x1 x2 x3 x4 (ix2 R l) = err x0 x1 x2 x3 x4 R l := by
  unfold err
  rw [← v17_apply]
  unfold val_main_v21 val_main_v20
  generalize val_main_v17 (F := Ideal) x0 x1 x2 = y17
  pointwise! [val_main_v19, val_main_v18]

theorem ofBits_mean : Ideal.ofBits .f32 0x3A800000#32 = ((1 / 1024 : ℝ) : EReal) := by
  simp [Ideal.ofBits, Ideal.ieee, -EReal.coe_mul]; norm_num

/-- The loss's cotangent of the norm's result. -/
theorem v35_apply (R : Fin 4096) (l : Fin 1024) : val_main_v35 (F := Ideal) x0 x1 x2 x3 x4 (ix2 R l) = cot x0 x1 x2 x3 x4 R l := by
  unfold cot
  rw [← v21_apply]
  unfold val_main_v35 val_main_v24
  generalize val_main_v21 (F := Ideal) x0 x1 x2 x3 x4 = y
  have e : val_main_v34 (F := Ideal) (ix2 R l) = (((1 / 2048 : ℝ)) : EReal) := by
    refine Eq.trans (b := Ideal.div (Ideal.ofBits .f32 0x3F000000#32 * Ideal.ofBits .f32 0x3F800000#32) (Ideal.ofBits .f32 0x44800000#32)) ?_ ?_
    · unfold val_main_v34 val_main_v33 val_main_v32 val_main_v31 val_main_v30 val_main_cst_9 val_main_cst_10 val_main_cst_11
      rfl
    · rw [ofBits_half, ofBits_one, ofBits_1024, Ideal.div_coe (by norm_num), ← EReal.coe_mul, ← EReal.coe_mul]
      norm_num
  show (val_main_v34 (F := Ideal) (ix2 R l) : EReal) * (Ideal.ofBits .f32 0x40000000#32 * y (ix2 R l)) = (y (ix2 R l) : EReal) * _
  rw [e, ofBits_two, ofBits_mean, ← mul_assoc, ← EReal.coe_mul, mul_comm]
  norm_num

theorem v40_apply (R : Fin 4096) (l : Fin 1024) : val_main_v40 (F := Ideal) x0 x1 x2 x3 x4 (ix2 R l) = cot x0 x1 x2 x3 x4 R l * x3 (ix1 l) := by
  rw [← v35_apply]
  unfold val_main_v40
  generalize val_main_v35 (F := Ideal) x0 x1 x2 x3 x4 = y
  pointwise! [val_main_v39, val_main_v18]

theorem v51_apply (R : Fin 4096) (l : Fin 1024) : val_main_v51 (F := Ideal) x0 x1 x2 x3 x4 (ix2 R l)
    = Rms.slope (fun k => sumX x0 x1 x2 (ix2 R k)) fun k => cot x0 x1 x2 x3 x4 R k * x3 (ix1 k) := by
  rw [show (fun k => cot x0 x1 x2 x3 x4 R k * x3 (ix1 k)) = fun k => val_main_v40 (F := Ideal) x0 x1 x2 x3 x4 (ix2 R k)
    from funext fun k => (v40_apply x0 x1 x2 x3 x4 R k).symm]
  unfold Rms.slope
  rw [← v12_apply x0 x1 x2 R 0, ← v11_apply x0 x1 x2 R 0]
  unfold val_main_v51 val_main_v50 val_main_v49 val_main_v47 val_main_v44 val_main_v43 val_main_v42 val_main_v15 val_main_v13
  rw [v4_eq]
  generalize val_main_v40 (F := Ideal) x0 x1 x2 x3 x4 = y
  generalize val_main_v12 (F := Ideal) x0 x1 x2 = y12
  generalize val_main_v11 (F := Ideal) x0 x1 x2 = y11
  generalize sumX x0 x1 x2 = y4
  pointwise! [val_main_v48, val_main_cst_15, val_main_cst_16, val_main_cst_14, val_main_v14, val_main_cst_3]
  exact Fintype.sum_unique _

/-- The reference's gradient of the sum the norm reads. -/
theorem v55_apply (R : Fin 4096) (l : Fin 1024) : val_main_v55 (F := Ideal) x0 x1 x2 x3 x4 (ix2 R l) = dxl x0 x1 x2 x3 x4 R l := by
  unfold dxl
  rw [grad_eq, ← v51_apply x0 x1 x2 x3 x4 R l, ← v12_apply x0 x1 x2 R 0, ← v40_apply, ← add_assoc]
  unfold val_main_v55 val_main_v54 val_main_v53 val_main_v52 val_main_v46 val_main_v45
  rw [v4_eq]
  generalize val_main_v40 (F := Ideal) x0 x1 x2 x3 x4 = y
  generalize val_main_v12 (F := Ideal) x0 x1 x2 = y12
  generalize val_main_v51 (F := Ideal) x0 x1 x2 x3 x4 = q
  generalize sumX x0 x1 x2 = y4
  pointwise! []

/-- The reference's gradient of the branch scaled by one half. -/
theorem v58_apply (R : Fin 4096) (l : Fin 1024) : val_main_v58 (F := Ideal) x0 x1 x2 x3 x4 (ix2 R l)
    = Ideal.ofBits .f32 0x3F000000#32 * dxl x0 x1 x2 x3 x4 R l := by
  rw [← v55_apply]
  unfold val_main_v58 val_main_v57
  generalize val_main_v55 (F := Ideal) x0 x1 x2 x3 x4 = y
  pointwise! [val_main_v56, val_main_cst_17]

/-- The reference's gradient of the gain. -/
theorem v59_apply (z : Fin 1) (l : Fin 1024) : val_main_v59 (F := Ideal) x0 x1 x2 x3 x4 (ix2 z l)
    = dgain (sumX x0 x1 x2) (cot x0 x1 x2 x3 x4) l := by
  have e : ∀ R : Fin 4096, cot x0 x1 x2 x3 x4 R l * (sumX x0 x1 x2 (ix2 R l) * rinv fun k => sumX x0 x1 x2 (ix2 R k))
      = val_main_v17 (F := Ideal) x0 x1 x2 (ix2 R l) * val_main_v35 (F := Ideal) x0 x1 x2 x3 x4 (ix2 R l) := fun R => by
    rw [v17_apply, v35_apply, mul_comm]
  unfold dgain gainTerm
  simp only [e]
  unfold val_main_v59 val_main_v41 val_main_v38 val_main_v37 val_main_v36
  generalize val_main_v17 (F := Ideal) x0 x1 x2 = y17
  generalize val_main_v35 (F := Ideal) x0 x1 x2 x3 x4 = y35
  pointwise! [val_main_cst_12, val_main_cst_13]
  exact Fintype.sum_unique _

/-- The reference's loss. -/
theorem v60_apply (z : Fin 1) (l : Fin 1024) : val_main_v60 (F := Ideal) x0 x1 x2 x3 x4 (ix2 z l) = ∑ R : Fin 4096, lossTerm x0 x1 x2 x3 x4 R := by
  have e : val_main_v60 (F := Ideal) x0 x1 x2 x3 x4 (ix2 z l)
      = Ideal.ofBits .f32 0x3F000000#32 * ∑ R : Fin 4096, Ideal.div (∑ l : Fin 1024, val_main_v21 (F := Ideal) x0 x1 x2 x3 x4 (ix2 R l)
          * val_main_v21 (F := Ideal) x0 x1 x2 x3 x4 (ix2 R l)) (Ideal.ofBits .f32 0x44800000#32) := by
    unfold val_main_v60 val_main_v29 val_main_v28 val_main_v27 val_main_v25 val_main_v22
    generalize val_main_v21 (F := Ideal) x0 x1 x2 x3 x4 = y
    pointwise! [val_main_v26, val_main_cst_6, val_main_cst_7, val_main_cst_5, val_main_cst_8]
  rw [e]
  unfold lossTerm
  simp only [v21_apply]
  rw [ofBits_1024, ofBits_half, LossKernelIdeal.Value.ofBits_half_mean, sum_mul_coe _ _ (by norm_num)]
  simp only [Ideal.div_coe (show (1024 : ℝ) ≠ 0 by norm_num)]
  rw [sum_mul_coe _ _ (by norm_num), mul_comm, mul_assoc, ← EReal.coe_mul]
  norm_num

/-- The reference leaves its arguments and every counter at zero. -/
theorem frame : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run (F := Ideal) m ρ)

/-- From the same arguments kernel and reference end with the same gradients and the same loss. -/
theorem algebraic : Cert.algebraic_LossKernelIdeal_LossRefIdeal := fun m ρ m' ρ' _ h =>
  ⟨LossKernelIdeal.Value.resX m, LossKernelIdeal.Value.resY m, LossKernelIdeal.Value.resG m, LossKernelIdeal.Value.resL m,
    LossKernelIdeal.Value.run m ρ,
    (θ_run Cert.LossRefIdeal.defs _ _).mono (fun r hr c => by
      obtain ⟨e0, e1, e2, e3, e4⟩ := h c
      obtain ⟨r55, r58, r59, r60, hk⟩ := hr c
      refine ⟨r55.trans ?_, r58.trans ?_, r59.trans ?_, r60.trans ?_, hk⟩
      · rw [val_main_v55_eq, e0, e1, e2, e3, e4]
        funext i
        idx_vars i
        exact v55_apply _ _ _ _ _ _ _
      · rw [val_main_v58_eq, e0, e1, e2, e3, e4]
        funext i
        idx_vars i
        exact v58_apply _ _ _ _ _ _ _
      · rw [val_main_v59_eq, e0, e1, e2, e3, e4]
        funext i
        idx_vars i
        exact v59_apply _ _ _ _ _ _ _
      · rw [val_main_v60_eq, e0, e1, e2, e3, e4]
        funext i
        idx_vars i
        exact v60_apply _ _ _ _ _ _ _) (Cert.LossRefIdeal.Value.run (F := Ideal) m' ρ')⟩

end Cert.LossRead
end
-- ==== Proof.NormValue.lean ====
/- What the norm of the first branch leaves. -/
module

public import proofs.«01_k».proof.Proof.DhValue
public import proofs.«01_k».proof.Proof.Gen.NormKernelIdeal.Value

@[expose] public section

set_option maxRecDepth 16384

noncomputable section

open Idealize.ShloMosaic Idealize.ShloMosaic.TcCoe Idealize.SL.Sem
open Idealize.ShloMosaic.Pipeline (Dat)

namespace Cert.NormKernelIdeal.Value

open Cert.NormKernelIdeal Cert.NormKernelIdeal.Gen Cert.Rms

/-- The normalised rows times the gain. -/
def normed (x : S4096x1024.Idx → EReal) (g : S1x1024.Idx → EReal) : S4096x1024.Idx → EReal := fun i =>
  (x (ix2 (i 0) (i 1)) * rinv fun k => x (ix2 (i 0) k)) * g (ix2 0 (i 1))

/-- A tile is the normalised tile of the norm's gradient times the gain. -/
theorem pay1_apply (x : Vec Ideal S512x1024 .f32) (g : Vec Ideal S1x1024 .f32) (r : Fin 512) (l : Fin 1024) :
    k0_pay1 x g (ix2 r l) = (x (ix2 r l) * rinv fun k => x (ix2 r k)) * g (ix2 0 l) := by
  rw [← DhKernelIdeal.Value.pay5_apply,
    show k0_pay1 x g = truncf .bf16 (mulf (DhKernelIdeal.Gen.k0_pay5 x) (broadcastTo S512x1024 g broadcasts_S1x1024_S512x1024)) bitsLt_bf16_f32 from rfl]
  generalize DhKernelIdeal.Gen.k0_pay5 x = y
  pointwise! []

theorem hz : (![0, 0] : Fin 2 → Nat) = fun _ => 0 := funext fun a => by fin_cases a <;> rfl

theorem out2_eq (x : Vec Ideal S512x1024 .f32) (g : Vec Ideal S1x1024 .f32) : out0_2 x g = k0_pay1 x g := by
  unfold out0_2
  rw [View.canon_unit_zero hz, View.ld_unit_zero (S := S512x1024) hz, View.ld_unit_zero (S := S1x1024) hz]

section Blocks
variable {F : FTy → Type} [FloatOps F]

/-- Row `r` of the tile of grid point `t` is row `512 t + r` of the array. -/
abbrev row (t : Fin grid0.N) (r : Fin 512) : Fin 4096 :=
  ⟨t.val * 512 + r.val, by have ht : t.val < 8 := N_0 ▸ t.isLt; have := r.isLt; omega⟩

theorem emb_tile (t : Fin grid0.N) (off : Fin 2 → Nat) (inb : ∀ a, off a + S512x1024.size a ≤ S4096x1024.size a) (h : off 0 = t.val * 512 ∧ off 1 = 0)
    (r : Fin 512) (l : Fin 1024) : (Rect.unit (s := S4096x1024) off S512x1024.size inb).emb (ix2 r l) = ix2 (row t r) l :=
  funext fun a => Fin.ext (by
    match a with
    | ⟨0, _⟩ => show off 0 + 1 * r.val = t.val * 512 + r.val; rw [h.1]; omega
    | ⟨1, _⟩ => show off 1 + 1 * l.val = l.val; rw [h.2]; omega)

/-- The block of the whole gain. -/
theorem emb_gain (off : Fin 2 → Nat) (inb : ∀ a, off a + S1x1024.size a ≤ S1x1024.size a) (h : off 0 = 0 ∧ off 1 = 0)
    (j : S1x1024.Idx) : (Rect.unit (s := S1x1024) off S1x1024.size inb).emb j = j :=
  funext fun a => Fin.ext (by
    match a with
    | ⟨0, _⟩ => show off 0 + 1 * (j 0).val = (j 0).val; rw [h.1]; omega
    | ⟨1, _⟩ => show off 1 + 1 * (j 1).val = (j 1).val; rw [h.2]; omega)

/-- A tile that agrees with an array at its rows is read through the window's block. -/
theorem tile_at {e : EltTy} (t : Fin grid0.N) (x : Vec F S512x1024 e) (G : S4096x1024.Idx → Elt F e) (h : ∀ r l, x (ix2 r l) = G (ix2 (row t r) l))
    (off : Fin 2 → Nat) (inb : ∀ a, off a + S512x1024.size a ≤ S4096x1024.size a) (h0 : off 0 = t.val * 512 ∧ off 1 = 0) (j : S512x1024.Idx) :
    x j = G ((Rect.unit (s := S4096x1024) off S512x1024.size inb).emb j) := by
  idx_vars j
  exact (h _ _).trans (congrArg G (emb_tile t off inb h0 _ _).symm)

/-- Every entry lies in the tile of some grid point. -/
theorem tiles_cover (i : S4096x1024.Idx) (off : Fin grid0.N → Fin 2 → Nat)
    (h : ∀ t, off t 0 = t.val * 512 ∧ off t 1 = 0) : ∃ t : Fin grid0.N, ∀ a, off t a ≤ (i a : Nat) ∧ (i a : Nat) < off t a + S512x1024.size a := by
  have i0 : (i 0 : Nat) < 4096 := (i 0).isLt
  have i1 : (i 1 : Nat) < 1024 := (i 1).isLt
  refine ⟨⟨(i 0 : Nat) / 512, by rw [N_0]; omega⟩, fun a => ?_⟩
  match a with
  | ⟨0, _⟩ => show off _ 0 ≤ (i 0 : Nat) ∧ (i 0 : Nat) < off _ 0 + 512; rw [(h _).1]; dsimp only; omega
  | ⟨1, _⟩ => show off _ 1 ≤ (i 1 : Nat) ∧ (i 1 : Nat) < off _ 1 + 1024; rw [(h _).2]; omega

theorem idx0 : ∀ t : Fin grid0.N, win0_0.index t 0 * 512 = t.val * 512 ∧ win0_0.index t 1 * 1024 = 0 := by decide +kernel
theorem idx1 : ∀ t : Fin grid0.N, win0_1.index t 0 * 1 = 0 ∧ win0_1.index t 1 * 1024 = 0 := by decide +kernel
theorem idx2 : ∀ t : Fin grid0.N, win0_2.index t 0 * 512 = t.val * 512 ∧ win0_2.index t 1 * 1024 = 0 := by decide +kernel

variable (m : (ℓ : Loc nD τ sig) → Buf (Elt F) ℓ)

theorem iblk0_apply (c : Dev nD) (t : Fin cfg0.N) (r : Fin 512) (l : Fin 1024) :
    (iblk m c 0 t : Vec F S512x1024 .f32) (ix2 r l) = m ((c : Thread nD τ).loc main_arg0) (ix2 (row t r) l) := by
  unfold iblk
  rw [View.read_apply]
  exact congrArg (V m c main_arg0) (emb_tile t _ _ (idx0 t) r l)

theorem iblk1_eq (c : Dev nD) (t : Fin cfg0.N) : (iblk m c 1 t : Vec F S1x1024 .f32) = m ((c : Thread nD τ).loc main_arg1) := by
  funext j
  unfold iblk
  rw [View.read_apply]
  exact congrArg (V m c main_arg1) (emb_gain _ _ (idx1 t) j)

/-- An array whose tiles are what the points leave is the result. -/
theorem final2 (c : Dev nD) (G : S4096x1024.Idx → Elt F .bf16)
    (h : ∀ (t : Fin cfg0.N) (r : Fin 512) (l : Fin 1024), out0_2 (iblk m c 0 t) (iblk m c 1 t) (ix2 r l) = G (ix2 (row t r) l)) :
    (dats m 0 c).arrAt 2 cfg0.N = G :=
  (dats m 0 c).arrAt_eq_of_cover 2 G (fun t _ => by
    rw [flushed2]
    funext j
    rw [View.read_apply]
    exact tile_at t _ G (h t) _ _ (idx2 t) j) fun i => by
    obtain ⟨t, ht⟩ := tiles_cover i (fun t a => win0_2.index t a * win0_2.size a) idx2
    exact ⟨t, flush0_2 t, (View.set_slice_whole (main_v0) (win0_2.rect t)).symm ▸ (Rect.mem_set_unit ..).mpr ht⟩

end Blocks

variable (m : (ℓ : Loc nD τ sig) → Buf (Elt Ideal) ℓ) (ρ : Dev nD → PrngReg)

/-- The result of one device. -/
def resH (c : Dev nD) : FVec Ideal S4096x1024 .bf16 := normed (m ((c : Thread nD τ).loc main_arg0)) (m ((c : Thread nD τ).loc main_arg1))

/-- The kernel's run with its result read off the arguments. -/
theorem run : θ_run defs (onTc (τ := τ) (main (F := Ideal))) ⟨m, fun _ => 0, ρ⟩ fun r => ∀ c : Dev nD,
      r.2.mem ((c : Thread nD τ).loc main_v0) = resH m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c (resH m c) fun t r l => by
      rw [out2_eq, pay1_apply, iblk1_eq]
      simp only [iblk0_apply]
      rfl), (h c).2⟩) (run_blocks m ρ)

end Cert.NormKernelIdeal.Value
end
-- ==== Proof.NormRead.lean ====
/- What the reference of the first branch's norm leaves, and that it is what the kernel leaves. -/
module

public import proofs.«01_k».proof.Defs
public import proofs.«01_k».proof.Proof.NormValue
public import proofs.«01_k».proof.Proof.Gen.NormRefIdeal.Run
public import proofs.«01_k».proof.Proof.Gen.NormRefIdeal.Read
public import Idealize.ShloMosaic.Adequacy

@[expose] public section

set_option maxRecDepth 16384

noncomputable section

open Idealize.ShloMosaic Idealize.ShloMosaic.TcCoe Idealize.SL.Sem

namespace Cert.NormRead

open Cert.NormRefIdeal Cert.NormRefIdeal.Gen Cert.NormRefIdeal.Value Cert.NormRefIdeal.Read Cert.Rms
open Cert.NormKernelIdeal.Value (normed)

variable (x0 : (⟨S4096x1024, .f32⟩ : BufTy).Contents (Elt Ideal)) (x1 : (⟨S1x1024, .f32⟩ : BufTy).Contents (Elt Ideal))

theorem v8_apply (R : Fin 4096) (z : Fin 1) : val_main_v8 (F := Ideal) x0 (ix2 R z) = rinv fun k => x0 (ix2 R k) := by
  show Ideal.rsqrt (val_main_v7 (F := Ideal) x0 (ix2 R z)) = Ideal.rsqrt (var fun k => x0 (ix2 R k))
  refine congrArg _ ?_
  unfold var
  pointwise! [val_main_v7, val_main_v6, val_main_v5, val_main_v4, val_main_v3, val_main_v2, val_main_v1, val_main_cst, val_main_cst_0, val_main_cst_1]

/-- The reference's normalised rows times the gain. -/
theorem v14_eq : val_main_v14 (F := Ideal) x0 x1 = normed x0 x1 := by
  funext i
  idx_vars i
  show _ = (x0 (ix2 i0 i1) * rinv fun k => x0 (ix2 i0 k)) * x1 (ix2 0 i1)
  rw [← v8_apply x0 i0 0]
  unfold val_main_v14 val_main_v13 val_main_v10 val_main_v9
  generalize val_main_v8 (F := Ideal) x0 = y
  pointwise! [val_main_v12, val_main_v11, val_main_v0]

/-- The reference leaves its arguments and every counter at zero. -/
theorem frame : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

/-- From the same arguments kernel and reference end with the same result. -/
theorem algebraic : Cert.algebraic_NormKernelIdeal_NormRefIdeal := fun m ρ m' ρ' _ h =>
  ⟨NormKernelIdeal.Value.resH m, NormKernelIdeal.Value.run m ρ,
    (θ_run Cert.NormRefIdeal.defs _ _).mono (fun r hr c => by
      obtain ⟨e0, e1⟩ := h c
      refine ⟨(hr c).1.trans ?_, (hr c).2⟩
      rw [val_main_v14_eq, e0, e1]
      exact v14_eq _ _) (Cert.NormRefIdeal.Value.run (F := Ideal) m' ρ')⟩

end Cert.NormRead
end
-- ==== Proof.DownValue.lean ====
/- What the last product of the first branch leaves: the residual stream after it and its norm. -/
module

public import proofs.«01_k».proof.Proof.NormValue
public import proofs.«01_k».proof.Proof.LossValue
public import proofs.«01_k».proof.Proof.Gen.DownKernelIdeal.Value

@[expose] public section

set_option maxRecDepth 16384

noncomputable section

open Idealize.ShloMosaic Idealize.ShloMosaic.TcCoe Idealize.SL.Sem
open Idealize.ShloMosaic.Pipeline (Dat)

namespace Cert.DownKernelIdeal.Value

open Cert.DownKernelIdeal Cert.DownKernelIdeal.Gen
open Cert.NormKernelIdeal.Value (normed row emb_tile emb_gain tile_at tiles_cover hz)
open Cert.LossKernelIdeal.Value (sumX hz3)

/-- The first tile is the sum before the final norm, the second its norm times the gain. -/
theorem out4_eq (a : Vec Ideal S512x2816 .bf16) (w : Vec Ideal S1x2816x1024 .bf16) (x : Vec Ideal S512x1024 .f32) (g : Vec Ideal S1x1024 .f32) :
    out0_4 a w x g = LossKernelIdeal.Gen.k0_pay6 a w x := by
  unfold out0_4
  rw [View.canon_unit_zero hz, View.ld_unit_zero (S := S512x2816) hz, View.ld_unit_zero (S := S1x2816x1024) hz3, View.ld_unit_zero (S := S512x1024) hz]
  rfl

theorem out5_eq (a : Vec Ideal S512x2816 .bf16) (w : Vec Ideal S1x2816x1024 .bf16) (x : Vec Ideal S512x1024 .f32) (g : Vec Ideal S1x1024 .f32) :
    out0_5 a w x g = NormKernelIdeal.Gen.k0_pay1 (LossKernelIdeal.Gen.k0_pay6 a w x) g := by
  unfold out0_5
  rw [View.canon_unit_zero hz, View.ld_unit_zero (S := S512x2816) hz, View.ld_unit_zero (S := S1x2816x1024) hz3, View.ld_unit_zero (S := S512x1024) hz,
    View.ld_unit_zero (S := S1x1024) hz]
  rfl

section Blocks
variable {F : FTy → Type} [FloatOps F]

theorem idx0 : ∀ t : Fin grid0.N, win0_0.index t 0 * 512 = t.val * 512 ∧ win0_0.index t 1 * 2816 = 0 := by decide +kernel
theorem idx1 : ∀ t : Fin grid0.N, win0_1.index t 0 * 1 = 0 ∧ win0_1.index t 1 * 2816 = 0 ∧ win0_1.index t 2 * 1024 = 0 := by decide +kernel
theorem idx2 : ∀ t : Fin grid0.N, win0_2.index t 0 * 512 = t.val * 512 ∧ win0_2.index t 1 * 1024 = 0 := by decide +kernel
theorem idx3 : ∀ t : Fin grid0.N, win0_3.index t 0 * 1 = 0 ∧ win0_3.index t 1 * 1024 = 0 := by decide +kernel
theorem idx4 : ∀ t : Fin grid0.N, win0_4.index t 0 * 512 = t.val * 512 ∧ win0_4.index t 1 * 1024 = 0 := by decide +kernel
theorem idx5 : ∀ t : Fin grid0.N, win0_5.index t 0 * 512 = t.val * 512 ∧ win0_5.index t 1 * 1024 = 0 := by decide +kernel

variable (m : (ℓ : Loc nD τ sig) → Buf (Elt F) ℓ)

theorem iblk0_apply (c : Dev nD) (t : Fin cfg0.N) (r : Fin 512) (k : Fin 2816) :
    (iblk m c 0 t : Vec F S512x2816 .bf16) (ix2 r k) = V m c main_v0 (ix2 (row t r) k) := by
  have hi := idx0 t
  unfold iblk
  rw [View.read_apply]
  refine congrArg (V m c main_v0) (funext fun a => Fin.ext ?_)
  match a with
  | ⟨0, _⟩ => show win0_0.index t 0 * 512 + 1 * r.val = t.val * 512 + r.val; rw [hi.1]; omega
  | ⟨1, _⟩ => show win0_0.index t 1 * 2816 + 1 * k.val = k.val; rw [hi.2]; omega

theorem iblk1_eq (c : Dev nD) (t : Fin cfg0.N) : (iblk m c 1 t : Vec F S1x2816x1024 .bf16) = V m c main_v1 := by
  have hi := idx1 t
  funext j
  unfold iblk
  rw [View.read_apply]
  refine congrArg (V m c main_v1) (funext fun a => Fin.ext ?_)
  match a with
  | ⟨0, _⟩ => show win0_1.index t 0 * 1 + 1 * (j 0).val = (j 0).val; rw [hi.1]; omega
  | ⟨1, _⟩ => show win0_1.index t 1 * 2816 + 1 * (j 1).val = (j 1).val; rw [hi.2.1]; omega
  | ⟨2, _⟩ => show win0_1.index t 2 * 1024 + 1 * (j 2).val = (j 2).val; rw [hi.2.2]; omega

theorem iblk2_apply (c : Dev nD) (t : Fin cfg0.N) (r : Fin 512) (l : Fin 1024) :
    (iblk m c 2 t : Vec F S512x1024 .f32) (ix2 r l) = V m c main_arg0 (ix2 (row t r) l) := by
  unfold iblk
  rw [View.read_apply]
  exact congrArg (V m c main_arg0) (emb_tile t _ _ (idx2 t) r l)

theorem iblk3_eq (c : Dev nD) (t : Fin cfg0.N) : (iblk m c 3 t : Vec F S1x1024 .f32) = V m c main_arg3 := by
  funext j
  unfold iblk
  rw [View.read_apply]
  exact congrArg (V m c main_arg3) (emb_gain _ _ (idx3 t) j)

/-- An array whose tiles are what the points leave is the result. -/
theorem final4 (c : Dev nD) (G : S4096x1024.Idx → Elt F .f32)
    (h : ∀ (t : Fin cfg0.N) (r : Fin 512) (l : Fin 1024), out0_4 (iblk m c 0 t) (iblk m c 1 t) (iblk m c 2 t) (iblk m c 3 t) (ix2 r l) = G (ix2 (row t r) l)) :
    (dats m 0 c).arrAt 4 cfg0.N = G :=
  (dats m 0 c).arrAt_eq_of_cover 4 G (fun t _ => by
    rw [flushed4]
    funext j
    rw [View.read_apply]
    exact tile_at t _ G (h t) _ _ (idx4 t) j) fun i => by
    obtain ⟨t, ht⟩ := tiles_cover i (fun t a => win0_4.index t a * win0_4.size a) idx4
    exact ⟨t, flush0_4 t, (View.set_slice_whole (main_v2_0) (win0_4.rect t)).symm ▸ (Rect.mem_set_unit ..).mpr ht⟩

theorem final5 (c : Dev nD) (G : S4096x1024.Idx → Elt F .bf16)
    (h : ∀ (t : Fin cfg0.N) (r : Fin 512) (l : Fin 1024), out0_5 (iblk m c 0 t) (iblk m c 1 t) (iblk m c 2 t) (iblk m c 3 t) (ix2 r l) = G (ix2 (row t r) l)) :
    (dats m 0 c).arrAt 5 cfg0.N = G :=
  (dats m 0 c).arrAt_eq_of_cover 5 G (fun t _ => by
    rw [flushed5]
    funext j
    rw [View.read_apply]
    exact tile_at t _ G (h t) _ _ (idx5 t) j) fun i => by
    obtain ⟨t, ht⟩ := tiles_cover i (fun t a => win0_5.index t a * win0_5.size a) idx5
    exact ⟨t, flush0_5 t, (View.set_slice_whole (main_v2_1) (win0_5.rect t)).symm ▸ (Rect.mem_set_unit ..).mpr ht⟩

end Blocks

variable (m : (ℓ : Loc nD τ sig) → Buf (Elt Ideal) ℓ) (ρ : Dev nD → PrngReg)

theorem V_v0 (c : Dev nD) : (V m c main_v0 : FVec Ideal S4096x2816 .bf16) = m ((c : Thread nD τ).loc main_arg1) := by
  funext i
  show StableHlo.after hostOps0 _ (Proc.devRef .tc main_v0) _ = _
  after_results
  rfl

theorem V_v1 (c : Dev nD) : (V m c main_v1 : FVec Ideal S1x2816x1024 .bf16) = m ((c : Thread nD τ).loc main_arg2) := by
  funext i
  show StableHlo.after hostOps0 _ (Proc.devRef .tc main_v1) _ = _
  after_results
  rfl

/-- The residual stream after the branch, of one device, and its norm. -/
def resX (c : Dev nD) : FVec Ideal S4096x1024 .f32 :=
  sumX (m ((c : Thread nD τ).loc main_arg0)) (m ((c : Thread nD τ).loc main_arg1)) (m ((c : Thread nD τ).loc main_arg2))
def resH (c : Dev nD) : FVec Ideal S4096x1024 .bf16 := normed (resX m c) (m ((c : Thread nD τ).loc main_arg3))

theorem sum_apply (c : Dev nD) (t : Fin cfg0.N) (r : Fin 512) (l : Fin 1024) :
    LossKernelIdeal.Gen.k0_pay6 (iblk m c 0 t) (iblk m c 1 t) (iblk m c 2 t) (ix2 r l) = resX m c (ix2 (row t r) l) := by
  rw [LossKernelIdeal.Value.pay6_apply, iblk1_eq, V_v1, iblk2_apply, V_main_arg0]
  simp only [iblk0_apply, V_v0]
  rfl

/-- The kernel's run with its two results read off the arguments. -/
theorem run : θ_run defs (onTc (τ := τ) (main (F := Ideal))) ⟨m, fun _ => 0, ρ⟩ fun r => ∀ c : Dev nD,
      r.2.mem ((c : Thread nD τ).loc main_v2_0) = resX m c
      ∧ r.2.mem ((c : Thread nD τ).loc main_v2_1) = resH m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c (resX m c) fun t r l => by rw [out4_eq, sum_apply]),
    (h c).2.1.trans (final5 m c (resH m c) fun t r l => by
      rw [out5_eq, NormKernelIdeal.Value.pay1_apply, iblk3_eq, V_main_arg3]
      simp only [sum_apply]
      rfl), (h c).2.2⟩) (run_blocks m ρ)

end Cert.DownKernelIdeal.Value
end
-- ==== Proof.DownRead.lean ====
/- What the reference of the first branch's last product and of its norm leaves, and that it is what the kernel leaves. -/
module

public import proofs.«01_k».proof.Defs
public import proofs.«01_k».proof.Proof.DownValue
public import proofs.«01_k».proof.Proof.Gen.DownRefIdeal.Run
public import proofs.«01_k».proof.Proof.Gen.DownRefIdeal.Read
public import Idealize.ShloMosaic.Adequacy

@[expose] public section

set_option maxRecDepth 16384

noncomputable section

open Idealize.ShloMosaic Idealize.ShloMosaic.TcCoe Idealize.SL.Sem

namespace Cert.DownRead

open Cert.DownRefIdeal Cert.DownRefIdeal.Gen Cert.DownRefIdeal.Value Cert.DownRefIdeal.Read Cert.Rms
open Cert.NormKernelIdeal.Value (normed)
open Cert.LossKernelIdeal.Value (sumX)

variable (x0 : (⟨S4096x1024, .f32⟩ : BufTy).Contents (Elt Ideal)) (x1 : (⟨S4096x2816, .f32⟩ : BufTy).Contents (Elt Ideal))
variable (x2 : (⟨S1x2816x1024, .f32⟩ : BufTy).Contents (Elt Ideal)) (x3 : (⟨S1x1024, .f32⟩ : BufTy).Contents (Elt Ideal))

/-- The residual stream after the branch. -/
theorem v4_eq : val_main_v4 (F := Ideal) x0 x1 x2 = sumX x0 x1 x2 := by
  funext i
  idx_vars i
  show _ = (x0 (ix2 i0 i1) + Ideal.ofBits .f32 0x3F000000#32 * ∑ k : Fin 2816, x1 (ix2 i0 k) * x2 (ix3 0 k i1) : EReal)
  pointwise! [val_main_v4, val_main_v3, val_main_v2, val_main_v1, val_main_v0, val_main_cst]

theorem v13_apply (R : Fin 4096) (z : Fin 1) : val_main_v13 (F := Ideal) x0 x1 x2 (ix2 R z) = rinv fun k => sumX x0 x1 x2 (ix2 R k) := by
  show Ideal.rsqrt (val_main_v12 (F := Ideal) x0 x1 x2 (ix2 R z)) = Ideal.rsqrt (var fun k => sumX x0 x1 x2 (ix2 R k))
  refine congrArg _ ?_
  unfold var val_main_v12 val_main_v10 val_main_v8 val_main_v7 val_main_v6
  rw [v4_eq]
  generalize sumX x0 x1 x2 = y
  pointwise! [val_main_v11, val_main_v9, val_main_cst_0, val_main_cst_1, val_main_cst_2]

/-- Its norm times the gain. -/
theorem v19_eq : val_main_v19 (F := Ideal) x0 x1 x2 x3 = normed (sumX x0 x1 x2) x3 := by
  funext i
  idx_vars i
  show _ = (sumX x0 x1 x2 (ix2 i0 i1) * rinv fun k => sumX x0 x1 x2 (ix2 i0 k)) * x3 (ix2 0 i1)
  rw [← v13_apply x0 x1 x2 i0 0]
  unfold val_main_v19 val_main_v18 val_main_v15 val_main_v14
  rw [v4_eq]
  generalize sumX x0 x1 x2 = y
  generalize val_main_v13 (F := Ideal) x0 x1 x2 = y13
  pointwise! [val_main_v17, val_main_v16, val_main_v5]

/-- The reference leaves its arguments and every counter at zero. -/
theorem frame : Cert.quiescent_DownRefIdeal := fun m ρ _ =>
  (θ_run Cert.DownRefIdeal.defs _ _).mono (fun r h => ⟨fun c => (h c).2.2, sem_eq_zero_of_no_sems (by decide) r.2⟩)
    (Cert.DownRefIdeal.Value.run (F := Ideal) m ρ)

/-- From the same arguments kernel and reference end with the same results. -/
theorem algebraic : Cert.algebraic_DownKernelIdeal_DownRefIdeal := fun m ρ m' ρ' _ h =>
  ⟨DownKernelIdeal.Value.resX m, DownKernelIdeal.Value.resH m, DownKernelIdeal.Value.run m ρ,
    (θ_run Cert.DownRefIdeal.defs _ _).mono (fun r hr c => by
      obtain ⟨e0, e1, e2, e3⟩ := h c
      refine ⟨(hr c).1.trans ?_, (hr c).2.1.trans ?_, (hr c).2.2⟩
      · rw [val_main_v4_eq, e0, e1, e2]
        exact v4_eq _ _ _
      · rw [val_main_v19_eq, e0, e1, e2, e3]
        exact v19_eq _ _ _ _) (Cert.DownRefIdeal.Value.run (F := Ideal) m' ρ')⟩

end Cert.DownRead
end
-- ==== Proof.ProjValue.lean ====
/- What the mixer's input product leaves: every row of the rows times every column of the matrix. -/
module

public import proofs.«01_k».proof.Proof.NormValue
public import proofs.«01_k».proof.Proof.GateValue
public import proofs.«01_k».proof.Proof.Gen.ProjKernelIdeal.Value

@[expose] public section

set_option maxRecDepth 16384

noncomputable section

open Idealize.ShloMosaic Idealize.ShloMosaic.TcCoe Idealize.SL.Sem
open Idealize.ShloMosaic.Pipeline (Dat)

namespace Cert.ProjKernelIdeal.Value

open Cert.ProjKernelIdeal Cert.ProjKernelIdeal.Gen
open Cert.GateKernelIdeal.Value (ld_rows hz3)

theorem pay2_apply (x : Vec Ideal S1024x1024 .bf16) (w : Vec Ideal S1x640x1024 .bf16) (r : Fin 1024) (l : Fin 640) :
    k0_pay2 x w (ix2 r l) = (∑ k : Fin 1024, x (ix2 r k) * w (ix3 0 l k) : EReal) := by
  pointwise! [k0_pay2]

/-- The products of the rows with the rows of the matrix's block. -/
abbrev dots (x : FVec Ideal S4096x1024 .bf16) (w : FVec Ideal S1x640x1024 .bf16) : FVec Ideal S4096x640 .bf16 := fun i =>
  (∑ k : Fin 1024, x (ix2 (i 0) k) * w (ix3 0 (i 1) k) : EReal)

/-- A grid point leaves these products, in four row pieces. -/
theorem out_eq (x : Vec Ideal S4096x1024 .bf16) (w : Vec Ideal S1x640x1024 .bf16) : out0_2 x w = dots x w := by
  have e : ∀ (n : Nat) (h : ∀ a, (![n, 0] : Fin 2 → Nat) a + S1024x640.size a ≤ S4096x640.size a) (h' : ∀ a, (![n, 0] : Fin 2 → Nat) a + S1024x1024.size a ≤ S4096x1024.size a)
      (j : S1024x640.Idx), k0_pay2 (View.ld x (Rect.unit (s := S4096x1024) ![n, 0] S1024x1024.size h')) (View.ld w r0_1) j
        = dots x w ((Rect.unit (s := S4096x640) ![n, 0] S1024x640.size h).emb j) := fun n h h' j => by
    have hn : ∀ r : Fin 1024, n + r.val < 4096 := fun r => by have := h 0; have := r.isLt; change n + 1024 ≤ 4096 at *; omega
    idx_vars j
    rw [pay2_apply, View.ld_unit_zero (S := S1x640x1024) hz3]
    refine Finset.sum_congr rfl fun k _ => ?_
    rw [ld_rows n x h' j0 k (hn j0)]
    refine congrArg₂ (fun a b : EReal => a * b) (congrArg x (funext fun a => Fin.ext ?_)) (congrArg w (funext fun a => Fin.ext ?_))
    · match a with
      | ⟨0, _⟩ => show n + j0.val = n + 1 * j0.val; omega
      | ⟨1, _⟩ => rfl
    · match a with
      | ⟨0, _⟩ => rfl
      | ⟨1, _⟩ => show j1.val = 0 + 1 * j1.val; omega
      | ⟨2, _⟩ => rfl
  refine funext fun y => View.canon_apply_of_pieces _ _ (fun p hp => ?_) y (cover0_2 _ _ _ _ y)
  simp only [List.mem_cons, List.not_mem_nil, or_false] at hp
  rcases hp with rfl | rfl | rfl | rfl
  · exact e 3072 inb_S4096x640_S1024x640_3072_0 inb_S4096x1024_S1024x1024_3072_0
  · exact e 2048 inb_S4096x640_S1024x640_2048_0 inb_S4096x1024_S1024x1024_2048_0
  · exact e 1024 inb_S4096x640_S1024x640_1024_0 inb_S4096x1024_S1024x1024_1024_0
  · exact e 0 inb_S4096x640_S1024x640_0_0 inb_S4096x1024_S1024x1024_0_0

section Blocks
variable {F : FTy → Type} [FloatOps F]

/-- Column `l` of the block of grid point `t` is column `640 t + l` of the array. -/
abbrev col (t : Fin grid0.N) (l : Fin 640) : Fin 3200 :=
  ⟨t.val * 640 + l.val, by have ht : t.val < 5 := N_0 ▸ t.isLt; have := l.isLt; omega⟩

theorem idx0 : ∀ t : Fin grid0.N, win0_0.index t 0 = 0 ∧ win0_0.index t 1 = 0 := by decide +kernel
theorem idx1 : ∀ t : Fin grid0.N, win0_1.index t 0 = 0 ∧ win0_1.index t 1 = t.val ∧ win0_1.index t 2 = 0 := by decide +kernel
theorem idx2 : ∀ t : Fin grid0.N, win0_2.index t 0 = 0 ∧ win0_2.index t 1 = t.val := by decide +kernel

variable (m : (ℓ : Loc nD τ sig) → Buf (Elt F) ℓ)

theorem iblk0_eq (c : Dev nD) (t : Fin cfg0.N) : (iblk m c 0 t : Vec F S4096x1024 .bf16) = V m c main_v4 := by
  funext j
  unfold iblk
  rw [View.read_apply]
  refine congrArg (V m c main_v4) (funext fun a => Fin.ext ?_)
  match a with
  | ⟨0, _⟩ => show win0_0.index t 0 * 4096 + 1 * (j 0).val = (j 0).val; rw [(idx0 t).1]; omega
  | ⟨1, _⟩ => show win0_0.index t 1 * 1024 + 1 * (j 1).val = (j 1).val; rw [(idx0 t).2]; omega

theorem iblk1_apply (c : Dev nD) (t : Fin cfg0.N) (l : Fin 640) (k : Fin 1024) :
    (iblk m c 1 t : Vec F S1x640x1024 .bf16) (ix3 0 l k) = V m c main_v3 (ix3 0 (col t l) k) := by
  have hi := idx1 t
  unfold iblk
  rw [View.read_apply]
  refine congrArg (V m c main_v3) (funext fun a => Fin.ext ?_)
  match a with
  | ⟨0, _⟩ => show win0_1.index t 0 * 1 + 1 * 0 = 0; rw [hi.1]
  | ⟨1, _⟩ => show win0_1.index t 1 * 640 + 1 * l.val = t.val * 640 + l.val; rw [hi.2.1]; omega
  | ⟨2, _⟩ => show win0_1.index t 2 * 1024 + 1 * k.val = k.val; rw [hi.2.2]; omega

/-- An array whose column blocks are what the points leave is the result. -/
theorem final2 (c : Dev nD) (G : S4096x3200.Idx → Elt F .bf16)
    (h : ∀ (t : Fin cfg0.N) (r : Fin 4096) (l : Fin 640), out0_2 (iblk m c 0 t) (iblk m c 1 t) (ix2 r l) = G (ix2 r (col t l))) :
    (dats m 0 c).arrAt 2 cfg0.N = G :=
  (dats m 0 c).arrAt_eq_of_cover 2 G (fun t _ => by
    rw [flushed2]
    funext j
    rw [View.read_apply]
    obtain ⟨r, l, rfl⟩ : ∃ (r : Fin 4096) (l : Fin 640), j = ix2 r l := ⟨j 0, j 1, funext fun a => by match a with | ⟨0, _⟩ => rfl | ⟨1, _⟩ => rfl⟩
    refine (h t r l).trans (congrArg G (funext fun a => Fin.ext ?_))
    match a with
    | ⟨0, _⟩ => show r.val = win0_2.index t 0 * 4096 + 1 * r.val; rw [(idx2 t).1]; omega
    | ⟨1, _⟩ => show t.val * 640 + l.val = win0_2.index t 1 * 640 + 1 * l.val; rw [(idx2 t).2]; omega) fun i => by
    have h0 : (i 0 : Nat) < 4096 := (i 0).isLt
    have h1 : (i 1 : Nat) < 3200 := (i 1).isLt
    let t : Fin cfg0.N := ⟨(i 1 : Nat) / 640, by show _ < grid0.N; rw [N_0]; omega⟩
    have ht : ∀ a, win0_2.index t a * win0_2.size a ≤ (i a : Nat) ∧ (i a : Nat) < win0_2.index t a * win0_2.size a + win0_2.size a := fun a => by
      match a with
      | ⟨0, _⟩ => show win0_2.index t 0 * 4096 ≤ (i 0 : Nat) ∧ (i 0 : Nat) < win0_2.index t 0 * 4096 + 4096; rw [(idx2 t).1]; omega
      | ⟨1, _⟩ => show win0_2.index t 1 * 640 ≤ (i 1 : Nat) ∧ (i 1 : Nat) < win0_2.index t 1 * 640 + 640; rw [(idx2 t).2]; dsimp only [t]; omega
    exact ⟨t, flush0_2 t, (View.set_slice_whole (main_v5) (win0_2.rect t)).symm ▸ (Rect.mem_set_unit ..).mpr ht⟩

end Blocks

variable (m : (ℓ : Loc nD τ sig) → Buf (Elt Ideal) ℓ) (ρ : Dev nD → PrngReg)

theorem V_v4 (c : Dev nD) : (V m c main_v4 : FVec Ideal S4096x1024 .bf16) = m ((c : Thread nD τ).loc main_arg0) := by
  funext i
  show StableHlo.after hostOps0 _ (Proc.devRef .tc main_v4) _ = _
  after_results
  rfl

/-- A matrix turned and given a unit axis in front. -/
theorem turned_apply (x : FVec Ideal S1x1024x3200 .f32) (L : Fin 3200) (k : Fin 1024) :
    (broadcastInDim S1x3200x1024 ![1, 2] bcast_S3200x1024_S1x3200x1024_1_2
      (truncf .bf16 (transpose S3200x1024 [1, 0] (shapeCast S1024x3200 x shapeCasts_S1x1024x3200_S1024x3200) transposes_S1024x3200_S3200x1024_1_0) bitsLt_bf16_f32)
        : FVec Ideal S1x3200x1024 .bf16) (ix3 0 L k) = x (ix3 0 k L) := by
  pointwise! []

theorem V_v3 (c : Dev nD) (L : Fin 3200) (k : Fin 1024) : (V m c main_v3 : FVec Ideal S1x3200x1024 .bf16) (ix3 0 L k) = m ((c : Thread nD τ).loc main_arg1) (ix3 0 k L) := by
  show StableHlo.after hostOps0 _ (Proc.devRef .tc main_v3) _ = _
  after_results
  exact turned_apply _ L k

/-- The product of the rows with a matrix. -/
def product (h : FVec Ideal S4096x1024 .f32) (w : FVec Ideal S1x1024x3200 .f32) : FVec Ideal S4096x3200 .bf16 := fun i =>
  (∑ k : Fin 1024, h (ix2 (i 0) k) * w (ix3 0 k (i 1)) : EReal)

/-- The products of a grid point's blocks are the result's. -/
theorem dots_apply (c : Dev nD) (t : Fin cfg0.N) (r : Fin 4096) (l : Fin 640) : dots (iblk m c 0 t) (iblk m c 1 t) (ix2 r l)
    = product (m ((c : Thread nD τ).loc main_arg0)) (m ((c : Thread nD τ).loc main_arg1)) (ix2 r (col t l)) := by
  exact Finset.sum_congr rfl fun k _ => congrArg₂ (fun a b : EReal => a * b) ((congrFun (iblk0_eq m c t) (ix2 r k)).trans (congrFun (V_v4 m c) _))
    ((iblk1_apply m c t l k).trans (V_v3 m c _ k))

/-- The kernel's run with its result read off the arguments. -/
theorem run : θ_run defs (onTc (τ := τ) (main (F := Ideal))) ⟨m, fun _ => 0, ρ⟩ fun r => ∀ c : Dev nD,
      r.2.mem ((c : Thread nD τ).loc main_v5) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c _ fun t r l => by
    rw [out_eq]
    exact dots_apply m c t r l), (h c).2⟩) (run_blocks m ρ)

end Cert.ProjKernelIdeal.Value
end
-- ==== Proof.ProjRead.lean ====
/- What the reference of the mixer's input product leaves, and that it is what the kernel leaves. -/
module

public import proofs.«01_k».proof.Defs
public import proofs.«01_k».proof.Proof.ProjValue
public import proofs.«01_k».proof.Proof.Gen.ProjRefIdeal.Run
public import proofs.«01_k».proof.Proof.Gen.ProjRefIdeal.Read
public import Idealize.ShloMosaic.Adequacy

@[expose] public section

set_option maxRecDepth 16384

noncomputable section

open Idealize.ShloMosaic Idealize.ShloMosaic.TcCoe Idealize.SL.Sem

namespace Cert.ProjRead

open Cert.ProjRefIdeal Cert.ProjRefIdeal.Gen Cert.ProjRefIdeal.Value Cert.ProjRefIdeal.Read
open Cert.ProjKernelIdeal.Value (product)

theorem v2_eq (x0 : (⟨S4096x1024, .f32⟩ : BufTy).Contents (Elt Ideal)) (x1 : (⟨S1x1024x3200, .f32⟩ : BufTy).Contents (Elt Ideal)) :
    val_main_v2 (F := Ideal) x0 x1 = product x0 x1 := by
  funext i
  idx_vars i
  show _ = (∑ k : Fin 1024, x0 (ix2 i0 k) * x1 (ix3 0 k i1) : EReal)
  pointwise! [val_main_v2, val_main_v1, val_main_v0]

/-- The reference leaves its arguments and every counter at zero. -/
theorem frame : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

/-- From the same arguments kernel and reference end with the same result. -/
theorem algebraic : Cert.algebraic_ProjKernelIdeal_ProjRefIdeal := fun m ρ m' ρ' _ h =>
  ⟨_, ProjKernelIdeal.Value.run m ρ,
    (θ_run Cert.ProjRefIdeal.defs _ _).mono (fun r hr c => by
      obtain ⟨e0, e1⟩ := h c
      refine ⟨(hr c).1.trans ?_, (hr c).2⟩
      rw [val_main_v2_eq, e0, e1]
      exact v2_eq _ _) (Cert.ProjRefIdeal.Value.run (F := Ideal) m' ρ')⟩

end Cert.ProjRead
end
-- ==== Proof.DwinValue.lean ====
/- What the gradient of the mixer's input matrix leaves: each block is the sum of two halves of the rows, taken one after the other. -/
module

public import proofs.«01_k».proof.Proof.NormValue
public import proofs.«01_k».proof.Proof.Gen.DwinKernelIdeal.Value

@[expose] public section

set_option maxRecDepth 16384

noncomputable section

open Idealize.ShloMosaic Idealize.ShloMosaic.TcCoe Idealize.SL.Sem
open Idealize.ShloMosaic.Pipeline (Dat)

namespace Cert.DwinKernelIdeal.Value

open Cert.DwinKernelIdeal Cert.DwinKernelIdeal.Gen
open Cert.NormKernelIdeal.Value (hz)

theorem pay1_apply (r : Fin 640) (l : Fin 1024) : (k0_pay1 : FVec Ideal S640x1024 .f32) (ix2 r l) = (0 : EReal) := by
  pointwise! [k0_pay1]

theorem pay2_apply (z : Vec Ideal S640x1024 .f32) (a : Vec Ideal S2048x640 .bf16) (b : Vec Ideal S2048x1024 .bf16) (r : Fin 640) (l : Fin 1024) :
    k0_pay2 z a b (ix2 r l) = (z (ix2 r l) + ∑ k : Fin 2048, a (ix2 k r) * b (ix2 k l) : EReal) := by
  pointwise! [k0_pay2]

theorem pay3_apply (z : Vec Ideal S640x1024 .f32) (r : Fin 640) (l : Fin 1024) : k0_pay3 z (ix2 r l) = z (ix2 r l) := by
  pointwise! [k0_pay3]

section Blocks
variable {F : FTy → Type} [FloatOps F]
variable (m : (ℓ : Loc nD τ sig) → Buf (Elt F) ℓ)

/-- An even point starts the sum from the zero block. -/
theorem sum_A (c : Dev nD) (t : Fin cfg0.N) (h0 : t.val % 2 = 0) (h1 : ¬t.val % 2 = 1) :
    (outsAt0 m c t.val t.isLt).2 = k0_pay2 k0_pay1 (iblk m c 0 t) (iblk m c 1 t) := by
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  rw [View.canon_cons_unit_zero (S := S640x1024) hz, View.readCov_unit_zero (S := S640x1024) _ hz]
  simp only [View.readAt_eq_ld, (hs0_0 t).read_unread, (hs0_1 t).read_unread, View.ld_unit_zero (S := S2048x640) hz, View.ld_unit_zero (S := S2048x1024) hz, shapeCast_self]

/-- An odd point adds to it and leaves the block of the result. -/
theorem out_B (c : Dev nD) (t : Fin cfg0.N) (h0 : ¬t.val % 2 = 0) (h1 : t.val % 2 = 1) : (outsAt0 m c t.val t.isLt).1
    = k0_pay3 (k0_pay2 (outsAt0 m c (t.val - 1) (Nat.lt_of_le_of_lt (Nat.sub_le _ _) t.isLt)).2 (iblk m c 0 t) (iblk m c 1 t)) := by
  rw [outsAt0_B m c t h0 h1]
  dsimp only
  unfold out0_B_2
  rw [View.read_writes_eq_canon _ _ _ (cover0_B_2 c _ _ _ _ _ _ _ _ _ _ _ _ _ _)]
  unfold kernelRun0_B
  dsimp only
  sl_unfold_words
  rw [View.canon_unit_zero hz, View.readCov_unit_zero (S := S640x1024) _ hz]
  simp only [View.readAt_eq_ld, (hs0_0 t).read_unread, (hs0_1 t).read_unread, (Memref.isWhole_whole _).read_unread,
    View.ld_unit_zero (S := S2048x640) hz, View.ld_unit_zero (S := S2048x1024) hz, View.ld_unit_zero (S := S640x1024) hz, shapeCast_self]

theorem idx0 : ∀ t : Fin grid0.N, win0_0.index t 0 = t.val % 2 ∧ win0_0.index t 1 = t.val / 2 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = 0 := by decide +kernel

/-- Row `k` of the half of the rows that point `t` takes, and row `r` of its block of the result. -/
abbrev half (t : Fin grid0.N) (k : Fin 2048) : Fin 4096 :=
  ⟨t.val % 2 * 2048 + k.val, by have := k.isLt; omega⟩
abbrev blk (t : Fin grid0.N) (r : Fin 640) : Fin 3200 :=
  ⟨t.val / 2 * 640 + r.val, by have ht : t.val < 10 := N_0 ▸ t.isLt; have := r.isLt; omega⟩

theorem iblk0_apply (c : Dev nD) (t : Fin cfg0.N) (k : Fin 2048) (r : Fin 640) :
    (iblk m c 0 t : Vec F S2048x640 .bf16) (ix2 k r) = V m c main_v0 (ix2 (half t k) (blk t r)) := by
  unfold iblk
  rw [View.read_apply]
  refine congrArg (V m c main_v0) (funext fun a => Fin.ext ?_)
  match a with
  | ⟨0, _⟩ => show win0_0.index t 0 * 2048 + 1 * k.val = t.val % 2 * 2048 + k.val; rw [(idx0 t).1]; omega
  | ⟨1, _⟩ => show win0_0.index t 1 * 640 + 1 * r.val = t.val / 2 * 640 + r.val; rw [(idx0 t).2]; omega

theorem iblk1_apply (c : Dev nD) (t : Fin cfg0.N) (k : Fin 2048) (l : Fin 1024) :
    (iblk m c 1 t : Vec F S2048x1024 .bf16) (ix2 k l) = V m c main_v1 (ix2 (half t k) l) := by
  unfold iblk
  rw [View.read_apply]
  refine congrArg (V m c main_v1) (funext fun a => Fin.ext ?_)
  match a with
  | ⟨0, _⟩ => show win0_1.index t 0 * 2048 + 1 * k.val = t.val % 2 * 2048 + k.val; rw [(idx1 t).1]; omega
  | ⟨1, _⟩ => show win0_1.index t 1 * 1024 + 1 * l.val = l.val; rw [(idx1 t).2]; omega

/-- An array whose blocks are what the odd points leave is the result. -/
theorem final (c : Dev nD) (G : S3200x1024.Idx → Elt F .bf16)
    (h : ∀ (t : Fin cfg0.N) (_ : t.val % 2 = 1) (r : Fin 640) (l : Fin 1024), (outsAt0 m c t.val t.isLt).1 (ix2 r l) = G (ix2 (blk t r) l)) :
    (dats m 0 c).arrAt 2 cfg0.N = G :=
  (dats m 0 c).arrAt_eq_of_cover 2 G (fun t hf => by
    rw [flushed2]
    funext j
    rw [View.read_apply]
    obtain ⟨r, l, rfl⟩ : ∃ (r : Fin 640) (l : Fin 1024), j = ix2 r l := ⟨j 0, j 1, funext fun a => by match a with | ⟨0, _⟩ => rfl | ⟨1, _⟩ => rfl⟩
    refine (h t ((flush0_2 t).mp hf) r l).trans (congrArg G (funext fun a => Fin.ext ?_))
    match a with
    | ⟨0, _⟩ => show t.val / 2 * 640 + r.val = win0_2.index t 0 * 640 + 1 * r.val; rw [(idx2 t).1]; omega
    | ⟨1, _⟩ => show l.val = win0_2.index t 1 * 1024 + 1 * l.val; rw [(idx2 t).2]; omega) fun i => (covered_iff2 i).2 (by
    have h0 : (i 0).val < 3200 := (i 0).isLt; have h1 : (i 1).val < 1024 := (i 1).isLt; omega)

end Blocks

variable (m : (ℓ : Loc nD τ sig) → Buf (Elt Ideal) ℓ) (ρ : Dev nD → PrngReg)

theorem V_v0 (c : Dev nD) : (V m c main_v0 : FVec Ideal S4096x3200 .bf16) = m ((c : Thread nD τ).loc main_arg1) := by
  funext i
  show StableHlo.after hostOps0 _ (Proc.devRef .tc main_v0) _ = _
  after_results
  rfl

theorem V_v1 (c : Dev nD) : (V m c main_v1 : FVec Ideal S4096x1024 .bf16) = m ((c : Thread nD τ).loc main_arg0) := by
  funext i
  show StableHlo.after hostOps0 _ (Proc.devRef .tc main_v1) _ = _
  after_results
  rfl

/-- The gradient of the matrix: the columns of the cotangent times the columns of the rows. -/
def grad (h : FVec Ideal S4096x1024 .f32) (d : FVec Ideal S4096x3200 .f32) : FVec Ideal S3200x1024 .bf16 := fun i =>
  (∑ k : Fin 4096, d (ix2 k (i 0)) * h (ix2 k (i 1)) : EReal)

/-- A sum over all rows is the sum over its two halves. -/
theorem sum_halves (f : Fin 4096 → EReal) : ∑ k, f k = ∑ k : Fin 2048, f ⟨k.val, by have := k.isLt; omega⟩ + ∑ k : Fin 2048, f ⟨2048 + k.val, by have := k.isLt; omega⟩ :=
  Fin.sum_univ_add (a := 2048) (b := 2048) f

theorem out_apply (c : Dev nD) (t : Fin cfg0.N) (ht : t.val % 2 = 1) (r : Fin 640) (l : Fin 1024) : (outsAt0 m c t.val t.isLt).1 (ix2 r l)
    = grad (m ((c : Thread nD τ).loc main_arg0)) (m ((c : Thread nD τ).loc main_arg1)) (ix2 (blk t r) l) := by
  have hs : t.val - 1 < cfg0.N := Nat.lt_of_le_of_lt (Nat.sub_le _ _) t.isLt
  rw [out_B m c t (by omega) ht, pay3_apply, pay2_apply, sum_A m c ⟨t.val - 1, hs⟩ (by dsimp only; omega) (by dsimp only; omega), pay2_apply, pay1_apply, zero_add]
  refine Eq.trans ?_ (sum_halves _).symm
  refine congrArg₂ (fun a b : EReal => a + b) (Finset.sum_congr rfl fun k _ => ?_) (Finset.sum_congr rfl fun k _ => ?_)
  all_goals
    refine congrArg₂ (fun a b : EReal => a * b) ((iblk0_apply m c _ k r).trans ((congrFun (V_v0 m c) _).trans (congrArg _ (congrArg₂ ix2 (Fin.ext ?_) (Fin.ext ?_)))))
      ((iblk1_apply m c _ k l).trans ((congrFun (V_v1 m c) _).trans (congrArg _ (congrArg₂ ix2 (Fin.ext ?_) rfl))))
  · show (t.val - 1) % 2 * 2048 + k.val = k.val; omega
  · show (t.val - 1) / 2 * 640 + r.val = t.val / 2 * 640 + r.val; omega
  · show (t.val - 1) % 2 * 2048 + k.val = k.val; omega
  · show t.val % 2 * 2048 + k.val = 2048 + k.val; omega
  · rfl
  · show t.val % 2 * 2048 + k.val = 2048 + k.val; omega

/-- The kernel's run with its result read off the arguments. -/
theorem run_grad : θ_run defs (onTc (τ := τ) (main (F := Ideal))) ⟨m, fun _ => 0, ρ⟩ fun r => ∀ c : Dev nD,
      r.2.mem ((c : Thread nD τ).loc main_v2) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c _ fun t ht r l => out_apply m c t ht r l), (h c).2⟩) (run_blocks m ρ)

end Cert.DwinKernelIdeal.Value
end
-- ==== Proof.DwinRead.lean ====
/- What the reference of the gradient of the mixer's input matrix leaves, and that it is what the kernel leaves. -/
module

public import proofs.«01_k».proof.Defs
public import proofs.«01_k».proof.Proof.DwinValue
public import proofs.«01_k».proof.Proof.Gen.DwinRefIdeal.Run
public import proofs.«01_k».proof.Proof.Gen.DwinRefIdeal.Read
public import Idealize.ShloMosaic.Adequacy

@[expose] public section

set_option maxRecDepth 16384

noncomputable section

open Idealize.ShloMosaic Idealize.ShloMosaic.TcCoe Idealize.SL.Sem

namespace Cert.DwinRead

open Cert.DwinRefIdeal Cert.DwinRefIdeal.Gen Cert.DwinRefIdeal.Value Cert.DwinRefIdeal.Read
open Cert.DwinKernelIdeal.Value (grad)

theorem v5_eq (x0 : (⟨S4096x1024, .f32⟩ : BufTy).Contents (Elt Ideal)) (x1 : (⟨S4096x3200, .f32⟩ : BufTy).Contents (Elt Ideal)) :
    val_main_v5 (F := Ideal) x0 x1 = grad x0 x1 := by
  funext i
  idx_vars i
  show _ = (∑ k : Fin 4096, x1 (ix2 k i0) * x0 (ix2 k i1) : EReal)
  pointwise! [val_main_v5, val_main_v4, val_main_v3, val_main_v2]

/-- The reference leaves its arguments and every counter at zero. -/
theorem frame : Cert.quiescent_DwinRefIdeal := fun m ρ _ =>
  (θ_run Cert.DwinRefIdeal.defs _ _).mono (fun r h => ⟨fun c => (h c).2, sem_eq_zero_of_no_sems (by decide) r.2⟩)
    (Cert.DwinRefIdeal.Value.run (F := Ideal) m ρ)

/-- From the same arguments kernel and reference end with the same result. -/
theorem algebraic : Cert.algebraic_DwinKernelIdeal_DwinRefIdeal := fun m ρ m' ρ' _ h =>
  ⟨_, DwinKernelIdeal.Value.run_grad m ρ,
    (θ_run Cert.DwinRefIdeal.defs _ _).mono (fun r hr c => by
      obtain ⟨e0, e1⟩ := h c
      refine ⟨(hr c).1.trans ?_, (hr c).2⟩
      rw [val_main_v5_eq, e0, e1]
      exact v5_eq _ _) (Cert.DwinRefIdeal.Value.run (F := Ideal) m' ρ')⟩

end Cert.DwinRead
end
-- ==== Proof.AdamValue.lean ====
/- What the optimiser's call leaves: every entry's step and two moments, with the last axis of the arrays in front. -/
module

public import proofs.«01_k».proof.Proof.GateValue
public import proofs.«01_k».proof.Proof.Gen.AdamKernelIdeal.Value

@[expose] public section

set_option maxRecDepth 16384

noncomputable section

open Idealize.ShloMosaic Idealize.ShloMosaic.TcCoe Idealize.SL.Sem
open Idealize.ShloMosaic.Pipeline (Dat)

namespace Cert.AdamKernelIdeal.Value

open Cert.AdamKernelIdeal Cert.AdamKernelIdeal.Gen
open Cert.GateKernelIdeal.Value (hz3)

section Entry
variable {F : FTy → Type} [FloatOps F]

/-- The first moment of a gradient's entry `g` after `m`. -/
abbrev mean (g m : F .f32) : F .f32 :=
  FloatOps.addf (FloatOps.mulf (Scalar.ofBits .f32 0x3F666666#32) m) (FloatOps.mulf (Scalar.ofBits .f32 0x3DCCCCCD#32) g)

/-- The second moment of a gradient's entry `g` after `v`. -/
abbrev square (g v : F .f32) : F .f32 :=
  FloatOps.addf (FloatOps.mulf (Scalar.ofBits .f32 0x3F7FBE77#32) v) (FloatOps.mulf (Scalar.ofBits .f32 0x3A83126F#32) (FloatOps.mulf g g))

/-- The step of a parameter `w`, from its gradient and moments. -/
abbrev step (w g m v : F .f32) : F .f32 :=
  FloatOps.mulf (Scalar.ofBits .f32 0xBA83126F#32) (FloatOps.addf (FloatOps.divf (FloatOps.divf (mean g m) (Scalar.ofBits .f32 0x3F26BD02#32))
    (FloatOps.addf (FloatOps.sqrt (FloatOps.divf (square g v) (Scalar.ofBits .f32 0x3C231ACC#32))) (Scalar.ofBits .f32 0x322BCC77#32)))
    (FloatOps.mulf (Scalar.ofBits .f32 0x3C23D70A#32) w))

variable (g w mo vo : Vec F S193x1x1024 .f32)

theorem same (y : S193x1x1024.Idx) (x : Vec F S193x1x1024 .f32) (z : S193x1x1024.Idx) (h : (z 0).val = (y 0).val ∧ (z 2).val = (y 2).val) :
    View.ld x r0_0 z = x y :=
  (congrFun (View.ld_unit_zero (S := S193x1x1024) hz3 _ x) z).trans (congrArg x (funext fun a => Fin.ext (by
    match a with
    | ⟨0, _⟩ => exact h.1
    | ⟨1, _⟩ => have h1 : (z 1).val < 1 := (z 1).isLt; have h2 : (y 1).val < 1 := (y 1).isLt; show (z 1).val = (y 1).val; omega
    | ⟨2, _⟩ => exact h.2)))

theorem out4_eq (y : S193x1x1024.Idx) : out0_4 g w mo vo y = step (w y) (g y) (mo y) (vo y) := by
  refine (canon4_eq _ _ _ _ y).trans ?_
  dsimp only [E4]
  rw [same y mo (ix4_0 y) ⟨rfl, rfl⟩, same y g (ix4_1 y) ⟨rfl, rfl⟩, same y vo (ix4_2 y) ⟨rfl, rfl⟩, same y w (ix4_5 y) ⟨rfl, rfl⟩]

theorem out5_eq (y : S193x1x1024.Idx) : out0_5 g w mo vo y = mean (g y) (mo y) := by
  refine (canon5_eq _ _ y).trans ?_
  dsimp only [E5]
  rw [same y mo (ix5_0 y) ⟨rfl, rfl⟩, same y g (ix5_1 y) ⟨rfl, rfl⟩]

theorem out6_eq (y : S193x1x1024.Idx) : out0_6 g w mo vo y = square (g y) (vo y) := by
  refine (canon6_eq _ _ y).trans ?_
  dsimp only [E6]
  rw [same y vo (ix6_0 y) ⟨rfl, rfl⟩, same y g (ix6_1 y) ⟨rfl, rfl⟩]

end Entry

section Blocks
variable {F : FTy → Type} [FloatOps F]

/-- Where entry `j` of the block of grid point `t` lies in the array. -/
abbrev place (t : Fin grid0.N) (j : S193x1x1024.Idx) : S386x1x1024.Idx :=
  ix3 ⟨t.val * 193 + (j 0).val, by have ht : t.val < 2 := N_0 ▸ t.isLt; have h : (j 0).val < 193 := (j 0).isLt; omega⟩ 0 ⟨(j 2).val, (j 2).isLt⟩

/-- The block index of grid point `t`. -/
abbrev at3 (t : Fin grid0.N) : Fin 3 → Nat := ![t.val, 0, 0]

theorem idx : ∀ t : Fin grid0.N, (∀ a, win0_0.index t a = at3 t a) ∧ (∀ a, win0_1.index t a = at3 t a) ∧ (∀ a, win0_2.index t a = at3 t a)
    ∧ (∀ a, win0_3.index t a = at3 t a) ∧ (∀ a, win0_4.index t a = at3 t a) ∧ (∀ a, win0_5.index t a = at3 t a) ∧ ∀ a, win0_6.index t a = at3 t a := by
  decide +kernel

theorem place_eq (t : Fin grid0.N) (f : Fin 3 → Nat) (hf : ∀ a, f a = at3 t a) (j : S193x1x1024.Idx) (y : S386x1x1024.Idx)
    (h : ∀ a, (y a).val = f a * S193x1x1024.size a + 1 * (j a).val) : y = place t j := by
  refine funext fun a => Fin.ext ((h a).trans ?_)
  rw [hf]
  match a with
  | ⟨0, _⟩ => show t.val * 193 + 1 * (j 0).val = t.val * 193 + (j 0).val; omega
  | ⟨1, _⟩ => have h1 : (j 1).val < 1 := (j 1).isLt; show 0 * 1 + 1 * (j 1).val = 0; omega
  | ⟨2, _⟩ => show 0 * 1024 + 1 * (j 2).val = (j 2).val; omega

/-- Every entry lies in the block of one grid point. -/
theorem covered (i : S386x1x1024.Idx) : ∃ t : Fin grid0.N, ∀ f : Fin 3 → Nat, (∀ a, f a = at3 t a) →
    ∀ a, f a * S193x1x1024.size a ≤ (i a).val ∧ (i a).val < f a * S193x1x1024.size a + S193x1x1024.size a := by
  have h0 : (i 0).val < 386 := (i 0).isLt
  have h1 : (i 1).val < 1 := (i 1).isLt
  have h2 : (i 2).val < 1024 := (i 2).isLt
  refine ⟨⟨(i 0).val / 193, by rw [N_0]; omega⟩, fun f hf a => ?_⟩
  rw [hf]
  match a with
  | ⟨0, _⟩ => show (i 0).val / 193 * 193 ≤ (i 0).val ∧ (i 0).val < (i 0).val / 193 * 193 + 193; omega
  | ⟨1, _⟩ => show 0 * 1 ≤ (i 1).val ∧ (i 1).val < 0 * 1 + 1; omega
  | ⟨2, _⟩ => show 0 * 1024 ≤ (i 2).val ∧ (i 2).val < 0 * 1024 + 1024; omega

variable (m : (ℓ : Loc nD τ sig) → Buf (Elt F) ℓ) (c : Dev nD) (t : Fin cfg0.N) (j : S193x1x1024.Idx)

theorem iblk0_apply : (iblk m c 0 t : Vec F S193x1x1024 .f32) j = V m c main_v0 (place t j) := by
  unfold iblk
  rw [View.read_apply]
  exact congrArg (V m c main_v0) (place_eq t _ (idx t).1 j _ fun _ => rfl)

theorem iblk1_apply : (iblk m c 1 t : Vec F S193x1x1024 .f32) j = V m c main_v1 (place t j) := by
  unfold iblk
  rw [View.read_apply]
  exact congrArg (V m c main_v1) (place_eq t _ (idx t).2.1 j _ fun _ => rfl)

theorem iblk2_apply : (iblk m c 2 t : Vec F S193x1x1024 .f32) j = V m c main_v2 (place t j) := by
  unfold iblk
  rw [View.read_apply]
  exact congrArg (V m c main_v2) (place_eq t _ (idx t).2.2.1 j _ fun _ => rfl)

theorem iblk3_apply : (iblk m c 3 t : Vec F S193x1x1024 .f32) j = V m c main_v3 (place t j) := by
  unfold iblk
  rw [View.read_apply]
  exact congrArg (V m c main_v3) (place_eq t _ (idx t).2.2.2.1 j _ fun _ => rfl)

theorem final4 (G : S386x1x1024.Idx → Elt F .f32)
    (h : ∀ t j, out0_4 (iblk m c 0 t) (iblk m c 1 t) (iblk m c 2 t) (iblk m c 3 t) j = G (place t j)) : (dats m 0 c).arrAt 4 cfg0.N = G :=
  (dats m 0 c).arrAt_eq_of_cover 4 G (fun t _ => by
    rw [flushed4]
    funext j
    rw [View.read_apply]
    exact (h t j).trans (congrArg G (place_eq t _ (idx t).2.2.2.2.1 j _ fun _ => rfl).symm)) fun i => by
    obtain ⟨t, ht⟩ := covered i
    exact ⟨t, flush0_4 t, (View.set_slice_whole (main_v4_0) (win0_4.rect t)).symm ▸ (Rect.mem_set_unit ..).mpr (ht _ (idx t).2.2.2.2.1)⟩

theorem final5 (G : S386x1x1024.Idx → Elt F .f32)
    (h : ∀ t j, out0_5 (iblk m c 0 t) (iblk m c 1 t) (iblk m c 2 t) (iblk m c 3 t) j = G (place t j)) : (dats m 0 c).arrAt 5 cfg0.N = G :=
  (dats m 0 c).arrAt_eq_of_cover 5 G (fun t _ => by
    rw [flushed5]
    funext j
    rw [View.read_apply]
    exact (h t j).trans (congrArg G (place_eq t _ (idx t).2.2.2.2.2.1 j _ fun _ => rfl).symm)) fun i => by
    obtain ⟨t, ht⟩ := covered i
    exact ⟨t, flush0_5 t, (View.set_slice_whole (main_v4_1) (win0_5.rect t)).symm ▸ (Rect.mem_set_unit ..).mpr (ht _ (idx t).2.2.2.2.2.1)⟩

theorem final6 (G : S386x1x1024.Idx → Elt F .f32)
    (h : ∀ t j, out0_6 (iblk m c 0 t) (iblk m c 1 t) (iblk m c 2 t) (iblk m c 3 t) j = G (place t j)) : (dats m 0 c).arrAt 6 cfg0.N = G :=
  (dats m 0 c).arrAt_eq_of_cover 6 G (fun t _ => by
    rw [flushed6]
    funext j
    rw [View.read_apply]
    exact (h t j).trans (congrArg G (place_eq t _ (idx t).2.2.2.2.2.2 j _ fun _ => rfl).symm)) fun i => by
    obtain ⟨t, ht⟩ := covered i
    exact ⟨t, flush0_6 t, (View.set_slice_whole (main_v4_2) (win0_6.rect t)).symm ▸ (Rect.mem_set_unit ..).mpr (ht _ (idx t).2.2.2.2.2.2)⟩

end Blocks

variable (m : (ℓ : Loc nD τ sig) → Buf (Elt Ideal) ℓ) (ρ : Dev nD → PrngReg)

/-- An array read with its last axis in front. -/
abbrev turned (x : FVec Ideal S1x1024x386 .f32) (i : S386x1x1024.Idx) : Ideal .f32 := x (ix3 0 (i 2) (i 0))

theorem turned_apply (x : FVec Ideal S1x1024x386 .f32) (i : S386x1x1024.Idx) :
    transpose S386x1x1024 [2, 0, 1] x transposes_S1x1024x386_S386x1x1024_2_0_1 i = turned x i := by
  idx_vars i
  pointwise! []

theorem V_v0 (c : Dev nD) (i : S386x1x1024.Idx) : V m c main_v0 i = turned (m ((c : Thread nD τ).loc main_arg1)) i := by
  show StableHlo.after hostOps0 _ (Proc.devRef .tc main_v0) _ = _
  after_results
  exact turned_apply _ i

theorem V_v1 (c : Dev nD) (i : S386x1x1024.Idx) : V m c main_v1 i = turned (m ((c : Thread nD τ).loc main_arg0)) i := by
  show StableHlo.after hostOps0 _ (Proc.devRef .tc main_v1) _ = _
  after_results
  exact turned_apply _ i

theorem V_v2 (c : Dev nD) (i : S386x1x1024.Idx) : V m c main_v2 i = turned (m ((c : Thread nD τ).loc main_arg2)) i := by
  show StableHlo.after hostOps0 _ (Proc.devRef .tc main_v2) _ = _
  after_results
  exact turned_apply _ i

theorem V_v3 (c : Dev nD) (i : S386x1x1024.Idx) : V m c main_v3 i = turned (m ((c : Thread nD τ).loc main_arg3)) i := by
  show StableHlo.after hostOps0 _ (Proc.devRef .tc main_v3) _ = _
  after_results
  exact turned_apply _ i

/-- The steps of all parameters. -/
def steps (w g mo vo : FVec Ideal S1x1024x386 .f32) : FVec Ideal S386x1x1024 .f32 := fun i => step (turned w i) (turned g i) (turned mo i) (turned vo i)

/-- The first moments. -/
def means (g mo : FVec Ideal S1x1024x386 .f32) : FVec Ideal S386x1x1024 .f32 := fun i => mean (turned g i) (turned mo i)

/-- The second moments. -/
def squares (g vo : FVec Ideal S1x1024x386 .f32) : FVec Ideal S386x1x1024 .f32 := fun i => square (turned g i) (turned vo i)

/-- The kernel's run with its results read off the arguments. -/
theorem run : θ_run defs (onTc (τ := τ) (main (F := Ideal))) ⟨m, fun _ => 0, ρ⟩ fun r => ∀ c : Dev nD,
      r.2.mem ((c : Thread nD τ).loc main_v4_0) = steps (m ((c : Thread nD τ).loc main_arg0)) (m ((c : Thread nD τ).loc main_arg1))
        (m ((c : Thread nD τ).loc main_arg2)) (m ((c : Thread nD τ).loc main_arg3))
      ∧ r.2.mem ((c : Thread nD τ).loc main_v4_1) = means (m ((c : Thread nD τ).loc main_arg1)) (m ((c : Thread nD τ).loc main_arg2))
      ∧ r.2.mem ((c : Thread nD τ).loc main_v4_2) = squares (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    have g := fun t j => (iblk0_apply m c t j).trans (V_v0 m c (place t j))
    have w := fun t j => (iblk1_apply m c t j).trans (V_v1 m c (place t j))
    have mo := fun t j => (iblk2_apply m c t j).trans (V_v2 m c (place t j))
    have vo := fun t j => (iblk3_apply m c t j).trans (V_v3 m c (place t j))
    refine ⟨(h c).1.trans (final4 m c _ fun t j => ?_), (h c).2.1.trans (final5 m c _ fun t j => ?_), (h c).2.2.1.trans (final6 m c _ fun t j => ?_), (h c).2.2.2⟩
    · rw [out4_eq, g t j, w t j, mo t j, vo t j]; rfl
    · rw [out5_eq, g t j, mo t j]; rfl
    · rw [out6_eq, g t j, vo t j]; rfl) (run_blocks m ρ)

end Cert.AdamKernelIdeal.Value
end
-- ==== Proof.AdamRead.lean ====
/- What the reference of the optimiser leaves, and that it is what the kernel leaves. -/
module

public import proofs.«01_k».proof.Defs
public import proofs.«01_k».proof.Proof.AdamValue
public import proofs.«01_k».proof.Proof.Gen.AdamRefIdeal.Run
public import proofs.«01_k».proof.Proof.Gen.AdamRefIdeal.Read
public import Idealize.ShloMosaic.Adequacy

@[expose] public section

set_option maxRecDepth 16384

noncomputable section

open Idealize.ShloMosaic Idealize.ShloMosaic.TcCoe Idealize.SL.Sem

namespace Cert.AdamRead

open Cert.AdamRefIdeal Cert.AdamRefIdeal.Gen Cert.AdamRefIdeal.Value Cert.AdamRefIdeal.Read
open Cert.AdamKernelIdeal.Value (steps means squares turned turned_apply)

variable (x0 x1 x2 x3 : (⟨S1x1024x386, .f32⟩ : BufTy).Contents (Elt Ideal))

theorem v24_eq : val_main_v24 (F := Ideal) x0 x1 x2 x3 = steps x0 x1 x2 x3 :=
  funext fun i => (turned_apply (val_main_v23 x0 x1 x2 x3) i).trans rfl

theorem v25_eq : val_main_v25 (F := Ideal) x1 x2 = means x1 x2 := funext fun i => (turned_apply (val_main_v4 x1 x2) i).trans rfl

theorem v26_eq : val_main_v26 (F := Ideal) x1 x3 = squares x1 x3 := funext fun i => (turned_apply (val_main_v10 x1 x3) i).trans rfl

/-- The reference leaves its arguments and every counter at zero. -/
theorem frame : Cert.quiescent_AdamRefIdeal := fun m ρ _ =>
  (θ_run Cert.AdamRefIdeal.defs _ _).mono (fun r h => ⟨fun c => (h c).2.2.2, sem_eq_zero_of_no_sems (by decide) r.2⟩)
    (Cert.AdamRefIdeal.Value.run (F := Ideal) m ρ)

/-- From the same arguments kernel and reference end with the same results. -/
theorem algebraic : Cert.algebraic_AdamKernelIdeal_AdamRefIdeal := fun m ρ m' ρ' _ h =>
  ⟨_, _, _, AdamKernelIdeal.Value.run m ρ,
    (θ_run Cert.AdamRefIdeal.defs _ _).mono (fun r hr c => by
      obtain ⟨e0, e1, e2, e3⟩ := h c
      refine ⟨(hr c).1.trans ?_, (hr c).2.1.trans ?_, (hr c).2.2.1.trans ?_, (hr c).2.2.2⟩
      · rw [val_main_v24_eq, e0, e1, e2, e3]
        exact v24_eq _ _ _ _
      · rw [val_main_v25_eq, e1, e2]
        exact v25_eq _ _
      · rw [val_main_v26_eq, e1, e3]
        exact v26_eq _ _) (Cert.AdamRefIdeal.Value.run (F := Ideal) m' ρ')⟩

end Cert.AdamRead
end
-- ==== Proof.SmallValue.lean ====
/- What the sum over the devices' parts leaves: at every entry the sum of eight. -/
module

public import proofs.«01_k».proof.Proof.NormValue
public import proofs.«01_k».proof.Proof.Gen.SmallKernelIdeal.Value

@[expose] public section

set_option maxRecDepth 16384

noncomputable section

open Idealize.ShloMosaic Idealize.ShloMosaic.TcCoe Idealize.SL.Sem
open Idealize.ShloMosaic.Pipeline (Dat)

namespace Cert.SmallKernelIdeal.Value

open Cert.SmallKernelIdeal Cert.SmallKernelIdeal.Gen

/-- Rows of one device's part, read from the parts one below the other. -/
theorem ld_part (n : Nat) (x : Vec Ideal S640x128 .f32) (h : ∀ a, (![n, 0] : Fin 2 → Nat) a + S80x128.size a ≤ S640x128.size a)
    (z : S80x128.Idx) (r : Fin 80) (l : Fin 128) (hr : (z 0).val = r.val) (hl : (z 1).val = l.val) (hn : n + r.val < 640) :
    View.ld (Val := Elt Ideal) (e' := .f32) x (Rect.unit (s := S640x128) ![n, 0] S80x128.size h) z = x (ix2 ⟨n + r.val, hn⟩ l) :=
  congrArg x (funext fun a => Fin.ext (by
    match a with
    | ⟨0, _⟩ => show n + 1 * (z 0).val = n + r.val; omega
    | ⟨1, _⟩ => show 0 + 1 * (z 1).val = l.val; omega))

/-- The sum over the parts. -/
def total (x : FVec Ideal S8x80x128 .f32) : FVec Ideal S80x128 .f32 := fun i => (∑ k : Fin 8, x (ix3 k (i 0) (i 1)) : EReal)

/-- The parts one below the other, read at an entry. -/
theorem stacked (x : FVec Ideal S8x80x128 .f32) (k : Fin 8) (r : Fin 80) (l : Fin 128) (h : 80 * k.val + r.val < 640) :
    shapeCast S640x128 x shapeCasts_S8x80x128_S640x128 (ix2 ⟨80 * k.val + r.val, h⟩ l) = x (ix3 k r l) :=
  shapeCast_apply _ _ _ _ (by
    rw [Shape.rowMajor_val_three, Shape.rowMajor_val_two]
    show (k.val * 80 + r.val) * 128 + l.val = (80 * k.val + r.val) * 128 + l.val
    omega)

theorem out_eq (x : FVec Ideal S8x80x128 .f32) : out0_1 (F := Ideal) (shapeCast S640x128 x shapeCasts_S8x80x128_S640x128) = total x := by
  funext i
  idx_vars i
  have e : ∀ (k : Fin 8) (h : ∀ a, (![80 * k.val, 0] : Fin 2 → Nat) a + S80x128.size a ≤ S640x128.size a) (z : S80x128.Idx),
      (z 0).val = i0.val → (z 1).val = i1.val →
      View.ld (Val := Elt Ideal) (e' := .f32) (shapeCast S640x128 x shapeCasts_S8x80x128_S640x128) (Rect.unit (s := S640x128) ![80 * k.val, 0] S80x128.size h) z
        = x (ix3 k i0 i1) := fun k h z hr hl =>
    (ld_part _ _ h z i0 i1 hr hl (by have := k.isLt; have := i0.isLt; omega)).trans (stacked x k i0 i1 _)
  refine (canon1_eq _ _ _ _ _ _ _ _ (ix2 i0 i1)).trans ?_
  show _ = (∑ k : Fin 8, x (ix3 k i0 i1) : EReal)
  rw [Fin.sum_univ_eight]
  dsimp only [E1]
  exact congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b)
    (congrArg₂ (fun a b : EReal => a + b) (e 0 _ _ rfl rfl) (e 1 _ _ rfl rfl)) (e 2 _ _ rfl rfl)) (e 3 _ _ rfl rfl)) (e 4 _ _ rfl rfl))
    (e 5 _ _ rfl rfl)) (e 6 _ _ rfl rfl)) (e 7 _ _ rfl rfl)

section Blocks
variable {F : FTy → Type} [FloatOps F] (m : (ℓ : Loc nD τ sig) → Buf (Elt F) ℓ)

theorem iblk0_eq (c : Dev nD) (t : Fin cfg0.N) : (iblk m c 0 t : Vec F S640x128 .f32) = V m c main_v0 := by
  funext j
  unfold iblk
  rw [View.read_apply]
  refine congrArg (V m c main_v0) (funext fun a => Fin.ext ?_)
  match a with
  | ⟨0, _⟩ => show 0 * 640 + 1 * (j 0).val = (j 0).val; omega
  | ⟨1, _⟩ => show 0 * 128 + 1 * (j 1).val = (j 1).val; omega

/-- What the one point leaves is the result. -/
theorem final1 (c : Dev nD) (G : S80x128.Idx → Elt F .f32) (h : out0_1 (V m c main_v0) = G) : (dats m 0 c).arrAt 1 cfg0.N = G :=
  (dats m 0 c).arrAt_eq_of_cover 1 G (fun t _ => by
    rw [flushed1]
    funext j
    rw [View.read_apply, iblk0_eq]
    refine (congrFun h j).trans (congrArg G (funext fun a => Fin.ext ?_))
    match a with
    | ⟨0, _⟩ => show (j 0).val = 0 * 80 + 1 * (j 0).val; omega
    | ⟨1, _⟩ => show (j 1).val = 0 * 128 + 1 * (j 1).val; omega) fun i => by
    have h0 : (i 0 : Nat) < 80 := (i 0).isLt
    have h1 : (i 1 : Nat) < 128 := (i 1).isLt
    have ht : ∀ a, win0_1.index t0_0 a * win0_1.size a ≤ (i a : Nat) ∧ (i a : Nat) < win0_1.index t0_0 a * win0_1.size a + win0_1.size a := fun a => by
      match a with
      | ⟨0, _⟩ => show 0 * 80 ≤ (i 0 : Nat) ∧ (i 0 : Nat) < 0 * 80 + 80; omega
      | ⟨1, _⟩ => show 0 * 128 ≤ (i 1 : Nat) ∧ (i 1 : Nat) < 0 * 128 + 128; omega
    exact ⟨t0_0, flush0_1 t0_0, (View.set_slice_whole (main_v1) (win0_1.rect t0_0)).symm ▸ (Rect.mem_set_unit ..).mpr ht⟩

end Blocks

variable (m : (ℓ : Loc nD τ sig) → Buf (Elt Ideal) ℓ) (ρ : Dev nD → PrngReg)

theorem V_v0 (c : Dev nD) : V m c main_v0 = shapeCast S640x128 (m ((c : Thread nD τ).loc main_arg0)) shapeCasts_S8x80x128_S640x128 := by
  show StableHlo.after hostOps0 _ (Proc.devRef .tc main_v0) = _
  after_results
  rfl

/-- The kernel's run with its result read off the argument. -/
theorem run : θ_run defs (onTc (τ := τ) (main (F := Ideal))) ⟨m, fun _ => 0, ρ⟩ fun r => ∀ c : Dev nD,
      r.2.mem ((c : Thread nD τ).loc main_v1) = total (m ((c : Thread nD τ).loc main_arg0))
      ∧ r.2.mem ((c : Thread nD τ).loc main_arg0) = m ((c : Thread nD τ).loc main_arg0) :=
  (θ_run defs _ _).mono (fun r h c => ⟨(h c).1.trans (final1 m c _ (by
    rw [V_v0]
    exact out_eq _)), (h c).2⟩) (run_blocks m ρ)

end Cert.SmallKernelIdeal.Value
end
-- ==== Proof.SmallRead.lean ====
/- What the reference of the sum over the parts leaves, and that it is what the kernel leaves. -/
module

public import proofs.«01_k».proof.Defs
public import proofs.«01_k».proof.Proof.SmallValue
public import proofs.«01_k».proof.Proof.Gen.SmallRefIdeal.Run
public import proofs.«01_k».proof.Proof.Gen.SmallRefIdeal.Read
public import Idealize.ShloMosaic.Adequacy

@[expose] public section

set_option maxRecDepth 16384

noncomputable section

open Idealize.ShloMosaic Idealize.ShloMosaic.TcCoe Idealize.SL.Sem

namespace Cert.SmallRead

open Cert.SmallRefIdeal Cert.SmallRefIdeal.Gen Cert.SmallRefIdeal.Value Cert.SmallRefIdeal.Read
open Cert.SmallKernelIdeal.Value (total)

theorem v0_eq (x : (⟨S8x80x128, .f32⟩ : BufTy).Contents (Elt Ideal)) : val_main_v0 (F := Ideal) x = total x := by
  funext i
  idx_vars i
  show _ = (∑ k : Fin 8, x (ix3 k i0 i1) : EReal)
  pointwise! [val_main_v0, val_main_cst]

/-- The reference leaves its argument and every counter at zero. -/
theorem frame : Cert.quiescent_SmallRefIdeal := fun m ρ _ =>
  (θ_run Cert.SmallRefIdeal.defs _ _).mono (fun r h => ⟨fun c => (h c).2, sem_eq_zero_of_no_sems (by decide) r.2⟩)
    (Cert.SmallRefIdeal.Value.run (F := Ideal) m ρ)

/-- From the same argument kernel and reference end with the same result. -/
theorem algebraic : Cert.algebraic_SmallKernelIdeal_SmallRefIdeal := fun m ρ m' ρ' _ h =>
  ⟨_, SmallKernelIdeal.Value.run m ρ,
    (θ_run Cert.SmallRefIdeal.defs _ _).mono (fun r hr c => by
      refine ⟨(hr c).1.trans ?_, (hr c).2⟩
      rw [val_main_v0_eq, h c]
      exact v0_eq _) (Cert.SmallRefIdeal.Value.run (F := Ideal) m' ρ')⟩

end Cert.SmallRead
end
-- ==== Proof.OwnerFits.lean ====
/- The owner's two words lie inside the array of parts, by the precondition; so the blocks the kernels read do. -/
module

public import proofs.«01_k».proof.Proof.NormValue
public import proofs.«01_k».proof.Proof.Gen.Pre_owner_in_range
public import proofs.«01_k».proof.Proof.Gen.OwnerKernel.Frame
public import proofs.«01_k».proof.Proof.Gen.OwnerKernelIdeal.Frame

@[expose] public section

set_option maxRecDepth 16384

noncomputable section

open Idealize.ShloMosaic Idealize.ShloMosaic.TcCoe Idealize.SL.Sem

namespace Cert.OwnerFits

open Cert.OwnerKernelIdeal (S2 S1 S1x1x352x1024 S4x2x352x1024)

/-- The owner's words name one of the four and one of the two. -/
def Inside (x : S2.Idx → BitVec 32) : Prop := (x (ix1 0)).toNat < 4 ∧ (x (ix1 1)).toNat < 2

/-- One word of the two. -/
theorem word {α : Type} (x : S2.Idx → α) (n : Fin 2) (h : ∀ a, (![n.val] : Fin 1 → Nat) a + S1.size a ≤ S2.size a) (z : S1.Idx) :
    x ((Rect.unit (s := S2) ![n.val] S1.size h).emb z) = x (ix1 n) :=
  congrArg x (funext fun a => Fin.ext (by
    match a with
    | ⟨0, _⟩ => have hz : (z 0).val < 1 := (z 0).isLt; show n.val + 1 * (z 0).val = n.val; omega))

theorem sliced {α : Type} (x : S2.Idx → α) (n : Fin 2) (h : S2.Slices ![n.val] S1) (z : S1.Idx) : extractStridedSlice S1 ![n.val] x h z = x (ix1 n) :=
  congrArg x (funext fun a => Fin.ext (by
    match a with
    | ⟨0, _⟩ => have hz : (z 0).val < 1 := (z 0).isLt; show n.val + (z 0).val = n.val; omega))

theorem small {n : Nat} (hn : n < 2147483648) (x : BitVec 32) (h0 : IntOp.cmpi .sge x 0#32 = 1#1) (h1 : IntOp.cmpi .slt x (BitVec.ofNat 32 n) = 1#1) :
    x.toNat < n := by
  have e0 : (0#32).toInt ≤ x.toInt := by
    by_contra hc
    change BitVec.ofBool (decide ((0#32).toInt ≤ x.toInt)) = 1#1 at h0
    rw [decide_eq_false hc] at h0
    exact absurd h0 (by decide)
  have e1 : x.toInt < (BitVec.ofNat 32 n).toInt := by
    by_contra hc
    change BitVec.ofBool (decide (x.toInt < (BitVec.ofNat 32 n).toInt)) = 1#1 at h1
    rw [decide_eq_false hc] at h1
    exact absurd h1 (by decide)
  have hx := x.isLt
  simp only [BitVec.toInt_eq_toNat_cond, BitVec.toNat_ofNat] at e0 e1
  split_ifs at e0 e1 <;> omega

theorem inside {F : FTy → Type} [FloatOps F] {x0 x1 x2 x3 x4 x5 x6} (h : Cert.Pre_owner_in_range.fn (F := F) x0 x1 x2 x3 x4 x5 x6 = fun _ => 1#1) :
    Inside x0 := by
  have h := congrFun h (fun a => a.elim0)
  unfold Cert.Pre_owner_in_range.fn at h
  dsimp only at h
  obtain ⟨h, h3⟩ := IntOp.andi_eq_one.mp h
  obtain ⟨h, h2⟩ := IntOp.andi_eq_one.mp h
  obtain ⟨h0, h1⟩ := IntOp.andi_eq_one.mp h
  have w0 := fun z => sliced x0 0 Cert.Pre_owner_in_range.Gen.slices_S2_S1_0 z
  have w1 := fun z => sliced x0 1 Cert.Pre_owner_in_range.Gen.slices_S2_S1_1 z
  exact ⟨lt_of_eq_of_lt (congrArg BitVec.toNat (w0 _).symm) (small (by decide) _ h0 h1), lt_of_eq_of_lt (congrArg BitVec.toNat (w1 _).symm) (small (by decide) _ h2 h3)⟩

/-- A block at such words is inside the array, its rows whole. -/
theorem fits (f : Fin 4 → Nat) (h0 : f 0 < 4) (h1 : f 1 < 2) (h2 : f 2 = 0) (h3 : f 3 = 0) :
    ∃ h : (∀ a, (f a + 1) * S1x1x352x1024.size a ≤ S4x2x352x1024.size a),
      EltTy.bits .bf16 = 32 ∨ (Rect.block (s := S4x2x352x1024) S1x1x352x1024.size f h).WholeWords (EltTy.packing .bf16) := by
  have h : ∀ a, (f a + 1) * S1x1x352x1024.size a ≤ S4x2x352x1024.size a := fun a => by
    match a with
    | ⟨0, _⟩ => show (f 0 + 1) * 1 ≤ 4; omega
    | ⟨1, _⟩ => show (f 1 + 1) * 1 ≤ 2; omega
    | ⟨2, _⟩ => show (f 2 + 1) * 352 ≤ 352; omega
    | ⟨3, _⟩ => show (f 3 + 1) * 1024 ≤ 1024; omega
  have r : 2 ≤ S4x2x352x1024.rank := by decide
  have e : (Rect.block (s := S4x2x352x1024) S1x1x352x1024.size f h).off (S4x2x352x1024.rowAx r) = 0 := by
    show f 2 * 352 = 0
    omega
  exact ⟨h, .inr (.inr ⟨r, rfl, e, rfl⟩)⟩

theorem ok_ideal {F : FTy → Type} [FloatOps F] (m : (ℓ : Loc Cert.OwnerKernelIdeal.nD Cert.OwnerKernelIdeal.τ Cert.OwnerKernelIdeal.sig) → Buf (Elt F) ℓ)
    (h : Inside (m (((0 : Dev Cert.OwnerKernelIdeal.nD) : Thread Cert.OwnerKernelIdeal.nD Cert.OwnerKernelIdeal.τ).loc Cert.OwnerKernelIdeal.main_arg0))) :
    Cert.OwnerKernelIdeal.Gen.Ok m := by
  have a := fun z => lt_of_eq_of_lt (congrArg BitVec.toNat (word _ 0 Cert.OwnerKernelIdeal.Gen.inb_S2_S1_0 z)) h.1
  have b := fun z => lt_of_eq_of_lt (congrArg BitVec.toNat (word _ 1 Cert.OwnerKernelIdeal.Gen.inb_S2_S1_1 z)) h.2
  exact ⟨fun _ => fits _ (a _) (b _) rfl rfl, fun _ => fits _ (a _) (b _) rfl rfl, fun _ => fits _ (a _) (b _) rfl rfl⟩

theorem ok_bits {F : FTy → Type} [FloatOps F] (m : (ℓ : Loc Cert.OwnerKernel.nD Cert.OwnerKernel.τ Cert.OwnerKernel.sig) → Buf (Elt F) ℓ)
    (h : Inside (m (((0 : Dev Cert.OwnerKernel.nD) : Thread Cert.OwnerKernel.nD Cert.OwnerKernel.τ).loc Cert.OwnerKernel.main_arg0))) :
    Cert.OwnerKernel.Gen.Ok m := by
  have a := fun z => lt_of_eq_of_lt (congrArg BitVec.toNat (word _ 0 Cert.OwnerKernelIdeal.Gen.inb_S2_S1_0 z)) h.1
  have b := fun z => lt_of_eq_of_lt (congrArg BitVec.toNat (word _ 1 Cert.OwnerKernelIdeal.Gen.inb_S2_S1_1 z)) h.2
  exact ⟨fun _ => fits _ (a _) (b _) rfl rfl, fun _ => fits _ (a _) (b _) rfl rfl, fun _ => fits _ (a _) (b _) rfl rfl⟩

end Cert.OwnerFits
end
-- ==== Proof.OwnerValue.lean ====
/- What the sums of the owner's parts leave: the owner's own part and the seven that landed, added. -/
module

public import proofs.«01_k».proof.Proof.OwnerFits

@[expose] public section

set_option maxRecDepth 16384

noncomputable section

open Idealize.ShloMosaic Idealize.ShloMosaic.TcCoe Idealize.SL.Sem
open Idealize.ShloMosaic.Pipeline (Dat)

namespace Cert.OwnerKernelIdeal.Value

open Cert.OwnerKernelIdeal Cert.OwnerKernelIdeal.Gen Cert.OwnerFits

/-- The owner's part of the parts. -/
def own {α : Type} (x : S2.Idx → BitVec 32) (g : S4x2x352x1024.Idx → α) (i : S352x1024.Idx) : α :=
  g (ix4 ⟨min (x (ix1 0)).toNat 3, by omega⟩ ⟨min (x (ix1 1)).toNat 1, by omega⟩ ⟨(i 0).val, (i 0).isLt⟩ ⟨(i 1).val, (i 1).isLt⟩)

/-- The owner's part and the seven landed ones. -/
def total (x : S2.Idx → BitVec 32) (g : S4x2x352x1024.Idx → EReal) (d : S7x352x1024.Idx → EReal) : S352x1024.Idx → EReal := fun i =>
  own x g i + ∑ k : Fin 7, d (ix3 k ⟨(i 0).val, (i 0).isLt⟩ ⟨(i 1).val, (i 1).isLt⟩)

/-- A part read back from the buffer it was copied to. -/
theorem landed {sig : RefSig} {κ : Kind} {sp : Space} (v : View sig κ sp S7x352x1024 .bf16) (d : Vec Ideal S7x352x1024 .bf16) (k : Fin 7)
    (h : ∀ a, (![k.val, 0, 0] : Fin 3 → Nat) a + S1x352x1024.size a ≤ S7x352x1024.size a) (r : Fin 352) (l : Fin 1024) :
    v.readCov (Val := Elt Ideal) [⟨Rect.whole S7x352x1024, d⟩] (Rect.unit (s := S7x352x1024) ![k.val, 0, 0] S1x352x1024.size h).toLoadRect (ix3 0 r l) = d (ix3 k r l) := by
  rw [View.readCov_eq_canon']
  have e := View.canon_cons_emb (Val := Elt Ideal) (Rect.whole S7x352x1024) d [] (ix3 k r l)
  rw [Rect.emb_whole_apply] at e
  refine Eq.trans (congrArg _ (funext fun a => Fin.ext ?_)) e
  match a with
  | ⟨0, _⟩ => show k.val + 1 * 0 = k.val; omega
  | ⟨1, _⟩ => show 0 + 1 * r.val = r.val; omega
  | ⟨2, _⟩ => show 0 + 1 * l.val = l.val; omega

/-- The owner's part and seven more, in the order the kernel adds them. -/
def piled (b : EReal) (d : Fin 7 → EReal) : EReal := b + d 0 + d 1 + d 2 + d 3 + d 4 + d 5 + d 6

theorem piled_eq (b : EReal) (d : Fin 7 → EReal) : piled b d = b + ∑ k, d k := by
  rw [Fin.sum_univ_seven]
  simp only [piled, add_assoc]

theorem pay3_apply (g : Vec Ideal S1x1x352x1024 .bf16) (d : Fin 7 → Vec Ideal S1x352x1024 .bf16) (i0 : Fin 352) (i1 : Fin 1024) :
    k0_pay3 (F := Ideal) (k0_pay2 g (d 0) (d 1) (d 2) (d 3) (d 4)) (d 5) (d 6) (ix2 i0 i1)
      = piled (g (ix4 0 0 i0 i1)) fun k => d k (ix3 0 i0 i1) := by
  unfold piled
  pointwise! [k0_pay3, k0_pay2]

theorem pay5_apply (g : Vec Ideal S1x1x352x1024 .bf16) (d : Fin 7 → Vec Ideal S1x352x1024 .bf16) (i0 : Fin 352) (i1 : Fin 1024) :
    k0_pay5 (F := Ideal) (k0_pay4 g (d 0) (d 1) (d 2) (d 3)) (d 4) (d 5) (d 6) (ix2 i0 i1)
      = piled (g (ix4 0 0 i0 i1)) fun k => d k (ix3 0 i0 i1) := by
  unfold piled
  pointwise! [k0_pay5, k0_pay4]

theorem pay1_apply (g : Vec Ideal S1x1x352x1024 .bf16) (d : Fin 7 → Vec Ideal S1x352x1024 .bf16) (i0 : Fin 352) (i1 : Fin 1024) :
    k0_pay1 (F := Ideal) (k0_pay6 g (d 0) (d 1) (d 2) (d 3)) (d 4) (d 5) (d 6) (ix2 i0 i1)
      = piled (g (ix4 0 0 i0 i1)) fun k => d k (ix3 0 i0 i1) := by
  unfold piled
  pointwise! [k0_pay1, k0_pay6]

/-- What the one store of a whole array leaves. -/
theorem only (h : ∀ a, (![0, 0] : Fin 2 → Nat) a + S352x1024.size a ≤ S352x1024.size a) (w : Vec Ideal S352x1024 .f32) (i : S352x1024.Idx) :
    View.canon (Val := Elt Ideal) (e := .f32) [⟨Rect.unit (s := S352x1024) ![0, 0] S352x1024.size h, w⟩] i = w i := by
  have e := View.canon_cons_emb (Val := Elt Ideal) (e := .f32) (Rect.unit (s := S352x1024) ![0, 0] S352x1024.size h) w [] i
  refine Eq.trans (congrArg _ (funext fun a => Fin.ext ?_)) e
  match a with
  | ⟨0, _⟩ => show (i 0).val = 0 + 1 * (i 0).val; omega
  | ⟨1, _⟩ => show (i 1).val = 0 + 1 * (i 1).val; omega

theorem whole_read {v : Memref sig .tc .vmem S1x1x352x1024 .bf16} (x : Vec Ideal S1x1x352x1024 .bf16) (hv : v.IsWhole)
    (h : ∀ a, (![0, 0, 0, 0] : Fin 4 → Nat) a + S1x1x352x1024.size a ≤ S1x1x352x1024.size a) (r : Fin 352) (l : Fin 1024) :
    View.readAt (Elt Ideal) v.view (Rect.unit (s := S1x1x352x1024) ![0, 0, 0, 0] S1x1x352x1024.size h).toLoadRect (hv.unread x) (ix4 0 0 r l) = x (ix4 0 0 r l) := by
  refine (congrFun (hv.read_unread x) _).trans (congrArg x (funext fun a => Fin.ext ?_))
  match a with
  | ⟨0, _⟩ => rfl
  | ⟨1, _⟩ => rfl
  | ⟨2, _⟩ => show 0 + 1 * r.val = r.val; omega
  | ⟨3, _⟩ => show 0 + 1 * l.val = l.val; omega

theorem inner (k : Fin 7) : ∀ a, (![k.val, 0, 0] : Fin 3 → Nat) a + S1x352x1024.size a ≤ S7x352x1024.size a := fun a => by
  match a with
  | ⟨0, _⟩ => have := k.isLt; show k.val + 1 ≤ 7; omega
  | ⟨1, _⟩ => show 0 + 352 ≤ 352; omega
  | ⟨2, _⟩ => show 0 + 1024 ≤ 1024; omega

/-- The seven parts, read back from the buffer. -/
abbrev parts (v : Memref sig .tc .vmem S7x352x1024 .bf16) (d : Vec Ideal S7x352x1024 .bf16) (k : Fin 7) : Vec Ideal S1x352x1024 .bf16 :=
  v.view.readCov (Val := Elt Ideal) [⟨Rect.whole S7x352x1024, d⟩] (Rect.unit (s := S7x352x1024) ![k.val, 0, 0] S1x352x1024.size (inner k)).toLoadRect

/-- An entry of the block that the owner's words name. -/
theorem block_at {x : S2.Idx → BitVec 32} (hI : Inside x) {a b : BitVec 32} (f : Fin 4 → Nat) (ha : a = x (ix1 0)) (hb : b = x (ix1 1))
    (hf : f = ![a.toNat, b.toNat, 0, 0]) (r : Fin 352) (l : Fin 1024) (y : S4x2x352x1024.Idx)
    (h : ∀ k, (y k).val = f k * S1x1x352x1024.size k + 1 * ((ix4 0 0 r l : S1x1x352x1024.Idx) k).val) :
    y = ix4 ⟨min (x (ix1 0)).toNat 3, by omega⟩ ⟨min (x (ix1 1)).toNat 1, by omega⟩ r l := by
  obtain ⟨h0, h1⟩ := hI
  subst ha hb hf
  refine funext fun k => Fin.ext ((h k).trans ?_)
  match k with
  | ⟨0, _⟩ => show (x (ix1 0)).toNat * 1 + 1 * 0 = min (x (ix1 0)).toNat 3; omega
  | ⟨1, _⟩ => show (x (ix1 1)).toNat * 1 + 1 * 0 = min (x (ix1 1)).toNat 1; omega
  | ⟨2, _⟩ => show 0 * 352 + 1 * r.val = r.val; omega
  | ⟨3, _⟩ => show 0 * 1024 + 1 * l.val = l.val; omega

theorem at_zero (j y : S352x1024.Idx) (h : ∀ a, (y a).val = (![0, 0] : Fin 2 → Nat) a * S352x1024.size a + 1 * (j a).val) : y = j := by
  refine funext fun a => Fin.ext ((h a).trans ?_)
  match a with
  | ⟨0, _⟩ => show 0 * 352 + 1 * (j 0).val = (j 0).val; omega
  | ⟨1, _⟩ => show 0 * 1024 + 1 * (j 1).val = (j 1).val; omega

theorem covers (i : S352x1024.Idx) (a : Fin 2) :
    (![0, 0] : Fin 2 → Nat) a * S352x1024.size a ≤ (i a).val ∧ (i a).val < (![0, 0] : Fin 2 → Nat) a * S352x1024.size a + S352x1024.size a := by
  have h0 : (i 0).val < 352 := (i 0).isLt
  have h1 : (i 1).val < 1024 := (i 1).isLt
  match a with
  | ⟨0, _⟩ => show 0 * 352 ≤ (i 0).val ∧ (i 0).val < 0 * 352 + 352; omega
  | ⟨1, _⟩ => show 0 * 1024 ≤ (i 1).val ∧ (i 1).val < 0 * 1024 + 1024; omega

section Blocks
variable (m : (ℓ : Loc nD τ sig) → Buf (Elt Ideal) ℓ) (hO : Ok m) (hI : Inside (tbl m 0)) (c : Dev nD) (t : Fin (cfgM m hO).N)

section
include hI
variable (r : Fin 352) (l : Fin 1024)

theorem iblk0_apply : (iblk m hO c 0 t : Vec Ideal S1x1x352x1024 .bf16) (ix4 0 0 r l) = own (tbl m 0) (V m c main_arg1) (ix2 r l) := by
  unfold iblk
  exact (View.read_apply ..).trans (congrArg (V m c main_arg1) (block_at hI (ix0 (tbl m) 0 (grid0.coords t)) (word _ 0 _ _) (word _ 1 _ _) rfl r l _ fun _ => rfl))

theorem iblk1_apply : (iblk m hO c 1 t : Vec Ideal S1x1x352x1024 .bf16) (ix4 0 0 r l) = own (tbl m 0) (V m c main_arg3) (ix2 r l) := by
  unfold iblk
  exact (View.read_apply ..).trans (congrArg (V m c main_arg3) (block_at hI (ix0 (tbl m) 0 (grid0.coords t)) (word _ 0 _ _) (word _ 1 _ _) rfl r l _ fun _ => rfl))

theorem iblk2_apply : (iblk m hO c 2 t : Vec Ideal S1x1x352x1024 .bf16) (ix4 0 0 r l) = own (tbl m 0) (V m c main_arg5) (ix2 r l) := by
  unfold iblk
  exact (View.read_apply ..).trans (congrArg (V m c main_arg5) (block_at hI (ix0 (tbl m) 0 (grid0.coords t)) (word _ 0 _ _) (word _ 1 _ _) rfl r l _ fun _ => rfl))

end

section
include hI

theorem out3_eq : (outsAt0 m hO c t).1 = total (tbl m 0) (V m c main_arg1) (V m c main_arg2) := by
  unfold outsAt0 out0_A_3 kernelRun0_A
  dsimp only
  rw [View.read_writes_junk_eq_canon]
  funext i
  idx_vars i
  refine (only _ _ _).trans ((pay3_apply _ (parts scM0_0 (V m c main_arg2)) i0 i1).trans ((piled_eq _ _).trans ?_))
  exact congrArg₂ (fun a b : EReal => a + b) ((whole_read _ (hs0_0 m hO t) _ i0 i1).trans (iblk0_apply m hO hI c t i0 i1)) (Finset.sum_congr rfl fun k _ => landed _ _ k _ i0 i1)

theorem out4_eq : (outsAt0 m hO c t).2.1 = total (tbl m 0) (V m c main_arg3) (V m c main_arg4) := by
  unfold outsAt0 out0_A_4 kernelRun0_A
  dsimp only
  rw [View.read_writes_junk_eq_canon]
  funext i
  idx_vars i
  refine (only _ _ _).trans ((pay5_apply _ (parts scM0_1 (V m c main_arg4)) i0 i1).trans ((piled_eq _ _).trans ?_))
  exact congrArg₂ (fun a b : EReal => a + b) ((whole_read _ (hs0_1 m hO t) _ i0 i1).trans (iblk1_apply m hO hI c t i0 i1)) (Finset.sum_congr rfl fun k _ => landed _ _ k _ i0 i1)

theorem out5_eq : (outsAt0 m hO c t).2.2 = total (tbl m 0) (V m c main_arg5) (V m c main_arg6) := by
  unfold outsAt0 out0_A_5 kernelRun0_A
  dsimp only
  rw [View.read_writes_junk_eq_canon]
  funext i
  idx_vars i
  refine (only _ _ _).trans ((pay1_apply _ (parts scM0_2 (V m c main_arg6)) i0 i1).trans ((piled_eq _ _).trans ?_))
  exact congrArg₂ (fun a b : EReal => a + b) ((whole_read _ (hs0_2 m hO t) _ i0 i1).trans (iblk2_apply m hO hI c t i0 i1)) (Finset.sum_congr rfl fun k _ => landed _ _ k _ i0 i1)

end

theorem final3 (G : S352x1024.Idx → EReal) (h : ∀ t, (outsAt0 m hO c t).1 = G) : (dats m hO 0 c).arrAt 3 (cfgM m hO).N = G :=
  (dats m hO 0 c).arrAt_eq_of_cover 3 G (fun t _ => by
    show ((cfgM m hO).win 3).cut (grid0.coords t) ((dats m hO 0 c).after 3 t) = _
    rw [after0_3, h t]
    funext j
    refine Eq.trans ?_ (View.read_apply ..).symm
    exact congrArg G (at_zero j _ fun _ => rfl).symm) fun i =>
    ⟨t0_0, flush0_3 _ t0_0, (View.set_slice_whole (main_v0_0) (((cfgM m hO).win 3).rect t0_0)).symm ▸ (Rect.mem_set_unit ..).mpr (covers i)⟩

theorem final4 (G : S352x1024.Idx → EReal) (h : ∀ t, (outsAt0 m hO c t).2.1 = G) : (dats m hO 0 c).arrAt 4 (cfgM m hO).N = G :=
  (dats m hO 0 c).arrAt_eq_of_cover 4 G (fun t _ => by
    show ((cfgM m hO).win 4).cut (grid0.coords t) ((dats m hO 0 c).after 4 t) = _
    rw [after0_4, h t]
    funext j
    refine Eq.trans ?_ (View.read_apply ..).symm
    exact congrArg G (at_zero j _ fun _ => rfl).symm) fun i =>
    ⟨t0_0, flush0_4 _ t0_0, (View.set_slice_whole (main_v0_1) (((cfgM m hO).win 4).rect t0_0)).symm ▸ (Rect.mem_set_unit ..).mpr (covers i)⟩

theorem final5 (G : S352x1024.Idx → EReal) (h : ∀ t, (outsAt0 m hO c t).2.2 = G) : (dats m hO 0 c).arrAt 5 (cfgM m hO).N = G :=
  (dats m hO 0 c).arrAt_eq_of_cover 5 G (fun t _ => by
    show ((cfgM m hO).win 5).cut (grid0.coords t) ((dats m hO 0 c).after 5 t) = _
    rw [after0_5, h t]
    funext j
    refine Eq.trans ?_ (View.read_apply ..).symm
    exact congrArg G (at_zero j _ fun _ => rfl).symm) fun i =>
    ⟨t0_0, flush0_5 _ t0_0, (View.set_slice_whole (main_v0_2) (((cfgM m hO).win 5).rect t0_0)).symm ▸ (Rect.mem_set_unit ..).mpr (covers i)⟩

end Blocks

variable (m : (ℓ : Loc nD τ sig) → Buf (Elt Ideal) ℓ) (ρ : Dev nD → PrngReg)

/-- The kernel's run with its results read off the arguments. -/
theorem run (hI : Inside (tbl m 0)) : θ_run defs (onTc (τ := τ) (main (F := Ideal))) ⟨m, fun _ => 0, ρ⟩ fun r => ∀ c : Dev nD,
      r.2.mem ((c : Thread nD τ).loc main_v0_0) = total (tbl m 0) (V m c main_arg1) (V m c main_arg2)
      ∧ r.2.mem ((c : Thread nD τ).loc main_v0_1) = total (tbl m 0) (V m c main_arg3) (V m c main_arg4)
      ∧ r.2.mem ((c : Thread nD τ).loc main_v0_2) = total (tbl m 0) (V m c main_arg5) (V m c main_arg6)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  have hO := ok_ideal m hI
  (θ_run defs _ _).mono (fun r hr c => have h := hr.1; ⟨((h c).1 3).trans (final3 m hO c _ (out3_eq m hO hI c)), ((h c).1 4).trans (final4 m hO c _ (out4_eq m hO hI c)),
    ((h c).1 5).trans (final5 m hO c _ (out5_eq m hO hI c)), hr.2 c⟩) (θ_run_and (run_main m ρ hO) (unchanged m ρ hO))

end Cert.OwnerKernelIdeal.Value
end
-- ==== Proof.OwnerRead.lean ====
/- What the reference of the owner's sums leaves, and that it is what the kernel leaves. -/
module

public import proofs.«01_k».proof.Defs
public import proofs.«01_k».proof.Proof.OwnerValue
public import proofs.«01_k».proof.Proof.Gen.OwnerRefIdeal.Run
public import proofs.«01_k».proof.Proof.Gen.OwnerRefIdeal.Read
public import Idealize.ShloMosaic.Adequacy
public import Idealize.ShloMosaic.Lib.IdealHost

@[expose] public section

set_option maxRecDepth 16384

noncomputable section

open Idealize.ShloMosaic Idealize.ShloMosaic.TcCoe Idealize.SL.Sem

namespace Cert.OwnerRead

open Cert.OwnerRefIdeal Cert.OwnerRefIdeal.Gen Cert.OwnerRefIdeal.Value Cert.OwnerRefIdeal.Read
open Cert.OwnerFits
open Cert.OwnerKernelIdeal.Value (own total)

/-- Comparing a small number with a word asks whether it is the word's value. -/
theorem picked (w : BitVec 32) (k : Nat) (hk : k < 2147483648) :
    IntOp.cmpi .eq (BitVec.ofNat 32 k) w = if k = w.toNat then 1#1 else 0#1 := by
  show BitVec.ofBool (BitVec.ofNat 32 k == w) = _
  split_ifs with h
  · subst h
    rw [BitVec.ofNat_toNat, BitVec.setWidth_eq, beq_self_eq_true]
    rfl
  · rw [beq_eq_false_iff_ne.mpr (fun e => h (by
      have := congrArg BitVec.toNat e
      rw [BitVec.toNat_ofNat] at this
      omega))]
    rfl

section
variable (x0 : (⟨S2, .i32⟩ : BufTy).Contents (Elt Ideal))
  (g : (⟨S4x2x352x1024, .bf16⟩ : BufTy).Contents (Elt Ideal)) (d : (⟨S7x352x1024, .bf16⟩ : BufTy).Contents (Elt Ideal))

/-- The masked part: one of the eight blocks is kept, the others are zero. -/
theorem v17_at (i : S4x2x352x1024.Idx) : val_main_v17 (F := Ideal) x0 g i
    = (if (i 0).val = (x0 (ix1 0)).toNat ∧ (i 1).val = (x0 (ix1 1)).toNat then g i else 0 : EReal) := by
  have b0 : (i 0).val < 4 := (i 0).isLt
  have b1 : (i 1).val < 2 := (i 1).isLt
  have w0 : ∀ z, val_main_v3 (F := Ideal) x0 z = x0 (ix1 0) := fun z => sliced x0 0 slices_S2_S1_0 _
  have w1 : ∀ z, val_main_v9 (F := Ideal) x0 z = x0 (ix1 1) := fun z => sliced x0 1 slices_S2_S1_1 _
  rw [val_main_v17_apply, val_main_call0_v1_apply, val_main_v15_apply, val_main_v14_apply, val_main_v12_apply, val_main_v13_apply,
    val_main_v5_apply, val_main_v11_apply, val_main_v1_apply, val_main_v4_apply, val_main_v7_apply, val_main_v10_apply, val_main_v0_apply,
    val_main_v6_apply, val_main_call0_v2_apply, w0, w1, picked _ _ (lt_trans b0 (by decide)), picked _ _ (lt_trans b1 (by decide))]
  show Scalar.select (IntOp.andi (if (i 0).val = (x0 (ix1 0)).toNat then 1#1 else 0#1) (if (i 1).val = (x0 (ix1 1)).toNat then 1#1 else 0#1))
    (g i) (Ideal.ofBits .f32 0x00000000#32 : EReal) = _
  rw [Ideal.ofBits_zero_f32]
  by_cases h0 : (i 0).val = (x0 (ix1 0)).toNat
  · by_cases h1 : (i 1).val = (x0 (ix1 1)).toNat
    · rw [if_pos h0, if_pos h1, if_pos ⟨h0, h1⟩]
      rfl
    · rw [if_pos h0, if_neg h1, if_neg (fun h => h1 h.2)]
      rfl
  · rw [if_neg h0, if_neg (fun h : _ ∧ _ => h0 h.1)]
    split_ifs <;> rfl

variable {x0} (hI : Inside x0)
include hI

theorem v19_at (i : S352x1024.Idx) : val_main_v19 (F := Ideal) x0 g i = own x0 g i := by
  have h0 := hI.1
  have h1 := hI.2
  rw [val_main_v19_apply, Finset.sum_eq_single (⟨(x0 (ix1 1)).toNat, h1⟩ : Fin 2), val_main_v18_apply,
    Finset.sum_eq_single (⟨(x0 (ix1 0)).toNat, h0⟩ : Fin 4), v17_at, if_pos ⟨rfl, rfl⟩]
  · show (Ideal.ofBits .f32 0x00000000#32 + (Ideal.ofBits .f32 0x00000000#32 + g _) : EReal) = own x0 g i
    rw [Ideal.ofBits_zero_f32, zero_add, zero_add]
    refine congrArg g (funext fun a => Fin.ext ?_)
    match a with
    | ⟨0, _⟩ => show (x0 (ix1 0)).toNat = min (x0 (ix1 0)).toNat 3; omega
    | ⟨1, _⟩ => show (x0 (ix1 1)).toNat = min (x0 (ix1 1)).toNat 1; omega
    | ⟨2, _⟩ => rfl
    | ⟨3, _⟩ => rfl
  · exact fun k _ hk => (v17_at x0 g _).trans (if_neg fun h => hk (Fin.ext h.1))
  · exact fun h => absurd (Finset.mem_univ _) h
  · intro k _ hk
    rw [val_main_v18_apply]
    show (Ideal.ofBits .f32 0x00000000#32 + _ : EReal) = 0
    rw [Ideal.ofBits_zero_f32, zero_add]
    exact Finset.sum_eq_zero fun l _ => (v17_at x0 g _).trans (if_neg fun h => hk (Fin.ext h.2))
  · exact fun h => absurd (Finset.mem_univ _) h

theorem v22_eq : val_main_v22 (F := Ideal) x0 g d = total x0 g d := by
  funext i
  rw [val_main_v22_apply, v19_at g hI, val_main_v21_apply]
  show (own x0 g i + (Ideal.ofBits .f32 0x00000000#32 + _) : EReal) = _
  rw [Ideal.ofBits_zero_f32, zero_add]
  refine congrArg (own x0 g i + ·) (Finset.sum_congr rfl fun k _ => congrArg d (funext fun a => Fin.ext ?_))
  match a with
  | ⟨0, _⟩ => rfl
  | ⟨1, _⟩ => rfl
  | ⟨2, _⟩ => rfl

end

/-- The reference leaves its arguments and every counter at zero. -/
theorem frame : Cert.quiescent_OwnerRefIdeal := fun m ρ _ =>
  (θ_run Cert.OwnerRefIdeal.defs _ _).mono (fun r h => ⟨fun c => (h c).2.2.2, sem_eq_zero_of_no_sems (by decide) r.2⟩)
    (Cert.OwnerRefIdeal.Value.run (F := Ideal) m ρ)

/-- From the same arguments kernel and reference end with the same three results. -/
theorem algebraic : Cert.algebraic_OwnerKernelIdeal_OwnerRefIdeal := fun m ρ m' ρ' hpre h =>
  have hI := inside (hpre 0)
  ⟨_, _, _, OwnerKernelIdeal.Value.run m ρ hI,
    (θ_run Cert.OwnerRefIdeal.defs _ _).mono (fun r hr c => by
      obtain rfl : c = 0 := Subsingleton.elim _ _
      obtain ⟨e0, e1, e2, e3, e4, e5, e6⟩ := h 0
      refine ⟨(hr 0).1.trans ?_, (hr 0).2.1.trans ?_, (hr 0).2.2.1.trans ?_, (hr 0).2.2.2⟩
      · rw [val_main_v22_eq, e0, e1, e2]
        exact v22_eq _ _ hI
      · rw [val_main_v29_eq, e0, e3, e4]
        exact v22_eq _ _ hI
      · rw [val_main_v36_eq, e0, e5, e6]
        exact v22_eq _ _ hI) (Cert.OwnerRefIdeal.Value.run (F := Ideal) m' ρ')⟩

end Cert.OwnerRead
end
-- ==== Proof.AttnTile.lean ====
/- One block of 256 rows of the kernel's attention: masks, scores of each head, outputs and the carried state, entry by entry. -/
module

public import proofs.«01_k».proof.Proof.Gen.AttnKernelIdeal.Value
public import Idealize.ShloMosaic.Lib.KernelVsHost
public import Idealize.ShloMosaic.Lib.IdealHost
public import Idealize.ShloMosaic.Lib.Pointwise

@[expose] public section

set_option maxRecDepth 16384

noncomputable section

namespace Cert.AttnTile

open Idealize Idealize.ShloMosaic Cert.AttnKernelIdeal Cert.AttnKernelIdeal.Gen

/-! The masks. -/

abbrev rowNo : IVec S256x256 32 := iota .tc S256x256 32 [0] iota_S256x256_d0_w32
abbrev colNo : IVec S256x256 32 := iota .tc S256x256 32 [1] iota_S256x256_d1_w32
abbrev lane : IVec S1x256 32 := iota .tc S1x256 32 [1] iota_S1x256_d1_w32

/-- The keys not after the row. -/
abbrev past : IVec S256x256 1 := k0_pay7 rowNo colNo
/-- The later keys of the row's own chunk of 64. -/
abbrev ahead : IVec S256x256 1 := k0_pay8 rowNo colNo k0_pay3 (64#32) k0_pay4 k0_pay5 k0_pay6

/-- A one-bit word of a proposition. -/
def bit (p : Prop) [Decidable p] : BitVec 1 := if p then 1#1 else 0#1

theorem toInt_ofNat : ∀ i : Fin 256, (BitVec.ofNat 32 i.val).toInt = i.val := by decide +kernel

theorem ofBool_decide {p q : Prop} [Decidable p] [Decidable q] (h : p ↔ q) : BitVec.ofBool (decide p) = bit q := by
  unfold bit; by_cases hp : p <;> simp [hp, h.symm]

theorem sle_apply : ∀ i j : Fin 256, IntOp.cmpi .sle (BitVec.ofNat 32 j.val) (BitVec.ofNat 32 i.val) = bit (j ≤ i) := fun i j => by
  show BitVec.ofBool (decide ((BitVec.ofNat 32 j.val).toInt ≤ (BitVec.ofNat 32 i.val).toInt)) = _
  rw [toInt_ofNat, toInt_ofNat]
  exact ofBool_decide (by rw [Fin.le_def]; omega)

theorem sgt_apply : ∀ i j : Fin 256, IntOp.cmpi .sgt (BitVec.ofNat 32 j.val) (BitVec.ofNat 32 i.val) = bit (i < j) := fun i j => by
  show BitVec.ofBool (decide ((BitVec.ofNat 32 i.val).toInt < (BitVec.ofNat 32 j.val).toInt)) = _
  rw [toInt_ofNat, toInt_ofNat]
  exact ofBool_decide (by rw [Fin.lt_def]; omega)

theorem eq_apply : ∀ i j : Fin 4, IntOp.cmpi .eq (BitVec.ofNat 32 i.val) (BitVec.ofNat 32 j.val) = bit (i = j) := by decide +kernel

/-- Division rounding down, as the kernel writes it from a division rounding to zero. -/
def floorDiv (x d : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt d 0#32)) (Scalar.extui (Scalar.cmpi .slt d 0#32))))
      (IntOp.cmpi .ne (IntOp.remsi .vector x d) 0#32))
    (IntOp.subi (IntOp.divsi .vector x d) 1#32)
    (IntOp.divsi .vector x d)

theorem floorDiv_64 : ∀ a : Fin 256, floorDiv (BitVec.ofNat 32 a.val) 64#32 = BitVec.ofNat 32 (a.val / 64) := by decide +kernel

theorem floorDiv_128 : ∀ a : Fin 512, floorDiv (BitVec.ofNat 32 a.val) 128#32 = BitVec.ofNat 32 (a.val / 128) := by decide +kernel

theorem bit_and (p q : Prop) [Decidable p] [Decidable q] : IntOp.andi (bit p) (bit q) = bit (p ∧ q) := by
  unfold bit; split_ifs <;> first | rfl | (exfalso; tauto)

theorem bit_congr {p q : Prop} [Decidable p] [Decidable q] (h : p ↔ q) : bit p = bit q := by
  unfold bit; simp only [h]

theorem bit_eq_one {p : Prop} [Decidable p] : bit p = 1#1 ↔ p := by
  unfold bit; split_ifs with h <;> simp [h]

theorem past_apply (i j : Fin 256) : past (ix2 i j) = bit (j ≤ i) := by
  unfold past k0_pay7
  pointwise
  exact sle_apply i j

theorem ahead_apply (i j : Fin 256) : ahead (ix2 i j) = bit (i < j ∧ i.val / 64 = j.val / 64) := by
  unfold ahead k0_pay8 k0_pay3 k0_pay4 k0_pay5 k0_pay6
  pointwise
  show IntOp.andi _ (IntOp.cmpi .eq (floorDiv _ _) (floorDiv _ _)) = _
  rw [floorDiv_64, floorDiv_64, sgt_apply, eq_apply ⟨i.val / 64, by omega⟩ ⟨j.val / 64, by omega⟩, bit_and]
  exact bit_congr (by rw [Fin.mk.injEq])

/-- The lanes of each head. -/
abbrev lane0 : IVec S1x256 1 := k0_pay51 lane
abbrev lane1 : IVec S1x256 1 := k0_pay54 lane (64#32) (k0_pay52 lane) (k0_pay53 lane)
abbrev lane2 : IVec S1x256 1 := k0_pay55 lane
abbrev lane3 : IVec S1x256 1 := k0_pay58 lane (64#32) (k0_pay56 lane) (k0_pay57 lane) 0#32

theorem lane0_apply (l : Fin 256) : lane0 (ix2 0 l) = bit (l.val / 64 = 0) := by
  unfold lane0 k0_pay51
  pointwise
  revert l; decide +kernel

theorem lane1_apply (l : Fin 256) : lane1 (ix2 0 l) = bit (l.val / 64 = 1) := by
  unfold lane1 k0_pay54 k0_pay52 k0_pay53
  pointwise
  revert l; decide +kernel

theorem lane2_apply (l : Fin 256) : lane2 (ix2 0 l) = bit (l.val / 64 = 2) := by
  unfold lane2 k0_pay55
  pointwise
  revert l; decide +kernel

theorem lane3_apply (l : Fin 256) : lane3 (ix2 0 l) = bit (l.val / 64 = 3) := by
  unfold lane3 k0_pay58 k0_pay56 k0_pay57
  pointwise
  revert l; decide +kernel

/-- The part of the state whose row and lane belong to one head. -/
abbrev same : IVec S512x256 1 := k0_pay13 (iota .tc S512x256 32 [1] iota_S512x256_d1_w32) k0_pay9 (64#32) k0_pay10 k0_pay11 k0_pay12

theorem same_apply (r : Fin 512) (l : Fin 256) : same (ix2 r l) = bit (r.val / 128 = l.val / 64) := by
  unfold same k0_pay13 k0_pay9 k0_pay10 k0_pay11 k0_pay12
  pointwise
  show IntOp.cmpi .eq (floorDiv _ _) (floorDiv _ _) = _
  rw [floorDiv_64, floorDiv_128, eq_apply ⟨r.val / 128, by omega⟩ ⟨l.val / 64, by omega⟩]
  exact bit_congr (by rw [Fin.mk.injEq])

/-! The lanes of the second attention are written apart, and are the same. -/

theorem lanes_0 : k0_pay103 lane (64#32) (k0_pay101 lane) (k0_pay102 lane) 0#32 = lane0 := rfl
theorem lanes_1 : k0_pay104 lane = lane1 := rfl
theorem lanes_2 : k0_pay107 lane (64#32) (k0_pay105 lane) k0_pay106 = lane2 := rfl
theorem lanes_3 : k0_pay109 (k0_pay108 lane) = lane3 := rfl

/-! Scores, heads and the next state of one attention. -/

theorem select_mul (c : BitVec 1) (a b : EReal) : Scalar.select c a 0 * b = Scalar.select c (a * b) 0 := by
  unfold Scalar.select; split_ifs
  · rfl
  · exact zero_mul b

section Group

variable (q k b : FVec Ideal S256x256 .f32) (m1 m2 : IVec S256x256 1) (w : FVec Ideal S256x512 .bf16) (I : FVec Ideal S256x512 .f32)
  (x : FVec Ideal S256x256 .f32) (z : FVec Ideal S256x256 .bf16) (s1 s2 : FVec Ideal S1024x256 .f32)

/-- The four heads' scores, below one another. -/
def scores (x : FVec Ideal S256x256 .f32) (z : FVec Ideal S256x256 .bf16) : FVec Ideal S1024x256 .f32 :=
  k0_pay62 x z lane2 lane3 (k0_pay60 x lane0) (k0_pay61 x lane1)

theorem scores_low : k0_pay59 lane x z lane0 lane1 lane2 (64#32) (k0_pay56 lane) (k0_pay57 lane) 0#32 = scores x z := rfl

theorem scores_high_1 : k0_pay110 x z lane0 lane1 lane2 (k0_pay108 lane) = scores x z := rfl

theorem scores_high_2 : k0_pay111 x z lane0 lane1 lane2 (k0_pay108 lane) = scores x z := rfl

theorem scores_apply (h : Fin 4) (i j : Fin 256) :
    scores x z (ix2 ⟨256 * h.val + i.val, by omega⟩ j) = ∑ l : Fin 256, if l.val / 64 = h.val then x (ix2 i l) * z (ix2 j l) else 0 := by
  have e (c : Fin 4) (M : IVec S1x256 1) (hM : ∀ l : Fin 256, M (ix2 0 l) = bit (l.val / 64 = c.val)) :
      (∑ l : Fin 256, Scalar.select (M (ix2 0 l)) (x (ix2 i l) * z (ix2 j l)) (0 : EReal)) = ∑ l : Fin 256, if l.val / 64 = c.val then x (ix2 i l) * z (ix2 j l) else 0 :=
    Finset.sum_congr rfl fun l _ => by rw [hM l]; exact if_congr bit_eq_one rfl rfl
  unfold scores k0_pay62 k0_pay60 k0_pay61
  generalize h0 : lane0 = M0
  generalize h1 : lane1 = M1
  generalize h2 : lane2 = M2
  generalize h3 : lane3 = M3
  match h with
  | 0 =>
    rw [show (⟨256 * (0 : Fin 4).val + i.val, by omega⟩ : Fin 1024) = ⟨i.val, by omega⟩ from Fin.ext (Nat.zero_add _)]
    pointwise
    exact e 0 _ fun l => h0 ▸ lane0_apply l
  | 1 => pointwise; exact e 1 _ fun l => h1 ▸ lane1_apply l
  | 2 =>
    pointwise
    simp only [dif_neg (show ¬512 + i.val < 256 by omega), dif_neg (show ¬512 + i.val - 256 < 256 by omega), dif_pos i.2, show 512 + i.val - 256 - 256 = i.val by omega, dif_pos i.2, select_mul]
    exact e 2 _ fun l => h2 ▸ lane2_apply l
  | 3 =>
    pointwise
    simp only [dif_neg (show ¬768 + i.val < 256 by omega), dif_neg (show ¬768 + i.val - 256 < 256 by omega), dif_neg (show ¬768 + i.val - 256 - 256 < 256 by omega), show 768 + i.val - 256 - 256 - 256 = i.val by omega, select_mul]
    exact e 3 _ fun l => h3 ▸ lane3_apply l

/-- One head's output, from the scores, the values and what the state gives. -/
def head (h : Fin 4) : FVec Ideal S256x128 .f32 :=
  match h with
  | 0 => k0_pay114 past ahead w I (extractStridedSlice S256x256 ![0, 0] s1 slices_S1024x256_o0_0_S256x256) (extractStridedSlice S256x256 ![0, 0] s2 slices_S1024x256_o0_0_S256x256) (Scalar.ofBits .f32 0x00000000#32)
  | 1 => k0_pay66 past ahead w I s1 s2
  | 2 => k0_pay70 past w I (k0_pay68 s1) (k0_pay69 ahead s2)
  | 3 => k0_pay72 past ahead w I s1 s2

theorem head_apply (h : Fin 4) (i : Fin 256) (v : Fin 128) : head w I s1 s2 h (ix2 i v)
    = (∑ j : Fin 256, (if j ≤ i then s1 (ix2 ⟨256 * h.val + i.val, by omega⟩ j) else if i < j ∧ i.val / 64 = j.val / 64 then s2 (ix2 ⟨256 * h.val + i.val, by omega⟩ j) else 0)
        * w (ix2 j ⟨128 * h.val + v.val, by omega⟩))
      + I (ix2 i ⟨128 * h.val + v.val, by omega⟩) := by
  have e (S1 S2 : Fin 256 → EReal) : (∑ j : Fin 256, Scalar.select (past (ix2 i j)) (S1 j) (Scalar.select (ahead (ix2 i j)) (S2 j) (0 : EReal)) * w (ix2 j ⟨128 * h.val + v.val, by omega⟩))
      = ∑ j : Fin 256, (if j ≤ i then S1 j else if i < j ∧ i.val / 64 = j.val / 64 then S2 j else 0) * w (ix2 j ⟨128 * h.val + v.val, by omega⟩) :=
    Finset.sum_congr rfl fun j _ => by
      rw [past_apply, ahead_apply]; exact congrArg (· * _) (if_congr bit_eq_one rfl (if_congr bit_eq_one rfl rfl))
  rw [← e fun j => s1 (ix2 ⟨256 * h.val + i.val, by omega⟩ j)]
  clear e
  unfold head
  generalize past = m1
  generalize ahead = m2
  match h with
  | 0 =>  unfold k0_pay114; pointwise
  | 1 => unfold k0_pay66; pointwise
  | 2 => unfold k0_pay70 k0_pay68 k0_pay69; pointwise
  | 3 => unfold k0_pay72; pointwise

theorem next_state (e : FVec Ideal S1x256 .f32) (k : FVec Ideal S256x256 .f32) (S : FVec Ideal S512x256 .f32) (r : Fin 512) (l : Fin 256) :
    k0_pay74 same w e k S (ix3 0 r l) = S (ix2 r l) * e (ix2 0 l) + (if r.val / 128 = l.val / 64 then ∑ j : Fin 256, w (ix2 j r) * k (ix2 j l) else 0) := by
  have e' (t : EReal) : Scalar.select (same (ix2 r l)) t (0 : EReal) = if r.val / 128 = l.val / 64 then t else 0 := by
    rw [same_apply]; exact if_congr bit_eq_one rfl rfl
  rw [← e']
  clear e'
  unfold k0_pay74
  generalize same = B
  pointwise

end Group

end Cert.AttnTile
end
-- ==== Proof.DecayAttn.lean ====
/- Decayed linear attention over the reals: the state after a prefix, the output of a position, and both computed block by
   block. -/
module

public import Mathlib.Analysis.SpecialFunctions.Exp
public import Mathlib.Algebra.BigOperators.Intervals

@[expose] public section

noncomputable section

namespace Cert.Decay

open Finset

/-- The sum of the log decays of the positions before `n`. -/
def cum (a : ℕ → ℝ) (n : ℕ) : ℝ := ∑ j ∈ range n, a j

theorem cum_add (a : ℕ → ℝ) (n i : ℕ) : cum a (n + i) - cum a n = ∑ j ∈ range i, a (n + j) := by
  unfold cum; rw [sum_range_add]; ring

theorem cum_anti (a : ℕ → ℝ) (ha : ∀ j, a j ≤ 0) {m n : ℕ} (h : m ≤ n) : cum a n ≤ cum a m := by
  obtain ⟨d, rfl⟩ := Nat.exists_eq_add_of_le h
  have := cum_add a m d
  have : ∑ j ∈ range d, a (m + j) ≤ 0 := sum_nonpos fun j _ => ha _
  linarith

variable {C : Type} [Fintype C]

/-- What the positions before `n` leave in channel `c`: each key times its value, decayed up to `n`. -/
def state (a k : C → ℕ → ℝ) (v : ℕ → ℝ) (n : ℕ) (c : C) : ℝ :=
  ∑ j ∈ range n, k c j * Real.exp (cum (a c) n - cum (a c) (j + 1)) * v j

theorem state_zero (a k : C → ℕ → ℝ) (v : ℕ → ℝ) (c : C) : state a k v 0 c = 0 := by simp [state]

/-- A block of `m` more positions decays the state and adds its own keys. -/
theorem state_add (a k : C → ℕ → ℝ) (v : ℕ → ℝ) (n m : ℕ) (c : C) :
    state a k v (n + m) c = Real.exp (cum (a c) (n + m) - cum (a c) n) * state a k v n c
      + ∑ i : Fin m, k c (n + i) * Real.exp (cum (a c) (n + m) - cum (a c) (n + i + 1)) * v (n + i) := by
  unfold state
  rw [sum_range_add, mul_sum, Fin.sum_univ_eq_sum_range (fun i => k c (n + i) * Real.exp (cum (a c) (n + m) - cum (a c) (n + i + 1)) * v (n + i))]
  congr 1
  refine sum_congr rfl fun j _ => ?_
  rw [show cum (a c) (n + m) - cum (a c) (j + 1) = (cum (a c) (n + m) - cum (a c) n) + (cum (a c) n - cum (a c) (j + 1)) by ring, Real.exp_add]
  ring

/-- How much position `t` reads of position `j`. -/
def weight (a q k : C → ℕ → ℝ) (t j : ℕ) : ℝ :=
  ∑ c, q c t * k c j * Real.exp (-|cum (a c) (t + 1) - cum (a c) (j + 1)|)

theorem weight_le (a q k : C → ℕ → ℝ) (ha : ∀ c j, a c j ≤ 0) {t j : ℕ} (h : j ≤ t) :
    weight a q k t j = ∑ c, q c t * k c j * Real.exp (cum (a c) (t + 1) - cum (a c) (j + 1)) := by
  refine sum_congr rfl fun c _ => ?_
  have := cum_anti (a c) (ha c) (show j + 1 ≤ t + 1 by omega)
  rw [abs_of_nonpos (by linarith)]; ring_nf

theorem weight_ge (a q k : C → ℕ → ℝ) (ha : ∀ c j, a c j ≤ 0) {t j : ℕ} (h : t ≤ j) :
    weight a q k t j = ∑ c, q c t * k c j * Real.exp (cum (a c) (j + 1) - cum (a c) (t + 1)) := by
  refine sum_congr rfl fun c _ => ?_
  have := cum_anti (a c) (ha c) (show t + 1 ≤ j + 1 by omega)
  rw [abs_of_nonneg (by linarith)]; ring_nf

/-- What position `t` reads: every earlier position, and all of its own chunk of 64. -/
def out (a q k : C → ℕ → ℝ) (v : ℕ → ℝ) (t : ℕ) : ℝ :=
  ∑ j ∈ range 4096, (if j ≤ t ∨ j / 64 = t / 64 then weight a q k t j else 0) * v j

/-- Read through the state, the positions before `n` count with their weights. -/
theorem read_state (a q k : C → ℕ → ℝ) (v : ℕ → ℝ) (ha : ∀ c j, a c j ≤ 0) {n t : ℕ} (h : n ≤ t) :
    ∑ c, q c t * Real.exp (cum (a c) (t + 1) - cum (a c) n) * state a k v n c = ∑ j ∈ range n, weight a q k t j * v j := by
  unfold state
  simp only [mul_sum]
  rw [sum_comm]
  refine sum_congr rfl fun j hj => ?_
  rw [weight_le a q k ha (by have := mem_range.mp hj; omega), sum_mul]
  refine sum_congr rfl fun c _ => ?_
  rw [show cum (a c) (t + 1) - cum (a c) (j + 1) = (cum (a c) (t + 1) - cum (a c) n) + (cum (a c) n - cum (a c) (j + 1)) by ring, Real.exp_add]
  ring

/-- The output of a position in a block of `m` positions from `n` on, both whole chunks: the state before the block, and the
    block's own positions. -/
theorem out_block (a q k : C → ℕ → ℝ) (v : ℕ → ℝ) (ha : ∀ c j, a c j ≤ 0) {n m i : ℕ} (hn : 64 ∣ n) (hm : 64 ∣ m) (hi : i < m)
    (hN : n + m ≤ 4096) :
    (∑ j : Fin m, (if j.val ≤ i ∨ j.val / 64 = i / 64 then weight a q k (n + i) (n + j) else 0) * v (n + j))
      + ∑ c, q c (n + i) * Real.exp (cum (a c) (n + i + 1) - cum (a c) n) * state a k v n c = out a q k v (n + i) := by
  obtain ⟨n', rfl⟩ := hn
  obtain ⟨m', rfl⟩ := hm
  rw [read_state a q k v ha (by omega)]
  unfold out
  obtain ⟨r, hr⟩ := Nat.exists_eq_add_of_le hN
  rw [hr, sum_range_add, sum_range_add]
  rw [Fin.sum_univ_eq_sum_range (fun j => (if j ≤ i ∨ j / 64 = i / 64 then weight a q k (64 * n' + i) (64 * n' + j) else 0) * v (64 * n' + j))]
  have h0 : ∑ j ∈ range r, (if 64 * n' + 64 * m' + j ≤ 64 * n' + i ∨ (64 * n' + 64 * m' + j) / 64 = (64 * n' + i) / 64
      then weight a q k (64 * n' + i) (64 * n' + 64 * m' + j) else 0) * v (64 * n' + 64 * m' + j) = 0 := by
    refine sum_eq_zero fun j _ => ?_
    rw [if_neg (by omega), zero_mul]
  rw [h0, add_zero, add_comm]
  congr 1
  · refine sum_congr rfl fun j hj => ?_
    rw [if_pos (Or.inl (by have := mem_range.mp hj; omega))]
  · refine sum_congr rfl fun j _ => ?_
    congr 1
    exact if_congr (by omega) rfl rfl

end Cert.Decay
end
-- ==== Proof.AttnStep.lean ====
/- One chunk of the reference's scan, read entry by entry. -/
module

public import proofs.«01_k».proof.Proof.Gen.AttnRefIdeal.Step
public import proofs.«01_k».proof.Proof.DecayAttn
public import Idealize.ShloMosaic.Lib.Pointwise
public import Idealize.ShloMosaic.Lib.IdealHost
public import Idealize.ShloMosaic.Lib.DynamicIndex

@[expose] public section

noncomputable section

namespace Cert.AttnStep

open Idealize.ShloMosaic Cert.AttnRefIdeal Cert.AttnRefIdeal.Gen Cert.AttnRefIdeal.Step

variable (n : ℕ) (s : State Ideal)

/-- The decay between two positions of a chunk whose inclusive log decays are `x` and `y`. -/
def dec (x y : EReal) : EReal := Ideal.exp (-max (x - y) (-(x - y)))

theorem ret_out (h : Fin 4) (i : Fin 64) (v : Fin 128) :
    b64 n s (ix4 0 h i v) = (∑ j : Fin 64, (∑ l : Fin 64, b5 n s (ix4 0 h i l) * b11 n s (ix4 0 h j l)) * dec (b23 n s (ix4 0 h i 0)) (b23 n s (ix4 0 h j 0)) * b17 n s (ix4 0 h j v))
      + ∑ l : Fin 64, b5 n s (ix4 0 h i l) * Ideal.exp (b23 n s (ix4 0 h i 0)) * s.main_v148_9 (ix4 0 h l v) := by
  unfold b64 b63 b62 b61 b60 b59 b58 b57 b56 b55 b54 b53 b52 b51 b50 b49 b48 dec
  generalize b5 n s = q
  generalize b11 n s = k
  generalize b17 n s = w
  generalize b23 n s = b
  pointwise
  rfl

theorem ret_state (h : Fin 4) (l : Fin 64) (v : Fin 128) :
    b77 n s (ix4 0 h l v) = Ideal.exp (b23 n s (ix4 0 h 63 0)) * s.main_v148_9 (ix4 0 h l v)
      + ∑ j : Fin 64, b11 n s (ix4 0 h j l) * Ideal.exp (b23 n s (ix4 0 h 63 0) - b23 n s (ix4 0 h j 0)) * b17 n s (ix4 0 h j v) := by
  unfold b77 b76 b75 b74 b73 b72 b71 b70 b69 b68 b67 b66 b65
  generalize b11 n s = k
  generalize b17 n s = w
  generalize b23 n s = b
  pointwise

theorem gla_out (h : Fin 4) (i : Fin 64) (v : Fin 128) :
    b98 n s (ix4 0 h i v) = (∑ j : Fin 64, (∑ l : Fin 64, b29 n s (ix4 0 h i l) * b35 n s (ix4 0 h j l) * dec (b47 n s (ix4 0 h i l)) (b47 n s (ix4 0 h j l))) * b41 n s (ix4 0 h j v))
      + ∑ l : Fin 64, b29 n s (ix4 0 h i l) * Ideal.exp (b47 n s (ix4 0 h i l)) * s.main_v148_10 (ix4 0 h l v) := by
  unfold b98 b97 b96 b95 b94 b93 b92 b91 b90 b89 b88 b87 b86 b85 b84 b83 b82 b81 b80 b79 b78 dec
  generalize b29 n s = q
  generalize b35 n s = k
  generalize b41 n s = w
  generalize b47 n s = b
  pointwise
  rfl

theorem gla_state (h : Fin 4) (l : Fin 64) (v : Fin 128) :
    b110 n s (ix4 0 h l v) = Ideal.exp (b47 n s (ix4 0 h 63 l)) * s.main_v148_10 (ix4 0 h l v)
      + ∑ j : Fin 64, b35 n s (ix4 0 h j l) * Ideal.exp (b47 n s (ix4 0 h 63 l) - b47 n s (ix4 0 h j l)) * b41 n s (ix4 0 h j v) := by
  unfold b110 b109 b108 b107 b106 b105 b104 b103 b102 b101 b100 b99
  generalize b35 n s = k
  generalize b41 n s = w
  generalize b47 n s = b
  pointwise

/-- Every chunk read of the scan starts at the trip's number and at zero elsewhere. -/
theorem start (hn : n < 64) (c0 c1 c2 c3 : (⟨S_, .i32⟩ : BufTy).Contents (Elt Ideal)) (h0 : c0 = constantI S_ 32 0#32) (h1 : c1 = constantI S_ 32 0#32)
    (h2 : c2 = constantI S_ 32 0#32) (h3 : c3 = constantI S_ 32 0#32) (a : Fin 5) :
    (((![(constantI S_ 32 (BitVec.ofNat 32 n) : (⟨S_, .i32⟩ : BufTy).Contents (Elt Ideal)), c0, c1, c2, c3] : Fin 5 → (⟨S_, .i32⟩ : BufTy).Contents (Elt Ideal))) a (Shape.Idx.first h_S_)).toInt
      = ((![n, 0, 0, 0, 0] : Fin 5 → ℕ) a : ℤ) := by
  subst h0 h1 h2 h3
  match a with
  | 0 => exact toInt_ofNat_of_lt (by omega)
  | 1 => rfl
  | 2 => rfl
  | 3 => rfl
  | 4 => rfl

theorem slices (hn : n < 64) (d e : ℕ) : (⟨5, ![64, 1, 4, d, e]⟩ : Shape).Slices ![n, 0, 0, 0, 0] ⟨5, ![1, 1, 4, d, e]⟩ :=
  ⟨rfl, fun a => match a with
    | 0 => by show n + 1 ≤ 64; omega
    | 1 => by show 0 + 1 ≤ 1; omega
    | 2 => by show 0 + 4 ≤ 4; omega
    | 3 => by show 0 + d ≤ d; omega
    | 4 => by show 0 + e ≤ e; omega⟩

theorem rd (hn : n < 64) (h : Fin 4) (i : Fin 64) :
    (∀ l, b5 n s (ix4 0 h i l) = s.main_v148_0 (ix5 ⟨n, hn⟩ 0 h i l)) ∧ (∀ l, b11 n s (ix4 0 h i l) = s.main_v148_1 (ix5 ⟨n, hn⟩ 0 h i l))
    ∧ (∀ v, b17 n s (ix4 0 h i v) = s.main_v148_2 (ix5 ⟨n, hn⟩ 0 h i v)) ∧ b23 n s (ix4 0 h i 0) = K_main_v134 (F := Ideal) (ix5 ⟨n, hn⟩ 0 h i 0)
    ∧ (∀ l, b29 n s (ix4 0 h i l) = s.main_v148_4 (ix5 ⟨n, hn⟩ 0 h i l)) ∧ (∀ l, b35 n s (ix4 0 h i l) = s.main_v148_5 (ix5 ⟨n, hn⟩ 0 h i l))
    ∧ (∀ v, b41 n s (ix4 0 h i v) = s.main_v148_6 (ix5 ⟨n, hn⟩ 0 h i v)) ∧ (∀ l, b47 n s (ix4 0 h i l) = s.main_v148_7 (ix5 ⟨n, hn⟩ 0 h i l)) := by
  refine ⟨fun l => ?_, fun l => ?_, fun l => ?_, ?_, fun l => ?_, fun l => ?_, fun l => ?_, fun l => ?_⟩
  · unfold b5 b4
    rw [Host.dynamicSlice_eq_extractStridedSlice _ _ _ ![n, 0, 0, 0, 0] _ (slices n hn 64 64) (start n hn _ _ _ _ rfl rfl rfl rfl)]
    pointwise
  · unfold b11 b10
    rw [Host.dynamicSlice_eq_extractStridedSlice _ _ _ ![n, 0, 0, 0, 0] _ (slices n hn 64 64) (start n hn _ _ _ _ rfl rfl rfl rfl)]
    pointwise
  · unfold b17 b16
    rw [Host.dynamicSlice_eq_extractStridedSlice _ _ _ ![n, 0, 0, 0, 0] _ (slices n hn 64 128) (start n hn _ _ _ _ rfl rfl rfl rfl)]
    pointwise
  · unfold b23 b22
    rw [Host.dynamicSlice_eq_extractStridedSlice _ _ _ ![n, 0, 0, 0, 0] _ (slices n hn 64 1) (start n hn _ _ _ _ rfl rfl rfl rfl)]
    pointwise
  · unfold b29 b28
    rw [Host.dynamicSlice_eq_extractStridedSlice _ _ _ ![n, 0, 0, 0, 0] _ (slices n hn 64 64) (start n hn _ _ _ _ rfl rfl rfl rfl)]
    pointwise
  · unfold b35 b34
    rw [Host.dynamicSlice_eq_extractStridedSlice _ _ _ ![n, 0, 0, 0, 0] _ (slices n hn 64 64) (start n hn _ _ _ _ rfl rfl rfl rfl)]
    pointwise
  · unfold b41 b40
    rw [Host.dynamicSlice_eq_extractStridedSlice _ _ _ ![n, 0, 0, 0, 0] _ (slices n hn 64 128) (start n hn _ _ _ _ rfl rfl rfl rfl)]
    pointwise
  · unfold b47 b46
    rw [Host.dynamicSlice_eq_extractStridedSlice _ _ _ ![n, 0, 0, 0, 0] _ (slices n hn 64 64) (start n hn _ _ _ _ rfl rfl rfl rfl)]
    pointwise

end Cert.AttnStep

end
-- ==== Proof.AttnScan.lean ====
/- The reference's scan over the chunks: the states and outputs of every trip are the decayed attention of the operands. -/
module

public import proofs.«01_k».proof.Proof.AttnStep
public import Idealize.ShloMosaic.Lib.Pipeline.Value

@[expose] public section

noncomputable section

namespace Cert.AttnStep

open Idealize.ShloMosaic Cert.AttnRefIdeal Cert.AttnRefIdeal.Gen Cert.AttnRefIdeal.Step

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem dec_coe (x y : ℝ) : dec (x : EReal) (y : EReal) = ((Real.exp (-|x - y|) : ℝ) : EReal) := by
  unfold dec
  rw [← EReal.coe_sub, ← EReal.coe_neg, show max ((x - y : ℝ) : EReal) ((-(x - y) : ℝ) : EReal) = ((|x - y| : ℝ) : EReal) from (EReal.coe_strictMono.monotone.map_max (a := x - y) (b := -(x - y))).symm, ← EReal.coe_neg]
  rfl

theorem dec_bot : dec ⊥ ⊥ = 0 := by
  show Ideal.exp (-max (⊥ - ⊥ : EReal) (-(⊥ - ⊥))) = 0
  rw [EReal.bot_sub, EReal.neg_bot, max_eq_right bot_le, EReal.neg_top, Ideal.exp_bot]

/-- The inclusive log decay inside a block that starts at `n`. -/
def blk (a : ℕ → ℝ) (n i : ℕ) : ℝ := Decay.cum a (n + i + 1) - Decay.cum a n

variable (a q k : Fin 64 → ℕ → ℝ) (v : ℕ → ℝ)

theorem chunk_out (ha : ∀ c j, a c j ≤ 0) {n : ℕ} (hn : n < 64) (i : Fin 64) :
    (∑ j : Fin 64, (∑ l : Fin 64, (q l (64 * n + i) : EReal) * (k l (64 * n + j) : EReal) * dec (blk (a l) (64 * n) i) (blk (a l) (64 * n) j)) * (v (64 * n + j) : EReal))
      + ∑ l : Fin 64, (q l (64 * n + i) : EReal) * Ideal.exp (blk (a l) (64 * n) i) * (Decay.state a k v (64 * n) l : EReal)
      = (Decay.out a q k v (64 * n + i) : EReal) := by
  simp only [dec_coe, Ideal.exp_coe, ← EReal.coe_mul, coe_sum, ← EReal.coe_add]
  refine congrArg _ ((congrArg₂ (· + ·) (Finset.sum_congr rfl fun j _ => ?_) rfl).trans (Decay.out_block a q k v ha (n := 64 * n) (m := 64) (i := i) ⟨n, rfl⟩ ⟨1, rfl⟩ i.2 (by omega)))
  rw [if_pos (Or.inr (by omega))]
  refine congrArg (· * _) (Finset.sum_congr rfl fun l _ => ?_)
  unfold blk
  rw [sub_sub_sub_cancel_right]

theorem chunk_state {n : ℕ} (l : Fin 64) :
    Ideal.exp (blk (a l) (64 * n) 63) * (Decay.state a k v (64 * n) l : EReal)
      + ∑ j : Fin 64, (k l (64 * n + j) : EReal) * Ideal.exp ((blk (a l) (64 * n) 63 : EReal) - (blk (a l) (64 * n) j : EReal)) * (v (64 * n + j) : EReal)
      = (Decay.state a k v (64 * (n + 1)) l : EReal) := by
  simp only [← EReal.coe_sub, Ideal.exp_coe, ← EReal.coe_mul, coe_sum, ← EReal.coe_add]
  refine congrArg _ (Eq.symm ((Decay.state_add a k v (64 * n) 64 l).trans (congrArg₂ (· + ·) rfl (Finset.sum_congr rfl fun j _ => ?_))))
  unfold blk
  rw [sub_sub_sub_cancel_right]

/-- Both attentions' operands as finite numbers: queries, keys and log decays by head and channel, values by head and lane. -/
structure Ops where
  a : Fin 4 → Fin 64 → ℕ → ℝ
  q : Fin 4 → Fin 64 → ℕ → ℝ
  k : Fin 4 → Fin 64 → ℕ → ℝ
  v : Fin 4 → Fin 128 → ℕ → ℝ
  neg : ∀ h l t, a h l t ≤ 0
  /-- The channels whose log decay is `-∞`: nothing passes through them. -/
  shut : Fin 4 → Fin 64 → Prop
  dead : ∀ h l t, shut h l → q h l t = 0 ∧ k h l t = 0

namespace Ops

variable (o : Ops)

def state (h : Fin 4) (v : Fin 128) (n : ℕ) (l : Fin 64) : ℝ := Decay.state (o.a h) (o.k h) (o.v h v) n l

def out (h : Fin 4) (v : Fin 128) (t : ℕ) : ℝ := Decay.out (o.a h) (o.q h) (o.k h) (o.v h v) t

theorem state_shut {h : Fin 4} {l : Fin 64} (e : o.shut h l) (v : Fin 128) (n : ℕ) : o.state h v n l = 0 := by
  unfold state Decay.state
  exact Finset.sum_eq_zero fun j _ => by rw [(o.dead h l j e).2, zero_mul, zero_mul]

end Ops

/-- A state of the scan holds the operands' chunks. -/
structure Fed (r g : Ops) (s : State Ideal) : Prop where
  rq : ∀ (c : Fin 64) h (i : Fin 64) l, s.main_v148_0 (ix5 c 0 h i l) = (r.q h l (64 * c + i) : EReal)
  rk : ∀ (c : Fin 64) h (i : Fin 64) l, s.main_v148_1 (ix5 c 0 h i l) = (r.k h l (64 * c + i) : EReal)
  rv : ∀ (c : Fin 64) h (i : Fin 64) l, s.main_v148_2 (ix5 c 0 h i l) = (r.v h l (64 * c + i) : EReal)
  gq : ∀ (c : Fin 64) h (i : Fin 64) l, ¬g.shut h l → s.main_v148_4 (ix5 c 0 h i l) = (g.q h l (64 * c + i) : EReal)
  gk : ∀ (c : Fin 64) h (i : Fin 64) l, ¬g.shut h l → s.main_v148_5 (ix5 c 0 h i l) = (g.k h l (64 * c + i) : EReal)
  gv : ∀ (c : Fin 64) h (i : Fin 64) l, s.main_v148_6 (ix5 c 0 h i l) = (g.v h l (64 * c + i) : EReal)
  gb : ∀ (c : Fin 64) h (i : Fin 64) l, ¬g.shut h l → s.main_v148_7 (ix5 c 0 h i l) = (blk (g.a h l) (64 * c) i : EReal)
  gz : ∀ (c : Fin 64) h (i : Fin 64) l, g.shut h l → s.main_v148_7 (ix5 c 0 h i l) = ⊥

/-- What a state of the scan holds before trip `n`. -/
structure Upto (r g : Ops) (n : ℕ) (s : State Ideal) : Prop extends Fed r g s where
  rs : ∀ h l v, s.main_v148_9 (ix4 0 h l v) = (r.state h v (64 * n) l : EReal)
  gs : ∀ h l v, s.main_v148_10 (ix4 0 h l v) = (g.state h v (64 * n) l : EReal)
  ro : ∀ (c : Fin 64) h (i : Fin 64) v, c.val < n → s.main_v148_11 (ix5 c 0 h i v) = (r.out h v (64 * c + i) : EReal)
  go : ∀ (c : Fin 64) h (i : Fin 64) v, c.val < n → s.main_v148_12 (ix5 c 0 h i v) = (g.out h v (64 * c + i) : EReal)
  rt : ∀ (c : Fin 64) h (l : Fin 64) v, c.val < n → s.main_v148_13 (ix5 c 0 h l v) = (r.state h v (64 * c) l : EReal)
  gt : ∀ (c : Fin 64) h (l : Fin 64) v, c.val < n → s.main_v148_14 (ix5 c 0 h l v) = (g.state h v (64 * c) l : EReal)

theorem upd (n : ℕ) (hn : n < 64) (x : (⟨S64x1x4x64x128, .f32⟩ : BufTy).Contents (Elt Ideal)) (u : (⟨S1x1x4x64x128, .f32⟩ : BufTy).Contents (Elt Ideal)) (st : Fin 5 → ℤ)
    (hs : ∀ a, st a = ((![n, 0, 0, 0, 0] : Fin 5 → ℕ) a : ℤ)) (hf : S64x1x4x64x128.Slices (fun _ => 0) S1x1x4x64x128) (c : Fin 64) (h : Fin 4) (i : Fin 64) (v : Fin 128) :
    Host.dynamicUpdateSlice x u st hf (ix5 c 0 h i v) = if c.val = n then u (ix5 0 0 h i v) else x (ix5 c 0 h i v) := by
  rw [Host.dynamicUpdateSlice_eq_updateSlice x u st hf ![n, 0, 0, 0, 0] (fun a => by
    rw [hs a]
    match a with
    | 0 => show (min (max (n : ℤ) 0) ((64 - 1 : ℕ) : ℤ)).toNat = n; omega
    | 1 => rfl
    | 2 => rfl
    | 3 => rfl
    | 4 => rfl) (slices n hn 64 128)]
  unfold updateSlice
  split_ifs with h1 h2 h2
  · refine congrArg u (funext fun b => Fin.ext ?_)
    match b with
    | 0 => show c.val - n = 0; omega
    | 1 => rfl
    | 2 => rfl
    | 3 => rfl
    | 4 => rfl
  · have := h1 0
    exact absurd (show c.val = n by have h3 : n ≤ c.val ∧ c.val < n + 1 := this; omega) h2
  · refine absurd (fun b => ?_) h1
    match b with
    | 0 => show n ≤ c.val ∧ c.val < n + 1; omega
    | 1 => exact ⟨Nat.zero_le _, by show 0 < 0 + 1; omega⟩
    | 2 => exact ⟨Nat.zero_le _, by show h.val < 0 + 4; omega⟩
    | 3 => exact ⟨Nat.zero_le _, by show i.val < 0 + 64; omega⟩
    | 4 => exact ⟨Nat.zero_le _, by show v.val < 0 + 128; omega⟩
  · rfl

theorem upto_step (r g : Ops) (hr : ∀ h l l', r.a h l = r.a h l') (hb : ∀ (c : Fin 64) h (i : Fin 64) l, K_main_v134 (F := Ideal) (ix5 c 0 h i 0) = (blk (r.a h l) (64 * c) i : EReal))
    {n : ℕ} (hn : n < 64) {s : State Ideal} (hs : Upto r g n s) : Upto r g (n + 1) (step n s) := by
  have hro : ∀ (h : Fin 4) (i : Fin 64) (v : Fin 128), b64 n s (ix4 0 h i v) = (r.out h v (64 * n + i) : EReal) := fun h i v => by
    rw [ret_out]
    simp only [(rd n s hn h _).1, (rd n s hn h _).2.1, (rd n s hn h _).2.2.1, (rd n s hn h _).2.2.2.1, hs.rq, hs.rk, hs.rv, hs.rs, hb _ h _ 0]
    refine Eq.trans ?_ (chunk_out (r.a h) (r.q h) (r.k h) (r.v h v) (r.neg h) hn i)
    refine congrArg₂ (· + ·) (Finset.sum_congr rfl fun j _ => congrArg (· * _) ?_) (Finset.sum_congr rfl fun l _ => by rw [hr h l 0]; rfl)
    simp only [dec_coe, ← EReal.coe_mul, coe_sum]
    refine congrArg _ ((Finset.sum_mul _ _ _).trans (Finset.sum_congr rfl fun l _ => by rw [hr h l 0]))
  have hgo : ∀ (h : Fin 4) (i : Fin 64) (v : Fin 128), b98 n s (ix4 0 h i v) = (g.out h v (64 * n + i) : EReal) := fun h i v => by
    rw [gla_out]
    simp only [(rd n s hn h _).2.2.2.2.1, (rd n s hn h _).2.2.2.2.2.1, (rd n s hn h _).2.2.2.2.2.2.1, (rd n s hn h _).2.2.2.2.2.2.2, hs.gv, hs.gs]
    refine (congrArg₂ (· + ·) (Finset.sum_congr rfl fun j _ => congrArg (· * _) (Finset.sum_congr rfl fun l _ => ?_)) (Finset.sum_congr rfl fun l _ => ?_)).trans
      (chunk_out (g.a h) (g.q h) (g.k h) (g.v h v) (g.neg h) hn i)
    · by_cases e : g.shut h l
      · rw [hs.gz _ _ _ _ e, hs.gz _ _ _ _ e, dec_bot, mul_zero, (g.dead h l _ e).1, EReal.coe_zero, zero_mul, zero_mul]
      · rw [hs.gq _ _ _ _ e, hs.gk _ _ _ _ e, hs.gb _ _ _ _ e, hs.gb _ _ _ _ e]
    · by_cases e : g.shut h l
      · rw [hs.gz _ _ _ _ e, Ideal.exp_bot, mul_zero, zero_mul, (g.dead h l _ e).1, EReal.coe_zero, zero_mul, zero_mul]
      · rw [hs.gq _ _ _ _ e, hs.gb _ _ _ _ e]; rfl
  refine ⟨⟨hs.rq, hs.rk, hs.rv, hs.gq, hs.gk, hs.gv, hs.gb, hs.gz⟩, fun h l v => ?_, fun h l v => ?_, fun c h i v hc => ?_, fun c h i v hc => ?_, fun c h l v hc => ?_, fun c h l v hc => ?_⟩
  · rw [step_main_v148_9, ret_state]
    simp only [(rd n s hn h _).2.1, (rd n s hn h _).2.2.1, (rd n s hn h _).2.2.2.1, hs.rk, hs.rv, hs.rs, hb _ h _ l]
    exact chunk_state (r.a h) (r.k h) (r.v h v) l
  · rw [step_main_v148_10, gla_state]
    simp only [(rd n s hn h _).2.2.2.2.2.1, (rd n s hn h _).2.2.2.2.2.2.1, (rd n s hn h _).2.2.2.2.2.2.2, hs.gv, hs.gs]
    by_cases e : g.shut h l
    · simp only [hs.gz _ _ _ _ e, g.state_shut e, Ideal.exp_bot, EReal.bot_sub, mul_zero, zero_mul, Finset.sum_const_zero, add_zero, EReal.coe_zero]
    · simp only [hs.gk _ _ _ _ e, hs.gb _ _ _ _ e]
      exact chunk_state (g.a h) (g.k h) (g.v h v) l
  · rw [step_main_v148_11]
    unfold b116
    rw [upd n hn _ _ _ (start n hn (b112 n s) (b113 n s) (b114 n s) (b115 n s) rfl rfl rfl rfl)]
    split_ifs with e
    · rw [e, ← hro h i v]; unfold b111; pointwise
    · exact hs.ro c h i v (by omega)
  · rw [step_main_v148_12]
    unfold b122
    rw [upd n hn _ _ _ (start n hn (b118 n s) (b119 n s) (b120 n s) (b121 n s) rfl rfl rfl rfl)]
    split_ifs with e
    · rw [e, ← hgo h i v]; unfold b117; pointwise
    · exact hs.go c h i v (by omega)
  · rw [step_main_v148_13]
    unfold b128
    rw [upd n hn _ _ _ (start n hn (b124 n s) (b125 n s) (b126 n s) (b127 n s) rfl rfl rfl rfl)]
    split_ifs with e
    · rw [e, ← hs.rs h l v]; unfold b123; pointwise
    · exact hs.rt c h l v (by omega)
  · rw [step_main_v148_14]
    unfold b134
    rw [upd n hn _ _ _ (start n hn (b130 n s) (b131 n s) (b132 n s) (b133 n s) rfl rfl rfl rfl)]
    split_ifs with e
    · rw [e, ← hs.gs h l v]; unfold b129; pointwise
    · exact hs.gt c h l v (by omega)

/-- The scan's last state holds the decayed attention of the operands. -/
theorem upto_all (r g : Ops) (hr : ∀ h l l', r.a h l = r.a h l') (hb : ∀ (c : Fin 64) h (i : Fin 64) l, K_main_v134 (F := Ideal) (ix5 c 0 h i 0) = (blk (r.a h l) (64 * c) i : EReal))
    (it : ℕ → State Ideal) (h0 : Upto r g 0 (it 0)) (hs : ∀ n, it (n + 1) = step n (it n)) : ∀ n, n ≤ 64 → Upto r g n (it n)
  | 0, _ => h0
  | n + 1, h => hs n ▸ upto_step r g hr hb (by omega) (upto_all r g hr hb it h0 hs n (by omega))

end Cert.AttnStep

end
-- ==== Proof.AttnBlock.lean ====
/- A block of 256 positions of a decaying attention, read as the kernel computes it, gives the attention's outputs and its next state. -/
module

public import proofs.«01_k».proof.Proof.AttnTile
public import proofs.«01_k».proof.Proof.AttnScan

@[expose] public section

noncomputable section

namespace Cert.AttnBlock

open Idealize Idealize.ShloMosaic Cert.AttnKernelIdeal Cert.AttnKernelIdeal.Gen Cert.AttnTile
open Cert.AttnStep (Ops blk coe_sum)

/-- Of 256 lanes only the 64 of one head count. -/
theorem sum_head {M : Type} [AddCommMonoid M] (h : Fin 4) (f : Fin 256 → M) :
    (∑ l : Fin 256, if l.val / 64 = h.val then f l else 0) = ∑ l : Fin 64, f ⟨64 * h.val + l.val, by omega⟩ := by
  rw [← Finset.sum_filter]
  refine Finset.sum_bij' (fun l _ => ⟨l.val % 64, by omega⟩) (fun l _ => ⟨64 * h.val + l.val, by omega⟩) ?_ ?_ ?_ ?_ ?_
  · intro l _; exact Finset.mem_univ _
  · intro l _; simp only [Finset.mem_filter, Finset.mem_univ, true_and]; omega
  · intro l hl; simp only [Finset.mem_filter, Finset.mem_univ, true_and] at hl; exact Fin.ext (by simp only; omega)
  · intro l _; exact Fin.ext (by simp only; omega)
  · intro l hl; simp only [Finset.mem_filter, Finset.mem_univ, true_and] at hl; exact congrArg f (Fin.ext (by simp only; omega))

variable (r : Ops) (c : ℕ)

/-- The kernel's arrays of one attention over the block of 256 positions that starts at `256 * c`. -/
structure Holds (q k b : FVec Ideal S256x256 .f32) (w : FVec Ideal S256x512 .bf16) (S : FVec Ideal S512x256 .f32) : Prop where
  q (i : Fin 256) (h : Fin 4) (l : Fin 64) (e : ¬r.shut h l) : q (ix2 i ⟨64 * h.val + l.val, by omega⟩) = (r.q h l (256 * c + i) : EReal)
  k (i : Fin 256) (h : Fin 4) (l : Fin 64) (e : ¬r.shut h l) : k (ix2 i ⟨64 * h.val + l.val, by omega⟩) = (r.k h l (256 * c + i) : EReal)
  z (i : Fin 256) (h : Fin 4) (l : Fin 64) (e : r.shut h l) : b (ix2 i ⟨64 * h.val + l.val, by omega⟩) = ⊥
  b (i : Fin 256) (h : Fin 4) (l : Fin 64) (e : ¬r.shut h l) : b (ix2 i ⟨64 * h.val + l.val, by omega⟩) = (blk (r.a h l) (256 * c) i : EReal)
  w (i : Fin 256) (h : Fin 4) (v : Fin 128) : w (ix2 i ⟨128 * h.val + v.val, by omega⟩) = (r.v h v (256 * c + i) : EReal)
  S (g h : Fin 4) (v : Fin 128) (l : Fin 64) : S (ix2 ⟨128 * g.val + v.val, by omega⟩ ⟨64 * h.val + l.val, by omega⟩) = if g = h then (r.state h v (256 * c) l : EReal) else 0

variable {r c}
variable {q k b : FVec Ideal S256x256 .f32} {w : FVec Ideal S256x512 .bf16} {S : FVec Ideal S512x256 .f32}
variable {x1 x2 : FVec Ideal S256x256 .f32} {z1 z2 : FVec Ideal S256x256 .bf16} {I : FVec Ideal S256x512 .f32}

theorem out (H : Holds r c q k b w S) (hc : c < 16)
    (hx1 : ∀ i l, x1 (ix2 i l) = q (ix2 i l) * Ideal.exp (b (ix2 i l) - b (ix2 127 l)))
    (hz1 : ∀ j l, z1 (ix2 j l) = k (ix2 j l) * Ideal.exp (b (ix2 127 l) - b (ix2 j l)))
    (hx2 : ∀ i l, x2 (ix2 i l) = q (ix2 i l) * Ideal.exp (b (ix2 127 l) - b (ix2 i l)))
    (hz2 : ∀ j l, z2 (ix2 j l) = k (ix2 j l) * Ideal.exp (b (ix2 j l) - b (ix2 127 l)))
    (hI : ∀ i n, I (ix2 i n) = ∑ l : Fin 256, q (ix2 i l) * Ideal.exp (b (ix2 i l)) * S (ix2 n l))
    (h : Fin 4) (i : Fin 256) (v : Fin 128) :
    head w I (scores x1 z1) (scores x2 z2) h (ix2 i v) = (r.out h v (256 * c + i) : EReal) := by
  have w1 (j : Fin 256) (hj : j ≤ i) : scores x1 z1 (ix2 ⟨256 * h.val + i.val, by omega⟩ j) = (Decay.weight (r.a h) (r.q h) (r.k h) (256 * c + i) (256 * c + j) : EReal) := by
    rw [scores_apply, sum_head h, Decay.weight_le _ _ _ (r.neg h) (by have := Fin.le_def.mp hj; omega), ← coe_sum]
    refine Finset.sum_congr rfl fun l _ => ?_
    by_cases e : r.shut h l
    · rw [hx1, hz1, H.z _ _ _ e, H.z _ _ _ e, EReal.bot_sub, Ideal.exp_bot, mul_zero, zero_mul, (r.dead h l _ e).1, zero_mul, zero_mul, EReal.coe_zero]
    rw [hx1, hz1, H.q _ _ _ e, H.k _ _ _ e, H.b _ _ _ e, H.b _ _ _ e, H.b _ _ _ e]
    simp only [← EReal.coe_sub, Ideal.exp_coe, ← EReal.coe_mul]
    refine congrArg _ ?_
    rw [mul_mul_mul_comm, ← Real.exp_add]
    unfold blk
    ring_nf
  have w2 (j : Fin 256) (hj : i < j) : scores x2 z2 (ix2 ⟨256 * h.val + i.val, by omega⟩ j) = (Decay.weight (r.a h) (r.q h) (r.k h) (256 * c + i) (256 * c + j) : EReal) := by
    rw [scores_apply, sum_head h, Decay.weight_ge _ _ _ (r.neg h) (by have := Fin.lt_def.mp hj; omega), ← coe_sum]
    refine Finset.sum_congr rfl fun l _ => ?_
    by_cases e : r.shut h l
    · rw [hx2, hz2, H.z _ _ _ e, H.z _ _ _ e, EReal.bot_sub, Ideal.exp_bot, mul_zero, zero_mul, (r.dead h l _ e).1, zero_mul, zero_mul, EReal.coe_zero]
    rw [hx2, hz2, H.q _ _ _ e, H.k _ _ _ e, H.b _ _ _ e, H.b _ _ _ e, H.b _ _ _ e]
    simp only [← EReal.coe_sub, Ideal.exp_coe, ← EReal.coe_mul]
    refine congrArg _ ?_
    rw [mul_mul_mul_comm, ← Real.exp_add]
    unfold blk
    ring_nf
  have hs : I (ix2 i ⟨128 * h.val + v.val, by omega⟩) = ((∑ l : Fin 64, r.q h l (256 * c + i) * Real.exp (blk (r.a h l) (256 * c) i) * r.state h v (256 * c) l : ℝ) : EReal) := by
    rw [hI, ← coe_sum, ← (sum_head h fun l => q (ix2 i l) * Ideal.exp (b (ix2 i l)) * S (ix2 ⟨128 * h.val + v.val, by omega⟩ l)).trans (Finset.sum_congr rfl fun l _ => ?_)]
    · refine Finset.sum_congr rfl fun l _ => ?_
      split_ifs with hl
      · rfl
      · rw [show l = ⟨64 * (⟨l.val / 64, by omega⟩ : Fin 4).val + (⟨l.val % 64, by omega⟩ : Fin 64).val, by simp only; omega⟩ from Fin.ext (by simp only; omega), H.S,
          if_neg (fun e => hl (by rw [e])), mul_zero]
    · by_cases e : r.shut h l
      · rw [H.z _ _ _ e, Ideal.exp_bot, mul_zero, zero_mul, (r.dead h l _ e).1, zero_mul, zero_mul, EReal.coe_zero]
      rw [H.q _ _ _ e, H.b _ _ _ e, H.S, if_pos rfl]
      simp only [Ideal.exp_coe, ← EReal.coe_mul]
  rw [head_apply, hs]
  refine Eq.trans (congrArg (· + _) ((Finset.sum_congr rfl fun j _ => ?_).trans (coe_sum _ _))) ((EReal.coe_add _ _).symm.trans (congrArg _ (Decay.out_block (r.a h) (r.q h) (r.k h) (r.v h v) (r.neg h)
    (n := 256 * c) (m := 256) (i := i) ⟨4 * c, by ring⟩ ⟨4, rfl⟩ i.2 (by omega))))
  rw [H.w, EReal.coe_mul]
  refine congrArg (· * _) ?_
  by_cases h1 : j ≤ i
  · rw [if_pos h1, w1 j h1, if_pos (Or.inl (Fin.le_def.mp h1))]
  · rw [if_neg h1]
    have h1' : i < j := not_le.mp h1
    by_cases h2 : i.val / 64 = j.val / 64
    · rw [if_pos ⟨h1', h2⟩, w2 j h1', if_pos (Or.inr h2.symm)]
    · rw [if_neg fun e => h2 e.2, if_neg (not_or.mpr ⟨fun e => h1 (Fin.le_def.mpr e), fun e => h2 e.symm⟩)]; rfl

theorem next (H : Holds r c q k b w S) {e : FVec Ideal S1x256 .f32} {kw : FVec Ideal S256x256 .f32}
    (he : ∀ l, e (ix2 0 l) = Ideal.exp (b (ix2 255 l)))
    (hk : ∀ j l, kw (ix2 j l) = k (ix2 j l) * Ideal.exp (b (ix2 255 l) - b (ix2 j l)))
    (g h : Fin 4) (v : Fin 128) (l : Fin 64) :
    k0_pay74 same w e kw S (ix3 0 ⟨128 * g.val + v.val, by omega⟩ ⟨64 * h.val + l.val, by omega⟩) = if g = h then (r.state h v (256 * (c + 1)) l : EReal) else 0 := by
  rw [next_state, H.S, he]
  by_cases hg : g = h
  · subst hg
    by_cases e0 : r.shut g l
    · rw [if_pos rfl, if_pos rfl, if_pos (by simp only; omega), H.z _ _ _ e0, Ideal.exp_bot, mul_zero, r.state_shut e0, EReal.coe_zero, zero_add]
      exact Finset.sum_eq_zero fun j _ => by rw [hk, H.z _ _ _ e0, EReal.bot_sub, Ideal.exp_bot, mul_zero, mul_zero]
    rw [H.b _ _ _ e0]
    rw [if_pos rfl, if_pos rfl, if_pos (by simp only; omega)]
    refine Eq.trans (congrArg (_ + ·) (Finset.sum_congr rfl fun j _ => ?_)) (?_ : (r.state g v (256 * c) l : EReal) * Ideal.exp (blk (r.a g l) (256 * c) 255)
      + ∑ j : Fin 256, ((r.k g l (256 * c + j) * Real.exp (blk (r.a g l) (256 * c) 255 - blk (r.a g l) (256 * c) j) * r.v g v (256 * c + j) : ℝ) : EReal) = _)
    · rw [hk, H.w, H.k _ _ _ e0, H.b _ _ _ e0, H.b _ _ _ e0]
      simp only [← EReal.coe_sub, Ideal.exp_coe, ← EReal.coe_mul]
      exact congrArg _ (mul_comm _ _)
    · rw [coe_sum, Ideal.exp_coe, ← EReal.coe_mul, ← EReal.coe_add]
      refine congrArg _ (Eq.symm ((Decay.state_add (r.a g) (r.k g) (r.v g v) (256 * c) 256 l).trans (congrArg₂ (· + ·) (mul_comm _ _) (Finset.sum_congr rfl fun j _ => ?_))))
      unfold blk
      rw [sub_sub_sub_cancel_right]
  · rw [if_neg hg, if_neg hg, if_neg (fun e => hg (Fin.ext (by simp only at e; omega))), zero_mul, zero_add]

end Cert.AttnBlock
end
-- ==== Proof.AttnGroup.lean ====
/- The kernel's two attentions over a block: what its operands and stores hold, entry by entry. -/
module

public import proofs.«01_k».proof.Proof.AttnBlock

@[expose] public section

set_option maxRecDepth 16384

noncomputable section

namespace Cert.AttnBlock

open Idealize Idealize.ShloMosaic Cert.AttnKernelIdeal Cert.AttnKernelIdeal.Gen Cert.AttnTile
open Cert.AttnStep (Ops blk coe_sum)

/-! The first attention, whose decay is a number of each head. -/

theorem sitofp_row (i : Fin 256) : (FloatOps.sitofp .f32 (BitVec.ofNat 32 i.val) : Ideal .f32) = ((i.val : ℝ) : EReal) := by
  show (((BitVec.ofNat 32 i.val).toInt : ℝ) : EReal) = _
  rw [toInt_ofNat]; rfl

section Low

variable {r : Ops} {c : ℕ} {Q : FVec Ideal S256x256 .f32} {w : FVec Ideal S256x512 .bf16} {g : FVec Ideal S1x256 .f32} {P : Vec Ideal S1x512x256 .f32}
  {a1 a2 a3 a4 a6 : FVec Ideal S256x128 .f32} {a5 : IVec S256x128 1} {a7 : BitVec 32}

theorem low_head (H : Holds r c Q (k0_pay31 a1 a2 a3 a4 a5 a6 a7) (k0_pay34 g) w (k0_pay45 P)) (hc : c < 16) (h : Fin 4) (i : Fin 256) (v : Fin 128) :
    head w (k0_pay48 (k0_pay45 P) (k0_pay47 g Q)) (scores (k0_pay40 g Q) (k0_pay49 (k0_pay43 a1 g a2 a3 a4 a5 a6 a7)))
      (scores (k0_pay41 g Q) (k0_pay50 (k0_pay42 a1 g a2 a3 a4 a5 a6 a7))) h (ix2 i v) = (r.out h v (256 * c + i) : EReal) := by
  refine out H hc ?_ ?_ ?_ ?_ ?_ h i v
  · unfold k0_pay40 k0_pay37 k0_pay35; generalize k0_pay34 g = b; intro i l; pointwise
  · unfold k0_pay49 k0_pay43 k0_pay38 k0_pay35; generalize k0_pay34 g = b; generalize k0_pay31 a1 a2 a3 a4 a5 a6 a7 = k; intro i l; pointwise
  · unfold k0_pay41 k0_pay38 k0_pay35; generalize k0_pay34 g = b; intro i l; pointwise
  · unfold k0_pay50 k0_pay42 k0_pay37 k0_pay35; generalize k0_pay34 g = b; generalize k0_pay31 a1 a2 a3 a4 a5 a6 a7 = k; intro i l; pointwise
  · unfold k0_pay48 k0_pay47; generalize k0_pay34 g = b; generalize k0_pay45 P = S; intro i n; pointwise

theorem low_next (H : Holds r c Q (k0_pay31 a1 a2 a3 a4 a5 a6 a7) (k0_pay34 g) w (k0_pay45 P)) (g' h : Fin 4) (v : Fin 128) (l : Fin 64) :
    k0_pay74 same w (k0_pay39 g) (k0_pay44 a1 g a2 a3 a4 a5 a6 a7) (k0_pay45 P) (ix3 0 ⟨128 * g'.val + v.val, by omega⟩ ⟨64 * h.val + l.val, by omega⟩)
      = if g' = h then (r.state h v (256 * (c + 1)) l : EReal) else 0 := by
  refine next H ?_ ?_ g' h v l
  · unfold k0_pay39 k0_pay36; generalize k0_pay34 g = b; intro l; pointwise
  · unfold k0_pay44 k0_pay36; generalize k0_pay34 g = b; generalize k0_pay31 a1 a2 a3 a4 a5 a6 a7 = k; intro i l; pointwise

theorem low_blk {a : Fin 256 → ℝ} (ha : ∀ l, g (ix2 0 l) = (a l : EReal)) (i l : Fin 256) : k0_pay34 g (ix2 i l) = (((i.val : ℝ) + 1) * a l : ℝ) := by
  unfold k0_pay34
  pointwise
  rw [ha, sitofp_row, ← EReal.coe_one, ← EReal.coe_add, ← EReal.coe_mul]

end Low

/-! The second attention, whose decay is computed at every position. -/

section High

variable {r : Ops} {c : ℕ} {q k : FVec Ideal S256x256 .f32} {w : FVec Ideal S256x512 .bf16} {P : Vec Ideal S1x512x256 .f32}
  {t a1 a2 : FVec Ideal S256x256 .bf16} {a3 : FVec Ideal S256x256 .f32}

theorem high_head (H : Holds r c q k (k0_pay87 t a1 a2 a3) w (k0_pay96 P)) (hc : c < 16) (h : Fin 4) (i : Fin 256) (v : Fin 128) :
    head w (k0_pay98 q t a1 a2 a3 P) (scores (k0_pay93 q t a1 a2 a3) (k0_pay99 k t a1 a2 a3)) (scores (k0_pay94 q t a1 a2 a3) (k0_pay100 k t a1 a2 a3)) h (ix2 i v)
      = (r.out h v (256 * c + i) : EReal) := by
  refine out H hc ?_ ?_ ?_ ?_ ?_ h i v
  · unfold k0_pay93 k0_pay90 k0_pay88; generalize k0_pay87 t a1 a2 a3 = b; intro i l; pointwise
  · unfold k0_pay99 k0_pay91 k0_pay88; generalize k0_pay87 t a1 a2 a3 = b; intro i l; pointwise
  · unfold k0_pay94 k0_pay91 k0_pay88; generalize k0_pay87 t a1 a2 a3 = b; intro i l; pointwise
  · unfold k0_pay100 k0_pay90 k0_pay88; generalize k0_pay87 t a1 a2 a3 = b; intro i l; pointwise
  · unfold k0_pay98; generalize k0_pay87 t a1 a2 a3 = b; generalize k0_pay96 P = S; intro i n; pointwise

theorem high_next (H : Holds r c q k (k0_pay87 t a1 a2 a3) w (k0_pay96 P)) (g' h : Fin 4) (v : Fin 128) (l : Fin 64) :
    k0_pay125 same w (k0_pay92 t a1 a2 a3) (k0_pay95 k t a1 a2 a3) (k0_pay96 P) (ix3 0 ⟨128 * g'.val + v.val, by omega⟩ ⟨64 * h.val + l.val, by omega⟩)
      = if g' = h then (r.state h v (256 * (c + 1)) l : EReal) else 0 := by
  refine next H ?_ ?_ g' h v l
  · unfold k0_pay92 k0_pay89; generalize k0_pay87 t a1 a2 a3 = b; intro l; pointwise
  · unfold k0_pay95 k0_pay89; generalize k0_pay87 t a1 a2 a3 = b; intro i l; pointwise

/-- The log of the decay, from the gate's logit. -/
def logDecay (x : ℝ) : ℝ := (min x 0 - Real.log (1 + Real.exp (-|x|))) / 16

theorem logDecay_neg (x : ℝ) : logDecay x ≤ 0 := by
  unfold logDecay
  have h1 : min x 0 ≤ 0 := min_le_right x 0
  have h2 : 0 ≤ Real.log (1 + Real.exp (-|x|)) := Real.log_nonneg (by linarith [Real.exp_pos (-|x|)])
  linarith

/-- The same in the extended reals, as the kernel computes it. -/
def soft (x : EReal) : EReal :=
  (min x 0 - Ideal.log (1 + Ideal.exp (0 - max x (-x)))) * Ideal.ofBits .f32 0x3D800000#32

theorem sixteenth : (Ideal.ofBits .f32 0x3D800000#32 : EReal) = ((1 / 16 : ℝ) : EReal) := by simp [Ideal.ofBits, Ideal.ieee, -EReal.coe_mul]; norm_num

theorem soft_coe (x : ℝ) : soft (x : EReal) = (logDecay x : EReal) := by
  unfold soft
  rw [← EReal.coe_neg, show max (x : EReal) ((-x : ℝ) : EReal) = ((|x| : ℝ) : EReal) from (EReal.coe_strictMono.monotone.map_max (a := x) (b := -x)).symm,
    zero_sub, ← EReal.coe_neg, Ideal.exp_coe, ← EReal.coe_one, ← EReal.coe_add, Ideal.log_coe, if_neg (by linarith [Real.exp_pos (-|x|)]),
    ← EReal.coe_zero, ← EReal.coe_strictMono.monotone.map_min, ← EReal.coe_sub, sixteenth, ← EReal.coe_mul]
  exact congrArg _ (mul_one_div _ _)

theorem soft_bot : soft ⊥ = ⊥ := by
  unfold soft
  rw [min_eq_left bot_le, EReal.bot_sub, sixteenth, EReal.bot_mul_coe_of_pos (by norm_num)]

theorem soft_top : soft ⊤ = 0 := by
  unfold soft
  rw [min_eq_right le_top, max_eq_left le_top, show (0 : EReal) - ⊤ = ⊥ from rfl, Ideal.exp_bot, add_zero, ← EReal.coe_one, Ideal.log_coe, if_neg (by norm_num), Real.log_one,
    EReal.coe_zero, sub_zero, zero_mul]

variable {W : FVec Ideal S128x256 .f32} {B : Vec Ideal S1x256 .f32} {X : Vec Ideal S256x128 .bf16}

theorem high_gate (i l : Fin 256) :
    k0_pay80 W B X (ix2 i l) = soft ((∑ m : Fin 128, X (ix2 i m) * W (ix2 m l)) + B (ix2 0 l)) := by
  unfold k0_pay80 soft
  pointwise
  rfl

theorem sitofp_bit (p : Prop) [Decidable p] : (FloatOps.sitofp .f32 (BitVec.setWidth 32 (bit p)) : Ideal .f32) = ((if p then 1 else 0 : ℝ) : EReal) := by
  show (((BitVec.setWidth 32 (bit p)).toInt : ℝ) : EReal) = _
  unfold bit; split_ifs <;> simp

theorem high_blk {a : Fin 256 → ℝ} {l : Fin 256} (ha : ∀ i, k0_pay80 W B X (ix2 i l) = (a i : EReal)) (i : Fin 256) :
    k0_pay87 k0_pay81 (k0_pay84 W B X) (k0_pay85 W B X) (k0_pay86 W B X) (ix2 i l) = ((∑ j : Fin 256, if j ≤ i then a j else 0 : ℝ) : EReal) := by
  unfold k0_pay87 k0_pay86 k0_pay85 k0_pay84 k0_pay83 k0_pay82 k0_pay81
  revert ha
  generalize k0_pay80 W B X = A
  intro ha
  pointwise
  simp only [ha, sle_apply, sitofp_bit, ← EReal.coe_sub, ← EReal.coe_mul, coe_sum, ← EReal.coe_add]
  refine congrArg _ ?_
  simp only [sub_self, mul_zero, Finset.sum_const_zero, add_zero]
  exact Finset.sum_congr rfl fun j _ => by split_ifs <;> simp

/-- A channel with log decay `-∞` at every position keeps it in the sums. -/
theorem high_blk_bot {l : Fin 256} (ha : ∀ i, k0_pay80 W B X (ix2 i l) = ⊥) (i : Fin 256) :
    k0_pay87 k0_pay81 (k0_pay84 W B X) (k0_pay85 W B X) (k0_pay86 W B X) (ix2 i l) = ⊥ := by
  unfold k0_pay87 k0_pay86 k0_pay85 k0_pay84 k0_pay83 k0_pay82 k0_pay81
  revert ha
  generalize k0_pay80 W B X = A
  intro ha
  pointwise
  simp only [ha, sle_apply, sitofp_bit, EReal.bot_sub]
  rw [Fin.sum_univ_succ (n := 255), if_pos (Fin.zero_le i), EReal.coe_one, one_mul, EReal.bot_add, EReal.bot_add, EReal.bot_add]

end High

/-! The rotary turn of the queries and keys, 128 lanes at a time. -/

/-- Whether a lane is in the lower half of its 64, as the kernel computes it. -/
def lowHalf (l : BitVec 32) : BitVec 1 :=
  IntOp.cmpi .slt
    (Scalar.select
      (IntOp.andi
        (IntOp.xori (IntOp.cmpi .slt (IntOp.remsi .vector l (Scalar.select (Scalar.cmpi .eq 64#32 0#32) 1#32 64#32)) 0#32)
          (Scalar.cmpi .slt (Scalar.select (Scalar.cmpi .eq 64#32 0#32) 1#32 64#32) 0#32))
        (IntOp.cmpi .ne (IntOp.remsi .vector l (Scalar.select (Scalar.cmpi .eq 64#32 0#32) 1#32 64#32)) 0#32))
      (IntOp.addi (IntOp.remsi .vector l (Scalar.select (Scalar.cmpi .eq 64#32 0#32) 1#32 64#32)) 64#32)
      (IntOp.remsi .vector l (Scalar.select (Scalar.cmpi .eq 64#32 0#32) 1#32 64#32)))
    32#32

theorem lowHalf_apply : ∀ l : Fin 128, lowHalf (BitVec.ofNat 32 l.val) = bit (l.val % 64 < 32) := by decide +kernel

section Rotary

variable (C S : FVec Ideal S256x128 .f32) (X : Vec Ideal S256x256 .bf16)

/-- The turned rows: each lane with the one 32 apart in its head. -/
def turn (i n : Fin 256) : EReal :=
  X (ix2 i n) * C (ix2 i ⟨n.val % 128, by omega⟩)
    + (if n.val % 64 < 32 then X (ix2 i ⟨(n.val + 32) % 256, by omega⟩) else X (ix2 i ⟨(n.val + 224) % 256, by omega⟩)) * S (ix2 i ⟨n.val % 128, by omega⟩)

theorem turn_low (i : Fin 256) (l : Fin 128) : turn C S X i ⟨l.val, by omega⟩
    = X (ix2 i ⟨l.val, by omega⟩) * C (ix2 i l)
      + Scalar.select (lowHalf (BitVec.ofNat 32 l.val)) (X (ix2 i ⟨(l.val + 128 - 96) % 128, by omega⟩)) (X (ix2 i ⟨(l.val + 128 - 32) % 128, by omega⟩)) * S (ix2 i l) := by
  rw [lowHalf_apply]
  unfold turn
  have e : (⟨l.val % 128, by omega⟩ : Fin 128) = l := Fin.ext (by simp only; omega)
  rw [show (⟨(⟨l.val, by omega⟩ : Fin 256).val % 128, by omega⟩ : Fin 128) = l from e]
  refine congrArg₂ (· + ·) rfl (congrArg₂ (· * ·) ?_ rfl)
  by_cases h : l.val % 64 < 32
  · exact (if_pos h).trans (Eq.trans (congrArg (fun n => X (ix2 i n)) (Fin.ext (by simp only; omega))) (if_pos (bit_eq_one.mpr h)).symm)
  · exact (if_neg h).trans (Eq.trans (congrArg (fun n => X (ix2 i n)) (Fin.ext (by simp only; omega))) (if_neg fun e => h (bit_eq_one.mp e)).symm)

theorem turn_high (i : Fin 256) (l : Fin 128) : turn C S X i ⟨128 + l.val, by omega⟩
    = X (ix2 i ⟨128 + l.val, by omega⟩) * C (ix2 i l)
      + Scalar.select (lowHalf (BitVec.ofNat 32 l.val)) (X (ix2 i ⟨128 + (l.val + 128 - 96) % 128, by omega⟩)) (X (ix2 i ⟨128 + (l.val + 128 - 32) % 128, by omega⟩)) * S (ix2 i l) := by
  rw [lowHalf_apply]
  unfold turn
  have e : (⟨(128 + l.val) % 128, by omega⟩ : Fin 128) = l := Fin.ext (by simp only; omega)
  rw [show (⟨(⟨128 + l.val, by omega⟩ : Fin 256).val % 128, by omega⟩ : Fin 128) = l from e]
  refine congrArg₂ (· + ·) rfl (congrArg₂ (· * ·) ?_ rfl)
  by_cases h : l.val % 64 < 32
  · exact (if_pos (by simp only; omega)).trans (Eq.trans (congrArg (fun n => X (ix2 i n)) (Fin.ext (by simp only; omega))) (if_pos (bit_eq_one.mpr h)).symm)
  · exact (if_neg (by simp only; omega)).trans (Eq.trans (congrArg (fun n => X (ix2 i n)) (Fin.ext (by simp only; omega))) (if_neg fun e => h (bit_eq_one.mp e)).symm)

/-- A statement of all 256 lanes from its two halves. -/
theorem halves {p : Fin 256 → Prop} (h0 : ∀ l : Fin 128, p ⟨l.val, by omega⟩) (h1 : ∀ l : Fin 128, p ⟨128 + l.val, by omega⟩) (n : Fin 256) : p n := by
  by_cases h : n.val < 128
  · exact h0 ⟨n.val, h⟩
  · rw [show n = ⟨128 + (n.val - 128), by omega⟩ from Fin.ext (by simp only; omega)]; exact h1 ⟨n.val - 128, by omega⟩

def rotQ : FVec Ideal S256x256 .f32 := k0_pay22 (k0_pay14 C) (k0_pay15 S) (k0_pay17 X) (k0_pay18 X) (k0_pay19 C X) (64#32) k0_pay20 k0_pay21

theorem rotQ_apply (i n : Fin 256) : rotQ C S X (ix2 i n) = turn C S X i n := by
  refine halves (p := fun n => rotQ C S X (ix2 i n) = turn C S X i n) (fun l => ?_) (fun l => ?_) n
  · rw [turn_low]; unfold rotQ k0_pay22 k0_pay21 k0_pay20 k0_pay19 k0_pay18 k0_pay17 k0_pay14 k0_pay15; pointwise; rfl
  · rw [turn_high]; unfold rotQ k0_pay22 k0_pay21 k0_pay20 k0_pay19 k0_pay18 k0_pay17 k0_pay14 k0_pay15; pointwise; rfl

def rotK : FVec Ideal S256x256 .f32 :=
  k0_pay31 (k0_pay15 S) (k0_pay26 (k0_pay15 S) (k0_pay24 X) (k0_pay25 (k0_pay14 C) X) (iota .tc S256x128 32 [1] iota_S256x128_d1_w32) (64#32) 0#1)
    (k0_pay27 (k0_pay23 X)) (k0_pay28 (k0_pay14 C) (k0_pay23 X)) k0_pay29 (k0_pay30 (k0_pay23 X)) 32#32

theorem rotK_apply (i n : Fin 256) : rotK C S X (ix2 i n) = turn C S X i n * Ideal.ofBits .f32 0x3E000000#32 := by
  refine halves (p := fun n => rotK C S X (ix2 i n) = turn C S X i n * Ideal.ofBits .f32 0x3E000000#32) (fun l => ?_) (fun l => ?_) n
  · rw [turn_low]; unfold rotK k0_pay31 k0_pay30 k0_pay29 k0_pay28 k0_pay27 k0_pay26 k0_pay25 k0_pay24 k0_pay23 k0_pay14 k0_pay15; pointwise; rfl
  · rw [turn_high]; unfold rotK k0_pay31 k0_pay30 k0_pay29 k0_pay28 k0_pay27 k0_pay26 k0_pay25 k0_pay24 k0_pay23 k0_pay14 k0_pay15; pointwise; rfl

end Rotary

/-! The gated, normalised outputs. -/

section Gate

variable (G : FVec Ideal S256x512 .f32) (γ : Vec Ideal S1x512 .f32) (w : FVec Ideal S256x512 .bf16) (I : FVec Ideal S256x512 .f32)
  (x : FVec Ideal S256x256 .f32) (z : FVec Ideal S256x256 .bf16) (s1 : FVec Ideal S1024x256 .f32)

/-- A head's row normalised over its 128 lanes, scaled and gated. -/
def gated (o : Fin 128 → EReal) (a g : EReal) (v : Fin 128) : EReal :=
  o v * Ideal.rsqrt (Ideal.div (∑ u : Fin 128, o u * o u) (Ideal.ofBits .f32 0x43000000#32) + Ideal.ofBits .f32 0x358637BD#32) * a * (g * Ideal.div 1 (1 + Ideal.exp (0 - g)))

/-- What the kernel stores for each head of the first attention. -/
def yLow (h : Fin 4) : FVec Ideal S256x128 .bf16 :=
  match h with
  | 0 => k0_pay65 (k0_pay64 past ahead w G x γ I z lane2 lane3 s1 (k0_pay60 x lane0) (k0_pay61 x lane1))
  | 1 => k0_pay67 past ahead w G γ I s1 (scores x z)
  | 2 => k0_pay71 past w G γ I (k0_pay68 s1) (k0_pay69 ahead (scores x z))
  | 3 => k0_pay73 G γ (k0_pay72 past ahead w I s1 (scores x z))

theorem yLow_apply (h : Fin 4) (i : Fin 256) (v : Fin 128) : yLow G γ w I x z s1 h (ix2 i v)
    = gated (fun u => head w I s1 (scores x z) h (ix2 i u)) (γ (ix2 0 ⟨128 * h.val + v.val, by omega⟩)) (G (ix2 i ⟨128 * h.val + v.val, by omega⟩)) v := by
  match h with
  | 0 =>
    unfold yLow k0_pay65 k0_pay64 gated
    rw [show k0_pay63 past ahead w x I z lane2 lane3 s1 (k0_pay60 x lane0) (k0_pay61 x lane1) = head w I s1 (scores x z) 0 from rfl]
    generalize head w I s1 (scores x z) 0 = o
    rw [show (⟨128 * (0 : Fin 4).val + v.val, by omega⟩ : Fin 512) = ⟨v.val, by omega⟩ from Fin.ext (Nat.zero_add _)]
    pointwise
  | 1 =>
    unfold yLow k0_pay67 gated
    rw [show k0_pay66 past ahead w I s1 (scores x z) = head w I s1 (scores x z) 1 from rfl]
    generalize head w I s1 (scores x z) 1 = o
    pointwise
  | 2 =>
    unfold yLow k0_pay71 gated
    rw [show k0_pay70 past w I (k0_pay68 s1) (k0_pay69 ahead (scores x z)) = head w I s1 (scores x z) 2 from rfl]
    generalize head w I s1 (scores x z) 2 = o
    pointwise
  | 3 =>
    unfold yLow k0_pay73 gated
    rw [show k0_pay72 past ahead w I s1 (scores x z) = head w I s1 (scores x z) 3 from rfl]
    generalize head w I s1 (scores x z) 3 = o
    pointwise

end Gate

end Cert.AttnBlock
end
-- ==== Proof.AttnPoint.lean ====
/- What one point of the kernel's grid leaves: the two attentions' heads, their gated rows, the residual, its normalised copy and the states. -/
module

public import proofs.«01_k».proof.Proof.AttnGroup
public import Idealize.ShloMosaic.Lib.Pipeline.ReadBack

@[expose] public section

set_option maxRecDepth 16384

noncomputable section

namespace Cert.AttnPoint

open Idealize Idealize.ShloMosaic Idealize.ShloMosaic.TcCoe Idealize.SL.Sem Cert.AttnKernelIdeal Cert.AttnKernelIdeal.Gen Cert.AttnTile Cert.AttnBlock
open Idealize.ShloMosaic.Pipeline (Dat)

section Pieces

variable (x0 : Vec Ideal S256x3200 .bf16) (x1 x2 : Vec Ideal S256x128 .f32) (x3 : Vec Ideal S1x256 .f32) (x4 : Vec Ideal S128x256 .f32) (x5 : Vec Ideal S1x256 .f32)
  (x6 x7 : Vec Ideal S1x512 .f32) (P0 P1 : Vec Ideal S1x512x256 .f32)

/-! The columns of the projected rows each part of the kernel reads. -/

abbrev lowQ : Vec Ideal S256x256 .bf16 := View.ld (Val := Elt Ideal) (e' := .bf16) x0 (Rect.unit ![0, 0] ![256, 256] inb_S256x3200_S256x256_0_0)
abbrev lowK : Vec Ideal S256x256 .bf16 := View.ld (Val := Elt Ideal) (e' := .bf16) x0 (Rect.unit ![0, 256] ![256, 256] inb_S256x3200_S256x256_0_256)
abbrev lowV : Vec Ideal S256x512 .bf16 := View.ld (Val := Elt Ideal) (e' := .bf16) x0 (Rect.unit ![0, 512] ![256, 512] inb_S256x3200_S256x512_0_512)
abbrev lowG : Vec Ideal S256x512 .bf16 := View.ld (Val := Elt Ideal) (e' := .bf16) x0 (Rect.unit ![0, 1024] ![256, 512] inb_S256x3200_S256x512_0_1024)
abbrev highQ : Vec Ideal S256x256 .bf16 := View.ld (Val := Elt Ideal) (e' := .bf16) x0 (Rect.unit ![0, 1536] ![256, 256] inb_S256x3200_S256x256_0_1536)
abbrev highK : Vec Ideal S256x256 .bf16 := View.ld (Val := Elt Ideal) (e' := .bf16) x0 (Rect.unit ![0, 1792] ![256, 256] inb_S256x3200_S256x256_0_1792)
abbrev highV : Vec Ideal S256x512 .bf16 := View.ld (Val := Elt Ideal) (e' := .bf16) x0 (Rect.unit ![0, 2048] ![256, 512] inb_S256x3200_S256x512_0_2048)
abbrev highG : Vec Ideal S256x512 .bf16 := View.ld (Val := Elt Ideal) (e' := .bf16) x0 (Rect.unit ![0, 2560] ![256, 512] inb_S256x3200_S256x512_0_2560)
abbrev gateX : Vec Ideal S256x128 .bf16 := View.ld (Val := Elt Ideal) (e' := .bf16) x0 (Rect.unit ![0, 3072] ![256, 128] inb_S256x3200_S256x128_0_3072)

/-! The keys of the first attention enter every product by the seven parts they are joined of. -/

abbrev part2 : FVec Ideal S256x128 .f32 := k0_pay26 (k0_pay15 x2) (k0_pay24 (lowK x0)) (k0_pay25 (k0_pay14 x1) (lowK x0)) (iota .tc S256x128 32 [1] iota_S256x128_d1_w32) (64#32) 0#1
abbrev part3 : FVec Ideal S256x128 .f32 := k0_pay27 (k0_pay23 (lowK x0))
abbrev part4 : FVec Ideal S256x128 .f32 := k0_pay28 (k0_pay14 x1) (k0_pay23 (lowK x0))
abbrev part6 : FVec Ideal S256x128 .f32 := k0_pay30 (k0_pay23 (lowK x0))

def lowFrom : FVec Ideal S256x512 .f32 := k0_pay48 (k0_pay45 P0) (k0_pay47 (k0_pay16 x3) (rotQ x1 x2 (lowQ x0)))
def lowBack : FVec Ideal S1024x256 .f32 := scores (k0_pay40 (k0_pay16 x3) (rotQ x1 x2 (lowQ x0))) (k0_pay49 (k0_pay43 (k0_pay15 x2) (k0_pay16 x3) (part2 x0 x1 x2) (part3 x0) (part4 x0 x1) k0_pay29 (part6 x0) 32#32))
abbrev lowAheadQ : FVec Ideal S256x256 .f32 := k0_pay41 (k0_pay16 x3) (rotQ x1 x2 (lowQ x0))
abbrev lowAheadK : FVec Ideal S256x256 .bf16 := k0_pay50 (k0_pay42 (k0_pay15 x2) (k0_pay16 x3) (part2 x0 x1 x2) (part3 x0) (part4 x0 x1) k0_pay29 (part6 x0) 32#32)

/-- The gate's three rounded parts. -/
abbrev gate1 : FVec Ideal S256x256 .bf16 := k0_pay84 (k0_pay75 x4) x5 (gateX x0)
abbrev gate2 : FVec Ideal S256x256 .bf16 := k0_pay85 (k0_pay75 x4) x5 (gateX x0)
abbrev gate3 : FVec Ideal S256x256 .f32 := k0_pay86 (k0_pay75 x4) x5 (gateX x0)

def highFrom : FVec Ideal S256x512 .f32 := k0_pay98 (k0_pay76 (highQ x0)) k0_pay81 (gate1 x0 x4 x5) (gate2 x0 x4 x5) (gate3 x0 x4 x5) P1
def highBack : FVec Ideal S1024x256 .f32 := scores (k0_pay93 (k0_pay76 (highQ x0)) k0_pay81 (gate1 x0 x4 x5) (gate2 x0 x4 x5) (gate3 x0 x4 x5)) (k0_pay99 (k0_pay77 (highK x0)) k0_pay81 (gate1 x0 x4 x5) (gate2 x0 x4 x5) (gate3 x0 x4 x5))
abbrev highAheadQ : FVec Ideal S256x256 .f32 := k0_pay94 (k0_pay76 (highQ x0)) k0_pay81 (gate1 x0 x4 x5) (gate2 x0 x4 x5) (gate3 x0 x4 x5)
abbrev highAheadK : FVec Ideal S256x256 .bf16 := k0_pay100 (k0_pay77 (highK x0)) k0_pay81 (gate1 x0 x4 x5) (gate2 x0 x4 x5) (gate3 x0 x4 x5)

/-- A head's output, of either attention. -/
def oPiece (g : Fin 2) (h : Fin 4) : Vec Ideal S256x128 .f32 :=
  match g with
  | 0 => head (k0_pay32 (lowV x0)) (lowFrom x0 x1 x2 x3 P0) (lowBack x0 x1 x2 x3) (scores (lowAheadQ x0 x1 x2 x3) (lowAheadK x0 x1 x2 x3)) h
  | 1 => head (k0_pay78 (highV x0)) (highFrom x0 x4 x5 P1) (highBack x0 x4 x5) (scores (highAheadQ x0 x4 x5) (highAheadK x0 x4 x5)) h

/-- Its normalised, gated rows. -/
def yPiece (g : Fin 2) (h : Fin 4) : Vec Ideal S256x128 .bf16 :=
  match g with
  | 0 => yLow (k0_pay33 (lowG x0)) x6 (k0_pay32 (lowV x0)) (lowFrom x0 x1 x2 x3 P0) (lowAheadQ x0 x1 x2 x3) (lowAheadK x0 x1 x2 x3) (lowBack x0 x1 x2 x3) h
  | 1 => yLow (k0_pay79 (highG x0)) x7 (k0_pay78 (highV x0)) (highFrom x0 x4 x5 P1) (highAheadQ x0 x4 x5) (highAheadK x0 x4 x5) (highBack x0 x4 x5) h

/-- The state either attention hands on. -/
def sPiece (g : Fin 2) : Vec Ideal S1x512x256 .f32 :=
  match g with
  | 0 => k0_pay74 same (k0_pay32 (lowV x0)) (k0_pay39 (k0_pay16 x3)) (k0_pay44 (k0_pay15 x2) (k0_pay16 x3) (part2 x0 x1 x2) (part3 x0) (part4 x0 x1) k0_pay29 (part6 x0) 32#32) (k0_pay45 P0)
  | 1 => k0_pay125 same (k0_pay78 (highV x0)) (k0_pay92 k0_pay81 (gate1 x0 x4 x5) (gate2 x0 x4 x5) (gate3 x0 x4 x5)) (k0_pay95 (k0_pay77 (highK x0)) k0_pay81 (gate1 x0 x4 x5) (gate2 x0 x4 x5) (gate3 x0 x4 x5)) (k0_pay96 P1)

end Pieces

/-- Eight blocks of 128 columns, the last first. -/
def cols {e : EltTy} (p : Fin 2 → Fin 4 → Vec Ideal S256x128 e) : List (View.Piece (Elt Ideal) S256x1024 e) :=
  [⟨Rect.unit ![0, 896] ![256, 128] inb_S256x1024_S256x128_0_896, p 1 3⟩, ⟨Rect.unit ![0, 768] ![256, 128] inb_S256x1024_S256x128_0_768, p 1 2⟩,
   ⟨Rect.unit ![0, 640] ![256, 128] inb_S256x1024_S256x128_0_640, p 1 1⟩, ⟨Rect.unit ![0, 512] ![256, 128] inb_S256x1024_S256x128_0_512, p 1 0⟩,
   ⟨Rect.unit ![0, 384] ![256, 128] inb_S256x1024_S256x128_0_384, p 0 3⟩, ⟨Rect.unit ![0, 256] ![256, 128] inb_S256x1024_S256x128_0_256, p 0 2⟩,
   ⟨Rect.unit ![0, 128] ![256, 128] inb_S256x1024_S256x128_0_128, p 0 1⟩, ⟨Rect.unit ![0, 0] ![256, 128] inb_S256x1024_S256x128_0_0, p 0 0⟩]

/-- The two halves of the carried state, the last first, over what was there. -/
def halvesOf (p : Fin 2 → Vec Ideal S1x512x256 .f32) (L : List (View.Piece (Elt Ideal) S2x512x256 .f32)) : List (View.Piece (Elt Ideal) S2x512x256 .f32) :=
  ⟨Rect.unit ![1, 0, 0] ![1, 512, 256] inb_S2x512x256_S1x512x256_1_0_0, p 1⟩ :: ⟨Rect.unit ![0, 0, 0] ![1, 512, 256] inb_S2x512x256_S1x512x256_0_0_0, p 0⟩ :: L

/-- The two halves of the saved state, the last first. -/
def saved (p : Fin 2 → Vec Ideal S1x1x512x256 .f32) : List (View.Piece (Elt Ideal) S1x2x512x256 .f32) :=
  [⟨Rect.unit ![0, 1, 0, 0] ![1, 1, 512, 256] inb_S1x2x512x256_S1x1x512x256_0_1_0_0, p 1⟩, ⟨Rect.unit ![0, 0, 0, 0] ![1, 1, 512, 256] inb_S1x2x512x256_S1x1x512x256_0_0_0_0, p 0⟩]

section Blocks

variable (m : (ℓ : Loc nD τ sig) → Buf (Elt Ideal) ℓ)

theorem hz : (![0, 0] : Fin 2 → Nat) = fun _ => 0 := funext fun a => by fin_cases a <;> rfl

theorem readCov_whole {sg : RefSig} {κ : Kind} {sp : Space} (v : View sg κ sp S256x1024 .bf16) (L : List (View.Piece (Elt Ideal) S256x1024 .bf16)) (inb) :
    v.readCov L (Rect.unit (s := S256x1024) ![0, 0] ![256, 1024] inb).toLoadRect = View.canon L := by
  rw [View.readCov_eq_canon']
  refine funext fun j => congrArg (View.canon L) (funext fun a => Fin.ext ?_)
  match a with
  | ⟨0, _⟩ => exact (Nat.zero_add _).trans (Nat.one_mul _)
  | ⟨1, _⟩ => exact (Nat.zero_add _).trans (Nat.one_mul _)

/-- A half of the carried state, as it is loaded. -/
abbrev half0 (P : Vec Ideal S2x512x256 .f32) : Vec Ideal S1x512x256 .f32 := View.ld (Val := Elt Ideal) (e' := .f32) P (Rect.unit ![0, 0, 0] ![1, 512, 256] inb_S2x512x256_S1x512x256_0_0_0)
abbrev half1 (P : Vec Ideal S2x512x256 .f32) : Vec Ideal S1x512x256 .f32 := View.ld (Val := Elt Ideal) (e' := .f32) P (Rect.unit ![1, 0, 0] ![1, 512, 256] inb_S2x512x256_S1x512x256_1_0_0)

/-- The gated rows a point writes, whole. -/
def yBlock (c : Dev nD) (t : Fin cfg0.N) (P : Vec Ideal S2x512x256 .f32) : Vec Ideal S256x1024 .bf16 :=
  View.canon (cols (yPiece (iblk m c 0 t) (iblk m c 1 t) (iblk m c 2 t) (iblk m c 3 t) (iblk m c 4 t) (iblk m c 5 t) (iblk m c 6 t) (iblk m c 7 t) (half0 P) (half1 P)))

/-- What a point leaves, from the states it started from. -/
structure Leaves (c : Dev nD) (t : Fin cfg0.N) (P : Vec Ideal S2x512x256 .f32)
    (r : Vec Ideal S256x1024 .f32 × Vec Ideal S256x1024 .bf16 × Vec Ideal S1x2x512x256 .f32 × Vec Ideal S256x1024 .f32 × Vec Ideal S256x1024 .bf16 × Vec Ideal S2x512x256 .f32) : Prop where
  o : r.1 = View.canon (cols (oPiece (iblk m c 0 t) (iblk m c 1 t) (iblk m c 2 t) (iblk m c 3 t) (iblk m c 4 t) (iblk m c 5 t) (half0 P) (half1 P)))
  y : r.2.1 = yBlock m c t P
  w : r.2.2.1 = View.canon (saved fun g => match g with | 0 => k0_pay46 (half0 P) | 1 => k0_pay97 (half1 P))
  x2 : r.2.2.2.1 = k0_pay126 (iblk m c 8 t) (yBlock m c t P) (iblk m c 9 t)
  h3 : r.2.2.2.2.1 = k0_pay1 (k0_pay126 (iblk m c 8 t) (yBlock m c t P) (iblk m c 9 t)) (k0_pay127 (iblk m c 8 t) (yBlock m c t P) (iblk m c 9 t)) k0_pay128 (iblk m c 10 t)
  s : ∃ L, r.2.2.2.2.2 = View.canon (halvesOf (sPiece (iblk m c 0 t) (iblk m c 1 t) (iblk m c 2 t) (iblk m c 3 t) (iblk m c 4 t) (iblk m c 5 t) (half0 P) (half1 P)) L)

set_option maxHeartbeats 4000000 in
/-- The first point starts from states of zero. -/
theorem leaves_A (c : Dev nD) (t : Fin cfg0.N) (h0 : t.val % 16 = 0) :
    Leaves m c t (k0_pay2 (F := Ideal)) (outsAt0 m c t.val t.isLt) := by
  rw [outsAt0_A m c t h0]
  constructor
  case' s => apply Exists.intro
  all_goals try dsimp only
  case' o => unfold out0_A_11; rw [View.read_writes_eq_canon _ _ _ (cover0_A_11 c _ _ _ _ _ _ _ _ _ _ _ _ _ _ _ _ _ _ _ _ _ _ _ _ _ _ _ _ _ _ _ _ _ _ _ _ _ _ _ _ _ _ _ _ _ _ _)]
  case' y => unfold out0_A_12 yBlock; rw [View.read_writes_eq_canon _ _ _ (cover0_A_12 c _ _ _ _ _ _ _ _ _ _ _ _ _ _ _ _ _ _ _ _ _ _ _ _ _ _ _ _ _ _ _ _ _ _ _ _ _ _ _ _ _ _ _ _ _ _ _)]
  case' w => unfold out0_A_13; rw [View.read_writes_eq_canon _ _ _ (cover0_A_13 c _ _ _ _ _ _ _ _ _ _ _ _ _ _ _ _ _ _ _ _ _ _ _ _ _ _ _ _ _ _ _ _ _ _ _ _ _ _ _ _ _ _ _ _ _ _ _)]
  case' x2 => unfold out0_A_14 yBlock; rw [View.read_writes_eq_canon _ _ _ (cover0_A_14 c _ _ _ _ _ _ _ _ _ _ _ _ _ _ _ _ _ _ _ _ _ _ _ _ _ _ _ _ _ _ _ _ _ _ _ _ _ _ _ _ _ _ _ _ _ _ _)]
  case' h3 => unfold out0_A_15 yBlock; rw [View.read_writes_eq_canon _ _ _ (cover0_A_15 c _ _ _ _ _ _ _ _ _ _ _ _ _ _ _ _ _ _ _ _ _ _ _ _ _ _ _ _ _ _ _ _ _ _ _ _ _ _ _ _ _ _ _ _ _ _ _)]
  case' s.h => unfold sout0_A_0; rw [View.read_writes_eq_canon _ _ _ (scover0_A_0 c _ _ _ _ _ _ _ _ _ _ _ _ _ _ _ _ _ _ _ _ _ _ _ _ _ _ _ _ _ _ _ _ _ _ _ _ _ _ _ _ _ _ _ _ _ _ _)]
  case o | s.h | y | w | x2 | h3 =>
    unfold kernelRun0_A
    dsimp only
    sl_unfold_words
    simp (disch := decide) only [↓View.readCov_skip, ↓View.readCov_fill, readCov_whole, View.canon_unit_zero (S := S256x1024) hz, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (Memref.isWhole_whole _).read_unread,
      View.ld_unit_zero (S := S256x128) hz, View.ld_unit_zero (S := S1x256) hz, View.ld_unit_zero (S := S128x256) hz, View.ld_unit_zero (S := S1x512) hz, View.ld_unit_zero (S := S256x1024) hz, View.ld_unit_zero (S := S1024x1024) hz, View.ld_unit_zero (S := S1x1024) hz]
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    generalize iblk m c 8 t = x8
    generalize iblk m c 9 t = x9
    generalize iblk m c 10 t = x10
    rfl

set_option maxHeartbeats 4000000 in
/-- A later point starts from the states the one before left. -/
theorem leaves_B (c : Dev nD) (t : Fin cfg0.N) (h0 : ¬t.val % 16 = 0) :
    Leaves m c t (outsAt0 m c (t.val - 1) (Nat.lt_of_le_of_lt (Nat.sub_le _ _) t.isLt)).2.2.2.2.2 (outsAt0 m c t.val t.isLt) := by
  rw [outsAt0_B m c t h0]
  generalize (outsAt0 m c (t.val - 1) (Nat.lt_of_le_of_lt (Nat.sub_le _ _) t.isLt)).2.2.2.2.2 = P
  constructor
  case' s => apply Exists.intro
  all_goals try dsimp only
  case' o => unfold out0_B_11; rw [View.read_writes_eq_canon _ _ _ (cover0_B_11 c _ _ _ _ _ _ _ _ _ _ _ _ _ _ _ _ _ _ _ _ _ _ _ _ _ _ _ _ _ _ _ _ _ _ _ _ _ _ _ _ _ _ _ _ _ _ _ _)]
  case' y => unfold out0_B_12 yBlock; rw [View.read_writes_eq_canon _ _ _ (cover0_B_12 c _ _ _ _ _ _ _ _ _ _ _ _ _ _ _ _ _ _ _ _ _ _ _ _ _ _ _ _ _ _ _ _ _ _ _ _ _ _ _ _ _ _ _ _ _ _ _ _)]
  case' w => unfold out0_B_13; rw [View.read_writes_eq_canon _ _ _ (cover0_B_13 c _ _ _ _ _ _ _ _ _ _ _ _ _ _ _ _ _ _ _ _ _ _ _ _ _ _ _ _ _ _ _ _ _ _ _ _ _ _ _ _ _ _ _ _ _ _ _ _)]
  case' x2 => unfold out0_B_14 yBlock; rw [View.read_writes_eq_canon _ _ _ (cover0_B_14 c _ _ _ _ _ _ _ _ _ _ _ _ _ _ _ _ _ _ _ _ _ _ _ _ _ _ _ _ _ _ _ _ _ _ _ _ _ _ _ _ _ _ _ _ _ _ _ _)]
  case' h3 => unfold out0_B_15 yBlock; rw [View.read_writes_eq_canon _ _ _ (cover0_B_15 c _ _ _ _ _ _ _ _ _ _ _ _ _ _ _ _ _ _ _ _ _ _ _ _ _ _ _ _ _ _ _ _ _ _ _ _ _ _ _ _ _ _ _ _ _ _ _ _)]
  case' s.h => unfold sout0_B_0; rw [View.read_writes_eq_canon _ _ _ (scover0_B_0 c _ _ _ _ _ _ _ _ _ _ _ _ _ _ _ _ _ _ _ _ _ _ _ _ _ _ _ _ _ _ _ _ _ _ _ _ _ _ _ _ _ _ _ _ _ _ _ _)]
  case o | s.h | y | w | x2 | h3 =>
    unfold kernelRun0_B
    dsimp only
    sl_unfold_words
    simp (disch := decide) only [↓View.readCov_skip, ↓View.readCov_fill, readCov_whole, View.canon_unit_zero (S := S256x1024) hz, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (Memref.isWhole_whole _).read_unread,
      View.ld_unit_zero (S := S256x128) hz, View.ld_unit_zero (S := S1x256) hz, View.ld_unit_zero (S := S128x256) hz, View.ld_unit_zero (S := S1x512) hz, View.ld_unit_zero (S := S256x1024) hz, View.ld_unit_zero (S := S1024x1024) hz, View.ld_unit_zero (S := S1x1024) hz]
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    generalize iblk m c 8 t = x8
    generalize iblk m c 9 t = x9
    generalize iblk m c 10 t = x10
    rfl

end Blocks

end Cert.AttnPoint
end
-- ==== Proof.AttnPlace.lean ====
/- Reading the blocks a point writes: eight of 128 columns, and the two halves of the carried state and of its saved copy. -/
module

public import proofs.«01_k».proof.Proof.AttnPoint

@[expose] public section

noncomputable section

namespace Cert.AttnPoint

open Idealize Idealize.ShloMosaic Cert.AttnKernelIdeal Cert.AttnKernelIdeal.Gen

theorem col_hit {e : EltTy} (n : ℕ) (inb) (w : Vec Ideal S256x128 e) (L : List (View.Piece (Elt Ideal) S256x1024 e)) (i : Fin 256) (v : Fin 128) (j : Fin 1024) (hj : j.val = n + v.val) :
    View.canon (⟨Rect.unit ![0, n] ![256, 128] inb, w⟩ :: L) (ix2 i j) = w (ix2 i v) := by
  rw [show (ix2 i j : S256x1024.Idx) = (Rect.unit (s := S256x1024) ![0, n] ![256, 128] inb).emb (ix2 i v) from funext fun a => Fin.ext (by
    match a with
    | ⟨0, _⟩ => show i.val = 0 + 1 * i.val; omega
    | ⟨1, _⟩ => show j.val = n + 1 * v.val; omega)]
  exact View.canon_cons_emb (Val := Elt Ideal) (Rect.unit (s := S256x1024) ![0, n] ![256, 128] inb) w L (ix2 i v)

theorem col_miss {e : EltTy} (n : ℕ) (inb) (w : Vec Ideal S256x128 e) (L : List (View.Piece (Elt Ideal) S256x1024 e)) (i : Fin 256) (j : Fin 1024) (hj : j.val < n) :
    View.canon (⟨Rect.unit ![0, n] ![256, 128] inb, w⟩ :: L) (ix2 i j) = View.canon L (ix2 i j) :=
  View.canon_cons_of_not_mem ⟨Rect.unit ![0, n] ![256, 128] inb, w⟩ L fun h => by
    have h1 : n ≤ j.val := ((Rect.mem_set_unit (s := S256x1024) (off := ![0, n]) (size := ![256, 128]) (inb := inb)).mp h 1).1
    omega

/-- A block of columns reads its piece. -/
theorem canon_cols {e : EltTy} (p : Fin 2 → Fin 4 → Vec Ideal S256x128 e) (g : Fin 2) (h : Fin 4) (i : Fin 256) (v : Fin 128) (j : Fin 1024) (hj : j.val = 512 * g.val + 128 * h.val + v.val) :
    View.canon (cols p) (ix2 i j) = p g h (ix2 i v) := by
  have hv := v.isLt
  unfold cols
  match g, h with
  | 0, 0 | 0, 1 | 0, 2 | 0, 3 | 1, 0 | 1, 1 | 1, 2 | 1, 3 =>
    norm_num at hj
    repeat rw [col_miss _ _ _ _ _ _ (by omega)]
    exact col_hit _ _ _ _ i v j (by omega)

theorem half_hit (n : ℕ) (inb) (w : Vec Ideal S1x512x256 .f32) (L : List (View.Piece (Elt Ideal) S2x512x256 .f32)) (g : Fin 2) (r : Fin 512) (l : Fin 256) (hg : g.val = n) :
    View.canon (⟨Rect.unit ![n, 0, 0] ![1, 512, 256] inb, w⟩ :: L) (ix3 g r l) = w (ix3 0 r l) := by
  rw [show (ix3 g r l : S2x512x256.Idx) = (Rect.unit (s := S2x512x256) ![n, 0, 0] ![1, 512, 256] inb).emb (ix3 0 r l) from funext fun a => Fin.ext (by
    match a with
    | ⟨0, _⟩ => show g.val = n + 1 * 0; omega
    | ⟨1, _⟩ => show r.val = 0 + 1 * r.val; omega
    | ⟨2, _⟩ => show l.val = 0 + 1 * l.val; omega)]
  exact View.canon_cons_emb (Val := Elt Ideal) (Rect.unit (s := S2x512x256) ![n, 0, 0] ![1, 512, 256] inb) w L (ix3 0 r l)

theorem half_out (n : ℕ) (inb) (g : Fin 2) (r : Fin 512) (l : Fin 256) (hg : g.val < n) : (ix3 g r l : S2x512x256.Idx) ∉ (Rect.unit (s := S2x512x256) ![n, 0, 0] ![1, 512, 256] inb).set := fun h =>
  absurd (Rect.mem_set_unit.mp h (0 : Fin 3)).1 (Nat.not_le.mpr hg)

theorem half_miss (n : ℕ) (inb) (w : Vec Ideal S1x512x256 .f32) (L : List (View.Piece (Elt Ideal) S2x512x256 .f32)) (g : Fin 2) (r : Fin 512) (l : Fin 256) (hg : g.val < n) :
    View.canon (⟨Rect.unit ![n, 0, 0] ![1, 512, 256] inb, w⟩ :: L) (ix3 g r l) = View.canon L (ix3 g r l) := by
  have h := half_out n inb g r l hg
  generalize (ix3 g r l : S2x512x256.Idx) = y at h ⊢
  exact View.canon_cons_of_not_mem _ L h

/-- A half of the state reads its piece, whatever was there before. -/
theorem canon_halves (p : Fin 2 → Vec Ideal S1x512x256 .f32) (L : List (View.Piece (Elt Ideal) S2x512x256 .f32)) (g : Fin 2) (r : Fin 512) (l : Fin 256) :
    View.canon (halvesOf p L) (ix3 g r l) = p g (ix3 0 r l) := by
  unfold halvesOf
  obtain rfl | rfl : g = 0 ∨ g = 1 := by omega
  · exact (half_miss 1 _ _ _ _ _ _ Nat.zero_lt_one).trans (half_hit 0 _ _ _ _ _ _ rfl)
  · exact half_hit 1 _ _ _ _ _ _ rfl

theorem saved_hit (n : ℕ) (inb) (w : Vec Ideal S1x1x512x256 .f32) (L : List (View.Piece (Elt Ideal) S1x2x512x256 .f32)) (g : Fin 2) (r : Fin 512) (l : Fin 256) (hg : g.val = n) :
    View.canon (⟨Rect.unit ![0, n, 0, 0] ![1, 1, 512, 256] inb, w⟩ :: L) (ix4 0 g r l) = w (ix4 0 0 r l) := by
  rw [show (ix4 0 g r l : S1x2x512x256.Idx) = (Rect.unit (s := S1x2x512x256) ![0, n, 0, 0] ![1, 1, 512, 256] inb).emb (ix4 0 0 r l) from funext fun a => Fin.ext (by
    match a with
    | ⟨0, _⟩ => rfl
    | ⟨1, _⟩ => show g.val = n + 1 * 0; omega
    | ⟨2, _⟩ => show r.val = 0 + 1 * r.val; omega
    | ⟨3, _⟩ => show l.val = 0 + 1 * l.val; omega)]
  exact View.canon_cons_emb (Val := Elt Ideal) (Rect.unit (s := S1x2x512x256) ![0, n, 0, 0] ![1, 1, 512, 256] inb) w L (ix4 0 0 r l)

theorem saved_out (inb) (r : Fin 512) (l : Fin 256) : (ix4 0 0 r l : S1x2x512x256.Idx) ∉ (Rect.unit (s := S1x2x512x256) ![0, 1, 0, 0] ![1, 1, 512, 256] inb).set := fun h =>
  absurd (Rect.mem_set_unit.mp h (1 : Fin 4)).1 (Nat.not_le.mpr Nat.zero_lt_one)

theorem saved_miss (inb) (w : Vec Ideal S1x1x512x256 .f32) (L : List (View.Piece (Elt Ideal) S1x2x512x256 .f32)) (r : Fin 512) (l : Fin 256) :
    View.canon (⟨Rect.unit ![0, 1, 0, 0] ![1, 1, 512, 256] inb, w⟩ :: L) (ix4 0 0 r l) = View.canon L (ix4 0 0 r l) := by
  have h := saved_out inb r l
  generalize (ix4 0 0 r l : S1x2x512x256.Idx) = y at h ⊢
  exact View.canon_cons_of_not_mem _ L h

/-- A half of the saved state reads its piece. -/
theorem canon_saved (p : Fin 2 → Vec Ideal S1x1x512x256 .f32) (g : Fin 2) (r : Fin 512) (l : Fin 256) : View.canon (saved p) (ix4 0 g r l) = p g (ix4 0 0 r l) := by
  unfold saved
  obtain rfl | rfl : g = 0 ∨ g = 1 := by omega
  · exact (saved_miss _ _ _ _ _).trans (saved_hit 0 _ _ _ _ _ _ rfl)
  · exact saved_hit 1 _ _ _ _ _ _ rfl

end Cert.AttnPoint
end
-- ==== Proof.AttnOps.lean ====
/- The operands of both attentions as real numbers, and the reference's scan over them. -/
module

public import proofs.«01_k».proof.Proof.AttnScan
public import proofs.«01_k».proof.Proof.AttnGroup
public import proofs.«01_k».proof.Proof.Finite

@[expose] public section

noncomputable section

namespace Cert.AttnOps

open Idealize Idealize.ShloMosaic Cert.AttnRefIdeal Cert.AttnRefIdeal.Gen Cert.AttnRefIdeal.Step Cert.AttnStep Cert.Finite

theorem fold_window (F : (⟨5, ![1, 1, 1, 64, 1]⟩ : Shape).Idx → EReal) :
    (List.finRange (⟨5, ![1, 1, 1, 64, 1]⟩ : Shape).numel).foldl (fun r n => r + F ((⟨5, ![1, 1, 1, 64, 1]⟩ : Shape).rowMajor.symm n)) 0 = ∑ n : Fin 64, F (ix5 0 0 0 n 0) := by
  rw [← sum_idx_eq_foldl]
  have e : ∀ w : (⟨5, ![1, 1, 1, 64, 1]⟩ : Shape).Idx, ix5 0 0 0 (w 3 : Fin 64) 0 = w := fun w => by
    refine funext fun a => ?_
    fin_cases a <;> first | rfl | exact Subsingleton.elim (α := Fin 1) _ _
  let E : (⟨5, ![1, 1, 1, 64, 1]⟩ : Shape).Idx ≃ Fin 64 := { toFun := fun w => (w 3 : Fin 64), invFun := fun n => ix5 0 0 0 n 0, left_inv := e, right_inv := fun _ => rfl }
  exact Fintype.sum_equiv E _ _ fun w => congrArg F (e w).symm

theorem window (f : ℕ → EReal) (i : ℕ) (hi : i < 64) : ∑ n ∈ Finset.range 64, (if 63 ≤ i + n then f (i + n - 63) else 0) = ∑ j ∈ Finset.range (i + 1), f j := by
  rw [show 64 = (63 - i) + (i + 1) by omega, Finset.sum_range_add, Finset.sum_eq_zero fun n hn => if_neg (by have := Finset.mem_range.mp hn; omega), zero_add]
  exact Finset.sum_congr rfl fun n _ => by rw [if_pos (by omega)]; congr 1; omega

/-- The entry a window reads: `0` where the window lies over the padding. -/
def entry {L : ℕ} (x : (⟨5, ![64, 1, 4, 64, L]⟩ : Shape).Idx → EReal) (o : (⟨5, ![64, 1, 4, 64, L]⟩ : Shape).Idx) (w : (⟨5, ![1, 1, 1, 64, 1]⟩ : Shape).Idx) : EReal :=
  if hin : ∀ a : Fin 5, (![0, 0, 0, 63, 0] : Fin 5 → ℕ) a ≤ (o a).val * (![1, 1, 1, 1, 1] : Fin 5 → ℕ) a + (w a).val
      ∧ (o a).val * (![1, 1, 1, 1, 1] : Fin 5 → ℕ) a + (w a).val - (![0, 0, 0, 63, 0] : Fin 5 → ℕ) a < (![64, 1, 4, 64, L] : Fin 5 → ℕ) a
    then x (fun a => ⟨(o a).val * (![1, 1, 1, 1, 1] : Fin 5 → ℕ) a + (w a).val - (![0, 0, 0, 63, 0] : Fin 5 → ℕ) a, (hin a).2⟩) else 0

theorem entry_eq {L : ℕ} (x : (⟨5, ![64, 1, 4, 64, L]⟩ : Shape).Idx → EReal) (f : ℕ → EReal) (c : Fin 64) (g : Fin 4) (i : Fin 64) (l : Fin L) (hf : ∀ j : Fin 64, x (ix5 c 0 g j l) = f j.val) (n : Fin 64) :
    entry x (ix5 c 0 g i l) (ix5 0 0 0 n 0) = if 63 ≤ i.val + n.val then f (i.val + n.val - 63) else 0 := by
  have hi := i.isLt
  have hn' := n.isLt
  have hc := c.isLt
  have hg := g.isLt
  have hl := l.isLt
  unfold entry
  by_cases hn : 63 ≤ i.val + n.val
  · have hin : ∀ a : Fin 5, (![0, 0, 0, 63, 0] : Fin 5 → ℕ) a ≤ ((ix5 c 0 g i l : (⟨5, ![64, 1, 4, 64, L]⟩ : Shape).Idx) a).val * (![1, 1, 1, 1, 1] : Fin 5 → ℕ) a + ((ix5 0 0 0 n 0 : (⟨5, ![1, 1, 1, 64, 1]⟩ : Shape).Idx) a).val
        ∧ ((ix5 c 0 g i l : (⟨5, ![64, 1, 4, 64, L]⟩ : Shape).Idx) a).val * (![1, 1, 1, 1, 1] : Fin 5 → ℕ) a + ((ix5 0 0 0 n 0 : (⟨5, ![1, 1, 1, 64, 1]⟩ : Shape).Idx) a).val - (![0, 0, 0, 63, 0] : Fin 5 → ℕ) a < (![64, 1, 4, 64, L] : Fin 5 → ℕ) a := fun a => by
      match a with
      | 0 => exact ⟨Nat.zero_le _, (by show c.val * 1 + 0 - 0 < 64; omega)⟩
      | 1 => exact ⟨Nat.zero_le _, (by show 0 * 1 + 0 - 0 < 1; omega)⟩
      | 2 => exact ⟨Nat.zero_le _, (by show g.val * 1 + 0 - 0 < 4; omega)⟩
      | 3 => exact ⟨(by show 63 ≤ i.val * 1 + n.val; omega), (by show i.val * 1 + n.val - 63 < 64; omega)⟩
      | 4 => exact ⟨Nat.zero_le _, (by show l.val * 1 + 0 - 0 < L; omega)⟩
    rw [dif_pos hin, if_pos hn]
    refine Eq.trans (congrArg x (funext fun a => Fin.ext ?_)) (hf ⟨i.val + n.val - 63, by omega⟩)
    match a with
    | 0 => show c.val * 1 + 0 - 0 = c.val; omega
    | 1 => rfl
    | 2 => show g.val * 1 + 0 - 0 = g.val; omega
    | 3 => show i.val * 1 + n.val - 63 = i.val + n.val - 63; omega
    | 4 => show l.val * 1 + 0 - 0 = l.val; omega
  · rw [if_neg hn, dif_neg fun hin => hn (by have h3 : 63 ≤ i.val * 1 + n.val := (hin 3).1; omega)]

/-- A sum over a window of 64 that ends at position `i`. -/
theorem window_sums {L : ℕ} (x : (⟨5, ![64, 1, 4, 64, L]⟩ : Shape).Idx → EReal) (z : (⟨0, ![]⟩ : Shape).Idx → EReal) (hz : ∀ j, z j = 0)
    (h : (⟨5, ![64, 1, 4, 64, L]⟩ : Shape).ReduceWindows ![1, 1, 1, 64, 1] ![1, 1, 1, 1, 1] ![0, 0, 0, 63, 0] ![0, 0, 0, 0, 0] ⟨5, ![64, 1, 4, 64, L]⟩) (hu)
    (f : ℕ → EReal) (c : Fin 64) (g : Fin 4) (i : Fin 64) (l : Fin L) (hf : ∀ j : Fin 64, x (ix5 c 0 g j l) = f j.val) :
    Host.reduceWindowAdd (F := Ideal) (φ := .f32) ![1, 1, 1, 64, 1] ![1, 1, 1, 1, 1] ![0, 0, 0, 63, 0] ![0, 0, 0, 0, 0] x z h hu (ix5 c 0 g i l)
      = ∑ j ∈ Finset.range (i.val + 1), f j := by
  have e : Host.reduceWindowAdd (F := Ideal) (φ := .f32) ![1, 1, 1, 64, 1] ![1, 1, 1, 1, 1] ![0, 0, 0, 63, 0] ![0, 0, 0, 0, 0] x z h hu (ix5 c 0 g i l)
      = (List.finRange (⟨5, ![1, 1, 1, 64, 1]⟩ : Shape).numel).foldl (fun r n => r + entry x (ix5 c 0 g i l) ((⟨5, ![1, 1, 1, 64, 1]⟩ : Shape).rowMajor.symm n)) 0 := by
    show Host.reduceWindow (· + ·) ![1, 1, 1, 64, 1] ![1, 1, 1, 1, 1] ![0, 0, 0, 63, 0] ![0, 0, 0, 0, 0] x (fun _ : (⟨0, ![]⟩ : Shape).Idx => z (Shape.Idx.first hu)) h (by decide) (ix5 c 0 g i l) = _
    unfold Host.reduceWindow
    dsimp only
    rw [hz]
    generalize (ix5 c 0 g i l : (⟨5, ![64, 1, 4, 64, L]⟩ : Shape).Idx) = o
    refine congrArg (fun F => List.foldl F 0 _) (funext₂ fun r n => ?_)
    refine congrArg (r + ·) ?_
    unfold entry
    exact dite_congr rfl (fun _ => rfl) fun _ => rfl
  rw [e, fold_window, ← window f i.val i.isLt, ← Fin.sum_univ_eq_sum_range (fun n => if 63 ≤ i.val + n then f (i.val + n - 63) else 0)]
  exact Finset.sum_congr rfl fun n _ => entry_eq x f c g i l hf n

theorem blk_sum (a : ℕ → ℝ) (n i : ℕ) : blk a n i = ∑ j ∈ Finset.range (i + 1), a (n + j) := Decay.cum_add a n (i + 1)

variable (a0 : (⟨S1x4096x3088, .f32⟩ : BufTy).Contents (Elt Ideal)) (a2 : (⟨S1x16x256, .f32⟩ : BufTy).Contents (Elt Ideal)) (a3 : (⟨S1x256, .f32⟩ : BufTy).Contents (Elt Ideal))

def pos (t : ℕ) : Fin 4096 := ⟨t % 4096, Nat.mod_lt _ (by norm_num)⟩

theorem pos_eq (t : Fin 4096) : pos t.val = t := Fin.ext (Nat.mod_eq_of_lt t.isLt)

/-- A column of the projected row `t`. -/
def col (t n : ℕ) : ℝ := (a0 (ix3 0 (pos t) ⟨n % 3088, Nat.mod_lt _ (by norm_num)⟩)).toReal

/-- The rotation's angles: their cosines and sines. -/
def cosv (t l : ℕ) : ℝ := (K_main_v25 (F := Ideal) (ix2 (pos t) ⟨l % 32, Nat.mod_lt _ (by norm_num)⟩)).toReal
def sinv (t l : ℕ) : ℝ := (K_main_v26 (F := Ideal) (ix2 (pos t) ⟨l % 32, Nat.mod_lt _ (by norm_num)⟩)).toReal

/-- The first attention's log decay. -/
def theta (h : Fin 4) : ℝ := (K_main_v89 (F := Ideal) (ix1 h)).toReal

/-- The gate's logit before its bias. -/
def logit (t : ℕ) (n : Fin 256) : ℝ := ∑ j : Fin 16, col a0 t (3072 + j.val) * (a2 (ix3 0 j n)).toReal

/-- The gate's log decay where its bias is not `-∞`: with the bias `∞` there is none. -/
def decay (t : ℕ) (n : Fin 256) : ℝ :=
  if a3 (ix2 0 n) = ⊤ then 0 else AttnBlock.logDecay (logit a0 a2 t n + (a3 (ix2 0 n)).toReal)

theorem decay_neg (t : ℕ) (n : Fin 256) : decay a0 a2 a3 t n ≤ 0 := by
  unfold decay; split_ifs
  · exact le_refl _
  · exact AttnBlock.logDecay_neg _

/-- The log decay that both programs compute. -/
theorem soft_open (t : ℕ) (n : Fin 256) (e : a3 (ix2 0 n) ≠ ⊥) : AttnBlock.soft ((logit a0 a2 t n : EReal) + a3 (ix2 0 n)) = (decay a0 a2 a3 t n : EReal) := by
  unfold decay
  split_ifs with h
  · rw [h, EReal.coe_add_top, AttnBlock.soft_top]; rfl
  · rw [← AttnBlock.soft_coe, EReal.coe_add, EReal.coe_toReal h e]

theorem soft_shut (t : ℕ) (n : Fin 256) (e : a3 (ix2 0 n) = ⊥) : AttnBlock.soft ((logit a0 a2 t n : EReal) + a3 (ix2 0 n)) = ⊥ := by
  rw [e, EReal.add_bot, AttnBlock.soft_bot]

/-- A head's channel after the rotation, its columns starting at `o`. -/
def turned (o : ℕ) (h : Fin 4) (l : Fin 64) (t : ℕ) : ℝ :=
  if l.val < 32 then col a0 t (o + (h.val * 64 + l.val)) * cosv t l.val - col a0 t (o + (h.val * 64 + (32 + l.val))) * sinv t l.val
  else col a0 t (o + (h.val * 64 + (l.val - 32))) * sinv t (l.val - 32) + col a0 t (o + (h.val * 64 + (32 + (l.val - 32)))) * cosv t (l.val - 32)

theorem angle_real (t : Fin 4096) (l : Fin 32) : IsReal (K_main_v24 (F := Ideal) (ix2 t l)) := by
  pointwise! [K_main_v24, K_main_v22, K_main_v23, K_main_v20, K_main_v21, K_main_v0, K_main_v19, K_main_v18, K_main_v17, K_main_v16, K_main_v15, K_main_v14, K_main_v13, K_main_v12, K_main_cst, K_main_cst_0, K_main_cst_1]
  refine IsReal.mul ⟨_, rfl⟩ ?_
  rw [show (Ideal.ofBits .f32 0x42800000#32 : EReal) = ((64 : ℝ) : EReal) from by simp [Ideal.ofBits, Ideal.ieee, -EReal.coe_mul]; norm_num, Ideal.div_coe (by norm_num),
    show (Ideal.ofBits .f32 0x461C4000#32 : EReal) = ((10000 : ℝ) : EReal) from by simp [Ideal.ofBits, Ideal.ieee, -EReal.coe_mul]; norm_num,
    show (Ideal.ofBits .f32 0x40000000#32 : EReal) = ((2 : ℝ) : EReal) from by simp [Ideal.ofBits, Ideal.ieee, -EReal.coe_mul]; norm_num]
  obtain ⟨r, hr⟩ : IsReal (FloatOps.sitofp (F := Ideal) FTy.f32 (BitVec.ofNat 32 l.val)) := ⟨_, rfl⟩
  rw [hr]
  refine ⟨Real.rpow 10000 (-r * 2 * (1 / 64)), ?_⟩
  rw [← EReal.coe_neg, ← EReal.coe_mul, ← EReal.coe_mul, Ideal.pow_coe_coe]

theorem cos_eq (t : Fin 4096) (l : Fin 32) : K_main_v25 (F := Ideal) (ix2 t l) = (cosv t.val l.val : EReal) := by
  unfold cosv
  rw [pos_eq, show (⟨l.val % 32, Nat.mod_lt _ (by norm_num)⟩ : Fin 32) = l from Fin.ext (Nat.mod_eq_of_lt l.isLt)]
  obtain ⟨r, hr⟩ := angle_real t l
  rw [show K_main_v25 (F := Ideal) (ix2 t l) = Ideal.cos (K_main_v24 (F := Ideal) (ix2 t l)) from rfl, hr]; rfl

theorem sin_eq (t : Fin 4096) (l : Fin 32) : K_main_v26 (F := Ideal) (ix2 t l) = (sinv t.val l.val : EReal) := by
  unfold sinv
  rw [pos_eq, show (⟨l.val % 32, Nat.mod_lt _ (by norm_num)⟩ : Fin 32) = l from Fin.ext (Nat.mod_eq_of_lt l.isLt)]
  obtain ⟨r, hr⟩ := angle_real t l
  rw [show K_main_v26 (F := Ideal) (ix2 t l) = Ideal.sin (K_main_v24 (F := Ideal) (ix2 t l)) from rfl, hr]; rfl

theorem theta_log (h : Fin 4) : K_main_v89 (F := Ideal) (ix1 h) = ((Real.log (1 - Real.rpow 2 (-5 - (h.val : ℝ))) : ℝ) : EReal) ∧ Real.log (1 - Real.rpow 2 (-5 - (h.val : ℝ))) ≤ 0 := by
  have h0 : (0 : ℝ) < Real.rpow 2 (-5 - (h.val : ℝ)) := Real.rpow_pos_of_pos (by norm_num) _
  have h1 : Real.rpow 2 (-5 - (h.val : ℝ)) < 1 := Real.rpow_lt_one_of_one_lt_of_neg (by norm_num) (by have : (0 : ℝ) ≤ h.val := Nat.cast_nonneg _; linarith)
  refine ⟨?_, Real.log_nonpos (by linarith) (by linarith)⟩
  pointwise! [K_main_v89, K_main_v88, K_main_v87, K_main_v86, K_main_v85, K_main_v84, K_main_v83, K_main_v82, K_main_cst_6, K_main_cst_7, K_main_cst_8]
  rw [show (Ideal.ofBits .f32 0xC0A00000#32 : EReal) = ((-5 : ℝ) : EReal) from by simp [Ideal.ofBits, Ideal.ieee, -EReal.coe_mul]; norm_num,
    show (Ideal.ofBits .f32 0x40000000#32 : EReal) = ((2 : ℝ) : EReal) from by simp [Ideal.ofBits, Ideal.ieee, -EReal.coe_mul]; norm_num,
    show FloatOps.sitofp (F := Ideal) FTy.f32 (BitVec.ofNat 32 h.val) = ((h.val : ℝ) : EReal) from by fin_cases h <;> rfl]
  rw [← EReal.coe_sub, Ideal.pow_coe_coe, ← EReal.coe_one, ← EReal.coe_sub, Ideal.log_coe, if_neg (by linarith)]

theorem theta_eq (h : Fin 4) : K_main_v89 (F := Ideal) (ix1 h) = (theta h : EReal) := by
  unfold theta; rw [(theta_log h).1]; rfl

theorem theta_neg (h : Fin 4) : theta h ≤ 0 := by
  unfold theta; rw [(theta_log h).1]; exact (theta_log h).2

/-- The operands of the attention that decays at a fixed rate. -/
def ret : Ops where
  a h _ _ := theta h
  q := turned a0 0
  k h l t := turned a0 256 h l t * (1 / 8)
  v h l t := col a0 t (512 + (h.val * 128 + l.val))
  neg h _ _ := theta_neg h
  shut _ _ := False
  dead _ _ _ e := e.elim

/-- The operands of the gated one: a channel whose bias is `-∞` has none. -/
def gla : Ops where
  a h l t := decay a0 a2 a3 t ⟨h.val * 64 + l.val, by omega⟩
  q h l t := if a3 (ix2 0 ⟨h.val * 64 + l.val, by omega⟩) = ⊥ then 0 else col a0 t (1536 + (h.val * 64 + l.val)) * (1 / 8)
  k h l t := if a3 (ix2 0 ⟨h.val * 64 + l.val, by omega⟩) = ⊥ then 0 else col a0 t (1792 + (h.val * 64 + l.val))
  v h l t := col a0 t (2048 + (h.val * 128 + l.val))
  neg _ _ _ := decay_neg _ _ _ _ _
  shut h l := a3 (ix2 0 ⟨h.val * 64 + l.val, by omega⟩) = ⊥
  dead _ _ _ e := ⟨if_pos e, if_pos e⟩

/-- The rows and the gate's matrix are real numbers. -/
structure Reals (a0 : (⟨S1x4096x3088, .f32⟩ : BufTy).Contents (Elt Ideal)) (a2 : (⟨S1x16x256, .f32⟩ : BufTy).Contents (Elt Ideal)) : Prop where
  h0 : ∀ t n, IsReal (a0 (ix3 0 t n))
  h2 : ∀ j n, IsReal (a2 (ix3 0 j n))

variable {a0 a2 a3}
variable (H : Reals a0 a2)
include H

theorem col_eq (t : Fin 4096) (n : Fin 3088) : a0 (ix3 0 t n) = (col a0 t.val n.val : EReal) := by
  unfold col
  rw [pos_eq, show (⟨n.val % 3088, Nat.mod_lt _ (by norm_num)⟩ : Fin 3088) = n from Fin.ext (Nat.mod_eq_of_lt n.isLt)]
  obtain ⟨r, hr⟩ := H.h0 t n
  rw [hr]; rfl

omit H in
theorem eighth : (Ideal.ofBits .f32 0x3E000000#32 : EReal) = ((1 / 8 : ℝ) : EReal) := by simp [Ideal.ofBits, Ideal.ieee, -EReal.coe_mul]; norm_num

theorem logit_eq (t : Fin 4096) (n : Fin 256) : A_main_v105 a0 a2 a3 (ix3 0 t n) = (logit a0 a2 t.val n : EReal) + a3 (ix2 0 n) := by
  pointwise! [A_main_v105, A_main_v104, A_main_v103, A_main_v102, A_main_v101, A_main_v100, A_main_v9]
  unfold logit
  rw [← coe_sum]
  refine congrArg (· + _) (Finset.sum_congr rfl fun j _ => ?_)
  obtain ⟨r, hr⟩ := H.h2 j n
  rw [col_eq H, hr, EReal.coe_mul]; rfl

omit H in
/-- The reference's form of the log decay. -/
theorem soft_div (x : EReal) : Ideal.div (-(max (-x) 0 + Ideal.log (1 + Ideal.exp (-max (-x) (- -x))))) (Ideal.ofBits .f32 0x41800000#32) = AttnBlock.soft x := by
  have h16 : (Ideal.ofBits .f32 0x41800000#32 : EReal) = ((16 : ℝ) : EReal) := by simp [Ideal.ofBits, Ideal.ieee, -EReal.coe_mul]; norm_num
  rw [h16, Ideal.div_coe (by norm_num), neg_neg]
  induction x with
  | bot =>
    rw [AttnBlock.soft_bot, EReal.neg_bot, max_eq_left le_top, max_eq_left le_top, EReal.neg_top, Ideal.exp_bot, add_zero, ← EReal.coe_one, Ideal.log_coe, if_neg (by norm_num),
      EReal.top_add_coe, EReal.neg_top, EReal.bot_mul_coe_of_pos (by norm_num)]
  | top =>
    rw [AttnBlock.soft_top, EReal.neg_top, max_eq_right bot_le, max_eq_right bot_le, EReal.neg_top, Ideal.exp_bot, add_zero, ← EReal.coe_one, Ideal.log_coe, if_neg (by norm_num), Real.log_one,
      EReal.coe_zero, add_zero, neg_zero, zero_mul]
  | coe y =>
    rw [AttnBlock.soft_coe, max_comm (-(y : EReal)) (y : EReal), ← EReal.coe_neg, show max (y : EReal) ((-y : ℝ) : EReal) = ((|y| : ℝ) : EReal) from (EReal.coe_strictMono.monotone.map_max (a := y) (b := -y)).symm,
      ← EReal.coe_neg, Ideal.exp_coe, ← EReal.coe_one, ← EReal.coe_add, Ideal.log_coe, if_neg (by linarith [Real.exp_pos (-|y|)]),
      ← EReal.coe_zero, show max ((-y : ℝ) : EReal) ((0 : ℝ) : EReal) = ((max (-y) 0 : ℝ) : EReal) from (EReal.coe_strictMono.monotone.map_max (a := -y) (b := 0)).symm,
      ← EReal.coe_add, ← EReal.coe_neg, ← EReal.coe_mul]
    refine congrArg _ ?_
    unfold AttnBlock.logDecay
    rw [show min y 0 = -max (-y) 0 from by rw [← min_neg_neg, neg_neg, neg_zero]]
    ring

theorem gate_eq (t : Fin 4096) (n : Fin 256) : A_main_v122 a0 a2 a3 (ix3 0 t n) = AttnBlock.soft ((logit a0 a2 t.val n : EReal) + a3 (ix2 0 n)) := by
  have e := logit_eq (a3 := a3) H t n
  unfold A_main_v122 A_main_v120 A_main_v119 A_main_v118 A_main_v117 A_main_v116 A_main_v115 A_main_v114 A_main_v113 A_main_v111 A_main_v110 A_main_v108 A_main_v106 K_main_v107 K_main_v109 K_main_v112 K_main_v121 K_main_cst_10 K_main_cst_11
  generalize A_main_v105 a0 a2 a3 = x at e ⊢
  pointwise
  rw [if_neg (not_not.mpr rfl), e]
  exact soft_div _

omit H in
theorem same_cos {F : FTy → Type} [FloatOps F] : K_main_v59 (F := F) = K_main_v25 := rfl
omit H in
theorem same_sin {F : FTy → Type} [FloatOps F] : K_main_v60 (F := F) = K_main_v26 := rfl

theorem rq_eq (c : Fin 64) (h : Fin 4) (i l : Fin 64) : A_main_v127 a0 a2 a3 (ix5 c 0 h i l) = (turned a0 0 h l (64 * c + i) : EReal) := by
  pointwise! [A_main_v127, A_main_v126, A_main_v43, A_main_v42, A_main_v41, A_main_v38, A_main_v35, A_main_v34, A_main_v31, A_main_v28, A_main_v27, A_main_v11, A_main_v10, A_main_v1, K_main_v30, K_main_v29, K_main_v32, K_main_v33, K_main_v36, K_main_v37, K_main_v39, K_main_v40]
  unfold turned
  simp only [Nat.zero_add, Nat.mul_comm 64 c.val]
  split <;> simp only [col_eq H, cos_eq, sin_eq, EReal.coe_sub, EReal.coe_add, EReal.coe_mul]

theorem rk_eq (c : Fin 64) (h : Fin 4) (i l : Fin 64) : A_main_v129 a0 a2 a3 (ix5 c 0 h i l) = (turned a0 256 h l (64 * c + i) * (1 / 8) : ℝ) := by
  pointwise! [A_main_v129, A_main_v128, A_main_v79, A_main_v77, A_main_v76, A_main_v75, A_main_v72, A_main_v69, A_main_v68, A_main_v65, A_main_v62, A_main_v61, A_main_v45, A_main_v44, A_main_v2, K_main_v64, K_main_v63, K_main_v67, K_main_v66, K_main_v70, K_main_v71, K_main_v73, K_main_v74, K_main_v78, K_main_cst_5]
  refine Eq.trans (congrArg₂ (· * ·) ?_ eighth) (EReal.coe_mul _ _).symm
  simp only [same_cos, same_sin]
  unfold turned
  simp only [Nat.mul_comm 64 c.val]
  split <;> simp only [col_eq H, cos_eq, sin_eq, EReal.coe_sub, EReal.coe_add, EReal.coe_mul]

theorem rv_eq (c : Fin 64) (h : Fin 4) (i : Fin 64) (l : Fin 128) : A_main_v131 a0 a2 a3 (ix5 c 0 h i l) = (col a0 (64 * c + i) (512 + (h.val * 128 + l.val)) : EReal) := by
  pointwise! [A_main_v131, A_main_v130, A_main_v81, A_main_v80, A_main_v3]
  rw [col_eq H, Nat.mul_comm 64 c.val]

theorem gq_eq (c : Fin 64) (h : Fin 4) (i l : Fin 64) (e : ¬(gla a0 a2 a3).shut h l) : A_main_v136 a0 a2 a3 (ix5 c 0 h i l) = ((gla a0 a2 a3).q h l (64 * c + i) : EReal) := by
  pointwise! [A_main_v136, A_main_v135, A_main_v95, A_main_v93, A_main_v92, A_main_v5, K_main_v94, K_main_cst_9]
  rw [show (gla a0 a2 a3).q h l _ = _ from if_neg e, eighth, col_eq H, EReal.coe_mul, Nat.mul_comm 64 c.val]

theorem gk_eq (c : Fin 64) (h : Fin 4) (i l : Fin 64) (e : ¬(gla a0 a2 a3).shut h l) : A_main_v138 a0 a2 a3 (ix5 c 0 h i l) = ((gla a0 a2 a3).k h l (64 * c + i) : EReal) := by
  pointwise! [A_main_v138, A_main_v137, A_main_v97, A_main_v96, A_main_v6]
  rw [show (gla a0 a2 a3).k h l _ = _ from if_neg e, col_eq H, Nat.mul_comm 64 c.val]

theorem gv_eq (c : Fin 64) (h : Fin 4) (i : Fin 64) (l : Fin 128) : A_main_v140 a0 a2 a3 (ix5 c 0 h i l) = (col a0 (64 * c + i) (2048 + (h.val * 128 + l.val)) : EReal) := by
  pointwise! [A_main_v140, A_main_v139, A_main_v99, A_main_v98, A_main_v7]
  rw [col_eq H, Nat.mul_comm 64 c.val]

theorem ga_eq (c : Fin 64) (h : Fin 4) (j l : Fin 64) : A_main_v142 a0 a2 a3 (ix5 c 0 h j l) = AttnBlock.soft ((logit a0 a2 (64 * c + j) ⟨h.val * 64 + l.val, by omega⟩ : EReal) + a3 (ix2 0 ⟨h.val * 64 + l.val, by omega⟩)) := by
  pointwise! [A_main_v142, A_main_v141, A_main_v124, A_main_v123]
  rw [gate_eq H, Nat.mul_comm 64 c.val]

theorem gb_eq (c : Fin 64) (h : Fin 4) (i l : Fin 64) (e : ¬(gla a0 a2 a3).shut h l) : A_main_v143 a0 a2 a3 (ix5 c 0 h i l) = (blk ((gla a0 a2 a3).a h l) (64 * c) i : EReal) := by
  unfold A_main_v143
  rw [blk_sum]
  rw [← coe_sum]
  exact window_sums _ _ (fun j => by pointwise! [K_main_call1_call0_v0, K_main_call1_call0_cst]) _ _ (fun j => ((gla a0 a2 a3).a h l (64 * c + j) : EReal)) c h i l fun j => (ga_eq H c h j l).trans (soft_open a0 a2 a3 _ _ e)

theorem gz_eq (c : Fin 64) (h : Fin 4) (i l : Fin 64) (e : (gla a0 a2 a3).shut h l) : A_main_v143 a0 a2 a3 (ix5 c 0 h i l) = ⊥ := by
  unfold A_main_v143
  refine (window_sums _ _ (fun j => by pointwise! [K_main_call1_call0_v0, K_main_call1_call0_cst]) _ _ (fun _ => ⊥) c h i l fun j => (ga_eq H c h j l).trans (soft_shut a0 a2 a3 _ _ e)).trans ?_
  rw [Finset.sum_range_succ, EReal.add_bot]

theorem fed : Fed (ret a0) (gla a0 a2 a3) (init (F := Ideal) a0 a2 a3) where
  rq := rq_eq (a3 := a3) H
  rk := rk_eq (a3 := a3) H
  rv := rv_eq (a3 := a3) H
  gq := gq_eq H
  gk := gk_eq H
  gv := gv_eq (a3 := a3) H
  gb := gb_eq H
  gz := gz_eq H

omit H in
theorem ret_blk (c : Fin 64) (h : Fin 4) (i : Fin 64) (l : Fin 64) : K_main_v134 (F := Ideal) (ix5 c 0 h i 0) = (blk ((ret a0).a h l) (64 * c) i : EReal) := by
  unfold K_main_v134
  rw [blk_sum]
  rw [← coe_sum]
  refine window_sums _ _ (fun j => by pointwise! [K_main_call0_call0_v0, K_main_call0_call0_cst]) _ _ (fun _ => (theta h : EReal)) c h i 0 fun j => ?_
  rw [← theta_eq]
  pointwise! [K_main_v133, K_main_v132, K_main_v91, K_main_v90]

omit H in
theorem zeros (h : Fin 4) (l : Fin 64) (v : Fin 128) : K_main_v125 (F := Ideal) (ix4 0 h l v) = ((0 : ℝ) : EReal) := by
  pointwise! [K_main_v125, K_main_cst_12]

/-- After every trip the scan holds what the two attentions say. -/
theorem scan (it : ℕ → State Ideal) (h0 : it 0 = init (F := Ideal) a0 a2 a3) (hs : ∀ n, it (n + 1) = step n (it n)) : Upto (ret a0) (gla a0 a2 a3) 64 (it 64) := by
  refine upto_all (ret a0) (gla a0 a2 a3) (fun _ _ _ => rfl) (fun c h i l => ret_blk c h i l) it ?_ hs 64 le_rfl
  rw [h0]
  exact { fed H with
    rs := fun h l v => by
      unfold Ops.state; rw [Nat.mul_zero, Decay.state_zero]; exact zeros h l v
    gs := fun h l v => by
      unfold Ops.state; rw [Nat.mul_zero, Decay.state_zero]; exact zeros h l v
    ro := fun c _ _ _ hc => absurd hc (Nat.not_lt_zero _)
    go := fun c _ _ _ hc => absurd hc (Nat.not_lt_zero _)
    rt := fun c _ _ _ hc => absurd hc (Nat.not_lt_zero _)
    gt := fun c _ _ _ hc => absurd hc (Nat.not_lt_zero _) }

end Cert.AttnOps
end
-- ==== Proof.AttnHeads.lean ====
/- One block of 256 positions, read off the arguments: what the kernel's arrays hold of the two attentions' operands. -/
module

public import proofs.«01_k».proof.Proof.AttnPlace
public import proofs.«01_k».proof.Proof.AttnOps

@[expose] public section

set_option maxRecDepth 16384

noncomputable section

namespace Cert.AttnHeads

open Idealize Idealize.ShloMosaic Cert.AttnKernelIdeal Cert.AttnKernelIdeal.Gen Cert.AttnStep Cert.AttnTile Cert.AttnBlock Cert.AttnPoint Cert.AttnOps Cert.Finite

variable {a0 : (⟨S1x4096x3088, .f32⟩ : BufTy).Contents (Elt Ideal)} {a2 : (⟨S1x16x256, .f32⟩ : BufTy).Contents (Elt Ideal)} {a3 : (⟨S1x256, .f32⟩ : BufTy).Contents (Elt Ideal)}

theorem cosv_mod (t : ℕ) {a b : ℕ} (h : a % 32 = b % 32) : cosv t a = cosv t b := by unfold cosv; simp only [h]
theorem sinv_mod (t : ℕ) {a b : ℕ} (h : a % 32 = b % 32) : sinv t a = sinv t b := by unfold sinv; simp only [h]

variable (a0 a2 a3) in
/-- The kernel's blocks over the positions from `256 * c` on. -/
structure Tile (c : ℕ) (x0 : Vec Ideal S256x3200 .bf16) (x1 x2 : Vec Ideal S256x128 .f32) (x3 : Vec Ideal S1x256 .f32) (x4 : Vec Ideal S128x256 .f32) (x5 : Vec Ideal S1x256 .f32) : Prop where
  x0 (i : Fin 256) (n : Fin 3200) : x0 (ix2 i n) = if n.val < 3088 then (col a0 (256 * c + i) n : EReal) else 0
  x1 (i : Fin 256) (l : Fin 128) : x1 (ix2 i l) = (cosv (256 * c + i) l : EReal)
  x2 (i : Fin 256) (l : Fin 128) : x2 (ix2 i l) = if l.val % 64 < 32 then ((-sinv (256 * c + i) l : ℝ) : EReal) else (sinv (256 * c + i) l : EReal)
  x3 (n : Fin 256) : x3 (ix2 0 n) = (theta ⟨n.val / 64, by omega⟩ : EReal)
  x4 (j : Fin 128) (n : Fin 256) : x4 (ix2 j n) = if h : j.val < 16 then ((a2 (ix3 0 ⟨j.val, h⟩ n)).toReal : EReal) else 0
  x5 (n : Fin 256) : x5 (ix2 0 n) = a3 (ix2 0 n)

section Columns

variable {c : ℕ} {x0 : Vec Ideal S256x3200 .bf16} {x1 x2 : Vec Ideal S256x128 .f32} {x3 : Vec Ideal S1x256 .f32} {x4 : Vec Ideal S128x256 .f32} {x5 : Vec Ideal S1x256 .f32}

/-- Columns of the projected rows. -/
theorem ld_cols {w o : ℕ} (h : o + w ≤ 3200) (inb) (i : Fin 256) (n : Fin w) :
    View.ld (Val := Elt Ideal) (e' := .bf16) x0 (Rect.unit ![0, o] ![256, w] inb) (ix2 i n) = x0 (ix2 i ⟨o + n.val, by omega⟩) :=
  congrArg x0 (funext fun a => Fin.ext (match a with
    | ⟨0, _⟩ => (Nat.zero_add _).trans (Nat.one_mul _)
    | ⟨1, _⟩ => congrArg (o + ·) (Nat.one_mul _)))

theorem Tile.cols (H : Tile a0 a2 a3 c x0 x1 x2 x3 x4 x5) {w o : ℕ} (h : o + w ≤ 3088) (inb) (i : Fin 256) (n : Fin w) :
    View.ld (Val := Elt Ideal) (e' := .bf16) x0 (Rect.unit ![0, o] ![256, w] inb) (ix2 i n) = (col a0 (256 * c + i) (o + n.val) : EReal) := by
  rw [ld_cols (by omega), H.x0, if_pos (by show o + n.val < 3088; omega)]

theorem Tile.turn (H : Tile a0 a2 a3 c x0 x1 x2 x3 x4 x5) {X : Vec Ideal S256x256 .bf16} (o : ℕ) (hX : ∀ i n : Fin 256, X (ix2 i n) = (col a0 (256 * c + i) (o + n.val) : EReal))
    (i : Fin 256) (h : Fin 4) (l : Fin 64) : AttnBlock.turn x1 x2 X i ⟨64 * h.val + l.val, by omega⟩ = (turned a0 o h l (256 * c + i) : EReal) := by
  have hh := h.isLt
  have hl := l.isLt
  unfold AttnBlock.turn turned
  rw [H.x1, H.x2]
  simp only [hX]
  rw [cosv_mod _ (show (64 * h.val + l.val) % 128 % 32 = l.val % 32 by omega), sinv_mod _ (show (64 * h.val + l.val) % 128 % 32 = l.val % 32 by omega)]
  have e1 : (64 * h.val + l.val) % 64 = l.val := by omega
  have e2 : (64 * h.val + l.val) % 128 % 64 = l.val := by omega
  rw [e1, e2]
  by_cases hl2 : l.val < 32
  · simp only [if_pos hl2]
    rw [← EReal.coe_mul, ← EReal.coe_mul, ← EReal.coe_add, show (64 * h.val + l.val + 32) % 256 = h.val * 64 + (32 + l.val) by omega, Nat.mul_comm 64 h.val]
    exact congrArg Real.toEReal (by ring)
  · simp only [if_neg hl2]
    rw [← EReal.coe_mul, ← EReal.coe_mul, ← EReal.coe_add, show (64 * h.val + l.val + 224) % 256 = h.val * 64 + (l.val - 32) by omega,
      show 64 * h.val + l.val = h.val * 64 + (32 + (l.val - 32)) by omega, cosv_mod (256 * c + i.val) (show l.val % 32 = (l.val - 32) % 32 by omega), sinv_mod (256 * c + i.val) (show l.val % 32 = (l.val - 32) % 32 by omega)]
    exact congrArg Real.toEReal (by ring)

variable {P : Vec Ideal S1x512x256 .f32}

theorem pay45_apply (r : Fin 512) (l : Fin 256) : k0_pay45 P (ix2 r l) = P (ix3 0 r l) := by pointwise! [k0_pay45]

theorem Tile.low (H : Tile a0 a2 a3 c x0 x1 x2 x3 x4 x5)
    (hP : ∀ (g h : Fin 4) (v : Fin 128) (l : Fin 64), P (ix3 0 ⟨128 * g.val + v.val, by omega⟩ ⟨64 * h.val + l.val, by omega⟩) = if g = h then ((ret a0).state h v (256 * c) l : EReal) else 0) :
    Holds (ret a0) c (rotQ x1 x2 (lowQ x0)) (k0_pay31 (k0_pay15 x2) (part2 x0 x1 x2) (part3 x0) (part4 x0 x1) k0_pay29 (part6 x0) 32#32) (k0_pay34 (k0_pay16 x3)) (k0_pay32 (lowV x0)) (k0_pay45 P) where
  q i h l _ := by
    rw [rotQ_apply, H.turn 0 (fun i n => H.cols (by omega) _ i n)]; rfl
  k i h l _ := by
    show rotK x1 x2 (lowK x0) _ = _
    rw [rotK_apply, H.turn 256 (fun i n => H.cols (by omega) _ i n), eighth]; exact (EReal.coe_mul _ _).symm
  z _ _ _ e := e.elim
  b i h l _ := by
    rw [low_blk (a := fun n => theta ⟨n.val / 64, by omega⟩) (fun n => by rw [← H.x3]; pointwise! [k0_pay16]), blk_sum]
    have e : (⟨(64 * h.val + l.val) / 64, by omega⟩ : Fin 4) = h := Fin.ext (by show (64 * h.val + l.val) / 64 = h.val; omega)
    dsimp only [ret]
    rw [e, Finset.sum_const, Finset.card_range, nsmul_eq_mul]; push_cast; rfl
  w i h v := by
    rw [show ∀ X : Vec Ideal S256x512 .bf16, ∀ n, k0_pay32 X (ix2 i n) = X (ix2 i n) from fun X n => by pointwise! [k0_pay32]]
    unfold lowV
    rw [H.cols (by omega)]
    show _ = (col a0 _ (512 + (h.val * 128 + v.val)) : EReal)
    rw [Nat.mul_comm h.val 128]
  S g h v l := by rw [pay45_apply, hP]

theorem Tile.logit (H : Tile a0 a2 a3 c x0 x1 x2 x3 x4 x5) (i n : Fin 256) :
    (∑ m : Fin 128, gateX x0 (ix2 i m) * k0_pay75 x4 (ix2 m n)) + x5 (ix2 0 n) = (logit a0 a2 (256 * c + i) n : EReal) + a3 (ix2 0 n) := by
  have e4 : ∀ m, k0_pay75 x4 (ix2 m n) = x4 (ix2 m n) := fun m => by pointwise! [k0_pay75]
  unfold AttnOps.logit
  rw [H.x5, ← coe_sum]
  refine congrArg (· + _) ?_
  refine (Fin.sum_univ_add (a := 16) (b := 112) (fun m : Fin (16 + 112) => gateX x0 (ix2 i m) * k0_pay75 x4 (ix2 m n))).trans ?_
  rw [show (∑ j : Fin 112, gateX x0 (ix2 i (Fin.natAdd 16 j)) * k0_pay75 x4 (ix2 (Fin.natAdd 16 j) n)) = 0 from Finset.sum_eq_zero fun j _ => by
    rw [e4, H.x4, dif_neg (by show ¬16 + j.val < 16; omega), mul_zero], add_zero]
  refine Finset.sum_congr rfl fun j _ => ?_
  unfold gateX
  rw [e4, H.x4, dif_pos (show (Fin.castAdd 112 j).val < 16 from j.isLt), ld_cols (by omega), H.x0, if_pos (by show 3072 + j.val < 3088; omega), EReal.coe_mul]
  rfl

theorem Tile.gate (H : Tile a0 a2 a3 c x0 x1 x2 x3 x4 x5) (h : Fin 4) (l : Fin 64) (i : Fin 256) :
    k0_pay80 (k0_pay75 x4) x5 (gateX x0) (ix2 i ⟨64 * h.val + l.val, by omega⟩)
      = soft ((AttnOps.logit a0 a2 (256 * c + i) ⟨h.val * 64 + l.val, by omega⟩ : EReal) + a3 (ix2 0 ⟨h.val * 64 + l.val, by omega⟩)) := by
  rw [high_gate, H.logit]
  simp only [Nat.mul_comm 64 h.val]

theorem Tile.high (H : Tile a0 a2 a3 c x0 x1 x2 x3 x4 x5)
    (hP : ∀ (g h : Fin 4) (v : Fin 128) (l : Fin 64), P (ix3 0 ⟨128 * g.val + v.val, by omega⟩ ⟨64 * h.val + l.val, by omega⟩) = if g = h then ((gla a0 a2 a3).state h v (256 * c) l : EReal) else 0) :
    Holds (gla a0 a2 a3) c (k0_pay76 (highQ x0)) (k0_pay77 (highK x0)) (k0_pay87 k0_pay81 (gate1 x0 x4 x5) (gate2 x0 x4 x5) (gate3 x0 x4 x5)) (k0_pay78 (highV x0)) (k0_pay96 P) where
  q i h l e := by
    rw [show (gla a0 a2 a3).q h l _ = _ from if_neg e]
    have e : ∀ X : Vec Ideal S256x256 .bf16, ∀ n, k0_pay76 X (ix2 i n) = X (ix2 i n) * Ideal.ofBits .f32 0x3E000000#32 := fun X n => by pointwise! [k0_pay76]
    rw [e]
    unfold highQ
    rw [H.cols (by omega), eighth, ← EReal.coe_mul]
    show _ = ((col a0 _ (1536 + (h.val * 64 + l.val)) * (1 / 8) : ℝ) : EReal)
    rw [Nat.mul_comm h.val 64]
  k i h l e := by
    rw [show (gla a0 a2 a3).k h l _ = _ from if_neg e]
    have e : ∀ X : Vec Ideal S256x256 .bf16, ∀ n, k0_pay77 X (ix2 i n) = X (ix2 i n) := fun X n => by pointwise! [k0_pay77]
    rw [e]
    unfold highK
    rw [H.cols (by omega)]
    show _ = (col a0 _ (1792 + (h.val * 64 + l.val)) : EReal)
    rw [Nat.mul_comm h.val 64]
  z i h l e := high_blk_bot (fun j => (H.gate h l j).trans (soft_shut a0 a2 a3 _ _ e)) i
  b i h l e := by
    refine (high_blk (a := fun j => (gla a0 a2 a3).a h l (256 * c + j.val)) (fun j => (H.gate h l j).trans (soft_open a0 a2 a3 _ _ e)) i).trans (congrArg Real.toEReal ?_)
    rw [blk_sum]
    simp only [Fin.le_def]
    rw [Fin.sum_univ_eq_sum_range (fun j => if j ≤ i.val then (gla a0 a2 a3).a h l (256 * c + j) else 0) 256, ← Finset.sum_filter,
      show (Finset.range 256).filter (· ≤ i.val) = Finset.range (i.val + 1) from by ext j; simp only [Finset.mem_filter, Finset.mem_range]; omega]
  w i h v := by
    rw [show ∀ X : Vec Ideal S256x512 .bf16, ∀ n, k0_pay78 X (ix2 i n) = X (ix2 i n) from fun X n => by pointwise! [k0_pay78]]
    unfold highV
    rw [H.cols (by omega)]
    show _ = (col a0 _ (2048 + (h.val * 128 + v.val)) : EReal)
    rw [Nat.mul_comm h.val 128]
  S g h v l := by rw [show k0_pay96 P = k0_pay45 P from rfl, pay45_apply, hP]

end Columns

end Cert.AttnHeads

end
-- ==== Proof.AttnInput.lean ====
/- The blocks a point of the kernel's grid reads, read off the arguments. -/
module

public import proofs.«01_k».proof.Proof.AttnHeads
public import Idealize.ShloMosaic.Lib.KernelVsHost

@[expose] public section

set_option maxRecDepth 16384

noncomputable section

namespace Cert.AttnInput

open Idealize Idealize.ShloMosaic Idealize.ShloMosaic.TcCoe Idealize.SL.Sem Cert.AttnKernelIdeal Cert.AttnKernelIdeal.Gen Cert.AttnHeads Cert.AttnOps Cert.Finite
open Idealize.ShloMosaic.Pipeline (Dat)

section Windows
variable {F : FTy → Type} [FloatOps F]
variable (m : (ℓ : Loc nD τ sig) → Buf (Elt F) ℓ)

/-- Row `i` of the block of grid point `t` is row `256 t + i` of the array. -/
abbrev row (t : Fin cfg0.N) (i : Fin 256) : Fin 4096 := ⟨256 * t.val + i.val, by have ht : t.val < 16 := N_0 ▸ t.isLt; have := i.isLt; omega⟩

theorem rows_index : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ win0_8.index t 0 = t.val ∧ win0_8.index t 1 = 0 :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ win0_8.index t 0 = t.val ∧ win0_8.index t 1 = 0)

theorem whole_index : ∀ t : Fin cfg0.N, ∀ a : Fin 2, win0_3.index t a = 0 ∧ win0_4.index t a = 0 ∧ win0_5.index t a = 0 ∧ win0_6.index t a = 0 ∧ win0_7.index t a = 0 ∧ win0_9.index t a = 0 ∧ win0_10.index t a = 0 :=
  (by decide +kernel : ∀ t : Fin grid0.N, ∀ a : Fin 2, win0_3.index t a = 0 ∧ win0_4.index t a = 0 ∧ win0_5.index t a = 0 ∧ win0_6.index t a = 0 ∧ win0_7.index t a = 0 ∧ win0_9.index t a = 0 ∧ win0_10.index t a = 0)

/-- Where a window of rows points, and where one that covers its array does. -/
theorem at_row {e t0 i w : ℕ} (h : e = t0) : e * 256 + w * i = 256 * t0 + w * i := by subst h; omega
theorem at_here {e s i : ℕ} (h : e = 0) : e * s + 1 * i = i := by subst h; omega

variable (c : Dev nD) (t : Fin cfg0.N)

theorem iblk0_apply (i : Fin 256) (n : Fin 3200) : (iblk m c 0 t : Vec F S256x3200 .bf16) (ix2 i n) = V m c main_v2 (ix2 (row t i) n) := by
  have h := (rows_index t).1
  unfold iblk; rw [View.read_apply]
  refine congrArg (V m c main_v2) (funext fun a => Fin.ext ?_)
  match a with
  | ⟨0, _⟩ => exact (at_row h.1).trans (congrArg (256 * t.val + ·) (Nat.one_mul _))
  | ⟨1, _⟩ => exact at_here h.2

theorem iblk1_apply (i : Fin 256) (n : Fin 128) : (iblk m c 1 t : Vec F S256x128 .f32) (ix2 i n) = V m c main_v24 (ix2 (row t i) n) := by
  have h := (rows_index t).2.1
  unfold iblk; rw [View.read_apply]
  refine congrArg (V m c main_v24) (funext fun a => Fin.ext ?_)
  match a with
  | ⟨0, _⟩ => exact (at_row h.1).trans (congrArg (256 * t.val + ·) (Nat.one_mul _))
  | ⟨1, _⟩ => exact at_here h.2

theorem iblk2_apply (i : Fin 256) (n : Fin 128) : (iblk m c 2 t : Vec F S256x128 .f32) (ix2 i n) = V m c main_v27 (ix2 (row t i) n) := by
  have h := (rows_index t).2.2.1
  unfold iblk; rw [View.read_apply]
  refine congrArg (V m c main_v27) (funext fun a => Fin.ext ?_)
  match a with
  | ⟨0, _⟩ => exact (at_row h.1).trans (congrArg (256 * t.val + ·) (Nat.one_mul _))
  | ⟨1, _⟩ => exact at_here h.2

theorem iblk8_apply (i : Fin 256) (n : Fin 1024) : (iblk m c 8 t : Vec F S256x1024 .f32) (ix2 i n) = V m c main_arg6 (ix2 (row t i) n) := by
  have h := (rows_index t).2.2.2
  unfold iblk; rw [View.read_apply]
  refine congrArg (V m c main_arg6) (funext fun a => Fin.ext ?_)
  match a with
  | ⟨0, _⟩ => exact (at_row h.1).trans (congrArg (256 * t.val + ·) (Nat.one_mul _))
  | ⟨1, _⟩ => exact at_here h.2

theorem iblk3_eq : (iblk m c 3 t : Vec F S1x256 .f32) = V m c main_v38 := by
  funext j; unfold iblk; rw [View.read_apply]
  refine congrArg (V m c main_v38) (funext fun a => Fin.ext ?_)
  match a with
  | ⟨0, _⟩ => exact at_here (whole_index t 0).1
  | ⟨1, _⟩ => exact at_here (whole_index t 1).1

theorem iblk4_eq : (iblk m c 4 t : Vec F S128x256 .f32) = V m c main_v40 := by
  funext j; unfold iblk; rw [View.read_apply]
  refine congrArg (V m c main_v40) (funext fun a => Fin.ext ?_)
  match a with
  | ⟨0, _⟩ => exact at_here (whole_index t 0).2.1
  | ⟨1, _⟩ => exact at_here (whole_index t 1).2.1

theorem iblk5_eq : (iblk m c 5 t : Vec F S1x256 .f32) = V m c main_arg3 := by
  funext j; unfold iblk; rw [View.read_apply]
  refine congrArg (V m c main_arg3) (funext fun a => Fin.ext ?_)
  match a with
  | ⟨0, _⟩ => exact at_here (whole_index t 0).2.2.1
  | ⟨1, _⟩ => exact at_here (whole_index t 1).2.2.1

theorem iblk6_eq : (iblk m c 6 t : Vec F S1x512 .f32) = V m c main_arg1 := by
  funext j; unfold iblk; rw [View.read_apply]
  refine congrArg (V m c main_arg1) (funext fun a => Fin.ext ?_)
  match a with
  | ⟨0, _⟩ => exact at_here (whole_index t 0).2.2.2.1
  | ⟨1, _⟩ => exact at_here (whole_index t 1).2.2.2.1

theorem iblk7_eq : (iblk m c 7 t : Vec F S1x512 .f32) = V m c main_arg4 := by
  funext j; unfold iblk; rw [View.read_apply]
  refine congrArg (V m c main_arg4) (funext fun a => Fin.ext ?_)
  match a with
  | ⟨0, _⟩ => exact at_here (whole_index t 0).2.2.2.2.1
  | ⟨1, _⟩ => exact at_here (whole_index t 1).2.2.2.2.1

theorem iblk9_eq : (iblk m c 9 t : Vec F S1024x1024 .bf16) = V m c main_v42 := by
  funext j; unfold iblk; rw [View.read_apply]
  refine congrArg (V m c main_v42) (funext fun a => Fin.ext ?_)
  match a with
  | ⟨0, _⟩ => exact at_here (whole_index t 0).2.2.2.2.2.1
  | ⟨1, _⟩ => exact at_here (whole_index t 1).2.2.2.2.2.1

theorem iblk10_eq : (iblk m c 10 t : Vec F S1x1024 .f32) = V m c main_arg7 := by
  funext j; unfold iblk; rw [View.read_apply]
  refine congrArg (V m c main_arg7) (funext fun a => Fin.ext ?_)
  match a with
  | ⟨0, _⟩ => exact at_here (whole_index t 0).2.2.2.2.2.2
  | ⟨1, _⟩ => exact at_here (whole_index t 1).2.2.2.2.2.2

/-! What the lines before the kernel leave in its arrays. -/

/-- Two halves joined, and the 64 lanes twice. -/
def tiled (x y : (⟨S4096x32, .f32⟩ : BufTy).Contents (Elt F)) : (⟨S4096x128, .f32⟩ : BufTy).Contents (Elt F) :=
  shapeCast S4096x128 (broadcastInDim S1x4096x2x64 ![0, 1, 2, 3] bcast_S1x4096x1x64_S1x4096x2x64_0_1_2_3
    (shapeCast S1x4096x1x64 (concatenate S4096x64 1 [⟨S4096x32, x⟩, ⟨S4096x32, y⟩] concatenates_S4096x32_S4096x32_S4096x64_d1) shapeCasts_S4096x64_S1x4096x1x64)) shapeCasts_S1x4096x2x64_S4096x128

theorem V_v24 (i) : (V m c main_v24 : Vec F S4096x128 .f32) i = tiled AttnRefIdeal.Step.K_main_v25 AttnRefIdeal.Step.K_main_v25 i := by
  show StableHlo.after (List.flatten [hostOps0, hostOps0_1, hostOps0_2, hostOps0_3, hostOps0_4]) _ (Proc.devRef .tc main_v24) _ = _
  simp only [hostOps0, hostOps0_1, hostOps0_2, hostOps0_3, hostOps0_4, List.flatten_cons, List.flatten_nil, List.append_nil, List.cons_append, List.nil_append]
  after_results
  rfl

theorem V_v27 (i) : (V m c main_v27 : Vec F S4096x128 .f32) i = tiled (Host.negf AttnRefIdeal.Step.K_main_v26) AttnRefIdeal.Step.K_main_v26 i := by
  show StableHlo.after (List.flatten [hostOps0, hostOps0_1, hostOps0_2, hostOps0_3, hostOps0_4]) _ (Proc.devRef .tc main_v27) _ = _
  simp only [hostOps0, hostOps0_1, hostOps0_2, hostOps0_3, hostOps0_4, List.flatten_cons, List.flatten_nil, List.append_nil, List.cons_append, List.nil_append]
  after_results
  rfl

/-- A head's number, over its 64 lanes. -/
def spread (x : (⟨S4, .f32⟩ : BufTy).Contents (Elt F)) : (⟨S1x256, .f32⟩ : BufTy).Contents (Elt F) :=
  broadcastInDim S1x256 ![1] bcast_S256_S1x256_1 (shapeCast S256 (broadcastInDim S4x64 ![0] bcast_S4_S4x64_0 x) shapeCasts_S4x64_S256)

theorem V_v38 (i) : (V m c main_v38 : Vec F S1x256 .f32) i = spread AttnRefIdeal.Step.K_main_v89 i := by
  show StableHlo.after (List.flatten [hostOps0, hostOps0_1, hostOps0_2, hostOps0_3, hostOps0_4]) _ (Proc.devRef .tc main_v38) _ = _
  simp only [hostOps0, hostOps0_1, hostOps0_2, hostOps0_3, hostOps0_4, List.flatten_cons, List.flatten_nil, List.append_nil, List.cons_append, List.nil_append]
  after_results
  rfl

theorem V_v2 (i) : (V m c main_v2 : Vec F S4096x3200 .bf16) i
    = truncf .bf16 (pad S4096x3200 ![0, 0] ![0, 112] ![0, 0] (shapeCast S4096x3088 (m ((c : Thread nD τ).loc main_arg0)) shapeCasts_S1x4096x3088_S4096x3088) (sitofp .f32 (constantI S_ 32 0#32)) pads_S4096x3088_S4096x3200_000_01120 h_S_) bitsLt_bf16_f32 i := by
  show StableHlo.after (List.flatten [hostOps0, hostOps0_1, hostOps0_2, hostOps0_3, hostOps0_4]) _ (Proc.devRef .tc main_v2) _ = _
  simp only [hostOps0, hostOps0_1, hostOps0_2, hostOps0_3, hostOps0_4, List.flatten_cons, List.flatten_nil, List.append_nil, List.cons_append, List.nil_append]
  after_results
  rfl

theorem V_v40 (i) : (V m c main_v40 : Vec F S128x256 .f32) i
    = pad S128x256 ![0, 0] ![112, 0] ![0, 0] (shapeCast S16x256 (m ((c : Thread nD τ).loc main_arg2)) shapeCasts_S1x16x256_S16x256) (sitofp .f32 (constantI S_ 32 0#32)) pads_S16x256_S128x256_01120_000 h_S_ i := by
  show StableHlo.after (List.flatten [hostOps0, hostOps0_1, hostOps0_2, hostOps0_3, hostOps0_4]) _ (Proc.devRef .tc main_v40) _ = _
  simp only [hostOps0, hostOps0_1, hostOps0_2, hostOps0_3, hostOps0_4, List.flatten_cons, List.flatten_nil, List.append_nil, List.cons_append, List.nil_append]
  after_results
  rfl

theorem V_v42 (i) : (V m c main_v42 : Vec F S1024x1024 .bf16) i
    = truncf .bf16 (shapeCast S1024x1024 (m ((c : Thread nD τ).loc main_arg5)) shapeCasts_S1x1024x1024_S1024x1024) bitsLt_bf16_f32 i := by
  show StableHlo.after (List.flatten [hostOps0, hostOps0_1, hostOps0_2, hostOps0_3, hostOps0_4]) _ (Proc.devRef .tc main_v42) _ = _
  simp only [hostOps0, hostOps0_1, hostOps0_2, hostOps0_3, hostOps0_4, List.flatten_cons, List.flatten_nil, List.append_nil, List.cons_append, List.nil_append]
  after_results
  rfl

end Windows

end Cert.AttnInput

end
-- ==== Proof.AttnRun.lean ====
/- The reference's results as its chunk step iterated 64 times from the operands' chunks. -/
module

public import proofs.«01_k».proof.Proof.Gen.AttnRefIdeal.Run
public import proofs.«01_k».proof.Proof.Gen.AttnRefIdeal.Step
public import Idealize.ShloMosaic.Lib.IdealHost

@[expose] public section

noncomputable section

namespace Cert.AttnRun

open Idealize Idealize.ShloMosaic Idealize.ShloMosaic.TcCoe Idealize.SL.Sem Idealize.ShloMosaic.StableHlo
open Cert.AttnRefIdeal Cert.AttnRefIdeal.Gen Cert.AttnRefIdeal.Value Cert.AttnRefIdeal.Step

variable {F : FTy → Type} [FloatOps F]

/-- The arrays before trip `n`: the scan's carried and constant values, the retention's log decays and the trip's number. -/
structure At (X : Valuation τ sig (Elt F)) (s : State F) (n : ℕ) : Prop where
  state : s = ⟨X (Proc.devRef .tc main_v148_9), X (Proc.devRef .tc main_v148_10), X (Proc.devRef .tc main_v148_11), X (Proc.devRef .tc main_v148_12),
    X (Proc.devRef .tc main_v148_13), X (Proc.devRef .tc main_v148_14),
    X (Proc.devRef .tc main_v148_0), X (Proc.devRef .tc main_v148_1), X (Proc.devRef .tc main_v148_2), X (Proc.devRef .tc main_v148_4), X (Proc.devRef .tc main_v148_5),
    X (Proc.devRef .tc main_v148_6), X (Proc.devRef .tc main_v148_7)⟩
  trip : X (Proc.devRef .tc main_v148_8) = constantI S_ 32 (BitVec.ofNat 32 n)
  decay : X (Proc.devRef .tc main_v148_3) = K_main_v134 (F := F)

variable {X : Valuation τ sig (Elt F)} {s : State F} {n : ℕ}

set_option maxRecDepth 8192 in
theorem next_ret (h : At X s n) : Value.step_main_v148_9 X = b77 n s := by
  obtain ⟨rfl, ht, hd⟩ := h
  unfold Value.step_main_v148_9 res_main_while0b_v275 res_main_while0b_v251 res_main_while0b_v252 res_main_while0b_v253
  simp only [ht, hd]
  rfl

set_option maxRecDepth 8192 in
theorem next_gla (h : At X s n) : Value.step_main_v148_10 X = b110 n s := by
  obtain ⟨rfl, ht, hd⟩ := h
  unfold Value.step_main_v148_10 res_main_while0b_v308 res_main_while0b_v255 res_main_while0b_v256 res_main_while0b_v257
  simp only [ht]
  rfl

set_option maxRecDepth 8192 in
theorem next_ret_out (h : At X s n) : Value.step_main_v148_11 X = b116 n s := by
  obtain ⟨rfl, ht, hd⟩ := h
  unfold Value.step_main_v148_11 res_main_while0b_v250 res_main_while0b_v251 res_main_while0b_v252 res_main_while0b_v253
  simp only [ht, hd]
  rfl

set_option maxRecDepth 8192 in
theorem next_gla_out (h : At X s n) : Value.step_main_v148_12 X = b122 n s := by
  obtain ⟨rfl, ht, hd⟩ := h
  unfold Value.step_main_v148_12 res_main_while0b_v254 res_main_while0b_v255 res_main_while0b_v256 res_main_while0b_v257
  simp only [ht]
  rfl

set_option maxRecDepth 8192 in
theorem next_ret_state (h : At X s n) : Value.step_main_v148_13 X = b128 n s := by
  obtain ⟨rfl, ht, hd⟩ := h
  unfold Value.step_main_v148_13
  simp only [ht]
  rfl

set_option maxRecDepth 8192 in
theorem next_gla_state (h : At X s n) : Value.step_main_v148_14 X = b134 n s := by
  obtain ⟨rfl, ht, hd⟩ := h
  unfold Value.step_main_v148_14
  simp only [ht]
  rfl

theorem next (h : At X s n) : At (STEP X) (step n s) (n + 1) := by
  refine ⟨?_, ?_, (STEP_main_v148_3 X).trans h.decay⟩
  · rw [STEP_main_v148_9, STEP_main_v148_10, STEP_main_v148_11, STEP_main_v148_12, STEP_main_v148_13, STEP_main_v148_14, STEP_main_v148_0, STEP_main_v148_1, STEP_main_v148_2, STEP_main_v148_4,
      STEP_main_v148_5, STEP_main_v148_6, STEP_main_v148_7, next_ret h, next_gla h, next_ret_out h, next_gla_out h,
      next_ret_state h, next_gla_state h]
    unfold step
    rw [h.state]
  · rw [STEP_main_v148_8]
    unfold Value.step_main_v148_8
    rw [h.trip]
    funext i
    show BitVec.ofNat 32 n + 1#32 = BitVec.ofNat 32 (n + 1)
    simp only [BitVec.ofNat_add]

variable (m : (ℓ : Loc nD τ sig) → Buf (Elt F) ℓ) (c : Dev nD)

/-- The states of the scan, from the arguments in memory. -/
def it : ℕ → State F
  | 0 => init (m ((c.tc : Thread nD τ).loc main_arg0)) (m ((c.tc : Thread nD τ).loc main_arg2)) (m ((c.tc : Thread nD τ).loc main_arg3))
  | n + 1 => step n (it n)

set_option maxRecDepth 65536 in
set_option maxHeartbeats 1600000 in
theorem first_9 : entryContents preI m c (Proc.devRef .tc main_v148_9) = K_main_v125 (F := F) := by
  (simp only [entryContents, afterL_cons, afterL_nil]; after_reads_simp) <;> rfl

set_option maxRecDepth 65536 in
set_option maxHeartbeats 1600000 in
theorem first_10 : entryContents preI m c (Proc.devRef .tc main_v148_10) = K_main_v125 (F := F) := by
  (simp only [entryContents, afterL_cons, afterL_nil]; after_reads_simp) <;> rfl

set_option maxRecDepth 65536 in
set_option maxHeartbeats 1600000 in
theorem first_11 : entryContents preI m c (Proc.devRef .tc main_v148_11) = K_main_v144 (F := F) := by
  (simp only [entryContents, afterL_cons, afterL_nil]; after_reads_simp) <;> rfl

set_option maxRecDepth 65536 in
set_option maxHeartbeats 1600000 in
theorem first_12 : entryContents preI m c (Proc.devRef .tc main_v148_12) = K_main_v145 (F := F) := by
  (simp only [entryContents, afterL_cons, afterL_nil]; after_reads_simp) <;> rfl

set_option maxRecDepth 65536 in
set_option maxHeartbeats 1600000 in
theorem first_13 : entryContents preI m c (Proc.devRef .tc main_v148_13) = K_main_v146 (F := F) := by
  (simp only [entryContents, afterL_cons, afterL_nil]; after_reads_simp) <;> rfl

set_option maxRecDepth 65536 in
set_option maxHeartbeats 1600000 in
theorem first_14 : entryContents preI m c (Proc.devRef .tc main_v148_14) = K_main_v147 (F := F) := by
  (simp only [entryContents, afterL_cons, afterL_nil]; after_reads_simp) <;> rfl

set_option maxRecDepth 65536 in
set_option maxHeartbeats 1600000 in
theorem first_0 : entryContents preI m c (Proc.devRef .tc main_v148_0) = A_main_v127 (F := F) (m ((c.tc : Thread nD τ).loc main_arg0)) (m ((c.tc : Thread nD τ).loc main_arg2)) (m ((c.tc : Thread nD τ).loc main_arg3)) := by
  (simp only [entryContents, afterL_cons, afterL_nil]; after_reads_simp) <;> rfl

set_option maxRecDepth 65536 in
set_option maxHeartbeats 1600000 in
theorem first_1 : entryContents preI m c (Proc.devRef .tc main_v148_1) = A_main_v129 (F := F) (m ((c.tc : Thread nD τ).loc main_arg0)) (m ((c.tc : Thread nD τ).loc main_arg2)) (m ((c.tc : Thread nD τ).loc main_arg3)) := by
  (simp only [entryContents, afterL_cons, afterL_nil]; after_reads_simp) <;> rfl

set_option maxRecDepth 65536 in
set_option maxHeartbeats 1600000 in
theorem first_2 : entryContents preI m c (Proc.devRef .tc main_v148_2) = A_main_v131 (F := F) (m ((c.tc : Thread nD τ).loc main_arg0)) (m ((c.tc : Thread nD τ).loc main_arg2)) (m ((c.tc : Thread nD τ).loc main_arg3)) := by
  (simp only [entryContents, afterL_cons, afterL_nil]; after_reads_simp) <;> rfl

set_option maxRecDepth 65536 in
set_option maxHeartbeats 1600000 in
theorem first_4 : entryContents preI m c (Proc.devRef .tc main_v148_4) = A_main_v136 (F := F) (m ((c.tc : Thread nD τ).loc main_arg0)) (m ((c.tc : Thread nD τ).loc main_arg2)) (m ((c.tc : Thread nD τ).loc main_arg3)) := by
  (simp only [entryContents, afterL_cons, afterL_nil]; after_reads_simp) <;> rfl

set_option maxRecDepth 65536 in
set_option maxHeartbeats 1600000 in
theorem first_5 : entryContents preI m c (Proc.devRef .tc main_v148_5) = A_main_v138 (F := F) (m ((c.tc : Thread nD τ).loc main_arg0)) (m ((c.tc : Thread nD τ).loc main_arg2)) (m ((c.tc : Thread nD τ).loc main_arg3)) := by
  (simp only [entryContents, afterL_cons, afterL_nil]; after_reads_simp) <;> rfl

set_option maxRecDepth 65536 in
set_option maxHeartbeats 1600000 in
theorem first_6 : entryContents preI m c (Proc.devRef .tc main_v148_6) = A_main_v140 (F := F) (m ((c.tc : Thread nD τ).loc main_arg0)) (m ((c.tc : Thread nD τ).loc main_arg2)) (m ((c.tc : Thread nD τ).loc main_arg3)) := by
  (simp only [entryContents, afterL_cons, afterL_nil]; after_reads_simp) <;> rfl

set_option maxRecDepth 65536 in
set_option maxHeartbeats 1600000 in
theorem first_7 : entryContents preI m c (Proc.devRef .tc main_v148_7) = A_main_v143 (F := F) (m ((c.tc : Thread nD τ).loc main_arg0)) (m ((c.tc : Thread nD τ).loc main_arg2)) (m ((c.tc : Thread nD τ).loc main_arg3)) := by
  (simp only [entryContents, afterL_cons, afterL_nil]; after_reads_simp) <;> rfl

set_option maxRecDepth 65536 in
set_option maxHeartbeats 1600000 in
theorem first_8 : entryContents preI m c (Proc.devRef .tc main_v148_8) = constantI S_ 32 (BitVec.ofNat 32 0) := by
  (simp only [entryContents, afterL_cons, afterL_nil]; after_reads_simp) <;> rfl

set_option maxRecDepth 65536 in
set_option maxHeartbeats 1600000 in
theorem first_3 : entryContents preI m c (Proc.devRef .tc main_v148_3) = K_main_v134 (F := F) := by
  (simp only [entryContents, afterL_cons, afterL_nil]; after_reads_simp) <;> rfl

theorem first : At (entryContents preI m c) (it m c 0) 0 := by
  refine ⟨?_, first_8 m c, first_3 m c⟩
  unfold it init
  rw [first_9, first_10, first_11, first_12, first_13, first_14, first_0, first_1, first_2, first_4, first_5, first_6, first_7]

theorem every : ∀ k, At (STEP^[k] (entryContents preI m c)) (it m c k) k
  | 0 => first m c
  | k + 1 => by
    rw [Function.iterate_succ_apply']
    exact next (every k)

theorem out_o (h : At X s n) : out_main_v246 X = R_main_v246 s := by
  obtain ⟨rfl, _, _⟩ := h
  rfl

theorem out_y (h : At X s n) : out_main_v248 X = R_main_v248 s (X (Proc.devRef .tc main_arg0)) (X (Proc.devRef .tc main_arg1)) (X (Proc.devRef .tc main_arg4)) := by
  obtain ⟨rfl, _, _⟩ := h
  rfl

theorem out_states (h : At X s n) : out_main_v245 X = R_main_v245 s := by
  obtain ⟨rfl, _, _⟩ := h
  rfl

theorem out_x2 (h : At X s n) : out_main_v195 X = R_main_v195 s (X (Proc.devRef .tc main_arg0)) (X (Proc.devRef .tc main_arg1)) (X (Proc.devRef .tc main_arg4))
    (X (Proc.devRef .tc main_arg5)) (X (Proc.devRef .tc main_arg6)) := by
  obtain ⟨rfl, _, _⟩ := h
  rfl

theorem out_h3 (h : At X s n) : out_main_v249 X = R_main_v249 s (X (Proc.devRef .tc main_arg0)) (X (Proc.devRef .tc main_arg1)) (X (Proc.devRef .tc main_arg4))
    (X (Proc.devRef .tc main_arg5)) (X (Proc.devRef .tc main_arg6)) (X (Proc.devRef .tc main_arg7)) := by
  obtain ⟨rfl, _, _⟩ := h
  rfl

/-- Every execution of the reference ends with the results made from the scan's last state, and with its arguments as they were. -/
theorem run (ρ : Dev nD → PrngReg) : θ_run (defs (F := F)) (onTc (τ := τ) (main (F := F))) ⟨m, fun _ => 0, ρ⟩ fun r => ∀ c : Dev nD,
    r.2.mem ((c.tc : Thread nD τ).loc main_v246) = R_main_v246 (it m c 64)
    ∧ r.2.mem ((c.tc : Thread nD τ).loc main_v248) = R_main_v248 (it m c 64) (m ((c.tc : Thread nD τ).loc main_arg0)) (m ((c.tc : Thread nD τ).loc main_arg1))
        (m ((c.tc : Thread nD τ).loc main_arg4))
    ∧ r.2.mem ((c.tc : Thread nD τ).loc main_v245) = R_main_v245 (it m c 64)
    ∧ r.2.mem ((c.tc : Thread nD τ).loc main_v195) = R_main_v195 (it m c 64) (m ((c.tc : Thread nD τ).loc main_arg0)) (m ((c.tc : Thread nD τ).loc main_arg1))
        (m ((c.tc : Thread nD τ).loc main_arg4)) (m ((c.tc : Thread nD τ).loc main_arg5)) (m ((c.tc : Thread nD τ).loc main_arg6))
    ∧ r.2.mem ((c.tc : Thread nD τ).loc main_v249) = R_main_v249 (it m c 64) (m ((c.tc : Thread nD τ).loc main_arg0)) (m ((c.tc : Thread nD τ).loc main_arg1))
        (m ((c.tc : Thread nD τ).loc main_arg4)) (m ((c.tc : Thread nD τ).loc main_arg5)) (m ((c.tc : Thread nD τ).loc main_arg6)) (m ((c.tc : Thread nD τ).loc main_arg7))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) := by
  refine (θ_run defs _ _).mono (fun r h c => ?_) (Value.run m ρ)
  obtain ⟨h0, h1, hs, h2, h3, hk⟩ := h c
  have e := every m c 64
  refine ⟨h0.trans (out_o e), h1.trans ((out_y e).trans ?_), hs.trans (out_states e), h2.trans ((out_x2 e).trans ?_), h3.trans ((out_h3 e).trans ?_), hk⟩
  · rw [iter_main_arg0, iter_main_arg1, iter_main_arg4]
  · rw [iter_main_arg0, iter_main_arg1, iter_main_arg4, iter_main_arg5, iter_main_arg6]
  · rw [iter_main_arg0, iter_main_arg1, iter_main_arg4, iter_main_arg5, iter_main_arg6, iter_main_arg7]

end Cert.AttnRun

end
-- ==== Proof.AttnResult.lean ====
/- The five results, read off the arguments, and the reference's reading of them. -/
module

public import proofs.«01_k».proof.Proof.AttnOps
public import proofs.«01_k».proof.Proof.AttnRun

@[expose] public section

set_option maxRecDepth 16384

noncomputable section

namespace Cert.AttnOps

open Idealize Idealize.ShloMosaic Cert.AttnRefIdeal Cert.AttnRefIdeal.Gen Cert.AttnRefIdeal.Step Cert.AttnStep Cert.AttnBlock Cert.Finite

section Results

variable (a0 : (⟨S1x4096x3088, .f32⟩ : BufTy).Contents (Elt Ideal)) (a1 : (⟨S1x512, .f32⟩ : BufTy).Contents (Elt Ideal)) (a2 : (⟨S1x16x256, .f32⟩ : BufTy).Contents (Elt Ideal)) (a3 : (⟨S1x256, .f32⟩ : BufTy).Contents (Elt Ideal))
  (a4 : (⟨S1x512, .f32⟩ : BufTy).Contents (Elt Ideal)) (a5 : (⟨S1x1024x1024, .f32⟩ : BufTy).Contents (Elt Ideal)) (a6 : (⟨S4096x1024, .f32⟩ : BufTy).Contents (Elt Ideal)) (a7 : (⟨S1x1024, .f32⟩ : BufTy).Contents (Elt Ideal))

/-- Either attention, its norm's gain and the first column of its gate. -/
def att (g : Fin 2) : Ops := match g with | 0 => ret a0 | 1 => gla a0 a2 a3
def gain (g : Fin 2) : (⟨S1x512, .f32⟩ : BufTy).Contents (Elt Ideal) := match g with | 0 => a1 | 1 => a4
def gateAt (g : Fin 2) : ℕ := match g with | 0 => 1024 | 1 => 2560

/-- The attentions' outputs. -/
def resO (t : ℕ) (j : Fin 1024) : EReal := ((att a0 a2 a3 ⟨j.val / 512, by omega⟩).out ⟨j.val % 512 / 128, by omega⟩ ⟨j.val % 128, by omega⟩ t : EReal)

/-- Normalised over each head, scaled and gated. -/
def resY (t : ℕ) (j : Fin 1024) : EReal :=
  gated (fun u => ((att a0 a2 a3 ⟨j.val / 512, by omega⟩).out ⟨j.val % 512 / 128, by omega⟩ u t : EReal)) (gain a1 a4 ⟨j.val / 512, by omega⟩ (ix2 0 ⟨j.val % 512, by omega⟩))
    (col a0 t (gateAt ⟨j.val / 512, by omega⟩ + j.val % 512) : EReal) ⟨j.val % 128, by omega⟩

/-- The states before block `t` of 256 positions, each head's on its own block of the diagonal. -/
def resS (t : ℕ) (g : Fin 2) (r : Fin 512) (l : Fin 256) : EReal :=
  if r.val / 128 = l.val / 64 then ((att a0 a2 a3 g).state ⟨l.val / 64, by omega⟩ ⟨r.val % 128, by omega⟩ (256 * t) ⟨l.val % 64, by omega⟩ : EReal) else 0

/-- The residual. -/
def resX (t : ℕ) (j : Fin 1024) : EReal := a6 (ix2 (pos t) j) + ∑ k : Fin 1024, resY a0 a1 a2 a3 a4 t k * a5 (ix3 0 k j)

/-- Its normalised copy. -/
def resH (t : ℕ) (j : Fin 1024) : EReal :=
  resX a0 a1 a2 a3 a4 a5 a6 t j * Ideal.rsqrt (Ideal.div (∑ k : Fin 1024, resX a0 a1 a2 a3 a4 a5 a6 t k * resX a0 a1 a2 a3 a4 a5 a6 t k) (Ideal.ofBits .f32 0x44800000#32) + Ideal.ofBits .f32 0x358637BD#32) * a7 (ix2 0 j)

end Results

/-- A column is a lane of a head of one of the attentions. -/
theorem lane (j : Fin 1024) : ∃ (g : Fin 2) (h : Fin 4) (v : Fin 128), j.val = 512 * g.val + 128 * h.val + v.val :=
  ⟨⟨j.val / 512, by omega⟩, ⟨j.val % 512 / 128, by omega⟩, ⟨j.val % 128, by omega⟩, by dsimp only; omega⟩

section Lanes

variable {a0 : (⟨S1x4096x3088, .f32⟩ : BufTy).Contents (Elt Ideal)} {a1 : (⟨S1x512, .f32⟩ : BufTy).Contents (Elt Ideal)} {a2 : (⟨S1x16x256, .f32⟩ : BufTy).Contents (Elt Ideal)} {a3 : (⟨S1x256, .f32⟩ : BufTy).Contents (Elt Ideal)}
  {a4 : (⟨S1x512, .f32⟩ : BufTy).Contents (Elt Ideal)} {a5 : (⟨S1x1024x1024, .f32⟩ : BufTy).Contents (Elt Ideal)} {a6 : (⟨S4096x1024, .f32⟩ : BufTy).Contents (Elt Ideal)} {a7 : (⟨S1x1024, .f32⟩ : BufTy).Contents (Elt Ideal)}

theorem resO_lane (t : ℕ) {j : Fin 1024} {g : Fin 2} {h : Fin 4} {v : Fin 128} (hj : j.val = 512 * g.val + 128 * h.val + v.val) : resO a0 a2 a3 t j = ((att a0 a2 a3 g).out h v t : EReal) := by
  unfold resO
  rw [show (⟨j.val / 512, by omega⟩ : Fin 2) = g from Fin.ext (by dsimp only; omega), show (⟨j.val % 512 / 128, by omega⟩ : Fin 4) = h from Fin.ext (by dsimp only; omega),
    show (⟨j.val % 128, by omega⟩ : Fin 128) = v from Fin.ext (by dsimp only; omega)]

theorem resY_lane (t : ℕ) {j : Fin 1024} {g : Fin 2} {h : Fin 4} {v : Fin 128} (hj : j.val = 512 * g.val + 128 * h.val + v.val) : resY a0 a1 a2 a3 a4 t j
    = gated (fun u => ((att a0 a2 a3 g).out h u t : EReal)) (gain a1 a4 g (ix2 0 ⟨128 * h.val + v.val, by omega⟩)) (col a0 t (gateAt g + (128 * h.val + v.val)) : EReal) v := by
  unfold resY
  rw [show (⟨j.val / 512, by omega⟩ : Fin 2) = g from Fin.ext (by dsimp only; omega), show (⟨j.val % 512 / 128, by omega⟩ : Fin 4) = h from Fin.ext (by dsimp only; omega),
    show (⟨j.val % 128, by omega⟩ : Fin 128) = v from Fin.ext (by dsimp only; omega)]
  simp only [show j.val % 512 = 128 * h.val + v.val from by omega]

/-! The reference. -/

variable {s : State Ideal}

theorem outs_ret (U : Upto (ret a0) (gla a0 a2 a3) 64 s) (T : Fin 4096) (h : Fin 4) (v : Fin 128) : s.main_v148_11 (ix5 ⟨T.val / 64, by omega⟩ 0 h ⟨T.val % 64, by omega⟩ v) = ((ret a0).out h v T.val : EReal) := by
  have e := U.ro ⟨T.val / 64, by omega⟩ h ⟨T.val % 64, by omega⟩ v (by show T.val / 64 < 64; omega)
  dsimp only at e
  rwa [Nat.div_add_mod] at e

theorem outs_gla (U : Upto (ret a0) (gla a0 a2 a3) 64 s) (T : Fin 4096) (h : Fin 4) (v : Fin 128) : s.main_v148_12 (ix5 ⟨T.val / 64, by omega⟩ 0 h ⟨T.val % 64, by omega⟩ v) = ((gla a0 a2 a3).out h v T.val : EReal) := by
  have e := U.go ⟨T.val / 64, by omega⟩ h ⟨T.val % 64, by omega⟩ v (by show T.val / 64 < 64; omega)
  dsimp only at e
  rwa [Nat.div_add_mod] at e

theorem ref_o (U : Upto (ret a0) (gla a0 a2 a3) 64 s) (T : Fin 4096) (j : Fin 1024) : R_main_v246 s (ix2 T j) = resO a0 a2 a3 T.val j := by
  pointwise! [R_main_v246]
  by_cases h : j.val < 512
  · rw [dif_pos h, outs_ret U, resO_lane T.val (g := 0) (h := ⟨j.val / 128, by omega⟩) (v := ⟨j.val % 128, by omega⟩) (by dsimp only; omega)]; rfl
  · rw [dif_neg h, outs_gla U, resO_lane T.val (g := 1) (h := ⟨(j.val - 512) / 128, by omega⟩) (v := ⟨(j.val - 512) % 128, by omega⟩) (by dsimp only; omega)]; rfl

/-- Whether a row and a column of the diagonal states are of the same head. -/
theorem own (r : Fin 512) (l : Fin 256) : IntOp.cmpi .eq (BitVec.ofNat 32 (r.val / 128)) (BitVec.ofNat 32 (l.val / 64)) = AttnTile.bit (r.val / 128 = l.val / 64) :=
  (AttnTile.eq_apply ⟨r.val / 128, by omega⟩ ⟨l.val / 64, by omega⟩).trans (AttnTile.bit_congr Fin.mk.inj_iff)

/-- The saved states as the reference lays them out. -/
theorem states_read (z : EReal) (hz : z = id (constant (F := Ideal) S_ .f32 0x00000000#32) ix0) (t : Fin 16) (g : Fin 2) (r : Fin 512) (l : Fin 256) : R_main_v245 s (ix4 t g r l)
    = if g.val < 1 then Scalar.select (IntOp.cmpi .eq (BitVec.ofNat 32 (r.val / 128)) (BitVec.ofNat 32 (l.val / 64))) (s.main_v148_13 (ix5 ⟨4 * t.val, by omega⟩ 0 ⟨r.val / 128, by omega⟩ ⟨l.val % 64, by omega⟩ ⟨r.val % 128, by omega⟩)) z
      else Scalar.select (IntOp.cmpi .eq (BitVec.ofNat 32 (r.val / 128)) (BitVec.ofNat 32 (l.val / 64))) (s.main_v148_14 (ix5 ⟨4 * t.val, by omega⟩ 0 ⟨r.val / 128, by omega⟩ ⟨l.val % 64, by omega⟩ ⟨r.val % 128, by omega⟩)) z := by
  unfold R_main_v245
  generalize s.main_v148_13 = X
  generalize s.main_v148_14 = Y
  pointwise
  subst hz
  rfl

theorem ref_s (U : Upto (ret a0) (gla a0 a2 a3) 64 s) (t : Fin 16) (g : Fin 2) (r : Fin 512) (l : Fin 256) : R_main_v245 s (ix4 t g r l) = resS a0 a2 a3 t.val g r l := by
  rw [states_read 0 (by show (0 : EReal) = Ideal.ofBits .f32 0x00000000#32; simp [Ideal.ofBits, Ideal.ieee]), own, U.rt _ _ _ _ (by show 4 * t.val < 64; omega), U.gt _ _ _ _ (by show 4 * t.val < 64; omega)]
  unfold resS AttnTile.bit
  dsimp only
  rw [show 64 * (4 * t.val) = 256 * t.val from by omega]
  by_cases e : r.val / 128 = l.val / 64
  · rw [if_pos e, if_pos e, show ∀ x : EReal, Scalar.select 1#1 x 0 = x from fun _ => rfl, show ∀ x : EReal, Scalar.select 1#1 x 0 = x from fun _ => rfl]
    simp only [← e]
    by_cases hg : g.val < 1
    · obtain rfl : g = 0 := by omega
      exact if_pos hg
    · obtain rfl : g = 1 := by omega
      exact if_neg hg
  · rw [if_neg e, if_neg e, show ∀ x : EReal, Scalar.select 0#1 x 0 = 0 from fun _ => rfl, show ∀ x : EReal, Scalar.select 0#1 x 0 = 0 from fun _ => rfl, ite_self]

theorem neg_first (x : ℝ) : (-(x : EReal) : EReal) = 0 - (x : EReal) := (zero_sub _).symm

variable (H : Reals a0 a2)

set_option maxHeartbeats 1000000 in
include H in
theorem ref_y (U : Upto (ret a0) (gla a0 a2 a3) 64 s) (T : Fin 4096) (j : Fin 1024) : R_main_v248 s a0 a1 a4 (ix2 T j) = resY a0 a1 a2 a3 a4 T.val j := by
  pointwise! [R_main_v248]
  by_cases h : j.val < 512
  · refine Eq.trans ?_ (resY_lane (j := j) T.val (g := 0) (h := ⟨j.val / 128, by omega⟩) (v := ⟨j.val % 128, by omega⟩) (by show j.val = 512 * 0 + 128 * (j.val / 128) + j.val % 128; omega)).symm
    rw [dif_pos h]
    simp only [outs_ret U, col_eq H, show 128 * (j.val / 128) + j.val % 128 = j.val from by omega]
    dsimp only [att, gain, gateAt, gated]
    generalize col a0 T.val (1024 + j.val) = y
    exact congrArg (_ * ·) (congrArg (_ * ·) (congrArg (fun z : EReal => Ideal.div 1 (1 + Ideal.exp z)) (neg_first y)))
  · refine Eq.trans ?_ (resY_lane (j := j) T.val (g := 1) (h := ⟨(j.val - 512) / 128, by omega⟩) (v := ⟨(j.val - 512) % 128, by omega⟩) (by show j.val = 512 * 1 + 128 * ((j.val - 512) / 128) + (j.val - 512) % 128; omega)).symm
    rw [dif_neg h]
    simp only [outs_gla U, col_eq H, show 128 * ((j.val - 512) / 128) + (j.val - 512) % 128 = j.val - 512 from by omega]
    dsimp only [att, gain, gateAt, gated]
    generalize col a0 T.val (2560 + (j.val - 512)) = y
    exact congrArg (_ * ·) (congrArg (_ * ·) (congrArg (fun z : EReal => Ideal.div 1 (1 + Ideal.exp z)) (neg_first y)))

theorem ref_x_sum (s : State Ideal) (T : Fin 4096) (j : Fin 1024) : R_main_v195 s a0 a1 a4 a5 a6 (ix2 T j) = (a6 (ix2 T j) + ∑ k : Fin 1024, R_main_v248 s a0 a1 a4 (ix2 T k) * a5 (ix3 0 k j) : EReal) := by
  unfold R_main_v195 R_main_v248
  generalize concatenate S1x4096x1024 2 _ _ = Y
  pointwise

theorem ref_h_sum (s : State Ideal) (T : Fin 4096) (j : Fin 1024) : R_main_v249 s a0 a1 a4 a5 a6 a7 (ix2 T j)
    = (R_main_v195 s a0 a1 a4 a5 a6 (ix2 T j) * Ideal.rsqrt (Ideal.div (∑ k : Fin 1024, R_main_v195 s a0 a1 a4 a5 a6 (ix2 T k) * R_main_v195 s a0 a1 a4 a5 a6 (ix2 T k)) (Ideal.ofBits .f32 0x44800000#32) + Ideal.ofBits .f32 0x358637BD#32) * a7 (ix2 0 j) : EReal) := by
  unfold R_main_v249
  generalize hY : addf (F := Ideal) (φ := .f32) (s := S4096x1024) a6 _ = Y
  have e : R_main_v195 s a0 a1 a4 a5 a6 = Y := by rw [← hY]; rfl
  rw [e]
  pointwise

include H in
theorem ref_x (U : Upto (ret a0) (gla a0 a2 a3) 64 s) (T : Fin 4096) (j : Fin 1024) : R_main_v195 s a0 a1 a4 a5 a6 (ix2 T j) = resX a0 a1 a2 a3 a4 a5 a6 T.val j := by
  rw [ref_x_sum]
  simp only [ref_y H U]
  unfold resX
  rw [pos_eq]

include H in
theorem ref_h (U : Upto (ret a0) (gla a0 a2 a3) 64 s) (T : Fin 4096) (j : Fin 1024) : R_main_v249 s a0 a1 a4 a5 a6 a7 (ix2 T j) = resH a0 a1 a2 a3 a4 a5 a6 a7 T.val j := by
  rw [ref_h_sum]
  simp only [ref_x H U]
  rfl

end Lanes

end Cert.AttnOps

end
-- ==== Proof.AttnValue.lean ====
/- What the kernel's arrays hold after each point of its grid. -/
module

public import proofs.«01_k».proof.Proof.AttnInput
public import proofs.«01_k».proof.Proof.AttnResult
public import proofs.«01_k».proof.Proof.Gen.AttnKernelIdeal.Value
public import proofs.«01_k».proof.Proof.MixValue

@[expose] public section

set_option maxRecDepth 16384

noncomputable section

namespace Cert.AttnValue

open Idealize Idealize.ShloMosaic Idealize.ShloMosaic.TcCoe Idealize.SL.Sem Cert.AttnKernelIdeal Cert.AttnKernelIdeal.Gen Cert.AttnStep Cert.AttnTile Cert.AttnBlock Cert.AttnPoint Cert.AttnHeads Cert.AttnInput Cert.AttnOps Cert.Finite
open Idealize.ShloMosaic.Pipeline (Dat)

theorem tiled_apply (x y : (⟨S4096x32, .f32⟩ : BufTy).Contents (Elt Ideal)) (R : Fin 4096) (l : Fin 128) :
    tiled x y (ix2 R l) = if l.val % 64 < 32 then x (ix2 R ⟨l.val % 32, by omega⟩) else y (ix2 R ⟨l.val % 32, by omega⟩) := by
  pointwise! [tiled]
  by_cases h : l.val % 64 < 32
  · rw [dif_pos h, if_pos h]; exact congrArg x (congrArg (ix2 R) (Fin.ext (by show l.val % 64 = l.val % 32; omega)))
  · rw [dif_neg h, if_neg h]; exact congrArg y (congrArg (ix2 R) (Fin.ext (by show l.val % 64 - 32 = l.val % 32; omega)))

theorem spread_apply (x : (⟨S4, .f32⟩ : BufTy).Contents (Elt Ideal)) (n : Fin 256) : spread x (ix2 0 n) = x (ix1 ⟨n.val / 64, by omega⟩) := by
  pointwise! [spread]

theorem flat_proj (x : (⟨S1x4096x3088, .f32⟩ : BufTy).Contents (Elt Ideal)) (R : Fin 4096) (n : Fin 3088) : shapeCast S4096x3088 x shapeCasts_S1x4096x3088_S4096x3088 (ix2 R n) = x (ix3 0 R n) := by
  pointwise! []
theorem flat_mat (x : (⟨S1x16x256, .f32⟩ : BufTy).Contents (Elt Ideal)) (j : Fin 16) (n : Fin 256) : shapeCast S16x256 x shapeCasts_S1x16x256_S16x256 (ix2 j n) = x (ix3 0 j n) := by
  pointwise! []
theorem flat_out (x : (⟨S1x1024x1024, .f32⟩ : BufTy).Contents (Elt Ideal)) (k l : Fin 1024) : shapeCast S1024x1024 x shapeCasts_S1x1024x1024_S1024x1024 (ix2 k l) = x (ix3 0 k l) := by
  pointwise! []

variable (m : (ℓ : Loc nD τ sig) → Buf (Elt Ideal) ℓ) (c : Dev nD)

/-- The arguments. -/
abbrev proj : (⟨S1x4096x3088, .f32⟩ : BufTy).Contents (Elt Ideal) := m ((c : Thread nD τ).loc main_arg0)
abbrev mat : (⟨S1x16x256, .f32⟩ : BufTy).Contents (Elt Ideal) := m ((c : Thread nD τ).loc main_arg2)
abbrev bias : (⟨S1x256, .f32⟩ : BufTy).Contents (Elt Ideal) := m ((c : Thread nD τ).loc main_arg3)

theorem pad_mat (x : (⟨S16x256, .f32⟩ : BufTy).Contents (Elt Ideal)) (k : Fin 128) (l : Fin 256) :
    pad S128x256 ![0, 0] ![112, 0] ![0, 0] x (sitofp (F := Ideal) .f32 (constantI S_ 32 0#32)) pads_S16x256_S128x256_01120_000 h_S_ (ix2 k l)
      = (if h : k.val < 16 then x (ix2 ⟨k.val, h⟩ l) else (0 : EReal) : EReal) := by
  by_cases h : k.val < 16
  · rw [dif_pos h]
    exact pad_apply_of_inside _ _ _ _ _ _ _ _ (ix2 ⟨k.val, h⟩ l) fun a => by
      match a with
      | ⟨0, _⟩ => show k.val = 0 + k.val * (0 + 1); omega
      | ⟨1, _⟩ => show l.val = 0 + l.val * (0 + 1); omega
  · rw [dif_neg h]
    exact (pad_apply_of_not_inside _ _ _ _ _ _ _ _ 0 fun ⟨_, _, hlt⟩ => h (by
      have : (k.val - 0) / (0 + 1) < 16 := hlt
      omega)).trans MixKernelIdeal.Value.padding

theorem tile (H : Reals (proj m c) (mat m c)) (t : Fin cfg0.N) :
    Tile (proj m c) (mat m c) (bias m c) t.val (iblk m c 0 t) (iblk m c 1 t) (iblk m c 2 t) (iblk m c 3 t) (iblk m c 4 t) (iblk m c 5 t) where
  x0 i n := by
    refine (iblk0_apply m c t i n).trans ((V_v2 m c _).trans ?_)
    refine (MixKernelIdeal.Value.pad_cols _ (row t i) n).trans ?_
    by_cases h : n.val < 3088
    · rw [dif_pos h, if_pos h]
      exact (flat_proj _ _ _).trans (col_eq H (row t i) ⟨n.val, h⟩)
    · rw [dif_neg h, if_neg h]
  x1 i l := by
    refine (iblk1_apply m c t i l).trans ((V_v24 m c _).trans ?_)
    rw [tiled_apply, ite_self, cos_eq, cosv_mod _ (Nat.mod_mod _ _)]
  x2 i l := by
    refine (iblk2_apply m c t i l).trans ((V_v27 m c _).trans ?_)
    rw [tiled_apply]
    refine if_congr Iff.rfl ?_ ?_
    · show -(AttnRefIdeal.Step.K_main_v26 (F := Ideal) _ : EReal) = _
      rw [sin_eq, sinv_mod _ (Nat.mod_mod _ _), EReal.coe_neg]
    · rw [sin_eq, sinv_mod _ (Nat.mod_mod _ _)]
  x3 n := by
    rw [iblk3_eq, V_v38, spread_apply, theta_eq]
  x4 j n := by
    rw [iblk4_eq, V_v40, pad_mat]
    by_cases h : j.val < 16
    · rw [dif_pos h, dif_pos h]
      obtain ⟨r, hr⟩ := H.h2 ⟨j.val, h⟩ n
      rw [flat_mat]
      exact hr.trans (congrArg (fun z : EReal => (z.toReal : EReal)) hr).symm
    · rw [dif_neg h, dif_neg h]
  x5 n := by
    rw [iblk5_eq, V_main_arg3]

section Point

variable {a0 : (⟨S1x4096x3088, .f32⟩ : BufTy).Contents (Elt Ideal)} {a1 : (⟨S1x512, .f32⟩ : BufTy).Contents (Elt Ideal)} {a2 : (⟨S1x16x256, .f32⟩ : BufTy).Contents (Elt Ideal)} {a3 : (⟨S1x256, .f32⟩ : BufTy).Contents (Elt Ideal)}
  {a4 : (⟨S1x512, .f32⟩ : BufTy).Contents (Elt Ideal)}

variable (a0 a2 a3) in
/-- The states carried into the block that starts at `256 * n`: each head's on its own block of the diagonal. -/
def Inv (n : ℕ) (P : Vec Ideal S2x512x256 .f32) : Prop :=
  ∀ (g : Fin 2) (a h : Fin 4) (v : Fin 128) (l : Fin 64), P (ix3 g ⟨128 * a.val + v.val, by omega⟩ ⟨64 * h.val + l.val, by omega⟩) = if a = h then ((att a0 a2 a3 g).state h v (256 * n) l : EReal) else 0

variable {t : ℕ} {x0 : Vec Ideal S256x3200 .bf16} {x1 x2 : Vec Ideal S256x128 .f32} {x3 : Vec Ideal S1x256 .f32} {x4 : Vec Ideal S128x256 .f32} {x5 : Vec Ideal S1x256 .f32} {P : Vec Ideal S2x512x256 .f32}

theorem half_apply (r : Fin 512) (l : Fin 256) : half0 P (ix3 0 r l) = P (ix3 0 r l) ∧ half1 P (ix3 0 r l) = P (ix3 1 r l) :=
  ⟨congrArg P (funext fun a => Fin.ext (match a with
    | ⟨0, _⟩ => rfl
    | ⟨1, _⟩ => (Nat.zero_add _).trans (Nat.one_mul _)
    | ⟨2, _⟩ => (Nat.zero_add _).trans (Nat.one_mul _))),
   congrArg P (funext fun a => Fin.ext (match a with
    | ⟨0, _⟩ => rfl
    | ⟨1, _⟩ => (Nat.zero_add _).trans (Nat.one_mul _)
    | ⟨2, _⟩ => (Nat.zero_add _).trans (Nat.one_mul _)))⟩

theorem low (I : Inv a0 a2 a3 t P) (g h : Fin 4) (v : Fin 128) (l : Fin 64) : half0 P (ix3 0 ⟨128 * g.val + v.val, by omega⟩ ⟨64 * h.val + l.val, by omega⟩) = if g = h then ((ret a0).state h v (256 * t) l : EReal) else 0 := (half_apply _ _).1.trans (I 0 g h v l)
theorem high (I : Inv a0 a2 a3 t P) (g h : Fin 4) (v : Fin 128) (l : Fin 64) : half1 P (ix3 0 ⟨128 * g.val + v.val, by omega⟩ ⟨64 * h.val + l.val, by omega⟩) = if g = h then ((gla a0 a2 a3).state h v (256 * t) l : EReal) else 0 := (half_apply _ _).2.trans (I 1 g h v l)

variable (H : Tile a0 a2 a3 t x0 x1 x2 x3 x4 x5) (I : Inv a0 a2 a3 t P) (ht : t < 16)
include H I

theorem s_at (g : Fin 2) (a h : Fin 4) (v : Fin 128) (l : Fin 64) : sPiece x0 x1 x2 x3 x4 x5 (half0 P) (half1 P) g (ix3 0 ⟨128 * a.val + v.val, by omega⟩ ⟨64 * h.val + l.val, by omega⟩)
    = if a = h then ((att a0 a2 a3 g).state h v (256 * (t + 1)) l : EReal) else 0 :=
  match g with
  | 0 => low_next (H.low (low I)) a h v l
  | 1 => high_next (H.high (high I)) a h v l

include ht

theorem o_at (g : Fin 2) (h : Fin 4) (i : Fin 256) (v : Fin 128) : oPiece x0 x1 x2 x3 x4 x5 (half0 P) (half1 P) g h (ix2 i v) = ((att a0 a2 a3 g).out h v (256 * t + i) : EReal) :=
  match g with
  | 0 => low_head (H.low (low I)) ht h i v
  | 1 => high_head (H.high (high I)) ht h i v

theorem y_at (g : Fin 2) (h : Fin 4) (i : Fin 256) (v : Fin 128) : yPiece x0 x1 x2 x3 x4 x5 a1 a4 (half0 P) (half1 P) g h (ix2 i v)
    = gated (fun u => ((att a0 a2 a3 g).out h u (256 * t + i) : EReal)) (gain a1 a4 g (ix2 0 ⟨128 * h.val + v.val, by omega⟩)) (col a0 (256 * t + i) (gateAt g + (128 * h.val + v.val)) : EReal) v := by
  match g with
  | 0 =>
    refine (yLow_apply _ _ _ _ _ _ _ h i v).trans ?_
    rw [show (fun u => head (k0_pay32 (lowV x0)) (lowFrom x0 x1 x2 x3 (half0 P)) (lowBack x0 x1 x2 x3) (scores (lowAheadQ x0 x1 x2 x3) (lowAheadK x0 x1 x2 x3)) h (ix2 i u))
      = fun u => ((att a0 a2 a3 0).out h u (256 * t + i) : EReal) from funext fun u => o_at H I ht 0 h i u,
      show ∀ X : Vec Ideal S256x512 .bf16, ∀ n, k0_pay33 X (ix2 i n) = X (ix2 i n) from fun X n => by pointwise! [k0_pay33]]
    exact congrArg (fun z => gated _ _ z v) (H.cols (by omega) _ i _)
  | 1 =>
    refine (yLow_apply _ _ _ _ _ _ _ h i v).trans ?_
    rw [show (fun u => head (k0_pay78 (highV x0)) (highFrom x0 x4 x5 (half1 P)) (highBack x0 x4 x5) (scores (highAheadQ x0 x4 x5) (highAheadK x0 x4 x5)) h (ix2 i u))
      = fun u => ((att a0 a2 a3 1).out h u (256 * t + i) : EReal) from funext fun u => o_at H I ht 1 h i u,
      show ∀ X : Vec Ideal S256x512 .bf16, ∀ n, k0_pay79 X (ix2 i n) = X (ix2 i n) from fun X n => by pointwise! [k0_pay79]]
    exact congrArg (fun z => gated _ _ z v) (H.cols (by omega) _ i _)

end Point

/-- The products, and the norm over what they leave. -/
theorem pay126_apply (x : Vec Ideal S256x1024 .f32) (y : Vec Ideal S256x1024 .bf16) (w : Vec Ideal S1024x1024 .bf16) (i : Fin 256) (j : Fin 1024) :
    k0_pay126 x y w (ix2 i j) = (x (ix2 i j) + ∑ k : Fin 1024, y (ix2 i k) * w (ix2 k j) : EReal) := by
  pointwise! [k0_pay126]

theorem pay1_apply (x : Vec Ideal S256x1024 .f32) (y : Vec Ideal S256x1024 .bf16) (w : Vec Ideal S1024x1024 .bf16) (g : Vec Ideal S1x1024 .f32) (i : Fin 256) (j : Fin 1024) :
    k0_pay1 (k0_pay126 x y w) (k0_pay127 x y w) k0_pay128 g (ix2 i j)
      = (k0_pay126 x y w (ix2 i j) * Ideal.rsqrt (Ideal.div (∑ k : Fin 1024, k0_pay126 x y w (ix2 i k) * k0_pay126 x y w (ix2 i k)) (Ideal.ofBits .f32 0x44800000#32) + Ideal.ofBits .f32 0x358637BD#32) * g (ix2 0 j) : EReal) := by
  unfold k0_pay127
  generalize k0_pay126 x y w = z
  pointwise! [k0_pay1, k0_pay128]

end Cert.AttnValue

end
-- ==== Proof.AttnFinal.lean ====
/- What the forward kernel's five results hold, point by point and then whole. -/
module

public import proofs.«01_k».proof.Proof.AttnValue

@[expose] public section

set_option maxRecDepth 16384

noncomputable section

namespace Cert.AttnValue

open Idealize Idealize.ShloMosaic Idealize.ShloMosaic.TcCoe Cert.AttnKernelIdeal Cert.AttnKernelIdeal.Gen Cert.AttnKernelIdeal.Value Cert.AttnStep Cert.AttnBlock Cert.AttnPoint Cert.AttnOps Cert.AttnHeads Cert.AttnInput

variable (m : (ℓ : Loc nD τ sig) → Buf (Elt Ideal) ℓ) (c : Dev nD)

abbrev arg1 : (⟨S1x512, .f32⟩ : BufTy).Contents (Elt Ideal) := m ((c : Thread nD τ).loc main_arg1)
abbrev arg4 : (⟨S1x512, .f32⟩ : BufTy).Contents (Elt Ideal) := m ((c : Thread nD τ).loc main_arg4)
abbrev arg5 : (⟨S1x1024x1024, .f32⟩ : BufTy).Contents (Elt Ideal) := m ((c : Thread nD τ).loc main_arg5)
abbrev arg6 : (⟨S4096x1024, .f32⟩ : BufTy).Contents (Elt Ideal) := m ((c : Thread nD τ).loc main_arg6)
abbrev arg7 : (⟨S1x1024, .f32⟩ : BufTy).Contents (Elt Ideal) := m ((c : Thread nD τ).loc main_arg7)

/-- What every point leaves: its rows of the results, the states before it and the states after it. -/
structure Right (t : Fin cfg0.N) (r : Vec Ideal S256x1024 .f32 × Vec Ideal S256x1024 .bf16 × Vec Ideal S1x2x512x256 .f32 × Vec Ideal S256x1024 .f32 × Vec Ideal S256x1024 .bf16 × Vec Ideal S2x512x256 .f32) : Prop where
  o : ∀ (i : Fin 256) (j : Fin 1024), r.1 (ix2 i j) = resO (proj m c) (mat m c) (bias m c) (256 * t.val + i.val) j
  y : ∀ (i : Fin 256) (j : Fin 1024), r.2.1 (ix2 i j) = resY (proj m c) (arg1 m c) (mat m c) (bias m c) (arg4 m c) (256 * t.val + i.val) j
  x : ∀ (i : Fin 256) (j : Fin 1024), r.2.2.2.1 (ix2 i j) = resX (proj m c) (arg1 m c) (mat m c) (bias m c) (arg4 m c) (arg5 m c) (arg6 m c) (256 * t.val + i.val) j
  h : ∀ (i : Fin 256) (j : Fin 1024), r.2.2.2.2.1 (ix2 i j) = resH (proj m c) (arg1 m c) (mat m c) (bias m c) (arg4 m c) (arg5 m c) (arg6 m c) (arg7 m c) (256 * t.val + i.val) j
  w : ∀ (g : Fin 2) (i : Fin 512) (j : Fin 256), r.2.2.1 (ix4 0 g i j) = resS (proj m c) (mat m c) (bias m c) t.val g i j
  s : Inv (proj m c) (mat m c) (bias m c) (t.val + 1) r.2.2.2.2.2

variable {m c}

theorem below (t : Fin cfg0.N) : t.val < 16 := lt_of_lt_of_eq t.isLt (show cfg0.N = 16 from N_0)

theorem pos_row (t : Fin cfg0.N) (i : Fin 256) : pos (256 * t.val + i.val) = row t i := pos_eq (row t i)

variable (H : Reals (proj m c) (mat m c)) {t : Fin cfg0.N} {P : Vec Ideal S2x512x256 .f32} (I : Inv (proj m c) (mat m c) (bias m c) t.val P)
include H I

theorem yBlock_apply (i : Fin 256) (j : Fin 1024) : yBlock m c t P (ix2 i j) = resY (proj m c) (arg1 m c) (mat m c) (bias m c) (arg4 m c) (256 * t.val + i.val) j := by
  obtain ⟨g, h, v, hj⟩ := lane j
  rw [resY_lane _ hj, yBlock, canon_cols _ g h i v j hj, iblk6_eq, iblk7_eq, V_main_arg1, V_main_arg4]
  exact y_at (tile m c H t) I (below t) g h i v

theorem pay126_at (i : Fin 256) (j : Fin 1024) : k0_pay126 (iblk m c 8 t) (yBlock m c t P) (iblk m c 9 t) (ix2 i j)
    = resX (proj m c) (arg1 m c) (mat m c) (bias m c) (arg4 m c) (arg5 m c) (arg6 m c) (256 * t.val + i.val) j := by
  rw [pay126_apply, resX, pos_row]
  refine congrArg₂ (· + · : EReal → EReal → EReal) ?_ (Finset.sum_congr rfl fun k _ => congrArg₂ (· * · : EReal → EReal → EReal) (yBlock_apply H I i k) ?_)
  · rw [iblk8_apply, V_main_arg6]
  · rw [iblk9_eq, V_v42]
    exact flat_out _ k j

omit H in
theorem saved_apply (g : Fin 2) (i : Fin 512) (j : Fin 256) : P (ix3 g i j) = resS (proj m c) (mat m c) (bias m c) t.val g i j := by
  have e := I g ⟨i.val / 128, by omega⟩ ⟨j.val / 64, by omega⟩ ⟨i.val % 128, by omega⟩ ⟨j.val % 64, by omega⟩
  simp only [Nat.div_add_mod, Fin.mk.injEq] at e
  exact e

theorem right {r : Vec Ideal S256x1024 .f32 × Vec Ideal S256x1024 .bf16 × Vec Ideal S1x2x512x256 .f32 × Vec Ideal S256x1024 .f32 × Vec Ideal S256x1024 .bf16 × Vec Ideal S2x512x256 .f32} (L : Leaves m c t P r) : Right m c t r where
  o i j := by
    obtain ⟨g, h, v, hj⟩ := lane j
    rw [L.o, resO_lane _ hj, canon_cols _ g h i v j hj]
    exact o_at (tile m c H t) I (below t) g h i v
  y i j := by rw [L.y]; exact yBlock_apply H I i j
  x i j := by rw [L.x2]; exact pay126_at H I i j
  h i j := by
    rw [L.h3, pay1_apply]
    simp only [pay126_at H I]
    rw [iblk10_eq, V_main_arg7]; rfl
  w g i j := by
    rw [L.w, canon_saved]
    match g with
    | 0 => exact (show k0_pay46 (half0 P) (ix4 0 0 i j) = half0 P (ix3 0 i j) from by pointwise! [k0_pay46, k0_pay45]).trans ((half_apply i j).1.trans (saved_apply I 0 i j))
    | 1 => exact (show k0_pay97 (half1 P) (ix4 0 0 i j) = half1 P (ix3 0 i j) from by pointwise! [k0_pay97, k0_pay96]).trans ((half_apply i j).2.trans (saved_apply I 1 i j))
  s g a h v l := by
    obtain ⟨K, hK⟩ := L.s
    rw [hK, canon_halves]
    exact s_at (tile m c H t) I g a h v l

omit H I in
theorem zero_states : Inv (proj m c) (mat m c) (bias m c) 0 (k0_pay2 (F := Ideal)) := fun g a h v l => by
  unfold Ops.state
  rw [Nat.mul_zero, Decay.state_zero]
  refine Eq.trans (show _ = ((0 : ℝ) : EReal) from by pointwise! [k0_pay2]) ?_
  split <;> rfl

omit I in
theorem right_first (h0 : t.val = 0) : Right m c t (outsAt0 m c t.val t.isLt) :=
  right H (by rw [h0]; exact zero_states) (leaves_A m c t (by rw [h0]))

omit I in
theorem right_next (h0 : t.val ≠ 0) (h : t.val - 1 < cfg0.N) (R : Right m c ⟨t.val - 1, h⟩ (outsAt0 m c (t.val - 1) h)) : Right m c t (outsAt0 m c t.val t.isLt) :=
  right H (by have e := R.s; dsimp only at e; rwa [Nat.sub_add_cancel (Nat.pos_of_ne_zero h0)] at e) (leaves_B m c t (by have := below t; omega))

omit I in
theorem all_right (n : ℕ) : ∀ hn : n < cfg0.N, Right m c ⟨n, hn⟩ (outsAt0 m c n hn) := by
  induction n with
  | zero => exact fun hn => right_first H (t := ⟨0, hn⟩) rfl
  | succ n ih => exact fun hn => right_next H (t := ⟨n + 1, hn⟩) (Nat.succ_ne_zero n) (Nat.lt_of_succ_lt hn) (ih (Nat.lt_of_succ_lt hn))

omit H I

theorem point (R : Fin 4096) : R.val / 256 < cfg0.N := by
  rw [show cfg0.N = 16 from N_0]; omega

theorem run_at (R : Fin 4096) (j : Fin 1024) : pt11Of (ix2 R j) = R.val / 256 := by
  show 1 * (R.val / 256 - 0) + 1 * (j.val / 1024 - 0) = _
  omega

theorem loc_at (R : Fin 4096) (j : Fin 1024) : loc11Of (ix2 R j) = ix2 ⟨R.val % 256, Nat.mod_lt _ (by norm_num)⟩ j :=
  funext fun a => Fin.ext (match a with
    | ⟨0, _⟩ => rfl
    | ⟨1, _⟩ => Nat.mod_eq_of_lt j.isLt)

theorem fold_at (R : Fin 4096) (j : Fin 1024) : pt11Of (ix2 R j) < cfg0.N ∧ ∀ h, Pipeline.accAt (fun n h => stAt0 m c n h junk0) (stAt0 m c) 0 (pt11Of (ix2 R j)) h = outsAt0 m c (R.val / 256) (point R) :=
  ⟨by rw [run_at]; exact point R, fun h => by
    rw [outsAt0_sweep]
    exact fold0_congr m c _ _ _ _ (run_at R j)⟩

theorem G11_at (R : Fin 4096) (j : Fin 1024) : G11 m c (ix2 R j) = (outsAt0 m c (R.val / 256) (point R)).1 (ix2 ⟨R.val % 256, Nat.mod_lt _ (by norm_num)⟩ j) := by
  unfold G11
  rw [dif_pos (fold_at (m := m) (c := c) R j).1, (fold_at R j).2]
  exact congrArg _ (loc_at R j)
theorem G12_at (R : Fin 4096) (j : Fin 1024) : G12 m c (ix2 R j) = (outsAt0 m c (R.val / 256) (point R)).2.1 (ix2 ⟨R.val % 256, Nat.mod_lt _ (by norm_num)⟩ j) := by
  unfold G12
  rw [dif_pos (fold_at (m := m) (c := c) R j).1, (fold_at R j).2]
  exact congrArg _ (loc_at R j)
theorem run_saved (t : Fin 16) (g : Fin 2) (i : Fin 512) (j : Fin 256) : pt13Of (ix4 t g i j) = t.val := by
  show 1 * (t.val / 1 - 0) + 1 * (g.val / 2 - 0) + 1 * (i.val / 512 - 0) + 1 * (j.val / 256 - 0) = _
  omega

theorem G13_at (t : Fin 16) (g : Fin 2) (i : Fin 512) (j : Fin 256) : G13 m c (ix4 t g i j) = (outsAt0 m c t.val (lt_of_lt_of_eq t.isLt N_0.symm)).2.2.1 (ix4 0 g i j) := by
  have hp := run_saved t g i j
  have hl : loc13Of (ix4 t g i j) = ix4 0 g i j := funext fun a => Fin.ext (match a with
    | ⟨0, _⟩ => Nat.mod_one _
    | ⟨1, _⟩ => Nat.mod_eq_of_lt g.isLt
    | ⟨2, _⟩ => Nat.mod_eq_of_lt i.isLt
    | ⟨3, _⟩ => Nat.mod_eq_of_lt j.isLt)
  unfold G13
  rw [dif_pos (show pt13Of (ix4 t g i j) < cfg0.N from by rw [hp]; exact lt_of_lt_of_eq t.isLt N_0.symm), outsAt0_sweep, hl]
  exact congrArg (fun r => r.2.2.1 (ix4 0 g i j)) (fold0_congr m c _ _ _ _ hp)
theorem G14_at (R : Fin 4096) (j : Fin 1024) : G14 m c (ix2 R j) = (outsAt0 m c (R.val / 256) (point R)).2.2.2.1 (ix2 ⟨R.val % 256, Nat.mod_lt _ (by norm_num)⟩ j) := by
  unfold G14
  rw [dif_pos (fold_at (m := m) (c := c) R j).1, (fold_at R j).2]
  exact congrArg _ (loc_at R j)
theorem G15_at (R : Fin 4096) (j : Fin 1024) : G15 m c (ix2 R j) = (outsAt0 m c (R.val / 256) (point R)).2.2.2.2.1 (ix2 ⟨R.val % 256, Nat.mod_lt _ (by norm_num)⟩ j) := by
  unfold G15
  rw [dif_pos (fold_at (m := m) (c := c) R j).1, (fold_at R j).2]
  exact congrArg _ (loc_at R j)

include H

theorem final_o (R : Fin 4096) (j : Fin 1024) : G11 m c (ix2 R j) = resO (proj m c) (mat m c) (bias m c) R.val j := by
  rw [G11_at, (all_right H _ (point R)).o]; dsimp only; rw [Nat.div_add_mod]
theorem final_y (R : Fin 4096) (j : Fin 1024) : G12 m c (ix2 R j) = resY (proj m c) (arg1 m c) (mat m c) (bias m c) (arg4 m c) R.val j := by
  rw [G12_at, (all_right H _ (point R)).y]; dsimp only; rw [Nat.div_add_mod]
theorem final_s (t : Fin 16) (g : Fin 2) (i : Fin 512) (j : Fin 256) : G13 m c (ix4 t g i j) = resS (proj m c) (mat m c) (bias m c) t.val g i j := by
  rw [G13_at, (all_right H _ (lt_of_lt_of_eq t.isLt N_0.symm)).w]
theorem final_x (R : Fin 4096) (j : Fin 1024) : G14 m c (ix2 R j) = resX (proj m c) (arg1 m c) (mat m c) (bias m c) (arg4 m c) (arg5 m c) (arg6 m c) R.val j := by
  rw [G14_at, (all_right H _ (point R)).x]; dsimp only; rw [Nat.div_add_mod]
theorem final_h (R : Fin 4096) (j : Fin 1024) : G15 m c (ix2 R j) = resH (proj m c) (arg1 m c) (mat m c) (bias m c) (arg4 m c) (arg5 m c) (arg6 m c) (arg7 m c) R.val j := by
  rw [G15_at, (all_right H _ (point R)).h]; dsimp only; rw [Nat.div_add_mod]

end Cert.AttnValue
-- ==== Proof.AttnRead.lean ====
/- The forward attention's reference runs to the end, and leaves what the kernel leaves. -/
module

public import proofs.«01_k».proof.Defs
public import proofs.«01_k».proof.Proof.AttnFinal
public import proofs.«01_k».proof.Proof.Gen.Pre_attn_args_finite
public import Idealize.ShloMosaic.Adequacy

@[expose] public section

set_option maxRecDepth 16384

noncomputable section

open Idealize.ShloMosaic Idealize.ShloMosaic.TcCoe Idealize.SL.Sem

namespace Cert.AttnRead

open Cert.Finite Cert.AttnOps Cert.AttnValue

/-- What the precondition says of the two tested arrays. -/
theorem reals {x0 x1 x2 x3 x4 x5 x6 x7} (h : Cert.Pre_attn_args_finite.fn (F := Ideal) x0 x1 x2 x3 x4 x5 x6 x7 = fun _ => 1#1) : Reals x0 x2 := by
  have : Subsingleton Cert.Pre_attn_args_finite.S_.Idx := ⟨fun a b => funext fun i => i.elim0⟩
  have h := congrFun h (fun a => a.elim0)
  unfold Cert.Pre_attn_args_finite.fn at h
  dsimp only at h
  obtain ⟨h0, h2⟩ := IntOp.andi_eq_one.mp h
  exact ⟨fun _ _ => all_real _ _ _ _ _ _ h0 _, fun _ _ => all_real _ _ _ _ _ _ h2 _⟩

/-- The reference leaves its arguments and every counter at zero. -/
theorem frame : Cert.quiescent_AttnRefIdeal := fun m ρ _ =>
  (θ_run Cert.AttnRefIdeal.defs _ _).mono (fun r h => ⟨fun c => (h c).2.2.2.2.2, sem_eq_zero_of_no_sems (by decide) r.2⟩)
    (Cert.AttnRefIdeal.Value.run (F := Ideal) m ρ)

/-- From the same arguments kernel and reference end with the same five results. -/
theorem algebraic : Cert.algebraic_AttnKernelIdeal_AttnRefIdeal_pre_attn_args_finite := fun m ρ m' ρ' hpre h =>
  ⟨AttnKernelIdeal.Value.G11 m, AttnKernelIdeal.Value.G12 m, AttnKernelIdeal.Value.G13 m, AttnKernelIdeal.Value.G14 m, AttnKernelIdeal.Value.G15 m,
    (θ_run Cert.AttnKernelIdeal.defs _ _).mono (fun r hr c => ⟨(hr c).1, (hr c).2.1, (hr c).2.2.1, (hr c).2.2.2.1, (hr c).2.2.2.2⟩) (AttnKernelIdeal.Value.run m ρ),
    (θ_run Cert.AttnRefIdeal.defs _ _).mono (fun r hr c => by
      obtain ⟨e0, e1, e2, e3, e4, e5, e6, e7⟩ := h c
      have H := reals (hpre c)
      have U := scan (a3 := m ((c.tc : Thread AttnKernelIdeal.nD AttnKernelIdeal.τ).loc AttnKernelIdeal.main_arg3)) H (AttnRun.it m' c) (by rw [← e0, ← e2, ← e3]; rfl) fun _ => rfl
      obtain ⟨ro, ry, rs, rx, rh, hk⟩ := hr c
      refine ⟨ro.trans ?_, ry.trans ?_, rs.trans ?_, rx.trans ?_, rh.trans ?_, hk⟩
      · funext i
        idx_vars i
        exact (ref_o U _ _).trans (final_o H _ _).symm
      · rw [e0, e1, e4]
        funext i
        idx_vars i
        exact (ref_y H U _ _).trans (final_y H _ _).symm
      · funext i
        idx_vars i
        exact (ref_s U _ _ _ _).trans (final_s H _ _ _ _).symm
      · rw [e0, e1, e4, e5, e6]
        funext i
        idx_vars i
        exact (ref_x H U _ _).trans (final_x H _ _).symm
      · rw [e0, e1, e4, e5, e6, e7]
        funext i
        idx_vars i
        exact (ref_h H U _ _).trans (final_h H _ _).symm) (AttnRun.run m' ρ')⟩

end Cert.AttnRead
end
-- ==== Proof.lean ====
/- The claims about the training step's calls, put together. -/
module

public import proofs.«01_k».proof.Defs
public import proofs.«01_k».proof.Proof.Gen.Pre_gate_args_finite
public import proofs.«01_k».proof.Proof.Gen.GateKernel.Frame
public import proofs.«01_k».proof.Proof.GateRead
public import proofs.«01_k».proof.Proof.Gen.GateRefIdeal.Run
public import proofs.«01_k».proof.Proof.Gen.GateRefIdeal.Read
public import proofs.«01_k».proof.Proof.Gen.SplitKernel.Frame
public import proofs.«01_k».proof.Proof.SplitRead
public import proofs.«01_k».proof.Proof.Gen.DhKernel.Frame
public import proofs.«01_k».proof.Proof.DhRead
public import proofs.«01_k».proof.Proof.Gen.DhKernelIdeal.Value
public import proofs.«01_k».proof.Proof.Gen.DhRefIdeal.Run
public import proofs.«01_k».proof.Proof.Gen.DhRefIdeal.Read
public import proofs.«01_k».proof.Proof.Gen.MixKernel.Frame
public import proofs.«01_k».proof.Proof.MixRead
public import proofs.«01_k».proof.Proof.Gen.MixKernelIdeal.Value
public import proofs.«01_k».proof.Proof.Gen.MixRefIdeal.Run
public import proofs.«01_k».proof.Proof.Gen.MixRefIdeal.Read
public import proofs.«01_k».proof.Proof.Gen.LossKernel.Frame
public import proofs.«01_k».proof.Proof.LossRead
public import proofs.«01_k».proof.Proof.Gen.LossKernelIdeal.Value
public import proofs.«01_k».proof.Proof.Gen.LossRefIdeal.Run
public import proofs.«01_k».proof.Proof.Gen.LossRefIdeal.Read
public import proofs.«01_k».proof.Proof.Gen.NormKernel.Frame
public import proofs.«01_k».proof.Proof.NormRead
public import proofs.«01_k».proof.Proof.Gen.NormKernelIdeal.Value
public import proofs.«01_k».proof.Proof.Gen.NormRefIdeal.Run
public import proofs.«01_k».proof.Proof.Gen.NormRefIdeal.Read
public import proofs.«01_k».proof.Proof.Gen.DownKernel.Frame
public import proofs.«01_k».proof.Proof.DownRead
public import proofs.«01_k».proof.Proof.Gen.DownKernelIdeal.Value
public import proofs.«01_k».proof.Proof.Gen.DownRefIdeal.Run
public import proofs.«01_k».proof.Proof.Gen.DownRefIdeal.Read
public import proofs.«01_k».proof.Proof.Gen.ProjKernel.Frame
public import proofs.«01_k».proof.Proof.ProjRead
public import proofs.«01_k».proof.Proof.Gen.ProjKernelIdeal.Value
public import proofs.«01_k».proof.Proof.Gen.ProjRefIdeal.Run
public import proofs.«01_k».proof.Proof.Gen.ProjRefIdeal.Read
public import proofs.«01_k».proof.Proof.Gen.DwinKernel.Frame
public import proofs.«01_k».proof.Proof.DwinRead
public import proofs.«01_k».proof.Proof.Gen.DwinKernelIdeal.Value
public import proofs.«01_k».proof.Proof.Gen.DwinRefIdeal.Run
public import proofs.«01_k».proof.Proof.Gen.DwinRefIdeal.Read
public import proofs.«01_k».proof.Proof.Gen.AdamKernel.Frame
public import proofs.«01_k».proof.Proof.AdamRead
public import proofs.«01_k».proof.Proof.Gen.AdamKernelIdeal.Value
public import proofs.«01_k».proof.Proof.Gen.AdamRefIdeal.Run
public import proofs.«01_k».proof.Proof.Gen.AdamRefIdeal.Read
public import proofs.«01_k».proof.Proof.Gen.SmallKernel.Frame
public import proofs.«01_k».proof.Proof.SmallRead
public import proofs.«01_k».proof.Proof.Gen.SmallKernelIdeal.Value
public import proofs.«01_k».proof.Proof.Gen.SmallRefIdeal.Run
public import proofs.«01_k».proof.Proof.Gen.SmallRefIdeal.Read
public import proofs.«01_k».proof.Proof.Gen.OwnerKernel.Frame
public import proofs.«01_k».proof.Proof.Gen.OwnerKernelIdeal.Frame
public import proofs.«01_k».proof.Proof.OwnerRead
public import proofs.«01_k».proof.Proof.Gen.OwnerRefIdeal.Run
public import proofs.«01_k».proof.Proof.Gen.OwnerRefIdeal.Read
public import proofs.«01_k».proof.Proof.Gen.Pre_owner_in_range
public import proofs.«01_k».proof.Proof.Gen.Pre_attn_args_finite
public import proofs.«01_k».proof.Proof.Gen.AttnKernel.Frame
public import proofs.«01_k».proof.Proof.Gen.AttnKernelIdeal.Value
public import proofs.«01_k».proof.Proof.Gen.AttnRefIdeal.Run
public import proofs.«01_k».proof.Proof.Gen.AttnRefIdeal.Step
public import proofs.«01_k».proof.Proof.AttnRead
public import proofs.«01_k».proof.Proof.Gen.BwdKernel.Frame
public import proofs.«01_k».proof.Proof.Gen.BwdKernelIdeal.Frame

@[expose] public section

noncomputable section

namespace Cert.Proof

open Idealize.ShloMosaic Idealize.SL.Sem

/-- Every claim of the certificate. -/
theorem claim : Cert.Claim := ⟨Cert.GateKernel.Gen.facts, Cert.GateKernelIdeal.Gen.facts, Cert.GateRefIdeal.Gen.facts, Cert.SplitKernel.Gen.facts, Cert.SplitKernelIdeal.Gen.facts, Cert.DhKernel.Gen.facts, Cert.DhKernelIdeal.Gen.facts, Cert.DhRefIdeal.Gen.facts, Cert.MixKernel.Gen.facts, Cert.MixKernelIdeal.Gen.facts, Cert.MixRefIdeal.Gen.facts, Cert.LossKernel.Gen.facts, Cert.LossKernelIdeal.Gen.facts, Cert.LossRefIdeal.Gen.facts, Cert.NormKernel.Gen.facts, Cert.NormKernelIdeal.Gen.facts, Cert.NormRefIdeal.Gen.facts, Cert.DownKernel.Gen.facts, Cert.DownKernelIdeal.Gen.facts, Cert.DownRefIdeal.Gen.facts, Cert.ProjKernel.Gen.facts, Cert.ProjKernelIdeal.Gen.facts, Cert.ProjRefIdeal.Gen.facts, Cert.DwinKernel.Gen.facts, Cert.DwinKernelIdeal.Gen.facts, Cert.DwinRefIdeal.Gen.facts, Cert.AdamKernel.Gen.facts, Cert.AdamKernelIdeal.Gen.facts, Cert.AdamRefIdeal.Gen.facts, Cert.SmallKernel.Gen.facts, Cert.SmallKernelIdeal.Gen.facts, Cert.SmallRefIdeal.Gen.facts, Cert.OwnerKernel.Gen.facts, Cert.OwnerKernelIdeal.Gen.facts, Cert.OwnerRefIdeal.Gen.facts, Cert.AttnKernel.Gen.facts, Cert.AttnKernelIdeal.Gen.facts, Cert.AttnRefIdeal.Gen.facts, Cert.BwdKernel.Gen.facts, Cert.BwdKernelIdeal.Gen.facts, Cert.Pre_gate_args_finite.Gen.facts, Cert.Pre_owner_in_range.Gen.facts, Cert.Pre_attn_args_finite.Gen.facts,
  fun m ρ _ => Cert.GateKernel.Gen.frame m ρ, fun m ρ _ => Cert.GateKernelIdeal.Gen.frame m ρ, fun m ρ _ => Cert.GateKernelIdeal.Gen.frame m ρ, Cert.GateRead.frame, fun m ρ _ => Cert.GateRead.frame m ρ trivial,
  fun m ρ _ => Cert.SplitKernel.Gen.frame m ρ, fun m ρ _ => Cert.SplitKernelIdeal.Gen.frame m ρ, fun m ρ _ => Cert.SplitKernelIdeal.Gen.frame m ρ,
  fun m ρ _ => Cert.DhKernel.Gen.frame m ρ, fun m ρ _ => Cert.DhKernelIdeal.Gen.frame m ρ, Cert.DhRead.frame,
  fun m ρ _ => Cert.MixKernel.Gen.frame m ρ, fun m ρ _ => Cert.MixKernelIdeal.Gen.frame m ρ, Cert.MixRead.frame,
  fun m ρ _ => Cert.LossKernel.Gen.frame m ρ, fun m ρ _ => Cert.LossKernelIdeal.Gen.frame m ρ, Cert.LossRead.frame,
  fun m ρ _ => Cert.NormKernel.Gen.frame m ρ, fun m ρ _ => Cert.NormKernelIdeal.Gen.frame m ρ, Cert.NormRead.frame,
  fun m ρ _ => Cert.DownKernel.Gen.frame m ρ, fun m ρ _ => Cert.DownKernelIdeal.Gen.frame m ρ, Cert.DownRead.frame,
  fun m ρ _ => Cert.ProjKernel.Gen.frame m ρ, fun m ρ _ => Cert.ProjKernelIdeal.Gen.frame m ρ, Cert.ProjRead.frame,
  fun m ρ _ => Cert.DwinKernel.Gen.frame m ρ, fun m ρ _ => Cert.DwinKernelIdeal.Gen.frame m ρ, Cert.DwinRead.frame,
  fun m ρ _ => Cert.AdamKernel.Gen.frame m ρ, fun m ρ _ => Cert.AdamKernelIdeal.Gen.frame m ρ, Cert.AdamRead.frame,
  fun m ρ _ => Cert.SmallKernel.Gen.frame m ρ, fun m ρ _ => Cert.SmallKernelIdeal.Gen.frame m ρ, Cert.SmallRead.frame,
  fun m ρ h => Cert.OwnerKernel.Gen.frame m ρ (Cert.OwnerFits.ok_bits m (Cert.OwnerFits.inside (h 0))),
  fun m ρ h => Cert.OwnerKernelIdeal.Gen.frame m ρ (Cert.OwnerFits.ok_ideal m (Cert.OwnerFits.inside (h 0))),
  Cert.OwnerRead.frame, fun m ρ _ => Cert.OwnerRead.frame m ρ trivial,
  fun m ρ _ => Cert.AttnKernel.Gen.frame m ρ, fun m ρ _ => Cert.AttnKernelIdeal.Gen.frame m ρ, fun m ρ _ => Cert.AttnKernelIdeal.Gen.frame m ρ, Cert.AttnRead.frame, fun m ρ _ => Cert.AttnRead.frame m ρ trivial,
  fun m ρ _ => Cert.BwdKernel.Gen.frame m ρ, fun m ρ _ => Cert.BwdKernelIdeal.Gen.frame m ρ,
  trivial, Cert.GateRead.algebraic, trivial, Cert.SplitRead.algebraic, trivial, Cert.DhRead.algebraic, trivial, Cert.MixRead.algebraic, trivial, Cert.LossRead.algebraic, trivial, Cert.NormRead.algebraic, trivial, Cert.DownRead.algebraic, trivial, Cert.ProjRead.algebraic, trivial, Cert.DwinRead.algebraic, trivial, Cert.AdamRead.algebraic, trivial, Cert.SmallRead.algebraic, trivial, Cert.OwnerRead.algebraic, trivial, Cert.AttnRead.algebraic, trivial⟩

end Cert.Proof

end
